-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite2 [hPre_finite2 : Cert.Pre_finite2.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite2.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite2 [hPre_finite2 : Cert.Pre_finite2.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite2.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite2 [hKernel3Ideal : Cert.Kernel3Ideal.Facts] [hPre_finite2 : Cert.Pre_finite2.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite2 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite2 [hReference3Ideal : Cert.Reference3Ideal.Facts] [hPre_finite2 : Cert.Pre_finite2.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite2 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v98_0)) (v1 : (c : Dev Cert.Kernel2Ideal.nD) → Buf (Elt Ideal) ((c.tc : Thread Cert.Kernel2Ideal.nD Cert.Kernel2Ideal.τ).loc Cert.Kernel2Ideal.main_v98_1)) (v2 : (c : Dev Cert.Kernel2Ideal.nD) → Buf (Elt Ideal) ((c.tc : Thread Cert.Kernel2Ideal.nD Cert.Kernel2Ideal.τ).loc Cert.Kernel2Ideal.main_v98_2)) (v3 : (c : Dev Cert.Kernel2Ideal.nD) → Buf (Elt Ideal) ((c.tc : Thread Cert.Kernel2Ideal.nD Cert.Kernel2Ideal.τ).loc Cert.Kernel2Ideal.main_v98_3)) (v4 : (c : Dev Cert.Kernel2Ideal.nD) → Buf (Elt Ideal) ((c.tc : Thread Cert.Kernel2Ideal.nD Cert.Kernel2Ideal.τ).loc Cert.Kernel2Ideal.main_v98_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v98_0) = v0 c
          ∧ r.2.mem ((c.tc : Thread Cert.Kernel2Ideal.nD Cert.Kernel2Ideal.τ).loc Cert.Kernel2Ideal.main_v98_1) = v1 c
          ∧ r.2.mem ((c.tc : Thread Cert.Kernel2Ideal.nD Cert.Kernel2Ideal.τ).loc Cert.Kernel2Ideal.main_v98_2) = v2 c
          ∧ r.2.mem ((c.tc : Thread Cert.Kernel2Ideal.nD Cert.Kernel2Ideal.τ).loc Cert.Kernel2Ideal.main_v98_3) = v3 c
          ∧ r.2.mem ((c.tc : Thread Cert.Kernel2Ideal.nD Cert.Kernel2Ideal.τ).loc Cert.Kernel2Ideal.main_v98_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v221) = v0 c
          ∧ r.2.mem ((c.tc : Thread Cert.Reference2Ideal.nD Cert.Reference2Ideal.τ).loc Cert.Reference2Ideal.main_v222) = v1 c
          ∧ r.2.mem ((c.tc : Thread Cert.Reference2Ideal.nD Cert.Reference2Ideal.τ).loc Cert.Reference2Ideal.main_v226) = v2 c
          ∧ r.2.mem ((c.tc : Thread Cert.Reference2Ideal.nD Cert.Reference2Ideal.τ).loc Cert.Reference2Ideal.main_v127) = v3 c
          ∧ r.2.mem ((c.tc : Thread Cert.Reference2Ideal.nD Cert.Reference2Ideal.τ).loc Cert.Reference2Ideal.main_v229) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite2 [hKernel3Ideal : Cert.Kernel3Ideal.Facts] [hReference3Ideal : Cert.Reference3Ideal.Facts] [hPre_finite2 : Cert.Pre_finite2.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite2 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v103_0)) (v1 : (c : Dev Cert.Kernel3Ideal.nD) → Buf (Elt Ideal) ((c.tc : Thread Cert.Kernel3Ideal.nD Cert.Kernel3Ideal.τ).loc Cert.Kernel3Ideal.main_v103_1)) (v2 : (c : Dev Cert.Kernel3Ideal.nD) → Buf (Elt Ideal) ((c.tc : Thread Cert.Kernel3Ideal.nD Cert.Kernel3Ideal.τ).loc Cert.Kernel3Ideal.main_v103_2)) (v3 : (c : Dev Cert.Kernel3Ideal.nD) → Buf (Elt Ideal) ((c.tc : Thread Cert.Kernel3Ideal.nD Cert.Kernel3Ideal.τ).loc Cert.Kernel3Ideal.main_v103_3)) (v4 : (c : Dev Cert.Kernel3Ideal.nD) → Buf (Elt Ideal) ((c.tc : Thread Cert.Kernel3Ideal.nD Cert.Kernel3Ideal.τ).loc Cert.Kernel3Ideal.main_v103_4)) (v5 : (c : Dev Cert.Kernel3Ideal.nD) → Buf (Elt Ideal) ((c.tc : Thread Cert.Kernel3Ideal.nD Cert.Kernel3Ideal.τ).loc Cert.Kernel3Ideal.main_v103_5)) (v6 : (c : Dev Cert.Kernel3Ideal.nD) → Buf (Elt Ideal) ((c.tc : Thread Cert.Kernel3Ideal.nD Cert.Kernel3Ideal.τ).loc Cert.Kernel3Ideal.main_v103_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v103_0) = v0 c
          ∧ r.2.mem ((c.tc : Thread Cert.Kernel3Ideal.nD Cert.Kernel3Ideal.τ).loc Cert.Kernel3Ideal.main_v103_1) = v1 c
          ∧ r.2.mem ((c.tc : Thread Cert.Kernel3Ideal.nD Cert.Kernel3Ideal.τ).loc Cert.Kernel3Ideal.main_v103_2) = v2 c
          ∧ r.2.mem ((c.tc : Thread Cert.Kernel3Ideal.nD Cert.Kernel3Ideal.τ).loc Cert.Kernel3Ideal.main_v103_3) = v3 c
          ∧ r.2.mem ((c.tc : Thread Cert.Kernel3Ideal.nD Cert.Kernel3Ideal.τ).loc Cert.Kernel3Ideal.main_v103_4) = v4 c
          ∧ r.2.mem ((c.tc : Thread Cert.Kernel3Ideal.nD Cert.Kernel3Ideal.τ).loc Cert.Kernel3Ideal.main_v103_5) = v5 c
          ∧ r.2.mem ((c.tc : Thread Cert.Kernel3Ideal.nD Cert.Kernel3Ideal.τ).loc Cert.Kernel3Ideal.main_v103_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v221) = v0 c
          ∧ r.2.mem ((c.tc : Thread Cert.Reference3Ideal.nD Cert.Reference3Ideal.τ).loc Cert.Reference3Ideal.main_v222) = v1 c
          ∧ r.2.mem ((c.tc : Thread Cert.Reference3Ideal.nD Cert.Reference3Ideal.τ).loc Cert.Reference3Ideal.main_v226) = v2 c
          ∧ r.2.mem ((c.tc : Thread Cert.Reference3Ideal.nD Cert.Reference3Ideal.τ).loc Cert.Reference3Ideal.main_v127) = v3 c
          ∧ r.2.mem ((c.tc : Thread Cert.Reference3Ideal.nD Cert.Reference3Ideal.τ).loc Cert.Reference3Ideal.main_v229) = v4 c
          ∧ r.2.mem ((c.tc : Thread Cert.Reference3Ideal.nD Cert.Reference3Ideal.τ).loc Cert.Reference3Ideal.main_v230) = v5 c
          ∧ r.2.mem ((c.tc : Thread Cert.Reference3Ideal.nD Cert.Reference3Ideal.τ).loc Cert.Reference3Ideal.main_v232) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v71_0)) (v1 : (c : Dev Cert.Kernel4Ideal.nD) → Buf (Elt Ideal) ((c.tc : Thread Cert.Kernel4Ideal.nD Cert.Kernel4Ideal.τ).loc Cert.Kernel4Ideal.main_v71_1)) (v2 : (c : Dev Cert.Kernel4Ideal.nD) → Buf (Elt Ideal) ((c.tc : Thread Cert.Kernel4Ideal.nD Cert.Kernel4Ideal.τ).loc Cert.Kernel4Ideal.main_v71_2)) (v3 : (c : Dev Cert.Kernel4Ideal.nD) → Buf (Elt Ideal) ((c.tc : Thread Cert.Kernel4Ideal.nD Cert.Kernel4Ideal.τ).loc Cert.Kernel4Ideal.main_v71_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v71_0) = v0 c
          ∧ r.2.mem ((c.tc : Thread Cert.Kernel4Ideal.nD Cert.Kernel4Ideal.τ).loc Cert.Kernel4Ideal.main_v71_1) = v1 c
          ∧ r.2.mem ((c.tc : Thread Cert.Kernel4Ideal.nD Cert.Kernel4Ideal.τ).loc Cert.Kernel4Ideal.main_v71_2) = v2 c
          ∧ r.2.mem ((c.tc : Thread Cert.Kernel4Ideal.nD Cert.Kernel4Ideal.τ).loc Cert.Kernel4Ideal.main_v71_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v108) = v0 c
          ∧ r.2.mem ((c.tc : Thread Cert.Reference4Ideal.nD Cert.Reference4Ideal.τ).loc Cert.Reference4Ideal.main_v111) = v1 c
          ∧ r.2.mem ((c.tc : Thread Cert.Reference4Ideal.nD Cert.Reference4Ideal.τ).loc Cert.Reference4Ideal.main_v112) = v2 c
          ∧ r.2.mem ((c.tc : Thread Cert.Reference4Ideal.nD Cert.Reference4Ideal.τ).loc Cert.Reference4Ideal.main_v114) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)) (v4 : (c : Dev Cert.Kernel5Ideal.nD) → Buf (Elt Ideal) ((c.tc : Thread Cert.Kernel5Ideal.nD Cert.Kernel5Ideal.τ).loc Cert.Kernel5Ideal.main_v12_4)) (v5 : (c : Dev Cert.Kernel5Ideal.nD) → Buf (Elt Ideal) ((c.tc : Thread Cert.Kernel5Ideal.nD Cert.Kernel5Ideal.τ).loc Cert.Kernel5Ideal.main_v12_5)) (v6 : (c : Dev Cert.Kernel5Ideal.nD) → Buf (Elt Ideal) ((c.tc : Thread Cert.Kernel5Ideal.nD Cert.Kernel5Ideal.τ).loc Cert.Kernel5Ideal.main_v12_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_v12_4) = v4 c
          ∧ r.2.mem ((c.tc : Thread Cert.Kernel5Ideal.nD Cert.Kernel5Ideal.τ).loc Cert.Kernel5Ideal.main_v12_5) = v5 c
          ∧ r.2.mem ((c.tc : Thread Cert.Kernel5Ideal.nD Cert.Kernel5Ideal.τ).loc Cert.Kernel5Ideal.main_v12_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v99) = v0 c
          ∧ r.2.mem ((c.tc : Thread Cert.Reference5Ideal.nD Cert.Reference5Ideal.τ).loc Cert.Reference5Ideal.main_v102) = v1 c
          ∧ r.2.mem ((c.tc : Thread Cert.Reference5Ideal.nD Cert.Reference5Ideal.τ).loc Cert.Reference5Ideal.main_v106) = v2 c
          ∧ r.2.mem ((c.tc : Thread Cert.Reference5Ideal.nD Cert.Reference5Ideal.τ).loc Cert.Reference5Ideal.main_v109) = v3 c
          ∧ r.2.mem ((c.tc : Thread Cert.Reference5Ideal.nD Cert.Reference5Ideal.τ).loc Cert.Reference5Ideal.main_v110) = v4 c
          ∧ r.2.mem ((c.tc : Thread Cert.Reference5Ideal.nD Cert.Reference5Ideal.τ).loc Cert.Reference5Ideal.main_v112) = v5 c
          ∧ r.2.mem ((c.tc : Thread Cert.Reference5Ideal.nD Cert.Reference5Ideal.τ).loc Cert.Reference5Ideal.main_v113) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)) (v3 : (c : Dev Cert.Kernel6Ideal.nD) → Buf (Elt Ideal) ((c.tc : Thread Cert.Kernel6Ideal.nD Cert.Kernel6Ideal.τ).loc Cert.Kernel6Ideal.main_v12_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_v12_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v99) = v0 c
          ∧ r.2.mem ((c.tc : Thread Cert.Reference6Ideal.nD Cert.Reference6Ideal.τ).loc Cert.Reference6Ideal.main_v101) = v1 c
          ∧ r.2.mem ((c.tc : Thread Cert.Reference6Ideal.nD Cert.Reference6Ideal.τ).loc Cert.Reference6Ideal.main_v102) = v2 c
          ∧ r.2.mem ((c.tc : Thread Cert.Reference6Ideal.nD Cert.Reference6Ideal.τ).loc Cert.Reference6Ideal.main_v104) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v10_0)) (v1 : (c : Dev Cert.Kernel7Ideal.nD) → Buf (Elt Ideal) ((c.tc : Thread Cert.Kernel7Ideal.nD Cert.Kernel7Ideal.τ).loc Cert.Kernel7Ideal.main_v10_1)) (v2 : (c : Dev Cert.Kernel7Ideal.nD) → Buf (Elt Ideal) ((c.tc : Thread Cert.Kernel7Ideal.nD Cert.Kernel7Ideal.τ).loc Cert.Kernel7Ideal.main_v10_2)) (v3 : (c : Dev Cert.Kernel7Ideal.nD) → Buf (Elt Ideal) ((c.tc : Thread Cert.Kernel7Ideal.nD Cert.Kernel7Ideal.τ).loc Cert.Kernel7Ideal.main_v10_3)) (v4 : (c : Dev Cert.Kernel7Ideal.nD) → Buf (Elt Ideal) ((c.tc : Thread Cert.Kernel7Ideal.nD Cert.Kernel7Ideal.τ).loc Cert.Kernel7Ideal.main_v10_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_v10_1) = v1 c
          ∧ r.2.mem ((c.tc : Thread Cert.Kernel7Ideal.nD Cert.Kernel7Ideal.τ).loc Cert.Kernel7Ideal.main_v10_2) = v2 c
          ∧ r.2.mem ((c.tc : Thread Cert.Kernel7Ideal.nD Cert.Kernel7Ideal.τ).loc Cert.Kernel7Ideal.main_v10_3) = v3 c
          ∧ r.2.mem ((c.tc : Thread Cert.Kernel7Ideal.nD Cert.Kernel7Ideal.τ).loc Cert.Kernel7Ideal.main_v10_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_v51) = v1 c
          ∧ r.2.mem ((c.tc : Thread Cert.Reference7Ideal.nD Cert.Reference7Ideal.τ).loc Cert.Reference7Ideal.main_v55) = v2 c
          ∧ r.2.mem ((c.tc : Thread Cert.Reference7Ideal.nD Cert.Reference7Ideal.τ).loc Cert.Reference7Ideal.main_v58) = v3 c
          ∧ r.2.mem ((c.tc : Thread Cert.Reference7Ideal.nD Cert.Reference7Ideal.τ).loc Cert.Reference7Ideal.main_v59) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v17)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite4 : Cert.Pre_finite4.Facts) (hPre_finite5 : Cert.Pre_finite5.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite2 (hKernel3Ideal := hKernel3Ideal) (hPre_finite2 := hPre_finite2)
    ∧ quiescent_Reference3Ideal (hReference3Ideal := hReference3Ideal)
    ∧ quiescent_Reference3Ideal_pre_finite2 (hReference3Ideal := hReference3Ideal) (hPre_finite2 := hPre_finite2)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite2 (hKernel3Ideal := hKernel3Ideal) (hReference3Ideal := hReference3Ideal) (hPre_finite2 := hPre_finite2)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4x2048x1024 : Shape := ⟨3, ![4, 2048, 1024]⟩
abbrev S1024 : Shape := ⟨1, ![1024]⟩
abbrev S1024x7168 : Shape := ⟨2, ![1024, 7168]⟩
abbrev S4x2048x7168 : Shape := ⟨3, ![4, 2048, 7168]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x7168 : S_.BroadcastsInDim S1024x7168 (![] : Fin 0 → Fin S1024x7168.rank)
  reducesTo_S1024x7168_S_d0_1 : S1024x7168.ReducesTo [0, 1] S_
  bcast_S_S4x2048x7168 : S_.BroadcastsInDim S4x2048x7168 (![] : Fin 0 → Fin S4x2048x7168.rank)
  reducesTo_S4x2048x7168_S_d0_1_2 : S4x2048x7168.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4x2048x1024 .f32) (main_arg1 : FVec F S1024 .f32) (main_arg2 : FVec F S1024x7168 .f32) (main_arg3 : FVec F S4x2048x7168 .f32) (main_arg4 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x7168 .f32 := Host.absf main_arg2
  let main_cst_2 : FVec F S_ .f32 := constant S_ .f32 0x7F800000#32
  let main_v9 : FVec F S1024x7168 .f32 := broadcastInDim S1024x7168 ![] bcast_S_S1024x7168 main_cst_2
  let main_v10 : IVec S1024x7168 1 := cmpf .olt main_v8 main_v9
  let main_c_3 : IVec S_ 1 := constantI S_ 1 1#1
  let main_v11 : IVec S_ 1 := (fun x v => Host.reduce IntOp.andi x v reducesTo_S1024x7168_S_d0_1 h_S_) main_v10 main_c_3
  let main_v12 : FVec F S4x2048x7168 .f32 := Host.absf main_arg3
  let main_cst_4 : FVec F S_ .f32 := constant S_ .f32 0x7F800000#32
  let main_v13 : FVec F S4x2048x7168 .f32 := broadcastInDim S4x2048x7168 ![] bcast_S_S4x2048x7168 main_cst_4
  let main_v14 : IVec S4x2048x7168 1 := cmpf .olt main_v12 main_v13
  let main_c_5 : IVec S_ 1 := constantI S_ 1 1#1
  let main_v15 : IVec S_ 1 := (fun x v => Host.reduce IntOp.andi x v reducesTo_S4x2048x7168_S_d0_1_2 h_S_) main_v14 main_c_5
  fn_part1 (F := F) main_v3 main_v7 main_v11 main_v15
-- ==== Pre_finite2.lean ====
abbrev S4x2048x1024 : Shape := ⟨3, ![4, 2048, 1024]⟩
abbrev S1024 : Shape := ⟨1, ![1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x7168 : S_.BroadcastsInDim S1024x7168 (![] : Fin 0 → Fin S1024x7168.rank)
  reducesTo_S1024x7168_S_d0_1 : S1024x7168.ReducesTo [0, 1] S_
  bcast_S_S3x1024 : S_.BroadcastsInDim S3x1024 (![] : Fin 0 → Fin S3x1024.rank)
  reducesTo_S3x1024_S_d0_1 : S3x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg8 : FVec F S1024x1024 .f32) (main_arg9 : FVec F S4x2048x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024x1024 .f32 := Host.absf main_arg8
  let main_cst_14 : FVec F S_ .f32 := constant S_ .f32 0x7F800000#32
  let main_v33 : FVec F S1024x1024 .f32 := broadcastInDim S1024x1024 ![] bcast_S_S1024x1024 main_cst_14
  let main_v34 : IVec S1024x1024 1 := cmpf .olt main_v32 main_v33
  let main_c_15 : IVec S_ 1 := constantI S_ 1 1#1
  let main_v35 : IVec S_ 1 := (fun x v => Host.reduce IntOp.andi x v reducesTo_S1024x1024_S_d0_1 h_S_) main_v34 main_c_15
  let main_v36 : FVec F S4x2048x1024 .f32 := Host.absf main_arg9
  let main_cst_16 : FVec F S_ .f32 := constant S_ .f32 0x7F800000#32
  let main_v37 : FVec F S4x2048x1024 .f32 := broadcastInDim S4x2048x1024 ![] bcast_S_S4x2048x1024 main_cst_16
  let main_v38 : IVec S4x2048x1024 1 := cmpf .olt main_v36 main_v37
  let main_c_17 : IVec S_ 1 := constantI S_ 1 1#1
  let main_v39 : IVec S_ 1 := (fun x v => Host.reduce IntOp.andi x v reducesTo_S4x2048x1024_S_d0_1_2 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S1024 .f32) (main_arg5 : FVec F S1024 .f32) (main_arg6 : FVec F S8x128x128 .f32) (main_arg7 : FVec F S8x128 .f32) (main_arg8 : FVec F S1024x1024 .f32) (main_arg9 : FVec F S4x2048x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S8x128x128 .f32 := Host.absf main_arg6
  let main_cst_10 : FVec F S_ .f32 := constant S_ .f32 0x7F800000#32
  let main_v25 : FVec F S8x128x128 .f32 := broadcastInDim S8x128x128 ![] bcast_S_S8x128x128 main_cst_10
  let main_v26 : IVec S8x128x128 1 := cmpf .olt main_v24 main_v25
  let main_c_11 : IVec S_ 1 := constantI S_ 1 1#1
  let main_v27 : IVec S_ 1 := (fun x v => Host.reduce IntOp.andi x v reducesTo_S8x128x128_S_d0_1_2 h_S_) main_v26 main_c_11
  let main_v28 : FVec F S8x128 .f32 := Host.absf main_arg7
  let main_cst_12 : FVec F S_ .f32 := constant S_ .f32 0x7F800000#32
  let main_v29 : FVec F S8x128 .f32 := broadcastInDim S8x128 ![] bcast_S_S8x128 main_cst_12
  let main_v30 : IVec S8x128 1 := cmpf .olt main_v28 main_v29
  let main_c_13 : IVec S_ 1 := constantI S_ 1 1#1
  let main_v31 : IVec S_ 1 := (fun x v => Host.reduce IntOp.andi x v reducesTo_S8x128_S_d0_1 h_S_) main_v30 main_c_13
  fn_part2 (F := F) main_arg8 main_arg9 main_v3 main_v7 main_v11 main_v15 main_v19 main_v23 main_v27 main_v31

def fn {F : FTy → Type} [FloatOps F] (main_arg0 : FVec F S4x2048x1024 .f32) (main_arg1 : FVec F S1024 .f32) (main_arg2 : FVec F S1024x7168 .f32) (main_arg3 : FVec F S3x1024 .f32) (main_arg4 : FVec F S1024 .f32) (main_arg5 : FVec F S1024 .f32) (main_arg6 : FVec F S8x128x128 .f32) (main_arg7 : FVec F S8x128 .f32) (main_arg8 : FVec F S1024x1024 .f32) (main_arg9 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x7168 .f32 := Host.absf main_arg2
  let main_cst_2 : FVec F S_ .f32 := constant S_ .f32 0x7F800000#32
  let main_v9 : FVec F S1024x7168 .f32 := broadcastInDim S1024x7168 ![] bcast_S_S1024x7168 main_cst_2
  let main_v10 : IVec S1024x7168 1 := cmpf .olt main_v8 main_v9
  let main_c_3 : IVec S_ 1 := constantI S_ 1 1#1
  let main_v11 : IVec S_ 1 := (fun x v => Host.reduce IntOp.andi x v reducesTo_S1024x7168_S_d0_1 h_S_) main_v10 main_c_3
  let main_v12 : FVec F S3x1024 .f32 := Host.absf main_arg3
  let main_cst_4 : FVec F S_ .f32 := constant S_ .f32 0x7F800000#32
  let main_v13 : FVec F S3x1024 .f32 := broadcastInDim S3x1024 ![] bcast_S_S3x1024 main_cst_4
  let main_v14 : IVec S3x1024 1 := cmpf .olt main_v12 main_v13
  let main_c_5 : IVec S_ 1 := constantI S_ 1 1#1
  let main_v15 : IVec S_ 1 := (fun x v => Host.reduce IntOp.andi x v reducesTo_S3x1024_S_d0_1 h_S_) main_v14 main_c_5
  fn_part1 (F := F) main_arg4 main_arg5 main_arg6 main_arg7 main_arg8 main_arg9 main_v3 main_v7 main_v11 main_v15
-- ==== Pre_finite4.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4x2048x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S4x2048x1024 .f32 := Host.absf main_arg5
  let main_cst_8 : FVec F S_ .f32 := constant S_ .f32 0x7F800000#32
  let main_v21 : FVec F S4x2048x1024 .f32 := broadcastInDim S4x2048x1024 ![] bcast_S_S4x2048x1024 main_cst_8
  let main_v22 : IVec S4x2048x1024 1 := cmpf .olt main_v20 main_v21
  let main_c_9 : IVec S_ 1 := constantI S_ 1 1#1
  let main_v23 : IVec S_ 1 := (fun x v => Host.reduce IntOp.andi x v reducesTo_S4x2048x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4x2048x1024 .f32) (main_arg1 : FVec F S1024 .f32) (main_arg2 : FVec F S1024x5632 .f32) (main_arg3 : FVec F S3x5632 .f32) (main_arg4 : FVec F S2816x1024 .f32) (main_arg5 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S3x5632 .f32 := Host.absf main_arg3
  let main_cst_4 : FVec F S_ .f32 := constant S_ .f32 0x7F800000#32
  let main_v13 : FVec F S3x5632 .f32 := broadcastInDim S3x5632 ![] bcast_S_S3x5632 main_cst_4
  let main_v14 : IVec S3x5632 1 := cmpf .olt main_v12 main_v13
  let main_c_5 : IVec S_ 1 := constantI S_ 1 1#1
  let main_v15 : IVec S_ 1 := (fun x v => Host.reduce IntOp.andi x v reducesTo_S3x5632_S_d0_1 h_S_) main_v14 main_c_5
  fn_part1 (F := F) main_arg4 main_arg5 main_v3 main_v7 main_v11 main_v15
-- ==== Pre_finite5.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S1024 .f32) (main_arg6 : FVec F S4x2048x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S4x2048x1024 .f32 := Host.absf main_arg6
  let main_cst_10 : FVec F S_ .f32 := constant S_ .f32 0x7F800000#32
  let main_v25 : FVec F S4x2048x1024 .f32 := broadcastInDim S4x2048x1024 ![] bcast_S_S4x2048x1024 main_cst_10
  let main_v26 : IVec S4x2048x1024 1 := cmpf .olt main_v24 main_v25
  let main_c_11 : IVec S_ 1 := constantI S_ 1 1#1
  let main_v27 : IVec S_ 1 := (fun x v => Host.reduce IntOp.andi x v reducesTo_S4x2048x1024_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4x2048x1024 .f32) (main_arg1 : FVec F S1024 .f32) (main_arg2 : FVec F S1024x5632 .f32) (main_arg3 : FVec F S3x5632 .f32) (main_arg4 : FVec F S2816x1024 .f32) (main_arg5 : FVec F S1024 .f32) (main_arg6 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S3x5632 .f32 := Host.absf main_arg3
  let main_cst_4 : FVec F S_ .f32 := constant S_ .f32 0x7F800000#32
  let main_v13 : FVec F S3x5632 .f32 := broadcastInDim S3x5632 ![] bcast_S_S3x5632 main_cst_4
  let main_v14 : IVec S3x5632 1 := cmpf .olt main_v12 main_v13
  let main_c_5 : IVec S_ 1 := constantI S_ 1 1#1
  let main_v15 : IVec S_ 1 := (fun x v => Host.reduce IntOp.andi x v reducesTo_S3x5632_S_d0_1 h_S_) main_v14 main_c_5
  fn_part1 (F := F) main_arg4 main_arg5 main_arg6 main_v3 main_v7 main_v11 main_v15
-- ==== Pre_finite7.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4x2048x1024 .f32) (main_arg1 : FVec F S1024 .f32) (main_arg2 : FVec F S1024x5632 .f32) (main_arg3 : FVec F S3x5632 .f32) (main_arg4 : FVec F S2816x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S3x5632 .f32 := Host.absf main_arg3
  let main_cst_4 : FVec F S_ .f32 := constant S_ .f32 0x7F800000#32
  let main_v13 : FVec F S3x5632 .f32 := broadcastInDim S3x5632 ![] bcast_S_S3x5632 main_cst_4
  let main_v14 : IVec S3x5632 1 := cmpf .olt main_v12 main_v13
  let main_c_5 : IVec S_ 1 := constantI S_ 1 1#1
  let main_v15 : IVec S_ 1 := (fun x v => Host.reduce IntOp.andi x v reducesTo_S3x5632_S_d0_1 h_S_) main_v14 main_c_5
  fn_part1 (F := F) main_v3 main_v7 main_v11 main_v15
-- ==== Kernel.lean ====
abbrev S4x2048x1024 : Shape := ⟨3, ![4, 2048, 1024]⟩
abbrev S1024 : Shape := ⟨1, ![1024]⟩
abbrev S1024x7168 : Shape := ⟨2, ![1024, 7168]⟩
abbrev S4x2048x7168 : Shape := ⟨3, ![4, 2048, 7168]⟩
abbrev S1024x8x896 : Shape := ⟨3, ![1024, 8, 896]⟩
abbrev S8x1024x896 : Shape := ⟨3, ![8, 1024, 896]⟩
abbrev S8192x7168 : Shape := ⟨2, ![8192, 7168]⟩
abbrev S8192x1024 : Shape := ⟨2, ![8192, 1024]⟩
abbrev S1x1024 : Shape := ⟨2, ![1, 1024]⟩
abbrev S4x2x1024x896 : Shape := ⟨4, ![4, 2, 1024, 896]⟩
abbrev S8x1024 : Shape := ⟨2, ![8, 1024]⟩
abbrev S1024x1792 : Shape := ⟨2, ![1024, 1792]⟩
abbrev S1x2x1024x896 : Shape := ⟨4, ![1, 2, 1024, 896]⟩
abbrev S1024x1024 : Shape := ⟨2, ![1024, 1024]⟩
abbrev S1x1x1024x896 : Shape := ⟨4, ![1, 1, 1024, 896]⟩
abbrev S1024x896 : Shape := ⟨2, ![1024, 896]⟩
abbrev S1024x1 : Shape := ⟨2, ![1024, 1]⟩

abbrev nBuf : Space → Nat
  | .hbm => 16
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7168, .f32⟩
  | .hbm, ⟨3, _⟩ => ⟨S4x2048x7168, .f32⟩
  | .hbm, ⟨4, _⟩ => ⟨S4x2048x1024, .f32⟩
  | .hbm, ⟨5, _⟩ => ⟨S1024x8x896, .f32⟩
  | .hbm, ⟨6, _⟩ => ⟨S8x1024x896, .f32⟩
  | .hbm, ⟨7, _⟩ => ⟨S8x1024x896, .bf16⟩
  | .hbm, ⟨8, _⟩ => ⟨S8192x7168, .f32⟩
  | .hbm, ⟨9, _⟩ => ⟨S8192x7168, .bf16⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S4x2x1024x896, .bf16⟩
  | .hbm, ⟨14, _⟩ => ⟨S8192x1024, .f32⟩
  | .hbm, ⟨15, _⟩ => ⟨S8x1024, .f32⟩
  | .local _ .vmem, ⟨0, _⟩ => ⟨S1024x1792, .bf16⟩
  | .local _ .vmem, ⟨1, _⟩ => ⟨S1024x1792, .bf16⟩
  | .local _ .vmem, ⟨2, _⟩ => ⟨S1x2x1024x896, .bf16⟩
  | .local _ .vmem, ⟨3, _⟩ => ⟨S1x2x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_14 : BitVec 32 := 0#32
  let v21 : BitVec 1 := Scalar.cmpi .ne v20 c0_i32_14
  v21

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S4x2048x1024 : Shape := ⟨3, ![4, 2048, 1024]⟩
abbrev S1024 : Shape := ⟨1, ![1024]⟩
abbrev S1024x7168 : Shape := ⟨2, ![1024, 7168]⟩
abbrev S4x2048x7168 : Shape := ⟨3, ![4, 2048, 7168]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x1024 : Shape := ⟨2, ![1, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7168, .f32⟩
  | .hbm, ⟨3, _⟩ => ⟨S4x2048x7168, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x7168, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S_, .f32⟩
  | .hbm, ⟨47, _⟩ => ⟨S4x2048, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S8192x1024, .f32⟩
  | .hbm, ⟨54, _⟩ => ⟨S1x1024, .f32⟩
  | .hbm, ⟨55, _⟩ => ⟨S_, .i32⟩
  | .hbm, ⟨56, _⟩ => ⟨S_, .f32⟩
  | .hbm, ⟨57, _⟩ => ⟨S8x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel2.lean ====
abbrev S4x2048x1024 : Shape := ⟨3, ![4, 2048, 1024]⟩
abbrev S1024 : Shape := ⟨1, ![1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x7168 : Shape := ⟨3, ![4, 2048, 7168]⟩
abbrev S4x2x1024 : Shape := ⟨3, ![4, 2, 1024]⟩
abbrev S4x2050x1024 : Shape := ⟨3, ![4, 2050, 1024]⟩
abbrev S1x1024 : Shape := ⟨2, ![1, 1024]⟩
abbrev S4x16x128x8x128 : Shape := ⟨5, ![4, 16, 128, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S4x2048x10240 : Shape := ⟨3, ![4, 2048, 10240]⟩
abbrev S8192x10240 : Shape := ⟨2, ![8192, 10240]⟩
abbrev S8192x1024 : Shape := ⟨2, ![8192, 1024]⟩
abbrev S8x1024 : Shape := ⟨2, ![8, 1024]⟩
abbrev S8192x7168 : Shape := ⟨2, ![8192, 7168]⟩
abbrev S128x1024 : Shape := ⟨2, ![128, 1024]⟩
abbrev S512x1024 : Shape := ⟨2, ![512, 1024]⟩
abbrev S512x10240 : Shape := ⟨2, ![512, 10240]⟩
abbrev S512x7168 : Shape := ⟨2, ![512, 7168]⟩
abbrev S512 : Shape := ⟨1, ![512]⟩
abbrev S512x1 : Shape := ⟨2, ![512, 1]⟩
abbrev S504x1024 : Shape := ⟨2, ![504, 1024]⟩
abbrev S128 : Shape := ⟨1, ![128]⟩
abbrev S128x1 : Shape := ⟨2, ![128, 1]⟩

abbrev nBuf : Space → Nat
  | .hbm => 140
  | .vmem => 17
  | .smem => 0
  | _ => 0

abbrev hbmTy0_0 (i : Nat) : BufTy := match i % 128 with
  | 0 => ⟨S4x2048x1024, .f32⟩
  | 1 => ⟨S1024, .f32⟩
  | 2 => ⟨S1024x7168, .f32⟩
  | 3 => ⟨S3x1024, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S4x2048x1024, .f32⟩
  | 10 => ⟨S4x2048x1024, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x1024, .f32⟩
  | 22 => ⟨S4x2048x1024, .f32⟩
  | 23 => ⟨S1x1x1024, .f32⟩
  | 24 => ⟨S4x2048x1024, .f32⟩
  | 25 => ⟨S4x2048x1024, .f32⟩
  | 26 => ⟨S4x2048x7168, .f32⟩
  | 27 => ⟨S4x2048x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S4x2048x1024, .f32⟩
  | 33 => ⟨S4x2048x1024, .f32⟩
  | 34 => ⟨S_, .f32⟩
  | 35 => ⟨S4x2048, .f32⟩
  | 36 => ⟨S4x2048x1, .f32⟩
  | 37 => ⟨S_, .f32⟩
  | 38 => ⟨S4x2048x1, .f32⟩
  | 39 => ⟨S4x2048x1, .f32⟩
  | 40 => ⟨S4x2048x1024, .f32⟩
  | 41 => ⟨S4x2048x1024, .f32⟩
  | 42 => ⟨S4x2048x1024, .f32⟩
  | 43 => ⟨S_, .f32⟩
  | 44 => ⟨S4x2048, .f32⟩
  | 45 => ⟨S4x2048x1, .f32⟩
  | 46 => ⟨S_, .f32⟩
  | 47 => ⟨S4x2048x1, .f32⟩
  | 48 => ⟨S4x2048x1, .f32⟩
  | 49 => ⟨S_, .f32⟩
  | 50 => ⟨S4x2048x1, .f32⟩
  | 51 => ⟨S4x2048x1, .f32⟩
  | 52 => ⟨S4x2048x1, .f32⟩
  | 53 => ⟨S4x2048x1024, .f32⟩
  | 54 => ⟨S4x2048x1024, .f32⟩
  | 55 => ⟨S1x1x1024, .f32⟩
  | 56 => ⟨S4x2048x1024, .f32⟩
  | 57 => ⟨S4x2048x1024, .f32⟩
  | 58 => ⟨S1x1x1024, .f32⟩
  | 59 => ⟨S4x2048x1024, .f32⟩
  | 60 => ⟨S4x2048x1024, .f32⟩
  | 61 => ⟨S4x2048x1024, .f32⟩
  | 62 => ⟨S_, .f32⟩
  | 63 => ⟨S4x2x1024, .f32⟩
  | 64 => ⟨S4x2050x1024, .f32⟩
  | 65 => ⟨S4x2048x1024, .f32⟩
  | 66 => ⟨S1x1024, .f32⟩
  | 67 => ⟨S1024, .f32⟩
  | 68 => ⟨S1x1x1024, .f32⟩
  | 69 => ⟨S4x2048x1024, .f32⟩
  | 70 => ⟨S4x2048x1024, .f32⟩
  | 71 => ⟨S4x2048x1024, .f32⟩
  | 72 => ⟨S1x1024, .f32⟩
  | 73 => ⟨S1024, .f32⟩
  | 74 => ⟨S1x1x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S1x1024, .f32⟩
  | 80 => ⟨S1024, .f32⟩
  | 81 => ⟨S1x1x1024, .f32⟩
  | 82 => ⟨S4x2048x1024, .f32⟩
  | 83 => ⟨S4x2048x1024, .f32⟩
  | 84 => ⟨S4x2048x1024, .f32⟩
  | 85 => ⟨S4x16x128x8x128, .f32⟩
  | 86 => ⟨S_, .i1⟩
  | 87 => ⟨S128x128, .i1⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .i1⟩
  | 95 => ⟨S128x128, .i1⟩
  | 96 => ⟨S128x128, .i1⟩
  | 97 => ⟨S1x128x128, .i1⟩
  | 98 => ⟨S_, .f32⟩
  | 99 => ⟨S8x128x128, .i1⟩
  | 100 => ⟨S8x128x128, .f32⟩
  | 101 => ⟨S8x128x128, .f32⟩
  | 102 => ⟨S8x4x16x128x128, .f32⟩
  | 103 => ⟨S4x16x128x8x128, .f32⟩
  | 104 => ⟨S128x8, .f32⟩
  | 105 => ⟨S1x1x128x8x1, .f32⟩
  | 106 => ⟨S4x16x128x8x128, .f32⟩
  | 107 => ⟨S4x16x128x8x128, .f32⟩
  | 108 => ⟨S4x2048x1024, .f32⟩
  | 109 => ⟨S4x2048x1024, .f32⟩
  | 110 => ⟨S4x2048x1024, .f32⟩
  | 111 => ⟨S_, .f32⟩
  | 112 => ⟨S4x2048x1024, .f32⟩
  | 113 => ⟨S4x2048x1024, .f32⟩
  | 114 => ⟨S_, .f32⟩
  | 115 => ⟨S4x2048x1024, .f32⟩
  | 116 => ⟨S4x2048x1024, .f32⟩
  | 117 => ⟨S4x2048x1024, .f32⟩
  | 118 => ⟨S4x2048x1024, .f32⟩
  | 119 => ⟨S_, .f32⟩
  | 120 => ⟨S4x2048x1024, .f32⟩
  | 121 => ⟨S4x2048x1024, .f32⟩
  | 122 => ⟨S_, .f32⟩
  | 123 => ⟨S4x2048x1024, .f32⟩
  | 124 => ⟨S4x2048x1024, .f32⟩
  | 125 => ⟨S4x2048x10240, .f32⟩
  | 126 => ⟨S8192x10240, .f32⟩
  | 127 => ⟨S8192x10240, .bf16⟩
  | _ => ⟨S4x2048x1024, .f32⟩

abbrev hbmTy0_1 (i : Nat) : BufTy := match i % 128 with
  | 0 => ⟨S8192x1024, .f32⟩
  | 1 => ⟨S1024x1024, .bf16⟩
  | 2 => ⟨S_, .i32⟩
  | 3 => ⟨S_, .f32⟩
  | 4 => ⟨S8x1024, .f32⟩
  | 5 => ⟨S1x1024, .f32⟩
  | 6 => ⟨S8x128x128, .f32⟩
  | 7 => ⟨S8192x7168, .bf16⟩
  | 8 => ⟨S8x1024, .f32⟩
  | 9 => ⟨S8x1024, .f32⟩
  | 10 => ⟨S8x128x128, .f32⟩
  | 11 => ⟨S128x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x10240, .bf16⟩
  | .local _ .vmem, ⟨3, _⟩ => ⟨S512x10240, .bf16⟩
  | .local _ .vmem, ⟨4, _⟩ => ⟨S1024x1024, .bf16⟩
  | .local _ .vmem, ⟨5, _⟩ => ⟨S8x1024, .f32⟩
  | .local _ .vmem, ⟨6, _⟩ => ⟨S1x1024, .f32⟩
  | .local _ .vmem, ⟨7, _⟩ => ⟨S8x128x128, .f32⟩
  | .local _ .vmem, ⟨8, _⟩ => ⟨S512x7168, .bf16⟩
  | .local _ .vmem, ⟨9, _⟩ => ⟨S512x7168, .bf16⟩
  | .local _ .vmem, ⟨10, _⟩ => ⟨S8x1024, .f32⟩
  | .local _ .vmem, ⟨11, _⟩ => ⟨S8x1024, .f32⟩
  | .local _ .vmem, ⟨12, _⟩ => ⟨S8x128x128, .f32⟩
  | .local _ .vmem, ⟨13, _⟩ => ⟨S128x1024, .f32⟩
  | .local _ .vmem, ⟨14, _⟩ => ⟨S512x1024, .f32⟩
  | .local _ .vmem, ⟨15, _⟩ => ⟨S8x1024, .f32⟩
  | .local _ .vmem, ⟨16, _⟩ => ⟨S128x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c : Ref sig .tc := ⟨.hbm, 86, rfl⟩
abbrev main_v67 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_c_0 : Ref sig .tc := ⟨.hbm, 94, rfl⟩
abbrev main_call0_v5 : Ref sig .tc := ⟨.hbm, 95, rfl⟩
abbrev main_v68 : Ref sig .tc := ⟨.hbm, 96, rfl⟩
abbrev main_v69 : Ref sig .tc := ⟨.hbm, 97, rfl⟩
abbrev main_cst_8 : Ref sig .tc := ⟨.hbm, 98, rfl⟩
abbrev main_call1_v0 : Ref sig .tc := ⟨.hbm, 99, rfl⟩
abbrev main_call1_v1 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_9 : Ref sig .tc := ⟨.hbm, 111, rfl⟩
abbrev main_v80 : Ref sig .tc := ⟨.hbm, 112, rfl⟩
abbrev main_v81 : Ref sig .tc := ⟨.hbm, 113, rfl⟩
abbrev main_cst_10 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_11 : Ref sig .tc := ⟨.hbm, 119, rfl⟩
abbrev main_v86 : Ref sig .tc := ⟨.hbm, 120, rfl⟩
abbrev main_v87 : Ref sig .tc := ⟨.hbm, 121, rfl⟩
abbrev main_cst_12 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_13 : Ref sig .tc := ⟨.hbm, 130, rfl⟩
abbrev main_call2_v0 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98_0 : Ref sig .tc := ⟨.hbm, 135, rfl⟩
abbrev main_v98_1 : Ref sig .tc := ⟨.hbm, 136, rfl⟩
abbrev main_v98_2 : Ref sig .tc := ⟨.hbm, 137, rfl⟩
abbrev main_v98_3 : Ref sig .tc := ⟨.hbm, 138, rfl⟩
abbrev main_v98_4 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_297 : BitVec 32 := 15#32
  let v614 : BitVec 1 := Scalar.cmpi .eq arg0 c15_i32_297
  let v615 : BitVec 32 := Scalar.extui v614
  let c0_i32_298 : BitVec 32 := 0#32
  let v616 : BitVec 1 := Scalar.cmpi .ne v615 c0_i32_298
  v616

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4x2048x1024 : Shape := ⟨3, ![4, 2048, 1024]⟩
abbrev S1024 : Shape := ⟨1, ![1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x7168 : Shape := ⟨3, ![4, 2048, 7168]⟩
abbrev S4x2x1024 : Shape := ⟨3, ![4, 2, 1024]⟩
abbrev S4x2050x1024 : Shape := ⟨3, ![4, 2050, 1024]⟩
abbrev S1x1024 : Shape := ⟨2, ![1, 1024]⟩
abbrev S4x16x128x8x128 : Shape := ⟨5, ![4, 16, 128, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S8192x7168 : Shape := ⟨2, ![8192, 7168]⟩
abbrev S8x1024 : Shape := ⟨2, ![8, 1024]⟩
abbrev S2x1024 : Shape := ⟨2, ![2, 1024]⟩
abbrev S128x8x128 : Shape := ⟨3, ![128, 8, 128]⟩
abbrev S128x1024 : Shape := ⟨2, ![128, 1024]⟩
abbrev S8192x1024 : Shape := ⟨2, ![8192, 1024]⟩

abbrev nBuf : Space → Nat
  | .hbm => 312
  | .vmem => 0
  | .smem => 0
  | _ => 0

abbrev hbmTy0_0 (i : Nat) : BufTy := match i % 128 with
  | 0 => ⟨S4x2048x1024, .f32⟩
  | 1 => ⟨S1024, .f32⟩
  | 2 => ⟨S1024x7168, .f32⟩
  | 3 => ⟨S3x1024, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S4x2048x1024, .f32⟩
  | 10 => ⟨S4x2048x1024, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1024, .f32⟩
  | 26 => ⟨S4x2048x1024, .f32⟩
  | 27 => ⟨S1x1x1024, .f32⟩
  | 28 => ⟨S4x2048x1024, .f32⟩
  | 29 => ⟨S4x2048x1024, .f32⟩
  | 30 => ⟨S4x2048x7168, .f32⟩
  | 31 => ⟨S4x2048x1024, .f32⟩
  | 32 => ⟨S4x2048x1024, .f32⟩
  | 33 => ⟨S4x2048x1024, .f32⟩
  | 34 => ⟨S4x2048x1024, .f32⟩
  | 35 => ⟨S4x2048x1024, .f32⟩
  | 36 => ⟨S4x2048x1024, .f32⟩
  | 37 => ⟨S4x2048x1024, .f32⟩
  | 38 => ⟨S4x2048x1024, .f32⟩
  | 39 => ⟨S_, .f32⟩
  | 40 => ⟨S4x2x1024, .f32⟩
  | 41 => ⟨S4x2050x1024, .f32⟩
  | 42 => ⟨S_, .f32⟩
  | 43 => ⟨S4x2x1024, .f32⟩
  | 44 => ⟨S4x2048x1024, .f32⟩
  | 45 => ⟨S1x1024, .f32⟩
  | 46 => ⟨S1024, .f32⟩
  | 47 => ⟨S1x1x1024, .f32⟩
  | 48 => ⟨S4x2048x1024, .f32⟩
  | 49 => ⟨S4x2048x1024, .f32⟩
  | 50 => ⟨S4x2048x1024, .f32⟩
  | 51 => ⟨S1x1024, .f32⟩
  | 52 => ⟨S1024, .f32⟩
  | 53 => ⟨S1x1x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S1x1024, .f32⟩
  | 59 => ⟨S1024, .f32⟩
  | 60 => ⟨S1x1x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S_, .f32⟩
  | 66 => ⟨S4x2048, .f32⟩
  | 67 => ⟨S4x2048x1, .f32⟩
  | 68 => ⟨S_, .f32⟩
  | 69 => ⟨S4x2048x1, .f32⟩
  | 70 => ⟨S4x2048x1, .f32⟩
  | 71 => ⟨S4x2048x1024, .f32⟩
  | 72 => ⟨S4x2048x1024, .f32⟩
  | 73 => ⟨S4x2048x1024, .f32⟩
  | 74 => ⟨S_, .f32⟩
  | 75 => ⟨S4x2048, .f32⟩
  | 76 => ⟨S4x2048x1, .f32⟩
  | 77 => ⟨S_, .f32⟩
  | 78 => ⟨S4x2048x1, .f32⟩
  | 79 => ⟨S4x2048x1, .f32⟩
  | 80 => ⟨S_, .f32⟩
  | 81 => ⟨S4x2048x1, .f32⟩
  | 82 => ⟨S4x2048x1, .f32⟩
  | 83 => ⟨S4x2048x1, .f32⟩
  | 84 => ⟨S4x2048x1, .f32⟩
  | 85 => ⟨S_, .f32⟩
  | 86 => ⟨S4x2048x1, .f32⟩
  | 87 => ⟨S4x2048x1, .f32⟩
  | 88 => ⟨S4x2048x1024, .f32⟩
  | 89 => ⟨S4x2048x1024, .f32⟩
  | 90 => ⟨S1x1x1024, .f32⟩
  | 91 => ⟨S4x2048x1024, .f32⟩
  | 92 => ⟨S4x2048x1024, .f32⟩
  | 93 => ⟨S1x1x1024, .f32⟩
  | 94 => ⟨S4x2048x1024, .f32⟩
  | 95 => ⟨S4x2048x1024, .f32⟩
  | 96 => ⟨S4x16x128x8x128, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S1x128x128, .i1⟩
  | 109 => ⟨S_, .f32⟩
  | 110 => ⟨S8x128x128, .i1⟩
  | 111 => ⟨S8x128x128, .f32⟩
  | 112 => ⟨S8x128x128, .f32⟩
  | 113 => ⟨S_, .f32⟩
  | 114 => ⟨S8x128x128, .f32⟩
  | 115 => ⟨S8x4x16x128x128, .f32⟩
  | 116 => ⟨S4x16x128x8x128, .f32⟩
  | 117 => ⟨S128x8, .f32⟩
  | 118 => ⟨S1x1x128x8x1, .f32⟩
  | 119 => ⟨S4x16x128x8x128, .f32⟩
  | 120 => ⟨S4x16x128x8x128, .f32⟩
  | 121 => ⟨S4x2048x1024, .f32⟩
  | 122 => ⟨S4x2048x1024, .f32⟩
  | 123 => ⟨S4x2048x1024, .f32⟩
  | 124 => ⟨S4x2048x1024, .f32⟩
  | 125 => ⟨S_, .f32⟩
  | 126 => ⟨S4x2048x1024, .f32⟩
  | 127 => ⟨S4x2048x1024, .f32⟩
  | _ => ⟨S4x2048x1024, .f32⟩

abbrev hbmTy0_1 (i : Nat) : BufTy := match i % 128 with
  | 0 => ⟨S_, .f32⟩
  | 1 => ⟨S4x2048x1024, .f32⟩
  | 2 => ⟨S4x2048x1024, .f32⟩
  | 3 => ⟨S_, .f32⟩
  | 4 => ⟨S4x2048x1024, .f32⟩
  | 5 => ⟨S4x2048x1024, .f32⟩
  | 6 => ⟨S4x2048x1024, .f32⟩
  | 7 => ⟨S4x2048x1024, .f32⟩
  | 8 => ⟨S4x2048x1024, .f32⟩
  | 9 => ⟨S4x2048x1024, .f32⟩
  | 10 => ⟨S_, .f32⟩
  | 11 => ⟨S4x2048x1024, .f32⟩
  | 12 => ⟨S4x2048x1024, .f32⟩
  | 13 => ⟨S_, .f32⟩
  | 14 => ⟨S4x2048x1024, .f32⟩
  | 15 => ⟨S4x2048x1024, .f32⟩
  | 16 => ⟨S_, .f32⟩
  | 17 => ⟨S4x2048x1024, .f32⟩
  | 18 => ⟨S4x2048x1024, .f32⟩
  | 19 => ⟨S4x2048x1024, .f32⟩
  | 20 => ⟨S4x2048x1024, .f32⟩
  | 21 => ⟨S4x2048x1024, .f32⟩
  | 22 => ⟨S4x2048x1024, .f32⟩
  | 23 => ⟨S4x2048x1024, .f32⟩
  | 24 => ⟨S4x2048x1024, .f32⟩
  | 25 => ⟨S4x2048x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S4x16x128x8x128, .f32⟩
  | 33 => ⟨S_, .f32⟩
  | 34 => ⟨S128x8, .f32⟩
  | 35 => ⟨S1x1x128x8x1, .f32⟩
  | 36 => ⟨S_, .f32⟩
  | 37 => ⟨S128x8, .f32⟩
  | 38 => ⟨S8x128, .f32⟩
  | 39 => ⟨S8x4x16x128x128, .f32⟩
  | 40 => ⟨S8x128x128, .f32⟩
  | 41 => ⟨S8x4x16x128x128, .f32⟩
  | 42 => ⟨S4x16x128x8x128, .f32⟩
  | 43 => ⟨S_, .f32⟩
  | 44 => ⟨S8x128x128, .f32⟩
  | 45 => ⟨S8x128x128, .f32⟩
  | 46 => ⟨S4x2048x1024, .f32⟩
  | 47 => ⟨S_, .f32⟩
  | 48 => ⟨S1024, .f32⟩
  | 49 => ⟨S1x1x1024, .f32⟩
  | 50 => ⟨S_, .f32⟩
  | 51 => ⟨S1024, .f32⟩
  | 52 => ⟨S4x2048x1024, .f32⟩
  | 53 => ⟨S_, .f32⟩
  | 54 => ⟨S1024, .f32⟩
  | 55 => ⟨S1x1x1024, .f32⟩
  | 56 => ⟨S4x2048x1024, .f32⟩
  | 57 => ⟨S4x2048x1024, .f32⟩
  | 58 => ⟨S_, .f32⟩
  | 59 => ⟨S1024, .f32⟩
  | 60 => ⟨S4x2048x1024, .f32⟩
  | 61 => ⟨S_, .f32⟩
  | 62 => ⟨S4x2048, .f32⟩
  | 63 => ⟨S4x2048x1, .f32⟩
  | 64 => ⟨S4x2048x1024, .f32⟩
  | 65 => ⟨S4x2048x1024, .f32⟩
  | 66 => ⟨S4x2048x1, .f32⟩
  | 67 => ⟨S_, .f32⟩
  | 68 => ⟨S4x2048x1, .f32⟩
  | 69 => ⟨S4x2048x1, .f32⟩
  | 70 => ⟨S_, .f32⟩
  | 71 => ⟨S4x2048, .f32⟩
  | 72 => ⟨S4x2048x1024, .f32⟩
  | 73 => ⟨S4x2048x1024, .f32⟩
  | 74 => ⟨S4x2048x1024, .f32⟩
  | 75 => ⟨S4x2048x1024, .f32⟩
  | 76 => ⟨S4x2048x1024, .f32⟩
  | 77 => ⟨S4x2048x1024, .f32⟩
  | 78 => ⟨S_, .f32⟩
  | 79 => ⟨S4x2048, .f32⟩
  | 80 => ⟨S4x2048x1, .f32⟩
  | 81 => ⟨S_, .f32⟩
  | 82 => ⟨S4x2048x1, .f32⟩
  | 83 => ⟨S4x2048x1, .f32⟩
  | 84 => ⟨S_, .f32⟩
  | 85 => ⟨S4x2048, .f32⟩
  | 86 => ⟨S4x2048x1024, .f32⟩
  | 87 => ⟨S4x2048x1024, .f32⟩
  | 88 => ⟨S4x2048x1024, .f32⟩
  | 89 => ⟨S4x2048x1024, .f32⟩
  | 90 => ⟨S4x2048x1024, .f32⟩
  | 91 => ⟨S_, .f32⟩
  | 92 => ⟨S1024, .f32⟩
  | 93 => ⟨S1x1x1024, .f32⟩
  | 94 => ⟨S4x2048x1024, .f32⟩
  | 95 => ⟨S4x2048x1024, .f32⟩
  | 96 => ⟨S_, .f32⟩
  | 97 => ⟨S1024, .f32⟩
  | 98 => ⟨S1x1024, .f32⟩
  | 99 => ⟨S_, .f32⟩
  | 100 => ⟨S3x1024, .f32⟩
  | 101 => ⟨S_, .f32⟩
  | 102 => ⟨S4x2050x1024, .f32⟩
  | 103 => ⟨S4x2048x1024, .f32⟩
  | 104 => ⟨S_, .f32⟩
  | 105 => ⟨S1024, .f32⟩
  | 106 => ⟨S1x1x1024, .f32⟩
  | 107 => ⟨S4x2048x1024, .f32⟩
  | 108 => ⟨S4x2048x1024, .f32⟩
  | 109 => ⟨S_, .f32⟩
  | 110 => ⟨S1024, .f32⟩
  | 111 => ⟨S1x1024, .f32⟩
  | 112 => ⟨S_, .f32⟩
  | 113 => ⟨S3x1024, .f32⟩
  | 114 => ⟨S3x1024, .f32⟩
  | 115 => ⟨S_, .f32⟩
  | 116 => ⟨S4x2050x1024, .f32⟩
  | 117 => ⟨S4x2050x1024, .f32⟩
  | 118 => ⟨S4x2048x1024, .f32⟩
  | 119 => ⟨S_, .f32⟩
  | 120 => ⟨S1024, .f32⟩
  | 121 => ⟨S1x1x1024, .f32⟩
  | 122 => ⟨S4x2048x1024, .f32⟩
  | 123 => ⟨S4x2048x1024, .f32⟩
  | 124 => ⟨S_, .f32⟩
  | 125 => ⟨S1024, .f32⟩
  | 126 => ⟨S1x1024, .f32⟩
  | 127 => ⟨S_, .f32⟩
  | _ => ⟨S4x2048x1024, .f32⟩

abbrev hbmTy0_2 (i : Nat) : BufTy := match i % 128 with
  | 0 => ⟨S3x1024, .f32⟩
  | 1 => ⟨S3x1024, .f32⟩
  | 2 => ⟨S_, .f32⟩
  | 3 => ⟨S4x2050x1024, .f32⟩
  | 4 => ⟨S4x2050x1024, .f32⟩
  | 5 => ⟨S4x2x1024, .f32⟩
  | 6 => ⟨S4x2048x1024, .f32⟩
  | 7 => ⟨S4x2048x1024, .f32⟩
  | 8 => ⟨S4x2048x1024, .f32⟩
  | 9 => ⟨S4x2048x7168, .f32⟩
  | 10 => ⟨S4x2048x1024, .f32⟩
  | 11 => ⟨S4x2048x1024, .f32⟩
  | 12 => ⟨S_, .f32⟩
  | 13 => ⟨S1024, .f32⟩
  | 14 => ⟨S1x1x1024, .f32⟩
  | 15 => ⟨S4x2048x1024, .f32⟩
  | 16 => ⟨S4x2048x1024, .f32⟩
  | 17 => ⟨S_, .f32⟩
  | 18 => ⟨S1024, .f32⟩
  | 19 => ⟨S4x2048x1024, .f32⟩
  | 20 => ⟨S_, .f32⟩
  | 21 => ⟨S4x2048, .f32⟩
  | 22 => ⟨S4x2048x1, .f32⟩
  | 23 => ⟨S4x2048x1024, .f32⟩
  | 24 => ⟨S4x2048x1024, .f32⟩
  | 25 => ⟨S4x2048x1024, .f32⟩
  | 26 => ⟨S4x2048x1, .f32⟩
  | 27 => ⟨S_, .f32⟩
  | 28 => ⟨S4x2048x1, .f32⟩
  | 29 => ⟨S4x2048x1, .f32⟩
  | 30 => ⟨S_, .f32⟩
  | 31 => ⟨S4x2048, .f32⟩
  | 32 => ⟨S4x2048x1024, .f32⟩
  | 33 => ⟨S4x2048x1024, .f32⟩
  | 34 => ⟨S4x2048x1024, .f32⟩
  | 35 => ⟨S4x2048x1024, .f32⟩
  | 36 => ⟨S4x2048x1024, .f32⟩
  | 37 => ⟨S8192x7168, .f32⟩
  | 38 => ⟨S8192x7168, .bf16⟩
  | 39 => ⟨S_, .i32⟩
  | 40 => ⟨S_, .f32⟩
  | 41 => ⟨S8x1024, .f32⟩
  | 42 => ⟨S1x1024, .f32⟩
  | 43 => ⟨S1x1024, .f32⟩
  | 44 => ⟨S2x1024, .f32⟩
  | 45 => ⟨S_, .i32⟩
  | 46 => ⟨S_, .f32⟩
  | 47 => ⟨S8x1024, .f32⟩
  | 48 => ⟨S128x8, .f32⟩
  | 49 => ⟨S128x8x128, .f32⟩
  | 50 => ⟨S128x1024, .f32⟩
  | 51 => ⟨S8192x1024, .f32⟩
  | 52 => ⟨S1x1024, .f32⟩
  | 53 => ⟨S_, .i32⟩
  | 54 => ⟨S_, .f32⟩
  | 55 => ⟨S8x1024, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c : Ref sig .tc := ⟨.hbm, 97, rfl⟩
abbrev main_v75 : Ref sig .tc := ⟨.hbm, 98, rfl⟩
abbrev main_call0_v0 : Ref sig .tc := ⟨.hbm, 99, rfl⟩
abbrev main_call0_c : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_c_0 : Ref sig .tc := ⟨.hbm, 105, rfl⟩
abbrev main_call0_v5 : Ref sig .tc := ⟨.hbm, 106, rfl⟩
abbrev main_v76 : Ref sig .tc := ⟨.hbm, 107, rfl⟩
abbrev main_v77 : Ref sig .tc := ⟨.hbm, 108, rfl⟩
abbrev main_cst_11 : Ref sig .tc := ⟨.hbm, 109, rfl⟩
abbrev main_v78_1 : Ref sig .tc := ⟨.hbm, 110, rfl⟩
abbrev main_call1_v1 : Ref sig .tc := ⟨.hbm, 111, rfl⟩
abbrev main_v78_0 : Ref sig .tc := ⟨.hbm, 112, rfl⟩
abbrev main_call1_cst : Ref sig .tc := ⟨.hbm, 113, rfl⟩
abbrev main_v78_2 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_12 : Ref sig .tc := ⟨.hbm, 125, rfl⟩
abbrev main_v89 : Ref sig .tc := ⟨.hbm, 126, rfl⟩
abbrev main_v90 : Ref sig .tc := ⟨.hbm, 127, rfl⟩
abbrev main_cst_13 : Ref sig .tc := ⟨.hbm, 128, rfl⟩
abbrev main_v91 : Ref sig .tc := ⟨.hbm, 129, rfl⟩
abbrev main_v92 : Ref sig .tc := ⟨.hbm, 130, rfl⟩
abbrev main_cst_14 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_15 : Ref sig .tc := ⟨.hbm, 138, rfl⟩
abbrev main_v99 : Ref sig .tc := ⟨.hbm, 139, rfl⟩
abbrev main_v100 : Ref sig .tc := ⟨.hbm, 140, rfl⟩
abbrev main_cst_16 : Ref sig .tc := ⟨.hbm, 141, rfl⟩
abbrev main_v101 : Ref sig .tc := ⟨.hbm, 142, rfl⟩
abbrev main_v102 : Ref sig .tc := ⟨.hbm, 143, rfl⟩
abbrev main_cst_17 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_18 : Ref sig .tc := ⟨.hbm, 161, rfl⟩
abbrev main_v119 : Ref sig .tc := ⟨.hbm, 162, rfl⟩
abbrev main_v120 : Ref sig .tc := ⟨.hbm, 163, rfl⟩
abbrev main_cst_19 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_call2_cst : Ref sig .tc := ⟨.hbm, 171, rfl⟩
abbrev main_call2_v0 : Ref sig .tc := ⟨.hbm, 172, rfl⟩
abbrev main_v127 : Ref sig .tc := ⟨.hbm, 173, rfl⟩
abbrev main_v128 : Ref sig .tc := ⟨.hbm, 174, rfl⟩
abbrev main_cst_20 : Ref sig .tc := ⟨.hbm, 175, rfl⟩
abbrev main_v129 : Ref sig .tc := ⟨.hbm, 176, rfl⟩
abbrev main_v130 : Ref sig .tc := ⟨.hbm, 177, rfl⟩
abbrev main_cst_21 : Ref sig .tc := ⟨.hbm, 178, rfl⟩
abbrev main_v131 : Ref sig .tc := ⟨.hbm, 179, rfl⟩
abbrev main_v132 : Ref sig .tc := ⟨.hbm, 180, rfl⟩
abbrev main_cst_22 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_23 : Ref sig .tc := ⟨.hbm, 186, rfl⟩
abbrev main_v137 : Ref sig .tc := ⟨.hbm, 187, rfl⟩
abbrev main_v138 : Ref sig .tc := ⟨.hbm, 188, rfl⟩
abbrev main_cst_24 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_25 : Ref sig .tc := ⟨.hbm, 195, rfl⟩
abbrev main_v144 : Ref sig .tc := ⟨.hbm, 196, rfl⟩
abbrev main_v145 : Ref sig .tc := ⟨.hbm, 197, rfl⟩
abbrev main_cst_26 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_27 : Ref sig .tc := ⟨.hbm, 206, rfl⟩
abbrev main_v153 : Ref sig .tc := ⟨.hbm, 207, rfl⟩
abbrev main_v154 : Ref sig .tc := ⟨.hbm, 208, rfl⟩
abbrev main_cst_28 : Ref sig .tc := ⟨.hbm, 209, rfl⟩
abbrev main_v155 : Ref sig .tc := ⟨.hbm, 210, rfl⟩
abbrev main_v156 : Ref sig .tc := ⟨.hbm, 211, rfl⟩
abbrev main_cst_29 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_cst_30 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_cst_31 : Ref sig .tc := ⟨.hbm, 224, rfl⟩
abbrev main_v167 : Ref sig .tc := ⟨.hbm, 225, rfl⟩
abbrev main_v168 : Ref sig .tc := ⟨.hbm, 226, rfl⟩
abbrev main_cst_32 : Ref sig .tc := ⟨.hbm, 227, rfl⟩
abbrev main_v169 : Ref sig .tc := ⟨.hbm, 228, rfl⟩
abbrev main_cst_33 : Ref sig .tc := ⟨.hbm, 229, rfl⟩
abbrev main_v170 : Ref sig .tc := ⟨.hbm, 230, rfl⟩
abbrev main_v171 : Ref sig .tc := ⟨.hbm, 231, rfl⟩
abbrev main_cst_34 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_35 : Ref sig .tc := ⟨.hbm, 237, rfl⟩
abbrev main_v176 : Ref sig .tc := ⟨.hbm, 238, rfl⟩
abbrev main_v177 : Ref sig .tc := ⟨.hbm, 239, rfl⟩
abbrev main_cst_36 : Ref sig .tc := ⟨.hbm, 240, rfl⟩
abbrev main_v178 : Ref sig .tc := ⟨.hbm, 241, rfl⟩
abbrev main_v179 : Ref sig .tc := ⟨.hbm, 242, rfl⟩
abbrev main_cst_37 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst_38 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_39 : Ref sig .tc := ⟨.hbm, 252, rfl⟩
abbrev main_v187 : Ref sig .tc := ⟨.hbm, 253, rfl⟩
abbrev main_v188 : Ref sig .tc := ⟨.hbm, 254, rfl⟩
abbrev main_cst_40 : Ref sig .tc := ⟨.hbm, 255, rfl⟩
abbrev main_v189 : Ref sig .tc := ⟨.hbm, 256, rfl⟩
abbrev main_v190 : Ref sig .tc := ⟨.hbm, 257, rfl⟩
abbrev main_cst_41 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_cst_42 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_cst_43 : Ref sig .tc := ⟨.hbm, 273, rfl⟩
abbrev main_v204 : Ref sig .tc := ⟨.hbm, 274, rfl⟩
abbrev main_v205 : Ref sig .tc := ⟨.hbm, 275, rfl⟩
abbrev main_cst_44 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_cst_45 : Ref sig .tc := ⟨.hbm, 283, rfl⟩
abbrev main_v212 : Ref sig .tc := ⟨.hbm, 284, rfl⟩
abbrev main_v213 : Ref sig .tc := ⟨.hbm, 285, rfl⟩
abbrev main_cst_46 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_c_47 : Ref sig .tc := ⟨.hbm, 295, rfl⟩
abbrev main_call3_v0 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_c_48 : Ref sig .tc := ⟨.hbm, 301, rfl⟩
abbrev main_call4_v0 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_c_49 : Ref sig .tc := ⟨.hbm, 309, rfl⟩
abbrev main_call5_v0 : Ref sig .tc := ⟨.hbm, 310, rfl⟩
abbrev main_v232 : Ref sig .tc := ⟨.hbm, 311, rfl⟩

abbrev nD : Nat := 1
abbrev τ : Topo := Topo.v7x

variable {F : FTy → Type} [FloatOps F]
-- ==== Kernel3.lean ====
abbrev S4x2048x1024 : Shape := ⟨3, ![4, 2048, 1024]⟩
abbrev S1024 : Shape := ⟨1, ![1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x7168 : Shape := ⟨3, ![4, 2048, 7168]⟩
abbrev S4x2x1024 : Shape := ⟨3, ![4, 2, 1024]⟩
abbrev S4x2050x1024 : Shape := ⟨3, ![4, 2050, 1024]⟩
abbrev S1x1024 : Shape := ⟨2, ![1, 1024]⟩
abbrev S4x16x128x8x128 : Shape := ⟨5, ![4, 16, 128, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S4x2048x10240 : Shape := ⟨3, ![4, 2048, 10240]⟩
abbrev S8192x10240 : Shape := ⟨2, ![8192, 10240]⟩
abbrev S8192x1024 : Shape := ⟨2, ![8192, 1024]⟩
abbrev S8x1024 : Shape := ⟨2, ![8, 1024]⟩
abbrev S1024x8x896 : Shape := ⟨3, ![1024, 8, 896]⟩
abbrev S8x1024x896 : Shape := ⟨3, ![8, 1024, 896]⟩
abbrev S8192x7168 : Shape := ⟨2, ![8192, 7168]⟩
abbrev S128x1024 : Shape := ⟨2, ![128, 1024]⟩
abbrev S256x1024 : Shape := ⟨2, ![256, 1024]⟩
abbrev S256x10240 : Shape := ⟨2, ![256, 10240]⟩
abbrev S256x7168 : Shape := ⟨2, ![256, 7168]⟩
abbrev S256 : Shape := ⟨1, ![256]⟩
abbrev S256x1 : Shape := ⟨2, ![256, 1]⟩
abbrev S248x1024 : Shape := ⟨2, ![248, 1024]⟩
abbrev S1x1024x896 : Shape := ⟨3, ![1, 1024, 896]⟩
abbrev S1024x896 : Shape := ⟨2, ![1024, 896]⟩
abbrev S1024x1792 : Shape := ⟨2, ![1024, 1792]⟩
abbrev S256x1792 : Shape := ⟨2, ![256, 1792]⟩
abbrev S128 : Shape := ⟨1, ![128]⟩
abbrev S128x1 : Shape := ⟨2, ![128, 1]⟩

abbrev nBuf : Space → Nat
  | .hbm => 147
  | .vmem => 24
  | .smem => 0
  | _ => 0

abbrev hbmTy0_0 (i : Nat) : BufTy := match i % 128 with
  | 0 => ⟨S4x2048x1024, .f32⟩
  | 1 => ⟨S1024, .f32⟩
  | 2 => ⟨S1024x7168, .f32⟩
  | 3 => ⟨S3x1024, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S4x2048x1024, .f32⟩
  | 10 => ⟨S4x2048x1024, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x1024, .f32⟩
  | 22 => ⟨S4x2048x1024, .f32⟩
  | 23 => ⟨S1x1x1024, .f32⟩
  | 24 => ⟨S4x2048x1024, .f32⟩
  | 25 => ⟨S4x2048x1024, .f32⟩
  | 26 => ⟨S4x2048x7168, .f32⟩
  | 27 => ⟨S4x2048x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S4x2048x1024, .f32⟩
  | 33 => ⟨S4x2048x1024, .f32⟩
  | 34 => ⟨S_, .f32⟩
  | 35 => ⟨S4x2048, .f32⟩
  | 36 => ⟨S4x2048x1, .f32⟩
  | 37 => ⟨S_, .f32⟩
  | 38 => ⟨S4x2048x1, .f32⟩
  | 39 => ⟨S4x2048x1, .f32⟩
  | 40 => ⟨S4x2048x1024, .f32⟩
  | 41 => ⟨S4x2048x1024, .f32⟩
  | 42 => ⟨S4x2048x1024, .f32⟩
  | 43 => ⟨S_, .f32⟩
  | 44 => ⟨S4x2048, .f32⟩
  | 45 => ⟨S4x2048x1, .f32⟩
  | 46 => ⟨S_, .f32⟩
  | 47 => ⟨S4x2048x1, .f32⟩
  | 48 => ⟨S4x2048x1, .f32⟩
  | 49 => ⟨S_, .f32⟩
  | 50 => ⟨S4x2048x1, .f32⟩
  | 51 => ⟨S4x2048x1, .f32⟩
  | 52 => ⟨S4x2048x1, .f32⟩
  | 53 => ⟨S4x2048x1024, .f32⟩
  | 54 => ⟨S4x2048x1024, .f32⟩
  | 55 => ⟨S1x1x1024, .f32⟩
  | 56 => ⟨S4x2048x1024, .f32⟩
  | 57 => ⟨S4x2048x1024, .f32⟩
  | 58 => ⟨S1x1x1024, .f32⟩
  | 59 => ⟨S4x2048x1024, .f32⟩
  | 60 => ⟨S4x2048x1024, .f32⟩
  | 61 => ⟨S4x2048x1024, .f32⟩
  | 62 => ⟨S_, .f32⟩
  | 63 => ⟨S4x2x1024, .f32⟩
  | 64 => ⟨S4x2050x1024, .f32⟩
  | 65 => ⟨S4x2048x1024, .f32⟩
  | 66 => ⟨S1x1024, .f32⟩
  | 67 => ⟨S1024, .f32⟩
  | 68 => ⟨S1x1x1024, .f32⟩
  | 69 => ⟨S4x2048x1024, .f32⟩
  | 70 => ⟨S4x2048x1024, .f32⟩
  | 71 => ⟨S4x2048x1024, .f32⟩
  | 72 => ⟨S1x1024, .f32⟩
  | 73 => ⟨S1024, .f32⟩
  | 74 => ⟨S1x1x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S1x1024, .f32⟩
  | 80 => ⟨S1024, .f32⟩
  | 81 => ⟨S1x1x1024, .f32⟩
  | 82 => ⟨S4x2048x1024, .f32⟩
  | 83 => ⟨S4x2048x1024, .f32⟩
  | 84 => ⟨S4x2048x1024, .f32⟩
  | 85 => ⟨S4x16x128x8x128, .f32⟩
  | 86 => ⟨S_, .i1⟩
  | 87 => ⟨S128x128, .i1⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .i1⟩
  | 95 => ⟨S128x128, .i1⟩
  | 96 => ⟨S128x128, .i1⟩
  | 97 => ⟨S1x128x128, .i1⟩
  | 98 => ⟨S_, .f32⟩
  | 99 => ⟨S8x128x128, .i1⟩
  | 100 => ⟨S8x128x128, .f32⟩
  | 101 => ⟨S8x128x128, .f32⟩
  | 102 => ⟨S8x4x16x128x128, .f32⟩
  | 103 => ⟨S4x16x128x8x128, .f32⟩
  | 104 => ⟨S128x8, .f32⟩
  | 105 => ⟨S1x1x128x8x1, .f32⟩
  | 106 => ⟨S4x16x128x8x128, .f32⟩
  | 107 => ⟨S4x16x128x8x128, .f32⟩
  | 108 => ⟨S4x2048x1024, .f32⟩
  | 109 => ⟨S4x2048x1024, .f32⟩
  | 110 => ⟨S4x2048x1024, .f32⟩
  | 111 => ⟨S_, .f32⟩
  | 112 => ⟨S4x2048x1024, .f32⟩
  | 113 => ⟨S4x2048x1024, .f32⟩
  | 114 => ⟨S_, .f32⟩
  | 115 => ⟨S4x2048x1024, .f32⟩
  | 116 => ⟨S4x2048x1024, .f32⟩
  | 117 => ⟨S4x2048x1024, .f32⟩
  | 118 => ⟨S4x2048x1024, .f32⟩
  | 119 => ⟨S_, .f32⟩
  | 120 => ⟨S4x2048x1024, .f32⟩
  | 121 => ⟨S4x2048x1024, .f32⟩
  | 122 => ⟨S_, .f32⟩
  | 123 => ⟨S4x2048x1024, .f32⟩
  | 124 => ⟨S4x2048x1024, .f32⟩
  | 125 => ⟨S4x2048x10240, .f32⟩
  | 126 => ⟨S8192x10240, .f32⟩
  | 127 => ⟨S8192x10240, .bf16⟩
  | _ => ⟨S4x2048x1024, .f32⟩

abbrev hbmTy0_1 (i : Nat) : BufTy := match i % 128 with
  | 0 => ⟨S8192x1024, .f32⟩
  | 1 => ⟨S1024x1024, .bf16⟩
  | 2 => ⟨S_, .i32⟩
  | 3 => ⟨S_, .f32⟩
  | 4 => ⟨S8x1024, .f32⟩
  | 5 => ⟨S1x1024, .f32⟩
  | 6 => ⟨S8x128x128, .f32⟩
  | 7 => ⟨S1024x8x896, .f32⟩
  | 8 => ⟨S8x1024x896, .f32⟩
  | 9 => ⟨S8x1024x896, .bf16⟩
  | 10 => ⟨S8192x1024, .f32⟩
  | 11 => ⟨S1x1024, .f32⟩
  | 12 => ⟨S8192x7168, .bf16⟩
  | 13 => ⟨S8x1024, .f32⟩
  | 14 => ⟨S8x1024, .f32⟩
  | 15 => ⟨S8x128x128, .f32⟩
  | 16 => ⟨S128x1024, .f32⟩
  | 17 => ⟨S8192x1024, .f32⟩
  | 18 => ⟨S8x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x10240, .bf16⟩
  | .local _ .vmem, ⟨3, _⟩ => ⟨S256x10240, .bf16⟩
  | .local _ .vmem, ⟨4, _⟩ => ⟨S1024x1024, .bf16⟩
  | .local _ .vmem, ⟨5, _⟩ => ⟨S8x1024, .f32⟩
  | .local _ .vmem, ⟨6, _⟩ => ⟨S1x1024, .f32⟩
  | .local _ .vmem, ⟨7, _⟩ => ⟨S8x128x128, .f32⟩
  | .local _ .vmem, ⟨8, _⟩ => ⟨S8x1024x896, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x7168, .bf16⟩
  | .local _ .vmem, ⟨13, _⟩ => ⟨S256x7168, .bf16⟩
  | .local _ .vmem, ⟨14, _⟩ => ⟨S8x1024, .f32⟩
  | .local _ .vmem, ⟨15, _⟩ => ⟨S8x1024, .f32⟩
  | .local _ .vmem, ⟨16, _⟩ => ⟨S8x128x128, .f32⟩
  | .local _ .vmem, ⟨17, _⟩ => ⟨S128x1024, .f32⟩
  | .local _ .vmem, ⟨18, _⟩ => ⟨S256x1024, .f32⟩
  | .local _ .vmem, ⟨19, _⟩ => ⟨S256x1024, .f32⟩
  | .local _ .vmem, ⟨20, _⟩ => ⟨S8x1024, .f32⟩
  | .local _ .vmem, ⟨21, _⟩ => ⟨S256x1024, .f32⟩
  | .local _ .vmem, ⟨22, _⟩ => ⟨S8x1024, .f32⟩
  | .local _ .vmem, ⟨23, _⟩ => ⟨S128x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c : Ref sig .tc := ⟨.hbm, 86, rfl⟩
abbrev main_v67 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_c_0 : Ref sig .tc := ⟨.hbm, 94, rfl⟩
abbrev main_call0_v5 : Ref sig .tc := ⟨.hbm, 95, rfl⟩
abbrev main_v68 : Ref sig .tc := ⟨.hbm, 96, rfl⟩
abbrev main_v69 : Ref sig .tc := ⟨.hbm, 97, rfl⟩
abbrev main_cst_8 : Ref sig .tc := ⟨.hbm, 98, rfl⟩
abbrev main_call1_v0 : Ref sig .tc := ⟨.hbm, 99, rfl⟩
abbrev main_call1_v1 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_9 : Ref sig .tc := ⟨.hbm, 111, rfl⟩
abbrev main_v80 : Ref sig .tc := ⟨.hbm, 112, rfl⟩
abbrev main_v81 : Ref sig .tc := ⟨.hbm, 113, rfl⟩
abbrev main_cst_10 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_11 : Ref sig .tc := ⟨.hbm, 119, rfl⟩
abbrev main_v86 : Ref sig .tc := ⟨.hbm, 120, rfl⟩
abbrev main_v87 : Ref sig .tc := ⟨.hbm, 121, rfl⟩
abbrev main_cst_12 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_13 : Ref sig .tc := ⟨.hbm, 130, rfl⟩
abbrev main_call2_v0 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103_0 : Ref sig .tc := ⟨.hbm, 140, rfl⟩
abbrev main_v103_1 : Ref sig .tc := ⟨.hbm, 141, rfl⟩
abbrev main_v103_2 : Ref sig .tc := ⟨.hbm, 142, rfl⟩
abbrev main_v103_3 : Ref sig .tc := ⟨.hbm, 143, rfl⟩
abbrev main_v103_4 : Ref sig .tc := ⟨.hbm, 144, rfl⟩
abbrev main_v103_5 : Ref sig .tc := ⟨.hbm, 145, rfl⟩
abbrev main_v103_6 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_286 : BitVec 32 := 31#32
  let v540 : BitVec 1 := Scalar.cmpi .eq arg0 c31_i32_286
  let v541 : BitVec 32 := Scalar.extui v540
  let c0_i32_287 : BitVec 32 := 0#32
  let v542 : BitVec 1 := Scalar.cmpi .ne v541 c0_i32_287
  v542

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x896 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x7168 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S4x2048x1024 : Shape := ⟨3, ![4, 2048, 1024]⟩
abbrev S1024 : Shape := ⟨1, ![1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x7168 : Shape := ⟨3, ![4, 2048, 7168]⟩
abbrev S4x2x1024 : Shape := ⟨3, ![4, 2, 1024]⟩
abbrev S4x2050x1024 : Shape := ⟨3, ![4, 2050, 1024]⟩
abbrev S1x1024 : Shape := ⟨2, ![1, 1024]⟩
abbrev S4x16x128x8x128 : Shape := ⟨5, ![4, 16, 128, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S8192x7168 : Shape := ⟨2, ![8192, 7168]⟩
abbrev S8x1024 : Shape := ⟨2, ![8, 1024]⟩
abbrev S2x1024 : Shape := ⟨2, ![2, 1024]⟩
abbrev S128x8x128 : Shape := ⟨3, ![128, 8, 128]⟩
abbrev S128x1024 : Shape := ⟨2, ![128, 1024]⟩
abbrev S8192x1024 : Shape := ⟨2, ![8192, 1024]⟩

abbrev nBuf : Space → Nat
  | .hbm => 312
  | .vmem => 0
  | .smem => 0
  | _ => 0

abbrev hbmTy0_0 (i : Nat) : BufTy := match i % 128 with
  | 0 => ⟨S4x2048x1024, .f32⟩
  | 1 => ⟨S1024, .f32⟩
  | 2 => ⟨S1024x7168, .f32⟩
  | 3 => ⟨S3x1024, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S4x2048x1024, .f32⟩
  | 10 => ⟨S4x2048x1024, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1024, .f32⟩
  | 26 => ⟨S4x2048x1024, .f32⟩
  | 27 => ⟨S1x1x1024, .f32⟩
  | 28 => ⟨S4x2048x1024, .f32⟩
  | 29 => ⟨S4x2048x1024, .f32⟩
  | 30 => ⟨S4x2048x7168, .f32⟩
  | 31 => ⟨S4x2048x1024, .f32⟩
  | 32 => ⟨S4x2048x1024, .f32⟩
  | 33 => ⟨S4x2048x1024, .f32⟩
  | 34 => ⟨S4x2048x1024, .f32⟩
  | 35 => ⟨S4x2048x1024, .f32⟩
  | 36 => ⟨S4x2048x1024, .f32⟩
  | 37 => ⟨S4x2048x1024, .f32⟩
  | 38 => ⟨S4x2048x1024, .f32⟩
  | 39 => ⟨S_, .f32⟩
  | 40 => ⟨S4x2x1024, .f32⟩
  | 41 => ⟨S4x2050x1024, .f32⟩
  | 42 => ⟨S_, .f32⟩
  | 43 => ⟨S4x2x1024, .f32⟩
  | 44 => ⟨S4x2048x1024, .f32⟩
  | 45 => ⟨S1x1024, .f32⟩
  | 46 => ⟨S1024, .f32⟩
  | 47 => ⟨S1x1x1024, .f32⟩
  | 48 => ⟨S4x2048x1024, .f32⟩
  | 49 => ⟨S4x2048x1024, .f32⟩
  | 50 => ⟨S4x2048x1024, .f32⟩
  | 51 => ⟨S1x1024, .f32⟩
  | 52 => ⟨S1024, .f32⟩
  | 53 => ⟨S1x1x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S1x1024, .f32⟩
  | 59 => ⟨S1024, .f32⟩
  | 60 => ⟨S1x1x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S_, .f32⟩
  | 66 => ⟨S4x2048, .f32⟩
  | 67 => ⟨S4x2048x1, .f32⟩
  | 68 => ⟨S_, .f32⟩
  | 69 => ⟨S4x2048x1, .f32⟩
  | 70 => ⟨S4x2048x1, .f32⟩
  | 71 => ⟨S4x2048x1024, .f32⟩
  | 72 => ⟨S4x2048x1024, .f32⟩
  | 73 => ⟨S4x2048x1024, .f32⟩
  | 74 => ⟨S_, .f32⟩
  | 75 => ⟨S4x2048, .f32⟩
  | 76 => ⟨S4x2048x1, .f32⟩
  | 77 => ⟨S_, .f32⟩
  | 78 => ⟨S4x2048x1, .f32⟩
  | 79 => ⟨S4x2048x1, .f32⟩
  | 80 => ⟨S_, .f32⟩
  | 81 => ⟨S4x2048x1, .f32⟩
  | 82 => ⟨S4x2048x1, .f32⟩
  | 83 => ⟨S4x2048x1, .f32⟩
  | 84 => ⟨S4x2048x1, .f32⟩
  | 85 => ⟨S_, .f32⟩
  | 86 => ⟨S4x2048x1, .f32⟩
  | 87 => ⟨S4x2048x1, .f32⟩
  | 88 => ⟨S4x2048x1024, .f32⟩
  | 89 => ⟨S4x2048x1024, .f32⟩
  | 90 => ⟨S1x1x1024, .f32⟩
  | 91 => ⟨S4x2048x1024, .f32⟩
  | 92 => ⟨S4x2048x1024, .f32⟩
  | 93 => ⟨S1x1x1024, .f32⟩
  | 94 => ⟨S4x2048x1024, .f32⟩
  | 95 => ⟨S4x2048x1024, .f32⟩
  | 96 => ⟨S4x16x128x8x128, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S1x128x128, .i1⟩
  | 109 => ⟨S_, .f32⟩
  | 110 => ⟨S8x128x128, .i1⟩
  | 111 => ⟨S8x128x128, .f32⟩
  | 112 => ⟨S8x128x128, .f32⟩
  | 113 => ⟨S_, .f32⟩
  | 114 => ⟨S8x128x128, .f32⟩
  | 115 => ⟨S8x4x16x128x128, .f32⟩
  | 116 => ⟨S4x16x128x8x128, .f32⟩
  | 117 => ⟨S128x8, .f32⟩
  | 118 => ⟨S1x1x128x8x1, .f32⟩
  | 119 => ⟨S4x16x128x8x128, .f32⟩
  | 120 => ⟨S4x16x128x8x128, .f32⟩
  | 121 => ⟨S4x2048x1024, .f32⟩
  | 122 => ⟨S4x2048x1024, .f32⟩
  | 123 => ⟨S4x2048x1024, .f32⟩
  | 124 => ⟨S4x2048x1024, .f32⟩
  | 125 => ⟨S_, .f32⟩
  | 126 => ⟨S4x2048x1024, .f32⟩
  | 127 => ⟨S4x2048x1024, .f32⟩
  | _ => ⟨S4x2048x1024, .f32⟩

abbrev hbmTy0_1 (i : Nat) : BufTy := match i % 128 with
  | 0 => ⟨S_, .f32⟩
  | 1 => ⟨S4x2048x1024, .f32⟩
  | 2 => ⟨S4x2048x1024, .f32⟩
  | 3 => ⟨S_, .f32⟩
  | 4 => ⟨S4x2048x1024, .f32⟩
  | 5 => ⟨S4x2048x1024, .f32⟩
  | 6 => ⟨S4x2048x1024, .f32⟩
  | 7 => ⟨S4x2048x1024, .f32⟩
  | 8 => ⟨S4x2048x1024, .f32⟩
  | 9 => ⟨S4x2048x1024, .f32⟩
  | 10 => ⟨S_, .f32⟩
  | 11 => ⟨S4x2048x1024, .f32⟩
  | 12 => ⟨S4x2048x1024, .f32⟩
  | 13 => ⟨S_, .f32⟩
  | 14 => ⟨S4x2048x1024, .f32⟩
  | 15 => ⟨S4x2048x1024, .f32⟩
  | 16 => ⟨S_, .f32⟩
  | 17 => ⟨S4x2048x1024, .f32⟩
  | 18 => ⟨S4x2048x1024, .f32⟩
  | 19 => ⟨S4x2048x1024, .f32⟩
  | 20 => ⟨S4x2048x1024, .f32⟩
  | 21 => ⟨S4x2048x1024, .f32⟩
  | 22 => ⟨S4x2048x1024, .f32⟩
  | 23 => ⟨S4x2048x1024, .f32⟩
  | 24 => ⟨S4x2048x1024, .f32⟩
  | 25 => ⟨S4x2048x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S4x16x128x8x128, .f32⟩
  | 33 => ⟨S_, .f32⟩
  | 34 => ⟨S128x8, .f32⟩
  | 35 => ⟨S1x1x128x8x1, .f32⟩
  | 36 => ⟨S_, .f32⟩
  | 37 => ⟨S128x8, .f32⟩
  | 38 => ⟨S8x128, .f32⟩
  | 39 => ⟨S8x4x16x128x128, .f32⟩
  | 40 => ⟨S8x128x128, .f32⟩
  | 41 => ⟨S8x4x16x128x128, .f32⟩
  | 42 => ⟨S4x16x128x8x128, .f32⟩
  | 43 => ⟨S_, .f32⟩
  | 44 => ⟨S8x128x128, .f32⟩
  | 45 => ⟨S8x128x128, .f32⟩
  | 46 => ⟨S4x2048x1024, .f32⟩
  | 47 => ⟨S_, .f32⟩
  | 48 => ⟨S1024, .f32⟩
  | 49 => ⟨S1x1x1024, .f32⟩
  | 50 => ⟨S_, .f32⟩
  | 51 => ⟨S1024, .f32⟩
  | 52 => ⟨S4x2048x1024, .f32⟩
  | 53 => ⟨S_, .f32⟩
  | 54 => ⟨S1024, .f32⟩
  | 55 => ⟨S1x1x1024, .f32⟩
  | 56 => ⟨S4x2048x1024, .f32⟩
  | 57 => ⟨S4x2048x1024, .f32⟩
  | 58 => ⟨S_, .f32⟩
  | 59 => ⟨S1024, .f32⟩
  | 60 => ⟨S4x2048x1024, .f32⟩
  | 61 => ⟨S_, .f32⟩
  | 62 => ⟨S4x2048, .f32⟩
  | 63 => ⟨S4x2048x1, .f32⟩
  | 64 => ⟨S4x2048x1024, .f32⟩
  | 65 => ⟨S4x2048x1024, .f32⟩
  | 66 => ⟨S4x2048x1, .f32⟩
  | 67 => ⟨S_, .f32⟩
  | 68 => ⟨S4x2048x1, .f32⟩
  | 69 => ⟨S4x2048x1, .f32⟩
  | 70 => ⟨S_, .f32⟩
  | 71 => ⟨S4x2048, .f32⟩
  | 72 => ⟨S4x2048x1024, .f32⟩
  | 73 => ⟨S4x2048x1024, .f32⟩
  | 74 => ⟨S4x2048x1024, .f32⟩
  | 75 => ⟨S4x2048x1024, .f32⟩
  | 76 => ⟨S4x2048x1024, .f32⟩
  | 77 => ⟨S4x2048x1024, .f32⟩
  | 78 => ⟨S_, .f32⟩
  | 79 => ⟨S4x2048, .f32⟩
  | 80 => ⟨S4x2048x1, .f32⟩
  | 81 => ⟨S_, .f32⟩
  | 82 => ⟨S4x2048x1, .f32⟩
  | 83 => ⟨S4x2048x1, .f32⟩
  | 84 => ⟨S_, .f32⟩
  | 85 => ⟨S4x2048, .f32⟩
  | 86 => ⟨S4x2048x1024, .f32⟩
  | 87 => ⟨S4x2048x1024, .f32⟩
  | 88 => ⟨S4x2048x1024, .f32⟩
  | 89 => ⟨S4x2048x1024, .f32⟩
  | 90 => ⟨S4x2048x1024, .f32⟩
  | 91 => ⟨S_, .f32⟩
  | 92 => ⟨S1024, .f32⟩
  | 93 => ⟨S1x1x1024, .f32⟩
  | 94 => ⟨S4x2048x1024, .f32⟩
  | 95 => ⟨S4x2048x1024, .f32⟩
  | 96 => ⟨S_, .f32⟩
  | 97 => ⟨S1024, .f32⟩
  | 98 => ⟨S1x1024, .f32⟩
  | 99 => ⟨S_, .f32⟩
  | 100 => ⟨S3x1024, .f32⟩
  | 101 => ⟨S_, .f32⟩
  | 102 => ⟨S4x2050x1024, .f32⟩
  | 103 => ⟨S4x2048x1024, .f32⟩
  | 104 => ⟨S_, .f32⟩
  | 105 => ⟨S1024, .f32⟩
  | 106 => ⟨S1x1x1024, .f32⟩
  | 107 => ⟨S4x2048x1024, .f32⟩
  | 108 => ⟨S4x2048x1024, .f32⟩
  | 109 => ⟨S_, .f32⟩
  | 110 => ⟨S1024, .f32⟩
  | 111 => ⟨S1x1024, .f32⟩
  | 112 => ⟨S_, .f32⟩
  | 113 => ⟨S3x1024, .f32⟩
  | 114 => ⟨S3x1024, .f32⟩
  | 115 => ⟨S_, .f32⟩
  | 116 => ⟨S4x2050x1024, .f32⟩
  | 117 => ⟨S4x2050x1024, .f32⟩
  | 118 => ⟨S4x2048x1024, .f32⟩
  | 119 => ⟨S_, .f32⟩
  | 120 => ⟨S1024, .f32⟩
  | 121 => ⟨S1x1x1024, .f32⟩
  | 122 => ⟨S4x2048x1024, .f32⟩
  | 123 => ⟨S4x2048x1024, .f32⟩
  | 124 => ⟨S_, .f32⟩
  | 125 => ⟨S1024, .f32⟩
  | 126 => ⟨S1x1024, .f32⟩
  | 127 => ⟨S_, .f32⟩
  | _ => ⟨S4x2048x1024, .f32⟩

abbrev hbmTy0_2 (i : Nat) : BufTy := match i % 128 with
  | 0 => ⟨S3x1024, .f32⟩
  | 1 => ⟨S3x1024, .f32⟩
  | 2 => ⟨S_, .f32⟩
  | 3 => ⟨S4x2050x1024, .f32⟩
  | 4 => ⟨S4x2050x1024, .f32⟩
  | 5 => ⟨S4x2x1024, .f32⟩
  | 6 => ⟨S4x2048x1024, .f32⟩
  | 7 => ⟨S4x2048x1024, .f32⟩
  | 8 => ⟨S4x2048x1024, .f32⟩
  | 9 => ⟨S4x2048x7168, .f32⟩
  | 10 => ⟨S4x2048x1024, .f32⟩
  | 11 => ⟨S4x2048x1024, .f32⟩
  | 12 => ⟨S_, .f32⟩
  | 13 => ⟨S1024, .f32⟩
  | 14 => ⟨S1x1x1024, .f32⟩
  | 15 => ⟨S4x2048x1024, .f32⟩
  | 16 => ⟨S4x2048x1024, .f32⟩
  | 17 => ⟨S_, .f32⟩
  | 18 => ⟨S1024, .f32⟩
  | 19 => ⟨S4x2048x1024, .f32⟩
  | 20 => ⟨S_, .f32⟩
  | 21 => ⟨S4x2048, .f32⟩
  | 22 => ⟨S4x2048x1, .f32⟩
  | 23 => ⟨S4x2048x1024, .f32⟩
  | 24 => ⟨S4x2048x1024, .f32⟩
  | 25 => ⟨S4x2048x1024, .f32⟩
  | 26 => ⟨S4x2048x1, .f32⟩
  | 27 => ⟨S_, .f32⟩
  | 28 => ⟨S4x2048x1, .f32⟩
  | 29 => ⟨S4x2048x1, .f32⟩
  | 30 => ⟨S_, .f32⟩
  | 31 => ⟨S4x2048, .f32⟩
  | 32 => ⟨S4x2048x1024, .f32⟩
  | 33 => ⟨S4x2048x1024, .f32⟩
  | 34 => ⟨S4x2048x1024, .f32⟩
  | 35 => ⟨S4x2048x1024, .f32⟩
  | 36 => ⟨S4x2048x1024, .f32⟩
  | 37 => ⟨S8192x7168, .f32⟩
  | 38 => ⟨S8192x7168, .bf16⟩
  | 39 => ⟨S_, .i32⟩
  | 40 => ⟨S_, .f32⟩
  | 41 => ⟨S8x1024, .f32⟩
  | 42 => ⟨S1x1024, .f32⟩
  | 43 => ⟨S1x1024, .f32⟩
  | 44 => ⟨S2x1024, .f32⟩
  | 45 => ⟨S_, .i32⟩
  | 46 => ⟨S_, .f32⟩
  | 47 => ⟨S8x1024, .f32⟩
  | 48 => ⟨S128x8, .f32⟩
  | 49 => ⟨S128x8x128, .f32⟩
  | 50 => ⟨S128x1024, .f32⟩
  | 51 => ⟨S8192x1024, .f32⟩
  | 52 => ⟨S1x1024, .f32⟩
  | 53 => ⟨S_, .i32⟩
  | 54 => ⟨S_, .f32⟩
  | 55 => ⟨S8x1024, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c : Ref sig .tc := ⟨.hbm, 97, rfl⟩
abbrev main_v75 : Ref sig .tc := ⟨.hbm, 98, rfl⟩
abbrev main_call0_v0 : Ref sig .tc := ⟨.hbm, 99, rfl⟩
abbrev main_call0_c : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_c_0 : Ref sig .tc := ⟨.hbm, 105, rfl⟩
abbrev main_call0_v5 : Ref sig .tc := ⟨.hbm, 106, rfl⟩
abbrev main_v76 : Ref sig .tc := ⟨.hbm, 107, rfl⟩
abbrev main_v77 : Ref sig .tc := ⟨.hbm, 108, rfl⟩
abbrev main_cst_11 : Ref sig .tc := ⟨.hbm, 109, rfl⟩
abbrev main_v78_1 : Ref sig .tc := ⟨.hbm, 110, rfl⟩
abbrev main_call1_v1 : Ref sig .tc := ⟨.hbm, 111, rfl⟩
abbrev main_v78_0 : Ref sig .tc := ⟨.hbm, 112, rfl⟩
abbrev main_call1_cst : Ref sig .tc := ⟨.hbm, 113, rfl⟩
abbrev main_v78_2 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_12 : Ref sig .tc := ⟨.hbm, 125, rfl⟩
abbrev main_v89 : Ref sig .tc := ⟨.hbm, 126, rfl⟩
abbrev main_v90 : Ref sig .tc := ⟨.hbm, 127, rfl⟩
abbrev main_cst_13 : Ref sig .tc := ⟨.hbm, 128, rfl⟩
abbrev main_v91 : Ref sig .tc := ⟨.hbm, 129, rfl⟩
abbrev main_v92 : Ref sig .tc := ⟨.hbm, 130, rfl⟩
abbrev main_cst_14 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_15 : Ref sig .tc := ⟨.hbm, 138, rfl⟩
abbrev main_v99 : Ref sig .tc := ⟨.hbm, 139, rfl⟩
abbrev main_v100 : Ref sig .tc := ⟨.hbm, 140, rfl⟩
abbrev main_cst_16 : Ref sig .tc := ⟨.hbm, 141, rfl⟩
abbrev main_v101 : Ref sig .tc := ⟨.hbm, 142, rfl⟩
abbrev main_v102 : Ref sig .tc := ⟨.hbm, 143, rfl⟩
abbrev main_cst_17 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_18 : Ref sig .tc := ⟨.hbm, 161, rfl⟩
abbrev main_v119 : Ref sig .tc := ⟨.hbm, 162, rfl⟩
abbrev main_v120 : Ref sig .tc := ⟨.hbm, 163, rfl⟩
abbrev main_cst_19 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_call2_cst : Ref sig .tc := ⟨.hbm, 171, rfl⟩
abbrev main_call2_v0 : Ref sig .tc := ⟨.hbm, 172, rfl⟩
abbrev main_v127 : Ref sig .tc := ⟨.hbm, 173, rfl⟩
abbrev main_v128 : Ref sig .tc := ⟨.hbm, 174, rfl⟩
abbrev main_cst_20 : Ref sig .tc := ⟨.hbm, 175, rfl⟩
abbrev main_v129 : Ref sig .tc := ⟨.hbm, 176, rfl⟩
abbrev main_v130 : Ref sig .tc := ⟨.hbm, 177, rfl⟩
abbrev main_cst_21 : Ref sig .tc := ⟨.hbm, 178, rfl⟩
abbrev main_v131 : Ref sig .tc := ⟨.hbm, 179, rfl⟩
abbrev main_v132 : Ref sig .tc := ⟨.hbm, 180, rfl⟩
abbrev main_cst_22 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_23 : Ref sig .tc := ⟨.hbm, 186, rfl⟩
abbrev main_v137 : Ref sig .tc := ⟨.hbm, 187, rfl⟩
abbrev main_v138 : Ref sig .tc := ⟨.hbm, 188, rfl⟩
abbrev main_cst_24 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_25 : Ref sig .tc := ⟨.hbm, 195, rfl⟩
abbrev main_v144 : Ref sig .tc := ⟨.hbm, 196, rfl⟩
abbrev main_v145 : Ref sig .tc := ⟨.hbm, 197, rfl⟩
abbrev main_cst_26 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_27 : Ref sig .tc := ⟨.hbm, 206, rfl⟩
abbrev main_v153 : Ref sig .tc := ⟨.hbm, 207, rfl⟩
abbrev main_v154 : Ref sig .tc := ⟨.hbm, 208, rfl⟩
abbrev main_cst_28 : Ref sig .tc := ⟨.hbm, 209, rfl⟩
abbrev main_v155 : Ref sig .tc := ⟨.hbm, 210, rfl⟩
abbrev main_v156 : Ref sig .tc := ⟨.hbm, 211, rfl⟩
abbrev main_cst_29 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_cst_30 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_cst_31 : Ref sig .tc := ⟨.hbm, 224, rfl⟩
abbrev main_v167 : Ref sig .tc := ⟨.hbm, 225, rfl⟩
abbrev main_v168 : Ref sig .tc := ⟨.hbm, 226, rfl⟩
abbrev main_cst_32 : Ref sig .tc := ⟨.hbm, 227, rfl⟩
abbrev main_v169 : Ref sig .tc := ⟨.hbm, 228, rfl⟩
abbrev main_cst_33 : Ref sig .tc := ⟨.hbm, 229, rfl⟩
abbrev main_v170 : Ref sig .tc := ⟨.hbm, 230, rfl⟩
abbrev main_v171 : Ref sig .tc := ⟨.hbm, 231, rfl⟩
abbrev main_cst_34 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_35 : Ref sig .tc := ⟨.hbm, 237, rfl⟩
abbrev main_v176 : Ref sig .tc := ⟨.hbm, 238, rfl⟩
abbrev main_v177 : Ref sig .tc := ⟨.hbm, 239, rfl⟩
abbrev main_cst_36 : Ref sig .tc := ⟨.hbm, 240, rfl⟩
abbrev main_v178 : Ref sig .tc := ⟨.hbm, 241, rfl⟩
abbrev main_v179 : Ref sig .tc := ⟨.hbm, 242, rfl⟩
abbrev main_cst_37 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst_38 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_39 : Ref sig .tc := ⟨.hbm, 252, rfl⟩
abbrev main_v187 : Ref sig .tc := ⟨.hbm, 253, rfl⟩
abbrev main_v188 : Ref sig .tc := ⟨.hbm, 254, rfl⟩
abbrev main_cst_40 : Ref sig .tc := ⟨.hbm, 255, rfl⟩
abbrev main_v189 : Ref sig .tc := ⟨.hbm, 256, rfl⟩
abbrev main_v190 : Ref sig .tc := ⟨.hbm, 257, rfl⟩
abbrev main_cst_41 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_cst_42 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_cst_43 : Ref sig .tc := ⟨.hbm, 273, rfl⟩
abbrev main_v204 : Ref sig .tc := ⟨.hbm, 274, rfl⟩
abbrev main_v205 : Ref sig .tc := ⟨.hbm, 275, rfl⟩
abbrev main_cst_44 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_cst_45 : Ref sig .tc := ⟨.hbm, 283, rfl⟩
abbrev main_v212 : Ref sig .tc := ⟨.hbm, 284, rfl⟩
abbrev main_v213 : Ref sig .tc := ⟨.hbm, 285, rfl⟩
abbrev main_cst_46 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_c_47 : Ref sig .tc := ⟨.hbm, 295, rfl⟩
abbrev main_call3_v0 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_c_48 : Ref sig .tc := ⟨.hbm, 301, rfl⟩
abbrev main_call4_v0 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_c_49 : Ref sig .tc := ⟨.hbm, 309, rfl⟩
abbrev main_call5_v0 : Ref sig .tc := ⟨.hbm, 310, rfl⟩
abbrev main_v232 : Ref sig .tc := ⟨.hbm, 311, rfl⟩

abbrev nD : Nat := 1
abbrev τ : Topo := Topo.v7x

variable {F : FTy → Type} [FloatOps F]
-- ==== Kernel4.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S_ : Shape := ⟨0, ![]⟩
abbrev S8x5632 : Shape := ⟨2, ![8, 5632]⟩
abbrev S8x8x704 : Shape := ⟨3, ![8, 8, 704]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩
abbrev S4x2x5632 : Shape := ⟨3, ![4, 2, 5632]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S4x2048x2816 : Shape := ⟨3, ![4, 2048, 2816]⟩
abbrev S8192x1024 : Shape := ⟨2, ![8192, 1024]⟩
abbrev S8192x5632 : Shape := ⟨2, ![8192, 5632]⟩
abbrev S8192x8x704 : Shape := ⟨3, ![8192, 8, 704]⟩
abbrev S8x8192x704 : Shape := ⟨3, ![8, 8192, 704]⟩
abbrev S1x1024 : Shape := ⟨2, ![1, 1024]⟩
abbrev S8x1024 : Shape := ⟨2, ![8, 1024]⟩
abbrev S256x1024 : Shape := ⟨2, ![256, 1024]⟩
abbrev S8x256x704 : Shape := ⟨3, ![8, 256, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1x8x704 : Shape := ⟨3, ![1, 8, 704]⟩
abbrev S8x704 : Shape := ⟨2, ![8, 704]⟩
abbrev S248x704 : Shape := ⟨2, ![248, 704]⟩
abbrev S1x704 : Shape := ⟨2, ![1, 704]⟩
abbrev S1x1x704 : Shape := ⟨3, ![1, 1, 704]⟩
abbrev S704 : Shape := ⟨1, ![704]⟩
abbrev S256 : Shape := ⟨1, ![256]⟩
abbrev S256x1 : Shape := ⟨2, ![256, 1]⟩

abbrev nBuf : Space → Nat
  | .hbm => 91
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S4x2048x1024, .f32⟩
  | .hbm, ⟨6, _⟩ => ⟨S5632x1024, .f32⟩
  | .hbm, ⟨7, _⟩ => ⟨S8x704x1024, .f32⟩
  | .hbm, ⟨8, _⟩ => ⟨S8x704x1024, .bf16⟩
  | .hbm, ⟨9, _⟩ => ⟨S4x704x1024, .f32⟩
  | .hbm, ⟨10, _⟩ => ⟨S4x704x1024, .bf16⟩
  | .hbm, ⟨11, _⟩ => ⟨S_, .i32⟩
  | .hbm, ⟨12, _⟩ => ⟨S_, .f32⟩
  | .hbm, ⟨13, _⟩ => ⟨S8x5632, .f32⟩
  | .hbm, ⟨14, _⟩ => ⟨S8x8x704, .f32⟩
  | .hbm, ⟨15, _⟩ => ⟨S8x8x704, .f32⟩
  | .hbm, ⟨16, _⟩ => ⟨S4x2048x1024, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x1024, .f32⟩
  | .hbm, ⟨28, _⟩ => ⟨S4x2048x1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S4x2048x5632, .f32⟩
  | .hbm, ⟨33, _⟩ => ⟨S_, .f32⟩
  | .hbm, ⟨34, _⟩ => ⟨S4x2x5632, .f32⟩
  | .hbm, ⟨35, _⟩ => ⟨S4x2050x5632, .f32⟩
  | .hbm, ⟨36, _⟩ => ⟨S4x2048x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S4x2048x5632, .f32⟩
  | .hbm, ⟨41, _⟩ => ⟨S4x2048x5632, .f32⟩
  | .hbm, ⟨42, _⟩ => ⟨S4x2048x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S4x2048x5632, .f32⟩
  | .hbm, ⟨47, _⟩ => ⟨S4x2048x5632, .f32⟩
  | .hbm, ⟨48, _⟩ => ⟨S4x2048x5632, .f32⟩
  | .hbm, ⟨49, _⟩ => ⟨S4x2048x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S4x2048x5632, .f32⟩
  | .hbm, ⟨54, _⟩ => ⟨S4x2048x5632, .f32⟩
  | .hbm, ⟨55, _⟩ => ⟨S4x2048x5632, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S4x2048x2816, .f32⟩
  | .hbm, ⟨60, _⟩ => ⟨S_, .f32⟩
  | .hbm, ⟨61, _⟩ => ⟨S4x2048x2816, .f32⟩
  | .hbm, ⟨62, _⟩ => ⟨S4x2048x2816, .f32⟩
  | .hbm, ⟨63, _⟩ => ⟨S_, .f32⟩
  | .hbm, ⟨64, _⟩ => ⟨S4x2048x2816, .f32⟩
  | .hbm, ⟨65, _⟩ => ⟨S4x2048x2816, .f32⟩
  | .hbm, ⟨66, _⟩ => ⟨S_, .f32⟩
  | .hbm, ⟨67, _⟩ => ⟨S4x2048x2816, .f32⟩
  | .hbm, ⟨68, _⟩ => ⟨S4x2048x2816, .f32⟩
  | .hbm, ⟨69, _⟩ => ⟨S4x2048x2816, .f32⟩
  | .hbm, ⟨70, _⟩ => ⟨S_, .f32⟩
  | .hbm, ⟨71, _⟩ => ⟨S4x2048x2816, .f32⟩
  | .hbm, ⟨72, _⟩ => ⟨S4x2048x2816, .f32⟩
  | .hbm, ⟨73, _⟩ => ⟨S4x2048x2816, .f32⟩
  | .hbm, ⟨74, _⟩ => ⟨S4x2048x2816, .f32⟩
  | .hbm, ⟨75, _⟩ => ⟨S4x2048x2816, .f32⟩
  | .hbm, ⟨76, _⟩ => ⟨S4x2048x5632, .f32⟩
  | .hbm, ⟨77, _⟩ => ⟨S8192x1024, .f32⟩
  | .hbm, ⟨78, _⟩ => ⟨S8192x5632, .f32⟩
  | .hbm, ⟨79, _⟩ => ⟨S8192x8x704, .f32⟩
  | .hbm, ⟨80, _⟩ => ⟨S8x8192x704, .f32⟩
  | .hbm, ⟨81, _⟩ => ⟨S8192x5632, .f32⟩
  | .hbm, ⟨82, _⟩ => ⟨S8192x8x704, .f32⟩
  | .hbm, ⟨83, _⟩ => ⟨S8x8192x704, .f32⟩
  | .hbm, ⟨84, _⟩ => ⟨S8x8192x704, .bf16⟩
  | .hbm, ⟨85, _⟩ => ⟨S8192x1024, .f32⟩
  | .hbm, ⟨86, _⟩ => ⟨S1x1024, .f32⟩
  | .hbm, ⟨87, _⟩ => ⟨S8x8192x704, .bf16⟩
  | .hbm, ⟨88, _⟩ => ⟨S8x8x704, .f32⟩
  | .hbm, ⟨89, _⟩ => ⟨S8192x1024, .f32⟩
  | .hbm, ⟨90, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x256x704, .f32⟩
  | .local _ .vmem, ⟨3, _⟩ => ⟨S8x256x704, .f32⟩
  | .local _ .vmem, ⟨4, _⟩ => ⟨S8x256x704, .bf16⟩
  | .local _ .vmem, ⟨5, _⟩ => ⟨S8x256x704, .bf16⟩
  | .local _ .vmem, ⟨6, _⟩ => ⟨S4x704x1024, .bf16⟩
  | .local _ .vmem, ⟨7, _⟩ => ⟨S8x8x704, .f32⟩
  | .local _ .vmem, ⟨8, _⟩ => ⟨S8x704x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S8x256x704, .bf16⟩
  | .local _ .vmem, ⟨13, _⟩ => ⟨S8x256x704, .bf16⟩
  | .local _ .vmem, ⟨14, _⟩ => ⟨S8x8x704, .f32⟩
  | .local _ .vmem, ⟨15, _⟩ => ⟨S256x1024, .f32⟩
  | .local _ .vmem, ⟨16, _⟩ => ⟨S256x1024, .f32⟩
  | .local _ .vmem, ⟨17, _⟩ => ⟨S8x1024, .f32⟩
  | .local _ .vmem, ⟨18, _⟩ => ⟨S8x8x704, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_3 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71_0 : Ref sig .tc := ⟨.hbm, 87, rfl⟩
abbrev main_v71_1 : Ref sig .tc := ⟨.hbm, 88, rfl⟩
abbrev main_v71_2 : Ref sig .tc := ⟨.hbm, 89, rfl⟩
abbrev main_v71_3 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x8x704 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩
abbrev S4x2x5632 : Shape := ⟨3, ![4, 2, 5632]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S4x2048x2816 : Shape := ⟨3, ![4, 2048, 2816]⟩
abbrev S8192x5632 : Shape := ⟨2, ![8192, 5632]⟩
abbrev S8192x8x704 : Shape := ⟨3, ![8192, 8, 704]⟩
abbrev S8x8192x704 : Shape := ⟨3, ![8, 8192, 704]⟩
abbrev S8x5632 : Shape := ⟨2, ![8, 5632]⟩
abbrev S8x8x704 : Shape := ⟨3, ![8, 8, 704]⟩
abbrev S8192x1024 : Shape := ⟨2, ![8192, 1024]⟩
abbrev S1x1024 : Shape := ⟨2, ![1, 1024]⟩
abbrev S8x1024 : Shape := ⟨2, ![8, 1024]⟩

abbrev nBuf : Space → Nat
  | .hbm => 163
  | .vmem => 0
  | .smem => 0
  | _ => 0

abbrev hbmTy0_0 (i : Nat) : BufTy := match i % 128 with
  | 0 => ⟨S4x2048x1024, .f32⟩
  | 1 => ⟨S1024, .f32⟩
  | 2 => ⟨S1024x5632, .f32⟩
  | 3 => ⟨S3x5632, .f32⟩
  | 4 => ⟨S2816x1024, .f32⟩
  | 5 => ⟨S4x2048x1024, .f32⟩
  | 6 => ⟨S4x2048x1024, .f32⟩
  | 7 => ⟨S_, .f32⟩
  | 8 => ⟨S4x2048, .f32⟩
  | 9 => ⟨S4x2048x1, .f32⟩
  | 10 => ⟨S_, .f32⟩
  | 11 => ⟨S4x2048x1, .f32⟩
  | 12 => ⟨S4x2048x1, .f32⟩
  | 13 => ⟨S_, .f32⟩
  | 14 => ⟨S4x2048x1, .f32⟩
  | 15 => ⟨S4x2048x1, .f32⟩
  | 16 => ⟨S4x2048x1, .f32⟩
  | 17 => ⟨S4x2048x1, .f32⟩
  | 18 => ⟨S_, .f32⟩
  | 19 => ⟨S4x2048x1, .f32⟩
  | 20 => ⟨S4x2048x1, .f32⟩
  | 21 => ⟨S4x2048x1024, .f32⟩
  | 22 => ⟨S4x2048x1024, .f32⟩
  | 23 => ⟨S1x1x1024, .f32⟩
  | 24 => ⟨S4x2048x1024, .f32⟩
  | 25 => ⟨S4x2048x1024, .f32⟩
  | 26 => ⟨S4x2048x5632, .f32⟩
  | 27 => ⟨S_, .f32⟩
  | 28 => ⟨S4x2x5632, .f32⟩
  | 29 => ⟨S4x2050x5632, .f32⟩
  | 30 => ⟨S_, .f32⟩
  | 31 => ⟨S4x2x5632, .f32⟩
  | 32 => ⟨S4x2048x5632, .f32⟩
  | 33 => ⟨S1x5632, .f32⟩
  | 34 => ⟨S5632, .f32⟩
  | 35 => ⟨S1x1x5632, .f32⟩
  | 36 => ⟨S4x2048x5632, .f32⟩
  | 37 => ⟨S4x2048x5632, .f32⟩
  | 38 => ⟨S4x2048x5632, .f32⟩
  | 39 => ⟨S1x5632, .f32⟩
  | 40 => ⟨S5632, .f32⟩
  | 41 => ⟨S1x1x5632, .f32⟩
  | 42 => ⟨S4x2048x5632, .f32⟩
  | 43 => ⟨S4x2048x5632, .f32⟩
  | 44 => ⟨S4x2048x5632, .f32⟩
  | 45 => ⟨S4x2048x5632, .f32⟩
  | 46 => ⟨S1x5632, .f32⟩
  | 47 => ⟨S5632, .f32⟩
  | 48 => ⟨S1x1x5632, .f32⟩
  | 49 => ⟨S4x2048x5632, .f32⟩
  | 50 => ⟨S4x2048x5632, .f32⟩
  | 51 => ⟨S4x2048x5632, .f32⟩
  | 52 => ⟨S4x2048x2816, .f32⟩
  | 53 => ⟨S4x2048x2816, .f32⟩
  | 54 => ⟨S4x2048x2816, .f32⟩
  | 55 => ⟨S4x2048x2816, .f32⟩
  | 56 => ⟨S_, .f32⟩
  | 57 => ⟨S4x2048x2816, .f32⟩
  | 58 => ⟨S4x2048x2816, .f32⟩
  | 59 => ⟨S_, .f32⟩
  | 60 => ⟨S4x2048x2816, .f32⟩
  | 61 => ⟨S4x2048x2816, .f32⟩
  | 62 => ⟨S_, .f32⟩
  | 63 => ⟨S4x2048x2816, .f32⟩
  | 64 => ⟨S4x2048x2816, .f32⟩
  | 65 => ⟨S4x2048x2816, .f32⟩
  | 66 => ⟨S4x2048x2816, .f32⟩
  | 67 => ⟨S4x2048x2816, .f32⟩
  | 68 => ⟨S4x2048x1024, .f32⟩
  | 69 => ⟨S4x2048x2816, .f32⟩
  | 70 => ⟨S4x2048x2816, .f32⟩
  | 71 => ⟨S4x2048x2816, .f32⟩
  | 72 => ⟨S4x2048x2816, .f32⟩
  | 73 => ⟨S4x2048x2816, .f32⟩
  | 74 => ⟨S4x2048x2816, .f32⟩
  | 75 => ⟨S4x2048x2816, .f32⟩
  | 76 => ⟨S4x2048x5632, .f32⟩
  | 77 => ⟨S4x2048x5632, .f32⟩
  | 78 => ⟨S_, .f32⟩
  | 79 => ⟨S5632, .f32⟩
  | 80 => ⟨S1x1x5632, .f32⟩
  | 81 => ⟨S4x2048x5632, .f32⟩
  | 82 => ⟨S4x2048x5632, .f32⟩
  | 83 => ⟨S_, .f32⟩
  | 84 => ⟨S5632, .f32⟩
  | 85 => ⟨S1x5632, .f32⟩
  | 86 => ⟨S_, .f32⟩
  | 87 => ⟨S3x5632, .f32⟩
  | 88 => ⟨S_, .f32⟩
  | 89 => ⟨S4x2050x5632, .f32⟩
  | 90 => ⟨S4x2048x5632, .f32⟩
  | 91 => ⟨S_, .f32⟩
  | 92 => ⟨S5632, .f32⟩
  | 93 => ⟨S1x1x5632, .f32⟩
  | 94 => ⟨S4x2048x5632, .f32⟩
  | 95 => ⟨S4x2048x5632, .f32⟩
  | 96 => ⟨S_, .f32⟩
  | 97 => ⟨S5632, .f32⟩
  | 98 => ⟨S1x5632, .f32⟩
  | 99 => ⟨S_, .f32⟩
  | 100 => ⟨S3x5632, .f32⟩
  | 101 => ⟨S3x5632, .f32⟩
  | 102 => ⟨S_, .f32⟩
  | 103 => ⟨S4x2050x5632, .f32⟩
  | 104 => ⟨S4x2050x5632, .f32⟩
  | 105 => ⟨S4x2048x5632, .f32⟩
  | 106 => ⟨S_, .f32⟩
  | 107 => ⟨S5632, .f32⟩
  | 108 => ⟨S1x1x5632, .f32⟩
  | 109 => ⟨S4x2048x5632, .f32⟩
  | 110 => ⟨S4x2048x5632, .f32⟩
  | 111 => ⟨S_, .f32⟩
  | 112 => ⟨S5632, .f32⟩
  | 113 => ⟨S1x5632, .f32⟩
  | 114 => ⟨S_, .f32⟩
  | 115 => ⟨S3x5632, .f32⟩
  | 116 => ⟨S3x5632, .f32⟩
  | 117 => ⟨S_, .f32⟩
  | 118 => ⟨S4x2050x5632, .f32⟩
  | 119 => ⟨S4x2050x5632, .f32⟩
  | 120 => ⟨S4x2x5632, .f32⟩
  | 121 => ⟨S4x2048x5632, .f32⟩
  | 122 => ⟨S4x2048x1024, .f32⟩
  | 123 => ⟨S4x2048x1024, .f32⟩
  | 124 => ⟨S_, .f32⟩
  | 125 => ⟨S1024, .f32⟩
  | 126 => ⟨S1x1x1024, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S_, .f32⟩
  | 2 => ⟨S1024, .f32⟩
  | 3 => ⟨S4x2048x1024, .f32⟩
  | 4 => ⟨S_, .f32⟩
  | 5 => ⟨S4x2048, .f32⟩
  | 6 => ⟨S4x2048x1, .f32⟩
  | 7 => ⟨S4x2048x1024, .f32⟩
  | 8 => ⟨S4x2048x1024, .f32⟩
  | 9 => ⟨S4x2048x1024, .f32⟩
  | 10 => ⟨S4x2048x1, .f32⟩
  | 11 => ⟨S_, .f32⟩
  | 12 => ⟨S4x2048x1, .f32⟩
  | 13 => ⟨S4x2048x1, .f32⟩
  | 14 => ⟨S_, .f32⟩
  | 15 => ⟨S4x2048, .f32⟩
  | 16 => ⟨S4x2048x1024, .f32⟩
  | 17 => ⟨S4x2048x1024, .f32⟩
  | 18 => ⟨S4x2048x1024, .f32⟩
  | 19 => ⟨S4x2048x1024, .f32⟩
  | 20 => ⟨S4x2048x1024, .f32⟩
  | 21 => ⟨S8192x5632, .f32⟩
  | 22 => ⟨S8192x8x704, .f32⟩
  | 23 => ⟨S8x8192x704, .f32⟩
  | 24 => ⟨S8x8192x704, .bf16⟩
  | 25 => ⟨S_, .i32⟩
  | 26 => ⟨S_, .f32⟩
  | 27 => ⟨S8x5632, .f32⟩
  | 28 => ⟨S8x8x704, .f32⟩
  | 29 => ⟨S8x8x704, .f32⟩
  | 30 => ⟨S8192x1024, .f32⟩
  | 31 => ⟨S1x1024, .f32⟩
  | 32 => ⟨S_, .i32⟩
  | 33 => ⟨S_, .f32⟩
  | 34 => ⟨S8x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v42_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v42_1 : Ref sig .tc := ⟨.hbm, 65, rfl⟩
abbrev main_v42_0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_6 : Ref sig .tc := ⟨.hbm, 83, rfl⟩
abbrev main_v55 : Ref sig .tc := ⟨.hbm, 84, rfl⟩
abbrev main_v56 : Ref sig .tc := ⟨.hbm, 85, rfl⟩
abbrev main_cst_7 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_cst_16 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_17 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_20 : Ref sig .tc := ⟨.hbm, 139, rfl⟩
abbrev main_v97 : Ref sig .tc := ⟨.hbm, 140, rfl⟩
abbrev main_v98 : Ref sig .tc := ⟨.hbm, 141, rfl⟩
abbrev main_cst_21 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_c : Ref sig .tc := ⟨.hbm, 153, rfl⟩
abbrev main_call2_v0 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_22 : Ref sig .tc := ⟨.hbm, 160, rfl⟩
abbrev main_call3_v0 : Ref sig .tc := ⟨.hbm, 161, rfl⟩
abbrev main_v114 : Ref sig .tc := ⟨.hbm, 162, rfl⟩

abbrev nD : Nat := 1
abbrev τ : Topo := Topo.v7x

variable {F : FTy → Type} [FloatOps F]
-- ==== Kernel5.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S8192x1024 : Shape := ⟨2, ![8192, 1024]⟩
abbrev S1x1024 : Shape := ⟨2, ![1, 1024]⟩
abbrev S_ : Shape := ⟨0, ![]⟩
abbrev S8x5632 : Shape := ⟨2, ![8, 5632]⟩
abbrev S8x8x704 : Shape := ⟨3, ![8, 8, 704]⟩
abbrev S8x8192x704 : Shape := ⟨3, ![8, 8192, 704]⟩
abbrev S4x8192x704 : Shape := ⟨3, ![4, 8192, 704]⟩
abbrev S8x1024 : Shape := ⟨2, ![8, 1024]⟩
abbrev S8x128 : Shape := ⟨2, ![8, 128]⟩
abbrev S256x1024 : Shape := ⟨2, ![256, 1024]⟩
abbrev S8x256x704 : Shape := ⟨3, ![8, 256, 704]⟩
abbrev S4x256x704 : Shape := ⟨3, ![4, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1x8x704 : Shape := ⟨3, ![1, 8, 704]⟩
abbrev S8x704 : Shape := ⟨2, ![8, 704]⟩
abbrev S248x704 : Shape := ⟨2, ![248, 704]⟩
abbrev S1x704 : Shape := ⟨2, ![1, 704]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 28
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S4x2048x1024, .f32⟩
  | .hbm, ⟨7, _⟩ => ⟨S5632x1024, .f32⟩
  | .hbm, ⟨8, _⟩ => ⟨S8x704x1024, .f32⟩
  | .hbm, ⟨9, _⟩ => ⟨S8x704x1024, .bf16⟩
  | .hbm, ⟨10, _⟩ => ⟨S4x704x1024, .f32⟩
  | .hbm, ⟨11, _⟩ => ⟨S4x704x1024, .bf16⟩
  | .hbm, ⟨12, _⟩ => ⟨S8192x1024, .f32⟩
  | .hbm, ⟨13, _⟩ => ⟨S1x1024, .f32⟩
  | .hbm, ⟨14, _⟩ => ⟨S_, .i32⟩
  | .hbm, ⟨15, _⟩ => ⟨S_, .f32⟩
  | .hbm, ⟨16, _⟩ => ⟨S8x5632, .f32⟩
  | .hbm, ⟨17, _⟩ => ⟨S8x8x704, .f32⟩
  | .hbm, ⟨18, _⟩ => ⟨S8x8x704, .f32⟩
  | .hbm, ⟨19, _⟩ => ⟨S1x1024, .f32⟩
  | .hbm, ⟨20, _⟩ => ⟨S8192x1024, .f32⟩
  | .hbm, ⟨21, _⟩ => ⟨S8192x1024, .bf16⟩
  | .hbm, ⟨22, _⟩ => ⟨S8x8192x704, .f32⟩
  | .hbm, ⟨23, _⟩ => ⟨S8x8192x704, .bf16⟩
  | .hbm, ⟨24, _⟩ => ⟨S4x8192x704, .bf16⟩
  | .hbm, ⟨25, _⟩ => ⟨S8192x1024, .f32⟩
  | .hbm, ⟨26, _⟩ => ⟨S8x1024, .f32⟩
  | .hbm, ⟨27, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x704x1024, .bf16⟩
  | .local _ .vmem, ⟨4, _⟩ => ⟨S4x704x1024, .bf16⟩
  | .local _ .vmem, ⟨5, _⟩ => ⟨S8x8x704, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S8x256x704, .f32⟩
  | .local _ .vmem, ⟨12, _⟩ => ⟨S8x256x704, .f32⟩
  | .local _ .vmem, ⟨13, _⟩ => ⟨S8x256x704, .bf16⟩
  | .local _ .vmem, ⟨14, _⟩ => ⟨S8x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S256x1024, .f32⟩
  | .local _ .vmem, ⟨18, _⟩ => ⟨S256x1024, .f32⟩
  | .local _ .vmem, ⟨19, _⟩ => ⟨S8x1024, .f32⟩
  | .local _ .vmem, ⟨20, _⟩ => ⟨S8x128, .f32⟩
  | .local _ .vmem, ⟨21, _⟩ => ⟨S8x8x704, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev main_v12_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩
abbrev S4x2x5632 : Shape := ⟨3, ![4, 2, 5632]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S4x2048x2816 : Shape := ⟨3, ![4, 2048, 2816]⟩
abbrev S8192x1024 : Shape := ⟨2, ![8192, 1024]⟩
abbrev S8192x5632 : Shape := ⟨2, ![8192, 5632]⟩
abbrev S8192x8x704 : Shape := ⟨3, ![8192, 8, 704]⟩
abbrev S8x8192x704 : Shape := ⟨3, ![8, 8192, 704]⟩
abbrev S8192x4x704 : Shape := ⟨3, ![8192, 4, 704]⟩
abbrev S4x8192x704 : Shape := ⟨3, ![4, 8192, 704]⟩
abbrev S1x1024 : Shape := ⟨2, ![1, 1024]⟩
abbrev S8x1024 : Shape := ⟨2, ![8, 1024]⟩
abbrev S8x128 : Shape := ⟨2, ![8, 128]⟩

abbrev nBuf : Space → Nat
  | .hbm => 160
  | .vmem => 0
  | .smem => 0
  | _ => 0

abbrev hbmTy0_0 (i : Nat) : BufTy := match i % 128 with
  | 0 => ⟨S4x2048x1024, .f32⟩
  | 1 => ⟨S1024, .f32⟩
  | 2 => ⟨S1024x5632, .f32⟩
  | 3 => ⟨S3x5632, .f32⟩
  | 4 => ⟨S2816x1024, .f32⟩
  | 5 => ⟨S1024, .f32⟩
  | 6 => ⟨S4x2048x1024, .f32⟩
  | 7 => ⟨S4x2048x1024, .f32⟩
  | 8 => ⟨S_, .f32⟩
  | 9 => ⟨S4x2048, .f32⟩
  | 10 => ⟨S4x2048x1, .f32⟩
  | 11 => ⟨S_, .f32⟩
  | 12 => ⟨S4x2048x1, .f32⟩
  | 13 => ⟨S4x2048x1, .f32⟩
  | 14 => ⟨S_, .f32⟩
  | 15 => ⟨S4x2048x1, .f32⟩
  | 16 => ⟨S4x2048x1, .f32⟩
  | 17 => ⟨S4x2048x1, .f32⟩
  | 18 => ⟨S4x2048x1024, .f32⟩
  | 19 => ⟨S4x2048x1024, .f32⟩
  | 20 => ⟨S1x1x1024, .f32⟩
  | 21 => ⟨S4x2048x1024, .f32⟩
  | 22 => ⟨S4x2048x1024, .f32⟩
  | 23 => ⟨S4x2048x5632, .f32⟩
  | 24 => ⟨S_, .f32⟩
  | 25 => ⟨S4x2x5632, .f32⟩
  | 26 => ⟨S4x2050x5632, .f32⟩
  | 27 => ⟨S4x2048x5632, .f32⟩
  | 28 => ⟨S1x5632, .f32⟩
  | 29 => ⟨S5632, .f32⟩
  | 30 => ⟨S1x1x5632, .f32⟩
  | 31 => ⟨S4x2048x5632, .f32⟩
  | 32 => ⟨S4x2048x5632, .f32⟩
  | 33 => ⟨S4x2048x5632, .f32⟩
  | 34 => ⟨S1x5632, .f32⟩
  | 35 => ⟨S5632, .f32⟩
  | 36 => ⟨S1x1x5632, .f32⟩
  | 37 => ⟨S4x2048x5632, .f32⟩
  | 38 => ⟨S4x2048x5632, .f32⟩
  | 39 => ⟨S4x2048x5632, .f32⟩
  | 40 => ⟨S4x2048x5632, .f32⟩
  | 41 => ⟨S1x5632, .f32⟩
  | 42 => ⟨S5632, .f32⟩
  | 43 => ⟨S1x1x5632, .f32⟩
  | 44 => ⟨S4x2048x5632, .f32⟩
  | 45 => ⟨S4x2048x5632, .f32⟩
  | 46 => ⟨S4x2048x5632, .f32⟩
  | 47 => ⟨S4x2048x2816, .f32⟩
  | 48 => ⟨S4x2048x2816, .f32⟩
  | 49 => ⟨S4x2048x2816, .f32⟩
  | 50 => ⟨S4x2048x2816, .f32⟩
  | 51 => ⟨S_, .f32⟩
  | 52 => ⟨S4x2048x2816, .f32⟩
  | 53 => ⟨S4x2048x2816, .f32⟩
  | 54 => ⟨S_, .f32⟩
  | 55 => ⟨S4x2048x2816, .f32⟩
  | 56 => ⟨S4x2048x2816, .f32⟩
  | 57 => ⟨S_, .f32⟩
  | 58 => ⟨S4x2048x2816, .f32⟩
  | 59 => ⟨S4x2048x2816, .f32⟩
  | 60 => ⟨S4x2048x2816, .f32⟩
  | 61 => ⟨S4x2048x2816, .f32⟩
  | 62 => ⟨S4x2048x2816, .f32⟩
  | 63 => ⟨S_, .f32⟩
  | 64 => ⟨S4x2048x2816, .f32⟩
  | 65 => ⟨S4x2048x2816, .f32⟩
  | 66 => ⟨S4x2048x2816, .f32⟩
  | 67 => ⟨S4x2048x2816, .f32⟩
  | 68 => ⟨S4x2048x2816, .f32⟩
  | 69 => ⟨S4x2048x2816, .f32⟩
  | 70 => ⟨S4x2048x2816, .f32⟩
  | 71 => ⟨S4x2048x1024, .f32⟩
  | 72 => ⟨S4x2048x1024, .f32⟩
  | 73 => ⟨S4x2048x1024, .f32⟩
  | 74 => ⟨S_, .f32⟩
  | 75 => ⟨S4x2048, .f32⟩
  | 76 => ⟨S4x2048x1, .f32⟩
  | 77 => ⟨S_, .f32⟩
  | 78 => ⟨S4x2048x1, .f32⟩
  | 79 => ⟨S4x2048x1, .f32⟩
  | 80 => ⟨S_, .f32⟩
  | 81 => ⟨S4x2048x1, .f32⟩
  | 82 => ⟨S4x2048x1, .f32⟩
  | 83 => ⟨S4x2048x1, .f32⟩
  | 84 => ⟨S4x2048x1, .f32⟩
  | 85 => ⟨S_, .f32⟩
  | 86 => ⟨S4x2048x1, .f32⟩
  | 87 => ⟨S4x2048x1, .f32⟩
  | 88 => ⟨S4x2048x1024, .f32⟩
  | 89 => ⟨S4x2048x1024, .f32⟩
  | 90 => ⟨S1x1x1024, .f32⟩
  | 91 => ⟨S4x2048x1024, .f32⟩
  | 92 => ⟨S4x2048x1024, .f32⟩
  | 93 => ⟨S4x2048x1024, .f32⟩
  | 94 => ⟨S4x2048x1024, .f32⟩
  | 95 => ⟨S_, .f32⟩
  | 96 => ⟨S4x2048x1024, .f32⟩
  | 97 => ⟨S4x2048x1024, .f32⟩
  | 98 => ⟨S_, .f32⟩
  | 99 => ⟨S4x2048, .f32⟩
  | 100 => ⟨S_, .f32⟩
  | 101 => ⟨S4x2048, .f32⟩
  | 102 => ⟨S4x2048, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S4x2048, .f32⟩
  | 111 => ⟨S_, .f32⟩
  | 112 => ⟨S4x2048, .f32⟩
  | 113 => ⟨S4x2048, .f32⟩
  | 114 => ⟨S4x2048x1024, .f32⟩
  | 115 => ⟨S4x2048x1024, .f32⟩
  | 116 => ⟨S4x2048x1024, .f32⟩
  | 117 => ⟨S_, .f32⟩
  | 118 => ⟨S1024, .f32⟩
  | 119 => ⟨S1x1x1024, .f32⟩
  | 120 => ⟨S4x2048x1024, .f32⟩
  | 121 => ⟨S4x2048x1024, .f32⟩
  | 122 => ⟨S_, .f32⟩
  | 123 => ⟨S1024, .f32⟩
  | 124 => ⟨S4x2048x1024, .f32⟩
  | 125 => ⟨S_, .f32⟩
  | 126 => ⟨S4x2048, .f32⟩
  | 127 => ⟨S4x2048x1, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S4x2048x1, .f32⟩
  | 3 => ⟨S_, .f32⟩
  | 4 => ⟨S4x2048x1, .f32⟩
  | 5 => ⟨S4x2048x1, .f32⟩
  | 6 => ⟨S_, .f32⟩
  | 7 => ⟨S4x2048, .f32⟩
  | 8 => ⟨S4x2048x1024, .f32⟩
  | 9 => ⟨S4x2048x1024, .f32⟩
  | 10 => ⟨S4x2048x1024, .f32⟩
  | 11 => ⟨S4x2048x1024, .f32⟩
  | 12 => ⟨S4x2048x1024, .f32⟩
  | 13 => ⟨S4x2048x5632, .f32⟩
  | 14 => ⟨S8192x1024, .f32⟩
  | 15 => ⟨S8192x1024, .bf16⟩
  | 16 => ⟨S8192x5632, .f32⟩
  | 17 => ⟨S8192x8x704, .f32⟩
  | 18 => ⟨S8x8192x704, .f32⟩
  | 19 => ⟨S8192x5632, .f32⟩
  | 20 => ⟨S8192x8x704, .f32⟩
  | 21 => ⟨S8x8192x704, .f32⟩
  | 22 => ⟨S8x8192x704, .bf16⟩
  | 23 => ⟨S8192x4x704, .f32⟩
  | 24 => ⟨S4x8192x704, .f32⟩
  | 25 => ⟨S4x8192x704, .bf16⟩
  | 26 => ⟨S8192x1024, .f32⟩
  | 27 => ⟨S1x1024, .f32⟩
  | 28 => ⟨S_, .i32⟩
  | 29 => ⟨S_, .f32⟩
  | 30 => ⟨S8x1024, .f32⟩
  | 31 => ⟨S8x128, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v38_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v38_1 : Ref sig .tc := ⟨.hbm, 60, rfl⟩
abbrev main_v38_0 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_4 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_7 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_8 : Ref sig .tc := ⟨.hbm, 95, rfl⟩
abbrev main_v64 : Ref sig .tc := ⟨.hbm, 96, rfl⟩
abbrev main_v65 : Ref sig .tc := ⟨.hbm, 97, rfl⟩
abbrev main_cst_9 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_cst_12 : Ref sig .tc := ⟨.hbm, 105, rfl⟩
abbrev main_v70 : Ref sig .tc := ⟨.hbm, 106, rfl⟩
abbrev main_cst_13 : Ref sig .tc := ⟨.hbm, 107, rfl⟩
abbrev main_cst_14 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_16 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_17 : Ref sig .tc := ⟨.hbm, 122, rfl⟩
abbrev main_v82 : Ref sig .tc := ⟨.hbm, 123, rfl⟩
abbrev main_v83 : Ref sig .tc := ⟨.hbm, 124, rfl⟩
abbrev main_cst_18 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_v90 : Ref sig .tc := ⟨.hbm, 133, rfl⟩
abbrev main_cst_20 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_c : Ref sig .tc := ⟨.hbm, 156, rfl⟩
abbrev main_call2_v0 : Ref sig .tc := ⟨.hbm, 157, rfl⟩
abbrev main_v112 : Ref sig .tc := ⟨.hbm, 158, rfl⟩
abbrev main_v113 : Ref sig .tc := ⟨.hbm, 159, rfl⟩

abbrev nD : Nat := 1
abbrev τ : Topo := Topo.v7x

variable {F : FTy → Type} [FloatOps F]
-- ==== Kernel6.lean ====
abbrev S4x2048x1024 : Shape := ⟨3, ![4, 2048, 1024]⟩
abbrev S1024 : Shape := ⟨1, ![1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S1024x1024 : Shape := ⟨2, ![1024, 1024]⟩
abbrev S8192x1024 : Shape := ⟨2, ![8192, 1024]⟩
abbrev S1x1024 : Shape := ⟨2, ![1, 1024]⟩
abbrev S1024x8x896 : Shape := ⟨3, ![1024, 8, 896]⟩
abbrev S8x1024x896 : Shape := ⟨3, ![8, 1024, 896]⟩
abbrev S_ : Shape := ⟨0, ![]⟩
abbrev S8x1024 : Shape := ⟨2, ![8, 1024]⟩
abbrev S128x8 : Shape := ⟨2, ![128, 8]⟩
abbrev S128x8x128 : Shape := ⟨3, ![128, 8, 128]⟩
abbrev S128x1024 : Shape := ⟨2, ![128, 1024]⟩
abbrev S8192x10240 : Shape := ⟨2, ![8192, 10240]⟩
abbrev S256x1024 : Shape := ⟨2, ![256, 1024]⟩
abbrev S256x10240 : Shape := ⟨2, ![256, 10240]⟩
abbrev S256x7168 : Shape := ⟨2, ![256, 7168]⟩
abbrev S256 : Shape := ⟨1, ![256]⟩
abbrev S256x1 : Shape := ⟨2, ![256, 1]⟩
abbrev S1x1024x896 : Shape := ⟨3, ![1, 1024, 896]⟩
abbrev S1024x896 : Shape := ⟨2, ![1024, 896]⟩
abbrev S1024x1792 : Shape := ⟨2, ![1024, 1792]⟩
abbrev S256x1792 : Shape := ⟨2, ![256, 1792]⟩
abbrev S248x1024 : Shape := ⟨2, ![248, 1024]⟩
abbrev S128x128 : Shape := ⟨2, ![128, 128]⟩
abbrev S1x128x128 : Shape := ⟨3, ![1, 128, 128]⟩

abbrev nBuf : Space → Nat
  | .hbm => 27
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7168, .f32⟩
  | .hbm, ⟨3, _⟩ => ⟨S3x1024, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S8192x1024, .f32⟩
  | .hbm, ⟨10, _⟩ => ⟨S1x1024, .f32⟩
  | .hbm, ⟨11, _⟩ => ⟨S1024x8x896, .f32⟩
  | .hbm, ⟨12, _⟩ => ⟨S8x1024x896, .f32⟩
  | .hbm, ⟨13, _⟩ => ⟨S8x1024x896, .bf16⟩
  | .hbm, ⟨14, _⟩ => ⟨S1024x1024, .bf16⟩
  | .hbm, ⟨15, _⟩ => ⟨S_, .i32⟩
  | .hbm, ⟨16, _⟩ => ⟨S_, .f32⟩
  | .hbm, ⟨17, _⟩ => ⟨S8x1024, .f32⟩
  | .hbm, ⟨18, _⟩ => ⟨S1x1024, .f32⟩
  | .hbm, ⟨19, _⟩ => ⟨S1x1024, .f32⟩
  | .hbm, ⟨20, _⟩ => ⟨S128x8, .f32⟩
  | .hbm, ⟨21, _⟩ => ⟨S128x8x128, .f32⟩
  | .hbm, ⟨22, _⟩ => ⟨S128x1024, .f32⟩
  | .hbm, ⟨23, _⟩ => ⟨S8192x1024, .bf16⟩
  | .hbm, ⟨24, _⟩ => ⟨S8192x1024, .bf16⟩
  | .hbm, ⟨25, _⟩ => ⟨S8192x1024, .f32⟩
  | .hbm, ⟨26, _⟩ => ⟨S8192x10240, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x896, .bf16⟩
  | .local _ .vmem, ⟨4, _⟩ => ⟨S1024x1024, .bf16⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x10240, .bf16⟩
  | .local _ .vmem, ⟨17, _⟩ => ⟨S256x10240, .bf16⟩
  | .local _ .vmem, ⟨18, _⟩ => ⟨S256x7168, .f32⟩
  | .local _ .vmem, ⟨19, _⟩ => ⟨S256x1024, .f32⟩
  | .local _ .vmem, ⟨20, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x10240 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S4x2048x1024 : Shape := ⟨3, ![4, 2048, 1024]⟩
abbrev S1024 : Shape := ⟨1, ![1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x7168 : Shape := ⟨3, ![4, 2048, 7168]⟩
abbrev S4x2x1024 : Shape := ⟨3, ![4, 2, 1024]⟩
abbrev S4x2050x1024 : Shape := ⟨3, ![4, 2050, 1024]⟩
abbrev S1x1024 : Shape := ⟨2, ![1, 1024]⟩
abbrev S4x16x128x8x128 : Shape := ⟨5, ![4, 16, 128, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S4x2048x10240 : Shape := ⟨3, ![4, 2048, 10240]⟩
abbrev S8192x1024 : Shape := ⟨2, ![8192, 1024]⟩
abbrev S8192x10240 : Shape := ⟨2, ![8192, 10240]⟩

abbrev nBuf : Space → Nat
  | .hbm => 139
  | .vmem => 0
  | .smem => 0
  | _ => 0

abbrev hbmTy0_0 (i : Nat) : BufTy := match i % 128 with
  | 0 => ⟨S4x2048x1024, .f32⟩
  | 1 => ⟨S1024, .f32⟩
  | 2 => ⟨S1024x7168, .f32⟩
  | 3 => ⟨S3x1024, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S4x2048x1024, .f32⟩
  | 10 => ⟨S_, .f32⟩
  | 11 => ⟨S4x2048, .f32⟩
  | 12 => ⟨S4x2048x1, .f32⟩
  | 13 => ⟨S_, .f32⟩
  | 14 => ⟨S4x2048x1, .f32⟩
  | 15 => ⟨S4x2048x1, .f32⟩
  | 16 => ⟨S_, .f32⟩
  | 17 => ⟨S4x2048x1, .f32⟩
  | 18 => ⟨S4x2048x1, .f32⟩
  | 19 => ⟨S4x2048x1, .f32⟩
  | 20 => ⟨S4x2048x1024, .f32⟩
  | 21 => ⟨S4x2048x1024, .f32⟩
  | 22 => ⟨S1x1x1024, .f32⟩
  | 23 => ⟨S4x2048x1024, .f32⟩
  | 24 => ⟨S4x2048x1024, .f32⟩
  | 25 => ⟨S4x2048x7168, .f32⟩
  | 26 => ⟨S4x2048x1024, .f32⟩
  | 27 => ⟨S4x2048x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S4x2048x1024, .f32⟩
  | 33 => ⟨S4x2048x1024, .f32⟩
  | 34 => ⟨S_, .f32⟩
  | 35 => ⟨S4x2x1024, .f32⟩
  | 36 => ⟨S4x2050x1024, .f32⟩
  | 37 => ⟨S4x2048x1024, .f32⟩
  | 38 => ⟨S1x1024, .f32⟩
  | 39 => ⟨S1024, .f32⟩
  | 40 => ⟨S1x1x1024, .f32⟩
  | 41 => ⟨S4x2048x1024, .f32⟩
  | 42 => ⟨S4x2048x1024, .f32⟩
  | 43 => ⟨S4x2048x1024, .f32⟩
  | 44 => ⟨S1x1024, .f32⟩
  | 45 => ⟨S1024, .f32⟩
  | 46 => ⟨S1x1x1024, .f32⟩
  | 47 => ⟨S4x2048x1024, .f32⟩
  | 48 => ⟨S4x2048x1024, .f32⟩
  | 49 => ⟨S4x2048x1024, .f32⟩
  | 50 => ⟨S4x2048x1024, .f32⟩
  | 51 => ⟨S1x1024, .f32⟩
  | 52 => ⟨S1024, .f32⟩
  | 53 => ⟨S1x1x1024, .f32⟩
  | 54 => ⟨S4x2048x1024, .f32⟩
  | 55 => ⟨S4x2048x1024, .f32⟩
  | 56 => ⟨S4x2048x1024, .f32⟩
  | 57 => ⟨S_, .f32⟩
  | 58 => ⟨S4x2048, .f32⟩
  | 59 => ⟨S4x2048x1, .f32⟩
  | 60 => ⟨S_, .f32⟩
  | 61 => ⟨S4x2048x1, .f32⟩
  | 62 => ⟨S4x2048x1, .f32⟩
  | 63 => ⟨S4x2048x1024, .f32⟩
  | 64 => ⟨S4x2048x1024, .f32⟩
  | 65 => ⟨S4x2048x1024, .f32⟩
  | 66 => ⟨S_, .f32⟩
  | 67 => ⟨S4x2048, .f32⟩
  | 68 => ⟨S4x2048x1, .f32⟩
  | 69 => ⟨S_, .f32⟩
  | 70 => ⟨S4x2048x1, .f32⟩
  | 71 => ⟨S4x2048x1, .f32⟩
  | 72 => ⟨S_, .f32⟩
  | 73 => ⟨S4x2048x1, .f32⟩
  | 74 => ⟨S4x2048x1, .f32⟩
  | 75 => ⟨S4x2048x1, .f32⟩
  | 76 => ⟨S4x2048x1024, .f32⟩
  | 77 => ⟨S4x2048x1024, .f32⟩
  | 78 => ⟨S1x1x1024, .f32⟩
  | 79 => ⟨S4x2048x1024, .f32⟩
  | 80 => ⟨S4x2048x1024, .f32⟩
  | 81 => ⟨S1x1x1024, .f32⟩
  | 82 => ⟨S4x2048x1024, .f32⟩
  | 83 => ⟨S4x2048x1024, .f32⟩
  | 84 => ⟨S4x16x128x8x128, .f32⟩
  | 85 => ⟨S_, .i1⟩
  | 86 => ⟨S128x128, .i1⟩
  | 87 => ⟨S128x128, .i32⟩
  | 88 => ⟨S_, .i32⟩
  | 89 => ⟨S128x128, .i32⟩
  | 90 => ⟨S128x128, .i32⟩
  | 91 => ⟨S128x128, .i32⟩
  | 92 => ⟨S128x128, .i1⟩
  | 93 => ⟨S_, .i1⟩
  | 94 => ⟨S128x128, .i1⟩
  | 95 => ⟨S128x128, .i1⟩
  | 96 => ⟨S1x128x128, .i1⟩
  | 97 => ⟨S_, .f32⟩
  | 98 => ⟨S8x128x128, .i1⟩
  | 99 => ⟨S8x128x128, .f32⟩
  | 100 => ⟨S8x128x128, .f32⟩
  | 101 => ⟨S8x4x16x128x128, .f32⟩
  | 102 => ⟨S4x16x128x8x128, .f32⟩
  | 103 => ⟨S128x8, .f32⟩
  | 104 => ⟨S1x1x128x8x1, .f32⟩
  | 105 => ⟨S4x16x128x8x128, .f32⟩
  | 106 => ⟨S4x16x128x8x128, .f32⟩
  | 107 => ⟨S4x2048x1024, .f32⟩
  | 108 => ⟨S4x2048x1024, .f32⟩
  | 109 => ⟨S4x2048x1024, .f32⟩
  | 110 => ⟨S_, .f32⟩
  | 111 => ⟨S4x2048x1024, .f32⟩
  | 112 => ⟨S4x2048x1024, .f32⟩
  | 113 => ⟨S_, .f32⟩
  | 114 => ⟨S4x2048x1024, .f32⟩
  | 115 => ⟨S4x2048x1024, .f32⟩
  | 116 => ⟨S4x2048x1024, .f32⟩
  | 117 => ⟨S4x2048x1024, .f32⟩
  | 118 => ⟨S_, .f32⟩
  | 119 => ⟨S4x2048x1024, .f32⟩
  | 120 => ⟨S4x2048x1024, .f32⟩
  | 121 => ⟨S_, .f32⟩
  | 122 => ⟨S4x2048x1024, .f32⟩
  | 123 => ⟨S4x2048x1024, .f32⟩
  | 124 => ⟨S4x2048x1024, .f32⟩
  | 125 => ⟨S4x2048x1024, .f32⟩
  | 126 => ⟨S4x2048x1024, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S4x2048x1024, .f32⟩
  | 3 => ⟨S4x2048x10240, .f32⟩
  | 4 => ⟨S8192x1024, .f32⟩
  | 5 => ⟨S8192x1024, .bf16⟩
  | 6 => ⟨S8192x1024, .f32⟩
  | 7 => ⟨S8192x1024, .bf16⟩
  | 8 => ⟨S8192x1024, .f32⟩
  | 9 => ⟨S8192x10240, .f32⟩
  | 10 => ⟨S8192x10240, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c : Ref sig .tc := ⟨.hbm, 85, rfl⟩
abbrev main_v67 : Ref sig .tc := ⟨.hbm, 86, rfl⟩
abbrev main_call0_v0 : Ref sig .tc := ⟨.hbm, 87, rfl⟩
abbrev main_call0_c : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_c_0 : Ref sig .tc := ⟨.hbm, 93, rfl⟩
abbrev main_call0_v5 : Ref sig .tc := ⟨.hbm, 94, rfl⟩
abbrev main_v68 : Ref sig .tc := ⟨.hbm, 95, rfl⟩
abbrev main_v69 : Ref sig .tc := ⟨.hbm, 96, rfl⟩
abbrev main_cst_8 : Ref sig .tc := ⟨.hbm, 97, rfl⟩
abbrev main_call1_v0 : Ref sig .tc := ⟨.hbm, 98, rfl⟩
abbrev main_call1_v1 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_9 : Ref sig .tc := ⟨.hbm, 110, rfl⟩
abbrev main_v80 : Ref sig .tc := ⟨.hbm, 111, rfl⟩
abbrev main_v81 : Ref sig .tc := ⟨.hbm, 112, rfl⟩
abbrev main_cst_10 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_11 : Ref sig .tc := ⟨.hbm, 118, rfl⟩
abbrev main_v86 : Ref sig .tc := ⟨.hbm, 119, rfl⟩
abbrev main_v87 : Ref sig .tc := ⟨.hbm, 120, rfl⟩
abbrev main_cst_12 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩

abbrev nD : Nat := 1
abbrev τ : Topo := Topo.v7x

variable {F : FTy → Type} [FloatOps F]
-- ==== Kernel7.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S8192x1024 : Shape := ⟨2, ![8192, 1024]⟩
abbrev S1x1024 : Shape := ⟨2, ![1, 1024]⟩
abbrev S_ : Shape := ⟨0, ![]⟩
abbrev S8x5632 : Shape := ⟨2, ![8, 5632]⟩
abbrev S8x8x704 : Shape := ⟨3, ![8, 8, 704]⟩
abbrev S8x8192x704 : Shape := ⟨3, ![8, 8192, 704]⟩
abbrev S4x8192x704 : Shape := ⟨3, ![4, 8192, 704]⟩
abbrev S256x1024 : Shape := ⟨2, ![256, 1024]⟩
abbrev S8x256x704 : Shape := ⟨3, ![8, 256, 704]⟩
abbrev S4x256x704 : Shape := ⟨3, ![4, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1x8x704 : Shape := ⟨3, ![1, 8, 704]⟩
abbrev S8x704 : Shape := ⟨2, ![8, 704]⟩
abbrev S248x704 : Shape := ⟨2, ![248, 704]⟩
abbrev S1x704 : Shape := ⟨2, ![1, 704]⟩

abbrev nBuf : Space → Nat
  | .hbm => 22
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S5632x1024, .f32⟩
  | .hbm, ⟨6, _⟩ => ⟨S8x704x1024, .f32⟩
  | .hbm, ⟨7, _⟩ => ⟨S8x704x1024, .bf16⟩
  | .hbm, ⟨8, _⟩ => ⟨S4x704x1024, .f32⟩
  | .hbm, ⟨9, _⟩ => ⟨S4x704x1024, .bf16⟩
  | .hbm, ⟨10, _⟩ => ⟨S8192x1024, .f32⟩
  | .hbm, ⟨11, _⟩ => ⟨S1x1024, .f32⟩
  | .hbm, ⟨12, _⟩ => ⟨S_, .i32⟩
  | .hbm, ⟨13, _⟩ => ⟨S_, .f32⟩
  | .hbm, ⟨14, _⟩ => ⟨S8x5632, .f32⟩
  | .hbm, ⟨15, _⟩ => ⟨S8x8x704, .f32⟩
  | .hbm, ⟨16, _⟩ => ⟨S8x8x704, .f32⟩
  | .hbm, ⟨17, _⟩ => ⟨S8192x1024, .bf16⟩
  | .hbm, ⟨18, _⟩ => ⟨S8x8192x704, .f32⟩
  | .hbm, ⟨19, _⟩ => ⟨S8x8192x704, .bf16⟩
  | .hbm, ⟨20, _⟩ => ⟨S4x8192x704, .bf16⟩
  | .hbm, ⟨21, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x704x1024, .bf16⟩
  | .local _ .vmem, ⟨4, _⟩ => ⟨S4x704x1024, .bf16⟩
  | .local _ .vmem, ⟨5, _⟩ => ⟨S8x8x704, .f32⟩
  | .local _ .vmem, ⟨6, _⟩ => ⟨S256x1024, .bf16⟩
  | .local _ .vmem, ⟨7, _⟩ => ⟨S256x1024, .bf16⟩
  | .local _ .vmem, ⟨8, _⟩ => ⟨S8x256x704, .f32⟩
  | .local _ .vmem, ⟨9, _⟩ => ⟨S8x256x704, .f32⟩
  | .local _ .vmem, ⟨10, _⟩ => ⟨S8x256x704, .bf16⟩
  | .local _ .vmem, ⟨11, _⟩ => ⟨S8x256x704, .bf16⟩
  | .local _ .vmem, ⟨12, _⟩ => ⟨S4x256x704, .bf16⟩
  | .local _ .vmem, ⟨13, _⟩ => ⟨S4x256x704, .bf16⟩
  | .local _ .vmem, ⟨14, _⟩ => ⟨S256x1024, .f32⟩
  | .local _ .vmem, ⟨15, _⟩ => ⟨S256x1024, .f32⟩
  | .local _ .vmem, ⟨16, _⟩ => ⟨S8x8x704, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩
abbrev S4x2x5632 : Shape := ⟨3, ![4, 2, 5632]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S4x2048x2816 : Shape := ⟨3, ![4, 2048, 2816]⟩
abbrev S8192x1024 : Shape := ⟨2, ![8192, 1024]⟩
abbrev S8192x5632 : Shape := ⟨2, ![8192, 5632]⟩
abbrev S8192x8x704 : Shape := ⟨3, ![8192, 8, 704]⟩
abbrev S8x8192x704 : Shape := ⟨3, ![8, 8192, 704]⟩
abbrev S8192x4x704 : Shape := ⟨3, ![8192, 4, 704]⟩
abbrev S4x8192x704 : Shape := ⟨3, ![4, 8192, 704]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x5632, .f32⟩
  | .hbm, ⟨22, _⟩ => ⟨S_, .f32⟩
  | .hbm, ⟨23, _⟩ => ⟨S4x2x5632, .f32⟩
  | .hbm, ⟨24, _⟩ => ⟨S4x2050x5632, .f32⟩
  | .hbm, ⟨25, _⟩ => ⟨S4x2048x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S4x2048x5632, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S4x2048x5632, .f32⟩
  | .hbm, ⟨43, _⟩ => ⟨S4x2048x5632, .f32⟩
  | .hbm, ⟨44, _⟩ => ⟨S4x2048x5632, .f32⟩
  | .hbm, ⟨45, _⟩ => ⟨S4x2048x2816, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S_, .f32⟩
  | .hbm, ⟨50, _⟩ => ⟨S4x2048x2816, .f32⟩
  | .hbm, ⟨51, _⟩ => ⟨S4x2048x2816, .f32⟩
  | .hbm, ⟨52, _⟩ => ⟨S_, .f32⟩
  | .hbm, ⟨53, _⟩ => ⟨S4x2048x2816, .f32⟩
  | .hbm, ⟨54, _⟩ => ⟨S4x2048x2816, .f32⟩
  | .hbm, ⟨55, _⟩ => ⟨S_, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S4x2048x2816, .f32⟩
  | .hbm, ⟨60, _⟩ => ⟨S4x2048x2816, .f32⟩
  | .hbm, ⟨61, _⟩ => ⟨S_, .f32⟩
  | .hbm, ⟨62, _⟩ => ⟨S4x2048x2816, .f32⟩
  | .hbm, ⟨63, _⟩ => ⟨S4x2048x2816, .f32⟩
  | .hbm, ⟨64, _⟩ => ⟨S4x2048x2816, .f32⟩
  | .hbm, ⟨65, _⟩ => ⟨S4x2048x2816, .f32⟩
  | .hbm, ⟨66, _⟩ => ⟨S4x2048x2816, .f32⟩
  | .hbm, ⟨67, _⟩ => ⟨S4x2048x2816, .f32⟩
  | .hbm, ⟨68, _⟩ => ⟨S4x2048x2816, .f32⟩
  | .hbm, ⟨69, _⟩ => ⟨S4x2048x1024, .f32⟩
  | .hbm, ⟨70, _⟩ => ⟨S4x2048x1024, .f32⟩
  | .hbm, ⟨71, _⟩ => ⟨S4x2048x5632, .f32⟩
  | .hbm, ⟨72, _⟩ => ⟨S8192x1024, .f32⟩
  | .hbm, ⟨73, _⟩ => ⟨S8192x1024, .bf16⟩
  | .hbm, ⟨74, _⟩ => ⟨S8192x5632, .f32⟩
  | .hbm, ⟨75, _⟩ => ⟨S8192x8x704, .f32⟩
  | .hbm, ⟨76, _⟩ => ⟨S8x8192x704, .f32⟩
  | .hbm, ⟨77, _⟩ => ⟨S8192x5632, .f32⟩
  | .hbm, ⟨78, _⟩ => ⟨S8192x8x704, .f32⟩
  | .hbm, ⟨79, _⟩ => ⟨S8x8192x704, .f32⟩
  | .hbm, ⟨80, _⟩ => ⟨S8x8192x704, .bf16⟩
  | .hbm, ⟨81, _⟩ => ⟨S8192x4x704, .f32⟩
  | .hbm, ⟨82, _⟩ => ⟨S4x8192x704, .f32⟩
  | .hbm, ⟨83, _⟩ => ⟨S4x8192x704, .bf16⟩
  | .hbm, ⟨84, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v38_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v38_1 : Ref sig .tc := ⟨.hbm, 58, rfl⟩
abbrev main_v38_0 : Ref sig .tc := ⟨.hbm, 59, rfl⟩
abbrev main_v39 : Ref sig .tc := ⟨.hbm, 60, rfl⟩
abbrev main_cst_3 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]
-- ==== Kernel8.lean ====
abbrev S4x2048x1024 : Shape := ⟨3, ![4, 2048, 1024]⟩
abbrev S1024 : Shape := ⟨1, ![1024]⟩
abbrev S1024x7168 : Shape := ⟨2, ![1024, 7168]⟩
abbrev S4x2048x7168 : Shape := ⟨3, ![4, 2048, 7168]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S8192x7168 : Shape := ⟨2, ![8192, 7168]⟩
abbrev S8x1024x896 : Shape := ⟨3, ![8, 1024, 896]⟩
abbrev S2048x1024 : Shape := ⟨2, ![2048, 1024]⟩
abbrev S2048x1792 : Shape := ⟨2, ![2048, 1792]⟩
abbrev S2x1024x896 : Shape := ⟨3, ![2, 1024, 896]⟩
abbrev S1024x1792 : Shape := ⟨2, ![1024, 1792]⟩
abbrev S1024x896 : Shape := ⟨2, ![1024, 896]⟩
abbrev S1x1024x896 : Shape := ⟨3, ![1, 1024, 896]⟩

abbrev nBuf : Space → Nat
  | .hbm => 25
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7168, .f32⟩
  | .hbm, ⟨3, _⟩ => ⟨S4x2048x7168, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S8192x1024, .f32⟩
  | .hbm, ⟨21, _⟩ => ⟨S8192x1024, .bf16⟩
  | .hbm, ⟨22, _⟩ => ⟨S8192x7168, .f32⟩
  | .hbm, ⟨23, _⟩ => ⟨S8192x7168, .bf16⟩
  | .hbm, ⟨24, _⟩ => ⟨S8x1024x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S2x1024x896, .bf16⟩
  | .local _ .vmem, ⟨5, _⟩ => ⟨S2x1024x896, .bf16⟩
  | .local _ .vmem, ⟨6, _⟩ => ⟨S1024x1792, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32_6 : BitVec 32 := 3#32
  let v13 : BitVec 1 := Scalar.cmpi .eq arg1 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4x2048x1024 : Shape := ⟨3, ![4, 2048, 1024]⟩
abbrev S1024 : Shape := ⟨1, ![1024]⟩
abbrev S1024x7168 : Shape := ⟨2, ![1024, 7168]⟩
abbrev S4x2048x7168 : Shape := ⟨3, ![4, 2048, 7168]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S7168x1024 : Shape := ⟨2, ![7168, 1024]⟩
abbrev S1024x8x896 : Shape := ⟨3, ![1024, 8, 896]⟩
abbrev S8x1024x896 : Shape := ⟨3, ![8, 1024, 896]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7168, .f32⟩
  | .hbm, ⟨3, _⟩ => ⟨S4x2048x7168, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x7168, .f32⟩
  | .hbm, ⟨21, _⟩ => ⟨S7168x1024, .f32⟩
  | .hbm, ⟨22, _⟩ => ⟨S1024x7168, .f32⟩
  | .hbm, ⟨23, _⟩ => ⟨S1024x8x896, .f32⟩
  | .hbm, ⟨24, _⟩ => ⟨S8x1024x896, .f32⟩
  | .hbm, ⟨25, _⟩ => ⟨S8x1024x896, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel9.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference9Ideal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference10Ideal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8x128x128 : Shape := ⟨3, ![8, 128, 128]⟩
abbrev S_ : Shape := ⟨0, ![]⟩
abbrev S1 : Shape := ⟨1, ![1]⟩
abbrev S128x128 : Shape := ⟨2, ![128, 128]⟩
abbrev S1x128x128 : Shape := ⟨3, ![1, 128, 128]⟩

abbrev nBuf : Space → Nat
  | .hbm => 4
  | .vmem => 3
  | .smem => 1
  | _ => 0

abbrev bufTy : (tb : Table) → Fin (tcTables nBuf tb) → BufTy
  | .hbm, ⟨0, _⟩ => ⟨S8x128x128, .f32⟩
  | .hbm, ⟨1, _⟩ => ⟨S8x128x128, .f32⟩
  | .hbm, ⟨2, _⟩ => ⟨S_, .i32⟩
  | .hbm, ⟨3, _⟩ => ⟨S128x128, .f32⟩
  | .local _ .vmem, ⟨0, _⟩ => ⟨S1x128x128, .f32⟩
  | .local _ .vmem, ⟨1, _⟩ => ⟨S8x128x128, .f32⟩
  | .local _ .vmem, ⟨2, _⟩ => ⟨S128x128, .f32⟩
  | .local _ .smem, ⟨0, _⟩ => ⟨S1, .i32⟩
  | _, _ => ⟨S8x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference11Ideal.lean ====
abbrev S8x128x128 : Shape := ⟨3, ![8, 128, 128]⟩
abbrev S1x128x128 : Shape := ⟨3, ![1, 128, 128]⟩
abbrev S7x128x128 : Shape := ⟨3, ![7, 128, 128]⟩
abbrev S_ : Shape := ⟨0, ![]⟩
abbrev S128x128 : Shape := ⟨2, ![128, 128]⟩

abbrev nBuf : Space → Nat
  | .hbm => 7
  | .vmem => 0
  | .smem => 0
  | _ => 0

abbrev bufTy : (tb : Table) → Fin (tcTables nBuf tb) → BufTy
  | .hbm, ⟨0, _⟩ => ⟨S8x128x128, .f32⟩
  | .hbm, ⟨1, _⟩ => ⟨S8x128x128, .f32⟩
  | .hbm, ⟨2, _⟩ => ⟨S1x128x128, .f32⟩
  | .hbm, ⟨3, _⟩ => ⟨S7x128x128, .f32⟩
  | .hbm, ⟨4, _⟩ => ⟨S8x128x128, .f32⟩
  | .hbm, ⟨5, _⟩ => ⟨S_, .f32⟩
  | .hbm, ⟨6, _⟩ => ⟨S128x128, .f32⟩
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Reals.lean ====
/-
  REAL NUMBERS AMONG THE EXTENDED REALS. Every argument of the gradients proved here is finite, so every value both
  programs compute is a real number: this file has the arithmetic that carries an expression over the extended reals to
  the same expression over the reals (sums, quotients by a number that is not zero, the reciprocal root of a positive
  number), the constants the programs spell as bit patterns, and what "finite" says of an array.
-/
module

public import Idealize.ShloMosaic.PureOps.Ideal.Laws
public import Idealize.ShloMosaic.Lib.IdealHost
public import Idealize.ShloMosaic.Lib.ReduceAll
public import Idealize.ShloMosaic.Lib.WordArith

@[expose] public section

noncomputable section

open Idealize.ShloMosaic
open scoped BigOperators

namespace Cert.Reals

/-- The extended real of a finite sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by one that is not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The reciprocal root of a positive real. -/
theorem rsqrt_coe (a : ℝ) (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg (not_lt.mpr ha.le), if_neg ha.ne']

/-- The pattern `0x44800000` is 1024. -/
theorem ofBits_1024 : Ideal.ofBits .f32 0x44800000#32 = ((1024 : ℝ) : EReal) := by
  simp [Ideal.ofBits, Ideal.ieee, -EReal.coe_mul]; norm_num

/-- The pattern `0xBF000000` is minus one half. -/
theorem ofBits_neg_half : Ideal.ofBits .f32 0xBF000000#32 = ((-(1 / 2) : ℝ) : EReal) := by
  simp [Ideal.ofBits, Ideal.ieee, -EReal.coe_mul, -EReal.coe_neg]; norm_num

/-- The small number added under the root, as the real its bit pattern denotes. -/
def eps : ℝ := (8796093 : ℝ) * (2 : ℝ) ^ (-43 : Int)

theorem eps_pos : 0 < eps := by unfold eps; positivity

theorem ofBits_eps : Ideal.ofBits .f32 0x358637BD#32 = (eps : EReal) := by
  unfold eps
  simp [Ideal.ofBits, Ideal.ieee, -EReal.coe_mul]

/-- An array of extended reals all of which are real. -/
def Finite {ι : Type} (x : ι → EReal) : Prop := ∃ r : ι → ℝ, x = fun i => (r i : EReal)

/-- An array whose elements' absolute values are all below `⊤` is real. -/
theorem finite_of_abs_lt {ι : Type} (x : ι → EReal) (h : ∀ i, max (x i) (-(x i)) < ⊤) : Finite x := by
  refine ⟨fun i => (x i).toReal, funext fun i => ?_⟩
  have h1 := h i
  rw [max_lt_iff] at h1
  refine (EReal.coe_toReal h1.1.ne ?_).symm
  intro e; rw [e] at h1; simp at h1

/-! ## The root mean square of a row -/

/-- The mean of a row's squares, plus the small number. -/
def ms {n : ℕ} (x : Fin n → ℝ) : ℝ := (∑ k, x k * x k) / 1024 + eps

theorem ms_pos {n : ℕ} (x : Fin n → ℝ) : 0 < ms x := by
  have h : 0 ≤ ∑ k, x k * x k := Finset.sum_nonneg fun k _ => mul_self_nonneg _
  have := eps_pos
  unfold ms; positivity

/-- Its reciprocal root: what a row is scaled by. -/
def rinv {n : ℕ} (x : Fin n → ℝ) : ℝ := (Real.sqrt (ms x))⁻¹

/-- The reciprocal root of the mean square, spelt out. -/
theorem rsqrt_ms {n : ℕ} (x : Fin n → ℝ) : Ideal.rsqrt (((∑ k, x k * x k) / 1024 + eps : ℝ) : EReal) = ((rinv x : ℝ) : EReal) :=
  rsqrt_coe _ (ms_pos x)

theorem rinv_sq {n : ℕ} (x : Fin n → ℝ) : rinv x * rinv x * ms x = 1 := by
  unfold rinv
  have h := ms_pos x
  rw [← mul_inv, Real.mul_self_sqrt h.le, inv_mul_cancel₀ h.ne']

/-- THE GRADIENT THROUGH A ROW'S NORM, written by hand: `dy` the gradient of the scaled row before its weights `g`. -/
def rmsGrad {n : ℕ} (x g dy : Fin n → ℝ) (q : Fin n) : ℝ :=
  rinv x * (dy q * g q - x q * rinv x * ((∑ k, dy k * g k * (x k * rinv x)) / 1024))

/-- The same gradient as differentiation of the reciprocal root gives it: the direct term, then twice (a square's two
    factors) the term through the mean. -/
theorem rmsGrad_eq {n : ℕ} (x g dy : Fin n → ℝ) (q : Fin n) (a : ℝ) :
    a + rmsGrad x g dy q
      = a + rinv x * (dy q * g q) + x q * ((∑ k, x k * (dy k * g k)) * (-(1 / 2) * (rinv x / ms x)) / 1024)
        + x q * ((∑ k, x k * (dy k * g k)) * (-(1 / 2) * (rinv x / ms x)) / 1024) := by
  have h := ms_pos x
  have hr : rinv x / ms x = rinv x * (rinv x * rinv x) := by
    rw [div_eq_iff h.ne', mul_assoc, rinv_sq, mul_one]
  have hs : (∑ k, dy k * g k * (x k * rinv x)) = (∑ k, x k * (dy k * g k)) * rinv x := by
    rw [Finset.sum_mul]; exact Finset.sum_congr rfl fun k _ => by ring
  unfold rmsGrad
  rw [hr, hs]
  ring

end Cert.Reals

end
-- ==== Proof.Sums.lean ====
/-
  A SUM OVER THE FIRST TWO AXES of a rank-three array (the batch and the position: how the gradient of a weight that every
  row shares is summed), read at an index.
-/
module

public import Idealize.ShloMosaic.PureOps.Ideal.Laws
public import Idealize.ShloMosaic.Lib.Pointwise

@[expose] public section

noncomputable section

open Idealize.ShloMosaic
open scoped BigOperators

namespace Cert.Reals

/-- The host's sum over axes 0 and 1 of a rank-three array, at `k`: the initial value plus the sum over both axes. -/
theorem reduce01 {n0 n1 n2 : ℕ} (h : (⟨3, ![n0, n1, n2]⟩ : Shape).ReducesTo [0, 1] (⟨1, ![n2]⟩ : Shape))
    (v : (⟨3, ![n0, n1, n2]⟩ : Shape).Idx → EReal) (init : EReal) (k : Fin n2) :
    Ideal.hostReduceAdd h v init (ix1 k) = init + ∑ a : Fin n0, ∑ b : Fin n1, v (ix3 a b k) := by
  unfold Ideal.hostReduceAdd
  refine congrArg (init + ·) ?_
  have key : ∀ i : (⟨3, ![n0, n1, n2]⟩ : Shape).Idx,
      h.drop i = ix1 k ↔ ∃ p : Fin n0 × Fin n1, (ix3 p.1 p.2 k : (⟨3, ![n0, n1, n2]⟩ : Shape).Idx) = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨p, rfl⟩
      funext b
      apply Fin.ext
      match b with
      | ⟨0, _⟩ => rfl
  rw [Finset.sum_filter_eq_sum_of_fiber _ (fun p : Fin n0 × Fin n1 => (ix3 p.1 p.2 k : (⟨3, ![n0, n1, n2]⟩ : Shape).Idx))
    (fun _ _ e => Prod.ext (congrFun e 0) (congrFun e 1)) key v]
  exact Fintype.sum_prod_type _

/-- The host's sum over axes 0, 1 and 4 of a rank-five array, at `(k, l)`. -/
theorem reduce014 {n0 n1 n2 n3 n4 : ℕ} (h : (⟨5, ![n0, n1, n2, n3, n4]⟩ : Shape).ReducesTo [0, 1, 4] (⟨2, ![n2, n3]⟩ : Shape))
    (v : (⟨5, ![n0, n1, n2, n3, n4]⟩ : Shape).Idx → EReal) (init : EReal) (k : Fin n2) (l : Fin n3) :
    Ideal.hostReduceAdd h v init (ix2 k l) = init + ∑ a : Fin n0, ∑ b : Fin n1, ∑ c : Fin n4, v (ix5 a b k l c) := by
  unfold Ideal.hostReduceAdd
  refine congrArg (init + ·) ?_
  have key : ∀ i : (⟨5, ![n0, n1, n2, n3, n4]⟩ : Shape).Idx,
      h.drop i = ix2 k l ↔ ∃ p : Fin n0 × Fin n1 × Fin n4, (ix5 p.1 p.2.1 k l p.2.2 : (⟨5, ![n0, n1, n2, n3, n4]⟩ : Shape).Idx) = i := by
    intro i
    constructor
    · intro e
      refine ⟨(i 0, i 1, i 4), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
      | ⟨4, _⟩ => rfl
    · rintro ⟨p, rfl⟩
      funext b
      apply Fin.ext
      match b with
      | ⟨0, _⟩ => rfl
      | ⟨1, _⟩ => rfl
  rw [Finset.sum_filter_eq_sum_of_fiber _ (fun p : Fin n0 × Fin n1 × Fin n4 => (ix5 p.1 p.2.1 k l p.2.2 : (⟨5, ![n0, n1, n2, n3, n4]⟩ : Shape).Idx))
    (fun _ _ e => Prod.ext (congrFun e 0) (Prod.ext (congrFun e 1) (congrFun e 4))) key v]
  rw [Fintype.sum_prod_type]
  exact Finset.sum_congr rfl fun a _ => Fintype.sum_prod_type _

end Cert.Reals

end
-- ==== Proof.RefRead.lean ====
/-
  THE REFERENCE OF THE FIRST PAIR AT REAL ARGUMENTS. `jax.vjp` of "normalise by the root mean square, then project", read
  at an index: the gradient of the normalised rows is the sum `dn` over the projected columns; the gradient of the
  residual stream is the cotangent plus `rmsGrad`, and that of the norm's weights the sum over every row.
-/
module

public import proofs.«01_k».proof.Proof.Gen.ReferenceIdeal.Read
public import proofs.«01_k».proof.Proof.Reals
public import proofs.«01_k».proof.Proof.Sums
public import Idealize.ShloMosaic.Lib.Pointwise

@[expose] public section

set_option maxRecDepth 16384

noncomputable section

open Idealize.ShloMosaic

namespace Cert.ReferenceIdeal.Point
open Cert.ReferenceIdeal Cert.ReferenceIdeal.Gen Cert.ReferenceIdeal.Read Cert.Reals

variable (x : S4x2048x1024.Idx → ℝ) (g : S1024.Idx → ℝ) (w : S1024x7168.Idx → ℝ) (d : S4x2048x7168.Idx → ℝ)

/-- The gradient of a normalised row before the projection, at column `q`. -/
def dn (b : Fin 4) (s : Fin 2048) (q : Fin 1024) : ℝ := ∑ l : Fin 7168, d (ix3 b s l) * w (ix2 q l)

/-- Row (b, s) of the residual stream. -/
def row (b : Fin 4) (s : Fin 2048) (q : Fin 1024) : ℝ := x (ix3 b s q)

theorem dn_read (b : Fin 4) (s : Fin 2048) (q : Fin 1024) :
    val_main_v17 (F := Ideal) (fun i => ((w i : ℝ) : EReal)) (fun i => ((d i : ℝ) : EReal)) (ix3 b s q) = ((dn w d b s q : ℝ) : EReal) := by
  pointwise [val_main_v17]
  simp only [dn, coe_sum, EReal.coe_mul]

theorem mean_read (b : Fin 4) (s : Fin 2048) : val_main_v6 (F := Ideal) (fun i => ((x i : ℝ) : EReal)) (ix3 b s (0 : Fin 1))
    = ((ms (row x b s) : ℝ) : EReal) := by
  pointwise [val_main_v6, val_main_v5, val_main_v4, val_main_v3, val_main_v2, val_main_v1, val_main_v0, val_main_cst, val_main_cst_0, val_main_cst_1]
  rw [ofBits_1024, ofBits_eps]
  simp only [← EReal.coe_mul, ← coe_sum]
  rw [div_coe _ _ (by norm_num), ← EReal.coe_add]
  rfl

theorem rinv_read (b : Fin 4) (s : Fin 2048) : val_main_v7 (F := Ideal) (fun i => ((x i : ℝ) : EReal)) (ix3 b s (0 : Fin 1))
    = ((rinv (row x b s) : ℝ) : EReal) := by
  pointwise [val_main_v7]
  rw [mean_read, rsqrt_coe _ (ms_pos _)]
  rfl

/-- The gradient of the norm's weights, padded to eight rows. -/
theorem dg_read (r : Fin 8) (q : Fin 1024) :
    val_main_v41 (F := Ideal) (fun i => ((x i : ℝ) : EReal)) (fun i => ((w i : ℝ) : EReal)) (fun i => ((d i : ℝ) : EReal)) (ix2 r q)
    = (((if r.val < 1 then ∑ b, ∑ s, x (ix3 b s q) * rinv (row x b s) * dn w d b s q else 0) : ℝ) : EReal) := by
  pointwise [val_main_v41, val_main_v40, val_main_v23, val_main_call0_v0, val_main_cst_4]
  by_cases h : r.val < 1
  · rw [dif_pos h, if_pos h, reduce01]
    pointwise [val_main_v20, val_main_v19, val_main_cst_3]
    simp only [Fin.sum_univ_one, reduce01]
    pointwise [val_main_v18, val_main_v12, val_main_v11]
    simp only [rinv_read, dn_read, ← EReal.coe_mul, ← coe_sum]
  · rw [dif_neg h, if_neg h]
    pointwise [val_main_c]
    show (((0#32 : BitVec 32).toInt : ℝ) : EReal) = ((0 : ℝ) : EReal)
    simp

/-- The gradient of the residual stream. -/
theorem dx_read (r : Fin 8192) (q : Fin 1024) (y : FVec Ideal S4x2048x1024 .f32) (b : Fin 4) (s : Fin 2048)
    (hb : b.val = r.val / 2048) (hs : s.val = r.val % 2048) :
    val_main_v39 (F := Ideal) (fun i => ((x i : ℝ) : EReal)) (fun i => ((g i : ℝ) : EReal)) (fun i => ((w i : ℝ) : EReal))
      (fun i => ((d i : ℝ) : EReal)) y (ix2 r q)
    = y (ix3 b s q) + ((rmsGrad (row x b s) (fun k => g (ix1 k)) (dn w d b s) q : ℝ) : EReal) := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v22, val_main_v21, val_main_v13, val_main_cst_6, val_main_cst_5, val_main_cst_7, val_main_v10, val_main_v9, val_main_v8, val_main_cst_2]
  have eb : (⟨r.val / 2048, by omega⟩ : Fin 4) = b := Fin.ext hb.symm
  have es : (⟨r.val % 2048, by omega⟩ : Fin 2048) = s := Fin.ext hs.symm
  simp only [eb, es, Fin.sum_univ_one, rinv_read, mean_read, dn_read, ofBits_1024, ofBits_neg_half, div_coe _ _ (ms_pos _).ne', div_coe _ (1024 : ℝ) (by norm_num), ← EReal.coe_mul, ← coe_sum]
  rw [add_assoc, add_assoc, ← EReal.coe_add, ← EReal.coe_add]
  refine congrArg (fun z : ℝ => y (ix3 b s q) + (z : EReal)) ?_
  have h := rmsGrad_eq (row x b s) (fun k => g (ix1 k)) (dn w d b s) q 0
  simp only [zero_add] at h
  rw [h]
  unfold row
  ring

end Cert.ReferenceIdeal.Point
end
-- ==== Proof.Point.lean ====
/-
  THE GRADIENT THROUGH THE MIXER'S NORM, READ POINTWISE. The host arrays the call is given, the blocks its windows hold at a
  point of the grid, the running sum over the four column blocks, and what the last of these writes: the gradient of the
  stream, and one term of the gradient of the norm's weights.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.WritesUnit
public import proofs.«01_k».proof.Proof.RefRead

@[expose] public section

set_option maxRecDepth 16384

noncomputable section

open Idealize.ShloMosaic Idealize.ShloMosaic.TcCoe Idealize.SL.Sem
open Idealize.ShloMosaic.Pipeline (Dat)

namespace Cert.KernelIdeal.Point

open Cert.KernelIdeal Cert.KernelIdeal.Gen Cert.Reals
open Cert.ReferenceIdeal.Point (dn row)

variable (m : (ℓ : Loc nD τ sig) → Buf (Elt Ideal) ℓ)

theorem idx : ∀ t : Fin cfg0.N, (win0_0.index t 0 = t.val / 4 ∧ win0_0.index t 1 = t.val % 4)
    ∧ (win0_1.index t 0 = t.val % 4 ∧ win0_1.index t 1 = 0 ∧ win0_1.index t 2 = 0 ∧ win0_1.index t 3 = 0)
    ∧ (win0_2.index t 0 = t.val / 4 ∧ win0_2.index t 1 = 0) ∧ (win0_3.index t 0 = 0 ∧ win0_3.index t 1 = 0)
    ∧ (win0_4.index t 0 = t.val / 4 ∧ win0_4.index t 1 = 0) ∧ (win0_5.index t 0 = t.val / 4 ∧ win0_5.index t 1 = 0) ∧ (win0_6.index t 0 = 0 ∧ win0_6.index t 1 = 0) :=
  (by decide +kernel : ∀ t : Fin grid0.N, _)

theorem host_dy (c : Dev nD) (r : Fin 8192) (k : Fin 7168) : (V m c main_v4 : FVec Ideal S8192x7168 .bf16) (ix2 r k)
    = m ((c : Thread nD τ).loc main_arg3) (ix3 (⟨r.val / 2048, by omega⟩ : Fin 4) (⟨r.val % 2048, by omega⟩ : Fin 2048) k) := by
  unfold V; after_reads_simp; pointwise

theorem host_w (c : Dev nD) (a : Fin 4) (h : Fin 2) (q : Fin 1024) (k : Fin 896) : (V m c main_v8 : FVec Ideal S4x2x1024x896 .bf16) (ix4 a h q k)
    = m ((c : Thread nD τ).loc main_arg2) (ix2 q (⟨(a.val * 2 + h.val) * 896 + k.val, by omega⟩ : Fin 7168)) := by
  unfold V; after_reads_simp; pointwise

theorem host_x (c : Dev nD) (r : Fin 8192) (q : Fin 1024) : (V m c main_v5 : FVec Ideal S8192x1024 .f32) (ix2 r q)
    = m ((c : Thread nD τ).loc main_arg0) (ix3 (⟨r.val / 2048, by omega⟩ : Fin 4) (⟨r.val % 2048, by omega⟩ : Fin 2048) q) := by
  unfold V; after_reads_simp; pointwise

theorem host_g (c : Dev nD) (z : Fin 1) (q : Fin 1024) : (V m c main_v6 : FVec Ideal S1x1024 .f32) (ix2 z q)
    = m ((c : Thread nD τ).loc main_arg1) (ix1 q) := by
  unfold V; after_reads_simp; pointwise

theorem host_y (c : Dev nD) (r : Fin 8192) (q : Fin 1024) : (V m c main_v7 : FVec Ideal S8192x1024 .f32) (ix2 r q)
    = m ((c : Thread nD τ).loc main_arg4) (ix3 (⟨r.val / 2048, by omega⟩ : Fin 4) (⟨r.val % 2048, by omega⟩ : Fin 2048) q) := by
  unfold V; after_reads_simp; pointwise

theorem blk_dy (c : Dev nD) (t : Fin cfg0.N) (p : Fin 1024) (k : Fin 1792) (r : Fin 8192) (l : Fin 7168)
    (hr : r.val = t.val / 4 * 1024 + p.val) (hl : l.val = t.val % 4 * 1792 + k.val) :
    (iblk m c 0 t : FVec Ideal S1024x1792 .bf16) (ix2 p k) = (V m c main_v4 : FVec Ideal S8192x7168 .bf16) (ix2 r l) := by
  obtain ⟨⟨e0, e1⟩, -⟩ := idx t
  unfold iblk; blk_simp; blk_ext
  all_goals first | (rw [e0]; exact hr.symm) | (rw [e1]; exact hl.symm)

theorem blk_w (c : Dev nD) (t : Fin cfg0.N) (z : Fin 1) (h : Fin 2) (q : Fin 1024) (k : Fin 896) (a : Fin 4) (ha : a.val = t.val % 4) :
    (iblk m c 1 t : FVec Ideal S1x2x1024x896 .bf16) (ix4 z h q k) = (V m c main_v8 : FVec Ideal S4x2x1024x896 .bf16) (ix4 a h q k) := by
  obtain ⟨-, ⟨e0, e1, e2, e3⟩, -⟩ := idx t
  unfold iblk; blk_simp; blk_ext

theorem blk_x (c : Dev nD) (t : Fin cfg0.N) (p q : Fin 1024) (r : Fin 8192) (hr : r.val = t.val / 4 * 1024 + p.val) :
    (iblk m c 2 t : FVec Ideal S1024x1024 .f32) (ix2 p q) = (V m c main_v5 : FVec Ideal S8192x1024 .f32) (ix2 r q) := by
  obtain ⟨-, -, ⟨e0, e1⟩, -⟩ := idx t
  unfold iblk; blk_simp; blk_ext
  all_goals first | (rw [e0]; exact hr.symm) | (rw [e1]; omega)

theorem blk_g (c : Dev nD) (t : Fin cfg0.N) (z : Fin 1) (q : Fin 1024) :
    (iblk m c 3 t : FVec Ideal S1x1024 .f32) (ix2 z q) = (V m c main_v6 : FVec Ideal S1x1024 .f32) (ix2 z q) := by
  obtain ⟨-, -, -, ⟨e0, e1⟩, -⟩ := idx t
  unfold iblk; blk_simp; blk_ext
  all_goals first | (rw [e0]; omega) | (rw [e1]; omega)

theorem blk_y (c : Dev nD) (t : Fin cfg0.N) (p q : Fin 1024) (r : Fin 8192) (hr : r.val = t.val / 4 * 1024 + p.val) :
    (iblk m c 4 t : FVec Ideal S1024x1024 .f32) (ix2 p q) = (V m c main_v7 : FVec Ideal S8192x1024 .f32) (ix2 r q) := by
  obtain ⟨-, -, -, -, ⟨e0, e1⟩, -⟩ := idx t
  unfold iblk; blk_simp; blk_ext
  all_goals first | (rw [e0]; exact hr.symm) | (rw [e1]; omega)

/-! ## Real arguments -/

variable (x : S4x2048x1024.Idx → ℝ) (g : S1024.Idx → ℝ) (w : S1024x7168.Idx → ℝ) (d : S4x2048x7168.Idx → ℝ)

/-- The batch and the position of flat row `r`. -/
def bb (r : ℕ) : Fin 4 := ⟨r / 2048 % 4, by omega⟩
def ss (r : ℕ) : Fin 2048 := ⟨r % 2048, by omega⟩

/-- One product of the projection's gradient: flat row `r`, column `q`, projected column `l`. -/
def term (r : ℕ) (q : Fin 1024) (l : ℕ) : ℝ :=
  d (ix3 (bb r) (ss r) (⟨l % 7168, by omega⟩ : Fin 7168)) * w (ix2 q (⟨l % 7168, by omega⟩ : Fin 7168))

theorem dn_eq (r : ℕ) (q : Fin 1024) : dn w d (bb r) (ss r) q = ∑ l ∈ Finset.range 7168, term w d r q l := by
  rw [Finset.sum_range]
  refine Finset.sum_congr rfl fun l _ => ?_
  have e : (⟨l.val % 7168, by omega⟩ : Fin 7168) = l := Fin.ext (Nat.mod_eq_of_lt l.isLt)
  unfold term
  rw [e]

variable {x g w d} {y : S4x2048x1024.Idx → EReal} {c : Dev nD}
variable (hx : m ((c : Thread nD τ).loc main_arg0) = fun i => ((x i : ℝ) : EReal))
  (hg : m ((c : Thread nD τ).loc main_arg1) = fun i => ((g i : ℝ) : EReal))
  (hw : m ((c : Thread nD τ).loc main_arg2) = fun i => ((w i : ℝ) : EReal))
  (hy : m ((c : Thread nD τ).loc main_arg4) = y)
  (hd : m ((c : Thread nD τ).loc main_arg3) = fun i => ((d i : ℝ) : EReal))

include hd in
theorem dy_at (t : Fin cfg0.N) (p : Fin 1024) (k : Fin 1792) :
    (iblk m c 0 t : FVec Ideal S1024x1792 .bf16) (ix2 p k)
      = ((d (ix3 (bb (t.val / 4 * 1024 + p.val)) (ss (t.val / 4 * 1024 + p.val)) (⟨(t.val % 4 * 1792 + k.val) % 7168, by omega⟩ : Fin 7168)) : ℝ) : EReal) := by
  have ht : t.val < 32 := t.isLt
  rw [blk_dy m c t p k ⟨t.val / 4 * 1024 + p.val, by omega⟩ ⟨(t.val % 4 * 1792 + k.val) % 7168, by omega⟩ rfl (by show _ % 7168 = _; omega),
    host_dy, hd]
  refine congrArg (fun i => ((d i : ℝ) : EReal)) ?_
  refine congrArg₂ (fun a b => ix3 a b _) (Fin.ext ?_) (Fin.ext rfl)
  show (t.val / 4 * 1024 + p.val) / 2048 = (t.val / 4 * 1024 + p.val) / 2048 % 4
  omega

include hw in
theorem w_at (t : Fin cfg0.N) (z : Fin 1) (h : Fin 2) (q : Fin 1024) (k : Fin 896) :
    (iblk m c 1 t : FVec Ideal S1x2x1024x896 .bf16) (ix4 z h q k)
      = ((w (ix2 q (⟨(t.val % 4 * 1792 + (h.val * 896 + k.val)) % 7168, by omega⟩ : Fin 7168)) : ℝ) : EReal) := by
  rw [blk_w m c t z h q k ⟨t.val % 4, by omega⟩ rfl, host_w, hw]
  refine congrArg (fun i => ((w (ix2 q i) : ℝ) : EReal)) (Fin.ext ?_)
  show (t.val % 4 * 2 + h.val) * 896 + k.val = (t.val % 4 * 1792 + (h.val * 896 + k.val)) % 7168
  omega

include hx in
theorem x_at (t : Fin cfg0.N) (p q : Fin 1024) :
    (iblk m c 2 t : FVec Ideal S1024x1024 .f32) (ix2 p q)
      = ((row x (bb (t.val / 4 * 1024 + p.val)) (ss (t.val / 4 * 1024 + p.val)) q : ℝ) : EReal) := by
  have ht : t.val < 32 := t.isLt
  rw [blk_x m c t p q ⟨t.val / 4 * 1024 + p.val, by omega⟩ rfl, host_x, hx]
  refine congrArg (fun i => ((x i : ℝ) : EReal)) ?_
  refine congrArg₂ (fun a b => ix3 a b _) (Fin.ext ?_) (Fin.ext rfl)
  show (t.val / 4 * 1024 + p.val) / 2048 = (t.val / 4 * 1024 + p.val) / 2048 % 4
  omega

include hg in
theorem g_at (t : Fin cfg0.N) (z : Fin 1) (q : Fin 1024) :
    (iblk m c 3 t : FVec Ideal S1x1024 .f32) (ix2 z q) = ((g (ix1 q) : ℝ) : EReal) := by
  rw [blk_g m c t z q, host_g, hg]

include hy in
theorem y_at (t : Fin cfg0.N) (p q : Fin 1024) :
    (iblk m c 4 t : FVec Ideal S1024x1024 .f32) (ix2 p q)
      = y (ix3 (bb (t.val / 4 * 1024 + p.val)) (ss (t.val / 4 * 1024 + p.val)) q) := by
  have ht : t.val < 32 := t.isLt
  rw [blk_y m c t p q ⟨t.val / 4 * 1024 + p.val, by omega⟩ rfl, host_y, hy]
  refine congrArg y ?_
  refine congrArg₂ (fun a b => ix3 a b _) (Fin.ext ?_) (Fin.ext rfl)
  show (t.val / 4 * 1024 + p.val) / 2048 = (t.val / 4 * 1024 + p.val) / 2048 % 4
  omega

/-! ## The accumulator -/

/-- What one grid point adds: its 1792 products, the two halves of the weights' block one after the other. -/
theorem part_at (A : FVec Ideal S1024x1792 .bf16) (B : FVec Ideal S1x2x1024x896 .bf16) (r j : ℕ) (p q : Fin 1024)
    (hA : ∀ k : Fin 1792, A (ix2 p k) = ((d (ix3 (bb r) (ss r) (⟨(j * 1792 + k.val) % 7168, by omega⟩ : Fin 7168)) : ℝ) : EReal))
    (hB : ∀ (h : Fin 2) (k : Fin 896), B (ix4 0 h q k) = ((w (ix2 q (⟨(j * 1792 + (h.val * 896 + k.val)) % 7168, by omega⟩ : Fin 7168)) : ℝ) : EReal)) :
    (∑ k : Fin 896, A (ix2 p (⟨k.val, by omega⟩ : Fin 1792)) * B (ix4 0 0 q k))
      + (∑ k : Fin 896, A (ix2 p (⟨896 + k.val, by omega⟩ : Fin 1792)) * B (ix4 0 1 q k))
      = ((∑ k ∈ Finset.range 1792, term w d r q (j * 1792 + k) : ℝ) : EReal) := by
  simp only [hA, hB, ← EReal.coe_mul, ← coe_sum, ← EReal.coe_add]
  refine congrArg (fun z : ℝ => (z : EReal)) ?_
  refine Eq.trans ?_ (Finset.sum_range_add (fun k => term w d r q (j * 1792 + k)) 896 896).symm
  rw [Finset.sum_range, Finset.sum_range]
  refine congrArg₂ (· + ·) (Finset.sum_congr rfl fun k _ => ?_) (Finset.sum_congr rfl fun k _ => ?_)
  · unfold term
    simp
  · unfold term
    simp

include hw hd in
/-- At the first column block of a row block the accumulator is that block's products. -/
theorem acc_first (t : Fin cfg0.N) (h : t.val % 4 = 0) (p q : Fin 1024) :
    ((outsAt0 m c t.val t.isLt).2.2 : FVec Ideal S1024x1024 .f32) (ix2 p q)
      = ((∑ k ∈ Finset.range 1792, term w d (t.val / 4 * 1024 + p.val) q (t.val % 4 * 1792 + k) : ℝ) : EReal) := by
  by_cases h0 : t.val % 32 = 0
  · rw [outsAt0_A m c t h0 h (by omega) (by omega)]
    frame_out
    pointwise [k0_pay3, k0_pay2]
    exact part_at _ _ _ _ p q (fun k => dy_at m hd t p k) fun h k => w_at m hw t 0 h q k
  · rw [outsAt0_D m c t h0 h (by omega) (by omega)]
    frame_out
    pointwise [k0_pay3, k0_pay2]
    exact part_at _ _ _ _ p q (fun k => dy_at m hd t p k) fun h k => w_at m hw t 0 h q k

include hw hd in
/-- At every later one it grows by that block's products. -/
theorem acc_next (t : Fin cfg0.N) (h : ¬ t.val % 4 = 0) (p q : Fin 1024) :
    ((outsAt0 m c t.val t.isLt).2.2 : FVec Ideal S1024x1024 .f32) (ix2 p q)
      = (((outsAt0 m c (t.val - 1) (by omega)).2.2 : FVec Ideal S1024x1024 .f32) (ix2 p q) : EReal)
        + ((∑ k ∈ Finset.range 1792, term w d (t.val / 4 * 1024 + p.val) q (t.val % 4 * 1792 + k) : ℝ) : EReal) := by
  by_cases h3 : t.val % 4 = 3
  · rw [outsAt0_C m c t (by omega) h (by omega) h3]
    frame_out
    simp only [read_unread_whole]
    pointwise [k0_pay4, k0_pay2]
    refine congrArg (_ + ·) ?_
    exact part_at _ _ _ _ p q (fun k => dy_at m hd t p k) fun h k => w_at m hw t 0 h q k
  · rw [outsAt0_B m c t (by omega) h (by omega) h3]
    frame_out
    simp only [read_unread_whole]
    pointwise [k0_pay4, k0_pay2]
    refine congrArg (_ + ·) ?_
    exact part_at _ _ _ _ p q (fun k => dy_at m hd t p k) fun h k => w_at m hw t 0 h q k

include hw hd in
/-- The accumulator after point `n`: the products of the columns seen since the row block began. -/
theorem acc_at : ∀ (n : ℕ) (hn : n < cfg0.N) (p q : Fin 1024),
    ((outsAt0 m c n hn).2.2 : FVec Ideal S1024x1024 .f32) (ix2 p q)
      = ((∑ l ∈ Finset.range ((n % 4 + 1) * 1792), term w d (n / 4 * 1024 + p.val) q l : ℝ) : EReal) := by
  intro n
  induction n with
  | zero =>
    intro hn p q
    rw [acc_first m hw hd ⟨0, hn⟩ rfl p q]
    simp
  | succ n ih =>
    intro hn p q
    by_cases h : (n + 1) % 4 = 0
    · rw [acc_first m hw hd ⟨n + 1, hn⟩ h p q]
      rw [h]; simp
    · rw [acc_next m hw hd ⟨n + 1, hn⟩ h p q]
      have e1 : (n + 1) / 4 = n / 4 := by omega
      have e2 : (n + 1) % 4 = n % 4 + 1 := by omega
      refine (congrArg (· + _) (ih (by omega) p q)).trans ?_
      rw [← EReal.coe_add, e1, e2, show (n % 4 + 1 + 1) * 1792 = (n % 4 + 1) * 1792 + 1792 by omega, Finset.sum_range_add]

/-! ## What the last column block of a row block makes of it -/

/-- The gradient of the residual stream, at one row of a block whose rows are real. -/
theorem pay_dx (acc xb yb : FVec Ideal S1024x1024 .f32) (gb : FVec Ideal S1x1024 .f32) (p q : Fin 1024) (a xr gr : Fin 1024 → ℝ)
    (ha : ∀ k, acc (ix2 p k) = ((a k : ℝ) : EReal)) (hx : ∀ k, xb (ix2 p k) = ((xr k : ℝ) : EReal)) (hg : ∀ k, gb (ix2 0 k) = ((gr k : ℝ) : EReal)) :
    k0_pay8 (F := Ideal) acc xb gb yb (ix2 p q) = yb (ix2 p q) + ((rmsGrad xr gr a q : ℝ) : EReal) := by
  pointwise [k0_pay8, k0_pay7, k0_pay6, k0_pay5]
  rw [ofBits_1024, ofBits_eps]
  simp only [ha, hx, hg, ← EReal.coe_mul, ← coe_sum]
  rw [div_coe _ (1024 : ℝ) (by norm_num), ← EReal.coe_add, rsqrt_ms]
  simp only [← EReal.coe_mul, ← coe_sum]
  rw [div_coe _ (1024 : ℝ) (by norm_num)]
  simp only [← EReal.coe_mul, ← EReal.coe_sub]
  rfl

/-- The gradient of the norm's weights: what a row block adds to what was there. -/
theorem pay_dg (acc xb : FVec Ideal S1024x1024 .f32) (prev : FVec Ideal S1x1024 .f32) (q : Fin 1024) (a xr : Fin 1024 → Fin 1024 → ℝ)
    (ha : ∀ p k, acc (ix2 p k) = ((a p k : ℝ) : EReal)) (hx : ∀ p k, xb (ix2 p k) = ((xr p k : ℝ) : EReal)) (z : Fin 1) :
    k0_pay9 (F := Ideal) acc xb prev (ix2 z q) = prev (ix2 z q) + ((∑ p, a p q * (xr p q * rinv (xr p)) : ℝ) : EReal) := by
  pointwise [k0_pay9, k0_pay7, k0_pay6, k0_pay5]
  rw [ofBits_1024, ofBits_eps]
  refine congrArg (_ + ·) ?_
  rw [coe_sum]
  refine Finset.sum_congr rfl fun p _ => ?_
  simp only [ha, hx, ← EReal.coe_mul, ← coe_sum]
  rw [div_coe _ (1024 : ℝ) (by norm_num), ← EReal.coe_add, rsqrt_ms]
  simp only [← EReal.coe_mul]

/-- At the last column block of a row block: both results from the finished accumulator. -/
theorem out_last (t : Fin cfg0.N) (h : t.val % 4 = 3) : ∃ A : FVec Ideal S1024x1024 .f32,
    (outsAt0 m c t.val t.isLt).2.2 = A
    ∧ (outsAt0 m c t.val t.isLt).1 = k0_pay8 (F := Ideal) A (iblk m c 2 t) (iblk m c 3 t) (iblk m c 4 t)
    ∧ ∀ (z : Fin 8) (q : Fin 1024), ((outsAt0 m c t.val t.isLt).2.1 : FVec Ideal S8x1024 .f32) (ix2 z q)
      = if z.val = 0 then k0_pay9 (F := Ideal) A (iblk m c 2 t)
          (View.ld (outsAt0 m c (t.val - 1) (by omega)).2.1 (Rect.unit ![0, 0] ![1, 1024] inb_S8x1024_S1x1024_0_0)) (ix2 0 q)
        else ((outsAt0 m c (t.val - 1) (by omega)).2.1 : FVec Ideal S8x1024 .f32) (ix2 z q) := by
  rw [outsAt0_C m c t (by omega) (by omega) (by omega) h]
  frame_out
  simp only [read_unread_whole]
  refine ⟨_, rfl, rfl, fun z q => ?_⟩
  by_cases hz : z.val = 0
  · rw [if_pos hz]
    exact View.read_writes_cons_rows_of_mem _ _ _ _ _ _ (ix2 0 q) rfl hz rfl
  · rw [if_neg hz]
    rw [View.read_writes_cons_rows_of_not_mem (W := 1) _ _ _ _ _ _ rfl rfl (Or.inr (by show 0 + 1 ≤ z.val; omega))]
    exact congrFun (Memref.IsWhole.read_unread _ _) (ix2 z q)

include hx hg hw hy hd in
/-- The block of the residual stream's gradient. -/
theorem dx_block (t : Fin cfg0.N) (h : t.val % 4 = 3) (p q : Fin 1024) :
    ((outsAt0 m c t.val t.isLt).1 : FVec Ideal S1024x1024 .f32) (ix2 p q)
      = y (ix3 (bb (t.val / 4 * 1024 + p.val)) (ss (t.val / 4 * 1024 + p.val)) q)
        + ((rmsGrad (row x (bb (t.val / 4 * 1024 + p.val)) (ss (t.val / 4 * 1024 + p.val))) (fun k => g (ix1 k))
            (dn w d (bb (t.val / 4 * 1024 + p.val)) (ss (t.val / 4 * 1024 + p.val))) q : ℝ) : EReal) := by
  obtain ⟨A, hA, h1, -⟩ := out_last (c := c) m t h
  rw [h1, ← y_at m hy t p q]
  refine pay_dx A _ _ _ p q _ _ _ (fun k => ?_) (fun k => x_at m hx t p k) (fun k => g_at m hg t 0 k)
  rw [← hA, acc_at m hw hd t.val t.isLt p k, h, dn_eq]

/-- One row's share of the gradient of the norm's weights. -/
def share (x : S4x2048x1024.Idx → ℝ) (w : S1024x7168.Idx → ℝ) (d : S4x2048x7168.Idx → ℝ) (q : Fin 1024) (b : Fin 4) (s : Fin 2048) : ℝ :=
  dn w d b s q * (row x b s q * rinv (row x b s))

theorem dg_keep (t : Fin cfg0.N) (h0 : ¬ t.val % 32 = 0) (h3 : ¬ t.val % 4 = 3) (z : Fin 8) (q : Fin 1024) :
    ((outsAt0 m c t.val t.isLt).2.1 : FVec Ideal S8x1024 .f32) (ix2 z q)
      = ((outsAt0 m c (t.val - 1) (by omega)).2.1 : FVec Ideal S8x1024 .f32) (ix2 z q) := by
  by_cases h1 : t.val % 4 = 0
  · rw [outsAt0_D m c t h0 h1 (by omega) h3]
    rfl
  · rw [outsAt0_B m c t h0 h1 (by omega) h3]
    rfl

theorem dg_zero (t : Fin cfg0.N) (h0 : t.val % 32 = 0) (z : Fin 8) (q : Fin 1024) :
    ((outsAt0 m c t.val t.isLt).2.1 : FVec Ideal S8x1024 .f32) (ix2 z q) = ((0 : ℝ) : EReal) := by
  rw [outsAt0_A m c t h0 (by omega) (by omega) (by omega)]
  frame_out
  pointwise [k0_pay1]
  simp

include hx hw hd in
theorem dg_last (t : Fin cfg0.N) (h : t.val % 4 = 3) (z : Fin 8) (q : Fin 1024) (a : ℝ)
    (ih : ((outsAt0 m c (t.val - 1) (by omega)).2.1 : FVec Ideal S8x1024 .f32) (ix2 z q) = ((a : ℝ) : EReal)) :
    ((outsAt0 m c t.val t.isLt).2.1 : FVec Ideal S8x1024 .f32) (ix2 z q)
      = ((if z.val = 0 then a + ∑ p ∈ Finset.range 1024, share x w d q (bb (t.val / 4 * 1024 + p)) (ss (t.val / 4 * 1024 + p)) else a : ℝ) : EReal) := by
  obtain ⟨A, hA, -, h2⟩ := out_last (c := c) m t h
  rw [h2]
  by_cases hz : z.val = 0
  · rw [if_pos hz, if_pos hz]
    have hz' : z = 0 := Fin.ext hz
    subst hz'
    rw [pay_dg A _ _ q (fun p k => dn w d (bb (t.val / 4 * 1024 + p.val)) (ss (t.val / 4 * 1024 + p.val)) k)
      (fun p => row x (bb (t.val / 4 * 1024 + p.val)) (ss (t.val / 4 * 1024 + p.val))) (fun p k => ?_) (fun p k => x_at m hx t p k), EReal.coe_add]
    · refine congrArg₂ (· + ·) ?_ ?_
      · pointwise
        exact ih
      · rw [Finset.sum_range]; rfl
    · rw [← hA, acc_at m hw hd t.val t.isLt p k, h, dn_eq]
  · rw [if_neg hz, if_neg hz]; exact ih

include hx hw hd in
/-- The weights' gradient after point `n`: row 0 has the shares of the rows finished so far, the others are zero. -/
theorem dg_at : ∀ (n : ℕ) (hn : n < cfg0.N) (z : Fin 8) (q : Fin 1024),
    ((outsAt0 m c n hn).2.1 : FVec Ideal S8x1024 .f32) (ix2 z q)
      = ((if z.val = 0 then ∑ r ∈ Finset.range ((n + 1) / 4 * 1024), share x w d q (bb r) (ss r) else 0 : ℝ) : EReal) := by
  intro n
  induction n with
  | zero =>
    intro hn z q
    rw [dg_zero m ⟨0, hn⟩ rfl z q]
    simp
  | succ n ih =>
    intro hn z q
    have hN : n + 1 < 32 := hn
    by_cases h3 : (n + 1) % 4 = 3
    · rw [dg_last m hx hw hd ⟨n + 1, hn⟩ h3 z q _ (ih (by omega) z q)]
      refine congrArg (fun a : ℝ => (a : EReal)) ?_
      by_cases hz : z.val = 0
      · simp only [if_pos hz]
        rw [show (n + 1 + 1) / 4 * 1024 = (n + 1) / 4 * 1024 + 1024 by omega, Finset.sum_range_add]
      · simp only [if_neg hz]
    · rw [dg_keep m ⟨n + 1, hn⟩ (by show ¬ (n + 1) % 32 = 0; omega) h3 z q]
      refine (ih (by omega) z q).trans ?_
      rw [show (n + 1 + 1) / 4 = (n + 1) / 4 by omega]

end Cert.KernelIdeal.Point

end
-- ==== Proof.Value.lean ====
/-
  THE TWO RESULTS AS WHOLE ARRAYS. The blocks of `Point` put together: the gradient of the stream over the eight row blocks,
  and the gradient of the norm's weights, which stays in one block and gathers a term per row block.
-/
module

public import proofs.«01_k».proof.Proof.Point

@[expose] public section

set_option maxRecDepth 16384

noncomputable section

open Idealize.ShloMosaic Idealize.ShloMosaic.TcCoe Idealize.SL.Sem
open Idealize.ShloMosaic.Pipeline (Dat)

namespace Cert.KernelIdeal.Point

open Cert.KernelIdeal Cert.KernelIdeal.Gen Cert.Reals
open Cert.ReferenceIdeal.Point (dn row dx_read dg_read)
open Cert.ReferenceIdeal.Read (val_main_v39 val_main_v41)

variable (m : (ℓ : Loc nD τ sig) → Buf (Elt Ideal) ℓ)
variable {x : S4x2048x1024.Idx → ℝ} {g : S1024.Idx → ℝ} {w : S1024x7168.Idx → ℝ} {d : S4x2048x7168.Idx → ℝ}
variable {y : S4x2048x1024.Idx → EReal} {c : Dev nD}
variable (hx : m ((c : Thread nD τ).loc main_arg0) = fun i => ((x i : ℝ) : EReal))
  (hg : m ((c : Thread nD τ).loc main_arg1) = fun i => ((g i : ℝ) : EReal))
  (hw : m ((c : Thread nD τ).loc main_arg2) = fun i => ((w i : ℝ) : EReal))
  (hy : m ((c : Thread nD τ).loc main_arg4) = y)
  (hd : m ((c : Thread nD τ).loc main_arg3) = fun i => ((d i : ℝ) : EReal))

include hx hg hw hy hd in
theorem dx_array : (dats m 0 c).arrAt 5 cfg0.N
    = val_main_v39 (F := Ideal) (fun i => ((x i : ℝ) : EReal)) (fun i => ((g i : ℝ) : EReal)) (fun i => ((w i : ℝ) : EReal)) (fun i => ((d i : ℝ) : EReal)) y := by
  refine (dats m 0 c).arrAt_eq_of_covers 5 _ (by decide +kernel) fun t hf j => ?_
  have h3 := (flush0_5 t).mp hf
  blk_simp
  rw [after0_5]
  have ht : t.val < 32 := t.isLt
  obtain ⟨-, -, -, -, -, ⟨e0, e1⟩, -⟩ := idx t
  have key : ∀ p q : Fin 1024, ((outsAt0 m c t.val t.isLt).1 : FVec Ideal S1024x1024 .f32) (ix2 p q)
      = val_main_v39 (F := Ideal) (fun i => ((x i : ℝ) : EReal)) (fun i => ((g i : ℝ) : EReal)) (fun i => ((w i : ℝ) : EReal)) (fun i => ((d i : ℝ) : EReal)) y
        (ix2 (⟨t.val / 4 * 1024 + p.val, by omega⟩ : Fin 8192) q) := fun p q => by
    rw [dx_block m hx hg hw hy hd t h3 p q]
    exact (dx_read x g w d _ q y _ _ (by show (t.val / 4 * 1024 + p.val) / 2048 % 4 = (t.val / 4 * 1024 + p.val) / 2048; omega) rfl).symm
  idx_vars j
  refine (key j0 j1).trans ?_
  refine congrArg _ ?_
  blk_ext
  all_goals first | (rw [e0]) | (rw [e1]; omega)

include hx hw hd in
theorem dg_array : (dats m 0 c).arrAt 6 cfg0.N
    = val_main_v41 (F := Ideal) (fun i => ((x i : ℝ) : EReal)) (fun i => ((w i : ℝ) : EReal)) (fun i => ((d i : ℝ) : EReal)) := by
  refine (dats m 0 c).arrAt_eq_of_covers 6 _ (by decide +kernel) fun t hf j => ?_
  have h3 := (flush0_6 t).mp hf
  blk_simp
  rw [after0_6]
  idx_vars j
  have ht : t.val < 32 := t.isLt
  obtain ⟨-, -, -, -, -, -, e0, e1⟩ := idx t
  refine (dg_at m hx hw hd t.val t.isLt j0 j1).trans ?_
  refine Eq.trans ?_ ((dg_read x w d j0 j1).symm.trans (congrArg _ ?_))
  swap
  · blk_ext
    all_goals first | (rw [e0]; omega) | (rw [e1]; omega)
  refine congrArg (fun a : ℝ => (a : EReal)) ?_
  rw [show (t.val + 1) / 4 * 1024 = 8192 by omega]
  by_cases hz : j0.val = 0
  · rw [if_pos hz, if_pos (by omega), Finset.sum_range]
    refine Fin.sum_divmod_congr (S := 2048) fun r ha hs => ?_
    have eb : bb r.val = ⟨r.val / 2048, ha⟩ := Fin.ext (Nat.mod_eq_of_lt ha)
    rw [eb]
    show dn w d _ _ _ * (row x _ _ _ * _) = _
    rw [mul_comm]
    rfl
  · rw [if_neg hz, if_neg (by omega)]
end Cert.KernelIdeal.Point

end
-- ==== Proof.Finite.lean ====
/-
  WHAT A PRECONDITION "EVERY ABSOLUTE VALUE IS BELOW INFINITY" SAYS. A conjunction over an array of `|x| < ∞`, as the
  host's reduction by `and` computes it, is one only if the array is an array of reals.
-/
module

public import proofs.«01_k».proof.Proof.Reals
public import Idealize.ShloMosaic.Lib.Pointwise

@[expose] public section

noncomputable section

open Idealize.ShloMosaic

namespace Cert.Reals

/-- The pattern `0x7F800000` is the top of the extended reals. -/
theorem ofBits_inf : Ideal.ofBits .f32 0x7F800000#32 = (⊤ : EReal) := by
  simp [Ideal.ofBits, Ideal.ieee]

/-- The conjunction over an array of "the absolute value is below infinity". -/
theorem finite_of_all {s : Shape} {axes : List (Fin s.rank)} (x : FVec Ideal s .f32)
    (hb : (⟨0, ![]⟩ : Shape).BroadcastsInDim s (![] : Fin 0 → Fin s.rank)) (h : s.ReducesTo axes (⟨0, ![]⟩ : Shape)) (hu : 0 < (⟨0, ![]⟩ : Shape).numel)
    (j : (⟨0, ![]⟩ : Shape).Idx)
    (e : Host.reduce IntOp.andi (cmpf .olt (Host.absf x) (broadcastInDim s ![] hb (constant (F := Ideal) (⟨0, ![]⟩ : Shape) .f32 0x7F800000#32)))
      (constantI (⟨0, ![]⟩ : Shape) 1 1#1) h hu j = 1#1) :
    ∃ r : s.Idx → ℝ, x = fun i => ((r i : ℝ) : EReal) := by
  haveI : Subsingleton (⟨0, ![]⟩ : Shape).Idx := ⟨fun a b => funext fun k => k.elim0⟩
  refine finite_of_abs_lt x fun i => ?_
  have h1 := Host.reduce_andi_all _ _ h hu j e i
  have h2 : BitVec.ofBool (decide (max (x i) (-(x i)) < Ideal.ofBits .f32 0x7F800000#32)) = 1#1 := h1
  rw [ofBits_inf] at h2
  simpa using (WordArith.ofBool_eq_one_iff _).1 h2

end Cert.Reals

end
-- ==== Proof.Pair1.lean ====
/-
  THE FIRST PAIR: the gradient through the mixer's norm (with the product that feeds it) against `jax.vjp` of the forward
  lines. The precondition makes the four arguments real; `Point` and `Value` read the kernel, `RefRead` the reference.
-/
module

public import proofs.«01_k».proof.Defs
public import proofs.«01_k».proof.Proof.Gen.Pre_finite
public import proofs.«01_k».proof.Proof.Value
public import proofs.«01_k».proof.Proof.Finite
public import Idealize.ShloMosaic.Lib.Claim

@[expose] public section

set_option maxRecDepth 16384

noncomputable section

open Idealize.ShloMosaic Idealize.ShloMosaic.TcCoe Idealize.SL.Sem

namespace Cert.Pair1

open Cert.Reals

/-- The precondition: the stream, the norm's weights, the projection and the cotangent of its columns are real. -/
theorem reals {x y : FVec Ideal Cert.Pre_finite.S4x2048x1024 .f32} {g : FVec Ideal Cert.Pre_finite.S1024 .f32} {w : FVec Ideal Cert.Pre_finite.S1024x7168 .f32} {d : FVec Ideal Cert.Pre_finite.S4x2048x7168 .f32}
    (h : Cert.Pre_finite.fn (F := Ideal) x g w d y = fun _ => 1#1) :
    (∃ r : Cert.Pre_finite.S4x2048x1024.Idx → ℝ, x = fun i => ((r i : ℝ) : EReal)) ∧ (∃ r : Cert.Pre_finite.S1024.Idx → ℝ, g = fun i => ((r i : ℝ) : EReal))
      ∧ (∃ r : Cert.Pre_finite.S1024x7168.Idx → ℝ, w = fun i => ((r i : ℝ) : EReal)) ∧ (∃ r : Cert.Pre_finite.S4x2048x7168.Idx → ℝ, d = fun i => ((r i : ℝ) : EReal)) := by
  have h0 := congrFun h ix0
  unfold Cert.Pre_finite.fn Cert.Pre_finite.fn_part1 at h0
  obtain ⟨h1, hd⟩ := IntOp.andi_eq_one.1 h0
  obtain ⟨h2, hw⟩ := IntOp.andi_eq_one.1 h1
  obtain ⟨hx, hg⟩ := IntOp.andi_eq_one.1 h2
  exact ⟨finite_of_all x _ _ _ _ hx, finite_of_all g _ _ _ _ hg, finite_of_all w _ _ _ _ hw, finite_of_all d _ _ _ _ hd⟩

/-- The reference's run leaves the five arguments as they were; it declares no semaphore, so every counter stays zero. -/
theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

/-- For real inputs the kernel's two results are the reference's. -/
theorem algebraic : Cert.algebraic_KernelIdeal_ReferenceIdeal_pre_finite := by
  pair_intro
  · run_from Cert.KernelIdeal.Value.run_blocks m g
  · run_from Cert.ReferenceIdeal.Value.run m' g'
    · obtain ⟨⟨x, hx⟩, ⟨n, hg⟩, ⟨w, hw⟩, ⟨d, hd⟩⟩ := reals (hpre c)
      rw [Cert.KernelIdeal.Point.dx_array m hx hg hw rfl hd]
      rw [Cert.ReferenceIdeal.Read.val_main_v39_eq, (hagree c).1, (hagree c).2.1, (hagree c).2.2.1, (hagree c).2.2.2.1, (hagree c).2.2.2.2, hx, hg, hw, hd]
    · obtain ⟨⟨x, hx⟩, ⟨n, hg⟩, ⟨w, hw⟩, ⟨d, hd⟩⟩ := reals (hpre c)
      rw [Cert.KernelIdeal.Point.dg_array m hx hw hd, hx, hw, hd]
      rfl

end Cert.Pair1

end
-- ==== Proof.MixModel.lean ====
/-
  THE MIXER'S GRADIENT OVER THE REALS. What the forward pass saved (`Saved`), the cotangent of the merged branches, and from
  them every quantity of the backward pass, row by row and column by column: the gradient through the causal convolution, the
  gradient through the masked mixing of positions inside a chunk, and the gradient through the layer norm.
-/
module

public import proofs.«01_k».proof.Proof.Reals

@[expose] public section

noncomputable section

namespace Cert.Mix

open Cert.Reals

/-- A quantity per batch, position and channel. -/
abbrev Tok := Fin 4 → Fin 2048 → Fin 1024 → ℝ

/-- What the forward pass saved: the seven columns of the projection (the two gates as sigmoids), the convolution, the mixed
    rows and the normalised rows that were mixed. -/
structure Saved where
  B : Tok
  C : Tok
  XI : Tok
  U : Tok
  V : Tok
  CV : Tok
  MX : Tok
  VN : Tok
  SA : Tok
  SB : Tok

/-! ## The layer norm of a row -/

def mean {n : ℕ} (v : Fin n → ℝ) : ℝ := (∑ k, v k) / 1024

/-- A row less its mean. -/
def ctr {n : ℕ} (v : Fin n → ℝ) (q : Fin n) : ℝ := v q - mean v

/-- The row normalised. -/
def hat {n : ℕ} (v : Fin n → ℝ) (q : Fin n) : ℝ := ctr v q * rinv (ctr v)

/-- THE GRADIENT THROUGH A ROW'S LAYER NORM, written by hand. -/
def lnGrad {n : ℕ} (v g dy : Fin n → ℝ) (q : Fin n) : ℝ :=
  rinv (ctr v) * (dy q * g q - mean (fun k => dy k * g k) - hat v q * mean (fun k => dy k * g k * hat v k))

theorem sum_ctr (v : Fin 1024 → ℝ) : ∑ k, ctr v k = 0 := by
  unfold ctr mean
  rw [Finset.sum_sub_distrib, Finset.sum_const, Finset.card_univ, Fintype.card_fin, nsmul_eq_mul]
  push_cast
  ring

/-- What differentiation gives before the mean's own gradient is taken off. -/
def lnPart (v g dy : Fin 1024 → ℝ) (q : Fin 1024) : ℝ :=
  dy q * g q * rinv (ctr v)
    + ctr v q * ((∑ k, ctr v k * (dy k * g k)) * (-(1 / 2) * (rinv (ctr v) / ms (ctr v))) / 1024)
    + (∑ k, ctr v k * (dy k * g k)) * (-(1 / 2) * (rinv (ctr v) / ms (ctr v))) / 1024 * ctr v q

theorem sum_lnPart (v g dy : Fin 1024 → ℝ) : ∑ k, lnPart v g dy k = (∑ k, dy k * g k) * rinv (ctr v) := by
  unfold lnPart
  rw [Finset.sum_add_distrib, Finset.sum_add_distrib, ← Finset.sum_mul, ← Finset.sum_mul, ← Finset.mul_sum, sum_ctr]
  ring

theorem lnGrad_eq (v g dy : Fin 1024 → ℝ) (q : Fin 1024) :
    lnPart v g dy q + -(∑ k, lnPart v g dy k) / 1024 = lnGrad v g dy q := by
  rw [sum_lnPart]
  have h := ms_pos (ctr v)
  have hr : rinv (ctr v) / ms (ctr v) = rinv (ctr v) * (rinv (ctr v) * rinv (ctr v)) := by
    rw [div_eq_iff h.ne', mul_assoc, rinv_sq, mul_one]
  have hs : (∑ k, dy k * g k * hat v k) = (∑ k, ctr v k * (dy k * g k)) * rinv (ctr v) := by
    rw [Finset.sum_mul]; exact Finset.sum_congr rfl fun k _ => by unfold hat; ring
  unfold lnPart lnGrad mean
  rw [hr, hs]
  unfold hat
  ring

/-! ## Position by position -/

/-- The quantity `j` positions later, zero after the last. -/
def up (j : ℕ) (f : Tok) : Tok := fun b s q => if h : s.val + j < 2048 then f b ⟨s.val + j, h⟩ q else 0

/-- The gradient through the causal convolution of width three. -/
def convT (f : Tok) (cw : Fin 3 → Fin 1024 → ℝ) : Tok := fun b s q => f b s q * cw 2 q + up 1 f b s q * cw 1 q + up 2 f b s q * cw 0 q

/-- The group of a channel. -/
def grp (q : Fin 1024) : Fin 8 := ⟨q.val / 128, by omega⟩

/-- Position `t` of the chunk of position `s`. -/
def inChunk (s : Fin 2048) (t : Fin 128) : Fin 2048 := ⟨s.val / 128 * 128 + t.val, by omega⟩

/-- Position `t` of chunk `n`. -/
def at_ (n : Fin 16) (t : Fin 128) : Fin 2048 := ⟨n.val * 128 + t.val, by omega⟩

/-- Channel `c` of group `g`. -/
def ch (g : Fin 8) (c : Fin 128) : Fin 1024 := ⟨g.val * 128 + c.val, by omega⟩

/-- The place of a position in its chunk. -/
def pos (s : Fin 2048) : Fin 128 := ⟨s.val % 128, by omega⟩

/-- The batch and the position of flat row `r`. -/
def bb (r : ℕ) : Fin 4 := ⟨r / 2048 % 4, by omega⟩
def ss (r : ℕ) : Fin 2048 := ⟨r % 2048, by omega⟩

namespace Saved

variable (k : Saved) (dm : Tok) (cw : Fin 3 → Fin 1024 → ℝ) (lng : Fin 1024 → ℝ) (ws : Fin 8 → Fin 128 → Fin 128 → ℝ)

def dga : Tok := fun b s q => dm b s q * (k.B b s q * k.CV b s q) * (k.SA b s q * (1 - k.SA b s q))
def dgb : Tok := fun b s q => dm b s q * (k.U b s q * k.MX b s q) * (k.SB b s q * (1 - k.SB b s q))
def db : Tok := fun b s q => dm b s q * k.SA b s q * k.CV b s q
/-- The gradient of the convolution's rows. -/
def dcv : Tok := fun b s q => dm b s q * k.SA b s q * k.B b s q
def dc : Tok := fun b s q => convT (k.dcv dm) cw b s q * k.XI b s q
def dxi : Tok := fun b s q => convT (k.dcv dm) cw b s q * k.C b s q
def du : Tok := fun b s q => dm b s q * k.SB b s q * k.MX b s q
/-- The gradient of the mixed rows. -/
def dmx : Tok := fun b s q => dm b s q * k.SB b s q * k.U b s q
/-- The gradient of the normalised rows: the mixing's transpose. -/
def dvn : Tok := fun b s q => ∑ t : Fin 128, (if (pos s).val ≤ t.val then ws (grp q) t (pos s) else 0) * k.dmx dm b (inChunk s t) q
def dv : Tok := fun b s q => lnGrad (k.V b s) lng (k.dvn dm ws b s) q

/-- The gradient of the convolution's weight `2 - j`. -/
def dcw (j : ℕ) (q : Fin 1024) : ℝ := ∑ b, ∑ s, up j (k.dcv dm) b s q * (k.C b s q * k.XI b s q)
def dlg (q : Fin 1024) : ℝ := ∑ b, ∑ s, k.dvn dm ws b s q * hat (k.V b s) q
def dlb (q : Fin 1024) : ℝ := ∑ b, ∑ s, k.dvn dm ws b s q
/-- The gradient of the mixing's weights. -/
def dws (g : Fin 8) (t s : Fin 128) : ℝ :=
  if s.val ≤ t.val then ∑ b, ∑ n, ∑ c, k.dmx dm b (at_ n t) (ch g c) * k.VN b (at_ n s) (ch g c) else 0
/-- The gradient of the mixing's bias. -/
def dbs (g : Fin 8) (t : Fin 128) : ℝ := ∑ b, ∑ n, ∑ c, k.dmx dm b (at_ n t) (ch g c)

end Saved

/-- The seven parts of the projection's cotangent, in the columns' order. -/
def parts (k : Saved) (dm : Tok) (cw : Fin 3 → Fin 1024 → ℝ) (lng : Fin 1024 → ℝ) (ws : Fin 8 → Fin 128 → Fin 128 → ℝ) : Fin 7 → Tok :=
  ![k.db dm, k.dc dm cw, k.dxi dm cw, k.du dm, k.dv dm lng ws, k.dga dm, k.dgb dm]

/-- A row of parts side by side. -/
def side (f : Fin 7 → Tok) (b : Fin 4) (s : Fin 2048) (q : Fin 7168) : ℝ := f ⟨q.val / 1024, by omega⟩ b s ⟨q.val % 1024, by omega⟩

theorem side_of (f : Fin 7 → Tok) (b b' : Fin 4) (s s' : Fin 2048) (l : Fin 7168) (j : Fin 7) (q : Fin 1024) (hb : b.val = b'.val) (hs : s.val = s'.val)
    (hl : l.val = j.val * 1024 + q.val) : f j b s q = side f b' s' l := by
  obtain rfl : b = b' := Fin.ext hb
  obtain rfl : s = s' := Fin.ext hs
  unfold side
  have ej : j = ⟨l.val / 1024, by omega⟩ := Fin.ext (by show j.val = l.val / 1024; omega)
  have eq : q = ⟨l.val % 1024, by omega⟩ := Fin.ext (by show q.val = l.val % 1024; omega)
  exact congrArg₂ (fun (i : Fin 7) (x : Fin 1024) => f i b s x) ej eq

end Cert.Mix

end
-- ==== Proof.Closure.lean ====
/-
  WHICH EXTENDED REALS ARE REAL. Sums, products, differences, finite sums, exponentials and sigmoids of reals are real, so an
  array built from real arrays by these is one.
-/
module

public import proofs.«01_k».proof.Proof.Reals

@[expose] public section

noncomputable section

open Idealize.ShloMosaic
open scoped BigOperators

namespace Cert.Reals

/-- A real number among the extended reals. -/
def IsR (e : EReal) : Prop := ∃ r : ℝ, e = (r : EReal)

theorem IsR.coe (r : ℝ) : IsR (r : EReal) := ⟨r, rfl⟩

theorem IsR.zero : IsR 0 := ⟨0, rfl⟩

theorem IsR.add {a b : EReal} : IsR a → IsR b → IsR (a + b) := by rintro ⟨x, rfl⟩ ⟨y, rfl⟩; exact ⟨x + y, rfl⟩

theorem IsR.mul {a b : EReal} : IsR a → IsR b → IsR (a * b) := by rintro ⟨x, rfl⟩ ⟨y, rfl⟩; exact ⟨x * y, rfl⟩

theorem IsR.sub {a b : EReal} : IsR a → IsR b → IsR (a - b) := by rintro ⟨x, rfl⟩ ⟨y, rfl⟩; exact ⟨x - y, rfl⟩

theorem IsR.sum {ι : Type} (s : Finset ι) {f : ι → EReal} (h : ∀ i, IsR (f i)) : IsR (∑ i ∈ s, f i) := by
  choose g hg using h
  exact ⟨∑ i ∈ s, g i, by rw [coe_sum]; exact Finset.sum_congr rfl fun i _ => hg i⟩

theorem IsR.ite {p : Prop} [Decidable p] {a b : EReal} (ha : IsR a) (hb : IsR b) : IsR (if p then a else b) := by
  split <;> assumption

theorem IsR.dite {p : Prop} [Decidable p] {a : p → EReal} {b : ¬p → EReal} (ha : ∀ h, IsR (a h)) (hb : ∀ h, IsR (b h)) :
    IsR (dite p a b) := by
  split
  · exact ha _
  · exact hb _

/-- The pattern `0x3F800000` is 1. -/
theorem ofBits_one : Ideal.ofBits .f32 0x3F800000#32 = ((1 : ℝ) : EReal) := by
  simp [Ideal.ofBits, Ideal.ieee, -EReal.coe_mul]; norm_num

/-- The sigmoid of a real is real. -/
theorem IsR.sigmoid {a : EReal} : IsR a → IsR (Ideal.div ((1 : ℝ) : EReal) (((1 : ℝ) : EReal) + Ideal.exp (-a))) := by
  rintro ⟨x, rfl⟩
  rw [← EReal.coe_neg]
  show IsR (Ideal.div ((1 : ℝ) : EReal) (((1 : ℝ) : EReal) + ((Real.exp (-x) : ℝ) : EReal)))
  rw [← EReal.coe_add, div_coe _ _ (by positivity)]
  exact IsR.coe _

/-- An array of reals, as one function. -/
theorem finite_of_isR {ι : Type} {x : ι → EReal} (h : ∀ i, IsR (x i)) : Finite x := by
  choose g hg using h
  exact ⟨g, funext hg⟩

theorem isR_of_finite {ι : Type} {x : ι → EReal} (h : Finite x) (i : ι) : IsR (x i) := by
  obtain ⟨r, rfl⟩ := h
  exact ⟨r i, rfl⟩

/-! ## Comparisons of small words -/

theorem sle_at (a b : Fin 128) : IntOp.cmpi .sle (BitVec.ofNat 32 a.val) (BitVec.ofNat 32 b.val) = if a.val ≤ b.val then 1#1 else 0#1 := by
  revert a b
  decide +kernel

theorem sge_at (a b : Fin 128) : IntOp.cmpi .sge (BitVec.ofNat 32 a.val) (BitVec.ofNat 32 b.val) = if b.val ≤ a.val then 1#1 else 0#1 := by
  revert a b
  decide +kernel

/-- A product with one factor `j` positions earlier, summed: the other factor `j` positions later. -/
theorem shift_sum (j : ℕ) (hj : j ≤ 2048) (f g : Fin 2048 → ℝ) :
    ∑ s : Fin 2048, (if h : s.val < j then 0 else g ⟨s.val - j, by omega⟩) * f s = ∑ s : Fin 2048, (if h : s.val + j < 2048 then f ⟨s.val + j, h⟩ else 0) * g s := by
  obtain ⟨r, hr⟩ : ∃ r, 2048 = j + r := ⟨2048 - j, by omega⟩
  let F : ℕ → ℝ := fun n => if h : n < 2048 then f ⟨n, h⟩ else 0
  let G : ℕ → ℝ := fun n => if h : n < 2048 then g ⟨n, h⟩ else 0
  have e1 : ∀ s : Fin 2048, (if h : s.val < j then 0 else g ⟨s.val - j, by omega⟩) * f s = (fun n : ℕ => (if n < j then 0 else G (n - j)) * F n) s.val := by
    intro s
    have hs : s.val - j < 2048 := by omega
    simp only [F, G, dif_pos s.isLt, dif_pos hs]
    by_cases h : s.val < j
    · rw [dif_pos h, if_pos h]
    · rw [dif_neg h, if_neg h]
  have e2 : ∀ s : Fin 2048, (if h : s.val + j < 2048 then f ⟨s.val + j, h⟩ else 0) * g s = (fun n : ℕ => F (n + j) * G n) s.val := by
    intro s
    simp only [F, G, dif_pos s.isLt]
  rw [Finset.sum_congr rfl fun s _ => e1 s, Finset.sum_congr rfl fun s _ => e2 s]
  rw [← Finset.sum_range (fun n : ℕ => (if n < j then 0 else G (n - j)) * F n), ← Finset.sum_range (fun n : ℕ => F (n + j) * G n)]
  have l : ∑ n ∈ Finset.range 2048, (if n < j then 0 else G (n - j)) * F n = ∑ n ∈ Finset.range r, G n * F (j + n) := by
    rw [show (2048 : ℕ) = j + r from hr, Finset.sum_range_add, Finset.sum_eq_zero fun n hn => by rw [if_pos (Finset.mem_range.mp hn), zero_mul], zero_add]
    refine Finset.sum_congr rfl fun n _ => ?_
    rw [if_neg (by omega), Nat.add_sub_cancel_left]
  have l2 : ∑ n ∈ Finset.range 2048, F (n + j) * G n = ∑ n ∈ Finset.range r, F (n + j) * G n := by
    rw [show (2048 : ℕ) = r + j by omega, Finset.sum_range_add]
    rw [Finset.sum_eq_zero (s := Finset.range j) fun n _ => by simp only [F]; rw [dif_neg (by omega), zero_mul], add_zero]
  rw [l, l2]
  refine Finset.sum_congr rfl fun n _ => ?_
  rw [mul_comm, Nat.add_comm]

end Cert.Reals

end
-- ==== Proof.MixPay.lean ====
/-
  THE MIXER'S BACKWARD STEP ON ONE BLOCK OF ROWS. What each quantity the kernel computes is when the blocks it is computed from
  hold, row for row, the quantities of `Cert.Mix`: `Blk f R A` says that row `p` of the block `A` holds the flat row `R + p` of `f`.
-/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.WritesUnit
public import proofs.«01_k».proof.Proof.MixModel
public import proofs.«01_k».proof.Proof.Closure

@[expose] public section

set_option maxRecDepth 16384

noncomputable section

open Idealize.ShloMosaic Idealize.ShloMosaic.TcCoe Idealize.SL.Sem

namespace Cert.Kernel2Ideal.Point

open Cert.Kernel2Ideal Cert.Kernel2Ideal.Gen Cert.Reals Cert.Mix

/-- Row `p` of the block holds flat row `R + p` of `f`. -/
def Blk (f : Tok) (R : ℕ) (A : S512x1024.Idx → EReal) : Prop :=
  ∀ (p : Fin 512) (q : Fin 1024), A (ix2 p q) = ((f (bb (R + p.val)) (ss (R + p.val)) q : ℝ) : EReal)

variable {k : Saved} {dm : Tok} {R : ℕ}
variable {b sa sb cv c xi u mx v vn : FVec Ideal S512x1024 .bf16} {D : FVec Ideal S512x1024 .f32}
variable (hb : Blk k.B R b) (hsa : Blk k.SA R sa) (hsb : Blk k.SB R sb) (hcv : Blk k.CV R cv) (hc : Blk k.C R c) (hxi : Blk k.XI R xi)
  (hu : Blk k.U R u) (hmx : Blk k.MX R mx) (hv : Blk k.V R v) (hvn : Blk k.VN R vn) (hD : Blk dm R D)

include hb hsa hcv hD in
theorem blk_dga : Blk (k.dga dm) R (k0_pay31 (k0_pay23 sa) D (k0_pay30 (k0_pay17 b) cv) : FVec Ideal S512x1024 .bf16) := by
  intro p q
  pointwise [k0_pay31, k0_pay23, k0_pay30, k0_pay17, k0_pay21]
  rw [hb, hsa, hcv, hD]
  rfl

include hsb hu hmx hD in
theorem blk_dgb : Blk (k.dgb dm) R (k0_pay32 (k0_pay20 u) (k0_pay22 mx) (k0_pay24 sb) D : FVec Ideal S512x1024 .bf16) := by
  intro p q
  pointwise [k0_pay32, k0_pay20, k0_pay22, k0_pay24]
  rw [hu, hmx, hsb, hD]
  rfl

include hcv hsa hD in
theorem blk_db : Blk (k.db dm) R (k0_pay35 (k0_pay21 cv) (k0_pay23 sa) D : FVec Ideal S512x1024 .bf16) := by
  intro p q
  pointwise [k0_pay35, k0_pay33, k0_pay21, k0_pay23]
  rw [hcv, hsa, hD]
  rfl

include hb hsa hD in
theorem blk_dcv : Blk (k.dcv dm) R (k0_pay36 (k0_pay17 b) (k0_pay23 sa) D : FVec Ideal S512x1024 .f32) := by
  intro p q
  pointwise [k0_pay36, k0_pay33, k0_pay17, k0_pay23]
  rw [hb, hsa, hD]
  rfl

include hsb hmx hD in
theorem blk_du : Blk (k.du dm) R (k0_pay51 (k0_pay22 mx) (k0_pay34 (k0_pay24 sb) D) : FVec Ideal S512x1024 .bf16) := by
  intro p q
  pointwise [k0_pay51, k0_pay22, k0_pay34, k0_pay24]
  rw [hsb, hmx, hD]
  rfl

include hsb hu hD in
theorem blk_dmx : Blk (k.dmx dm) R (k0_pay53 (k0_pay20 u) (k0_pay34 (k0_pay24 sb) D) : FVec Ideal S512x1024 .bf16) := by
  intro p q
  pointwise [k0_pay53, k0_pay52, k0_pay20, k0_pay34, k0_pay24]
  rw [hsb, hu, hD]
  rfl

/-- The eight rows after the block, zero where the sequence ends with it. -/
def nxt (N : ℕ) (f : Tok) (R : ℕ) (r : Fin 8) (q : Fin 1024) : ℝ :=
  if R % 2048 + N = 2048 then 0 else f (bb (R + N + r.val)) (ss (R + N + r.val)) q

/-- Whether the row block of point `n` ends a sequence: the kernel's test, on words. -/
def endBit (n : BitVec 32) : BitVec 1 :=
  let w : BitVec 32 := Scalar.select (Scalar.cmpi .eq 4#32 0#32) 1#32 4#32
  let r : BitVec 32 := Scalar.remsi (Scalar.subi 15#32 n) w
  Scalar.cmpi .eq (Scalar.select (Scalar.andi (Scalar.xori (Scalar.cmpi .slt r 0#32) (Scalar.cmpi .slt w 0#32)) (Scalar.cmpi .ne r 0#32)) (Scalar.addi r w) r) 3#32

theorem endBit_eq : ∀ t : Fin grid0.N, endBit (BitVec.ofNat 32 (grid0.coords t 0).val) = if t.val % 4 = 0 then 1#1 else 0#1 := by
  decide +kernel

theorem keep_at (t : Fin cfg0.N) : (k0_pay14 (F := Ideal) (grid0.coords t) : EReal) = if t.val % 4 = 0 then 0 else 1 := by
  pointwise [k0_pay14]
  show Scalar.select (endBit (BitVec.ofNat 32 (grid0.coords t 0).val)) (0 : EReal) 1 = _
  rw [endBit_eq t]
  split <;> rfl

theorem sel_one (a b : EReal) : Scalar.select (1#1 : BitVec 1) a b = a := rfl
theorem sel_zero (a b : EReal) : Scalar.select (0#1 : BitVec 1) a b = b := rfl
theorem sge7 : ∀ n : Fin 8, IntOp.cmpi .sge (BitVec.ofNat 32 n.val) 7#32 = if 7 ≤ n.val then 1#1 else 0#1 := by decide
theorem sge6 : ∀ n : Fin 8, IntOp.cmpi .sge (BitVec.ofNat 32 n.val) 6#32 = if 6 ≤ n.val then 1#1 else 0#1 := by decide

theorem bb_add (r j : ℕ) (h : r % 2048 + j < 2048) : bb (r + j) = bb r := Fin.ext (by show (r + j) / 2048 % 4 = r / 2048 % 4; omega)
theorem ss_add (r j : ℕ) (h : r % 2048 + j < 2048) : (ss (r + j)).val = (ss r).val + j := by show (r + j) % 2048 = r % 2048 + j; omega

/-- `j` rows later, inside the sequence. -/
theorem up_in (j : ℕ) (f : Tok) (r : ℕ) (q : Fin 1024) (h : r % 2048 + j < 2048) : up j f (bb r) (ss r) q = f (bb (r + j)) (ss (r + j)) q := by
  unfold up
  rw [dif_pos (show (ss r).val + j < 2048 from h), bb_add r j h]
  exact congrArg (fun s => f (bb r) s q) (Fin.ext (ss_add r j h).symm)

/-- `j` rows later, past its end. -/
theorem up_out (j : ℕ) (f : Tok) (r : ℕ) (q : Fin 1024) (h : 2048 ≤ r % 2048 + j) : up j f (bb r) (ss r) q = 0 := by
  unfold up
  rw [dif_neg (show ¬ (ss r).val + j < 2048 from not_lt.mpr h)]

/-- Row `p` of the block moved up by `j` rows, the rows after the block being `nxt`. -/
theorem up_blk {N : ℕ} (f : Tok) (hR : R % 2048 + N = 2048 ∨ R % 2048 + N + 8 ≤ 2048) (j : ℕ) (hj : j ≤ 8) (p : Fin N) (q : Fin 1024) (z : ℝ)
    (h1 : p.val + j < N → z = f (bb (R + (p.val + j))) (ss (R + (p.val + j))) q)
    (h2 : ∀ h : N ≤ p.val + j, z = nxt N f R ⟨p.val + j - N, by omega⟩ q) : z = up j f (bb (R + p.val)) (ss (R + p.val)) q := by
  have hp := p.isLt
  by_cases h : p.val + j < N
  · rw [h1 h, up_in j f _ q (by omega), Nat.add_assoc]
  · rw [h2 (by omega)]
    unfold nxt
    by_cases hE : R % 2048 + N = 2048
    · rw [if_pos hE, up_out j f _ q (by omega)]
    · rw [if_neg hE, up_in j f _ q (by omega)]
      have e : R + N + (p.val + j - N) = R + p.val + j := by omega
      show f (bb (R + N + (p.val + j - N))) (ss (R + N + (p.val + j - N))) q = _
      rw [e]

theorem up1_at (v15 : EReal) (v93 : FVec Ideal S8x1024 .f32) (hR : R % 512 = 0) (f : Tok) (hf : Blk f R (k0_pay36 (k0_pay17 b) (k0_pay23 sa) D))
    (hn : ∀ r q, (k0_pay37 (F := Ideal) v15 v93 : FVec Ideal S8x1024 .f32) (ix2 r q) = ((nxt 512 f R r q : ℝ) : EReal)) :
    Blk (up 1 f) R (k0_pay39 (F := Ideal) v15 (k0_pay17 b) (k0_pay23 sa) D v93) := by
  intro p q
  pointwise [k0_pay39]
  by_cases h : p.val < 504
  · rw [dif_pos h, hf]
    refine congrArg (fun z : ℝ => (z : EReal)) (up_blk f (show R % 2048 + 512 = 2048 ∨ R % 2048 + 512 + 8 ≤ 2048 by omega) 1 (by omega) p q _ (fun h1 => ?_) fun h2 => by omega)
    have e : (p.val + 512 - 511) % 512 = p.val + 1 := by omega
    simp only [e]
  · rw [dif_neg h, sge7 ⟨p.val - 504, by omega⟩, hn, hf]
    by_cases h7 : 7 ≤ p.val - 504
    · rw [if_pos h7, sel_one]
      refine congrArg (fun z : ℝ => (z : EReal)) (up_blk f (show R % 2048 + 512 = 2048 ∨ R % 2048 + 512 + 8 ≤ 2048 by omega) 1 (by omega) p q _ (fun h1 => by omega) fun h2 => ?_)
      exact congrArg (fun r => nxt 512 f R r q) (Fin.ext (by show (p.val - 504 + 8 - 7) % 8 = p.val + 1 - 512; omega))
    · rw [if_neg h7, sel_zero]
      refine congrArg (fun z : ℝ => (z : EReal)) (up_blk f (show R % 2048 + 512 = 2048 ∨ R % 2048 + 512 + 8 ≤ 2048 by omega) 1 (by omega) p q _ (fun h1 => ?_) fun h2 => by omega)
      have e : (504 + (p.val - 504) + 512 - 511) % 512 = p.val + 1 := by omega
      show f (bb (R + (504 + (p.val - 504) + 512 - 511) % 512)) (ss (R + (504 + (p.val - 504) + 512 - 511) % 512)) q = _
      rw [e]

theorem up2_at (v15 : EReal) (v93 : FVec Ideal S8x1024 .f32) (hR : R % 512 = 0) (f : Tok) (hf : Blk f R (k0_pay36 (k0_pay17 b) (k0_pay23 sa) D))
    (hn : ∀ r q, (k0_pay37 (F := Ideal) v15 v93 : FVec Ideal S8x1024 .f32) (ix2 r q) = ((nxt 512 f R r q : ℝ) : EReal)) :
    Blk (up 2 f) R (k0_pay42 (k0_pay40 (k0_pay17 b) (k0_pay23 sa) D) (k0_pay41 (F := Ideal) v15 v93)) := by
  intro p q
  pointwise [k0_pay42, k0_pay40, k0_pay41]
  by_cases h : p.val < 504
  · rw [dif_pos h, hf]
    refine congrArg (fun z : ℝ => (z : EReal)) (up_blk f (show R % 2048 + 512 = 2048 ∨ R % 2048 + 512 + 8 ≤ 2048 by omega) 2 (by omega) p q _ (fun h1 => ?_) fun h2 => by omega)
    have e : (p.val + 512 - 510) % 512 = p.val + 2 := by omega
    simp only [e]
  · rw [dif_neg h, sge6 ⟨p.val - 504, by omega⟩, hn, hf]
    by_cases h7 : 6 ≤ p.val - 504
    · rw [if_pos h7, sel_one]
      refine congrArg (fun z : ℝ => (z : EReal)) (up_blk f (show R % 2048 + 512 = 2048 ∨ R % 2048 + 512 + 8 ≤ 2048 by omega) 2 (by omega) p q _ (fun h1 => by omega) fun h2 => ?_)
      exact congrArg (fun r => nxt 512 f R r q) (Fin.ext (by show (p.val - 504 + 8 - 6) % 8 = p.val + 2 - 512; omega))
    · rw [if_neg h7, sel_zero]
      refine congrArg (fun z : ℝ => (z : EReal)) (up_blk f (show R % 2048 + 512 = 2048 ∨ R % 2048 + 512 + 8 ≤ 2048 by omega) 2 (by omega) p q _ (fun h1 => ?_) fun h2 => by omega)
      have e : (504 + (p.val - 504) + 512 - 510) % 512 = p.val + 2 := by omega
      show f (bb (R + (504 + (p.val - 504) + 512 - 510) % 512)) (ss (R + (504 + (p.val - 504) + 512 - 510) % 512)) q = _
      rw [e]

/-- The row of the padded weights. -/
def r8 (j : Fin 3) : Fin 8 := ⟨j.val, by omega⟩

variable {cw : Fin 3 → Fin 1024 → ℝ} {lng : Fin 1024 → ℝ} {w : FVec Ideal S8x1024 .f32} {lg : FVec Ideal S1x1024 .f32}
variable {F0 F1 : FVec Ideal S512x1024 .f32} {F2 : FVec Ideal S512x1024 .f32} {F3 : FVec Ideal S8x1024 .f32} {f : Tok}
variable (hw : ∀ (j : Fin 3) q, w (ix2 (r8 j) q) = ((cw j q : ℝ) : EReal)) (hlg : ∀ q, lg (ix2 0 q) = ((lng q : ℝ) : EReal))
  (h0 : Blk f R F0) (h1 : Blk (up 1 f) R F1) (h2 : Blk (up 2 f) R (k0_pay42 F2 F3))

include hw h0 h1 h2 in
/-- The gradient through the convolution. -/
theorem blk_convT : Blk (convT f cw) R (k0_pay43 (k0_pay15 w) F0 F1 F2 F3 : FVec Ideal S512x1024 .f32) := by
  intro p q
  pointwise [k0_pay43, k0_pay15]
  have e2 : w (ix2 2 q) = _ := hw 2 q
  have e1 : w (ix2 1 q) = _ := hw 1 q
  have e0 : w (ix2 0 q) = _ := hw 0 q
  rw [h0, h1, h2, e2, e1, e0]
  rfl

include hw h0 h1 h2 hxi in
theorem blk_dc : Blk (fun b s q => convT f cw b s q * k.XI b s q) R
    (k0_pay49 (k0_pay48 (k0_pay15 w) (k0_pay19 xi) F0 F1 F2 F3) : FVec Ideal S512x1024 .bf16) := by
  intro p q
  pointwise [k0_pay49, k0_pay48, k0_pay19]
  rw [blk_convT hw h0 h1 h2, hxi]
  rfl

include hw h0 h1 h2 hc in
theorem blk_dxi : Blk (fun b s q => convT f cw b s q * k.C b s q) R
    (k0_pay50 (k0_pay18 c) (k0_pay43 (k0_pay15 w) F0 F1 F2 F3) : FVec Ideal S512x1024 .bf16) := by
  intro p q
  pointwise [k0_pay50, k0_pay18]
  rw [blk_convT hw h0 h1 h2, hc]
  rfl

/-! ## The sums the block adds -/

/-- What the block adds to a column's sum. -/
def part (N : ℕ) (f g : Tok) (R : ℕ) (q : Fin 1024) : ℝ :=
  ∑ p : Fin N, f (bb (R + p.val)) (ss (R + p.val)) q * g (bb (R + p.val)) (ss (R + p.val)) q

def cx (k : Saved) : Tok := fun b s q => k.C b s q * k.XI b s q

include hc hxi in
theorem row_dcw2 (f : Tok) (F : FVec Ideal S512x1024 .f32) (hF : Blk f R F) (P : FVec Ideal S1x1024 .f32) (z : Fin 1) (q : Fin 1024) :
    (k0_pay47 (k0_pay18 c) (k0_pay19 xi) F P : FVec Ideal S1x1024 .f32) (ix2 z q) = (P (ix2 z q) : EReal) + ((part 512 f (cx k) R q : ℝ) : EReal) := by
  pointwise [k0_pay47, k0_pay44, k0_pay18, k0_pay19]
  simp only [fun p => hF p q, fun p => hc p q, fun p => hxi p q, ← EReal.coe_mul, ← coe_sum]
  rfl

include hc hxi in
theorem row_dcw1 (f : Tok) (F : FVec Ideal S512x1024 .f32) (hF : Blk f R F) (P : FVec Ideal S1x1024 .f32) (z : Fin 1) (q : Fin 1024) :
    (k0_pay46 (k0_pay18 c) (k0_pay19 xi) F P : FVec Ideal S1x1024 .f32) (ix2 z q) = (P (ix2 z q) : EReal) + ((part 512 f (cx k) R q : ℝ) : EReal) := by
  pointwise [k0_pay46, k0_pay44, k0_pay18, k0_pay19]
  simp only [fun p => hF p q, fun p => hc p q, fun p => hxi p q, ← EReal.coe_mul, ← coe_sum]
  rfl

include hc hxi in
theorem row_dcw0 (f : Tok) (hF : Blk f R (k0_pay42 F2 F3)) (P : FVec Ideal S1x1024 .f32) (z : Fin 1) (q : Fin 1024) :
    (k0_pay45 (k0_pay18 c) (k0_pay19 xi) F2 F3 P : FVec Ideal S1x1024 .f32) (ix2 z q) = (P (ix2 z q) : EReal) + ((part 512 f (cx k) R q : ℝ) : EReal) := by
  pointwise [k0_pay45, k0_pay44, k0_pay18, k0_pay19]
  simp only [fun p => hF p q, fun p => hc p q, fun p => hxi p q, ← EReal.coe_mul, ← coe_sum]
  rfl

/-! ## The layer norm -/

include hv in
theorem blk_ctr : Blk (fun b s q => ctr (k.V b s) q) R (k0_pay26 v : FVec Ideal S512x1024 .f32) := by
  intro p q
  pointwise [k0_pay26, k0_pay21]
  rw [ofBits_1024]
  simp only [fun q => hv p q, ← coe_sum]
  rw [div_coe _ _ (by norm_num), ← EReal.coe_sub]
  rfl

include hv in
theorem blk_rinv (p : Fin 512) (z : Fin 1) : (k0_pay27 v : FVec Ideal S512x1 .f32) (ix2 p z)
    = ((rinv (ctr (k.V (bb (R + p.val)) (ss (R + p.val)))) : ℝ) : EReal) := by
  pointwise [k0_pay27]
  rw [ofBits_1024, ofBits_eps]
  simp only [fun q => blk_ctr hv p q, ← EReal.coe_mul, ← coe_sum]
  rw [div_coe _ _ (by norm_num), ← EReal.coe_add, rsqrt_ms]

include hv in
theorem blk_hat : Blk (fun b s q => hat (k.V b s) q) R (k0_pay28 v : FVec Ideal S512x1024 .f32) := by
  intro p q
  pointwise [k0_pay28]
  rw [blk_ctr hv, blk_rinv hv]
  rfl

include hv hlg in
theorem blk_dv (g : Tok) (G : FVec Ideal S512x1024 .f32) (hG : Blk g R G) : Blk (fun b s q => lnGrad (k.V b s) lng (g b s) q) R
    (k0_pay125 (k0_pay16 lg) (k0_pay27 v) (k0_pay28 v) G : FVec Ideal S512x1024 .bf16) := by
  intro p q
  pointwise [k0_pay125, k0_pay16]
  rw [ofBits_1024, blk_rinv hv]
  simp only [fun q => blk_hat hv p q, fun q => hG p q, hlg, ← EReal.coe_mul, ← coe_sum]
  rw [div_coe _ _ (by norm_num), div_coe _ _ (by norm_num)]
  rfl

include hv in
theorem row_dlg (g : Tok) (G : FVec Ideal S512x1024 .f32) (hG : Blk g R G) (P : FVec Ideal S1x1024 .f32) (z : Fin 1) (q : Fin 1024) :
    (k0_pay123 (k0_pay28 v) G P : FVec Ideal S1x1024 .f32) (ix2 z q)
      = (P (ix2 z q) : EReal) + ((part 512 g (fun b s q => hat (k.V b s) q) R q : ℝ) : EReal) := by
  pointwise [k0_pay123]
  simp only [fun p => blk_hat hv p q, fun p => hG p q, ← EReal.coe_mul, ← coe_sum]
  rfl

theorem row_dlb (g : Tok) (G : FVec Ideal S512x1024 .f32) (hG : Blk g R G) (P : FVec Ideal S1x1024 .f32) (z : Fin 1) (q : Fin 1024) :
    (k0_pay124 G P : FVec Ideal S1x1024 .f32) (ix2 z q)
      = (P (ix2 z q) : EReal) + ((∑ p : Fin 512, g (bb (R + p.val)) (ss (R + p.val)) q : ℝ) : EReal) := by
  pointwise [k0_pay124]
  simp only [fun p => hG p q, ← coe_sum]

/-! ## The mixing's bias: the block's four chunks, added -/

include hsb hu hD in
theorem acc_dbs (P : FVec Ideal S128x1024 .f32) (a : Fin 128) (q : Fin 1024) :
    (k0_pay56 (k0_pay20 u) (k0_pay34 (k0_pay24 sb) D) P : FVec Ideal S128x1024 .f32) (ix2 a q)
      = (P (ix2 a q) : EReal) + ((∑ n : Fin 4, k.dmx dm (bb (R + (n.val * 128 + a.val))) (ss (R + (n.val * 128 + a.val))) q : ℝ) : EReal) := by
  have h := blk_dmx hsb hu hD
  have h' : Blk (k.dmx dm) R (k0_pay52 (k0_pay20 u) (k0_pay34 (k0_pay24 sb) D) : FVec Ideal S512x1024 .f32) := h
  pointwise [k0_pay56]
  simp only [fun p => h' p q, Fin.sum_univ_four, EReal.coe_add]
  norm_num

end Cert.Kernel2Ideal.Point

end
-- ==== Proof.MixTiles.lean ====
/-
  THE MIXING INSIDE A CHUNK, TILE BY TILE. The kernel forms the gradient of the normalised rows in 128×128 tiles and adds the
  gradient of the mixing's weights group by group: one lemma for a tile, one for a group, and what the stores leave together.
-/
module

public import proofs.«01_k».proof.Proof.MixPay
public import proofs.«01_k».proof.Proof.Closure

@[expose] public section

set_option maxRecDepth 16384

noncomputable section

open Idealize.ShloMosaic Idealize.ShloMosaic.TcCoe Idealize.SL.Sem

namespace Cert.Kernel2Ideal.Point

open Cert.Kernel2Ideal Cert.Kernel2Ideal.Gen Cert.Reals Cert.Mix

variable (m : (ℓ : Loc nD τ sig) → Buf (Elt Ideal) ℓ)

/-- A load of the whole scratch after stores that leave `G`. -/
theorem readCov_scr {sig : RefSig} (v : View sig .tc .vmem S512x1024 .f32) (inb) (G : S512x1024.Idx → Elt Ideal .f32) (L : List (View.Piece (Elt Ideal) S512x1024 .f32))
    (h : ∀ y, View.canon L y = G y) : v.readCov L (Rect.unit ![0, 0] ![512, 1024] inb).toLoadRect = G := by
  rw [View.readCov_eq_canon']
  funext j
  rw [h]
  refine congrArg G (funext fun a => Fin.ext ?_)
  rcases a with ⟨_ | _ | a, ha⟩
  · show 0 + 1 * (j 0).val = (j 0).val
    omega
  · show 0 + 1 * (j 1).val = (j 1).val
    omega
  · exact absurd ha (by simp)

/-- The mixing's transpose on one block: chunk by chunk, group by group, over the weights on and above the diagonal. -/
def tile (W : FVec Ideal S8x128x128 .f32) (E : FVec Ideal S512x1024 .bf16) : FVec Ideal S512x1024 .f32 := fun y =>
  ∑ t : Fin 128, Scalar.select (IntOp.cmpi .sle (BitVec.ofNat 32 ((y 0).val % 128)) (BitVec.ofNat 32 t.val))
    (W (ix3 (⟨(y 1).val / 128, by have := (y 1).isLt; simp at this; omega⟩ : Fin 8) (⟨(y 0).val % 128, by omega⟩ : Fin 128) t)
      * E (ix2 (⟨(y 0).val / 128 * 128 + t.val, by have := (y 0).isLt; simp at this; omega⟩ : Fin 512) (⟨(y 1).val, (y 1).isLt⟩ : Fin 1024))) (0 : EReal)

/-- One store of the scratch: the product of a group's masked weights with a 128×128 part of the block. -/
theorem tile_core (W : FVec Ideal S8x128x128 .f32) (E : FVec Ideal S512x1024 .bf16) (y : S512x1024.Idx) (z : S128x128.Idx) (r cc g : ℕ)
    (hs : S512x1024.Slices ![r, cc] S128x128) (inb : _) (h0 : (y 0).val = r + (z 0).val) (h1 : (y 1).val = cc + (z 1).val) (hr : r % 128 = 0) (hc : cc = 128 * g) :
    shapeCast S128x128 (matmul (F := Ideal) dot_S128x128_S128x128_S128x128_1_0_0_1_n_n none
      (k0_pay66 k0_pay55 (View.ld W (Rect.unit (s := S8x128x128) ![g, 0, 0] ![1, 128, 128] inb))) (extractStridedSlice S128x128 ![r, cc] E hs)
      (constant S128x128 .f32 0x00000000#32)) shapeCasts_S128x128_S128x128 z = tile W E y := by
  have hz0 : (z 0).val < 128 := (z 0).isLt
  have hz1 : (z 1).val < 128 := (z 1).isLt
  have hy0 : (y 0).val < 512 := (y 0).isLt
  have hy1 : (y 1).val < 1024 := (y 1).isLt
  have hX : ∀ j : S128x128.Idx, extractStridedSlice S128x128 ![r, cc] E hs j = E (ix2 (⟨(r + (j 0).val) % 512, Nat.mod_lt _ (by decide)⟩ : Fin 512) (⟨(cc + (j 1).val) % 1024, Nat.mod_lt _ (by decide)⟩ : Fin 1024)) := by
    intro j
    have hj0 : (j 0).val < 128 := (j 0).isLt
    have hj1 : (j 1).val < 128 := (j 1).isLt
    refine extractStridedSlice_apply _ _ _ _ _ fun a => ?_
    rcases a with ⟨_ | _ | a, ha⟩
    · show (r + (j 0).val) % 512 = r + (j 0).val
      omega
    · show (cc + (j 1).val) % 1024 = cc + (j 1).val
      omega
    · exact absurd ha (by simp)
  generalize extractStridedSlice S128x128 ![r, cc] E hs = X at hX ⊢
  have hW : ∀ a x : Fin 128, (View.ld (Val := Elt Ideal) (e' := .f32) W (Rect.unit (s := S8x128x128) ![g, 0, 0] ![1, 128, 128] inb) : FVec Ideal S1x128x128 .f32) (ix3 0 a x) = W (ix3 (⟨g % 8, Nat.mod_lt _ (by decide)⟩ : Fin 8) a x) := by
    intro a x
    refine congrArg W (funext fun b => Fin.ext ?_)
    rcases b with ⟨_ | _ | _ | b, hb⟩
    · show g + 1 * 0 = g % 8
      omega
    · show 0 + 1 * a.val = a.val
      omega
    · show 0 + 1 * x.val = x.val
      omega
    · exact absurd hb (by simp)
  generalize (View.ld (Val := Elt Ideal) (e' := .f32) W (Rect.unit (s := S8x128x128) ![g, 0, 0] ![1, 128, 128] inb) : FVec Ideal S1x128x128 .f32) = V at hW ⊢
  unfold tile
  pointwise [k0_pay66, k0_pay55]
  refine Finset.sum_congr rfl fun x _ => ?_
  refine congrArg₂ (fun (u : ℕ) (v : EReal) => Scalar.select (IntOp.cmpi .sle (BitVec.ofNat 32 u) (BitVec.ofNat 32 x.val)) v (0 : EReal))
    (by omega) (congrArg₂ (fun u v : EReal => u * v) ((hW (z 0) x).trans (congrArg W ?_)) ((hX _).trans (congrArg E ?_)))
  · exact congrArg₂ (fun g a => ix3 g a x) (Fin.ext (by show g % 8 = (y 1).val / 128; omega)) (Fin.ext (by show (z 0).val = (y 0).val % 128; omega))
  · exact congrArg₂ ix2 (Fin.ext (by show (r + x.val) % 512 = (y 0).val / 128 * 128 + x.val; omega)) (Fin.ext (by show (cc + (z 1).val) % 1024 = (y 1).val; omega))

/-- The block of the gradient of the normalised rows. -/
theorem blk_dvn (k : Saved) (dm : Tok) (ws : Fin 8 → Fin 128 → Fin 128 → ℝ) (R : ℕ) (hR : R % 512 = 0) (W : FVec Ideal S8x128x128 .f32) (E : FVec Ideal S512x1024 .bf16)
    (hW : ∀ g s t, W (ix3 g s t) = ((ws g t s : ℝ) : EReal)) (hE : Blk (k.dmx dm) R E) : Blk (k.dvn dm ws) R (tile W E) := by
  intro p q
  show ∑ t : Fin 128, _ = _
  unfold Saved.dvn
  rw [coe_sum]
  refine Finset.sum_congr rfl fun t _ => ?_
  have hp := p.isLt
  have hpos : (pos (ss (R + p.val))) = (⟨p.val % 128, Nat.mod_lt _ (by decide)⟩ : Fin 128) :=
    Fin.ext (by show (R + p.val) % 2048 % 128 = p.val % 128; omega)
  rw [hpos]
  have e1 : W (ix3 (⟨q.val / 128, by omega⟩ : Fin 8) (⟨p.val % 128, Nat.mod_lt _ (by decide)⟩ : Fin 128) t) = ((ws (grp q) t ⟨p.val % 128, Nat.mod_lt _ (by decide)⟩ : ℝ) : EReal) := hW _ _ _
  have e2 : E (ix2 (⟨p.val / 128 * 128 + t.val, by omega⟩ : Fin 512) q) = ((k.dmx dm (bb (R + p.val)) (inChunk (ss (R + p.val)) t) q : ℝ) : EReal) := by
    rw [hE]
    refine congrArg (fun z : ℝ => (z : EReal)) (congrArg₂ (fun b s => k.dmx dm b s q) (Fin.ext ?_) (Fin.ext ?_))
    · show (R + (p.val / 128 * 128 + t.val)) / 2048 % 4 = (R + p.val) / 2048 % 4
      omega
    · show (R + (p.val / 128 * 128 + t.val)) % 2048 = (R + p.val) % 2048 / 128 * 128 + t.val
      omega
  refine (congrArg₂ (fun u v : EReal => Scalar.select (IntOp.cmpi .sle (BitVec.ofNat 32 (p.val % 128)) (BitVec.ofNat 32 t.val)) (u * v) (0 : EReal)) e1 e2).trans ?_
  have hs := sle_at ⟨p.val % 128, Nat.mod_lt _ (by decide)⟩ t
  simp only at hs
  rw [hs]
  by_cases h : p.val % 128 ≤ t.val
  · rw [if_pos h, if_pos h, sel_one, EReal.coe_mul]
  · rw [if_neg h, if_neg h, sel_zero, zero_mul, EReal.coe_zero]

/-- The part of the gradient of the mixing's weights that one block of rows holds: its four chunks, on and below the diagonal. -/
def mixSum (N E : FVec Ideal S512x1024 .bf16) (n : Fin 4) (y : S8x128x128.Idx) : EReal :=
  ∑ c : Fin 128, (E (ix2 (⟨n.val * 128 + (y 1).val, by have h : (y 1).val < 128 := (y 1).isLt; omega⟩ : Fin 512) (⟨(y 0).val * 128 + c.val, by have h : (y 0).val < 8 := (y 0).isLt; omega⟩ : Fin 1024)) : EReal)
    * N (ix2 (⟨n.val * 128 + (y 2).val, by have h : (y 2).val < 128 := (y 2).isLt; omega⟩ : Fin 512) (⟨(y 0).val * 128 + c.val, by have h : (y 0).val < 8 := (y 0).isLt; omega⟩ : Fin 1024))

/-- The weights' gradient after the block. -/
def mixAcc (P : FVec Ideal S8x128x128 .f32) (N E : FVec Ideal S512x1024 .bf16) : FVec Ideal S8x128x128 .f32 := fun y =>
  (P y : EReal) + Scalar.select (IntOp.cmpi .sge (BitVec.ofNat 32 (y 1).val) (BitVec.ofNat 32 (y 2).val))
    (mixSum N E 0 y + mixSum N E 1 y + mixSum N E 2 y + mixSum N E 3 y) (0 : EReal)

/-- One group's product over one chunk. -/
def nt (N E : FVec Ideal S512x1024 .bf16) (r cc : ℕ) (hs : S512x1024.Slices ![r, cc] S128x128) : FVec Ideal S128x128 .f32 :=
  matmul (F := Ideal) dot_S128x128_S128x128_S128x128_1_1_0_0_n_n none (extractStridedSlice S128x128 ![r, cc] E hs) (extractStridedSlice S128x128 ![r, cc] N hs)
    (constant S128x128 .f32 0x00000000#32)

/-- A 128×128 part of the block, read. -/
theorem slice_at (E : FVec Ideal S512x1024 .bf16) (r cc : ℕ) (hs : S512x1024.Slices ![r, cc] S128x128) (hr : r ≤ 384) (hc : cc ≤ 896) (j : S128x128.Idx) :
    extractStridedSlice S128x128 ![r, cc] E hs j = E (ix2 (⟨(r + (j 0).val) % 512, Nat.mod_lt _ (by decide)⟩ : Fin 512) (⟨(cc + (j 1).val) % 1024, Nat.mod_lt _ (by decide)⟩ : Fin 1024)) := by
  have hj0 : (j 0).val < 128 := (j 0).isLt
  have hj1 : (j 1).val < 128 := (j 1).isLt
  refine extractStridedSlice_apply _ _ _ _ _ fun a => ?_
  rcases a with ⟨_ | _ | a, ha⟩
  · show (r + (j 0).val) % 512 = r + (j 0).val
    omega
  · show (cc + (j 1).val) % 1024 = cc + (j 1).val
    omega
  · exact absurd ha (by simp)

/-- That product, read. -/
theorem nt_at (N E : FVec Ideal S512x1024 .bf16) (g cc : ℕ) (n : Fin 4) (hs : S512x1024.Slices ![n.val * 128, cc] S128x128) (hc : cc = g * 128)
    (y : S8x128x128.Idx) (hg : (y 0).val = g) : nt N E (n.val * 128) cc hs (ix2 (y 1) (y 2)) = mixSum N E n y := by
  have hn := n.isLt
  have hg8 : (y 0).val < 8 := (y 0).isLt
  have hX := slice_at E (n.val * 128) cc hs (by omega) (by omega)
  have hY := slice_at N (n.val * 128) cc hs (by omega) (by omega)
  unfold nt
  generalize extractStridedSlice S128x128 ![n.val * 128, cc] E hs = X at hX ⊢
  generalize extractStridedSlice S128x128 ![n.val * 128, cc] N hs = Y at hY ⊢
  pointwise [mixSum]
  refine Finset.sum_congr rfl fun x _ => ?_
  have h1 : (y 1).val < 128 := (y 1).isLt
  have h2 : (y 2).val < 128 := (y 2).isLt
  have hx := x.isLt
  have ec : ((cc + x.val) % 1024) = (y 0).val * 128 + x.val := by omega
  refine congrArg₂ (fun u v : EReal => u * v) ((hX _).trans (congrArg E (congrArg₂ ix2 (Fin.ext ?_) (Fin.ext ec)))) ((hY _).trans (congrArg N (congrArg₂ ix2 (Fin.ext ?_) (Fin.ext ec))))
  · show (n.val * 128 + (y 1).val) % 512 = n.val * 128 + (y 1).val
    omega
  · show (n.val * 128 + (y 2).val) % 512 = n.val * 128 + (y 2).val
    omega

/-- One group's store of the weights' gradient. -/
theorem dws_core (P : FVec Ideal S8x128x128 .f32) (N E : FVec Ideal S512x1024 .bf16) (V : FVec Ideal S1x128x128 .f32) (g cc : ℕ) (y : S8x128x128.Idx) (z : S1x128x128.Idx)
    (s0 : S512x1024.Slices ![0, cc] S128x128) (s1 : S512x1024.Slices ![128, cc] S128x128) (s2 : S512x1024.Slices ![256, cc] S128x128) (s3 : S512x1024.Slices ![384, cc] S128x128)
    (hg : (y 0).val = g) (h1 : (y 1).val = (z 1).val) (h2 : (y 2).val = (z 2).val) (hc : cc = g * 128)
    (hV : ∀ a b : Fin 128, V (ix3 0 a b) = P (ix3 (⟨g % 8, Nat.mod_lt _ (by decide)⟩ : Fin 8) a b)) :
    shapeCast S1x128x128 (addf (F := Ideal) (shapeCast S128x128 V shapeCasts_S1x128x128_S128x128)
      (select k0_pay54 (addf (F := Ideal) (addf (F := Ideal) (addf (F := Ideal) (addf (F := Ideal) (broadcast S128x128 (Scalar.ofBits (F := Ideal) .f32 0x00000000#32)) (nt N E 0 cc s0)) (nt N E 128 cc s1)) (nt N E 256 cc s2)) (nt N E 384 cc s3))
        (broadcast S128x128 (Scalar.ofBits (F := Ideal) .f32 0x00000000#32)))) shapeCasts_S128x128_S1x128x128 z = mixAcc P N E y := by
  have e0 := nt_at N E g cc 0 s0 hc y hg
  have e1 := nt_at N E g cc 1 s1 hc y hg
  have e2 := nt_at N E g cc 2 s2 hc y hg
  have e3 := nt_at N E g cc 3 s3 hc y hg
  change nt N E 0 cc s0 _ = _ at e0
  change nt N E 128 cc s1 _ = _ at e1
  change nt N E 256 cc s2 _ = _ at e2
  change nt N E 384 cc s3 _ = _ at e3
  have hz : ix2 (y 1) (y 2) = (ix2 (z 1) (z 2) : S128x128.Idx) := congrArg₂ ix2 (Fin.ext h1) (Fin.ext h2)
  generalize nt N E 0 cc s0 = A0 at e0 ⊢
  generalize nt N E 128 cc s1 = A1 at e1 ⊢
  generalize nt N E 256 cc s2 = A2 at e2 ⊢
  generalize nt N E 384 cc s3 = A3 at e3 ⊢
  unfold mixAcc
  rw [← e0, ← e1, ← e2, ← e3]
  pointwise [k0_pay54]
  have h0 : (z 0).val < 1 := (z 0).isLt
  have hg8 : (y 0).val < 8 := (y 0).isLt
  have ez : z = (ix3 0 (z 1) (z 2) : S1x128x128.Idx) := funext fun a => Fin.ext (by
    rcases a with ⟨_ | _ | _ | a, ha⟩
    · show (z 0).val = 0
      omega
    · rfl
    · rfl
    · exact absurd ha (by simp))
  have ey : (ix3 (⟨g % 8, Nat.mod_lt _ (by decide)⟩ : Fin 8) (z 1) (z 2) : S8x128x128.Idx) = y := funext fun a => Fin.ext (by
    rcases a with ⟨_ | _ | _ | a, ha⟩
    · show g % 8 = (y 0).val
      omega
    · exact h1.symm
    · exact h2.symm
    · exact absurd ha (by simp))
  have hVP : V z = P y := (congrArg V ez).trans ((hV _ _).trans (congrArg P ey))
  exact congrArg₂ (fun u v : EReal => u + v) hVP (congrArg₂ (fun a b : Fin 128 =>
    Scalar.select (IntOp.cmpi .sge (BitVec.ofNat 32 a.val) (BitVec.ofNat 32 b.val)) (A0 (ix2 a b) + A1 (ix2 a b) + A2 (ix2 a b) + A3 (ix2 a b) : EReal) (0 : EReal))
    (Fin.ext h1.symm) (Fin.ext h2.symm))

/-- A load of one group of an array of weights. -/
theorem ld_group (P : FVec Ideal S8x128x128 .f32) (g : ℕ) (inb : _) (hg : g < 8) (a b : Fin 128) :
    (View.ld (Val := Elt Ideal) (e' := .f32) P (Rect.unit (s := S8x128x128) ![g, 0, 0] ![1, 128, 128] inb) : FVec Ideal S1x128x128 .f32) (ix3 0 a b)
      = P (ix3 (⟨g % 8, Nat.mod_lt _ (by decide)⟩ : Fin 8) a b) := by
  refine congrArg P (funext fun d => Fin.ext ?_)
  rcases d with ⟨_ | _ | _ | d, hd⟩
  · show g + 1 * 0 = g % 8
    omega
  · show 0 + 1 * a.val = a.val
    omega
  · show 0 + 1 * b.val = b.val
    omega
  · exact absurd hd (by simp)

/-- Where a group's rectangle places an index. -/
theorem grp_val (g : ℕ) (inb : _) (z : S1x128x128.Idx) : ((Rect.unit (s := S8x128x128) ![g, 0, 0] ![1, 128, 128] inb).emb z 0).val = g :=
  (ValueKit.rect_emb_unit_val _ _ _ _ _).trans (by
    have h : (z 0).val < 1 := (z 0).isLt
    show g + (z 0).val = g
    omega)

theorem at_val (g : ℕ) (inb : _) (z : S1x128x128.Idx) : ((Rect.unit (s := S8x128x128) ![g, 0, 0] ![1, 128, 128] inb).emb z 1).val = (z 1).val :=
  (ValueKit.rect_emb_unit_val _ _ _ _ _).trans (Nat.zero_add _)

theorem at_val' (g : ℕ) (inb : _) (z : S1x128x128.Idx) : ((Rect.unit (s := S8x128x128) ![g, 0, 0] ![1, 128, 128] inb).emb z 2).val = (z 2).val :=
  (ValueKit.rect_emb_unit_val _ _ _ _ _).trans (Nat.zero_add _)

/-- A store of one group agrees with `G` there. -/
def GroupOf (G : FVec Ideal S8x128x128 .f32) (g : ℕ) (w : FVec Ideal S1x128x128 .f32) : Prop :=
  ∀ (z : S1x128x128.Idx) (y : S8x128x128.Idx), (y 0).val = g → (y 1).val = (z 1).val → (y 2).val = (z 2).val → w z = G y

/-- Eight stores, one per group, over an earlier fill. -/
theorem canon_groups (G : FVec Ideal S8x128x128 .f32) (i0 : _) (i1 : _) (i2 : _) (i3 : _) (i4 : _) (i5 : _) (i6 : _) (i7 : _) (w0 w1 w2 w3 w4 w5 w6 w7 : FVec Ideal S1x128x128 .f32)
    (f : View.Piece (Elt Ideal) S8x128x128 .f32)
    (h7 : GroupOf G 7 w7) (h6 : GroupOf G 6 w6) (h5 : GroupOf G 5 w5) (h4 : GroupOf G 4 w4) (h3 : GroupOf G 3 w3) (h2 : GroupOf G 2 w2) (h1 : GroupOf G 1 w1) (h0 : GroupOf G 0 w0)
    (y : S8x128x128.Idx) :
    View.canon (Val := Elt Ideal) (s := S8x128x128) (e := .f32)
      [⟨Rect.unit ![7, 0, 0] ![1, 128, 128] i7, w7⟩, ⟨Rect.unit ![6, 0, 0] ![1, 128, 128] i6, w6⟩, ⟨Rect.unit ![5, 0, 0] ![1, 128, 128] i5, w5⟩,
       ⟨Rect.unit ![4, 0, 0] ![1, 128, 128] i4, w4⟩, ⟨Rect.unit ![3, 0, 0] ![1, 128, 128] i3, w3⟩, ⟨Rect.unit ![2, 0, 0] ![1, 128, 128] i2, w2⟩,
       ⟨Rect.unit ![1, 0, 0] ![1, 128, 128] i1, w1⟩, ⟨Rect.unit ![0, 0, 0] ![1, 128, 128] i0, w0⟩, f] y = G y :=
  View.canon_append_of_piecesOf (Val := Elt Ideal) (e := .f32) G [f]
    [⟨Rect.unit ![7, 0, 0] ![1, 128, 128] i7, w7⟩, ⟨Rect.unit ![6, 0, 0] ![1, 128, 128] i6, w6⟩, ⟨Rect.unit ![5, 0, 0] ![1, 128, 128] i5, w5⟩,
       ⟨Rect.unit ![4, 0, 0] ![1, 128, 128] i4, w4⟩, ⟨Rect.unit ![3, 0, 0] ![1, 128, 128] i3, w3⟩, ⟨Rect.unit ![2, 0, 0] ![1, 128, 128] i2, w2⟩,
       ⟨Rect.unit ![1, 0, 0] ![1, 128, 128] i1, w1⟩, ⟨Rect.unit ![0, 0, 0] ![1, 128, 128] i0, w0⟩]
    ⟨fun z => h7 z _ (grp_val 7 i7 z) (at_val 7 i7 z) (at_val' 7 i7 z), fun z => h6 z _ (grp_val 6 i6 z) (at_val 6 i6 z) (at_val' 6 i6 z),
     fun z => h5 z _ (grp_val 5 i5 z) (at_val 5 i5 z) (at_val' 5 i5 z), fun z => h4 z _ (grp_val 4 i4 z) (at_val 4 i4 z) (at_val' 4 i4 z),
     fun z => h3 z _ (grp_val 3 i3 z) (at_val 3 i3 z) (at_val' 3 i3 z), fun z => h2 z _ (grp_val 2 i2 z) (at_val 2 i2 z) (at_val' 2 i2 z),
     fun z => h1 z _ (grp_val 1 i1 z) (at_val 1 i1 z) (at_val' 1 i1 z), fun z => h0 z _ (grp_val 0 i0 z) (at_val 0 i0 z) (at_val' 0 i0 z), trivial⟩ y
    (View.cover_of_tiledL _ ![1, 128, 128] (by sl_kernel_rfl) y)

end Cert.Kernel2Ideal.Point

end
-- ==== Proof.MixOuts.lean ====
/-
  WHAT ONE GRID POINT OF THE MIXER'S BACKWARD KERNEL LEAVES. `At k dm cw lng ws R m c t` says that the blocks point `t` reads hold,
  row for row, the saved quantities from flat row `R` on; from it every output and every carried buffer is read.
-/
module

public import proofs.«01_k».proof.Proof.MixTiles

@[expose] public section

set_option maxRecDepth 16384

noncomputable section

open Idealize.ShloMosaic Idealize.ShloMosaic.TcCoe Idealize.SL.Sem

namespace Cert.Kernel2Ideal.Point

open Cert.Kernel2Ideal Cert.Kernel2Ideal.Gen Cert.Reals Cert.Mix

variable (m : (ℓ : Loc nD τ sig) → Buf (Elt Ideal) ℓ) (c : Dev nD)

/-! ## The columns of the saved block -/

abbrev ldB (t : Fin cfg0.N) : FVec Ideal S512x1024 .bf16 := View.ld (Val := Elt Ideal) (e' := .bf16) (iblk m c 1 t) (Rect.unit (s := S512x10240) ![0, 0] ![512, 1024] inb_S512x10240_S512x1024_0_0)
abbrev ldC (t : Fin cfg0.N) : FVec Ideal S512x1024 .bf16 := View.ld (Val := Elt Ideal) (e' := .bf16) (iblk m c 1 t) (Rect.unit (s := S512x10240) ![0, 1024] ![512, 1024] inb_S512x10240_S512x1024_0_1024)
abbrev ldXI (t : Fin cfg0.N) : FVec Ideal S512x1024 .bf16 := View.ld (Val := Elt Ideal) (e' := .bf16) (iblk m c 1 t) (Rect.unit (s := S512x10240) ![0, 2048] ![512, 1024] inb_S512x10240_S512x1024_0_2048)
abbrev ldU (t : Fin cfg0.N) : FVec Ideal S512x1024 .bf16 := View.ld (Val := Elt Ideal) (e' := .bf16) (iblk m c 1 t) (Rect.unit (s := S512x10240) ![0, 3072] ![512, 1024] inb_S512x10240_S512x1024_0_3072)
abbrev ldV (t : Fin cfg0.N) : FVec Ideal S512x1024 .bf16 := View.ld (Val := Elt Ideal) (e' := .bf16) (iblk m c 1 t) (Rect.unit (s := S512x10240) ![0, 4096] ![512, 1024] inb_S512x10240_S512x1024_0_4096)
abbrev ldCV (t : Fin cfg0.N) : FVec Ideal S512x1024 .bf16 := View.ld (Val := Elt Ideal) (e' := .bf16) (iblk m c 1 t) (Rect.unit (s := S512x10240) ![0, 5120] ![512, 1024] inb_S512x10240_S512x1024_0_5120)
abbrev ldMX (t : Fin cfg0.N) : FVec Ideal S512x1024 .bf16 := View.ld (Val := Elt Ideal) (e' := .bf16) (iblk m c 1 t) (Rect.unit (s := S512x10240) ![0, 6144] ![512, 1024] inb_S512x10240_S512x1024_0_6144)
abbrev ldVN (t : Fin cfg0.N) : FVec Ideal S512x1024 .bf16 := View.ld (Val := Elt Ideal) (e' := .bf16) (iblk m c 1 t) (Rect.unit (s := S512x10240) ![0, 7168] ![512, 1024] inb_S512x10240_S512x1024_0_7168)
abbrev ldSA (t : Fin cfg0.N) : FVec Ideal S512x1024 .bf16 := View.ld (Val := Elt Ideal) (e' := .bf16) (iblk m c 1 t) (Rect.unit (s := S512x10240) ![0, 8192] ![512, 1024] inb_S512x10240_S512x1024_0_8192)
abbrev ldSB (t : Fin cfg0.N) : FVec Ideal S512x1024 .bf16 := View.ld (Val := Elt Ideal) (e' := .bf16) (iblk m c 1 t) (Rect.unit (s := S512x10240) ![0, 9216] ![512, 1024] inb_S512x10240_S512x1024_0_9216)

/-- The cotangent of the merged branches on the block. -/
abbrev dmB (t : Fin cfg0.N) : FVec Ideal S512x1024 .f32 := k0_pay29 (iblk m c 0 t) (iblk m c 2 t)

/-- The gradient of the mixed rows on the block. -/
abbrev dmxB (t : Fin cfg0.N) : FVec Ideal S512x1024 .bf16 := k0_pay53 (k0_pay20 (ldU m c t)) (k0_pay34 (k0_pay24 (ldSB m c t)) (dmB m c t))

/-- What point `t` reads, from flat row `R` on. -/
structure At (k : Saved) (dm : Tok) (cw : Fin 3 → Fin 1024 → ℝ) (lng : Fin 1024 → ℝ) (ws : Fin 8 → Fin 128 → Fin 128 → ℝ) (R : ℕ) (t : Fin cfg0.N) : Prop where
  b : Blk k.B R (ldB m c t)
  cc : Blk k.C R (ldC m c t)
  xi : Blk k.XI R (ldXI m c t)
  u : Blk k.U R (ldU m c t)
  v : Blk k.V R (ldV m c t)
  cv : Blk k.CV R (ldCV m c t)
  mx : Blk k.MX R (ldMX m c t)
  vn : Blk k.VN R (ldVN m c t)
  sa : Blk k.SA R (ldSA m c t)
  sb : Blk k.SB R (ldSB m c t)
  dm : Blk dm R (dmB m c t)
  cw : ∀ (j : Fin 3) q, (iblk m c 3 t : FVec Ideal S8x1024 .f32) (ix2 (r8 j) q) = ((cw j q : ℝ) : EReal)
  lng : ∀ q, (iblk m c 4 t : FVec Ideal S1x1024 .f32) (ix2 0 q) = ((lng q : ℝ) : EReal)
  ws : ∀ g s j, (iblk m c 5 t : FVec Ideal S8x128x128 .f32) (ix3 g s j) = ((ws g j s : ℝ) : EReal)
  row : R = (15 - t.val) * 512

variable {m c}
variable {k : Saved} {dm : Tok} {cw : Fin 3 → Fin 1024 → ℝ} {lng : Fin 1024 → ℝ} {ws : Fin 8 → Fin 128 → Fin 128 → ℝ} {R : ℕ} {t : Fin cfg0.N}

/-- Three single rows stored over what was there. -/
theorem rows3 {sig : RefSig} (v : View sig .tc .vmem S8x1024 .f32) (f : v.ty.Contents (Elt Ideal)) (L : List (View.Piece (Elt Ideal) S8x1024 .f32)) (i2 : _) (i1 : _) (i0 : _)
    (w2 w1 w0 : FVec Ideal S1x1024 .f32) (a2 a1 a0 : ℝ) (P : FVec Ideal S8x1024 .f32) (r : Fin 8) (q : Fin 1024)
    (h2 : w2 (ix2 0 q) = (P (ix2 2 q) : EReal) + (a2 : EReal)) (h1 : w1 (ix2 0 q) = (P (ix2 1 q) : EReal) + (a1 : EReal)) (h0 : w0 (ix2 0 q) = (P (ix2 0 q) : EReal) + (a0 : EReal))
    (hL : v.read (Elt Ideal) (v.writes (Elt Ideal) f L) (ix2 r q) = P (ix2 r q)) :
    v.read (Elt Ideal) (v.writes (Elt Ideal) f (⟨Rect.unit (s := S8x1024) ![2, 0] ![1, 1024] i2, w2⟩ :: ⟨Rect.unit (s := S8x1024) ![1, 0] ![1, 1024] i1, w1⟩
      :: ⟨Rect.unit (s := S8x1024) ![0, 0] ![1, 1024] i0, w0⟩ :: L)) (ix2 r q)
      = (P (ix2 r q) : EReal) + (((if r.val = 2 then a2 else if r.val = 1 then a1 else if r.val = 0 then a0 else 0) : ℝ) : EReal) := by
  by_cases e2 : r.val = 2
  · obtain rfl : r = 2 := Fin.ext e2
    rw [if_pos e2, ← h2]
    exact View.read_writes_cons_rows_of_mem _ _ _ _ _ _ (ix2 0 q) rfl rfl rfl
  rw [View.read_writes_cons_rows_of_not_mem (W := 1) _ _ _ _ _ _ rfl rfl (by show r.val < 2 ∨ 2 + 1 ≤ r.val; omega), if_neg e2]
  by_cases e1 : r.val = 1
  · obtain rfl : r = 1 := Fin.ext e1
    rw [if_pos e1, ← h1]
    exact View.read_writes_cons_rows_of_mem _ _ _ _ _ _ (ix2 0 q) rfl rfl rfl
  rw [View.read_writes_cons_rows_of_not_mem (W := 1) _ _ _ _ _ _ rfl rfl (by show r.val < 1 ∨ 1 + 1 ≤ r.val; omega), if_neg e1]
  by_cases e0 : r.val = 0
  · obtain rfl : r = 0 := Fin.ext e0
    rw [if_pos e0, ← h0]
    exact View.read_writes_cons_rows_of_mem _ _ _ _ _ _ (ix2 0 q) rfl rfl rfl
  rw [View.read_writes_cons_rows_of_not_mem (W := 1) _ _ _ _ _ _ rfl rfl (by show r.val < 0 ∨ 0 + 1 ≤ r.val; omega), if_neg e0, hL, EReal.coe_zero, add_zero]

/-- Two single rows stored over what was there. -/
theorem rows2 {sig : RefSig} (v : View sig .tc .vmem S8x1024 .f32) (f : v.ty.Contents (Elt Ideal)) (L : List (View.Piece (Elt Ideal) S8x1024 .f32)) (i1 : _) (i0 : _)
    (w1 w0 : FVec Ideal S1x1024 .f32) (a1 a0 : ℝ) (P : FVec Ideal S8x1024 .f32) (r : Fin 8) (q : Fin 1024)
    (h1 : w1 (ix2 0 q) = (P (ix2 1 q) : EReal) + (a1 : EReal)) (h0 : w0 (ix2 0 q) = (P (ix2 0 q) : EReal) + (a0 : EReal))
    (hL : v.read (Elt Ideal) (v.writes (Elt Ideal) f L) (ix2 r q) = P (ix2 r q)) :
    v.read (Elt Ideal) (v.writes (Elt Ideal) f (⟨Rect.unit (s := S8x1024) ![1, 0] ![1, 1024] i1, w1⟩
      :: ⟨Rect.unit (s := S8x1024) ![0, 0] ![1, 1024] i0, w0⟩ :: L)) (ix2 r q)
      = (P (ix2 r q) : EReal) + (((if r.val = 1 then a1 else if r.val = 0 then a0 else 0) : ℝ) : EReal) := by
  by_cases e1 : r.val = 1
  · obtain rfl : r = 1 := Fin.ext e1
    rw [if_pos e1, ← h1]
    exact View.read_writes_cons_rows_of_mem _ _ _ _ _ _ (ix2 0 q) rfl rfl rfl
  rw [View.read_writes_cons_rows_of_not_mem (W := 1) _ _ _ _ _ _ rfl rfl (by show r.val < 1 ∨ 1 + 1 ≤ r.val; omega), if_neg e1]
  by_cases e0 : r.val = 0
  · obtain rfl : r = 0 := Fin.ext e0
    rw [if_pos e0, ← h0]
    exact View.read_writes_cons_rows_of_mem _ _ _ _ _ _ (ix2 0 q) rfl rfl rfl
  rw [View.read_writes_cons_rows_of_not_mem (W := 1) _ _ _ _ _ _ rfl rfl (by show r.val < 0 ∨ 0 + 1 ≤ r.val; omega), if_neg e0, hL, EReal.coe_zero, add_zero]

/-- A fill of the whole buffer, read. -/
theorem fill_read {sig : RefSig} (v : View sig .tc .vmem S8x1024 .f32) (i : _) (Z : FVec Ideal S8x1024 .f32) (y : S8x1024.Idx) :
    v.read (Elt Ideal) (v.writes (Elt Ideal) v.junk [⟨Rect.unit (s := S8x1024) ![0, 0] ![8, 1024] i, Z⟩]) y = Z y := by
  rw [View.read_writes_junk_eq_canon]
  exact congrFun (View.canon_cons_unit_lit (Val := Elt Ideal) (e := .f32) i Z [] (by intro a; fin_cases a <;> rfl)) y

/-- One row of an array, loaded. -/
theorem ld_row (P : FVec Ideal S8x1024 .f32) (r : Fin 8) (inb : _) (q : Fin 1024) :
    (View.ld (Val := Elt Ideal) (e' := .f32) P (Rect.unit (s := S8x1024) ![r.val, 0] ![1, 1024] inb) : FVec Ideal S1x1024 .f32) (ix2 0 q) = P (ix2 r q) := by
  refine congrArg P (funext fun d => Fin.ext ?_)
  rcases d with ⟨_ | _ | d, hd⟩
  · show r.val + 1 * 0 = r.val
    omega
  · show 0 + 1 * q.val = q.val
    omega
  · exact absurd hd (by simp)

namespace At

variable (h : At m c k dm cw lng ws R t)
include h

theorem mod : R % 512 = 0 := by rw [h.row]; omega

theorem dvn : Blk (k.dvn dm ws) R (tile (iblk m c 5 t) (dmxB m c t)) := blk_dvn k dm ws R h.mod _ _ h.ws (blk_dmx h.sb h.u h.dm)

/-- The rows carried from the block after, as the convolution's gradient reads them. -/
theorem next (X : FVec Ideal S8x1024 .f32) (hX : ¬ t.val % 4 = 0 → ∀ r q, X (ix2 r q) = ((k.dcv dm (bb (R + 512 + r.val)) (ss (R + 512 + r.val)) q : ℝ) : EReal)) (r : Fin 8) (q : Fin 1024) :
    (k0_pay37 (F := Ideal) (k0_pay14 (grid0.coords t)) X : FVec Ideal S8x1024 .f32) (ix2 r q) = ((nxt 512 (k.dcv dm) R r q : ℝ) : EReal) := by
  have ht : t.val < 16 := lt_of_lt_of_eq t.isLt (by decide)
  have hR := h.row
  have hk : (k0_pay37 (F := Ideal) (k0_pay14 (grid0.coords t)) X : FVec Ideal S8x1024 .f32) (ix2 r q) = (X (ix2 r q) : EReal) * (k0_pay14 (F := Ideal) (grid0.coords t) : EReal) := by
    pointwise [k0_pay37]
  rw [hk, keep_at]
  unfold nxt
  by_cases h4 : t.val % 4 = 0
  · rw [if_pos h4, if_pos (by omega), mul_zero, EReal.coe_zero]
  · rw [if_neg h4, if_neg (by omega), mul_one, hX h4]

theorem dcvB : Blk (k.dcv dm) R (k0_pay36 (k0_pay17 (ldB m c t)) (k0_pay23 (ldSA m c t)) (dmB m c t)) := blk_dcv h.b h.sa h.dm

/-- The first eight rows of the block, carried to the block before. -/
theorem carry (r : Fin 8) (q : Fin 1024) : (k0_pay38 (k0_pay17 (ldB m c t)) (k0_pay23 (ldSA m c t)) (dmB m c t) : FVec Ideal S8x1024 .f32) (ix2 r q)
    = ((k.dcv dm (bb (R + r.val)) (ss (R + r.val)) q : ℝ) : EReal) := by
  pointwise [k0_pay38]
  exact h.dcvB ⟨r.val, by omega⟩ q

theorem carry_out : ∀ r q, ((outsAt0 m c t.val t.isLt).2.2.2.2.2.1 : FVec Ideal S8x1024 .f32) (ix2 r q) = ((k.dcv dm (bb (R + r.val)) (ss (R + r.val)) q : ℝ) : EReal) := by
  intro r q
  by_cases h0 : t.val % 16 = 0
  · rw [outsAt0_A m c t h0 (by omega)]
    frame_out
    try simp only [read_unread_whole]
    exact h.carry r q
  · by_cases h1 : t.val % 16 = 15
    · rw [outsAt0_C m c t h0 h1]
      frame_out
      try simp only [read_unread_whole]
      exact h.carry r q
    · rw [outsAt0_B m c t h0 h1]
      frame_out
      try simp only [read_unread_whole]
      exact h.carry r q

/-- What a block adds to row `r` of the gradient of the convolution's weights. -/
abbrev dcwAdd (N : ℕ) (k : Saved) (dm : Tok) (R : ℕ) (r : Fin 8) (q : Fin 1024) : ℝ :=
  if r.val = 2 then part N (k.dcv dm) (cx k) R q else if r.val = 1 then part N (up 1 (k.dcv dm)) (cx k) R q
    else if r.val = 0 then part N (up 2 (k.dcv dm)) (cx k) R q else 0

/-- The gradient of the convolution's weights after the first point. -/
theorem dcw_first (h0 : t.val % 16 = 0) (r : Fin 8) (q : Fin 1024) : ((outsAt0 m c t.val t.isLt).2.1 : FVec Ideal S8x1024 .f32) (ix2 r q)
    = ((k0_pay9 (F := Ideal) : FVec Ideal S8x1024 .f32) (ix2 r q) : EReal) + ((dcwAdd 512 k dm R r q : ℝ) : EReal) := by
  have hn := h.next k0_pay13 (fun h4 => absurd (by omega) h4)
  have hr := h.mod
  rw [outsAt0_A m c t h0 (by omega)]
  frame_out
  simp (disch := first | decide | (intro a; fin_cases a <;> rfl)) only [↓View.readCov_skip, ↓View.readCov_fill]
  rw [← View.read_writes_junk_eq_canon (ms0_7 t).view]
  refine rows3 _ _ _ _ _ _ _ _ _ _ _ _ _ r q ?_ ?_ ?_ (fill_read _ _ _ _)
  · exact (row_dcw2 h.cc h.xi _ _ h.dcvB _ 0 q).trans (congrArg (· + _) (ld_row _ 2 _ q))
  · exact (row_dcw1 h.cc h.xi _ _ (up1_at _ _ hr _ h.dcvB hn) _ 0 q).trans (congrArg (· + _) (ld_row _ 1 _ q))
  · exact (row_dcw0 h.cc h.xi _ (up2_at _ _ hr _ h.dcvB hn) _ 0 q).trans (congrArg (· + _) (ld_row _ 0 _ q))

/-- The gradient of the convolution's weights grows by the block's products. -/
theorem dcw_next (h0 : ¬ t.val % 16 = 0)
    (hX : ¬ t.val % 4 = 0 → ∀ r q, ((outsAt0 m c (t.val - 1) (by omega)).2.2.2.2.2.1 : FVec Ideal S8x1024 .f32) (ix2 r q) = ((k.dcv dm (bb (R + 512 + r.val)) (ss (R + 512 + r.val)) q : ℝ) : EReal))
    (r : Fin 8) (q : Fin 1024) : ((outsAt0 m c t.val t.isLt).2.1 : FVec Ideal S8x1024 .f32) (ix2 r q)
    = (((outsAt0 m c (t.val - 1) (by omega)).2.1 : FVec Ideal S8x1024 .f32) (ix2 r q) : EReal) + ((dcwAdd 512 k dm R r q : ℝ) : EReal) := by
  have hn := h.next _ hX
  have hr := h.mod
  by_cases h1 : t.val % 16 = 15
  · rw [outsAt0_C m c t h0 h1]
    frame_out
    try simp only [read_unread_whole]
    refine rows3 _ _ [] _ _ _ _ _ _ _ _ _ _ r q ?_ ?_ ?_ (congrFun (Memref.IsWhole.read_unread _ _) (ix2 r q))
    · exact (row_dcw2 h.cc h.xi _ _ h.dcvB _ 0 q).trans (congrArg (· + _) (ld_row _ 2 _ q))
    · exact (row_dcw1 h.cc h.xi _ _ (up1_at _ _ hr _ h.dcvB hn) _ 0 q).trans (congrArg (· + _) (ld_row _ 1 _ q))
    · exact (row_dcw0 h.cc h.xi _ (up2_at _ _ hr _ h.dcvB hn) _ 0 q).trans (congrArg (· + _) (ld_row _ 0 _ q))
  · rw [outsAt0_B m c t h0 h1]
    frame_out
    try simp only [read_unread_whole]
    refine rows3 _ _ [] _ _ _ _ _ _ _ _ _ _ r q ?_ ?_ ?_ (congrFun (Memref.IsWhole.read_unread _ _) (ix2 r q))
    · exact (row_dcw2 h.cc h.xi _ _ h.dcvB _ 0 q).trans (congrArg (· + _) (ld_row _ 2 _ q))
    · exact (row_dcw1 h.cc h.xi _ _ (up1_at _ _ hr _ h.dcvB hn) _ 0 q).trans (congrArg (· + _) (ld_row _ 1 _ q))
    · exact (row_dcw0 h.cc h.xi _ (up2_at _ _ hr _ h.dcvB hn) _ 0 q).trans (congrArg (· + _) (ld_row _ 0 _ q))

/-- What a block adds to row `r` of the gradients of the normalisation's weight and bias. -/
abbrev dlnAdd (N : ℕ) (k : Saved) (dm : Tok) (ws : Fin 8 → Fin 128 → Fin 128 → ℝ) (R : ℕ) (r : Fin 8) (q : Fin 1024) : ℝ :=
  if r.val = 1 then ∑ p : Fin N, k.dvn dm ws (bb (R + p.val)) (ss (R + p.val)) q
    else if r.val = 0 then part N (k.dvn dm ws) (fun b s q => hat (k.V b s) q) R q else 0

/-- The gradients of the normalisation's weight and bias after the first point. -/
theorem dln_first (h0 : t.val % 16 = 0) (r : Fin 8) (q : Fin 1024) : ((outsAt0 m c t.val t.isLt).2.2.1 : FVec Ideal S8x1024 .f32) (ix2 r q)
    = ((k0_pay10 (F := Ideal) : FVec Ideal S8x1024 .f32) (ix2 r q) : EReal) + ((dlnAdd 512 k dm ws R r q : ℝ) : EReal) := by
  rw [outsAt0_A m c t h0 (by omega)]
  frame_out
  simp (disch := first | decide | (intro a; fin_cases a <;> rfl)) only [↓View.readCov_skip, ↓View.readCov_fill]
  rw [← View.read_writes_junk_eq_canon (ms0_8 t).view]
  rw [readCov_scr _ _ (tile (iblk m c 5 t) (dmxB m c t)) _ ?hh]
  case hh =>
    clear h0
    have hd := h.dvn
    clear h r q
    intro z
    canon_tiles z h
    all_goals first | exact tile_core _ _ _ _ _ _ _ _ _ (by omega) (by omega) rfl rfl | exact tile_core _ _ _ _ _ _ _ slices_S512x1024_o384_128_S128x128 _ (by omega) (by omega) rfl rfl
  refine rows2 _ _ _ _ _ _ _ _ _ _ r q ?_ ?_ (fill_read _ _ _ _)
  · exact (row_dlb _ _ h.dvn _ 0 q).trans (congrArg (· + _) (ld_row _ 1 _ q))
  · exact (row_dlg h.v _ _ h.dvn _ 0 q).trans (congrArg (· + _) (ld_row _ 0 _ q))

/-- The gradients of the normalisation's weight and bias grow by the block's sums. -/
theorem dln_next (h0 : ¬ t.val % 16 = 0) (r : Fin 8) (q : Fin 1024) : ((outsAt0 m c t.val t.isLt).2.2.1 : FVec Ideal S8x1024 .f32) (ix2 r q)
    = (((outsAt0 m c (t.val - 1) (by omega)).2.2.1 : FVec Ideal S8x1024 .f32) (ix2 r q) : EReal) + ((dlnAdd 512 k dm ws R r q : ℝ) : EReal) := by
  by_cases h1 : t.val % 16 = 15
  · rw [outsAt0_C m c t h0 h1]
    frame_out
    try simp only [read_unread_whole]
    rw [readCov_scr _ _ (tile (iblk m c 5 t) (dmxB m c t)) _ ?hh]
    case hh =>
      clear h0 h1 h r q
      intro z
      canon_tiles z h
      all_goals first | exact tile_core _ _ _ _ _ _ _ _ _ (by omega) (by omega) rfl rfl | exact tile_core _ _ _ _ _ _ _ slices_S512x1024_o384_128_S128x128 _ (by omega) (by omega) rfl rfl
    refine rows2 _ _ [] _ _ _ _ _ _ _ r q ?_ ?_ (congrFun (Memref.IsWhole.read_unread _ _) (ix2 r q))
    · exact (row_dlb _ _ h.dvn _ 0 q).trans (congrArg (· + _) (ld_row _ 1 _ q))
    · exact (row_dlg h.v _ _ h.dvn _ 0 q).trans (congrArg (· + _) (ld_row _ 0 _ q))
  · rw [outsAt0_B m c t h0 h1]
    frame_out
    try simp only [read_unread_whole]
    rw [readCov_scr _ _ (tile (iblk m c 5 t) (dmxB m c t)) _ ?hh]
    case hh =>
      clear h0 h1 h r q
      intro z
      canon_tiles z h
      all_goals first | exact tile_core _ _ _ _ _ _ _ _ _ (by omega) (by omega) rfl rfl | exact tile_core _ _ _ _ _ _ _ slices_S512x1024_o384_128_S128x128 _ (by omega) (by omega) rfl rfl
    refine rows2 _ _ [] _ _ _ _ _ _ _ r q ?_ ?_ (congrFun (Memref.IsWhole.read_unread _ _) (ix2 r q))
    · exact (row_dlb _ _ h.dvn _ 0 q).trans (congrArg (· + _) (ld_row _ 1 _ q))
    · exact (row_dlg h.v _ _ h.dvn _ 0 q).trans (congrArg (· + _) (ld_row _ 0 _ q))

end At

end Cert.Kernel2Ideal.Point

end
-- ==== Proof.MixDp.lean ====
/-
  THE REST OF ONE GRID POINT OF THE MIXER'S BACKWARD KERNEL: the rows of the projection's cotangent, the mixing's weights and the
  mixing's bias, read from what the point's blocks hold.
-/
module

public import proofs.«01_k».proof.Proof.MixOuts

@[expose] public section

set_option maxRecDepth 16384

noncomputable section

open Idealize.ShloMosaic Idealize.ShloMosaic.TcCoe Idealize.SL.Sem

namespace Cert.Kernel2Ideal.Point

open Cert.Kernel2Ideal Cert.Kernel2Ideal.Gen Cert.Reals Cert.Mix

variable (m : (ℓ : Loc nD τ sig) → Buf (Elt Ideal) ℓ) (c : Dev nD)

/-! ## The mixing's weights -/

/-- What a block adds to the gradient of the mixing's weights. -/
def dwsAdd (C : ℕ) (k : Saved) (dm : Tok) (R : ℕ) (g : Fin 8) (a b : Fin 128) : ℝ :=
  if b.val ≤ a.val then ∑ n : Fin C, ∑ c : Fin 128, k.dmx dm (bb (R + (n.val * 128 + a.val))) (ss (R + (n.val * 128 + a.val))) (ch g c)
    * k.VN (bb (R + (n.val * 128 + b.val))) (ss (R + (n.val * 128 + b.val))) (ch g c) else 0

theorem mixSum_at (k : Saved) (dm : Tok) (R : ℕ) (N E : FVec Ideal S512x1024 .bf16) (hN : Blk k.VN R N) (hE : Blk (k.dmx dm) R E) (n : Fin 4) (g : Fin 8) (a b : Fin 128) :
    mixSum N E n (ix3 g a b) = ((∑ c : Fin 128, k.dmx dm (bb (R + (n.val * 128 + a.val))) (ss (R + (n.val * 128 + a.val))) (ch g c)
    * k.VN (bb (R + (n.val * 128 + b.val))) (ss (R + (n.val * 128 + b.val))) (ch g c) : ℝ) : EReal) := by
  rw [coe_sum]
  refine Finset.sum_congr rfl fun c _ => ?_
  rw [EReal.coe_mul]
  exact congrArg₂ (fun u v : EReal => u * v) (hE (⟨n.val * 128 + a.val, by omega⟩ : Fin 512) (ch g c)) (hN (⟨n.val * 128 + b.val, by omega⟩ : Fin 512) (ch g c))

theorem mixAcc_at (k : Saved) (dm : Tok) (R : ℕ) (P : FVec Ideal S8x128x128 .f32) (N E : FVec Ideal S512x1024 .bf16) (hN : Blk k.VN R N) (hE : Blk (k.dmx dm) R E) (g : Fin 8) (a b : Fin 128) :
    mixAcc P N E (ix3 g a b) = (P (ix3 g a b) : EReal) + ((dwsAdd 4 k dm R g a b : ℝ) : EReal) := by
  unfold mixAcc dwsAdd
  refine congrArg (fun v : EReal => (P (ix3 g a b) : EReal) + v) ?_
  rw [mixSum_at k dm R N E hN hE, mixSum_at k dm R N E hN hE, mixSum_at k dm R N E hN hE, mixSum_at k dm R N E hN hE]
  show Scalar.select (IntOp.cmpi .sge (BitVec.ofNat 32 a.val) (BitVec.ofNat 32 b.val)) _ _ = _
  rw [sge_at]
  by_cases hab : b.val ≤ a.val
  · rw [if_pos hab, if_pos hab, sel_one, Fin.sum_univ_four, EReal.coe_add, EReal.coe_add, EReal.coe_add]
  · rw [if_neg hab, if_neg hab, sel_zero, EReal.coe_zero]

theorem dws_first (t : Fin cfg0.N) (h0 : t.val % 16 = 0) (y : S8x128x128.Idx) :
    ((outsAt0 m c t.val t.isLt).2.2.2.1 : FVec Ideal S8x128x128 .f32) y = mixAcc k0_pay11 (k0_pay25 (ldVN m c t)) (dmxB m c t) y := by
  rw [outsAt0_A m c t h0 (by omega)]
  frame_out
  simp (disch := first | decide | (intro a; fin_cases a <;> rfl)) only [↓View.readCov_skip, ↓View.readCov_fill]
  clear h0
  refine canon_groups (mixAcc _ _ _) _ _ _ _ _ _ _ _ _ _ _ _ _ _ _ _ _ ?_ ?_ ?_ ?_ ?_ ?_ ?_ ?_ y
  all_goals (intro z y e0 e1 e2; exact dws_core _ _ _ _ _ _ _ _ (by decide) (by decide) (by decide) (by decide) e0 e1 e2 rfl (ld_group _ _ _ (by decide)))

theorem dws_next (t : Fin cfg0.N) (h0 : ¬ t.val % 16 = 0) (y : S8x128x128.Idx) :
    ((outsAt0 m c t.val t.isLt).2.2.2.1 : FVec Ideal S8x128x128 .f32) y
      = mixAcc (outsAt0 m c (t.val - 1) (by omega)).2.2.2.1 (k0_pay25 (ldVN m c t)) (dmxB m c t) y := by
  by_cases h1 : t.val % 16 = 15
  · rw [outsAt0_C m c t h0 h1]
    frame_out
    try simp only [read_unread_whole]
    clear h0 h1
    canon_tiles y h
    all_goals exact dws_core _ _ _ _ _ _ _ _ (by decide) (by decide) (by decide) (by decide) (by omega) (by omega) (by omega) rfl (ld_group _ _ _ (by decide))
  · rw [outsAt0_B m c t h0 h1]
    frame_out
    try simp only [read_unread_whole]
    clear h0 h1
    canon_tiles y h
    all_goals exact dws_core _ _ _ _ _ _ _ _ (by decide) (by decide) (by decide) (by decide) (by omega) (by omega) (by omega) rfl (ld_group _ _ _ (by decide))

/-! ## The mixing's bias -/

/-- What a block adds to the running sum of the mixed rows' gradient. -/
def dbsAdd (C : ℕ) (k : Saved) (dm : Tok) (R : ℕ) (a : Fin 128) (q : Fin 1024) : ℝ :=
  ∑ n : Fin C, k.dmx dm (bb (R + (n.val * 128 + a.val))) (ss (R + (n.val * 128 + a.val))) q

/-- The sum of one group's columns, repeated along the group. -/
theorem dbs_core (A : FVec Ideal S128x128 .f32) (a b : Fin 128) : (k0_pay1 A : FVec Ideal S128x128 .f32) (ix2 a b) = ∑ x : Fin 128, (A (ix2 a x) : EReal) := by
  pointwise [k0_pay1]

/-- That sum, where the columns are read from what was just stored. -/
theorem dbs_piece {sig : RefSig} (T : FVec Ideal S128x1024 .f32) (v : View sig .tc .vmem S128x1024 .f32) (i : _) (cc : ℕ) (o : ∀ a : Fin 2, (![0, cc] : Fin 2 → ℕ) a + (![128, 128] : Fin 2 → ℕ) a ≤ S128x1024.size a) (y : S128x1024.Idx) (z : S128x128.Idx)
    (h0 : (y 0).val = (z 0).val) (h1 : (y 1).val = cc + (z 1).val) (hc : cc % 128 = 0) :
    (k0_pay1 (v.readCov [(⟨Rect.unit (s := S128x1024) ![0, 0] ![128, 1024] i, T⟩ : View.Piece (Elt Ideal) S128x1024 .f32)] (Rect.unit (s := S128x1024) ![0, cc] ![128, 128] o).toLoadRect) : FVec Ideal S128x128 .f32) z
      = ∑ x : Fin 128, (T (ix2 (y 0) (ch (grp (y 1)) x)) : EReal) := by
  have e : (z : S128x128.Idx) = ix2 (z 0) (z 1) := funext fun a => by fin_cases a <;> rfl
  have hz1 : (z 1).val < 128 := (z 1).isLt
  have hy1 : (y 1).val < 1024 := (y 1).isLt
  refine ((congrArg (k0_pay1 (F := Ideal) _ : S128x128.Idx → EReal) e).trans (dbs_core _ (z 0) (z 1))).trans ?_
  refine Finset.sum_congr rfl fun x _ => ?_
  rw [View.readCov_eq_canon']
  refine (congrFun (View.canon_cons_unit_lit (Val := Elt Ideal) (e := .f32) i T [] (by intro a; fin_cases a <;> rfl)) ((Rect.unit (s := S128x1024) ![0, cc] ![128, 128] o).idx (ix2 (z 0) x))).trans ?_
  refine congrArg T (funext fun d => Fin.ext ?_)
  rcases d with ⟨_ | _ | d, hd⟩
  · show 0 + 1 * (z 0).val = (y 0).val
    omega
  · show cc + 1 * x.val = (y 1).val / 128 * 128 + x.val
    omega
  · exact absurd hd (by simp)

theorem dbs_last (t : Fin cfg0.N) (h1 : t.val % 16 = 15) (y : S128x1024.Idx) :
    ((outsAt0 m c t.val t.isLt).2.2.2.2.1 : FVec Ideal S128x1024 .f32) y
      = ∑ x : Fin 128, (((outsAt0 m c t.val t.isLt).2.2.2.2.2.2 : FVec Ideal S128x1024 .f32) (ix2 (y 0) (ch (grp (y 1)) x)) : EReal) := by
  rw [outsAt0_C m c t (by omega) h1]
  frame_out
  try simp only [read_unread_whole]
  clear h1
  canon_tiles y h
  all_goals exact dbs_piece _ _ _ _ _ _ _ (by omega) (by omega) (by rfl)

namespace At

variable {m : (ℓ : Loc nD τ sig) → Buf (Elt Ideal) ℓ} {c : Dev nD}
variable {k : Saved} {dm : Tok} {cw : Fin 3 → Fin 1024 → ℝ} {lng : Fin 1024 → ℝ} {ws : Fin 8 → Fin 128 → Fin 128 → ℝ} {R : ℕ} {t : Fin cfg0.N}
variable (h : At m c k dm cw lng ws R t)

include h

theorem acc_first (h0 : t.val % 16 = 0) (a : Fin 128) (q : Fin 1024) : ((outsAt0 m c t.val t.isLt).2.2.2.2.2.2 : FVec Ideal S128x1024 .f32) (ix2 a q)
    = ((k0_pay12 (F := Ideal) : FVec Ideal S128x1024 .f32) (ix2 a q) : EReal) + ((dbsAdd 4 k dm R a q : ℝ) : EReal) := by
  rw [outsAt0_A m c t h0 (by omega)]
  frame_out
  try simp (disch := first | decide | (intro a; fin_cases a <;> rfl)) only [↓View.readCov_skip, ↓View.readCov_fill]
  exact acc_dbs h.sb h.u h.dm _ a q

theorem acc_next (h0 : ¬ t.val % 16 = 0) (a : Fin 128) (q : Fin 1024) : ((outsAt0 m c t.val t.isLt).2.2.2.2.2.2 : FVec Ideal S128x1024 .f32) (ix2 a q)
    = (((outsAt0 m c (t.val - 1) (by omega)).2.2.2.2.2.2 : FVec Ideal S128x1024 .f32) (ix2 a q) : EReal) + ((dbsAdd 4 k dm R a q : ℝ) : EReal) := by
  by_cases h1 : t.val % 16 = 15
  · rw [outsAt0_C m c t h0 h1]
    frame_out
    try simp only [read_unread_whole]
    exact acc_dbs h.sb h.u h.dm _ a q
  · rw [outsAt0_B m c t h0 h1]
    frame_out
    try simp only [read_unread_whole]
    exact acc_dbs h.sb h.u h.dm _ a q

end At

/-! ## The rows of the projection's cotangent -/

theorem piece_at (f : Fin 7 → Tok) (R : ℕ) (j : Fin 7) (A : FVec Ideal S512x1024 .bf16) (hA : Blk (f j) R A) (y : S512x7168.Idx) (z : S512x1024.Idx) (cc : ℕ)
    (h0 : (y 0).val = (z 0).val) (h1 : (y 1).val = cc + (z 1).val) (hc : cc = j.val * 1024) :
    A z = ((side f (bb (R + (y 0).val)) (ss (R + (y 0).val)) (y 1) : ℝ) : EReal) := by
  have e : (z : S512x1024.Idx) = ix2 (z 0) (z 1) := funext fun a => by fin_cases a <;> rfl
  have hz1 : (z 1).val < 1024 := (z 1).isLt
  refine (congrArg A e).trans ((hA (z 0) (z 1)).trans (congrArg (fun x : ℝ => (x : EReal)) ?_))
  unfold side
  have ej : j = ⟨(y 1).val / 1024, by have : (y 1).val < 7168 := (y 1).isLt; omega⟩ := Fin.ext (by show j.val = (y 1).val / 1024; omega)
  have eq : z 1 = (⟨(y 1).val % 1024, by omega⟩ : Fin 1024) := Fin.ext (by show (z 1).val = (y 1).val % 1024; omega)
  rw [h0]
  exact congrArg₂ (fun (i : Fin 7) (q : Fin 1024) => f i (bb (R + (z 0).val)) (ss (R + (z 0).val)) q) ej eq

namespace At

variable {m : (ℓ : Loc nD τ sig) → Buf (Elt Ideal) ℓ} {c : Dev nD}
variable {k : Saved} {dm : Tok} {cw : Fin 3 → Fin 1024 → ℝ} {lng : Fin 1024 → ℝ} {ws : Fin 8 → Fin 128 → Fin 128 → ℝ} {R : ℕ} {t : Fin cfg0.N}
variable (h : At m c k dm cw lng ws R t)

include h

theorem dp_first (h0 : t.val % 16 = 0) (y : S512x7168.Idx) : ((outsAt0 m c t.val t.isLt).1 : FVec Ideal S512x7168 .bf16) y
    = ((side (parts k dm cw lng ws) (bb (R + (y 0).val)) (ss (R + (y 0).val)) (y 1) : ℝ) : EReal) := by
  have hn := h.next k0_pay13 (fun h4 => absurd (by omega) h4)
  have hr := h.mod
  rw [outsAt0_A m c t h0 (by omega)]
  frame_out
  rw [readCov_scr _ _ (tile (iblk m c 5 t) (dmxB m c t)) _ ?hh]
  case hh =>
    clear h h0 hn hr y
    intro z
    canon_tiles z h
    all_goals first | exact tile_core _ _ _ _ _ _ _ _ _ (by omega) (by omega) rfl rfl | exact tile_core _ _ _ _ _ _ _ slices_S512x1024_o384_128_S128x128 _ (by omega) (by omega) rfl rfl
  have q1 := up1_at _ _ hr _ h.dcvB hn
  have q2 := up2_at _ _ hr _ h.dcvB hn
  have p0 := blk_db h.sa h.cv h.dm
  have p1 := blk_dc h.xi h.cw h.dcvB q1 q2
  have p2 := blk_dxi h.cc h.cw h.dcvB q1 q2
  have p3 := blk_du h.sb h.mx h.dm
  have p4 := blk_dv h.v h.lng _ _ h.dvn
  have p5 := blk_dga h.b h.sa h.cv h.dm
  have p6 := blk_dgb h.sb h.u h.mx h.dm
  clear q1 q2 hn h0
  clear h
  canon_tiles y e
  · exact piece_at _ R 4 _ p4 _ _ _ (by omega) (by omega) rfl
  · exact piece_at _ R 3 _ p3 _ _ _ (by omega) (by omega) rfl
  · exact piece_at _ R 2 _ p2 _ _ _ (by omega) (by omega) rfl
  · exact piece_at _ R 1 _ p1 _ _ _ (by omega) (by omega) rfl
  · exact piece_at _ R 0 _ p0 _ _ 0 (by omega) (by omega) rfl
  · exact piece_at _ R 6 _ p6 _ _ _ (by omega) (by omega) rfl
  · exact piece_at _ R 5 _ p5 _ _ _ (by omega) (by omega) rfl

theorem dp_next (h0 : ¬ t.val % 16 = 0)
    (hX : ¬ t.val % 4 = 0 → ∀ r q, ((outsAt0 m c (t.val - 1) (by omega)).2.2.2.2.2.1 : FVec Ideal S8x1024 .f32) (ix2 r q) = ((k.dcv dm (bb (R + 512 + r.val)) (ss (R + 512 + r.val)) q : ℝ) : EReal))
    (y : S512x7168.Idx) : ((outsAt0 m c t.val t.isLt).1 : FVec Ideal S512x7168 .bf16) y
    = ((side (parts k dm cw lng ws) (bb (R + (y 0).val)) (ss (R + (y 0).val)) (y 1) : ℝ) : EReal) := by
  have hn := h.next _ hX
  have hr := h.mod
  have q1 := up1_at _ _ hr _ h.dcvB hn
  have q2 := up2_at _ _ hr _ h.dcvB hn
  have p0 := blk_db h.sa h.cv h.dm
  have p1 := blk_dc h.xi h.cw h.dcvB q1 q2
  have p2 := blk_dxi h.cc h.cw h.dcvB q1 q2
  have p3 := blk_du h.sb h.mx h.dm
  have p4 := blk_dv h.v h.lng _ _ h.dvn
  have p5 := blk_dga h.b h.sa h.cv h.dm
  have p6 := blk_dgb h.sb h.u h.mx h.dm
  clear q1 q2 hn hX h
  by_cases h1 : t.val % 16 = 15
  · rw [outsAt0_C m c t h0 h1]
    frame_out
    try simp only [read_unread_whole]
    rw [readCov_scr _ _ (tile (iblk m c 5 t) (dmxB m c t)) _ ?hh]
    case hh =>
      clear h0 h1 y
      intro z
      canon_tiles z h
      all_goals first | exact tile_core _ _ _ _ _ _ _ _ _ (by omega) (by omega) rfl rfl | exact tile_core _ _ _ _ _ _ _ slices_S512x1024_o384_128_S128x128 _ (by omega) (by omega) rfl rfl
    clear h0 h1
    canon_tiles y e
    · exact piece_at _ R 4 _ p4 _ _ _ (by omega) (by omega) rfl
    · exact piece_at _ R 3 _ p3 _ _ _ (by omega) (by omega) rfl
    · exact piece_at _ R 2 _ p2 _ _ _ (by omega) (by omega) rfl
    · exact piece_at _ R 1 _ p1 _ _ _ (by omega) (by omega) rfl
    · exact piece_at _ R 0 _ p0 _ _ 0 (by omega) (by omega) rfl
    · exact piece_at _ R 6 _ p6 _ _ _ (by omega) (by omega) rfl
    · exact piece_at _ R 5 _ p5 _ _ _ (by omega) (by omega) rfl
  · rw [outsAt0_B m c t h0 h1]
    frame_out
    try simp only [read_unread_whole]
    rw [readCov_scr _ _ (tile (iblk m c 5 t) (dmxB m c t)) _ ?hh]
    case hh =>
      clear h0 h1 y
      intro z
      canon_tiles z h
      all_goals first | exact tile_core _ _ _ _ _ _ _ _ _ (by omega) (by omega) rfl rfl | exact tile_core _ _ _ _ _ _ _ slices_S512x1024_o384_128_S128x128 _ (by omega) (by omega) rfl rfl
    clear h0 h1
    canon_tiles y e
    · exact piece_at _ R 4 _ p4 _ _ _ (by omega) (by omega) rfl
    · exact piece_at _ R 3 _ p3 _ _ _ (by omega) (by omega) rfl
    · exact piece_at _ R 2 _ p2 _ _ _ (by omega) (by omega) rfl
    · exact piece_at _ R 1 _ p1 _ _ _ (by omega) (by omega) rfl
    · exact piece_at _ R 0 _ p0 _ _ 0 (by omega) (by omega) rfl
    · exact piece_at _ R 6 _ p6 _ _ _ (by omega) (by omega) rfl
    · exact piece_at _ R 5 _ p5 _ _ _ (by omega) (by omega) rfl

end At

end Cert.Kernel2Ideal.Point

end
-- ==== Proof.MixRef.lean ====
/-
  THE MIXER'S REFERENCE AT REAL ARGUMENTS. `jax.vjp` of the mixer's forward lines, read at an index: with the forward's values
  named by `Saved` and the cotangent of the merged branches by `dm`, each part of the gradient is the one of `Saved`.
-/
module

public import proofs.«01_k».proof.Proof.Gen.Reference2Ideal.Read
public import proofs.«01_k».proof.Proof.MixModel
public import proofs.«01_k».proof.Proof.Closure
public import proofs.«01_k».proof.Proof.Sums
public import Idealize.ShloMosaic.Lib.Pointwise

@[expose] public section

set_option maxRecDepth 16384

noncomputable section

open Idealize.ShloMosaic

namespace Cert.Reference2Ideal.Point
open Cert.Reference2Ideal Cert.Reference2Ideal.Gen Cert.Reference2Ideal.Read Cert.Reals Cert.Mix

variable (x0 : FVec Ideal S4x2048x1024 .f32) (x1 : FVec Ideal S1024 .f32) (x2 : FVec Ideal S1024x7168 .f32) (x3 : FVec Ideal S3x1024 .f32)
  (x4 x5 : FVec Ideal S1024 .f32) (x6 : FVec Ideal S8x128x128 .f32) (x7 : FVec Ideal S8x128 .f32) (x8 : FVec Ideal S1024x1024 .f32) (x9 : FVec Ideal S4x2048x1024 .f32)

/-! ## The layer norm of the forward, from the rows it normalises -/

theorem mean_eq (f : Fin 1024 → ℝ) : Ideal.div ((∑ x, f x : ℝ) : EReal) ((1024 : ℝ) : EReal) = ((mean f : ℝ) : EReal) := div_coe _ _ (by norm_num)

section Norm

variable {V : Tok} (hv : ∀ b s q, val_main_v21 (F := Ideal) x0 x1 x2 (ix3 b s q) = ((V b s q : ℝ) : EReal)) (b : Fin 4) (s : Fin 2048) (q : Fin 1024)

include hv

theorem ctr_read : val_main_v54 (F := Ideal) x0 x1 x2 (ix3 b s q) = ((ctr (V b s) q : ℝ) : EReal) := by
  pointwise [val_main_v54, val_main_v53, val_main_v52, val_main_v51, val_main_v50, val_main_v49, val_main_cst_5, val_main_cst_6]
  simp only [hv, ofBits_1024, ← coe_sum, mean_eq, ← EReal.coe_sub]
  rfl

theorem ms_read : val_main_v61 (F := Ideal) x0 x1 x2 (ix3 b s (0 : Fin 1)) = ((ms (ctr (V b s)) : ℝ) : EReal) := by
  pointwise [val_main_v61, val_main_v60, val_main_v59, val_main_v58, val_main_v57, val_main_v56, val_main_v55, val_main_cst_7, val_main_cst_8, val_main_cst_9]
  simp only [ctr_read x0 x1 x2 hv, ofBits_1024, ofBits_eps, ← EReal.coe_mul, ← coe_sum]
  rw [div_coe _ _ (by norm_num), ← EReal.coe_add]
  rfl

theorem rinv_read : val_main_v62 (F := Ideal) x0 x1 x2 (ix3 b s (0 : Fin 1)) = ((rinv (ctr (V b s)) : ℝ) : EReal) := by
  pointwise [val_main_v62]
  rw [ms_read x0 x1 x2 hv, rsqrt_coe _ (ms_pos _)]
  rfl

theorem hat_read : val_main_v67 (F := Ideal) x0 x1 x2 (ix3 b s q) = ((hat (V b s) q : ℝ) : EReal) := by
  pointwise [val_main_v67, val_main_v66]
  rw [ctr_read x0 x1 x2 hv, rinv_read x0 x1 x2 hv, ← EReal.coe_mul]
  rfl

end Norm

/-- The forward's values over the reals, and the arguments the gradient reads. -/
structure RefAt (k : Saved) (dm : Tok) (cw : Fin 3 → Fin 1024 → ℝ) (lng : Fin 1024 → ℝ) (ws : Fin 8 → Fin 128 → Fin 128 → ℝ) : Prop where
  b : ∀ b s q, val_main_v17 (F := Ideal) x0 x1 x2 (ix3 b s q) = ((k.B b s q : ℝ) : EReal)
  cc : ∀ b s q, val_main_v18 (F := Ideal) x0 x1 x2 (ix3 b s q) = ((k.C b s q : ℝ) : EReal)
  xi : ∀ b s q, val_main_v19 (F := Ideal) x0 x1 x2 (ix3 b s q) = ((k.XI b s q : ℝ) : EReal)
  u : ∀ b s q, val_main_v20 (F := Ideal) x0 x1 x2 (ix3 b s q) = ((k.U b s q : ℝ) : EReal)
  v : ∀ b s q, val_main_v21 (F := Ideal) x0 x1 x2 (ix3 b s q) = ((k.V b s q : ℝ) : EReal)
  cv : ∀ b s q, val_main_v47 (F := Ideal) x0 x1 x2 x3 (ix3 b s q) = ((k.CV b s q : ℝ) : EReal)
  mx : ∀ b s q, val_main_v85 (F := Ideal) x0 x1 x2 x4 x5 x6 x7 (ix3 b s q) = ((k.MX b s q : ℝ) : EReal)
  vn : ∀ b s q, val_main_v73 (F := Ideal) x0 x1 x2 x4 x5 (ix3 b s q) = ((k.VN b s q : ℝ) : EReal)
  sa : ∀ b s q, val_main_v92 (F := Ideal) x0 x1 x2 (ix3 b s q) = ((k.SA b s q : ℝ) : EReal)
  sb : ∀ b s q, val_main_v102 (F := Ideal) x0 x1 x2 (ix3 b s q) = ((k.SB b s q : ℝ) : EReal)
  dm : ∀ b s q, val_main_v109 (F := Ideal) x8 x9 (ix3 b s q) = ((dm b s q : ℝ) : EReal)
  cw : ∀ j q, x3 (ix2 j q) = ((cw j q : ℝ) : EReal)
  lng : ∀ q, x4 (ix1 q) = ((lng q : ℝ) : EReal)
  ws : ∀ g a b, x6 (ix3 g a b) = ((ws g a b : ℝ) : EReal)

namespace RefAt

variable {x0 x1 x2 x3 x4 x5 x6 x7 x8 x9} {k : Saved} {dm : Tok} {cw : Fin 3 → Fin 1024 → ℝ} {lng : Fin 1024 → ℝ} {ws : Fin 8 → Fin 128 → Fin 128 → ℝ}
variable (h : RefAt x0 x1 x2 x3 x4 x5 x6 x7 x8 x9 k dm cw lng ws) (b : Fin 4) (s : Fin 2048) (q : Fin 1024)

include h

theorem dgb : val_main_v112 (F := Ideal) x0 x1 x2 x4 x5 x6 x7 x8 x9 (ix3 b s q) = ((k.dgb dm b s q : ℝ) : EReal) := by
  pointwise [val_main_v112, val_main_v111, val_main_v105, val_main_v104, val_main_v103, val_main_cst_17, val_main_v86]
  rw [h.dm, h.u, h.mx, h.sb]
  simp only [← EReal.coe_one, ← EReal.coe_sub, ← EReal.coe_mul]
  rfl

theorem dga : val_main_v115 (F := Ideal) x0 x1 x2 x3 x8 x9 (ix3 b s q) = ((k.dga dm b s q : ℝ) : EReal) := by
  pointwise [val_main_v115, val_main_v114, val_main_v95, val_main_v94, val_main_v93, val_main_cst_14, val_main_v48]
  rw [h.dm, h.b, h.cv, h.sa]
  simp only [← EReal.coe_one, ← EReal.coe_sub, ← EReal.coe_mul]
  rfl

theorem du : val_main_v117 (F := Ideal) x0 x1 x2 x4 x5 x6 x7 x8 x9 (ix3 b s q) = ((k.du dm b s q : ℝ) : EReal) := by
  pointwise [val_main_v117, val_main_v110]
  rw [h.dm, h.mx, h.sb]
  simp only [← EReal.coe_mul]
  exact congrArg (fun z : ℝ => (z : EReal)) (by unfold Saved.du; ring)

theorem dmx : val_main_v116 (F := Ideal) x0 x1 x2 x8 x9 (ix3 b s q) = ((k.dmx dm b s q : ℝ) : EReal) := by
  pointwise [val_main_v116, val_main_v110]
  rw [h.dm, h.u, h.sb]
  simp only [← EReal.coe_mul]
  exact congrArg (fun z : ℝ => (z : EReal)) (by unfold Saved.dmx; ring)

theorem db : val_main_v161 (F := Ideal) x0 x1 x2 x3 x8 x9 (ix3 b s q) = ((k.db dm b s q : ℝ) : EReal) := by
  pointwise [val_main_v161, val_main_v113]
  rw [h.dm, h.cv, h.sa]
  simp only [← EReal.coe_mul]
  exact congrArg (fun z : ℝ => (z : EReal)) (by unfold Saved.db; ring)

theorem dcv : val_main_v160 (F := Ideal) x0 x1 x2 x8 x9 (ix3 b s q) = ((k.dcv dm b s q : ℝ) : EReal) := by
  pointwise [val_main_v160, val_main_v113]
  rw [h.dm, h.b, h.sa]
  simp only [← EReal.coe_mul]
  exact congrArg (fun z : ℝ => (z : EReal)) (by unfold Saved.dcv; ring)

/-- The rows regrouped into chunks and groups. -/
theorem dmxG (n : Fin 16) (t : Fin 128) (g : Fin 8) (e : Fin 128) : val_main_v118 (F := Ideal) x0 x1 x2 x8 x9 (ix5 b n t g e)
    = ((k.dmx dm b (at_ n t) (ch g e) : ℝ) : EReal) := by
  rw [val_main_v118_apply]
  refine (congrArg (val_main_v116 (F := Ideal) x0 x1 x2 x8 x9) (funext fun a => Fin.ext ?_)).trans (h.dmx b (at_ n t) (ch g e))
  rcases a with ⟨_ | _ | _ | a, ha⟩
  · show ((((b.val * 16 + n.val) * 128 + t.val) * 8 + g.val) * 128 + e.val) / 2097152 = b.val
    omega
  · show ((((b.val * 16 + n.val) * 128 + t.val) * 8 + g.val) * 128 + e.val) / 1024 % 2048 = n.val * 128 + t.val
    omega
  · show ((((b.val * 16 + n.val) * 128 + t.val) * 8 + g.val) * 128 + e.val) % 1024 = g.val * 128 + e.val
    omega
  · exact absurd ha (by simp)

omit h in
theorem vn_group (n : Fin 16) (t : Fin 128) (g : Fin 8) (e : Fin 128) : val_main_v74 (F := Ideal) x0 x1 x2 x4 x5 (ix5 b n t g e)
    = val_main_v73 (F := Ideal) x0 x1 x2 x4 x5 (ix3 b (at_ n t) (ch g e)) := by
  rw [val_main_v74_apply]
  refine congrArg (val_main_v73 (F := Ideal) x0 x1 x2 x4 x5) (funext fun a => Fin.ext ?_)
  rcases a with ⟨_ | _ | _ | a, ha⟩
  · show ((((b.val * 16 + n.val) * 128 + t.val) * 8 + g.val) * 128 + e.val) / 2097152 = b.val
    omega
  · show ((((b.val * 16 + n.val) * 128 + t.val) * 8 + g.val) * 128 + e.val) / 1024 % 2048 = n.val * 128 + t.val
    omega
  · show ((((b.val * 16 + n.val) * 128 + t.val) * 8 + g.val) * 128 + e.val) % 1024 = g.val * 128 + e.val
    omega
  · exact absurd ha (by simp)

theorem vnG (n : Fin 16) (t : Fin 128) (g : Fin 8) (e : Fin 128) : val_main_v74 (F := Ideal) x0 x1 x2 x4 x5 (ix5 b n t g e)
    = ((k.VN b (at_ n t) (ch g e) : ℝ) : EReal) := (vn_group (x0 := x0) (x1 := x1) (x2 := x2) (x4 := x4) (x5 := x5) b n t g e).trans (h.vn b (at_ n t) (ch g e))

omit h in
theorem mask (g : Fin 8) (t e : Fin 128) : val_main_v78_1 (F := Ideal) (ix3 g t e) = if e.val ≤ t.val then 1#1 else 0#1 := by
  pointwise [val_main_v78_1, val_main_v77, val_main_v76, val_main_v75, val_main_c, val_main_call0_v0, val_main_call0_v1, val_main_call0_v2, val_main_call0_v3, val_main_call0_v4, val_main_call0_v5, val_main_call0_c, val_main_call0_c_0]
  have e0 : IntOp.addi (BitVec.ofNat 32 t.val) 0#32 = BitVec.ofNat 32 t.val := BitVec.add_zero _
  rw [e0, sge_at]
  by_cases het : e.val ≤ t.val
  · rw [if_pos het]; rfl
  · rw [if_neg het]; rfl

theorem wsM (g : Fin 8) (t e : Fin 128) : val_main_v78_0 (F := Ideal) x6 (ix3 g t e) = (((if e.val ≤ t.val then ws g t e else 0) : ℝ) : EReal) := by
  pointwise [val_main_v78_0, val_main_call1_v1, val_main_cst_11]
  rw [mask, h.ws]
  by_cases het : e.val ≤ t.val
  · rw [if_pos het, if_pos het]; rfl
  · rw [if_neg het, if_neg het]; rfl

theorem dvn : val_main_v128 (F := Ideal) x0 x1 x2 x6 x8 x9 (ix3 b s q) = ((k.dvn dm ws b s q : ℝ) : EReal) := by
  pointwise [val_main_v128, val_main_v126, val_main_v125, val_main_v123]
  simp only [h.dmxG, h.wsM, ← EReal.coe_mul, ← coe_sum]
  refine congrArg (fun z : ℝ => (z : EReal)) (Finset.sum_congr rfl fun t _ => ?_)
  rw [mul_comm]
  refine congrArg₂ (fun u v : ℝ => u * v) rfl (congrArg (k.dmx dm b (inChunk s t)) (Fin.ext ?_))
  show q.val / 128 * 128 + q.val % 128 = q.val
  omega

omit h in
/-- The batch, the chunk and the channel over which the weights' gradient sums, as the product's contraction index. -/
def contrOf : (Fin 4 × Fin 16 × Fin 128) ≃ dot_S8x4x16x128x128_S4x16x128x8x128_S8x128x128_123_014_4_2_0_3.contr.Idx where
  toFun p := fun a => match a with
    | ⟨0, _⟩ => p.1
    | ⟨1, _⟩ => p.2.1
    | ⟨2, _⟩ => p.2.2
  invFun f := (f ⟨0, by decide⟩, f ⟨1, by decide⟩, f ⟨2, by decide⟩)
  left_inv p := rfl
  right_inv f := by
    funext a
    match a with
    | ⟨0, _⟩ => rfl
    | ⟨1, _⟩ => rfl
    | ⟨2, _⟩ => rfl

omit h in
theorem dot_read (A : FVec Ideal S8x4x16x128x128 .f32) (B : FVec Ideal S4x16x128x8x128 .f32) (g : Fin 8) (t e : Fin 128) :
    Ideal.matmul dot_S8x4x16x128x128_S4x16x128x8x128_S8x128x128_123_014_4_2_0_3 A B (fun _ => 0) (ix3 g t e)
      = ∑ b : Fin 4, ∑ n : Fin 16, ∑ c : Fin 128, (A (ix5 g b n c t) : EReal) * B (ix5 b n e g c) := by
  unfold Ideal.matmul
  rw [zero_add, ← contrOf.sum_comp (fun k => (A (DotDims.lhsIdx _ (ix3 g t e) k) : EReal) * B (DotDims.rhsIdx _ (ix3 g t e) k)), Fintype.sum_prod_type]
  refine Finset.sum_congr rfl fun b _ => ?_
  rw [Fintype.sum_prod_type]
  refine Finset.sum_congr rfl fun n _ => Finset.sum_congr rfl fun c _ => ?_
  refine congrArg₂ (fun u v : EReal => u * v) (congrArg A (funext fun a => ?_)) (congrArg B (funext fun a => ?_))
  · fin_cases a <;> rfl
  · fin_cases a <;> rfl

/-- The gradient of the mixing's weights. -/
theorem dws (g : Fin 8) (t e : Fin 128) : val_main_v127 (F := Ideal) x0 x1 x2 x4 x5 x8 x9 (ix3 g t e) = ((k.dws dm g t e : ℝ) : EReal) := by
  pointwise [val_main_v127, val_main_v124, val_main_v123, val_main_call2_v0, val_main_call2_cst]
  rw [mask, dot_read]
  unfold Saved.dws
  have sel : ∀ a b : EReal, Scalar.select (1#1 : BitVec 1) a b = a := fun _ _ => rfl
  by_cases het : e.val ≤ t.val
  · rw [if_pos het, if_pos het, sel]
    simp only [coe_sum, EReal.coe_mul]
    refine Finset.sum_congr rfl fun b _ => Finset.sum_congr rfl fun n _ => Finset.sum_congr rfl fun c _ => ?_
    pointwise
    rw [h.dmxG, h.vnG]
  · rw [if_neg het, if_neg het]
    rfl

/-- The gradient of the mixing's bias, repeated along its group. -/
theorem dbs (a : Fin 128) : val_main_v229 (F := Ideal) x0 x1 x2 x8 x9 (ix2 a q) = ((k.dbs dm (grp q) a : ℝ) : EReal) := by
  pointwise [val_main_v229, val_main_v228, val_main_v227, val_main_v122, val_main_v121, val_main_v120, val_main_v119, val_main_cst_18, val_main_cst_19]
  rw [reduce014, zero_add, Fin.sum_univ_one, Fin.sum_univ_one, Fin.sum_univ_one]
  pointwise
  rw [reduce014, zero_add]
  simp only [h.dmxG, ← coe_sum]
  rfl

/-! ## The layer norm -/

theorem ctrR : val_main_v54 (F := Ideal) x0 x1 x2 (ix3 b s q) = ((ctr (k.V b s) q : ℝ) : EReal) := ctr_read _ _ _ h.v b s q
theorem msR : val_main_v61 (F := Ideal) x0 x1 x2 (ix3 b s (0 : Fin 1)) = ((ms (ctr (k.V b s)) : ℝ) : EReal) := ms_read _ _ _ h.v b s
theorem rinvR : val_main_v62 (F := Ideal) x0 x1 x2 (ix3 b s (0 : Fin 1)) = ((rinv (ctr (k.V b s)) : ℝ) : EReal) := rinv_read _ _ _ h.v b s
theorem hatR : val_main_v67 (F := Ideal) x0 x1 x2 (ix3 b s q) = ((hat (k.V b s) q : ℝ) : EReal) := hat_read _ _ _ h.v b s q

theorem partR : val_main_v151 (F := Ideal) x0 x1 x2 x4 x6 x8 x9 (ix3 b s q) = ((lnPart (k.V b s) lng (k.dvn dm ws b s) q : ℝ) : EReal) := by
  pointwise [val_main_v151, val_main_v150, val_main_v149, val_main_v148, val_main_v147, val_main_v146, val_main_v145, val_main_v144, val_main_v143, val_main_v142, val_main_v141, val_main_v140, val_main_v139, val_main_v138, val_main_v136, val_main_v135, val_main_v68, val_main_v65, val_main_v64, val_main_v63, val_main_cst_10, val_main_cst_24, val_main_cst_25, val_main_cst_26]
  simp only [Fin.sum_univ_one]
  simp only [h.dvn, h.lng, h.ctrR, h.rinvR, h.msR, ofBits_1024, ofBits_neg_half, div_coe _ _ (ms_pos _).ne', div_coe _ (1024 : ℝ) (by norm_num), ← EReal.coe_mul, ← coe_sum, ← EReal.coe_add]
  rfl

/-- The gradient through the layer norm. -/
theorem dv : val_main_v159 (F := Ideal) x0 x1 x2 x4 x6 x8 x9 (ix3 b s q) = ((k.dv dm lng ws b s q : ℝ) : EReal) := by
  pointwise [val_main_v159, val_main_v158, val_main_v157, val_main_v156, val_main_v155, val_main_v154, val_main_v153, val_main_v152, val_main_cst_27, val_main_cst_28, val_main_cst_29]
  simp only [Fin.sum_univ_one, h.partR, ofBits_1024, ← EReal.coe_neg, ← coe_sum, div_coe _ (1024 : ℝ) (by norm_num), ← EReal.coe_add]
  refine congrArg (fun z : ℝ => (z : EReal)) ?_
  unfold Saved.dv
  rw [← lnGrad_eq, Finset.sum_neg_distrib]

/-! ## The convolution -/

/-- The convolution's rows as the weight `2 - j` meets them. -/
theorem rows2 : val_main_v41 (F := Ideal) x0 x1 x2 (ix3 b s q) = ((k.C b s q * k.XI b s q : ℝ) : EReal) := by
  pointwise [val_main_v41, val_main_v26, val_main_v25, val_main_v24, val_main_cst_3]
  rw [h.cc, h.xi, ← EReal.coe_mul]

theorem rows1 : val_main_v34 (F := Ideal) x0 x1 x2 (ix3 b s q) = (((if hs : s.val < 1 then 0 else k.C b ⟨s.val - 1, by omega⟩ q * k.XI b ⟨s.val - 1, by omega⟩ q) : ℝ) : EReal) := by
  pointwise [val_main_v34, val_main_v26, val_main_v25, val_main_v24, val_main_cst_3]
  by_cases hs : s.val < 1
  · rw [dif_pos (by omega), dif_pos hs, EReal.coe_zero]
  · rw [dif_neg (by omega), dif_neg hs, h.cc, h.xi, ← EReal.coe_mul]
    have e : (⟨1 + s.val - 2, by omega⟩ : Fin 2048) = ⟨s.val - 1, by omega⟩ := Fin.ext (by show 1 + s.val - 2 = s.val - 1; omega)
    rw [e]

theorem rows0 : val_main_v28 (F := Ideal) x0 x1 x2 (ix3 b s q) = (((if hs : s.val < 2 then 0 else k.C b ⟨s.val - 2, by omega⟩ q * k.XI b ⟨s.val - 2, by omega⟩ q) : ℝ) : EReal) := by
  pointwise [val_main_v28, val_main_v26, val_main_v25, val_main_v24, val_main_cst_3]
  by_cases hs : s.val < 2
  · rw [dif_pos hs, dif_pos hs, EReal.coe_zero]
  · rw [dif_neg hs, dif_neg hs, h.cc, h.xi, ← EReal.coe_mul]

/-- The gradient through the convolution. -/
theorem dcx : val_main_v194 (F := Ideal) x0 x1 x2 x3 x8 x9 (ix3 b s q) = ((convT (k.dcv dm) cw b s q : ℝ) : EReal) := by
  pointwise [val_main_v194, val_main_v192, val_main_v191, val_main_v186, val_main_v185, val_main_v31, val_main_v30, val_main_v29, val_main_v181, val_main_v180, val_main_v175, val_main_v174, val_main_v37, val_main_v36, val_main_v35, val_main_v170, val_main_v166, val_main_v165, val_main_v44, val_main_v43, val_main_v42, val_main_cst_33, val_main_cst_37, val_main_cst_41]
  simp only [h.dcv, h.cw, ← EReal.coe_mul]
  unfold convT
  rw [EReal.coe_add, EReal.coe_add]
  refine congrArg₂ (fun u v : EReal => u + v) (congrArg₂ (fun u v : EReal => u + v) rfl ?_) ?_
  · unfold up
    by_cases hs : s.val + 1 < 2048
    · rw [dif_pos (by omega), dif_pos hs]
      have e : (⟨2 + s.val - 1, by omega⟩ : Fin 2048) = ⟨s.val + 1, hs⟩ := Fin.ext (by show 2 + s.val - 1 = s.val + 1; omega)
      rw [e]
    · rw [dif_neg (by omega), dif_neg hs, zero_mul, EReal.coe_zero]
  · unfold up
    by_cases hs : s.val + 2 < 2048
    · rw [dif_pos (by omega), dif_pos hs]
      have e : (⟨2 + s.val, by omega⟩ : Fin 2048) = ⟨s.val + 2, hs⟩ := Fin.ext (Nat.add_comm 2 s.val)
      rw [e]
    · rw [dif_neg (by omega), dif_neg hs, zero_mul, EReal.coe_zero]

theorem dxi : val_main_v195 (F := Ideal) x0 x1 x2 x3 x8 x9 (ix3 b s q) = ((k.dxi dm cw b s q : ℝ) : EReal) := by
  pointwise [val_main_v195]
  rw [h.dcx, h.cc, ← EReal.coe_mul, mul_comm]
  rfl

theorem dc : val_main_v196 (F := Ideal) x0 x1 x2 x3 x8 x9 (ix3 b s q) = ((k.dc dm cw b s q : ℝ) : EReal) := by
  pointwise [val_main_v196]
  rw [h.dcx, h.xi, ← EReal.coe_mul]
  rfl

/-- The gradient of each of the convolution's weights. -/
theorem dcw2 : val_main_v167 (F := Ideal) x0 x1 x2 x8 x9 (ix1 q) = ((k.dcw dm 0 q : ℝ) : EReal) := by
  pointwise [val_main_v167, val_main_v164, val_main_v163, val_main_v162, val_main_cst_30, val_main_cst_31]
  rw [reduce01, zero_add, Fin.sum_univ_one, Fin.sum_univ_one]
  pointwise
  rw [reduce01, zero_add]
  pointwise
  simp only [h.rows2, h.dcv, ← EReal.coe_mul, ← coe_sum]
  refine congrArg (fun z : ℝ => (z : EReal)) (Finset.sum_congr rfl fun b _ => Finset.sum_congr rfl fun s _ => ?_)
  rw [mul_comm]
  refine congrArg (fun z : ℝ => z * (k.C b s q * k.XI b s q)) ?_
  unfold up
  rw [dif_pos (show s.val + 0 < 2048 by omega)]
  rfl

theorem dcw1 : val_main_v176 (F := Ideal) x0 x1 x2 x8 x9 (ix1 q) = ((k.dcw dm 1 q : ℝ) : EReal) := by
  pointwise [val_main_v176, val_main_v173, val_main_v172, val_main_v171, val_main_cst_34, val_main_cst_35]
  rw [reduce01, zero_add, Fin.sum_univ_one, Fin.sum_univ_one]
  pointwise
  rw [reduce01, zero_add]
  pointwise
  simp only [h.rows1, h.dcv, ← EReal.coe_mul, ← coe_sum]
  refine congrArg (fun z : ℝ => (z : EReal)) (Finset.sum_congr rfl fun b _ => ?_)
  exact shift_sum 1 (by norm_num) (fun s => k.dcv dm b s q) (fun s => k.C b s q * k.XI b s q)

theorem dcw0 : val_main_v187 (F := Ideal) x0 x1 x2 x8 x9 (ix1 q) = ((k.dcw dm 2 q : ℝ) : EReal) := by
  pointwise [val_main_v187, val_main_v184, val_main_v183, val_main_v182, val_main_cst_38, val_main_cst_39]
  rw [reduce01, zero_add, Fin.sum_univ_one, Fin.sum_univ_one]
  pointwise
  rw [reduce01, zero_add]
  pointwise
  simp only [h.rows0, h.dcv, ← EReal.coe_mul, ← coe_sum]
  refine congrArg (fun z : ℝ => (z : EReal)) (Finset.sum_congr rfl fun b _ => ?_)
  exact shift_sum 2 (by norm_num) (fun s => k.dcv dm b s q) (fun s => k.C b s q * k.XI b s q)

theorem dcwR (r : Fin 8) : val_main_v222 (F := Ideal) x0 x1 x2 x8 x9 (ix2 r q)
    = (((if r.val = 2 then k.dcw dm 0 q else if r.val = 1 then k.dcw dm 1 q else if r.val = 0 then k.dcw dm 2 q else 0) : ℝ) : EReal) := by
  pointwise [val_main_v222, val_main_v190, val_main_v189, val_main_v188, val_main_v179, val_main_v178, val_main_v177, val_main_v169, val_main_v168, val_main_cst_32, val_main_cst_36, val_main_cst_40, val_main_call3_v0]
  rw [h.dcw2, h.dcw1, h.dcw0]
  by_cases e2 : r.val = 2
  · rw [dif_pos (by omega), dif_pos (by omega), dif_neg (by omega), dif_neg (by omega), if_pos e2, add_zero, add_zero]
  by_cases e1 : r.val = 1
  · rw [dif_pos (by omega), dif_neg (by omega), dif_pos (by omega), dif_neg (by omega), if_neg e2, if_pos e1, add_zero, zero_add]
  by_cases e0 : r.val = 0
  · rw [dif_pos (by omega), dif_neg (by omega), dif_neg (by omega), dif_pos (by omega), if_neg e2, if_neg e1, if_pos e0, zero_add, zero_add]
  rw [dif_neg (by omega), if_neg e2, if_neg e1, if_neg e0]
  show (((0#32 : BitVec 32).toInt : ℝ) : EReal) = ((0 : ℝ) : EReal)
  simp

/-- The gradients of the normalisation's weight and bias, padded to eight rows. -/
theorem dlgR : val_main_v137 (F := Ideal) x0 x1 x2 x6 x8 x9 (ix1 q) = ((k.dlg dm ws q : ℝ) : EReal) := by
  pointwise [val_main_v137, val_main_v134, val_main_v133, val_main_v132, val_main_cst_22, val_main_cst_23]
  rw [reduce01, zero_add, Fin.sum_univ_one, Fin.sum_univ_one]
  pointwise
  rw [reduce01, zero_add]
  pointwise
  simp only [h.hatR, h.dvn, ← EReal.coe_mul, ← coe_sum]
  exact congrArg (fun z : ℝ => (z : EReal)) (Finset.sum_congr rfl fun b _ => Finset.sum_congr rfl fun s _ => mul_comm _ _)

theorem dlbR : val_main_v131 (F := Ideal) x0 x1 x2 x6 x8 x9 (ix1 q) = ((k.dlb dm ws q : ℝ) : EReal) := by
  pointwise [val_main_v131, val_main_v130, val_main_v129, val_main_cst_20, val_main_cst_21]
  rw [reduce01, zero_add, Fin.sum_univ_one, Fin.sum_univ_one]
  pointwise
  rw [reduce01, zero_add]
  pointwise
  simp only [h.dvn, ← coe_sum]
  rfl

theorem dlnR (r : Fin 8) : val_main_v226 (F := Ideal) x0 x1 x2 x6 x8 x9 (ix2 r q)
    = (((if r.val = 1 then k.dlb dm ws q else if r.val = 0 then k.dlg dm ws q else 0) : ℝ) : EReal) := by
  pointwise [val_main_v226, val_main_v225, val_main_v224, val_main_v223, val_main_call4_v0]
  rw [h.dlgR, h.dlbR]
  by_cases e1 : r.val = 1
  · rw [dif_pos (by omega), dif_neg (by omega), if_pos e1]
  by_cases e0 : r.val = 0
  · rw [dif_pos (by omega), dif_pos (by omega), if_neg e1, if_pos e0]
  rw [dif_neg (by omega), if_neg e1, if_neg e0]
  show (((0#32 : BitVec 32).toInt : ℝ) : EReal) = ((0 : ℝ) : EReal)
  simp

/-- The projection's cotangent, row by row. -/
theorem dpR (r : Fin 8192) (l : Fin 7168) : val_main_v221 (F := Ideal) x0 x1 x2 x3 x4 x5 x6 x7 x8 x9 (ix2 r l)
    = ((side (parts k dm cw lng ws) (bb r.val) (ss r.val) l : ℝ) : EReal) := by
  pointwise [val_main_v221, val_main_v220, val_main_v197]
  have hb : r.val / 2048 = (bb r.val).val := by show r.val / 2048 = r.val / 2048 % 4; omega
  have hr := r.isLt
  have hl := l.isLt
  have key := fun (j : Fin 7) (q : Fin 1024) => side_of (parts k dm cw lng ws) (⟨r.val / 2048, by omega⟩ : Fin 4) (bb r.val) (⟨r.val % 2048, by omega⟩ : Fin 2048) (ss r.val) l j q hb rfl
  by_cases e0 : l.val < 1024
  · rw [dif_pos e0]
    exact (h.db _ _ _).trans (congrArg (fun z : ℝ => (z : EReal)) (key 0 _ (by show l.val = 0 * 1024 + l.val; omega)))
  rw [dif_neg e0]
  by_cases e1 : l.val - 1024 < 1024
  · rw [dif_pos e1]
    exact (h.dc _ _ _).trans (congrArg (fun z : ℝ => (z : EReal)) (key 1 _ (by show l.val = 1 * 1024 + (l.val - 1024); omega)))
  rw [dif_neg e1]
  by_cases e2 : l.val - 1024 - 1024 < 1024
  · rw [dif_pos e2]
    exact (h.dxi _ _ _).trans (congrArg (fun z : ℝ => (z : EReal)) (key 2 _ (by show l.val = 2 * 1024 + (l.val - 1024 - 1024); omega)))
  rw [dif_neg e2]
  by_cases e3 : l.val - 1024 - 1024 - 1024 < 1024
  · rw [dif_pos e3]
    exact (h.du _ _ _).trans (congrArg (fun z : ℝ => (z : EReal)) (key 3 _ (by show l.val = 3 * 1024 + (l.val - 1024 - 1024 - 1024); omega)))
  rw [dif_neg e3]
  by_cases e4 : l.val - 1024 - 1024 - 1024 - 1024 < 1024
  · rw [dif_pos e4]
    exact (h.dv _ _ _).trans (congrArg (fun z : ℝ => (z : EReal)) (key 4 _ (by show l.val = 4 * 1024 + (l.val - 1024 - 1024 - 1024 - 1024); omega)))
  rw [dif_neg e4]
  by_cases e5 : l.val - 1024 - 1024 - 1024 - 1024 - 1024 < 1024
  · rw [dif_pos e5]
    exact (h.dga _ _ _).trans (congrArg (fun z : ℝ => (z : EReal)) (key 5 _ (by show l.val = 5 * 1024 + (l.val - 1024 - 1024 - 1024 - 1024 - 1024); omega)))
  rw [dif_neg e5]
  exact (h.dgb _ _ _).trans (congrArg (fun z : ℝ => (z : EReal)) (key 6 _ (by show l.val = 6 * 1024 + (l.val - 1024 - 1024 - 1024 - 1024 - 1024 - 1024); omega)))

end RefAt

end Cert.Reference2Ideal.Point

end
-- ==== Proof.MixHost.lean ====
module

public import proofs.«01_k».proof.Proof.MixDp
public import proofs.«01_k».proof.Proof.MixRef
public import Idealize.ShloMosaic.Lib.StableHlo.ReadAt

@[expose] public section

set_option maxRecDepth 16384

/-! The arrays that the host prepares for the mixer's gradient, and the blocks of them that a grid point reads.
The ten saved arrays stand side by side in one; each is the array of the same name in the reference. -/

noncomputable section

open Idealize.ShloMosaic Idealize.ShloMosaic.TcCoe Idealize.SL.Sem

namespace Cert.Kernel2Ideal.Point

open Cert.Kernel2Ideal Cert.Kernel2Ideal.Gen Cert.Reals Cert.Mix
open Cert.Reference2Ideal.Read (val_main_v17 val_main_v18 val_main_v19 val_main_v20 val_main_v21 val_main_v47 val_main_v73 val_main_v85 val_main_v92 val_main_v102 val_main_v109)

variable (m : (ℓ : Loc nD τ sig) → Buf (Elt Ideal) ℓ) (c : Dev nD)

theorem idx : ∀ t : Fin cfg0.N, (win0_0.index t 0 = 15 - t.val ∧ win0_0.index t 1 = 0)
    ∧ (win0_1.index t 0 = 15 - t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0 ∧ win0_5.index t 2 = 0)
    ∧ (win0_6.index t 0 = 15 - t.val ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0 ∧ win0_9.index t 2 = 0)
    ∧ (win0_10.index t 0 = 0 ∧ win0_10.index t 1 = 0) :=
  (by decide +kernel : ∀ t : Fin grid0.N, _)

/-- A host array as it stands where the saved columns are put together. -/
abbrev H (r : Ref sig .tc) : Buf (Elt Ideal) ((c : Thread nD τ).loc r) :=
  StableHlo.upto [hostOps0, hostOps0_1, hostOps0_2, hostOps0_3, hostOps0_4, hostOps0_5, hostOps0_6].flatten (fun b => m (c, b)) 115 (Proc.tc.devRef r)

variable {x0 : FVec Ideal S4x2048x1024 .f32} {x1 : FVec Ideal S1024 .f32} {x2 : FVec Ideal S1024x7168 .f32} {x3 : FVec Ideal S3x1024 .f32}
  {x4 x5 : FVec Ideal S1024 .f32} {x6 : FVec Ideal S8x128x128 .f32} {x7 : FVec Ideal S8x128 .f32} {x8 : FVec Ideal S1024x1024 .f32} {x9 : FVec Ideal S4x2048x1024 .f32}

/-- The ten arguments as the memory holds them. -/
structure Args (x0 : FVec Ideal S4x2048x1024 .f32) (x1 : FVec Ideal S1024 .f32) (x2 : FVec Ideal S1024x7168 .f32) (x3 : FVec Ideal S3x1024 .f32)
    (x4 x5 : FVec Ideal S1024 .f32) (x6 : FVec Ideal S8x128x128 .f32) (x7 : FVec Ideal S8x128 .f32) (x8 : FVec Ideal S1024x1024 .f32) (x9 : FVec Ideal S4x2048x1024 .f32) : Prop where
  e0 : m ((c : Thread nD τ).loc main_arg0) = x0
  e1 : m ((c : Thread nD τ).loc main_arg1) = x1
  e2 : m ((c : Thread nD τ).loc main_arg2) = x2
  e3 : m ((c : Thread nD τ).loc main_arg3) = x3
  e4 : m ((c : Thread nD τ).loc main_arg4) = x4
  e5 : m ((c : Thread nD τ).loc main_arg5) = x5
  e6 : m ((c : Thread nD τ).loc main_arg6) = x6
  e7 : m ((c : Thread nD τ).loc main_arg7) = x7
  e8 : m ((c : Thread nD τ).loc main_arg8) = x8
  e9 : m ((c : Thread nD τ).loc main_arg9) = x9

variable {m c} (e : Args m c x0 x1 x2 x3 x4 x5 x6 x7 x8 x9)

section
include e

theorem kept_b : (H m c main_v14 : FVec Ideal S4x2048x1024 .f32) = val_main_v17 (F := Ideal) x0 x1 x2 := by
  obtain ⟨rfl, rfl, rfl, rfl, rfl, rfl, rfl, rfl, rfl, rfl⟩ := e
  unfold H; after_reads_simp; rfl
theorem kept_c : (H m c main_v15 : FVec Ideal S4x2048x1024 .f32) = val_main_v18 (F := Ideal) x0 x1 x2 := by
  obtain ⟨rfl, rfl, rfl, rfl, rfl, rfl, rfl, rfl, rfl, rfl⟩ := e
  unfold H; after_reads_simp; rfl
theorem kept_xi : (H m c main_v16 : FVec Ideal S4x2048x1024 .f32) = val_main_v19 (F := Ideal) x0 x1 x2 := by
  obtain ⟨rfl, rfl, rfl, rfl, rfl, rfl, rfl, rfl, rfl, rfl⟩ := e
  unfold H; after_reads_simp; rfl
theorem kept_u : (H m c main_v17 : FVec Ideal S4x2048x1024 .f32) = val_main_v20 (F := Ideal) x0 x1 x2 := by
  obtain ⟨rfl, rfl, rfl, rfl, rfl, rfl, rfl, rfl, rfl, rfl⟩ := e
  unfold H; after_reads_simp; rfl
theorem kept_v : (H m c main_v18 : FVec Ideal S4x2048x1024 .f32) = val_main_v21 (F := Ideal) x0 x1 x2 := by
  obtain ⟨rfl, rfl, rfl, rfl, rfl, rfl, rfl, rfl, rfl, rfl⟩ := e
  unfold H; after_reads_simp; rfl
theorem kept_cv : (H m c main_v65 : FVec Ideal S4x2048x1024 .f32) = val_main_v47 (F := Ideal) x0 x1 x2 x3 := by
  obtain ⟨rfl, rfl, rfl, rfl, rfl, rfl, rfl, rfl, rfl, rfl⟩ := e
  unfold H; after_reads_simp; rfl
theorem kept_mx : (H m c main_v77 : FVec Ideal S4x2048x1024 .f32) = val_main_v85 (F := Ideal) x0 x1 x2 x4 x5 x6 x7 := by
  obtain ⟨rfl, rfl, rfl, rfl, rfl, rfl, rfl, rfl, rfl, rfl⟩ := e
  unfold H; after_reads_simp; rfl
theorem kept_vn : (H m c main_v42 : FVec Ideal S4x2048x1024 .f32) = val_main_v73 (F := Ideal) x0 x1 x2 x4 x5 := by
  obtain ⟨rfl, rfl, rfl, rfl, rfl, rfl, rfl, rfl, rfl, rfl⟩ := e
  unfold H; after_reads_simp; rfl
theorem kept_sa : (H m c main_v83 : FVec Ideal S4x2048x1024 .f32) = val_main_v92 (F := Ideal) x0 x1 x2 := by
  obtain ⟨rfl, rfl, rfl, rfl, rfl, rfl, rfl, rfl, rfl, rfl⟩ := e
  unfold H; after_reads_simp; rfl
theorem kept_sb : (H m c main_v89 : FVec Ideal S4x2048x1024 .f32) = val_main_v102 (F := Ideal) x0 x1 x2 := by
  obtain ⟨rfl, rfl, rfl, rfl, rfl, rfl, rfl, rfl, rfl, rfl⟩ := e
  unfold H; after_reads_simp; rfl

end

variable (m c)

/-- The ten saved arrays, in the order of their columns. -/
def kept : Fin 10 → FVec Ideal S4x2048x1024 .f32 :=
  ![H m c main_v14, H m c main_v15, H m c main_v16, H m c main_v17, H m c main_v18, H m c main_v65, H m c main_v77, H m c main_v42, H m c main_v83, H m c main_v89]

/-- Ten arrays put side by side, their rows counted through the batch. -/
def join (A : Fin 10 → FVec Ideal S4x2048x1024 .f32) : FVec Ideal S8192x10240 .bf16 :=
  truncf .bf16 (shapeCast S8192x10240 (concatenate S4x2048x10240 2 [⟨S4x2048x1024, A 0⟩, ⟨S4x2048x1024, A 1⟩, ⟨S4x2048x1024, A 2⟩, ⟨S4x2048x1024, A 3⟩, ⟨S4x2048x1024, A 4⟩, ⟨S4x2048x1024, A 5⟩, ⟨S4x2048x1024, A 6⟩, ⟨S4x2048x1024, A 7⟩, ⟨S4x2048x1024, A 8⟩, ⟨S4x2048x1024, A 9⟩]
    concatenates_S4x2048x1024_S4x2048x1024_S4x2048x1024_S4x2048x1024_S4x2048x1024_S4x2048x1024_S4x2048x1024_S4x2048x1024_S4x2048x1024_S4x2048x1024_S4x2048x10240_d2 : FVec Ideal S4x2048x10240 .f32) shapeCasts_S4x2048x10240_S8192x10240) bitsLt_bf16_f32

theorem join_at (A : Fin 10 → FVec Ideal S4x2048x1024 .f32) (r : Fin 8192) (l : Fin 10240) : join A (ix2 r l)
    = A (⟨l.val / 1024, by omega⟩ : Fin 10) (ix3 (⟨r.val / 2048, by omega⟩ : Fin 4) (⟨r.val % 2048, by omega⟩ : Fin 2048) (⟨l.val % 1024, by omega⟩ : Fin 1024)) := by
  have pick : ∀ (j : Fin 10) (b : Fin 4) (s : Fin 2048) (q : Fin 1024), j.val = l.val / 1024 → q.val = l.val % 1024 →
      A j (ix3 b s q) = A (⟨l.val / 1024, by omega⟩ : Fin 10) (ix3 b s (⟨l.val % 1024, by omega⟩ : Fin 1024)) := by
    intro j b s q hj hq
    have ej : j = ⟨l.val / 1024, by omega⟩ := Fin.ext hj
    have eq : q = ⟨l.val % 1024, by omega⟩ := Fin.ext hq
    rw [← ej, ← eq]
  pointwise [join]
  by_cases h0 : l.val < 1024
  · rw [dif_pos h0]
    exact pick 0 _ _ _ (by show 0 = _; omega) (by show l.val = _; omega)
  rw [dif_neg h0]
  by_cases h1 : l.val - 1024 < 1024
  · rw [dif_pos h1]
    exact pick 1 _ _ _ (by show 1 = _; omega) (by show l.val - 1024 = _; omega)
  rw [dif_neg h1]
  by_cases h2 : l.val - 1024 - 1024 < 1024
  · rw [dif_pos h2]
    exact pick 2 _ _ _ (by show 2 = _; omega) (by show l.val - 1024 - 1024 = _; omega)
  rw [dif_neg h2]
  by_cases h3 : l.val - 1024 - 1024 - 1024 < 1024
  · rw [dif_pos h3]
    exact pick 3 _ _ _ (by show 3 = _; omega) (by show l.val - 1024 - 1024 - 1024 = _; omega)
  rw [dif_neg h3]
  by_cases h4 : l.val - 1024 - 1024 - 1024 - 1024 < 1024
  · rw [dif_pos h4]
    exact pick 4 _ _ _ (by show 4 = _; omega) (by show l.val - 1024 - 1024 - 1024 - 1024 = _; omega)
  rw [dif_neg h4]
  by_cases h5 : l.val - 1024 - 1024 - 1024 - 1024 - 1024 < 1024
  · rw [dif_pos h5]
    exact pick 5 _ _ _ (by show 5 = _; omega) (by show l.val - 1024 - 1024 - 1024 - 1024 - 1024 = _; omega)
  rw [dif_neg h5]
  by_cases h6 : l.val - 1024 - 1024 - 1024 - 1024 - 1024 - 1024 < 1024
  · rw [dif_pos h6]
    exact pick 6 _ _ _ (by show 6 = _; omega) (by show l.val - 1024 - 1024 - 1024 - 1024 - 1024 - 1024 = _; omega)
  rw [dif_neg h6]
  by_cases h7 : l.val - 1024 - 1024 - 1024 - 1024 - 1024 - 1024 - 1024 < 1024
  · rw [dif_pos h7]
    exact pick 7 _ _ _ (by show 7 = _; omega) (by show l.val - 1024 - 1024 - 1024 - 1024 - 1024 - 1024 - 1024 = _; omega)
  rw [dif_neg h7]
  by_cases h8 : l.val - 1024 - 1024 - 1024 - 1024 - 1024 - 1024 - 1024 - 1024 < 1024
  · rw [dif_pos h8]
    exact pick 8 _ _ _ (by show 8 = _; omega) (by show l.val - 1024 - 1024 - 1024 - 1024 - 1024 - 1024 - 1024 - 1024 = _; omega)
  rw [dif_neg h8]
  exact pick 9 _ _ _ (by show 9 = _; omega) (by show l.val - 1024 - 1024 - 1024 - 1024 - 1024 - 1024 - 1024 - 1024 - 1024 = _; omega)

theorem host_join : (V m c main_v92 : FVec Ideal S8192x10240 .bf16) = join (kept m c) := by
  unfold V; after_reads_simp; unfold kept H
  generalize StableHlo.upto [hostOps0, hostOps0_1, hostOps0_2, hostOps0_3, hostOps0_4, hostOps0_5, hostOps0_6].flatten (fun b => m (c, b)) 115 = U
  rfl

theorem host_kept (r : Fin 8192) (l : Fin 10240) : (V m c main_v92 : FVec Ideal S8192x10240 .bf16) (ix2 r l)
    = kept m c (⟨l.val / 1024, by omega⟩ : Fin 10) (ix3 (⟨r.val / 2048, by omega⟩ : Fin 4) (⟨r.val % 2048, by omega⟩ : Fin 2048) (⟨l.val % 1024, by omega⟩ : Fin 1024)) :=
  (congrFun (host_join m c) _).trans (join_at _ r l)

theorem host_dx (r : Fin 8192) (q : Fin 1024) : (V m c main_v93 : FVec Ideal S8192x1024 .f32) (ix2 r q)
    = m ((c : Thread nD τ).loc main_arg9) (ix3 (⟨r.val / 2048, by omega⟩ : Fin 4) (⟨r.val % 2048, by omega⟩ : Fin 2048) q) := by
  unfold V; after_reads_simp; pointwise

theorem host_wout (r q : Fin 1024) : (V m c main_v94 : FVec Ideal S1024x1024 .bf16) (ix2 r q) = m ((c : Thread nD τ).loc main_arg8) (ix2 r q) := by
  unfold V; after_reads_simp; pointwise

theorem host_cw (j : Fin 3) (q : Fin 1024) : (V m c main_v95 : FVec Ideal S8x1024 .f32) (ix2 (r8 j) q) = m ((c : Thread nD τ).loc main_arg3) (ix2 j q) := by
  unfold V; after_reads_simp
  change pad S8x1024 ![0, 0] ![5, 0] ![0, 0] (m ((c : Thread nD τ).loc main_arg3) : FVec Ideal S3x1024 .f32) (sitofp (F := Ideal) .f32 (constantI S_ 32 0#32)) pads_S3x1024_S8x1024_050_000 h_S_ (ix2 (r8 j) q) = _
  pointwise
  refine (dif_pos fun a => ?_).trans rfl
  match a with
  | ⟨0, _⟩ => exact ⟨Nat.zero_le _, Nat.mod_one _, by show (j.val - 0) / 1 < 3; omega⟩
  | ⟨1, _⟩ => exact ⟨Nat.zero_le _, Nat.mod_one _, by show (q.val - 0) / 1 < 1024; omega⟩

theorem host_lng (q : Fin 1024) : (V m c main_v96 : FVec Ideal S1x1024 .f32) (ix2 0 q) = m ((c : Thread nD τ).loc main_arg4) (ix1 q) := by
  unfold V; after_reads_simp; pointwise

theorem host_ws (g : Fin 8) (s j : Fin 128) : (V m c main_v97 : FVec Ideal S8x128x128 .f32) (ix3 g s j) = m ((c : Thread nD τ).loc main_arg6) (ix3 g j s) := by
  unfold V; after_reads_simp; pointwise

theorem blk_dx (t : Fin cfg0.N) (p : Fin 512) (q : Fin 1024) (r : Fin 8192) (hr : r.val = (15 - t.val) * 512 + p.val) :
    (iblk m c 0 t : FVec Ideal S512x1024 .f32) (ix2 p q) = (V m c main_v93 : FVec Ideal S8192x1024 .f32) (ix2 r q) := by
  obtain ⟨⟨e0, e1⟩, -⟩ := idx t
  unfold iblk; blk_simp; blk_ext
  all_goals first | (rw [e0]; exact hr.symm) | (rw [e1]; omega)

theorem blk_kept (t : Fin cfg0.N) (p : Fin 512) (l : Fin 10240) (r : Fin 8192) (hr : r.val = (15 - t.val) * 512 + p.val) :
    (iblk m c 1 t : FVec Ideal S512x10240 .bf16) (ix2 p l) = (V m c main_v92 : FVec Ideal S8192x10240 .bf16) (ix2 r l) := by
  obtain ⟨-, ⟨e0, e1⟩, -⟩ := idx t
  unfold iblk; blk_simp; blk_ext
  all_goals first | (rw [e0]; exact hr.symm) | (rw [e1]; omega)

theorem blk_wout (t : Fin cfg0.N) (r q : Fin 1024) :
    (iblk m c 2 t : FVec Ideal S1024x1024 .bf16) (ix2 r q) = (V m c main_v94 : FVec Ideal S1024x1024 .bf16) (ix2 r q) := by
  obtain ⟨-, -, ⟨e0, e1⟩, -⟩ := idx t
  unfold iblk; blk_simp; blk_ext
  all_goals first | (rw [e0]; omega) | (rw [e1]; omega)

theorem blk_cw (t : Fin cfg0.N) (r : Fin 8) (q : Fin 1024) :
    (iblk m c 3 t : FVec Ideal S8x1024 .f32) (ix2 r q) = (V m c main_v95 : FVec Ideal S8x1024 .f32) (ix2 r q) := by
  obtain ⟨-, -, -, ⟨e0, e1⟩, -⟩ := idx t
  unfold iblk; blk_simp; blk_ext
  all_goals first | (rw [e0]; omega) | (rw [e1]; omega)

theorem blk_lng (t : Fin cfg0.N) (z : Fin 1) (q : Fin 1024) :
    (iblk m c 4 t : FVec Ideal S1x1024 .f32) (ix2 z q) = (V m c main_v96 : FVec Ideal S1x1024 .f32) (ix2 z q) := by
  obtain ⟨-, -, -, -, ⟨e0, e1⟩, -⟩ := idx t
  unfold iblk; blk_simp; blk_ext
  all_goals first | (rw [e0]; omega) | (rw [e1]; omega)

theorem blk_wst (t : Fin cfg0.N) (g : Fin 8) (s j : Fin 128) :
    (iblk m c 5 t : FVec Ideal S8x128x128 .f32) (ix3 g s j) = (V m c main_v97 : FVec Ideal S8x128x128 .f32) (ix3 g s j) := by
  obtain ⟨-, -, -, -, -, ⟨e0, e1, e2⟩, -⟩ := idx t
  unfold iblk; blk_simp; blk_ext
  all_goals first | (rw [e0]; omega) | (rw [e1]; omega) | (rw [e2]; omega)

/-! ## A block of a saved array -/

theorem kept_blk (f : Tok) (j : Fin 10) (hf : ∀ b s q, kept m c j (ix3 b s q) = ((f b s q : ℝ) : EReal)) (t : Fin cfg0.N) (o : ℕ) (inb : _) (ho : o = j.val * 1024) :
    Blk f ((15 - t.val) * 512) (View.ld (Val := Elt Ideal) (e' := .bf16) (iblk m c 1 t) (Rect.unit (s := S512x10240) ![0, o] ![512, 1024] inb) : FVec Ideal S512x1024 .bf16) := by
  subst ho
  intro p q
  have ht : t.val < 16 := t.isLt
  have el : (View.ld (Val := Elt Ideal) (e' := .bf16) (iblk m c 1 t) (Rect.unit (s := S512x10240) ![0, j.val * 1024] ![512, 1024] inb) : FVec Ideal S512x1024 .bf16) (ix2 p q)
      = (iblk m c 1 t : FVec Ideal S512x10240 .bf16) (ix2 p (⟨j.val * 1024 + q.val, by omega⟩ : Fin 10240)) := by
    refine congrArg (iblk m c 1 t : FVec Ideal S512x10240 .bf16) (funext fun d => Fin.ext ?_)
    rcases d with ⟨_ | _ | d, hd⟩
    · show 0 + 1 * p.val = p.val
      omega
    · show j.val * 1024 + 1 * q.val = j.val * 1024 + q.val
      omega
    · exact absurd hd (by show ¬ d + 2 < 2; omega)
  rw [el, blk_kept m c t p _ ⟨(15 - t.val) * 512 + p.val, by omega⟩ rfl, host_kept]
  refine Eq.trans (congrArg₂ (fun a i => kept m c a i) (Fin.ext ?_) ?_) (hf _ _ _)
  · show (j.val * 1024 + q.val) / 1024 = j.val
    omega
  · refine congr (congrArg₂ ix3 (Fin.ext ?_) (Fin.ext rfl)) (Fin.ext ?_)
    · show ((15 - t.val) * 512 + p.val) / 2048 = ((15 - t.val) * 512 + p.val) / 2048 % 4
      omega
    · show (j.val * 1024 + q.val) % 1024 = q.val
      omega

theorem dm_blk (dm : Tok) (e : Args m c x0 x1 x2 x3 x4 x5 x6 x7 x8 x9)
    (hd : ∀ b s q, val_main_v109 (F := Ideal) x8 x9 (ix3 b s q) = ((dm b s q : ℝ) : EReal)) (t : Fin cfg0.N) : Blk dm ((15 - t.val) * 512) (dmB m c t) := by
  intro p q
  have ht : t.val < 16 := t.isLt
  refine Eq.trans ?_ (hd _ _ _)
  unfold dmB
  pointwise [k0_pay29, val_main_v109]
  refine Finset.sum_congr rfl fun x _ => ?_
  rw [blk_dx m c t p x ⟨(15 - t.val) * 512 + p.val, by omega⟩ rfl, blk_wout, host_dx, host_wout, e.e8, e.e9]
  refine congrArg₂ (· * ·) (congrArg x9 (congrArg₂ (fun a b => ix3 a b x) (Fin.ext ?_) (Fin.ext rfl))) rfl
  show ((15 - t.val) * 512 + p.val) / 2048 = ((15 - t.val) * 512 + p.val) / 2048 % 4
  omega

section
variable {k : Saved} {dm : Tok} {cw : Fin 3 → Fin 1024 → ℝ} {lng : Fin 1024 → ℝ} {ws : Fin 8 → Fin 128 → Fin 128 → ℝ}
    (e : Args m c x0 x1 x2 x3 x4 x5 x6 x7 x8 x9) (h : Cert.Reference2Ideal.Point.RefAt x0 x1 x2 x3 x4 x5 x6 x7 x8 x9 k dm cw lng ws) (t : Fin cfg0.N)
include e h

theorem blk_b : Blk k.B ((15 - t.val) * 512) (ldB m c t) :=
  kept_blk m c k.B 0 (fun b s q => (congrFun (kept_b e) (ix3 b s q)).trans (h.b b s q)) t 0 inb_S512x10240_S512x1024_0_0 rfl
theorem blk_cc : Blk k.C ((15 - t.val) * 512) (ldC m c t) :=
  kept_blk m c k.C 1 (fun b s q => (congrFun (kept_c e) (ix3 b s q)).trans (h.cc b s q)) t 1024 inb_S512x10240_S512x1024_0_1024 rfl
theorem blk_xi : Blk k.XI ((15 - t.val) * 512) (ldXI m c t) :=
  kept_blk m c k.XI 2 (fun b s q => (congrFun (kept_xi e) (ix3 b s q)).trans (h.xi b s q)) t 2048 inb_S512x10240_S512x1024_0_2048 rfl
theorem blk_u : Blk k.U ((15 - t.val) * 512) (ldU m c t) :=
  kept_blk m c k.U 3 (fun b s q => (congrFun (kept_u e) (ix3 b s q)).trans (h.u b s q)) t 3072 inb_S512x10240_S512x1024_0_3072 rfl
theorem blk_v : Blk k.V ((15 - t.val) * 512) (ldV m c t) :=
  kept_blk m c k.V 4 (fun b s q => (congrFun (kept_v e) (ix3 b s q)).trans (h.v b s q)) t 4096 inb_S512x10240_S512x1024_0_4096 rfl
theorem blk_cv : Blk k.CV ((15 - t.val) * 512) (ldCV m c t) :=
  kept_blk m c k.CV 5 (fun b s q => (congrFun (kept_cv e) (ix3 b s q)).trans (h.cv b s q)) t 5120 inb_S512x10240_S512x1024_0_5120 rfl
theorem blk_mx : Blk k.MX ((15 - t.val) * 512) (ldMX m c t) :=
  kept_blk m c k.MX 6 (fun b s q => (congrFun (kept_mx e) (ix3 b s q)).trans (h.mx b s q)) t 6144 inb_S512x10240_S512x1024_0_6144 rfl
theorem blk_vn : Blk k.VN ((15 - t.val) * 512) (ldVN m c t) :=
  kept_blk m c k.VN 7 (fun b s q => (congrFun (kept_vn e) (ix3 b s q)).trans (h.vn b s q)) t 7168 inb_S512x10240_S512x1024_0_7168 rfl
theorem blk_sa : Blk k.SA ((15 - t.val) * 512) (ldSA m c t) :=
  kept_blk m c k.SA 8 (fun b s q => (congrFun (kept_sa e) (ix3 b s q)).trans (h.sa b s q)) t 8192 inb_S512x10240_S512x1024_0_8192 rfl
theorem blk_sb : Blk k.SB ((15 - t.val) * 512) (ldSB m c t) :=
  kept_blk m c k.SB 9 (fun b s q => (congrFun (kept_sb e) (ix3 b s q)).trans (h.sb b s q)) t 9216 inb_S512x10240_S512x1024_0_9216 rfl

/-- EVERY GRID POINT READS THE FORWARD'S VALUES. -/
theorem at_point : At m c k dm cw lng ws ((15 - t.val) * 512) t where
  b := blk_b m c e h t
  cc := blk_cc m c e h t
  xi := blk_xi m c e h t
  u := blk_u m c e h t
  v := blk_v m c e h t
  cv := blk_cv m c e h t
  mx := blk_mx m c e h t
  vn := blk_vn m c e h t
  sa := blk_sa m c e h t
  sb := blk_sb m c e h t
  dm := dm_blk m c dm e h.dm t
  cw j q := by rw [blk_cw, host_cw, e.e3, h.cw]
  lng q := by rw [blk_lng, host_lng, e.e4, h.lng]
  ws g s j := by rw [blk_wst, host_ws, e.e6, h.ws]
  row := rfl
end

end Cert.Kernel2Ideal.Point
end
-- ==== Proof.MixValue.lean ====
/-
  THE MIXER'S BACKWARD KERNEL, ITS FIVE RESULTS AS WHOLE ARRAYS. The grid walks the sixteen row blocks from the last to the
  first. Four results stay in one block and grow by a term per point; the fifth is written block by block. Summed over the
  blocks they are the reference's results.
-/
module

public import proofs.«01_k».proof.Proof.MixHost

@[expose] public section

set_option maxRecDepth 16384

noncomputable section

open Idealize.ShloMosaic Idealize.ShloMosaic.TcCoe Idealize.SL.Sem
open Idealize.ShloMosaic.Pipeline (Dat)

namespace Cert.Mix
open Cert.Reals

/-! ## Sums over blocks of rows -/

theorem sum_blocks (K : ℕ) (F : ℕ → ℝ) (n : ℕ) : ∑ i ∈ Finset.range n, ∑ p : Fin K, F (i * K + p.val) = ∑ r ∈ Finset.range (n * K), F r := by
  induction n with
  | zero => simp
  | succ n ih => rw [Finset.sum_range_succ, ih, Nat.succ_mul, Finset.sum_range_add, ← Fin.sum_univ_eq_sum_range (fun p => F (n * K + p)) K]

/-- The blocks from the last to the first. -/
theorem sum_back (K N : ℕ) (F : ℕ → ℝ) : ∑ i ∈ Finset.range (N + 1), ∑ p : Fin K, F ((N - i) * K + p.val) = ∑ r ∈ Finset.range ((N + 1) * K), F r := by
  rw [← sum_blocks]
  exact Finset.sum_range_reflect (fun i => ∑ p : Fin K, F (i * K + p.val)) (N + 1)

theorem sum_rows (f : Fin 4 → Fin 2048 → ℝ) : ∑ r ∈ Finset.range 8192, f (bb r) (ss r) = ∑ b, ∑ s, f b s := by
  rw [Finset.sum_range]
  refine Fin.sum_divmod_congr (S := 2048) fun r ha hs => ?_
  have eb : bb r.val = ⟨r.val / 2048, ha⟩ := Fin.ext (Nat.mod_eq_of_lt ha)
  rw [eb]
  rfl

theorem sum_rows_back (K N : ℕ) (hK : (N + 1) * K = 8192) (f : Fin 4 → Fin 2048 → ℝ) :
    ∑ i ∈ Finset.range (N + 1), ∑ p : Fin K, f (bb ((N - i) * K + p.val)) (ss ((N - i) * K + p.val)) = ∑ b, ∑ s, f b s :=
  (sum_back K N fun r => f (bb r) (ss r)).trans (hK ▸ sum_rows f)

/-- Chunk by chunk: two places of the same chunk. -/
theorem sum_chunks_back (C N : ℕ) (hC : (N + 1) * C = 64) (f : Fin 4 → Fin 2048 → Fin 4 → Fin 2048 → ℝ) (a b : Fin 128) :
    ∑ i ∈ Finset.range (N + 1), ∑ n : Fin C, f (bb ((N - i) * (C * 128) + (n.val * 128 + a.val))) (ss ((N - i) * (C * 128) + (n.val * 128 + a.val)))
        (bb ((N - i) * (C * 128) + (n.val * 128 + b.val))) (ss ((N - i) * (C * 128) + (n.val * 128 + b.val)))
      = ∑ x : Fin 4, ∑ n : Fin 16, f x (at_ n a) x (at_ n b) := by
  have e : ∀ i (n : Fin C) (c : Fin 128), (N - i) * (C * 128) + (n.val * 128 + c.val) = ((N - i) * C + n.val) * 128 + c.val := fun i n c => by ring
  simp only [e]
  refine (sum_back C N fun u => f (bb (u * 128 + a.val)) (ss (u * 128 + a.val)) (bb (u * 128 + b.val)) (ss (u * 128 + b.val))).trans ?_
  rw [hC, Finset.sum_range]
  refine Fin.sum_divmod_congr (S := 16) fun u ha hs => ?_
  have eb : ∀ c : Fin 128, bb (u.val * 128 + c.val) = ⟨u.val / 16, ha⟩ := fun c => Fin.ext (by show (u.val * 128 + c.val) / 2048 % 4 = u.val / 16; omega)
  have es : ∀ c : Fin 128, ss (u.val * 128 + c.val) = at_ ⟨u.val % 16, hs⟩ c := fun c => Fin.ext (by show (u.val * 128 + c.val) % 2048 = u.val % 16 * 128 + c.val; omega)
  rw [eb, eb, es, es]

end Cert.Mix

namespace Cert.Kernel2Ideal.Point

open Cert.Kernel2Ideal Cert.Kernel2Ideal.Gen Cert.Reals Cert.Mix
open At (dcwAdd dlnAdd)
open Cert.Reference2Ideal.Read (val_main_v221 val_main_v222 val_main_v226 val_main_v127 val_main_v229)

variable {m : (ℓ : Loc nD τ sig) → Buf (Elt Ideal) ℓ} {c : Dev nD}

/-- A cell that starts from a term and grows by a term per point. -/
theorem grow (f : ∀ n, n < cfg0.N → EReal) (g : ℕ → ℝ) (h0 : ∀ hn, f 0 hn = ((g 0 : ℝ) : EReal))
    (h1 : ∀ n (hn : n + 1 < cfg0.N), f (n + 1) hn = f n (by omega) + ((g (n + 1) : ℝ) : EReal)) (n : ℕ) (hn : n < cfg0.N) :
    f n hn = ((∑ i ∈ Finset.range (n + 1), g i : ℝ) : EReal) := by
  induction n with
  | zero => rw [h0]; simp
  | succ n ih => rw [h1, ih, ← EReal.coe_add, Finset.sum_range_succ _ (n + 1)]

variable {k : Saved} {dm : Tok} {cw : Fin 3 → Fin 1024 → ℝ} {lng : Fin 1024 → ℝ} {ws : Fin 8 → Fin 128 → Fin 128 → ℝ}
  (hA : ∀ t : Fin cfg0.N, At m c k dm cw lng ws ((15 - t.val) * 512) t)

include hA

theorem carried (n : ℕ) (hn : n + 1 < cfg0.N) (r : Fin 8) (q : Fin 1024) :
    ((outsAt0 m c n (by omega)).2.2.2.2.2.1 : FVec Ideal S8x1024 .f32) (ix2 r q)
      = ((k.dcv dm (bb ((15 - (n + 1)) * 512 + 512 + r.val)) (ss ((15 - (n + 1)) * 512 + 512 + r.val)) q : ℝ) : EReal) := by
  have hN : n + 1 < 16 := hn
  rw [show (15 - (n + 1)) * 512 + 512 = (15 - n) * 512 by omega]
  exact (hA ⟨n, by omega⟩).carry_out r q

theorem dp_at (t : Fin cfg0.N) (y : S512x7168.Idx) : ((outsAt0 m c t.val t.isLt).1 : FVec Ideal S512x7168 .bf16) y
    = ((side (parts k dm cw lng ws) (bb ((15 - t.val) * 512 + (y 0).val)) (ss ((15 - t.val) * 512 + (y 0).val)) (y 1) : ℝ) : EReal) := by
  have hN : t.val < 16 := t.isLt
  by_cases h0 : t.val % 16 = 0
  · exact (hA t).dp_first h0 y
  · obtain ⟨n, hn⟩ := t
    obtain ⟨n, rfl⟩ : ∃ x, n = x + 1 := ⟨n - 1, by have : n % 16 ≠ 0 := h0; omega⟩
    exact (hA _).dp_next h0 (fun _ r q => carried hA n hn r q) y

theorem dcw_at (r : Fin 8) (q : Fin 1024) (n : ℕ) (hn : n < cfg0.N) : ((outsAt0 m c n hn).2.1 : FVec Ideal S8x1024 .f32) (ix2 r q)
    = ((∑ i ∈ Finset.range (n + 1), dcwAdd 512 k dm ((15 - i) * 512) r q : ℝ) : EReal) := by
  refine grow (fun n hn => ((outsAt0 m c n hn).2.1 : FVec Ideal S8x1024 .f32) (ix2 r q)) (fun i => dcwAdd 512 k dm ((15 - i) * 512) r q) (fun hn => ?_) (fun n hn => ?_) n hn
  · refine ((hA ⟨0, hn⟩).dcw_first rfl r q).trans ?_
    have e : (k0_pay9 (F := Ideal) : FVec Ideal S8x1024 .f32) (ix2 r q) = 0 := by pointwise [k0_pay9]
    rw [e, zero_add]
  · have hN : n + 1 < 16 := hn
    exact (hA ⟨n + 1, hn⟩).dcw_next (by show ¬ (n + 1) % 16 = 0; omega) (fun _ r q => carried hA n hn r q) r q

theorem dln_at (r : Fin 8) (q : Fin 1024) (n : ℕ) (hn : n < cfg0.N) : ((outsAt0 m c n hn).2.2.1 : FVec Ideal S8x1024 .f32) (ix2 r q)
    = ((∑ i ∈ Finset.range (n + 1), dlnAdd 512 k dm ws ((15 - i) * 512) r q : ℝ) : EReal) := by
  refine grow (fun n hn => ((outsAt0 m c n hn).2.2.1 : FVec Ideal S8x1024 .f32) (ix2 r q)) (fun i => dlnAdd 512 k dm ws ((15 - i) * 512) r q) (fun hn => ?_) (fun n hn => ?_) n hn
  · refine ((hA ⟨0, hn⟩).dln_first rfl r q).trans ?_
    have e : (k0_pay10 (F := Ideal) : FVec Ideal S8x1024 .f32) (ix2 r q) = 0 := by pointwise [k0_pay10]
    rw [e, zero_add]
  · have hN : n + 1 < 16 := hn
    exact (hA ⟨n + 1, hn⟩).dln_next (by show ¬ (n + 1) % 16 = 0; omega) r q

theorem vn_blk (t : Fin cfg0.N) : Blk k.VN ((15 - t.val) * 512) (k0_pay25 (ldVN m c t) : FVec Ideal S512x1024 .bf16) := by
  intro p q
  refine Eq.trans ?_ ((hA t).vn p q)
  pointwise [k0_pay25]

theorem dmx_blk (t : Fin cfg0.N) : Blk (k.dmx dm) ((15 - t.val) * 512) (dmxB m c t) :=
  blk_dmx (hA t).sb (hA t).u (hA t).dm

theorem dws_at (g : Fin 8) (a b : Fin 128) (n : ℕ) (hn : n < cfg0.N) : ((outsAt0 m c n hn).2.2.2.1 : FVec Ideal S8x128x128 .f32) (ix3 g a b)
    = ((∑ i ∈ Finset.range (n + 1), dwsAdd 4 k dm ((15 - i) * 512) g a b : ℝ) : EReal) := by
  refine grow (fun n hn => ((outsAt0 m c n hn).2.2.2.1 : FVec Ideal S8x128x128 .f32) (ix3 g a b)) (fun i => dwsAdd 4 k dm ((15 - i) * 512) g a b) (fun hn => ?_) (fun n hn => ?_) n hn
  · refine (dws_first m c ⟨0, hn⟩ rfl _).trans ((mixAcc_at k dm _ _ _ _ (vn_blk hA _) (dmx_blk hA _) g a b).trans ?_)
    have e : (k0_pay11 (F := Ideal) : FVec Ideal S8x128x128 .f32) (ix3 g a b) = 0 := by pointwise [k0_pay11]
    rw [e, zero_add]
  · have hN : n + 1 < 16 := hn
    exact (dws_next m c ⟨n + 1, hn⟩ (by show ¬ (n + 1) % 16 = 0; omega) _).trans (mixAcc_at k dm _ _ _ _ (vn_blk hA _) (dmx_blk hA _) g a b)

theorem acc_at (a : Fin 128) (q : Fin 1024) (n : ℕ) (hn : n < cfg0.N) : ((outsAt0 m c n hn).2.2.2.2.2.2 : FVec Ideal S128x1024 .f32) (ix2 a q)
    = ((∑ i ∈ Finset.range (n + 1), dbsAdd 4 k dm ((15 - i) * 512) a q : ℝ) : EReal) := by
  refine grow (fun n hn => ((outsAt0 m c n hn).2.2.2.2.2.2 : FVec Ideal S128x1024 .f32) (ix2 a q)) (fun i => dbsAdd 4 k dm ((15 - i) * 512) a q) (fun hn => ?_) (fun n hn => ?_) n hn
  · refine ((hA ⟨0, hn⟩).acc_first rfl a q).trans ?_
    have e : (k0_pay12 (F := Ideal) : FVec Ideal S128x1024 .f32) (ix2 a q) = 0 := by pointwise [k0_pay12]
    rw [e, zero_add]
  · have hN : n + 1 < 16 := hn
    exact (hA ⟨n + 1, hn⟩).acc_next (by show ¬ (n + 1) % 16 = 0; omega) a q

omit hA

/-! ## The sums after the last point -/

theorem dcw_total (K N : ℕ) (hK : (N + 1) * K = 8192) (r : Fin 8) (q : Fin 1024) : ∑ i ∈ Finset.range (N + 1), dcwAdd K k dm ((N - i) * K) r q
    = if r.val = 2 then k.dcw dm 0 q else if r.val = 1 then k.dcw dm 1 q else if r.val = 0 then k.dcw dm 2 q else 0 := by
  have e : ∀ f : Tok, ∑ i ∈ Finset.range (N + 1), part K f (cx k) ((N - i) * K) q = ∑ b, ∑ s, f b s q * (k.C b s q * k.XI b s q) :=
    fun f => sum_rows_back K N hK fun b s => f b s q * (k.C b s q * k.XI b s q)
  have z : up 0 (k.dcv dm) = k.dcv dm := by
    funext b s q
    exact dif_pos s.isLt
  unfold dcwAdd Saved.dcw
  by_cases h2 : r.val = 2
  · simp only [if_pos h2, z]
    exact e _
  by_cases h1 : r.val = 1
  · simp only [if_neg h2, if_pos h1]
    exact e _
  by_cases h0 : r.val = 0
  · simp only [if_neg h2, if_neg h1, if_pos h0]
    exact e _
  · simp only [if_neg h2, if_neg h1, if_neg h0, Finset.sum_const_zero]

theorem dln_total (K N : ℕ) (hK : (N + 1) * K = 8192) (r : Fin 8) (q : Fin 1024) : ∑ i ∈ Finset.range (N + 1), dlnAdd K k dm ws ((N - i) * K) r q
    = if r.val = 1 then k.dlb dm ws q else if r.val = 0 then k.dlg dm ws q else 0 := by
  unfold dlnAdd Saved.dlb Saved.dlg
  by_cases h1 : r.val = 1
  · simp only [if_pos h1]
    exact sum_rows_back K N hK fun b s => k.dvn dm ws b s q
  by_cases h0 : r.val = 0
  · simp only [if_neg h1, if_pos h0]
    exact sum_rows_back K N hK fun b s => k.dvn dm ws b s q * hat (k.V b s) q
  · simp only [if_neg h1, if_neg h0, Finset.sum_const_zero]

theorem dws_total (C N : ℕ) (hC : (N + 1) * C = 64) (g : Fin 8) (a b : Fin 128) : ∑ i ∈ Finset.range (N + 1), dwsAdd C k dm ((N - i) * (C * 128)) g a b = k.dws dm g a b := by
  unfold dwsAdd Saved.dws
  by_cases h : b.val ≤ a.val
  · simp only [if_pos h]
    exact sum_chunks_back C N hC (fun x s x' s' => ∑ c : Fin 128, k.dmx dm x s (ch g c) * k.VN x' s' (ch g c)) a b
  · simp only [if_neg h, Finset.sum_const_zero]

theorem dbs_total (C N : ℕ) (hC : (N + 1) * C = 64) (g : Fin 8) (a : Fin 128) :
    ∑ x : Fin 128, ∑ i ∈ Finset.range (N + 1), dbsAdd C k dm ((N - i) * (C * 128)) a (ch g x) = k.dbs dm g a := by
  unfold dbsAdd Saved.dbs
  have e : ∀ x : Fin 128, ∑ i ∈ Finset.range (N + 1), ∑ n : Fin C, k.dmx dm (bb ((N - i) * (C * 128) + (n.val * 128 + a.val))) (ss ((N - i) * (C * 128) + (n.val * 128 + a.val))) (ch g x)
      = ∑ b : Fin 4, ∑ n : Fin 16, k.dmx dm b (at_ n a) (ch g x) := fun x => sum_chunks_back C N hC (fun b s _ _ => k.dmx dm b s (ch g x)) a a
  simp only [e]
  rw [Finset.sum_comm]
  refine Finset.sum_congr rfl fun b _ => ?_
  rw [Finset.sum_comm]

/-! ## The five arrays -/

variable {x0 : FVec Ideal S4x2048x1024 .f32} {x1 : FVec Ideal S1024 .f32} {x2 : FVec Ideal S1024x7168 .f32} {x3 : FVec Ideal S3x1024 .f32}
  {x4 x5 : FVec Ideal S1024 .f32} {x6 : FVec Ideal S8x128x128 .f32} {x7 : FVec Ideal S8x128 .f32} {x8 : FVec Ideal S1024x1024 .f32} {x9 : FVec Ideal S4x2048x1024 .f32}
  (h : Cert.Reference2Ideal.Point.RefAt x0 x1 x2 x3 x4 x5 x6 x7 x8 x9 k dm cw lng ws)

include hA h

theorem dp_array : (dats m 0 c).arrAt 6 cfg0.N = val_main_v221 (F := Ideal) x0 x1 x2 x3 x4 x5 x6 x7 x8 x9 := by
  refine (dats m 0 c).arrAt_eq_of_covers 6 _ (by decide +kernel) fun t hf j => ?_
  blk_simp
  rw [after0_6]
  have ht : t.val < 16 := t.isLt
  obtain ⟨-, -, -, -, -, -, ⟨e0, e1⟩, -⟩ := idx t
  idx_vars j
  refine (dp_at hA t (ix2 j0 j1)).trans ?_
  refine (h.dpR (⟨(15 - t.val) * 512 + j0.val, by omega⟩ : Fin 8192) j1).symm.trans (congrArg _ ?_)
  blk_ext
  all_goals first | (rw [e0]) | (rw [e1]; omega)

theorem dcw_array : (dats m 0 c).arrAt 7 cfg0.N = val_main_v222 (F := Ideal) x0 x1 x2 x8 x9 := by
  refine (dats m 0 c).arrAt_eq_of_covers 7 _ (by decide +kernel) fun t hf j => ?_
  have hl := (flush0_7 t).mp hf
  blk_simp
  rw [after0_7]
  have ht : t.val < 16 := t.isLt
  obtain ⟨-, -, -, -, -, -, -, ⟨e0, e1⟩, -⟩ := idx t
  idx_vars j
  refine (dcw_at hA j0 j1 t.val t.isLt).trans ?_
  rw [show t.val = 15 by omega, dcw_total 512 15 rfl]
  refine (h.dcwR j1 j0).symm.trans (congrArg _ ?_)
  blk_ext
  all_goals first | (rw [e0]; omega) | (rw [e1]; omega)

theorem dln_array : (dats m 0 c).arrAt 8 cfg0.N = val_main_v226 (F := Ideal) x0 x1 x2 x6 x8 x9 := by
  refine (dats m 0 c).arrAt_eq_of_covers 8 _ (by decide +kernel) fun t hf j => ?_
  have hl := (flush0_8 t).mp hf
  blk_simp
  rw [after0_8]
  have ht : t.val < 16 := t.isLt
  obtain ⟨-, -, -, -, -, -, -, -, ⟨e0, e1⟩, -⟩ := idx t
  idx_vars j
  refine (dln_at hA j0 j1 t.val t.isLt).trans ?_
  rw [show t.val = 15 by omega, dln_total 512 15 rfl]
  refine (h.dlnR j1 j0).symm.trans (congrArg _ ?_)
  blk_ext
  all_goals first | (rw [e0]; omega) | (rw [e1]; omega)

theorem dws_array : (dats m 0 c).arrAt 9 cfg0.N = val_main_v127 (F := Ideal) x0 x1 x2 x4 x5 x8 x9 := by
  refine (dats m 0 c).arrAt_eq_of_covers 9 _ (by decide +kernel) fun t hf j => ?_
  have hl := (flush0_9 t).mp hf
  blk_simp
  rw [after0_9]
  have ht : t.val < 16 := t.isLt
  obtain ⟨-, -, -, -, -, -, -, -, -, ⟨e0, e1, e2⟩, -⟩ := idx t
  idx_vars j
  refine (dws_at hA j0 j1 j2 t.val t.isLt).trans ?_
  rw [show t.val = 15 by omega]
  refine (congrArg (fun x : ℝ => (x : EReal)) (dws_total 4 15 rfl j0 j1 j2)).trans ?_
  refine (h.dws j0 j1 j2).symm.trans (congrArg _ ?_)
  blk_ext
  all_goals first | (rw [e0]; omega) | (rw [e1]; omega) | (rw [e2]; omega)

theorem dbs_array : (dats m 0 c).arrAt 10 cfg0.N = val_main_v229 (F := Ideal) x0 x1 x2 x8 x9 := by
  refine (dats m 0 c).arrAt_eq_of_covers 10 _ (by decide +kernel) fun t hf j => ?_
  have hl := (flush0_10 t).mp hf
  blk_simp
  rw [after0_10]
  have ht : t.val < 16 := t.isLt
  obtain ⟨-, -, -, -, -, -, -, -, -, -, e0, e1⟩ := idx t
  idx_vars j
  refine (dbs_last m c t hl (ix2 j0 j1)).trans ?_
  refine Eq.trans ?_ ((h.dbs j1 j0).symm.trans (congrArg _ ?_))
  · rw [← dbs_total 4 15 rfl, coe_sum]
    refine Finset.sum_congr rfl fun x _ => ?_
    have e := acc_at hA j0 (ch (grp j1) x) t.val t.isLt
    refine e.trans ?_
    rw [show t.val = 15 by omega]
  blk_ext
  all_goals first | (rw [e0]; omega) | (rw [e1]; omega)

end Cert.Kernel2Ideal.Point

end
-- ==== Proof.MixReal.lean ====
/-
  THE MIXER'S FORWARD IS REAL AT REAL ARGUMENTS. Each value the forward lines hold is a real number when the arguments are, so
  the forward's values are a `Saved`, and the reference can be read from it.
-/
module

public import proofs.«01_k».proof.Proof.MixRef

@[expose] public section

set_option maxRecDepth 16384

noncomputable section

open Idealize.ShloMosaic

namespace Cert.Reference2Ideal.Point
open Cert.Reference2Ideal Cert.Reference2Ideal.Gen Cert.Reference2Ideal.Read Cert.Reals Cert.Mix

/-- The reals of an array of rows. -/
def tok (A : FVec Ideal S4x2048x1024 .f32) : Tok := fun b s q => EReal.toReal (A (ix3 b s q))

theorem tok_eq {A : FVec Ideal S4x2048x1024 .f32} (h : ∀ b s q, IsR (A (ix3 b s q))) (b : Fin 4) (s : Fin 2048) (q : Fin 1024) :
    A (ix3 b s q) = ((tok A b s q : ℝ) : EReal) := by
  obtain ⟨r, e⟩ := h b s q
  unfold tok
  rw [e, EReal.toReal_coe]

variable (x0 : FVec Ideal S4x2048x1024 .f32) (x1 : FVec Ideal S1024 .f32) (x2 : FVec Ideal S1024x7168 .f32) (x3 : FVec Ideal S3x1024 .f32)
  (x4 x5 : FVec Ideal S1024 .f32) (x6 : FVec Ideal S8x128x128 .f32) (x7 : FVec Ideal S8x128 .f32) (x8 : FVec Ideal S1024x1024 .f32) (x9 : FVec Ideal S4x2048x1024 .f32)

/-- The forward's values. -/
def saved : Saved where
  B := tok (val_main_v17 (F := Ideal) x0 x1 x2)
  C := tok (val_main_v18 (F := Ideal) x0 x1 x2)
  XI := tok (val_main_v19 (F := Ideal) x0 x1 x2)
  U := tok (val_main_v20 (F := Ideal) x0 x1 x2)
  V := tok (val_main_v21 (F := Ideal) x0 x1 x2)
  CV := tok (val_main_v47 (F := Ideal) x0 x1 x2 x3)
  MX := tok (val_main_v85 (F := Ideal) x0 x1 x2 x4 x5 x6 x7)
  VN := tok (val_main_v73 (F := Ideal) x0 x1 x2 x4 x5)
  SA := tok (val_main_v92 (F := Ideal) x0 x1 x2)
  SB := tok (val_main_v102 (F := Ideal) x0 x1 x2)

variable {x0 x1 x2 x3 x4 x5 x6 x7 x8 x9}
variable (h0 : ∀ i, IsR (x0 i)) (h1 : ∀ i, IsR (x1 i)) (h2 : ∀ i, IsR (x2 i)) (h3 : ∀ i, IsR (x3 i)) (h4 : ∀ i, IsR (x4 i)) (h5 : ∀ i, IsR (x5 i))
  (h6 : ∀ i, IsR (x6 i)) (h7 : ∀ i, IsR (x7 i)) (h8 : ∀ i, IsR (x8 i)) (h9 : ∀ i, IsR (x9 i))

include h0 in
theorem real_rms (b : Fin 4) (s : Fin 2048) : IsR (val_main_v7 (F := Ideal) x0 (ix3 b s (0 : Fin 1))) := by
  obtain ⟨r, rfl⟩ := finite_of_isR h0
  have e : val_main_v6 (F := Ideal) (fun i => ((r i : ℝ) : EReal)) (ix3 b s (0 : Fin 1)) = ((ms (fun q : Fin 1024 => r (ix3 b s q)) : ℝ) : EReal) := by
    pointwise [val_main_v6, val_main_v5, val_main_v4, val_main_v3, val_main_v2, val_main_v1, val_main_v0, val_main_cst, val_main_cst_0, val_main_cst_1]
    rw [ofBits_1024, ofBits_eps]
    simp only [← EReal.coe_mul, ← coe_sum]
    rw [div_coe _ _ (by norm_num), ← EReal.coe_add]
    rfl
  pointwise [val_main_v7]
  rw [e, rsqrt_coe _ (ms_pos _)]
  exact IsR.coe _

include h0 h1 h2 in
/-- The projection. -/
theorem real_proj (b : Fin 4) (s : Fin 2048) (l : Fin 7168) : IsR (val_main_v16 (F := Ideal) x0 x1 x2 (ix3 b s l)) := by
  pointwise [val_main_v16, val_main_v15, val_main_v14, val_main_v13, val_main_v12, val_main_v11]
  exact IsR.sum _ fun q => ((h0 _).mul (real_rms h0 b s)).mul (h1 _) |>.mul (h2 _)

include h0 h1 h2
variable (b : Fin 4) (s : Fin 2048) (q : Fin 1024)

theorem real_b : IsR (val_main_v17 (F := Ideal) x0 x1 x2 (ix3 b s q)) := by
  pointwise [val_main_v17]
  exact real_proj h0 h1 h2 _ _ _

theorem real_c : IsR (val_main_v18 (F := Ideal) x0 x1 x2 (ix3 b s q)) := by
  pointwise [val_main_v18]
  exact real_proj h0 h1 h2 _ _ _

theorem real_xi : IsR (val_main_v19 (F := Ideal) x0 x1 x2 (ix3 b s q)) := by
  pointwise [val_main_v19]
  exact real_proj h0 h1 h2 _ _ _

theorem real_u : IsR (val_main_v20 (F := Ideal) x0 x1 x2 (ix3 b s q)) := by
  pointwise [val_main_v20]
  exact real_proj h0 h1 h2 _ _ _

theorem real_v : IsR (val_main_v21 (F := Ideal) x0 x1 x2 (ix3 b s q)) := by
  pointwise [val_main_v21]
  exact real_proj h0 h1 h2 _ _ _

theorem real_sa : IsR (val_main_v92 (F := Ideal) x0 x1 x2 (ix3 b s q)) := by
  pointwise [val_main_v92, val_main_v91, val_main_v90, val_main_v89, val_main_v88, val_main_v87, val_main_v22, val_main_cst_12, val_main_cst_13]
  exact IsR.sigmoid (real_proj h0 h1 h2 _ _ _)

theorem real_sb : IsR (val_main_v102 (F := Ideal) x0 x1 x2 (ix3 b s q)) := by
  pointwise [val_main_v102, val_main_v101, val_main_v100, val_main_v99, val_main_v98, val_main_v97, val_main_v23, val_main_cst_15, val_main_cst_16]
  exact IsR.sigmoid (real_proj h0 h1 h2 _ _ _)

theorem real_rows (s : Fin 2050) : IsR (val_main_v26 (F := Ideal) x0 x1 x2 (ix3 b s q)) := by
  pointwise [val_main_v26, val_main_v25, val_main_v24, val_main_cst_3]
  exact IsR.dite (fun _ => IsR.zero) fun _ => (real_c h0 h1 h2 _ _ _).mul (real_xi h0 h1 h2 _ _ _)

include h3 in
theorem real_cv : IsR (val_main_v47 (F := Ideal) x0 x1 x2 x3 (ix3 b s q)) := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28]
  exact (((real_rows h0 h1 h2 _ _ _).mul (h3 _)).add ((real_rows h0 h1 h2 _ _ _).mul (h3 _))).add ((real_rows h0 h1 h2 _ _ _).mul (h3 _))

include h4 h5 in
theorem real_vn : IsR (val_main_v73 (F := Ideal) x0 x1 x2 x4 x5 (ix3 b s q)) := by
  pointwise [val_main_v73, val_main_v72, val_main_v71, val_main_v70, val_main_v69, val_main_v68]
  rw [hat_read x0 x1 x2 (tok_eq (real_v h0 h1 h2))]
  exact ((IsR.coe _).mul (h4 _)).add (h5 _)

include h4 h5 in
theorem real_group (n : Fin 16) (t : Fin 128) (g : Fin 8) (e : Fin 128) : IsR (val_main_v74 (F := Ideal) x0 x1 x2 x4 x5 (ix5 b n t g e)) := by
  rw [RefAt.vn_group]
  exact real_vn h0 h1 h2 h4 h5 _ _ _

omit h0 h1 h2 in
include h6 in
theorem real_masked (g : Fin 8) (t e : Fin 128) : IsR (val_main_v78_0 (F := Ideal) x6 (ix3 g t e)) := by
  pointwise [val_main_v78_0, val_main_call1_v1, val_main_cst_11]
  rw [RefAt.mask]
  by_cases het : e.val ≤ t.val
  · rw [if_pos het]; exact h6 _
  · rw [if_neg het]; exact IsR.zero

include h4 h5 h6 h7 in
theorem real_mx : IsR (val_main_v85 (F := Ideal) x0 x1 x2 x4 x5 x6 x7 (ix3 b s q)) := by
  pointwise [val_main_v85, val_main_v84, val_main_v83, val_main_v82, val_main_v81, val_main_v80, val_main_v79]
  refine (IsR.sum _ fun x => (real_group h0 h1 h2 h4 h5 _ _ _ _ _).mul (real_masked h6 _ _ _)).add (h7 _)

omit h0 h1 h2

include h8 h9 in
theorem real_dm : IsR (val_main_v109 (F := Ideal) x8 x9 (ix3 b s q)) := by
  pointwise [val_main_v109]
  exact IsR.sum _ fun q => (h9 _).mul (h8 _)

include h0 h1 h2 h3 h4 h5 h6 h7 h8 h9 in
/-- THE FORWARD'S VALUES AND THE COTANGENT AS REALS. -/
theorem refAt : RefAt x0 x1 x2 x3 x4 x5 x6 x7 x8 x9 (saved x0 x1 x2 x3 x4 x5 x6 x7) (tok (val_main_v109 (F := Ideal) x8 x9))
    (fun j q => EReal.toReal (x3 (ix2 j q))) (fun q => EReal.toReal (x4 (ix1 q))) (fun g a b => EReal.toReal (x6 (ix3 g a b))) where
  b := tok_eq (real_b h0 h1 h2)
  cc := tok_eq (real_c h0 h1 h2)
  xi := tok_eq (real_xi h0 h1 h2)
  u := tok_eq (real_u h0 h1 h2)
  v := tok_eq (real_v h0 h1 h2)
  cv := tok_eq (real_cv h0 h1 h2 h3)
  mx := tok_eq (real_mx h0 h1 h2 h4 h5 h6 h7)
  vn := tok_eq (real_vn h0 h1 h2 h4 h5)
  sa := tok_eq (real_sa h0 h1 h2)
  sb := tok_eq (real_sb h0 h1 h2)
  dm := tok_eq (real_dm h8 h9)
  cw j q := by obtain ⟨r, e⟩ := h3 (ix2 j q); rw [e, EReal.toReal_coe]
  lng q := by obtain ⟨r, e⟩ := h4 (ix1 q); rw [e, EReal.toReal_coe]
  ws g a b := by obtain ⟨r, e⟩ := h6 (ix3 g a b); rw [e, EReal.toReal_coe]

end Cert.Reference2Ideal.Point

end
-- ==== Proof.Pair2.lean ====
/-
  THE SECOND PAIR: the mixer's backward call (both branches: the gated causal convolution and the gated masked mixing after a
  layer norm) against `jax.vjp` of the forward lines. The precondition makes the ten arguments real; `MixHost` and `MixValue`
  read the kernel, `MixRef` the reference, and `MixReal` gives the forward's values over the reals.
-/
module

public import proofs.«01_k».proof.Defs
public import proofs.«01_k».proof.Proof.Gen.Pre_finite2
public import proofs.«01_k».proof.Proof.MixValue
public import proofs.«01_k».proof.Proof.MixReal
public import proofs.«01_k».proof.Proof.Finite
public import Idealize.ShloMosaic.Lib.Claim

@[expose] public section

set_option maxRecDepth 16384

noncomputable section

open Idealize.ShloMosaic Idealize.ShloMosaic.TcCoe Idealize.SL.Sem

namespace Cert.Pair2

open Cert.Reals Cert.Mix Cert.Kernel2Ideal

/-- The precondition: the ten arguments are real. -/
theorem inputs {x0 : FVec Ideal S4x2048x1024 .f32} {x1 : FVec Ideal S1024 .f32} {x2 : FVec Ideal S1024x7168 .f32} {x3 : FVec Ideal S3x1024 .f32}
    {x4 x5 : FVec Ideal S1024 .f32} {x6 : FVec Ideal S8x128x128 .f32} {x7 : FVec Ideal S8x128 .f32} {x8 : FVec Ideal S1024x1024 .f32} {x9 : FVec Ideal S4x2048x1024 .f32}
    (h : Cert.Pre_finite2.fn (F := Ideal) x0 x1 x2 x3 x4 x5 x6 x7 x8 x9 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧ (∀ i, IsR (x6 i)) ∧ (∀ i, IsR (x7 i)) ∧ (∀ i, IsR (x8 i)) ∧ ∀ i, IsR (x9 i) := by
  have h0 := congrFun h ix0
  unfold Cert.Pre_finite2.fn Cert.Pre_finite2.fn_part1 Cert.Pre_finite2.fn_part2 at h0
  obtain ⟨h8, e9⟩ := IntOp.andi_eq_one.1 h0
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨isR_of_finite (finite_of_all x0 _ _ _ _ e0), isR_of_finite (finite_of_all x1 _ _ _ _ e1), isR_of_finite (finite_of_all x2 _ _ _ _ e2), isR_of_finite (finite_of_all x3 _ _ _ _ e3), isR_of_finite (finite_of_all x4 _ _ _ _ e4), isR_of_finite (finite_of_all x5 _ _ _ _ e5), isR_of_finite (finite_of_all x6 _ _ _ _ e6), isR_of_finite (finite_of_all x7 _ _ _ _ e7), isR_of_finite (finite_of_all x8 _ _ _ _ e8), isR_of_finite (finite_of_all x9 _ _ _ _ e9)⟩

/-- So the forward's values are. -/
theorem reals {x0 : FVec Ideal S4x2048x1024 .f32} {x1 : FVec Ideal S1024 .f32} {x2 : FVec Ideal S1024x7168 .f32} {x3 : FVec Ideal S3x1024 .f32}
    {x4 x5 : FVec Ideal S1024 .f32} {x6 : FVec Ideal S8x128x128 .f32} {x7 : FVec Ideal S8x128 .f32} {x8 : FVec Ideal S1024x1024 .f32} {x9 : FVec Ideal S4x2048x1024 .f32}
    (h : Cert.Pre_finite2.fn (F := Ideal) x0 x1 x2 x3 x4 x5 x6 x7 x8 x9 = fun _ => 1#1) :
    ∃ k dm cw lng ws, Cert.Reference2Ideal.Point.RefAt x0 x1 x2 x3 x4 x5 x6 x7 x8 x9 k dm cw lng ws := by
  obtain ⟨r0, r1, r2, r3, r4, r5, r6, r7, r8, r9⟩ := inputs h
  exact ⟨_, _, _, _, _, Cert.Reference2Ideal.Point.refAt r0 r1 r2 r3 r4 r5 r6 r7 r8 r9⟩

/-- The reference's run leaves the ten arguments as they were; it declares no semaphore, so every counter stays zero. -/
theorem frame_reference : Cert.quiescent_Reference2Ideal := fun m ρ _ =>
  (θ_run Cert.Reference2Ideal.defs _ _).mono
    (fun r h => ⟨fun c => (h c).2.2.2.2.2, sem_eq_zero_of_no_sems (by decide) r.2⟩) (Cert.Reference2Ideal.Value.run m ρ)

theorem points (m : (ℓ : Loc nD τ sig) → Buf (Elt Ideal) ℓ) (c : Dev nD) {k : Saved} {dm : Tok} {cw : Fin 3 → Fin 1024 → ℝ} {lng : Fin 1024 → ℝ} {ws : Fin 8 → Fin 128 → Fin 128 → ℝ}
    (h : Cert.Reference2Ideal.Point.RefAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) k dm cw lng ws) (t : Fin Cert.Kernel2Ideal.cfg0.N) :
    Cert.Kernel2Ideal.Point.At m c k dm cw lng ws ((15 - t.val) * 512) t :=
  Cert.Kernel2Ideal.Point.at_point m c ⟨rfl, rfl, rfl, rfl, rfl, rfl, rfl, rfl, rfl, rfl⟩ h t

/-- What an array holds at the start is what the memory holds. -/
theorem initial (m : (ℓ : Loc Cert.Reference2Ideal.nD Cert.Reference2Ideal.τ Cert.Reference2Ideal.sig) → Buf (Elt Ideal) ℓ) (c : Dev Cert.Reference2Ideal.nD) (r : Ref Cert.Reference2Ideal.sig .tc) :
    StableHlo.launchContents m c (Proc.tc.devRef r) = m ((c.tc : Thread Cert.Reference2Ideal.nD Cert.Reference2Ideal.τ).loc r) := rfl

/-- For real inputs the kernel's five results are the reference's. -/
theorem algebraic : Cert.algebraic_Kernel2Ideal_Reference2Ideal_pre_finite2 := by
  pair_intro
  · run_from Cert.Kernel2Ideal.Value.run_blocks m g
  · run_from Cert.Reference2Ideal.Value.run m' g'
    · obtain ⟨k, dm, cw, lng, ws, h⟩ := reals (hpre c)
      obtain ⟨e0, e1, e2, e3, e4, e5, e6, e7, e8, e9⟩ := hagree c
      rw [Cert.Reference2Ideal.Read.val_main_v221_eq]
      simp only [initial m' c, e0, e1, e2, e3, e4, e5, e6, e7, e8, e9]
      exact (Cert.Kernel2Ideal.Point.dp_array (points m c h) h).symm
    · obtain ⟨k, dm, cw, lng, ws, h⟩ := reals (hpre c)
      obtain ⟨e0, e1, e2, e3, e4, e5, e6, e7, e8, e9⟩ := hagree c
      rw [Cert.Reference2Ideal.Read.val_main_v222_eq]
      simp only [initial m' c, e0, e1, e2, e8, e9]
      exact (Cert.Kernel2Ideal.Point.dcw_array (points m c h) h).symm
    · obtain ⟨k, dm, cw, lng, ws, h⟩ := reals (hpre c)
      obtain ⟨e0, e1, e2, e3, e4, e5, e6, e7, e8, e9⟩ := hagree c
      rw [Cert.Reference2Ideal.Read.val_main_v226_eq]
      simp only [initial m' c, e0, e1, e2, e6, e8, e9]
      exact (Cert.Kernel2Ideal.Point.dln_array (points m c h) h).symm
    · obtain ⟨k, dm, cw, lng, ws, h⟩ := reals (hpre c)
      obtain ⟨e0, e1, e2, e3, e4, e5, e6, e7, e8, e9⟩ := hagree c
      rw [Cert.Reference2Ideal.Read.val_main_v127_eq]
      simp only [initial m' c, e0, e1, e2, e4, e5, e8, e9]
      exact (Cert.Kernel2Ideal.Point.dws_array (points m c h) h).symm
    · obtain ⟨k, dm, cw, lng, ws, h⟩ := reals (hpre c)
      obtain ⟨e0, e1, e2, e3, e4, e5, e6, e7, e8, e9⟩ := hagree c
      rw [Cert.Reference2Ideal.Read.val_main_v229_eq]
      simp only [initial m' c, e0, e1, e2, e8, e9]
      exact (Cert.Kernel2Ideal.Point.dbs_array (points m c h) h).symm

end Cert.Pair2

end
-- ==== Proof.FusePay.lean ====
/-
  THE FUSED MIXER'S BACKWARD STEP ON ONE BLOCK OF 256 ROWS, as `MixPay` for the call alone. What each quantity the kernel computes is when the blocks it is computed from
  hold, row for row, the quantities of `Cert.Mix`: `Blk f R A` says that row `p` of the block `A` holds the flat row `R + p` of `f`.
-/
module

public import proofs.«01_k».proof.Proof.Gen.Kernel3Ideal.Value
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.WritesUnit
public import proofs.«01_k».proof.Proof.MixPay

@[expose] public section

set_option maxRecDepth 16384

noncomputable section

open Idealize.ShloMosaic Idealize.ShloMosaic.TcCoe Idealize.SL.Sem

namespace Cert.Kernel3Ideal.Point

open Cert.Kernel3Ideal Cert.Kernel3Ideal.Gen Cert.Reals Cert.Mix
open Cert.Kernel2Ideal.Point (nxt part cx r8 sel_one sel_zero sge7 sge6 up_blk)

/-- Row `p` of the block holds flat row `R + p` of `f`. -/
def Blk (f : Tok) (R : ℕ) (A : S256x1024.Idx → EReal) : Prop :=
  ∀ (p : Fin 256) (q : Fin 1024), A (ix2 p q) = ((f (bb (R + p.val)) (ss (R + p.val)) q : ℝ) : EReal)

variable {k : Saved} {dm : Tok} {R : ℕ}
variable {b sa sb cv c xi u mx v vn : FVec Ideal S256x1024 .bf16} {D : FVec Ideal S256x1024 .f32}
variable (hb : Blk k.B R b) (hsa : Blk k.SA R sa) (hsb : Blk k.SB R sb) (hcv : Blk k.CV R cv) (hc : Blk k.C R c) (hxi : Blk k.XI R xi)
  (hu : Blk k.U R u) (hmx : Blk k.MX R mx) (hv : Blk k.V R v) (hvn : Blk k.VN R vn) (hD : Blk dm R D)

include hb hsa hcv hD in
theorem blk_dga : Blk (k.dga dm) R (k0_pay32 (k0_pay24 sa) D (k0_pay31 (k0_pay18 b) cv) : FVec Ideal S256x1024 .bf16) := by
  intro p q
  pointwise [k0_pay32, k0_pay24, k0_pay31, k0_pay18, k0_pay22]
  rw [hb, hsa, hcv, hD]
  rfl

include hsb hu hmx hD in
theorem blk_dgb : Blk (k.dgb dm) R (k0_pay33 (k0_pay21 u) (k0_pay23 mx) (k0_pay25 sb) D : FVec Ideal S256x1024 .bf16) := by
  intro p q
  pointwise [k0_pay33, k0_pay21, k0_pay23, k0_pay25]
  rw [hu, hmx, hsb, hD]
  rfl

include hcv hsa hD in
theorem blk_db : Blk (k.db dm) R (k0_pay36 (k0_pay22 cv) (k0_pay24 sa) D : FVec Ideal S256x1024 .bf16) := by
  intro p q
  pointwise [k0_pay36, k0_pay34, k0_pay22, k0_pay24]
  rw [hcv, hsa, hD]
  rfl

include hb hsa hD in
theorem blk_dcv : Blk (k.dcv dm) R (k0_pay37 (k0_pay18 b) (k0_pay24 sa) D : FVec Ideal S256x1024 .f32) := by
  intro p q
  pointwise [k0_pay37, k0_pay34, k0_pay18, k0_pay24]
  rw [hb, hsa, hD]
  rfl

include hsb hmx hD in
theorem blk_du : Blk (k.du dm) R (k0_pay52 (k0_pay23 mx) (k0_pay35 (k0_pay25 sb) D) : FVec Ideal S256x1024 .bf16) := by
  intro p q
  pointwise [k0_pay52, k0_pay23, k0_pay35, k0_pay25]
  rw [hsb, hmx, hD]
  rfl

include hsb hu hD in
theorem blk_dmx : Blk (k.dmx dm) R (k0_pay54 (k0_pay21 u) (k0_pay35 (k0_pay25 sb) D) : FVec Ideal S256x1024 .bf16) := by
  intro p q
  pointwise [k0_pay54, k0_pay53, k0_pay21, k0_pay35, k0_pay25]
  rw [hsb, hu, hD]
  rfl

/-- Whether the row block of point `n` ends a sequence: the kernel's test, on words. -/
def endBit (n : BitVec 32) : BitVec 1 :=
  let w : BitVec 32 := Scalar.select (Scalar.cmpi .eq 8#32 0#32) 1#32 8#32
  let r : BitVec 32 := Scalar.remsi (Scalar.subi 31#32 n) w
  Scalar.cmpi .eq (Scalar.select (Scalar.andi (Scalar.xori (Scalar.cmpi .slt r 0#32) (Scalar.cmpi .slt w 0#32)) (Scalar.cmpi .ne r 0#32)) (Scalar.addi r w) r) 7#32

theorem endBit_eq : ∀ t : Fin grid0.N, endBit (BitVec.ofNat 32 (grid0.coords t 0).val) = if t.val % 8 = 0 then 1#1 else 0#1 := by
  decide +kernel

theorem keep_at (t : Fin cfg0.N) : (k0_pay15 (F := Ideal) (grid0.coords t) : EReal) = if t.val % 8 = 0 then 0 else 1 := by
  pointwise [k0_pay15]
  show Scalar.select (endBit (BitVec.ofNat 32 (grid0.coords t 0).val)) (0 : EReal) 1 = _
  rw [endBit_eq t]
  split <;> rfl

theorem up1_at (v15 : EReal) (v93 : FVec Ideal S8x1024 .f32) (hR : R % 256 = 0) (f : Tok) (hf : Blk f R (k0_pay37 (k0_pay18 b) (k0_pay24 sa) D))
    (hn : ∀ r q, (k0_pay38 (F := Ideal) v15 v93 : FVec Ideal S8x1024 .f32) (ix2 r q) = ((nxt 256 f R r q : ℝ) : EReal)) :
    Blk (up 1 f) R (k0_pay40 (F := Ideal) v15 (k0_pay18 b) (k0_pay24 sa) D v93) := by
  intro p q
  pointwise [k0_pay40]
  by_cases h : p.val < 248
  · rw [dif_pos h, hf]
    refine congrArg (fun z : ℝ => (z : EReal)) (up_blk f (show R % 2048 + 256 = 2048 ∨ R % 2048 + 256 + 8 ≤ 2048 by omega) 1 (by omega) p q _ (fun h1 => ?_) fun h2 => by omega)
    have e : (p.val + 256 - 255) % 256 = p.val + 1 := by omega
    simp only [e]
  · rw [dif_neg h, sge7 ⟨p.val - 248, by omega⟩, hn, hf]
    by_cases h7 : 7 ≤ p.val - 248
    · rw [if_pos h7, sel_one]
      refine congrArg (fun z : ℝ => (z : EReal)) (up_blk f (show R % 2048 + 256 = 2048 ∨ R % 2048 + 256 + 8 ≤ 2048 by omega) 1 (by omega) p q _ (fun h1 => by omega) fun h2 => ?_)
      exact congrArg (fun r => nxt 256 f R r q) (Fin.ext (by show (p.val - 248 + 8 - 7) % 8 = p.val + 1 - 256; omega))
    · rw [if_neg h7, sel_zero]
      refine congrArg (fun z : ℝ => (z : EReal)) (up_blk f (show R % 2048 + 256 = 2048 ∨ R % 2048 + 256 + 8 ≤ 2048 by omega) 1 (by omega) p q _ (fun h1 => ?_) fun h2 => by omega)
      have e : (248 + (p.val - 248) + 256 - 255) % 256 = p.val + 1 := by omega
      show f (bb (R + (248 + (p.val - 248) + 256 - 255) % 256)) (ss (R + (248 + (p.val - 248) + 256 - 255) % 256)) q = _
      rw [e]

theorem up2_at (v15 : EReal) (v93 : FVec Ideal S8x1024 .f32) (hR : R % 256 = 0) (f : Tok) (hf : Blk f R (k0_pay37 (k0_pay18 b) (k0_pay24 sa) D))
    (hn : ∀ r q, (k0_pay38 (F := Ideal) v15 v93 : FVec Ideal S8x1024 .f32) (ix2 r q) = ((nxt 256 f R r q : ℝ) : EReal)) :
    Blk (up 2 f) R (k0_pay43 (k0_pay41 (k0_pay18 b) (k0_pay24 sa) D) (k0_pay42 (F := Ideal) v15 v93)) := by
  intro p q
  pointwise [k0_pay43, k0_pay41, k0_pay42]
  by_cases h : p.val < 248
  · rw [dif_pos h, hf]
    refine congrArg (fun z : ℝ => (z : EReal)) (up_blk f (show R % 2048 + 256 = 2048 ∨ R % 2048 + 256 + 8 ≤ 2048 by omega) 2 (by omega) p q _ (fun h1 => ?_) fun h2 => by omega)
    have e : (p.val + 256 - 254) % 256 = p.val + 2 := by omega
    simp only [e]
  · rw [dif_neg h, sge6 ⟨p.val - 248, by omega⟩, hn, hf]
    by_cases h7 : 6 ≤ p.val - 248
    · rw [if_pos h7, sel_one]
      refine congrArg (fun z : ℝ => (z : EReal)) (up_blk f (show R % 2048 + 256 = 2048 ∨ R % 2048 + 256 + 8 ≤ 2048 by omega) 2 (by omega) p q _ (fun h1 => by omega) fun h2 => ?_)
      exact congrArg (fun r => nxt 256 f R r q) (Fin.ext (by show (p.val - 248 + 8 - 6) % 8 = p.val + 2 - 256; omega))
    · rw [if_neg h7, sel_zero]
      refine congrArg (fun z : ℝ => (z : EReal)) (up_blk f (show R % 2048 + 256 = 2048 ∨ R % 2048 + 256 + 8 ≤ 2048 by omega) 2 (by omega) p q _ (fun h1 => ?_) fun h2 => by omega)
      have e : (248 + (p.val - 248) + 256 - 254) % 256 = p.val + 2 := by omega
      show f (bb (R + (248 + (p.val - 248) + 256 - 254) % 256)) (ss (R + (248 + (p.val - 248) + 256 - 254) % 256)) q = _
      rw [e]

variable {cw : Fin 3 → Fin 1024 → ℝ} {lng : Fin 1024 → ℝ} {w : FVec Ideal S8x1024 .f32} {lg : FVec Ideal S1x1024 .f32}
variable {F0 F1 : FVec Ideal S256x1024 .f32} {F2 : FVec Ideal S256x1024 .f32} {F3 : FVec Ideal S8x1024 .f32} {f : Tok}
variable (hw : ∀ (j : Fin 3) q, w (ix2 (r8 j) q) = ((cw j q : ℝ) : EReal)) (hlg : ∀ q, lg (ix2 0 q) = ((lng q : ℝ) : EReal))
  (h0 : Blk f R F0) (h1 : Blk (up 1 f) R F1) (h2 : Blk (up 2 f) R (k0_pay43 F2 F3))

include hw h0 h1 h2 in
/-- The gradient through the convolution. -/
theorem blk_convT : Blk (convT f cw) R (k0_pay44 (k0_pay16 w) F0 F1 F2 F3 : FVec Ideal S256x1024 .f32) := by
  intro p q
  pointwise [k0_pay44, k0_pay16]
  have e2 : w (ix2 2 q) = _ := hw 2 q
  have e1 : w (ix2 1 q) = _ := hw 1 q
  have e0 : w (ix2 0 q) = _ := hw 0 q
  rw [h0, h1, h2, e2, e1, e0]
  rfl

include hw h0 h1 h2 hxi in
theorem blk_dc : Blk (fun b s q => convT f cw b s q * k.XI b s q) R
    (k0_pay50 (k0_pay49 (k0_pay16 w) (k0_pay20 xi) F0 F1 F2 F3) : FVec Ideal S256x1024 .bf16) := by
  intro p q
  pointwise [k0_pay50, k0_pay49, k0_pay20]
  rw [blk_convT hw h0 h1 h2, hxi]
  rfl

include hw h0 h1 h2 hc in
theorem blk_dxi : Blk (fun b s q => convT f cw b s q * k.C b s q) R
    (k0_pay51 (k0_pay19 c) (k0_pay44 (k0_pay16 w) F0 F1 F2 F3) : FVec Ideal S256x1024 .bf16) := by
  intro p q
  pointwise [k0_pay51, k0_pay19]
  rw [blk_convT hw h0 h1 h2, hc]
  rfl

/-! ## The sums the block adds -/

include hc hxi in
theorem row_dcw2 (f : Tok) (F : FVec Ideal S256x1024 .f32) (hF : Blk f R F) (P : FVec Ideal S1x1024 .f32) (z : Fin 1) (q : Fin 1024) :
    (k0_pay48 (k0_pay19 c) (k0_pay20 xi) F P : FVec Ideal S1x1024 .f32) (ix2 z q) = (P (ix2 z q) : EReal) + ((part 256 f (cx k) R q : ℝ) : EReal) := by
  pointwise [k0_pay48, k0_pay45, k0_pay19, k0_pay20]
  simp only [fun p => hF p q, fun p => hc p q, fun p => hxi p q, ← EReal.coe_mul, ← coe_sum]
  rfl

include hc hxi in
theorem row_dcw1 (f : Tok) (F : FVec Ideal S256x1024 .f32) (hF : Blk f R F) (P : FVec Ideal S1x1024 .f32) (z : Fin 1) (q : Fin 1024) :
    (k0_pay47 (k0_pay19 c) (k0_pay20 xi) F P : FVec Ideal S1x1024 .f32) (ix2 z q) = (P (ix2 z q) : EReal) + ((part 256 f (cx k) R q : ℝ) : EReal) := by
  pointwise [k0_pay47, k0_pay45, k0_pay19, k0_pay20]
  simp only [fun p => hF p q, fun p => hc p q, fun p => hxi p q, ← EReal.coe_mul, ← coe_sum]
  rfl

include hc hxi in
theorem row_dcw0 (f : Tok) (hF : Blk f R (k0_pay43 F2 F3)) (P : FVec Ideal S1x1024 .f32) (z : Fin 1) (q : Fin 1024) :
    (k0_pay46 (k0_pay19 c) (k0_pay20 xi) F2 F3 P : FVec Ideal S1x1024 .f32) (ix2 z q) = (P (ix2 z q) : EReal) + ((part 256 f (cx k) R q : ℝ) : EReal) := by
  pointwise [k0_pay46, k0_pay45, k0_pay19, k0_pay20]
  simp only [fun p => hF p q, fun p => hc p q, fun p => hxi p q, ← EReal.coe_mul, ← coe_sum]
  rfl

/-! ## The layer norm -/

include hv in
theorem blk_ctr : Blk (fun b s q => ctr (k.V b s) q) R (k0_pay27 v : FVec Ideal S256x1024 .f32) := by
  intro p q
  pointwise [k0_pay27, k0_pay22]
  rw [ofBits_1024]
  simp only [fun q => hv p q, ← coe_sum]
  rw [div_coe _ _ (by norm_num), ← EReal.coe_sub]
  rfl

include hv in
theorem blk_rinv (p : Fin 256) (z : Fin 1) : (k0_pay28 v : FVec Ideal S256x1 .f32) (ix2 p z)
    = ((rinv (ctr (k.V (bb (R + p.val)) (ss (R + p.val)))) : ℝ) : EReal) := by
  pointwise [k0_pay28]
  rw [ofBits_1024, ofBits_eps]
  simp only [fun q => blk_ctr hv p q, ← EReal.coe_mul, ← coe_sum]
  rw [div_coe _ _ (by norm_num), ← EReal.coe_add, rsqrt_ms]

include hv in
theorem blk_hat : Blk (fun b s q => hat (k.V b s) q) R (k0_pay29 v : FVec Ideal S256x1024 .f32) := by
  intro p q
  pointwise [k0_pay29]
  rw [blk_ctr hv, blk_rinv hv]
  rfl

include hv hlg in
theorem blk_dv (g : Tok) (G : FVec Ideal S256x1024 .f32) (hG : Blk g R G) : Blk (fun b s q => lnGrad (k.V b s) lng (g b s) q) R
    (k0_pay106 (k0_pay17 lg) (k0_pay28 v) (k0_pay29 v) G : FVec Ideal S256x1024 .bf16) := by
  intro p q
  pointwise [k0_pay106, k0_pay17]
  rw [ofBits_1024, blk_rinv hv]
  simp only [fun q => blk_hat hv p q, fun q => hG p q, hlg, ← EReal.coe_mul, ← coe_sum]
  rw [div_coe _ _ (by norm_num), div_coe _ _ (by norm_num)]
  rfl

include hv in
theorem row_dlg (g : Tok) (G : FVec Ideal S256x1024 .f32) (hG : Blk g R G) (P : FVec Ideal S1x1024 .f32) (z : Fin 1) (q : Fin 1024) :
    (k0_pay104 (k0_pay29 v) G P : FVec Ideal S1x1024 .f32) (ix2 z q)
      = (P (ix2 z q) : EReal) + ((part 256 g (fun b s q => hat (k.V b s) q) R q : ℝ) : EReal) := by
  pointwise [k0_pay104]
  simp only [fun p => blk_hat hv p q, fun p => hG p q, ← EReal.coe_mul, ← coe_sum]
  rfl

theorem row_dlb (g : Tok) (G : FVec Ideal S256x1024 .f32) (hG : Blk g R G) (P : FVec Ideal S1x1024 .f32) (z : Fin 1) (q : Fin 1024) :
    (k0_pay105 G P : FVec Ideal S1x1024 .f32) (ix2 z q)
      = (P (ix2 z q) : EReal) + ((∑ p : Fin 256, g (bb (R + p.val)) (ss (R + p.val)) q : ℝ) : EReal) := by
  pointwise [k0_pay105]
  simp only [fun p => hG p q, ← coe_sum]

/-! ## The mixing's bias: the block's two chunks, added -/

include hsb hu hD in
theorem acc_dbs (P : FVec Ideal S128x1024 .f32) (a : Fin 128) (q : Fin 1024) :
    (k0_pay57 (k0_pay21 u) (k0_pay35 (k0_pay25 sb) D) P : FVec Ideal S128x1024 .f32) (ix2 a q)
      = (P (ix2 a q) : EReal) + ((∑ n : Fin 2, k.dmx dm (bb (R + (n.val * 128 + a.val))) (ss (R + (n.val * 128 + a.val))) q : ℝ) : EReal) := by
  have h := blk_dmx hsb hu hD
  have h' : Blk (k.dmx dm) R (k0_pay53 (k0_pay21 u) (k0_pay35 (k0_pay25 sb) D) : FVec Ideal S256x1024 .f32) := h
  pointwise [k0_pay57]
  simp only [fun p => h' p q, Fin.sum_univ_two, EReal.coe_add]
  norm_num

end Cert.Kernel3Ideal.Point

end
-- ==== Proof.FuseTiles.lean ====
/-
  THE MIXING INSIDE A CHUNK, TILE BY TILE, for the fused call. The kernel forms the gradient of the normalised rows in 128×128 tiles and adds the
  gradient of the mixing's weights group by group: one lemma for a tile, one for a group, and what the stores leave together.
-/
module

public import proofs.«01_k».proof.Proof.FusePay
public import proofs.«01_k».proof.Proof.MixTiles
public import proofs.«01_k».proof.Proof.Closure

@[expose] public section

set_option maxRecDepth 16384

noncomputable section

open Idealize.ShloMosaic Idealize.ShloMosaic.TcCoe Idealize.SL.Sem

namespace Cert.Kernel3Ideal.Point

open Cert.Kernel3Ideal Cert.Kernel3Ideal.Gen Cert.Reals Cert.Mix
open Cert.Kernel2Ideal.Point (sel_one sel_zero)

variable (m : (ℓ : Loc nD τ sig) → Buf (Elt Ideal) ℓ)

/-- A load of the whole scratch after stores that leave `G`. -/
theorem readCov_scr {sig : RefSig} (v : View sig .tc .vmem S256x1024 .f32) (inb) (G : S256x1024.Idx → Elt Ideal .f32) (L : List (View.Piece (Elt Ideal) S256x1024 .f32))
    (h : ∀ y, View.canon L y = G y) : v.readCov L (Rect.unit ![0, 0] ![256, 1024] inb).toLoadRect = G := by
  rw [View.readCov_eq_canon']
  funext j
  rw [h]
  refine congrArg G (funext fun a => Fin.ext ?_)
  rcases a with ⟨_ | _ | a, ha⟩
  · show 0 + 1 * (j 0).val = (j 0).val
    omega
  · show 0 + 1 * (j 1).val = (j 1).val
    omega
  · exact absurd ha (by simp)

/-- The mixing's transpose on one block: chunk by chunk, group by group, over the weights on and above the diagonal. -/
def tile (W : FVec Ideal S8x128x128 .f32) (E : FVec Ideal S256x1024 .bf16) : FVec Ideal S256x1024 .f32 := fun y =>
  ∑ t : Fin 128, Scalar.select (IntOp.cmpi .sle (BitVec.ofNat 32 ((y 0).val % 128)) (BitVec.ofNat 32 t.val))
    (W (ix3 (⟨(y 1).val / 128, by have := (y 1).isLt; simp at this; omega⟩ : Fin 8) (⟨(y 0).val % 128, by omega⟩ : Fin 128) t)
      * E (ix2 (⟨(y 0).val / 128 * 128 + t.val, by have := (y 0).isLt; simp at this; omega⟩ : Fin 256) (⟨(y 1).val, (y 1).isLt⟩ : Fin 1024))) (0 : EReal)

/-- One store of the scratch: the product of a group's masked weights with a 128×128 part of the block. -/
theorem tile_core (W : FVec Ideal S8x128x128 .f32) (E : FVec Ideal S256x1024 .bf16) (y : S256x1024.Idx) (z : S128x128.Idx) (r cc g : ℕ)
    (hs : S256x1024.Slices ![r, cc] S128x128) (inb : _) (h0 : (y 0).val = r + (z 0).val) (h1 : (y 1).val = cc + (z 1).val) (hr : r % 128 = 0) (hc : cc = 128 * g) :
    shapeCast S128x128 (matmul (F := Ideal) dot_S128x128_S128x128_S128x128_1_0_0_1_n_n none
      (k0_pay65 k0_pay56 (View.ld W (Rect.unit (s := S8x128x128) ![g, 0, 0] ![1, 128, 128] inb))) (extractStridedSlice S128x128 ![r, cc] E hs)
      (constant S128x128 .f32 0x00000000#32)) shapeCasts_S128x128_S128x128 z = tile W E y := by
  have hz0 : (z 0).val < 128 := (z 0).isLt
  have hz1 : (z 1).val < 128 := (z 1).isLt
  have hy0 : (y 0).val < 256 := (y 0).isLt
  have hy1 : (y 1).val < 1024 := (y 1).isLt
  have hX : ∀ j : S128x128.Idx, extractStridedSlice S128x128 ![r, cc] E hs j = E (ix2 (⟨(r + (j 0).val) % 256, Nat.mod_lt _ (by decide)⟩ : Fin 256) (⟨(cc + (j 1).val) % 1024, Nat.mod_lt _ (by decide)⟩ : Fin 1024)) := by
    intro j
    have hj0 : (j 0).val < 128 := (j 0).isLt
    have hj1 : (j 1).val < 128 := (j 1).isLt
    refine extractStridedSlice_apply _ _ _ _ _ fun a => ?_
    rcases a with ⟨_ | _ | a, ha⟩
    · show (r + (j 0).val) % 256 = r + (j 0).val
      omega
    · show (cc + (j 1).val) % 1024 = cc + (j 1).val
      omega
    · exact absurd ha (by simp)
  generalize extractStridedSlice S128x128 ![r, cc] E hs = X at hX ⊢
  have hW : ∀ a x : Fin 128, (View.ld (Val := Elt Ideal) (e' := .f32) W (Rect.unit (s := S8x128x128) ![g, 0, 0] ![1, 128, 128] inb) : FVec Ideal S1x128x128 .f32) (ix3 0 a x) = W (ix3 (⟨g % 8, Nat.mod_lt _ (by decide)⟩ : Fin 8) a x) := by
    intro a x
    refine congrArg W (funext fun b => Fin.ext ?_)
    rcases b with ⟨_ | _ | _ | b, hb⟩
    · show g + 1 * 0 = g % 8
      omega
    · show 0 + 1 * a.val = a.val
      omega
    · show 0 + 1 * x.val = x.val
      omega
    · exact absurd hb (by simp)
  generalize (View.ld (Val := Elt Ideal) (e' := .f32) W (Rect.unit (s := S8x128x128) ![g, 0, 0] ![1, 128, 128] inb) : FVec Ideal S1x128x128 .f32) = V at hW ⊢
  unfold tile
  pointwise [k0_pay65, k0_pay56]
  refine Finset.sum_congr rfl fun x _ => ?_
  refine congrArg₂ (fun (u : ℕ) (v : EReal) => Scalar.select (IntOp.cmpi .sle (BitVec.ofNat 32 u) (BitVec.ofNat 32 x.val)) v (0 : EReal))
    (by omega) (congrArg₂ (fun u v : EReal => u * v) ((hW (z 0) x).trans (congrArg W ?_)) ((hX _).trans (congrArg E ?_)))
  · exact congrArg₂ (fun g a => ix3 g a x) (Fin.ext (by show g % 8 = (y 1).val / 128; omega)) (Fin.ext (by show (z 0).val = (y 0).val % 128; omega))
  · exact congrArg₂ ix2 (Fin.ext (by show (r + x.val) % 256 = (y 0).val / 128 * 128 + x.val; omega)) (Fin.ext (by show (cc + (z 1).val) % 1024 = (y 1).val; omega))

/-- The block of the gradient of the normalised rows. -/
theorem blk_dvn (k : Saved) (dm : Tok) (ws : Fin 8 → Fin 128 → Fin 128 → ℝ) (R : ℕ) (hR : R % 256 = 0) (W : FVec Ideal S8x128x128 .f32) (E : FVec Ideal S256x1024 .bf16)
    (hW : ∀ g s t, W (ix3 g s t) = ((ws g t s : ℝ) : EReal)) (hE : Blk (k.dmx dm) R E) : Blk (k.dvn dm ws) R (tile W E) := by
  intro p q
  show ∑ t : Fin 128, _ = _
  unfold Saved.dvn
  rw [coe_sum]
  refine Finset.sum_congr rfl fun t _ => ?_
  have hp := p.isLt
  have hpos : (pos (ss (R + p.val))) = (⟨p.val % 128, Nat.mod_lt _ (by decide)⟩ : Fin 128) :=
    Fin.ext (by show (R + p.val) % 2048 % 128 = p.val % 128; omega)
  rw [hpos]
  have e1 : W (ix3 (⟨q.val / 128, by omega⟩ : Fin 8) (⟨p.val % 128, Nat.mod_lt _ (by decide)⟩ : Fin 128) t) = ((ws (grp q) t ⟨p.val % 128, Nat.mod_lt _ (by decide)⟩ : ℝ) : EReal) := hW _ _ _
  have e2 : E (ix2 (⟨p.val / 128 * 128 + t.val, by omega⟩ : Fin 256) q) = ((k.dmx dm (bb (R + p.val)) (inChunk (ss (R + p.val)) t) q : ℝ) : EReal) := by
    rw [hE]
    refine congrArg (fun z : ℝ => (z : EReal)) (congrArg₂ (fun b s => k.dmx dm b s q) (Fin.ext ?_) (Fin.ext ?_))
    · show (R + (p.val / 128 * 128 + t.val)) / 2048 % 4 = (R + p.val) / 2048 % 4
      omega
    · show (R + (p.val / 128 * 128 + t.val)) % 2048 = (R + p.val) % 2048 / 128 * 128 + t.val
      omega
  refine (congrArg₂ (fun u v : EReal => Scalar.select (IntOp.cmpi .sle (BitVec.ofNat 32 (p.val % 128)) (BitVec.ofNat 32 t.val)) (u * v) (0 : EReal)) e1 e2).trans ?_
  have hs := sle_at ⟨p.val % 128, Nat.mod_lt _ (by decide)⟩ t
  simp only at hs
  rw [hs]
  by_cases h : p.val % 128 ≤ t.val
  · rw [if_pos h, if_pos h, sel_one, EReal.coe_mul]
  · rw [if_neg h, if_neg h, sel_zero, zero_mul, EReal.coe_zero]

/-- The part of the gradient of the mixing's weights that one block of rows holds: its two chunks, on and below the diagonal. -/
def mixSum (N E : FVec Ideal S256x1024 .bf16) (n : Fin 2) (y : S8x128x128.Idx) : EReal :=
  ∑ c : Fin 128, (E (ix2 (⟨n.val * 128 + (y 1).val, by have h : (y 1).val < 128 := (y 1).isLt; omega⟩ : Fin 256) (⟨(y 0).val * 128 + c.val, by have h : (y 0).val < 8 := (y 0).isLt; omega⟩ : Fin 1024)) : EReal)
    * N (ix2 (⟨n.val * 128 + (y 2).val, by have h : (y 2).val < 128 := (y 2).isLt; omega⟩ : Fin 256) (⟨(y 0).val * 128 + c.val, by have h : (y 0).val < 8 := (y 0).isLt; omega⟩ : Fin 1024))

/-- The weights' gradient after the block. -/
def mixAcc (P : FVec Ideal S8x128x128 .f32) (N E : FVec Ideal S256x1024 .bf16) : FVec Ideal S8x128x128 .f32 := fun y =>
  (P y : EReal) + Scalar.select (IntOp.cmpi .sge (BitVec.ofNat 32 (y 1).val) (BitVec.ofNat 32 (y 2).val))
    (mixSum N E 0 y + mixSum N E 1 y) (0 : EReal)

/-- One group's product over one chunk. -/
def nt (N E : FVec Ideal S256x1024 .bf16) (r cc : ℕ) (hs : S256x1024.Slices ![r, cc] S128x128) : FVec Ideal S128x128 .f32 :=
  matmul (F := Ideal) dot_S128x128_S128x128_S128x128_1_1_0_0_n_n none (extractStridedSlice S128x128 ![r, cc] E hs) (extractStridedSlice S128x128 ![r, cc] N hs)
    (constant S128x128 .f32 0x00000000#32)

/-- A 128×128 part of the block, read. -/
theorem slice_at (E : FVec Ideal S256x1024 .bf16) (r cc : ℕ) (hs : S256x1024.Slices ![r, cc] S128x128) (hr : r ≤ 128) (hc : cc ≤ 896) (j : S128x128.Idx) :
    extractStridedSlice S128x128 ![r, cc] E hs j = E (ix2 (⟨(r + (j 0).val) % 256, Nat.mod_lt _ (by decide)⟩ : Fin 256) (⟨(cc + (j 1).val) % 1024, Nat.mod_lt _ (by decide)⟩ : Fin 1024)) := by
  have hj0 : (j 0).val < 128 := (j 0).isLt
  have hj1 : (j 1).val < 128 := (j 1).isLt
  refine extractStridedSlice_apply _ _ _ _ _ fun a => ?_
  rcases a with ⟨_ | _ | a, ha⟩
  · show (r + (j 0).val) % 256 = r + (j 0).val
    omega
  · show (cc + (j 1).val) % 1024 = cc + (j 1).val
    omega
  · exact absurd ha (by simp)

/-- That product, read. -/
theorem nt_at (N E : FVec Ideal S256x1024 .bf16) (g cc : ℕ) (n : Fin 2) (hs : S256x1024.Slices ![n.val * 128, cc] S128x128) (hc : cc = g * 128)
    (y : S8x128x128.Idx) (hg : (y 0).val = g) : nt N E (n.val * 128) cc hs (ix2 (y 1) (y 2)) = mixSum N E n y := by
  have hn := n.isLt
  have hg8 : (y 0).val < 8 := (y 0).isLt
  have hX := slice_at E (n.val * 128) cc hs (by omega) (by omega)
  have hY := slice_at N (n.val * 128) cc hs (by omega) (by omega)
  unfold nt
  generalize extractStridedSlice S128x128 ![n.val * 128, cc] E hs = X at hX ⊢
  generalize extractStridedSlice S128x128 ![n.val * 128, cc] N hs = Y at hY ⊢
  pointwise [mixSum]
  refine Finset.sum_congr rfl fun x _ => ?_
  have h1 : (y 1).val < 128 := (y 1).isLt
  have h2 : (y 2).val < 128 := (y 2).isLt
  have hx := x.isLt
  have ec : ((cc + x.val) % 1024) = (y 0).val * 128 + x.val := by omega
  refine congrArg₂ (fun u v : EReal => u * v) ((hX _).trans (congrArg E (congrArg₂ ix2 (Fin.ext ?_) (Fin.ext ec)))) ((hY _).trans (congrArg N (congrArg₂ ix2 (Fin.ext ?_) (Fin.ext ec))))
  · show (n.val * 128 + (y 1).val) % 256 = n.val * 128 + (y 1).val
    omega
  · show (n.val * 128 + (y 2).val) % 256 = n.val * 128 + (y 2).val
    omega

/-- One group's store of the weights' gradient. -/
theorem dws_core (P : FVec Ideal S8x128x128 .f32) (N E : FVec Ideal S256x1024 .bf16) (V : FVec Ideal S1x128x128 .f32) (g cc : ℕ) (y : S8x128x128.Idx) (z : S1x128x128.Idx)
    (s0 : S256x1024.Slices ![0, cc] S128x128) (s1 : S256x1024.Slices ![128, cc] S128x128)
    (hg : (y 0).val = g) (h1 : (y 1).val = (z 1).val) (h2 : (y 2).val = (z 2).val) (hc : cc = g * 128)
    (hV : ∀ a b : Fin 128, V (ix3 0 a b) = P (ix3 (⟨g % 8, Nat.mod_lt _ (by decide)⟩ : Fin 8) a b)) :
    shapeCast S1x128x128 (addf (F := Ideal) (shapeCast S128x128 V shapeCasts_S1x128x128_S128x128)
      (select k0_pay55 (addf (F := Ideal) (addf (F := Ideal) (broadcast S128x128 (Scalar.ofBits (F := Ideal) .f32 0x00000000#32)) (nt N E 0 cc s0)) (nt N E 128 cc s1))
        (broadcast S128x128 (Scalar.ofBits (F := Ideal) .f32 0x00000000#32)))) shapeCasts_S128x128_S1x128x128 z = mixAcc P N E y := by
  have e0 := nt_at N E g cc 0 s0 hc y hg
  have e1 := nt_at N E g cc 1 s1 hc y hg
  change nt N E 0 cc s0 _ = _ at e0
  change nt N E 128 cc s1 _ = _ at e1
  have hz : ix2 (y 1) (y 2) = (ix2 (z 1) (z 2) : S128x128.Idx) := congrArg₂ ix2 (Fin.ext h1) (Fin.ext h2)
  generalize nt N E 0 cc s0 = A0 at e0 ⊢
  generalize nt N E 128 cc s1 = A1 at e1 ⊢
  unfold mixAcc
  rw [← e0, ← e1]
  pointwise [k0_pay55]
  have h0 : (z 0).val < 1 := (z 0).isLt
  have hg8 : (y 0).val < 8 := (y 0).isLt
  have ez : z = (ix3 0 (z 1) (z 2) : S1x128x128.Idx) := funext fun a => Fin.ext (by
    rcases a with ⟨_ | _ | _ | a, ha⟩
    · show (z 0).val = 0
      omega
    · rfl
    · rfl
    · exact absurd ha (by simp))
  have ey : (ix3 (⟨g % 8, Nat.mod_lt _ (by decide)⟩ : Fin 8) (z 1) (z 2) : S8x128x128.Idx) = y := funext fun a => Fin.ext (by
    rcases a with ⟨_ | _ | _ | a, ha⟩
    · show g % 8 = (y 0).val
      omega
    · exact h1.symm
    · exact h2.symm
    · exact absurd ha (by simp))
  have hVP : V z = P y := (congrArg V ez).trans ((hV _ _).trans (congrArg P ey))
  exact congrArg₂ (fun u v : EReal => u + v) hVP (congrArg₂ (fun a b : Fin 128 =>
    Scalar.select (IntOp.cmpi .sge (BitVec.ofNat 32 a.val) (BitVec.ofNat 32 b.val)) (A0 (ix2 a b) + A1 (ix2 a b) : EReal) (0 : EReal))
    (Fin.ext h1.symm) (Fin.ext h2.symm))

end Cert.Kernel3Ideal.Point

end
-- ==== Proof.FuseOuts.lean ====
/-
  WHAT ONE GRID POINT OF THE FUSED BACKWARD CALL LEAVES (as `MixOuts` for the call alone). `At k dm cw lng ws R m c t` says that the blocks point `t` reads hold,
  row for row, the saved quantities from flat row `R` on; from it every output and every carried buffer is read.
-/
module

public import proofs.«01_k».proof.Proof.FuseTiles
public import proofs.«01_k».proof.Proof.MixOuts

@[expose] public section

set_option maxRecDepth 16384

noncomputable section

open Idealize.ShloMosaic Idealize.ShloMosaic.TcCoe Idealize.SL.Sem

namespace Cert.Kernel3Ideal.Point

open Cert.Kernel3Ideal Cert.Kernel3Ideal.Gen Cert.Reals Cert.Mix
open Cert.Kernel2Ideal.Point (nxt part cx r8 sel_one sel_zero sge7 sge6 up_blk rows3 rows2 fill_read ld_row ld_group canon_groups)
open Cert.Kernel2Ideal.Point.At (dcwAdd dlnAdd)

variable (m : (ℓ : Loc nD τ sig) → Buf (Elt Ideal) ℓ) (c : Dev nD)

/-! ## The columns of the saved block -/

abbrev ldB (t : Fin cfg0.N) : FVec Ideal S256x1024 .bf16 := View.ld (Val := Elt Ideal) (e' := .bf16) (iblk m c 1 t) (Rect.unit (s := S256x10240) ![0, 0] ![256, 1024] inb_S256x10240_S256x1024_0_0)
abbrev ldC (t : Fin cfg0.N) : FVec Ideal S256x1024 .bf16 := View.ld (Val := Elt Ideal) (e' := .bf16) (iblk m c 1 t) (Rect.unit (s := S256x10240) ![0, 1024] ![256, 1024] inb_S256x10240_S256x1024_0_1024)
abbrev ldXI (t : Fin cfg0.N) : FVec Ideal S256x1024 .bf16 := View.ld (Val := Elt Ideal) (e' := .bf16) (iblk m c 1 t) (Rect.unit (s := S256x10240) ![0, 2048] ![256, 1024] inb_S256x10240_S256x1024_0_2048)
abbrev ldU (t : Fin cfg0.N) : FVec Ideal S256x1024 .bf16 := View.ld (Val := Elt Ideal) (e' := .bf16) (iblk m c 1 t) (Rect.unit (s := S256x10240) ![0, 3072] ![256, 1024] inb_S256x10240_S256x1024_0_3072)
abbrev ldV (t : Fin cfg0.N) : FVec Ideal S256x1024 .bf16 := View.ld (Val := Elt Ideal) (e' := .bf16) (iblk m c 1 t) (Rect.unit (s := S256x10240) ![0, 4096] ![256, 1024] inb_S256x10240_S256x1024_0_4096)
abbrev ldCV (t : Fin cfg0.N) : FVec Ideal S256x1024 .bf16 := View.ld (Val := Elt Ideal) (e' := .bf16) (iblk m c 1 t) (Rect.unit (s := S256x10240) ![0, 5120] ![256, 1024] inb_S256x10240_S256x1024_0_5120)
abbrev ldMX (t : Fin cfg0.N) : FVec Ideal S256x1024 .bf16 := View.ld (Val := Elt Ideal) (e' := .bf16) (iblk m c 1 t) (Rect.unit (s := S256x10240) ![0, 6144] ![256, 1024] inb_S256x10240_S256x1024_0_6144)
abbrev ldVN (t : Fin cfg0.N) : FVec Ideal S256x1024 .bf16 := View.ld (Val := Elt Ideal) (e' := .bf16) (iblk m c 1 t) (Rect.unit (s := S256x10240) ![0, 7168] ![256, 1024] inb_S256x10240_S256x1024_0_7168)
abbrev ldSA (t : Fin cfg0.N) : FVec Ideal S256x1024 .bf16 := View.ld (Val := Elt Ideal) (e' := .bf16) (iblk m c 1 t) (Rect.unit (s := S256x10240) ![0, 8192] ![256, 1024] inb_S256x10240_S256x1024_0_8192)
abbrev ldSB (t : Fin cfg0.N) : FVec Ideal S256x1024 .bf16 := View.ld (Val := Elt Ideal) (e' := .bf16) (iblk m c 1 t) (Rect.unit (s := S256x10240) ![0, 9216] ![256, 1024] inb_S256x10240_S256x1024_0_9216)

/-- The cotangent of the merged branches on the block. -/
abbrev dmB (t : Fin cfg0.N) : FVec Ideal S256x1024 .f32 := k0_pay30 (iblk m c 0 t) (iblk m c 2 t)

/-- The gradient of the mixed rows on the block. -/
abbrev dmxB (t : Fin cfg0.N) : FVec Ideal S256x1024 .bf16 := k0_pay54 (k0_pay21 (ldU m c t)) (k0_pay35 (k0_pay25 (ldSB m c t)) (dmB m c t))

/-- What point `t` reads, from flat row `R` on. -/
structure At (k : Saved) (dm : Tok) (cw : Fin 3 → Fin 1024 → ℝ) (lng : Fin 1024 → ℝ) (ws : Fin 8 → Fin 128 → Fin 128 → ℝ) (R : ℕ) (t : Fin cfg0.N) : Prop where
  b : Blk k.B R (ldB m c t)
  cc : Blk k.C R (ldC m c t)
  xi : Blk k.XI R (ldXI m c t)
  u : Blk k.U R (ldU m c t)
  v : Blk k.V R (ldV m c t)
  cv : Blk k.CV R (ldCV m c t)
  mx : Blk k.MX R (ldMX m c t)
  vn : Blk k.VN R (ldVN m c t)
  sa : Blk k.SA R (ldSA m c t)
  sb : Blk k.SB R (ldSB m c t)
  dm : Blk dm R (dmB m c t)
  cw : ∀ (j : Fin 3) q, (iblk m c 3 t : FVec Ideal S8x1024 .f32) (ix2 (r8 j) q) = ((cw j q : ℝ) : EReal)
  lng : ∀ q, (iblk m c 4 t : FVec Ideal S1x1024 .f32) (ix2 0 q) = ((lng q : ℝ) : EReal)
  ws : ∀ g s j, (iblk m c 5 t : FVec Ideal S8x128x128 .f32) (ix3 g s j) = ((ws g j s : ℝ) : EReal)
  row : R = (31 - t.val) * 256

variable {m c}
variable {k : Saved} {dm : Tok} {cw : Fin 3 → Fin 1024 → ℝ} {lng : Fin 1024 → ℝ} {ws : Fin 8 → Fin 128 → Fin 128 → ℝ} {R : ℕ} {t : Fin cfg0.N}

namespace At

variable (h : At m c k dm cw lng ws R t)
include h

theorem mod : R % 256 = 0 := by rw [h.row]; omega

theorem dvn : Blk (k.dvn dm ws) R (tile (iblk m c 5 t) (dmxB m c t)) := blk_dvn k dm ws R h.mod _ _ h.ws (blk_dmx h.sb h.u h.dm)

/-- The rows carried from the block after, as the convolution's gradient reads them. -/
theorem next (X : FVec Ideal S8x1024 .f32) (hX : ¬ t.val % 8 = 0 → ∀ r q, X (ix2 r q) = ((k.dcv dm (bb (R + 256 + r.val)) (ss (R + 256 + r.val)) q : ℝ) : EReal)) (r : Fin 8) (q : Fin 1024) :
    (k0_pay38 (F := Ideal) (k0_pay15 (grid0.coords t)) X : FVec Ideal S8x1024 .f32) (ix2 r q) = ((nxt 256 (k.dcv dm) R r q : ℝ) : EReal) := by
  have ht : t.val < 32 := lt_of_lt_of_eq t.isLt (by decide)
  have hR := h.row
  have hk : (k0_pay38 (F := Ideal) (k0_pay15 (grid0.coords t)) X : FVec Ideal S8x1024 .f32) (ix2 r q) = (X (ix2 r q) : EReal) * (k0_pay15 (F := Ideal) (grid0.coords t) : EReal) := by
    pointwise [k0_pay38]
  rw [hk, keep_at]
  unfold nxt
  by_cases h4 : t.val % 8 = 0
  · rw [if_pos h4, if_pos (by omega), mul_zero, EReal.coe_zero]
  · rw [if_neg h4, if_neg (by omega), mul_one, hX h4]

theorem dcvB : Blk (k.dcv dm) R (k0_pay37 (k0_pay18 (ldB m c t)) (k0_pay24 (ldSA m c t)) (dmB m c t)) := blk_dcv h.b h.sa h.dm

/-- The first eight rows of the block, carried to the block before. -/
theorem carry (r : Fin 8) (q : Fin 1024) : (k0_pay39 (k0_pay18 (ldB m c t)) (k0_pay24 (ldSA m c t)) (dmB m c t) : FVec Ideal S8x1024 .f32) (ix2 r q)
    = ((k.dcv dm (bb (R + r.val)) (ss (R + r.val)) q : ℝ) : EReal) := by
  pointwise [k0_pay39]
  exact h.dcvB ⟨r.val, by omega⟩ q

theorem carry_out : ∀ r q, ((outsAt0 m c t.val t.isLt).2.2.2.2.2.2.2.1 : FVec Ideal S8x1024 .f32) (ix2 r q) = ((k.dcv dm (bb (R + r.val)) (ss (R + r.val)) q : ℝ) : EReal) := by
  intro r q
  by_cases h0 : t.val % 32 = 0
  · rw [outsAt0_A m c t h0 (by omega)]
    frame_out
    try simp only [read_unread_whole]
    exact h.carry r q
  · by_cases h1 : t.val % 32 = 31
    · rw [outsAt0_C m c t h0 h1]
      frame_out
      try simp only [read_unread_whole]
      exact h.carry r q
    · rw [outsAt0_B m c t h0 h1]
      frame_out
      try simp only [read_unread_whole]
      exact h.carry r q

/-- The gradient of the convolution's weights after the first point. -/
theorem dcw_first (h0 : t.val % 32 = 0) (r : Fin 8) (q : Fin 1024) : ((outsAt0 m c t.val t.isLt).2.1 : FVec Ideal S8x1024 .f32) (ix2 r q)
    = ((k0_pay9 (F := Ideal) : FVec Ideal S8x1024 .f32) (ix2 r q) : EReal) + ((dcwAdd 256 k dm R r q : ℝ) : EReal) := by
  have hn := h.next k0_pay14 (fun h4 => absurd (by omega) h4)
  have hr := h.mod
  rw [outsAt0_A m c t h0 (by omega)]
  frame_out
  simp (disch := first | decide | (intro a; fin_cases a <;> rfl)) only [↓View.readCov_skip, ↓View.readCov_fill]
  rw [← View.read_writes_junk_eq_canon (ms0_10 t).view]
  refine rows3 _ _ _ _ _ _ _ _ _ _ _ _ _ r q ?_ ?_ ?_ (fill_read _ _ _ _)
  · exact (row_dcw2 h.cc h.xi _ _ h.dcvB _ 0 q).trans (congrArg (· + _) (ld_row _ 2 _ q))
  · exact (row_dcw1 h.cc h.xi _ _ (up1_at _ _ hr _ h.dcvB hn) _ 0 q).trans (congrArg (· + _) (ld_row _ 1 _ q))
  · exact (row_dcw0 h.cc h.xi _ (up2_at _ _ hr _ h.dcvB hn) _ 0 q).trans (congrArg (· + _) (ld_row _ 0 _ q))

/-- The gradient of the convolution's weights grows by the block's products. -/
theorem dcw_next (h0 : ¬ t.val % 32 = 0)
    (hX : ¬ t.val % 8 = 0 → ∀ r q, ((outsAt0 m c (t.val - 1) (by omega)).2.2.2.2.2.2.2.1 : FVec Ideal S8x1024 .f32) (ix2 r q) = ((k.dcv dm (bb (R + 256 + r.val)) (ss (R + 256 + r.val)) q : ℝ) : EReal))
    (r : Fin 8) (q : Fin 1024) : ((outsAt0 m c t.val t.isLt).2.1 : FVec Ideal S8x1024 .f32) (ix2 r q)
    = (((outsAt0 m c (t.val - 1) (by omega)).2.1 : FVec Ideal S8x1024 .f32) (ix2 r q) : EReal) + ((dcwAdd 256 k dm R r q : ℝ) : EReal) := by
  have hn := h.next _ hX
  have hr := h.mod
  by_cases h1 : t.val % 32 = 31
  · rw [outsAt0_C m c t h0 h1]
    frame_out
    try simp only [read_unread_whole]
    refine rows3 _ _ [] _ _ _ _ _ _ _ _ _ _ r q ?_ ?_ ?_ (congrFun (Memref.IsWhole.read_unread _ _) (ix2 r q))
    · exact (row_dcw2 h.cc h.xi _ _ h.dcvB _ 0 q).trans (congrArg (· + _) (ld_row _ 2 _ q))
    · exact (row_dcw1 h.cc h.xi _ _ (up1_at _ _ hr _ h.dcvB hn) _ 0 q).trans (congrArg (· + _) (ld_row _ 1 _ q))
    · exact (row_dcw0 h.cc h.xi _ (up2_at _ _ hr _ h.dcvB hn) _ 0 q).trans (congrArg (· + _) (ld_row _ 0 _ q))
  · rw [outsAt0_B m c t h0 h1]
    frame_out
    try simp only [read_unread_whole]
    refine rows3 _ _ [] _ _ _ _ _ _ _ _ _ _ r q ?_ ?_ ?_ (congrFun (Memref.IsWhole.read_unread _ _) (ix2 r q))
    · exact (row_dcw2 h.cc h.xi _ _ h.dcvB _ 0 q).trans (congrArg (· + _) (ld_row _ 2 _ q))
    · exact (row_dcw1 h.cc h.xi _ _ (up1_at _ _ hr _ h.dcvB hn) _ 0 q).trans (congrArg (· + _) (ld_row _ 1 _ q))
    · exact (row_dcw0 h.cc h.xi _ (up2_at _ _ hr _ h.dcvB hn) _ 0 q).trans (congrArg (· + _) (ld_row _ 0 _ q))

/-- The gradients of the normalisation's weight and bias after the first point. -/
theorem dln_first (h0 : t.val % 32 = 0) (r : Fin 8) (q : Fin 1024) : ((outsAt0 m c t.val t.isLt).2.2.1 : FVec Ideal S8x1024 .f32) (ix2 r q)
    = ((k0_pay10 (F := Ideal) : FVec Ideal S8x1024 .f32) (ix2 r q) : EReal) + ((dlnAdd 256 k dm ws R r q : ℝ) : EReal) := by
  rw [outsAt0_A m c t h0 (by omega)]
  frame_out
  simp (disch := first | decide | (intro a; fin_cases a <;> rfl)) only [↓View.readCov_skip, ↓View.readCov_fill]
  rw [← View.read_writes_junk_eq_canon (ms0_11 t).view]
  rw [readCov_scr _ _ (tile (iblk m c 5 t) (dmxB m c t)) _ ?hh]
  case hh =>
    clear h0
    have hd := h.dvn
    clear h r q
    intro z
    canon_tiles z h
    all_goals first | exact tile_core _ _ _ _ _ _ _ _ _ (by omega) (by omega) rfl rfl | exact tile_core _ _ _ _ _ _ _ slices_S256x1024_o128_128_S128x128 _ (by omega) (by omega) rfl rfl
  refine rows2 _ _ _ _ _ _ _ _ _ _ r q ?_ ?_ (fill_read _ _ _ _)
  · exact (row_dlb _ _ h.dvn _ 0 q).trans (congrArg (· + _) (ld_row _ 1 _ q))
  · exact (row_dlg h.v _ _ h.dvn _ 0 q).trans (congrArg (· + _) (ld_row _ 0 _ q))

/-- The gradients of the normalisation's weight and bias grow by the block's sums. -/
theorem dln_next (h0 : ¬ t.val % 32 = 0) (r : Fin 8) (q : Fin 1024) : ((outsAt0 m c t.val t.isLt).2.2.1 : FVec Ideal S8x1024 .f32) (ix2 r q)
    = (((outsAt0 m c (t.val - 1) (by omega)).2.2.1 : FVec Ideal S8x1024 .f32) (ix2 r q) : EReal) + ((dlnAdd 256 k dm ws R r q : ℝ) : EReal) := by
  by_cases h1 : t.val % 32 = 31
  · rw [outsAt0_C m c t h0 h1]
    frame_out
    try simp only [read_unread_whole]
    rw [readCov_scr _ _ (tile (iblk m c 5 t) (dmxB m c t)) _ ?hh]
    case hh =>
      clear h0 h1 h r q
      intro z
      canon_tiles z h
      all_goals first | exact tile_core _ _ _ _ _ _ _ _ _ (by omega) (by omega) rfl rfl | exact tile_core _ _ _ _ _ _ _ slices_S256x1024_o128_128_S128x128 _ (by omega) (by omega) rfl rfl
    refine rows2 _ _ [] _ _ _ _ _ _ _ r q ?_ ?_ (congrFun (Memref.IsWhole.read_unread _ _) (ix2 r q))
    · exact (row_dlb _ _ h.dvn _ 0 q).trans (congrArg (· + _) (ld_row _ 1 _ q))
    · exact (row_dlg h.v _ _ h.dvn _ 0 q).trans (congrArg (· + _) (ld_row _ 0 _ q))
  · rw [outsAt0_B m c t h0 h1]
    frame_out
    try simp only [read_unread_whole]
    rw [readCov_scr _ _ (tile (iblk m c 5 t) (dmxB m c t)) _ ?hh]
    case hh =>
      clear h0 h1 h r q
      intro z
      canon_tiles z h
      all_goals first | exact tile_core _ _ _ _ _ _ _ _ _ (by omega) (by omega) rfl rfl | exact tile_core _ _ _ _ _ _ _ slices_S256x1024_o128_128_S128x128 _ (by omega) (by omega) rfl rfl
    refine rows2 _ _ [] _ _ _ _ _ _ _ r q ?_ ?_ (congrFun (Memref.IsWhole.read_unread _ _) (ix2 r q))
    · exact (row_dlb _ _ h.dvn _ 0 q).trans (congrArg (· + _) (ld_row _ 1 _ q))
    · exact (row_dlg h.v _ _ h.dvn _ 0 q).trans (congrArg (· + _) (ld_row _ 0 _ q))

end At

end Cert.Kernel3Ideal.Point

end
-- ==== Proof.FuseDp.lean ====
/-
  THE REST OF ONE GRID POINT OF THE FUSED BACKWARD CALL, as `MixDp` for the call alone: the rows of the projection's cotangent, the mixing's weights and the
  mixing's bias, read from what the point's blocks hold.
-/
module

public import proofs.«01_k».proof.Proof.FuseOuts
public import proofs.«01_k».proof.Proof.MixDp

@[expose] public section

set_option maxRecDepth 16384

noncomputable section

open Idealize.ShloMosaic Idealize.ShloMosaic.TcCoe Idealize.SL.Sem

namespace Cert.Kernel3Ideal.Point

open Cert.Kernel3Ideal Cert.Kernel3Ideal.Gen Cert.Reals Cert.Mix
open Cert.Kernel2Ideal.Point (nxt part cx r8 sel_one sel_zero sge7 sge6 up_blk rows3 rows2 fill_read ld_row ld_group canon_groups)
open Cert.Kernel2Ideal.Point.At (dcwAdd dlnAdd)
open Cert.Kernel2Ideal.Point (dwsAdd dbsAdd)

variable (m : (ℓ : Loc nD τ sig) → Buf (Elt Ideal) ℓ) (c : Dev nD)

/-! ## The mixing's weights -/

theorem mixSum_at (k : Saved) (dm : Tok) (R : ℕ) (N E : FVec Ideal S256x1024 .bf16) (hN : Blk k.VN R N) (hE : Blk (k.dmx dm) R E) (n : Fin 2) (g : Fin 8) (a b : Fin 128) :
    mixSum N E n (ix3 g a b) = ((∑ c : Fin 128, k.dmx dm (bb (R + (n.val * 128 + a.val))) (ss (R + (n.val * 128 + a.val))) (ch g c)
    * k.VN (bb (R + (n.val * 128 + b.val))) (ss (R + (n.val * 128 + b.val))) (ch g c) : ℝ) : EReal) := by
  rw [coe_sum]
  refine Finset.sum_congr rfl fun c _ => ?_
  rw [EReal.coe_mul]
  exact congrArg₂ (fun u v : EReal => u * v) (hE (⟨n.val * 128 + a.val, by omega⟩ : Fin 256) (ch g c)) (hN (⟨n.val * 128 + b.val, by omega⟩ : Fin 256) (ch g c))

theorem mixAcc_at (k : Saved) (dm : Tok) (R : ℕ) (P : FVec Ideal S8x128x128 .f32) (N E : FVec Ideal S256x1024 .bf16) (hN : Blk k.VN R N) (hE : Blk (k.dmx dm) R E) (g : Fin 8) (a b : Fin 128) :
    mixAcc P N E (ix3 g a b) = (P (ix3 g a b) : EReal) + ((dwsAdd 2 k dm R g a b : ℝ) : EReal) := by
  unfold mixAcc dwsAdd
  refine congrArg (fun v : EReal => (P (ix3 g a b) : EReal) + v) ?_
  rw [mixSum_at k dm R N E hN hE, mixSum_at k dm R N E hN hE]
  show Scalar.select (IntOp.cmpi .sge (BitVec.ofNat 32 a.val) (BitVec.ofNat 32 b.val)) _ _ = _
  rw [sge_at]
  by_cases hab : b.val ≤ a.val
  · rw [if_pos hab, if_pos hab, sel_one, Fin.sum_univ_two, EReal.coe_add]
  · rw [if_neg hab, if_neg hab, sel_zero, EReal.coe_zero]

theorem dws_first (t : Fin cfg0.N) (h0 : t.val % 32 = 0) (y : S8x128x128.Idx) :
    ((outsAt0 m c t.val t.isLt).2.2.2.1 : FVec Ideal S8x128x128 .f32) y = mixAcc k0_pay11 (k0_pay26 (ldVN m c t)) (dmxB m c t) y := by
  rw [outsAt0_A m c t h0 (by omega)]
  frame_out
  simp (disch := first | decide | (intro a; fin_cases a <;> rfl)) only [↓View.readCov_skip, ↓View.readCov_fill]
  clear h0
  refine canon_groups (mixAcc _ _ _) _ _ _ _ _ _ _ _ _ _ _ _ _ _ _ _ _ ?_ ?_ ?_ ?_ ?_ ?_ ?_ ?_ y
  all_goals (intro z y e0 e1 e2; exact dws_core _ _ _ _ _ _ _ _ (by decide) (by decide) e0 e1 e2 rfl (ld_group _ _ _ (by decide)))

theorem dws_next (t : Fin cfg0.N) (h0 : ¬ t.val % 32 = 0) (y : S8x128x128.Idx) :
    ((outsAt0 m c t.val t.isLt).2.2.2.1 : FVec Ideal S8x128x128 .f32) y
      = mixAcc (outsAt0 m c (t.val - 1) (by omega)).2.2.2.1 (k0_pay26 (ldVN m c t)) (dmxB m c t) y := by
  by_cases h1 : t.val % 32 = 31
  · rw [outsAt0_C m c t h0 h1]
    frame_out
    try simp only [read_unread_whole]
    clear h0 h1
    canon_tiles y h
    all_goals exact dws_core _ _ _ _ _ _ _ _ (by decide) (by decide) (by omega) (by omega) (by omega) rfl (ld_group _ _ _ (by decide))
  · rw [outsAt0_B m c t h0 h1]
    frame_out
    try simp only [read_unread_whole]
    clear h0 h1
    canon_tiles y h
    all_goals exact dws_core _ _ _ _ _ _ _ _ (by decide) (by decide) (by omega) (by omega) (by omega) rfl (ld_group _ _ _ (by decide))

/-! ## The mixing's bias -/

/-- The sum of one group's columns, repeated along the group. -/
theorem dbs_core (A : FVec Ideal S128x128 .f32) (a b : Fin 128) : (k0_pay1 A : FVec Ideal S128x128 .f32) (ix2 a b) = ∑ x : Fin 128, (A (ix2 a x) : EReal) := by
  pointwise [k0_pay1]

/-- That sum, where the columns are read from what was just stored. -/
theorem dbs_piece {sig : RefSig} (T : FVec Ideal S128x1024 .f32) (v : View sig .tc .vmem S128x1024 .f32) (i : _) (cc : ℕ) (o : ∀ a : Fin 2, (![0, cc] : Fin 2 → ℕ) a + (![128, 128] : Fin 2 → ℕ) a ≤ S128x1024.size a) (y : S128x1024.Idx) (z : S128x128.Idx)
    (h0 : (y 0).val = (z 0).val) (h1 : (y 1).val = cc + (z 1).val) (hc : cc % 128 = 0) :
    (k0_pay1 (v.readCov [(⟨Rect.unit (s := S128x1024) ![0, 0] ![128, 1024] i, T⟩ : View.Piece (Elt Ideal) S128x1024 .f32)] (Rect.unit (s := S128x1024) ![0, cc] ![128, 128] o).toLoadRect) : FVec Ideal S128x128 .f32) z
      = ∑ x : Fin 128, (T (ix2 (y 0) (ch (grp (y 1)) x)) : EReal) := by
  have e : (z : S128x128.Idx) = ix2 (z 0) (z 1) := funext fun a => by fin_cases a <;> rfl
  have hz1 : (z 1).val < 128 := (z 1).isLt
  have hy1 : (y 1).val < 1024 := (y 1).isLt
  refine ((congrArg (k0_pay1 (F := Ideal) _ : S128x128.Idx → EReal) e).trans (dbs_core _ (z 0) (z 1))).trans ?_
  refine Finset.sum_congr rfl fun x _ => ?_
  rw [View.readCov_eq_canon']
  refine (congrFun (View.canon_cons_unit_lit (Val := Elt Ideal) (e := .f32) i T [] (by intro a; fin_cases a <;> rfl)) ((Rect.unit (s := S128x1024) ![0, cc] ![128, 128] o).idx (ix2 (z 0) x))).trans ?_
  refine congrArg T (funext fun d => Fin.ext ?_)
  rcases d with ⟨_ | _ | d, hd⟩
  · show 0 + 1 * (z 0).val = (y 0).val
    omega
  · show cc + 1 * x.val = (y 1).val / 128 * 128 + x.val
    omega
  · exact absurd hd (by simp)

theorem dbs_last (t : Fin cfg0.N) (h1 : t.val % 32 = 31) (y : S128x1024.Idx) :
    ((outsAt0 m c t.val t.isLt).2.2.2.2.1 : FVec Ideal S128x1024 .f32) y
      = ∑ x : Fin 128, (((outsAt0 m c t.val t.isLt).2.2.2.2.2.2.2.2 : FVec Ideal S128x1024 .f32) (ix2 (y 0) (ch (grp (y 1)) x)) : EReal) := by
  rw [outsAt0_C m c t (by omega) h1]
  frame_out
  try simp only [read_unread_whole]
  clear h1
  canon_tiles y h
  all_goals exact dbs_piece _ _ _ _ _ _ _ (by omega) (by omega) (by rfl)

namespace At

variable {m : (ℓ : Loc nD τ sig) → Buf (Elt Ideal) ℓ} {c : Dev nD}
variable {k : Saved} {dm : Tok} {cw : Fin 3 → Fin 1024 → ℝ} {lng : Fin 1024 → ℝ} {ws : Fin 8 → Fin 128 → Fin 128 → ℝ} {R : ℕ} {t : Fin cfg0.N}
variable (h : At m c k dm cw lng ws R t)

include h

theorem acc_first (h0 : t.val % 32 = 0) (a : Fin 128) (q : Fin 1024) : ((outsAt0 m c t.val t.isLt).2.2.2.2.2.2.2.2 : FVec Ideal S128x1024 .f32) (ix2 a q)
    = ((k0_pay12 (F := Ideal) : FVec Ideal S128x1024 .f32) (ix2 a q) : EReal) + ((dbsAdd 2 k dm R a q : ℝ) : EReal) := by
  rw [outsAt0_A m c t h0 (by omega)]
  frame_out
  try simp (disch := first | decide | (intro a; fin_cases a <;> rfl)) only [↓View.readCov_skip, ↓View.readCov_fill]
  exact acc_dbs h.sb h.u h.dm _ a q

theorem acc_next (h0 : ¬ t.val % 32 = 0) (a : Fin 128) (q : Fin 1024) : ((outsAt0 m c t.val t.isLt).2.2.2.2.2.2.2.2 : FVec Ideal S128x1024 .f32) (ix2 a q)
    = (((outsAt0 m c (t.val - 1) (by omega)).2.2.2.2.2.2.2.2 : FVec Ideal S128x1024 .f32) (ix2 a q) : EReal) + ((dbsAdd 2 k dm R a q : ℝ) : EReal) := by
  by_cases h1 : t.val % 32 = 31
  · rw [outsAt0_C m c t h0 h1]
    frame_out
    try simp only [read_unread_whole]
    exact acc_dbs h.sb h.u h.dm _ a q
  · rw [outsAt0_B m c t h0 h1]
    frame_out
    try simp only [read_unread_whole]
    exact acc_dbs h.sb h.u h.dm _ a q

end At

/-! ## The rows of the projection's cotangent -/

theorem piece_at (f : Fin 7 → Tok) (R : ℕ) (j : Fin 7) (A : FVec Ideal S256x1024 .bf16) (hA : Blk (f j) R A) (y : S256x7168.Idx) (z : S256x1024.Idx) (cc : ℕ)
    (h0 : (y 0).val = (z 0).val) (h1 : (y 1).val = cc + (z 1).val) (hc : cc = j.val * 1024) :
    A z = ((side f (bb (R + (y 0).val)) (ss (R + (y 0).val)) (y 1) : ℝ) : EReal) := by
  have e : (z : S256x1024.Idx) = ix2 (z 0) (z 1) := funext fun a => by fin_cases a <;> rfl
  have hz1 : (z 1).val < 1024 := (z 1).isLt
  refine (congrArg A e).trans ((hA (z 0) (z 1)).trans (congrArg (fun x : ℝ => (x : EReal)) ?_))
  unfold side
  have ej : j = ⟨(y 1).val / 1024, by have : (y 1).val < 7168 := (y 1).isLt; omega⟩ := Fin.ext (by show j.val = (y 1).val / 1024; omega)
  have eq : z 1 = (⟨(y 1).val % 1024, by omega⟩ : Fin 1024) := Fin.ext (by show (z 1).val = (y 1).val % 1024; omega)
  rw [h0]
  exact congrArg₂ (fun (i : Fin 7) (q : Fin 1024) => f i (bb (R + (z 0).val)) (ss (R + (z 0).val)) q) ej eq

namespace At

variable {m : (ℓ : Loc nD τ sig) → Buf (Elt Ideal) ℓ} {c : Dev nD}
variable {k : Saved} {dm : Tok} {cw : Fin 3 → Fin 1024 → ℝ} {lng : Fin 1024 → ℝ} {ws : Fin 8 → Fin 128 → Fin 128 → ℝ} {R : ℕ} {t : Fin cfg0.N}
variable (h : At m c k dm cw lng ws R t)

include h

theorem dp_first (h0 : t.val % 32 = 0) (y : S256x7168.Idx) : ((outsAt0 m c t.val t.isLt).1 : FVec Ideal S256x7168 .bf16) y
    = ((side (parts k dm cw lng ws) (bb (R + (y 0).val)) (ss (R + (y 0).val)) (y 1) : ℝ) : EReal) := by
  have hn := h.next k0_pay14 (fun h4 => absurd (by omega) h4)
  have hr := h.mod
  rw [outsAt0_A m c t h0 (by omega)]
  frame_out
  rw [readCov_scr _ _ (tile (iblk m c 5 t) (dmxB m c t)) _ ?hh]
  case hh =>
    clear h h0 hn hr y
    intro z
    canon_tiles z h
    all_goals first | exact tile_core _ _ _ _ _ _ _ _ _ (by omega) (by omega) rfl rfl | exact tile_core _ _ _ _ _ _ _ slices_S256x1024_o128_128_S128x128 _ (by omega) (by omega) rfl rfl
  have q1 := up1_at _ _ hr _ h.dcvB hn
  have q2 := up2_at _ _ hr _ h.dcvB hn
  have p0 := blk_db h.sa h.cv h.dm
  have p1 := blk_dc h.xi h.cw h.dcvB q1 q2
  have p2 := blk_dxi h.cc h.cw h.dcvB q1 q2
  have p3 := blk_du h.sb h.mx h.dm
  have p4 := blk_dv h.v h.lng _ _ h.dvn
  have p5 := blk_dga h.b h.sa h.cv h.dm
  have p6 := blk_dgb h.sb h.u h.mx h.dm
  clear q1 q2 hn h0
  clear h
  canon_tiles y e
  · exact piece_at _ R 4 _ p4 _ _ _ (by omega) (by omega) rfl
  · exact piece_at _ R 3 _ p3 _ _ _ (by omega) (by omega) rfl
  · exact piece_at _ R 2 _ p2 _ _ _ (by omega) (by omega) rfl
  · exact piece_at _ R 1 _ p1 _ _ _ (by omega) (by omega) rfl
  · exact piece_at _ R 0 _ p0 _ _ 0 (by omega) (by omega) rfl
  · exact piece_at _ R 6 _ p6 _ _ _ (by omega) (by omega) rfl
  · exact piece_at _ R 5 _ p5 _ _ _ (by omega) (by omega) rfl

theorem dp_next (h0 : ¬ t.val % 32 = 0)
    (hX : ¬ t.val % 8 = 0 → ∀ r q, ((outsAt0 m c (t.val - 1) (by omega)).2.2.2.2.2.2.2.1 : FVec Ideal S8x1024 .f32) (ix2 r q) = ((k.dcv dm (bb (R + 256 + r.val)) (ss (R + 256 + r.val)) q : ℝ) : EReal))
    (y : S256x7168.Idx) : ((outsAt0 m c t.val t.isLt).1 : FVec Ideal S256x7168 .bf16) y
    = ((side (parts k dm cw lng ws) (bb (R + (y 0).val)) (ss (R + (y 0).val)) (y 1) : ℝ) : EReal) := by
  have hn := h.next _ hX
  have hr := h.mod
  have q1 := up1_at _ _ hr _ h.dcvB hn
  have q2 := up2_at _ _ hr _ h.dcvB hn
  have p0 := blk_db h.sa h.cv h.dm
  have p1 := blk_dc h.xi h.cw h.dcvB q1 q2
  have p2 := blk_dxi h.cc h.cw h.dcvB q1 q2
  have p3 := blk_du h.sb h.mx h.dm
  have p4 := blk_dv h.v h.lng _ _ h.dvn
  have p5 := blk_dga h.b h.sa h.cv h.dm
  have p6 := blk_dgb h.sb h.u h.mx h.dm
  clear q1 q2 hn hX h
  by_cases h1 : t.val % 32 = 31
  · rw [outsAt0_C m c t h0 h1]
    frame_out
    try simp only [read_unread_whole]
    rw [readCov_scr _ _ (tile (iblk m c 5 t) (dmxB m c t)) _ ?hh]
    case hh =>
      clear h0 h1 y
      intro z
      canon_tiles z h
      all_goals first | exact tile_core _ _ _ _ _ _ _ _ _ (by omega) (by omega) rfl rfl | exact tile_core _ _ _ _ _ _ _ slices_S256x1024_o128_128_S128x128 _ (by omega) (by omega) rfl rfl
    clear h0 h1
    canon_tiles y e
    · exact piece_at _ R 4 _ p4 _ _ _ (by omega) (by omega) rfl
    · exact piece_at _ R 3 _ p3 _ _ _ (by omega) (by omega) rfl
    · exact piece_at _ R 2 _ p2 _ _ _ (by omega) (by omega) rfl
    · exact piece_at _ R 1 _ p1 _ _ _ (by omega) (by omega) rfl
    · exact piece_at _ R 0 _ p0 _ _ 0 (by omega) (by omega) rfl
    · exact piece_at _ R 6 _ p6 _ _ _ (by omega) (by omega) rfl
    · exact piece_at _ R 5 _ p5 _ _ _ (by omega) (by omega) rfl
  · rw [outsAt0_B m c t h0 h1]
    frame_out
    try simp only [read_unread_whole]
    rw [readCov_scr _ _ (tile (iblk m c 5 t) (dmxB m c t)) _ ?hh]
    case hh =>
      clear h0 h1 y
      intro z
      canon_tiles z h
      all_goals first | exact tile_core _ _ _ _ _ _ _ _ _ (by omega) (by omega) rfl rfl | exact tile_core _ _ _ _ _ _ _ slices_S256x1024_o128_128_S128x128 _ (by omega) (by omega) rfl rfl
    clear h0 h1
    canon_tiles y e
    · exact piece_at _ R 4 _ p4 _ _ _ (by omega) (by omega) rfl
    · exact piece_at _ R 3 _ p3 _ _ _ (by omega) (by omega) rfl
    · exact piece_at _ R 2 _ p2 _ _ _ (by omega) (by omega) rfl
    · exact piece_at _ R 1 _ p1 _ _ _ (by omega) (by omega) rfl
    · exact piece_at _ R 0 _ p0 _ _ 0 (by omega) (by omega) rfl
    · exact piece_at _ R 6 _ p6 _ _ _ (by omega) (by omega) rfl
    · exact piece_at _ R 5 _ p5 _ _ _ (by omega) (by omega) rfl

end At

end Cert.Kernel3Ideal.Point

end
-- ==== Proof.FuseHost.lean ====
module

public import proofs.«01_k».proof.Proof.FuseDp
public import proofs.«01_k».proof.Proof.MixHost
public import proofs.«01_k».proof.Proof.MixRef
public import Idealize.ShloMosaic.Lib.StableHlo.ReadAt

@[expose] public section

set_option maxRecDepth 16384

/-! The arrays that the host prepares for the fused call (as `MixHost` for the call alone), and the blocks of them that a grid point reads.
The ten saved arrays stand side by side in one; each is the array of the same name in the reference. -/

noncomputable section

open Idealize.ShloMosaic Idealize.ShloMosaic.TcCoe Idealize.SL.Sem

namespace Cert.Kernel3Ideal.Point

open Cert.Kernel3Ideal Cert.Kernel3Ideal.Gen Cert.Reals Cert.Mix
open Cert.Kernel2Ideal.Point (r8 join join_at)
open Cert.Reference2Ideal.Read (val_main_v17 val_main_v18 val_main_v19 val_main_v20 val_main_v21 val_main_v47 val_main_v73 val_main_v85 val_main_v92 val_main_v102 val_main_v109)

variable (m : (ℓ : Loc nD τ sig) → Buf (Elt Ideal) ℓ) (c : Dev nD)

theorem idx : ∀ t : Fin cfg0.N, (win0_0.index t 0 = 31 - t.val ∧ win0_0.index t 1 = 0)
    ∧ (win0_1.index t 0 = 31 - t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0 ∧ win0_5.index t 2 = 0)
    ∧ (win0_9.index t 0 = 31 - t.val ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0 ∧ win0_12.index t 2 = 0)
    ∧ (win0_13.index t 0 = 0 ∧ win0_13.index t 1 = 0) :=
  (by decide +kernel : ∀ t : Fin grid0.N, _)

/-- A host array as it stands where the saved columns are put together. -/
abbrev H (r : Ref sig .tc) : Buf (Elt Ideal) ((c : Thread nD τ).loc r) :=
  StableHlo.upto [hostOps0, hostOps0_1, hostOps0_2, hostOps0_3, hostOps0_4, hostOps0_5, hostOps0_6].flatten (fun b => m (c, b)) 115 (Proc.tc.devRef r)

variable {x0 : FVec Ideal S4x2048x1024 .f32} {x1 : FVec Ideal S1024 .f32} {x2 : FVec Ideal S1024x7168 .f32} {x3 : FVec Ideal S3x1024 .f32}
  {x4 x5 : FVec Ideal S1024 .f32} {x6 : FVec Ideal S8x128x128 .f32} {x7 : FVec Ideal S8x128 .f32} {x8 : FVec Ideal S1024x1024 .f32} {x9 : FVec Ideal S4x2048x1024 .f32}

/-- The ten arguments as the memory holds them. -/
structure Args (x0 : FVec Ideal S4x2048x1024 .f32) (x1 : FVec Ideal S1024 .f32) (x2 : FVec Ideal S1024x7168 .f32) (x3 : FVec Ideal S3x1024 .f32)
    (x4 x5 : FVec Ideal S1024 .f32) (x6 : FVec Ideal S8x128x128 .f32) (x7 : FVec Ideal S8x128 .f32) (x8 : FVec Ideal S1024x1024 .f32) (x9 : FVec Ideal S4x2048x1024 .f32) : Prop where
  e0 : m ((c : Thread nD τ).loc main_arg0) = x0
  e1 : m ((c : Thread nD τ).loc main_arg1) = x1
  e2 : m ((c : Thread nD τ).loc main_arg2) = x2
  e3 : m ((c : Thread nD τ).loc main_arg3) = x3
  e4 : m ((c : Thread nD τ).loc main_arg4) = x4
  e5 : m ((c : Thread nD τ).loc main_arg5) = x5
  e6 : m ((c : Thread nD τ).loc main_arg6) = x6
  e7 : m ((c : Thread nD τ).loc main_arg7) = x7
  e8 : m ((c : Thread nD τ).loc main_arg8) = x8
  e9 : m ((c : Thread nD τ).loc main_arg9) = x9

variable {m c} (e : Args m c x0 x1 x2 x3 x4 x5 x6 x7 x8 x9)

section
include e

theorem kept_b : (H m c main_v14 : FVec Ideal S4x2048x1024 .f32) = val_main_v17 (F := Ideal) x0 x1 x2 := by
  obtain ⟨rfl, rfl, rfl, rfl, rfl, rfl, rfl, rfl, rfl, rfl⟩ := e
  unfold H; after_reads_simp; rfl
theorem kept_c : (H m c main_v15 : FVec Ideal S4x2048x1024 .f32) = val_main_v18 (F := Ideal) x0 x1 x2 := by
  obtain ⟨rfl, rfl, rfl, rfl, rfl, rfl, rfl, rfl, rfl, rfl⟩ := e
  unfold H; after_reads_simp; rfl
theorem kept_xi : (H m c main_v16 : FVec Ideal S4x2048x1024 .f32) = val_main_v19 (F := Ideal) x0 x1 x2 := by
  obtain ⟨rfl, rfl, rfl, rfl, rfl, rfl, rfl, rfl, rfl, rfl⟩ := e
  unfold H; after_reads_simp; rfl
theorem kept_u : (H m c main_v17 : FVec Ideal S4x2048x1024 .f32) = val_main_v20 (F := Ideal) x0 x1 x2 := by
  obtain ⟨rfl, rfl, rfl, rfl, rfl, rfl, rfl, rfl, rfl, rfl⟩ := e
  unfold H; after_reads_simp; rfl
theorem kept_v : (H m c main_v18 : FVec Ideal S4x2048x1024 .f32) = val_main_v21 (F := Ideal) x0 x1 x2 := by
  obtain ⟨rfl, rfl, rfl, rfl, rfl, rfl, rfl, rfl, rfl, rfl⟩ := e
  unfold H; after_reads_simp; rfl
theorem kept_cv : (H m c main_v65 : FVec Ideal S4x2048x1024 .f32) = val_main_v47 (F := Ideal) x0 x1 x2 x3 := by
  obtain ⟨rfl, rfl, rfl, rfl, rfl, rfl, rfl, rfl, rfl, rfl⟩ := e
  unfold H; after_reads_simp; rfl
theorem kept_mx : (H m c main_v77 : FVec Ideal S4x2048x1024 .f32) = val_main_v85 (F := Ideal) x0 x1 x2 x4 x5 x6 x7 := by
  obtain ⟨rfl, rfl, rfl, rfl, rfl, rfl, rfl, rfl, rfl, rfl⟩ := e
  unfold H; after_reads_simp; rfl
theorem kept_vn : (H m c main_v42 : FVec Ideal S4x2048x1024 .f32) = val_main_v73 (F := Ideal) x0 x1 x2 x4 x5 := by
  obtain ⟨rfl, rfl, rfl, rfl, rfl, rfl, rfl, rfl, rfl, rfl⟩ := e
  unfold H; after_reads_simp; rfl
theorem kept_sa : (H m c main_v83 : FVec Ideal S4x2048x1024 .f32) = val_main_v92 (F := Ideal) x0 x1 x2 := by
  obtain ⟨rfl, rfl, rfl, rfl, rfl, rfl, rfl, rfl, rfl, rfl⟩ := e
  unfold H; after_reads_simp; rfl
theorem kept_sb : (H m c main_v89 : FVec Ideal S4x2048x1024 .f32) = val_main_v102 (F := Ideal) x0 x1 x2 := by
  obtain ⟨rfl, rfl, rfl, rfl, rfl, rfl, rfl, rfl, rfl, rfl⟩ := e
  unfold H; after_reads_simp; rfl

end

variable (m c)

/-- The ten saved arrays, in the order of their columns. -/
def kept : Fin 10 → FVec Ideal S4x2048x1024 .f32 :=
  ![H m c main_v14, H m c main_v15, H m c main_v16, H m c main_v17, H m c main_v18, H m c main_v65, H m c main_v77, H m c main_v42, H m c main_v83, H m c main_v89]

theorem host_join : (V m c main_v92 : FVec Ideal S8192x10240 .bf16) = join (kept m c) := by
  unfold V; after_reads_simp; unfold kept H
  generalize StableHlo.upto [hostOps0, hostOps0_1, hostOps0_2, hostOps0_3, hostOps0_4, hostOps0_5, hostOps0_6].flatten (fun b => m (c, b)) 115 = U
  rfl

theorem host_kept (r : Fin 8192) (l : Fin 10240) : (V m c main_v92 : FVec Ideal S8192x10240 .bf16) (ix2 r l)
    = kept m c (⟨l.val / 1024, by omega⟩ : Fin 10) (ix3 (⟨r.val / 2048, by omega⟩ : Fin 4) (⟨r.val % 2048, by omega⟩ : Fin 2048) (⟨l.val % 1024, by omega⟩ : Fin 1024)) :=
  (congrFun (host_join m c) _).trans (join_at _ r l)

theorem host_dx (r : Fin 8192) (q : Fin 1024) : (V m c main_v93 : FVec Ideal S8192x1024 .f32) (ix2 r q)
    = m ((c : Thread nD τ).loc main_arg9) (ix3 (⟨r.val / 2048, by omega⟩ : Fin 4) (⟨r.val % 2048, by omega⟩ : Fin 2048) q) := by
  unfold V; after_reads_simp; pointwise

theorem host_wout (r q : Fin 1024) : (V m c main_v94 : FVec Ideal S1024x1024 .bf16) (ix2 r q) = m ((c : Thread nD τ).loc main_arg8) (ix2 r q) := by
  unfold V; after_reads_simp; pointwise

theorem host_cw (j : Fin 3) (q : Fin 1024) : (V m c main_v95 : FVec Ideal S8x1024 .f32) (ix2 (r8 j) q) = m ((c : Thread nD τ).loc main_arg3) (ix2 j q) := by
  unfold V; after_reads_simp
  change pad S8x1024 ![0, 0] ![5, 0] ![0, 0] (m ((c : Thread nD τ).loc main_arg3) : FVec Ideal S3x1024 .f32) (sitofp (F := Ideal) .f32 (constantI S_ 32 0#32)) pads_S3x1024_S8x1024_050_000 h_S_ (ix2 (r8 j) q) = _
  pointwise
  refine (dif_pos fun a => ?_).trans rfl
  match a with
  | ⟨0, _⟩ => exact ⟨Nat.zero_le _, Nat.mod_one _, by show (j.val - 0) / 1 < 3; omega⟩
  | ⟨1, _⟩ => exact ⟨Nat.zero_le _, Nat.mod_one _, by show (q.val - 0) / 1 < 1024; omega⟩

theorem host_lng (q : Fin 1024) : (V m c main_v96 : FVec Ideal S1x1024 .f32) (ix2 0 q) = m ((c : Thread nD τ).loc main_arg4) (ix1 q) := by
  unfold V; after_reads_simp; pointwise

theorem host_ws (g : Fin 8) (s j : Fin 128) : (V m c main_v97 : FVec Ideal S8x128x128 .f32) (ix3 g s j) = m ((c : Thread nD τ).loc main_arg6) (ix3 g j s) := by
  unfold V; after_reads_simp; pointwise

theorem blk_dx (t : Fin cfg0.N) (p : Fin 256) (q : Fin 1024) (r : Fin 8192) (hr : r.val = (31 - t.val) * 256 + p.val) :
    (iblk m c 0 t : FVec Ideal S256x1024 .f32) (ix2 p q) = (V m c main_v93 : FVec Ideal S8192x1024 .f32) (ix2 r q) := by
  obtain ⟨⟨e0, e1⟩, -⟩ := idx t
  unfold iblk; blk_simp; blk_ext
  all_goals first | (rw [e0]; exact hr.symm) | (rw [e1]; omega)

theorem blk_kept (t : Fin cfg0.N) (p : Fin 256) (l : Fin 10240) (r : Fin 8192) (hr : r.val = (31 - t.val) * 256 + p.val) :
    (iblk m c 1 t : FVec Ideal S256x10240 .bf16) (ix2 p l) = (V m c main_v92 : FVec Ideal S8192x10240 .bf16) (ix2 r l) := by
  obtain ⟨-, ⟨e0, e1⟩, -⟩ := idx t
  unfold iblk; blk_simp; blk_ext
  all_goals first | (rw [e0]; exact hr.symm) | (rw [e1]; omega)

theorem blk_wout (t : Fin cfg0.N) (r q : Fin 1024) :
    (iblk m c 2 t : FVec Ideal S1024x1024 .bf16) (ix2 r q) = (V m c main_v94 : FVec Ideal S1024x1024 .bf16) (ix2 r q) := by
  obtain ⟨-, -, ⟨e0, e1⟩, -⟩ := idx t
  unfold iblk; blk_simp; blk_ext
  all_goals first | (rw [e0]; omega) | (rw [e1]; omega)

theorem blk_cw (t : Fin cfg0.N) (r : Fin 8) (q : Fin 1024) :
    (iblk m c 3 t : FVec Ideal S8x1024 .f32) (ix2 r q) = (V m c main_v95 : FVec Ideal S8x1024 .f32) (ix2 r q) := by
  obtain ⟨-, -, -, ⟨e0, e1⟩, -⟩ := idx t
  unfold iblk; blk_simp; blk_ext
  all_goals first | (rw [e0]; omega) | (rw [e1]; omega)

theorem blk_lng (t : Fin cfg0.N) (z : Fin 1) (q : Fin 1024) :
    (iblk m c 4 t : FVec Ideal S1x1024 .f32) (ix2 z q) = (V m c main_v96 : FVec Ideal S1x1024 .f32) (ix2 z q) := by
  obtain ⟨-, -, -, -, ⟨e0, e1⟩, -⟩ := idx t
  unfold iblk; blk_simp; blk_ext
  all_goals first | (rw [e0]; omega) | (rw [e1]; omega)

theorem blk_wst (t : Fin cfg0.N) (g : Fin 8) (s j : Fin 128) :
    (iblk m c 5 t : FVec Ideal S8x128x128 .f32) (ix3 g s j) = (V m c main_v97 : FVec Ideal S8x128x128 .f32) (ix3 g s j) := by
  obtain ⟨-, -, -, -, -, ⟨e0, e1, e2⟩, -⟩ := idx t
  unfold iblk; blk_simp; blk_ext
  all_goals first | (rw [e0]; omega) | (rw [e1]; omega) | (rw [e2]; omega)

theorem idx_tail : ∀ t : Fin cfg0.N, (win0_6.index t 0 = 0 ∧ win0_6.index t 1 = 0 ∧ win0_6.index t 2 = 0)
    ∧ (win0_7.index t 0 = 31 - t.val ∧ win0_7.index t 1 = 0) ∧ (win0_8.index t 0 = 0 ∧ win0_8.index t 1 = 0)
    ∧ (win0_14.index t 0 = 31 - t.val ∧ win0_14.index t 1 = 0) ∧ (win0_15.index t 0 = 0 ∧ win0_15.index t 1 = 0) :=
  (by decide +kernel : ∀ t : Fin grid0.N, _)

theorem host_win (i : Fin 8) (q : Fin 1024) (k : Fin 896) : (V m c main_v100 : FVec Ideal S8x1024x896 .bf16) (ix3 i q k)
    = m ((c : Thread nD τ).loc main_arg2) (ix2 q (⟨i.val * 896 + k.val, by omega⟩ : Fin 7168)) := by
  unfold V; after_reads_simp; pointwise

theorem host_x0 (r : Fin 8192) (q : Fin 1024) : (V m c main_v101 : FVec Ideal S8192x1024 .f32) (ix2 r q)
    = m ((c : Thread nD τ).loc main_arg0) (ix3 (⟨r.val / 2048, by omega⟩ : Fin 4) (⟨r.val % 2048, by omega⟩ : Fin 2048) q) := by
  unfold V; after_reads_simp; pointwise

theorem host_g (q : Fin 1024) : (V m c main_v102 : FVec Ideal S1x1024 .f32) (ix2 0 q) = m ((c : Thread nD τ).loc main_arg1) (ix1 q) := by
  unfold V; after_reads_simp; pointwise

theorem blk_win (t : Fin cfg0.N) (i : Fin 8) (q : Fin 1024) (k : Fin 896) :
    (iblk m c 6 t : FVec Ideal S8x1024x896 .bf16) (ix3 i q k) = (V m c main_v100 : FVec Ideal S8x1024x896 .bf16) (ix3 i q k) := by
  obtain ⟨⟨e0, e1, e2⟩, -⟩ := idx_tail t
  unfold iblk; blk_simp; blk_ext
  all_goals first | (rw [e0]; omega) | (rw [e1]; omega) | (rw [e2]; omega)

theorem blk_x0 (t : Fin cfg0.N) (p : Fin 256) (q : Fin 1024) (r : Fin 8192) (hr : r.val = (31 - t.val) * 256 + p.val) :
    (iblk m c 7 t : FVec Ideal S256x1024 .f32) (ix2 p q) = (V m c main_v101 : FVec Ideal S8192x1024 .f32) (ix2 r q) := by
  obtain ⟨-, ⟨e0, e1⟩, -⟩ := idx_tail t
  unfold iblk; blk_simp; blk_ext
  all_goals first | (rw [e0]; exact hr.symm) | (rw [e1]; omega)

theorem blk_g (t : Fin cfg0.N) (z : Fin 1) (q : Fin 1024) :
    (iblk m c 8 t : FVec Ideal S1x1024 .f32) (ix2 z q) = (V m c main_v102 : FVec Ideal S1x1024 .f32) (ix2 z q) := by
  obtain ⟨-, -, ⟨e0, e1⟩, -⟩ := idx_tail t
  unfold iblk; blk_simp; blk_ext
  all_goals first | (rw [e0]; omega) | (rw [e1]; omega)

/-! ## A block of a saved array -/

theorem kept_blk (f : Tok) (j : Fin 10) (hf : ∀ b s q, kept m c j (ix3 b s q) = ((f b s q : ℝ) : EReal)) (t : Fin cfg0.N) (o : ℕ) (inb : _) (ho : o = j.val * 1024) :
    Blk f ((31 - t.val) * 256) (View.ld (Val := Elt Ideal) (e' := .bf16) (iblk m c 1 t) (Rect.unit (s := S256x10240) ![0, o] ![256, 1024] inb) : FVec Ideal S256x1024 .bf16) := by
  subst ho
  intro p q
  have ht : t.val < 32 := t.isLt
  have el : (View.ld (Val := Elt Ideal) (e' := .bf16) (iblk m c 1 t) (Rect.unit (s := S256x10240) ![0, j.val * 1024] ![256, 1024] inb) : FVec Ideal S256x1024 .bf16) (ix2 p q)
      = (iblk m c 1 t : FVec Ideal S256x10240 .bf16) (ix2 p (⟨j.val * 1024 + q.val, by omega⟩ : Fin 10240)) := by
    refine congrArg (iblk m c 1 t : FVec Ideal S256x10240 .bf16) (funext fun d => Fin.ext ?_)
    rcases d with ⟨_ | _ | d, hd⟩
    · show 0 + 1 * p.val = p.val
      omega
    · show j.val * 1024 + 1 * q.val = j.val * 1024 + q.val
      omega
    · exact absurd hd (by show ¬ d + 2 < 2; omega)
  rw [el, blk_kept m c t p _ ⟨(31 - t.val) * 256 + p.val, by omega⟩ rfl, host_kept]
  refine Eq.trans (congrArg₂ (fun a i => kept m c a i) (Fin.ext ?_) ?_) (hf _ _ _)
  · show (j.val * 1024 + q.val) / 1024 = j.val
    omega
  · refine congr (congrArg₂ ix3 (Fin.ext ?_) (Fin.ext rfl)) (Fin.ext ?_)
    · show ((31 - t.val) * 256 + p.val) / 2048 = ((31 - t.val) * 256 + p.val) / 2048 % 4
      omega
    · show (j.val * 1024 + q.val) % 1024 = q.val
      omega

theorem dm_blk (dm : Tok) (e : Args m c x0 x1 x2 x3 x4 x5 x6 x7 x8 x9)
    (hd : ∀ b s q, val_main_v109 (F := Ideal) x8 x9 (ix3 b s q) = ((dm b s q : ℝ) : EReal)) (t : Fin cfg0.N) : Blk dm ((31 - t.val) * 256) (dmB m c t) := by
  intro p q
  have ht : t.val < 32 := t.isLt
  refine Eq.trans ?_ (hd _ _ _)
  unfold dmB
  pointwise [k0_pay30, val_main_v109]
  refine Finset.sum_congr rfl fun x _ => ?_
  rw [blk_dx m c t p x ⟨(31 - t.val) * 256 + p.val, by omega⟩ rfl, blk_wout, host_dx, host_wout, e.e8, e.e9]
  refine congrArg₂ (· * ·) (congrArg x9 (congrArg₂ (fun a b => ix3 a b x) (Fin.ext ?_) (Fin.ext rfl))) rfl
  show ((31 - t.val) * 256 + p.val) / 2048 = ((31 - t.val) * 256 + p.val) / 2048 % 4
  omega

section
variable {k : Saved} {dm : Tok} {cw : Fin 3 → Fin 1024 → ℝ} {lng : Fin 1024 → ℝ} {ws : Fin 8 → Fin 128 → Fin 128 → ℝ}
    (e : Args m c x0 x1 x2 x3 x4 x5 x6 x7 x8 x9) (h : Cert.Reference2Ideal.Point.RefAt x0 x1 x2 x3 x4 x5 x6 x7 x8 x9 k dm cw lng ws) (t : Fin cfg0.N)
include e h

theorem blk_b : Blk k.B ((31 - t.val) * 256) (ldB m c t) :=
  kept_blk m c k.B 0 (fun b s q => (congrFun (kept_b e) (ix3 b s q)).trans (h.b b s q)) t 0 inb_S256x10240_S256x1024_0_0 rfl
theorem blk_cc : Blk k.C ((31 - t.val) * 256) (ldC m c t) :=
  kept_blk m c k.C 1 (fun b s q => (congrFun (kept_c e) (ix3 b s q)).trans (h.cc b s q)) t 1024 inb_S256x10240_S256x1024_0_1024 rfl
theorem blk_xi : Blk k.XI ((31 - t.val) * 256) (ldXI m c t) :=
  kept_blk m c k.XI 2 (fun b s q => (congrFun (kept_xi e) (ix3 b s q)).trans (h.xi b s q)) t 2048 inb_S256x10240_S256x1024_0_2048 rfl
theorem blk_u : Blk k.U ((31 - t.val) * 256) (ldU m c t) :=
  kept_blk m c k.U 3 (fun b s q => (congrFun (kept_u e) (ix3 b s q)).trans (h.u b s q)) t 3072 inb_S256x10240_S256x1024_0_3072 rfl
theorem blk_v : Blk k.V ((31 - t.val) * 256) (ldV m c t) :=
  kept_blk m c k.V 4 (fun b s q => (congrFun (kept_v e) (ix3 b s q)).trans (h.v b s q)) t 4096 inb_S256x10240_S256x1024_0_4096 rfl
theorem blk_cv : Blk k.CV ((31 - t.val) * 256) (ldCV m c t) :=
  kept_blk m c k.CV 5 (fun b s q => (congrFun (kept_cv e) (ix3 b s q)).trans (h.cv b s q)) t 5120 inb_S256x10240_S256x1024_0_5120 rfl
theorem blk_mx : Blk k.MX ((31 - t.val) * 256) (ldMX m c t) :=
  kept_blk m c k.MX 6 (fun b s q => (congrFun (kept_mx e) (ix3 b s q)).trans (h.mx b s q)) t 6144 inb_S256x10240_S256x1024_0_6144 rfl
theorem blk_vn : Blk k.VN ((31 - t.val) * 256) (ldVN m c t) :=
  kept_blk m c k.VN 7 (fun b s q => (congrFun (kept_vn e) (ix3 b s q)).trans (h.vn b s q)) t 7168 inb_S256x10240_S256x1024_0_7168 rfl
theorem blk_sa : Blk k.SA ((31 - t.val) * 256) (ldSA m c t) :=
  kept_blk m c k.SA 8 (fun b s q => (congrFun (kept_sa e) (ix3 b s q)).trans (h.sa b s q)) t 8192 inb_S256x10240_S256x1024_0_8192 rfl
theorem blk_sb : Blk k.SB ((31 - t.val) * 256) (ldSB m c t) :=
  kept_blk m c k.SB 9 (fun b s q => (congrFun (kept_sb e) (ix3 b s q)).trans (h.sb b s q)) t 9216 inb_S256x10240_S256x1024_0_9216 rfl

/-- EVERY GRID POINT READS THE FORWARD'S VALUES. -/
theorem at_point : At m c k dm cw lng ws ((31 - t.val) * 256) t where
  b := blk_b m c e h t
  cc := blk_cc m c e h t
  xi := blk_xi m c e h t
  u := blk_u m c e h t
  v := blk_v m c e h t
  cv := blk_cv m c e h t
  mx := blk_mx m c e h t
  vn := blk_vn m c e h t
  sa := blk_sa m c e h t
  sb := blk_sb m c e h t
  dm := dm_blk m c dm e h.dm t
  cw j q := by rw [blk_cw, host_cw, e.e3, h.cw]
  lng q := by rw [blk_lng, host_lng, e.e4, h.lng]
  ws g s j := by rw [blk_wst, host_ws, e.e6, h.ws]
  row := rfl
end

end Cert.Kernel3Ideal.Point
end
-- ==== Proof.FuseStream.lean ====
/-
  THE FUSED CALL'S LAST STEP: the projection's cotangent, just written block by block, times the projection's weights (eight shards,
  two at a time), and from it the gradient through the stream's norm and the gradient of the norm's weights.
-/
module

public import proofs.«01_k».proof.Proof.FuseDp
public import proofs.«01_k».proof.Proof.RefRead
public import proofs.«01_k».proof.Proof.MixValue

@[expose] public section

set_option maxRecDepth 16384

noncomputable section

open Idealize.ShloMosaic Idealize.ShloMosaic.TcCoe Idealize.SL.Sem

namespace Cert.Kernel3Ideal.Point

open Cert.Kernel3Ideal Cert.Kernel3Ideal.Gen Cert.Reals Cert.Mix
open Cert.ReferenceIdeal.Point (dn row)

/-! ## The product with the projection's weights -/

/-- Columns `j·1792 …` of the cotangent's block, and shard `i` of the weights, as they are loaded. -/
abbrev ldP0 (D : FVec Ideal S256x7168 .bf16) : FVec Ideal S256x1792 .bf16 := View.ld (Val := Elt Ideal) (e' := .bf16) D (Rect.unit (s := S256x7168) ![0, 0] S256x1792.size inb_S256x7168_S256x1792_0_0)
abbrev ldP1 (D : FVec Ideal S256x7168 .bf16) : FVec Ideal S256x1792 .bf16 := View.ld (Val := Elt Ideal) (e' := .bf16) D (Rect.unit (s := S256x7168) ![0, 1792] S256x1792.size inb_S256x7168_S256x1792_0_1792)
abbrev ldP2 (D : FVec Ideal S256x7168 .bf16) : FVec Ideal S256x1792 .bf16 := View.ld (Val := Elt Ideal) (e' := .bf16) D (Rect.unit (s := S256x7168) ![0, 3584] S256x1792.size inb_S256x7168_S256x1792_0_3584)
abbrev ldP3 (D : FVec Ideal S256x7168 .bf16) : FVec Ideal S256x1792 .bf16 := View.ld (Val := Elt Ideal) (e' := .bf16) D (Rect.unit (s := S256x7168) ![0, 5376] S256x1792.size inb_S256x7168_S256x1792_0_5376)
abbrev ldW (W : FVec Ideal S8x1024x896 .bf16) (i : ℕ) (inb : ∀ a, (![i, 0, 0] : Fin 3 → Nat) a + S1x1024x896.size a ≤ S8x1024x896.size a) : FVec Ideal S1x1024x896 .bf16 :=
  View.ld (Val := Elt Ideal) (e' := .bf16) W (Rect.unit (s := S8x1024x896) ![i, 0, 0] S1x1024x896.size inb)

/-- The first six shards' products, added. -/
abbrev three (D : FVec Ideal S256x7168 .bf16) (W : FVec Ideal S8x1024x896 .bf16) : FVec Ideal S256x1024 .f32 :=
  k0_pay109 k0_pay107 (k0_pay108 (ldW W 0 inb_S8x1024x896_S1x1024x896_0_0_0)) (ldW W 1 inb_S8x1024x896_S1x1024x896_1_0_0) (ldP0 D)
    (ldW W 2 inb_S8x1024x896_S1x1024x896_2_0_0) (ldW W 3 inb_S8x1024x896_S1x1024x896_3_0_0) (ldP1 D)
    (ldW W 4 inb_S8x1024x896_S1x1024x896_4_0_0) (ldW W 5 inb_S8x1024x896_S1x1024x896_5_0_0) (ldP2 D)
/-- The last two shards, side by side. -/
abbrev last2 (W : FVec Ideal S8x1024x896 .bf16) : FVec Ideal S1024x1792 .bf16 :=
  k0_pay110 (ldW W 6 inb_S8x1024x896_S1x1024x896_6_0_0) (ldW W 7 inb_S8x1024x896_S1x1024x896_7_0_0)

/-- One of the row's 7168 products. -/
def prod (a b : Fin 7168 → ℝ) (l : ℕ) : ℝ := a ⟨l % 7168, Nat.mod_lt _ (by decide)⟩ * b ⟨l % 7168, Nat.mod_lt _ (by decide)⟩

theorem sum_prod (a b : Fin 7168 → ℝ) : ∑ l, a l * b l = ∑ i ∈ Finset.range 4, ∑ k : Fin 1792, prod a b (i * 1792 + k.val) := by
  rw [sum_blocks 1792 (prod a b) 4, Finset.sum_range]
  refine Finset.sum_congr rfl fun l _ => ?_
  have e : (⟨l.val % 7168, Nat.mod_lt _ (by decide)⟩ : Fin 7168) = l := Fin.ext (Nat.mod_eq_of_lt l.isLt)
  unfold prod
  rw [e]

/-- One product of the body: a column block against two shards side by side. -/
theorem pair_at (A : FVec Ideal S256x1792 .bf16) (w0 w1 : FVec Ideal S1x1024x896 .bf16) (a b : Fin 7168 → ℝ) (j : ℕ) (p : Fin 256) (q : Fin 1024)
    (hA : ∀ k : Fin 1792, A (ix2 p k) = ((a ⟨(j * 1792 + k.val) % 7168, Nat.mod_lt _ (by decide)⟩ : ℝ) : EReal))
    (h0 : ∀ k : Fin 896, w0 (ix3 0 q k) = ((b ⟨(j * 1792 + k.val) % 7168, Nat.mod_lt _ (by decide)⟩ : ℝ) : EReal))
    (h1 : ∀ k : Fin 896, w1 (ix3 0 q k) = ((b ⟨(j * 1792 + (896 + k.val)) % 7168, Nat.mod_lt _ (by decide)⟩ : ℝ) : EReal)) :
    matmul (F := Ideal) dot_S256x1792_S1024x1792_S256x1024_1_1_0_0_n_n none A (k0_pay110 w0 w1) (constant S256x1024 .f32 0x00000000#32) (ix2 p q)
      = ((∑ k : Fin 1792, prod a b (j * 1792 + k.val) : ℝ) : EReal) := by
  have hB : ∀ k : Fin 1792, (k0_pay110 w0 w1 : FVec Ideal S1024x1792 .bf16) (ix2 q k) = ((b ⟨(j * 1792 + k.val) % 7168, Nat.mod_lt _ (by decide)⟩ : ℝ) : EReal) := by
    intro k
    pointwise [k0_pay110]
    by_cases h : k.val < 896
    · rw [dif_pos h]
      exact h0 ⟨k.val, h⟩
    · rw [dif_neg h]
      refine (h1 ⟨k.val - 896, by omega⟩).trans ?_
      refine congrArg (fun i => ((b i : ℝ) : EReal)) (Fin.ext ?_)
      show (j * 1792 + (896 + (k.val - 896))) % 7168 = (j * 1792 + k.val) % 7168
      omega
  generalize (k0_pay110 w0 w1 : FVec Ideal S1024x1792 .bf16) = B at hB ⊢
  pointwise
  simp only [hA, hB, ← EReal.coe_mul, ← coe_sum]
  rfl

theorem ldW_at (W : FVec Ideal S8x1024x896 .bf16) (i : ℕ) (inb : ∀ a, (![i, 0, 0] : Fin 3 → Nat) a + S1x1024x896.size a ≤ S8x1024x896.size a) (b : Fin 7168 → ℝ) (q : Fin 1024)
    (hW : ∀ (i : Fin 8) (k : Fin 896), W (ix3 i q k) = ((b ⟨i.val * 896 + k.val, by omega⟩ : ℝ) : EReal)) (k : Fin 896) (l : ℕ) (hl : i * 896 + k.val = l) (hi : i < 8) :
    ldW W i inb (ix3 0 q k) = ((b ⟨l % 7168, Nat.mod_lt _ (by decide)⟩ : ℝ) : EReal) := by
  refine (congrArg W (?_ : _ = ix3 (⟨i, hi⟩ : Fin 8) q k)).trans ((hW ⟨i, hi⟩ k).trans (congrArg (fun i => ((b i : ℝ) : EReal)) (Fin.ext ?_)))
  · refine funext fun d => Fin.ext ?_
    rcases d with ⟨_ | _ | _ | d, hd⟩
    · show i + 1 * 0 = i
      omega
    · show 0 + 1 * q.val = q.val
      omega
    · show 0 + 1 * k.val = k.val
      omega
    · exact absurd hd (by show ¬ d + 3 < 3; omega)
  · show i * 896 + k.val = l % 7168
    omega

theorem ldP_at (D : FVec Ideal S256x7168 .bf16) (o : ℕ) (inb : ∀ a, (![0, o] : Fin 2 → Nat) a + S256x1792.size a ≤ S256x7168.size a) (a : Fin 7168 → ℝ) (p : Fin 256) (hD : ∀ l, D (ix2 p l) = ((a l : ℝ) : EReal)) (ho : o ≤ 5376) (k : Fin 1792) :
    (View.ld (Val := Elt Ideal) (e' := .bf16) D (Rect.unit (s := S256x7168) ![0, o] S256x1792.size inb) : FVec Ideal S256x1792 .bf16) (ix2 p k)
      = ((a ⟨(o + k.val) % 7168, Nat.mod_lt _ (by decide)⟩ : ℝ) : EReal) := by
  refine (congrArg D (?_ : _ = ix2 p (⟨(o + k.val) % 7168, Nat.mod_lt _ (by decide)⟩ : Fin 7168))).trans (hD _)
  refine funext fun d => Fin.ext ?_
  rcases d with ⟨_ | _ | d, hd⟩
  · show 0 + 1 * p.val = p.val
    omega
  · show o + 1 * k.val = (o + k.val) % 7168
    omega
  · exact absurd hd (by show ¬ d + 2 < 2; omega)

/-- A row of the block times the weights. -/
theorem dh_at (D : FVec Ideal S256x7168 .bf16) (W : FVec Ideal S8x1024x896 .bf16) (a b : Fin 7168 → ℝ) (p : Fin 256) (q : Fin 1024)
    (hD : ∀ l, D (ix2 p l) = ((a l : ℝ) : EReal)) (hW : ∀ (i : Fin 8) (k : Fin 896), W (ix3 i q k) = ((b ⟨i.val * 896 + k.val, by omega⟩ : ℝ) : EReal)) :
    (k0_pay111 (three D W) (last2 W) (ldP3 D) : FVec Ideal S256x1024 .f32) (ix2 p q) = ((∑ l, a l * b l : ℝ) : EReal) := by
  have e0 := pair_at (ldP0 D) (ldW W 0 inb_S8x1024x896_S1x1024x896_0_0_0) (ldW W 1 inb_S8x1024x896_S1x1024x896_1_0_0) a b 0 p q
    (fun k => ldP_at D 0 _ a p hD (by omega) k) (fun k => ldW_at W 0 _ b q hW k _ (by omega) (by omega)) (fun k => ldW_at W 1 _ b q hW k _ (by omega) (by omega))
  have e1 := pair_at (ldP1 D) (ldW W 2 inb_S8x1024x896_S1x1024x896_2_0_0) (ldW W 3 inb_S8x1024x896_S1x1024x896_3_0_0) a b 1 p q
    (fun k => ldP_at D 1792 _ a p hD (by omega) k) (fun k => ldW_at W 2 _ b q hW k _ (by omega) (by omega)) (fun k => ldW_at W 3 _ b q hW k _ (by omega) (by omega))
  have e2 := pair_at (ldP2 D) (ldW W 4 inb_S8x1024x896_S1x1024x896_4_0_0) (ldW W 5 inb_S8x1024x896_S1x1024x896_5_0_0) a b 2 p q
    (fun k => ldP_at D 3584 _ a p hD (by omega) k) (fun k => ldW_at W 4 _ b q hW k _ (by omega) (by omega)) (fun k => ldW_at W 5 _ b q hW k _ (by omega) (by omega))
  have e3 := pair_at (ldP3 D) (ldW W 6 inb_S8x1024x896_S1x1024x896_6_0_0) (ldW W 7 inb_S8x1024x896_S1x1024x896_7_0_0) a b 3 p q
    (fun k => ldP_at D 5376 _ a p hD (by omega) k) (fun k => ldW_at W 6 _ b q hW k _ (by omega) (by omega)) (fun k => ldW_at W 7 _ b q hW k _ (by omega) (by omega))
  have s : ∀ (A0 A1 A2 A3 : FVec Ideal S256x1792 .bf16) (w0 w1 w2 w3 w4 w5 w6 w7 : FVec Ideal S1x1024x896 .bf16),
      (k0_pay111 (k0_pay109 k0_pay107 (k0_pay108 w0) w1 A0 w2 w3 A1 w4 w5 A2) (k0_pay110 w6 w7) A3 : FVec Ideal S256x1024 .f32) (ix2 p q)
        = (matmul (F := Ideal) dot_S256x1792_S1024x1792_S256x1024_1_1_0_0_n_n none A0 (k0_pay110 w0 w1) (constant S256x1024 .f32 0x00000000#32) (ix2 p q) : EReal)
          + matmul (F := Ideal) dot_S256x1792_S1024x1792_S256x1024_1_1_0_0_n_n none A1 (k0_pay110 w2 w3) (constant S256x1024 .f32 0x00000000#32) (ix2 p q)
          + matmul (F := Ideal) dot_S256x1792_S1024x1792_S256x1024_1_1_0_0_n_n none A2 (k0_pay110 w4 w5) (constant S256x1024 .f32 0x00000000#32) (ix2 p q)
          + matmul (F := Ideal) dot_S256x1792_S1024x1792_S256x1024_1_1_0_0_n_n none A3 (k0_pay110 w6 w7) (constant S256x1024 .f32 0x00000000#32) (ix2 p q) := by
    intro A0 A1 A2 A3 w0 w1 w2 w3 w4 w5 w6 w7
    have z : (k0_pay107 (F := Ideal) : FVec Ideal S256x1024 .f32) (ix2 p q) = 0 := by pointwise [k0_pay107]
    have c : ∀ A : FVec Ideal S256x1792 .bf16, shapeCast S256x1792 A shapeCasts_S256x1792_S256x1792 = A := fun A => by
      funext y; pointwise
    unfold k0_pay111 k0_pay109
    show (((k0_pay107 (F := Ideal) : FVec Ideal S256x1024 .f32) (ix2 p q) + _ : EReal) + _ + _) + _ = _
    simp only [z, zero_add, c]
    rfl
  rw [s, e0, e1, e2, e3, sum_prod]
  simp only [Finset.sum_range_succ, Finset.sum_range_zero, zero_add, EReal.coe_add]

/-! ## Through the stream's norm -/

/-- The gradient of the residual stream, at one row of a block whose rows are real. -/
theorem pay_dx (A : FVec Ideal S256x1024 .f32) (B : FVec Ideal S1024x1792 .bf16) (C : FVec Ideal S256x1792 .bf16) (xb yb : FVec Ideal S256x1024 .f32) (gb : FVec Ideal S1x1024 .f32)
    (p : Fin 256) (q : Fin 1024) (a xr gr : Fin 1024 → ℝ)
    (ha : ∀ k, (k0_pay111 A B C : FVec Ideal S256x1024 .f32) (ix2 p k) = ((a k : ℝ) : EReal)) (hx : ∀ k, xb (ix2 p k) = ((xr k : ℝ) : EReal)) (hg : ∀ k, gb (ix2 0 k) = ((gr k : ℝ) : EReal)) :
    (k0_pay115 A B C xb gb yb : FVec Ideal S256x1024 .f32) (ix2 p q) = yb (ix2 p q) + ((rmsGrad xr gr a q : ℝ) : EReal) := by
  unfold k0_pay115
  generalize (k0_pay111 A B C : FVec Ideal S256x1024 .f32) = acc at ha ⊢
  pointwise [k0_pay114, k0_pay113, k0_pay112]
  rw [ofBits_1024, ofBits_eps]
  simp only [ha, hx, hg, ← EReal.coe_mul, ← coe_sum]
  rw [div_coe _ (1024 : ℝ) (by norm_num), ← EReal.coe_add, rsqrt_ms]
  simp only [← EReal.coe_mul, ← coe_sum]
  rw [div_coe _ (1024 : ℝ) (by norm_num)]
  simp only [← EReal.coe_mul, ← EReal.coe_sub]
  rfl

/-- The gradient of the norm's weights: what a row block adds to what was there. -/
theorem pay_dg (A : FVec Ideal S256x1024 .f32) (B : FVec Ideal S1024x1792 .bf16) (C : FVec Ideal S256x1792 .bf16) (xb : FVec Ideal S256x1024 .f32) (prev : FVec Ideal S1x1024 .f32)
    (q : Fin 1024) (a xr : Fin 256 → Fin 1024 → ℝ) (ha : ∀ p k, (k0_pay111 A B C : FVec Ideal S256x1024 .f32) (ix2 p k) = ((a p k : ℝ) : EReal))
    (hx : ∀ p k, xb (ix2 p k) = ((xr p k : ℝ) : EReal)) (z : Fin 1) :
    (k0_pay116 A B C xb prev : FVec Ideal S1x1024 .f32) (ix2 z q) = prev (ix2 z q) + ((∑ p, a p q * (xr p q * rinv (xr p)) : ℝ) : EReal) := by
  unfold k0_pay116
  generalize (k0_pay111 A B C : FVec Ideal S256x1024 .f32) = acc at ha ⊢
  pointwise [k0_pay114, k0_pay113, k0_pay112]
  rw [ofBits_1024, ofBits_eps]
  refine congrArg (_ + ·) ?_
  rw [coe_sum]
  refine Finset.sum_congr rfl fun p _ => ?_
  simp only [ha, hx, ← EReal.coe_mul, ← coe_sum]
  rw [div_coe _ (1024 : ℝ) (by norm_num), ← EReal.coe_add, rsqrt_ms]
  simp only [← EReal.coe_mul]

variable (m : (ℓ : Loc nD τ sig) → Buf (Elt Ideal) ℓ) (c : Dev nD)

/-! ## What a point leaves -/

/-- The two results, from the cotangent's block as the same point writes it. -/
theorem dx0_out (t : Fin cfg0.N) : ((outsAt0 m c t.val t.isLt).2.2.2.2.2.1 : FVec Ideal S256x1024 .f32)
    = k0_pay115 (three (outsAt0 m c t.val t.isLt).1 (iblk m c 6 t)) (last2 (iblk m c 6 t)) (ldP3 (outsAt0 m c t.val t.isLt).1) (iblk m c 7 t) (iblk m c 8 t) (iblk m c 0 t) := by
  by_cases h0 : t.val % 32 = 0
  · rw [outsAt0_A m c t h0 (by omega)]
    frame_out
    try simp only [View.readCov_eq_canon']
    rfl
  · by_cases h1 : t.val % 32 = 31
    · rw [outsAt0_C m c t h0 h1]
      frame_out
      try simp only [read_unread_whole]
      try simp only [View.readCov_eq_canon']
      rfl
    · rw [outsAt0_B m c t h0 h1]
      frame_out
      try simp only [read_unread_whole]
      try simp only [View.readCov_eq_canon']
      rfl

/-- What the first row of the weights' gradient becomes. -/
abbrev dgRow (t : Fin cfg0.N) (P : FVec Ideal S8x1024 .f32) : FVec Ideal S1x1024 .f32 :=
  k0_pay116 (three (outsAt0 m c t.val t.isLt).1 (iblk m c 6 t)) (last2 (iblk m c 6 t)) (ldP3 (outsAt0 m c t.val t.isLt).1) (iblk m c 7 t)
    (View.ld (Val := Elt Ideal) (e' := .f32) P (Rect.unit (s := S8x1024) ![0, 0] ![1, 1024] inb_S8x1024_S1x1024_0_0))

theorem dg_next (t : Fin cfg0.N) (h0 : ¬ t.val % 32 = 0) (r : Fin 8) (q : Fin 1024) : ((outsAt0 m c t.val t.isLt).2.2.2.2.2.2.1 : FVec Ideal S8x1024 .f32) (ix2 r q)
    = if r.val = 0 then dgRow m c t (outsAt0 m c (t.val - 1) (by omega)).2.2.2.2.2.2.1 (ix2 0 q)
      else ((outsAt0 m c (t.val - 1) (by omega)).2.2.2.2.2.2.1 : FVec Ideal S8x1024 .f32) (ix2 r q) := by
  unfold dgRow
  by_cases h1 : t.val % 32 = 31
  · rw [outsAt0_C m c t h0 h1]
    frame_out
    try simp only [read_unread_whole]
    try simp only [View.readCov_eq_canon']
    by_cases hr : r.val = 0
    · rw [if_pos hr]
      exact View.read_writes_cons_rows_of_mem _ _ _ _ _ _ (ix2 0 q) rfl hr rfl
    · rw [if_neg hr]
      rw [View.read_writes_cons_rows_of_not_mem (W := 1) _ _ _ _ _ _ rfl rfl (Or.inr (by show 0 + 1 ≤ r.val; omega))]
      exact congrFun (Memref.IsWhole.read_unread _ _) (ix2 r q)
  · rw [outsAt0_B m c t h0 h1]
    frame_out
    try simp only [read_unread_whole]
    try simp only [View.readCov_eq_canon']
    by_cases hr : r.val = 0
    · rw [if_pos hr]
      exact View.read_writes_cons_rows_of_mem _ _ _ _ _ _ (ix2 0 q) rfl hr rfl
    · rw [if_neg hr]
      rw [View.read_writes_cons_rows_of_not_mem (W := 1) _ _ _ _ _ _ rfl rfl (Or.inr (by show 0 + 1 ≤ r.val; omega))]
      exact congrFun (Memref.IsWhole.read_unread _ _) (ix2 r q)

theorem dg_first (t : Fin cfg0.N) (h0 : t.val % 32 = 0) (r : Fin 8) (q : Fin 1024) : ((outsAt0 m c t.val t.isLt).2.2.2.2.2.2.1 : FVec Ideal S8x1024 .f32) (ix2 r q)
    = if r.val = 0 then dgRow m c t k0_pay13 (ix2 0 q) else (k0_pay13 (F := Ideal) : FVec Ideal S8x1024 .f32) (ix2 r q) := by
  unfold dgRow
  rw [outsAt0_A m c t h0 (by omega)]
  frame_out
  simp (disch := first | decide | (intro a; fin_cases a <;> rfl)) only [↓View.readCov_fill]
  rw [← View.read_writes_junk_eq_canon (ms0_15 t).view]
  try simp only [View.readCov_eq_canon']
  by_cases hr : r.val = 0
  · rw [if_pos hr]
    exact View.read_writes_cons_rows_of_mem _ _ _ _ _ _ (ix2 0 q) rfl hr rfl
  · rw [if_neg hr]
    rw [View.read_writes_cons_rows_of_not_mem (W := 1) _ _ _ _ _ _ rfl rfl (Or.inr (by show 0 + 1 ≤ r.val; omega))]
    exact Cert.Kernel2Ideal.Point.fill_read _ _ _ _

end Cert.Kernel3Ideal.Point

end
-- ==== Proof.FuseValue.lean ====
/-
  THE MIXER'S FUSED BACKWARD CALL, ITS SEVEN RESULTS AS WHOLE ARRAYS. The grid walks the thirty-two row blocks from the last to
  the first. Two results are written block by block; five stay in one block and grow by a term per point. Summed over the blocks
  they are the reference's results.
-/
module

public import proofs.«01_k».proof.Proof.FuseHost
public import proofs.«01_k».proof.Proof.FuseStream
public import proofs.«01_k».proof.Proof.Gen.Reference3Ideal.Read

@[expose] public section

set_option maxRecDepth 16384

noncomputable section

open Idealize.ShloMosaic Idealize.ShloMosaic.TcCoe Idealize.SL.Sem
open Idealize.ShloMosaic.Pipeline (Dat)

namespace Cert.Kernel3Ideal.Point

open Cert.Kernel3Ideal Cert.Kernel3Ideal.Gen Cert.Reals Cert.Mix
open Cert.Kernel2Ideal.Point (dcw_total dln_total dws_total dbs_total dwsAdd dbsAdd)
open Cert.Kernel2Ideal.Point.At (dcwAdd dlnAdd)
open Cert.Reference3Ideal.Read (val_main_v221 val_main_v222 val_main_v226 val_main_v127 val_main_v229)

variable {m : (ℓ : Loc nD τ sig) → Buf (Elt Ideal) ℓ} {c : Dev nD}

/-- A cell that starts from a term and grows by a term per point. -/
theorem grow (f : ∀ n, n < cfg0.N → EReal) (g : ℕ → ℝ) (h0 : ∀ hn, f 0 hn = ((g 0 : ℝ) : EReal))
    (h1 : ∀ n (hn : n + 1 < cfg0.N), f (n + 1) hn = f n (by omega) + ((g (n + 1) : ℝ) : EReal)) (n : ℕ) (hn : n < cfg0.N) :
    f n hn = ((∑ i ∈ Finset.range (n + 1), g i : ℝ) : EReal) := by
  induction n with
  | zero => rw [h0]; simp
  | succ n ih => rw [h1, ih, ← EReal.coe_add, Finset.sum_range_succ _ (n + 1)]

variable {k : Saved} {dm : Tok} {cw : Fin 3 → Fin 1024 → ℝ} {lng : Fin 1024 → ℝ} {ws : Fin 8 → Fin 128 → Fin 128 → ℝ}
  (hA : ∀ t : Fin cfg0.N, At m c k dm cw lng ws ((31 - t.val) * 256) t)

include hA

theorem carried (n : ℕ) (hn : n + 1 < cfg0.N) (r : Fin 8) (q : Fin 1024) :
    ((outsAt0 m c n (by omega)).2.2.2.2.2.2.2.1 : FVec Ideal S8x1024 .f32) (ix2 r q)
      = ((k.dcv dm (bb ((31 - (n + 1)) * 256 + 256 + r.val)) (ss ((31 - (n + 1)) * 256 + 256 + r.val)) q : ℝ) : EReal) := by
  have hN : n + 1 < 32 := hn
  rw [show (31 - (n + 1)) * 256 + 256 = (31 - n) * 256 by omega]
  exact (hA ⟨n, by omega⟩).carry_out r q

theorem dp_at (t : Fin cfg0.N) (y : S256x7168.Idx) : ((outsAt0 m c t.val t.isLt).1 : FVec Ideal S256x7168 .bf16) y
    = ((side (parts k dm cw lng ws) (bb ((31 - t.val) * 256 + (y 0).val)) (ss ((31 - t.val) * 256 + (y 0).val)) (y 1) : ℝ) : EReal) := by
  have hN : t.val < 32 := t.isLt
  by_cases h0 : t.val % 32 = 0
  · exact (hA t).dp_first h0 y
  · obtain ⟨n, hn⟩ := t
    obtain ⟨n, rfl⟩ : ∃ x, n = x + 1 := ⟨n - 1, by have : n % 32 ≠ 0 := h0; omega⟩
    exact (hA _).dp_next h0 (fun _ r q => carried hA n hn r q) y

theorem dcw_at (r : Fin 8) (q : Fin 1024) (n : ℕ) (hn : n < cfg0.N) : ((outsAt0 m c n hn).2.1 : FVec Ideal S8x1024 .f32) (ix2 r q)
    = ((∑ i ∈ Finset.range (n + 1), dcwAdd 256 k dm ((31 - i) * 256) r q : ℝ) : EReal) := by
  refine grow (fun n hn => ((outsAt0 m c n hn).2.1 : FVec Ideal S8x1024 .f32) (ix2 r q)) (fun i => dcwAdd 256 k dm ((31 - i) * 256) r q) (fun hn => ?_) (fun n hn => ?_) n hn
  · refine ((hA ⟨0, hn⟩).dcw_first rfl r q).trans ?_
    have e : (k0_pay9 (F := Ideal) : FVec Ideal S8x1024 .f32) (ix2 r q) = 0 := by pointwise [k0_pay9]
    rw [e, zero_add]
  · have hN : n + 1 < 32 := hn
    exact (hA ⟨n + 1, hn⟩).dcw_next (by show ¬ (n + 1) % 32 = 0; omega) (fun _ r q => carried hA n hn r q) r q

theorem dln_at (r : Fin 8) (q : Fin 1024) (n : ℕ) (hn : n < cfg0.N) : ((outsAt0 m c n hn).2.2.1 : FVec Ideal S8x1024 .f32) (ix2 r q)
    = ((∑ i ∈ Finset.range (n + 1), dlnAdd 256 k dm ws ((31 - i) * 256) r q : ℝ) : EReal) := by
  refine grow (fun n hn => ((outsAt0 m c n hn).2.2.1 : FVec Ideal S8x1024 .f32) (ix2 r q)) (fun i => dlnAdd 256 k dm ws ((31 - i) * 256) r q) (fun hn => ?_) (fun n hn => ?_) n hn
  · refine ((hA ⟨0, hn⟩).dln_first rfl r q).trans ?_
    have e : (k0_pay10 (F := Ideal) : FVec Ideal S8x1024 .f32) (ix2 r q) = 0 := by pointwise [k0_pay10]
    rw [e, zero_add]
  · have hN : n + 1 < 32 := hn
    exact (hA ⟨n + 1, hn⟩).dln_next (by show ¬ (n + 1) % 32 = 0; omega) r q

theorem vn_blk (t : Fin cfg0.N) : Blk k.VN ((31 - t.val) * 256) (k0_pay26 (ldVN m c t) : FVec Ideal S256x1024 .bf16) := by
  intro p q
  refine Eq.trans ?_ ((hA t).vn p q)
  pointwise [k0_pay26]

theorem dmx_blk (t : Fin cfg0.N) : Blk (k.dmx dm) ((31 - t.val) * 256) (dmxB m c t) :=
  blk_dmx (hA t).sb (hA t).u (hA t).dm

theorem dws_at (g : Fin 8) (a b : Fin 128) (n : ℕ) (hn : n < cfg0.N) : ((outsAt0 m c n hn).2.2.2.1 : FVec Ideal S8x128x128 .f32) (ix3 g a b)
    = ((∑ i ∈ Finset.range (n + 1), dwsAdd 2 k dm ((31 - i) * 256) g a b : ℝ) : EReal) := by
  refine grow (fun n hn => ((outsAt0 m c n hn).2.2.2.1 : FVec Ideal S8x128x128 .f32) (ix3 g a b)) (fun i => dwsAdd 2 k dm ((31 - i) * 256) g a b) (fun hn => ?_) (fun n hn => ?_) n hn
  · refine (dws_first m c ⟨0, hn⟩ rfl _).trans ((mixAcc_at k dm _ _ _ _ (vn_blk hA _) (dmx_blk hA _) g a b).trans ?_)
    have e : (k0_pay11 (F := Ideal) : FVec Ideal S8x128x128 .f32) (ix3 g a b) = 0 := by pointwise [k0_pay11]
    rw [e, zero_add]
  · have hN : n + 1 < 32 := hn
    exact (dws_next m c ⟨n + 1, hn⟩ (by show ¬ (n + 1) % 32 = 0; omega) _).trans (mixAcc_at k dm _ _ _ _ (vn_blk hA _) (dmx_blk hA _) g a b)

theorem acc_at (a : Fin 128) (q : Fin 1024) (n : ℕ) (hn : n < cfg0.N) : ((outsAt0 m c n hn).2.2.2.2.2.2.2.2 : FVec Ideal S128x1024 .f32) (ix2 a q)
    = ((∑ i ∈ Finset.range (n + 1), dbsAdd 2 k dm ((31 - i) * 256) a q : ℝ) : EReal) := by
  refine grow (fun n hn => ((outsAt0 m c n hn).2.2.2.2.2.2.2.2 : FVec Ideal S128x1024 .f32) (ix2 a q)) (fun i => dbsAdd 2 k dm ((31 - i) * 256) a q) (fun hn => ?_) (fun n hn => ?_) n hn
  · refine ((hA ⟨0, hn⟩).acc_first rfl a q).trans ?_
    have e : (k0_pay12 (F := Ideal) : FVec Ideal S128x1024 .f32) (ix2 a q) = 0 := by pointwise [k0_pay12]
    rw [e, zero_add]
  · have hN : n + 1 < 32 := hn
    exact (hA ⟨n + 1, hn⟩).acc_next (by show ¬ (n + 1) % 32 = 0; omega) a q

omit hA

/-! ## The seven arrays -/

variable {x0 : FVec Ideal S4x2048x1024 .f32} {x1 : FVec Ideal S1024 .f32} {x2 : FVec Ideal S1024x7168 .f32} {x3 : FVec Ideal S3x1024 .f32}
  {x4 x5 : FVec Ideal S1024 .f32} {x6 : FVec Ideal S8x128x128 .f32} {x7 : FVec Ideal S8x128 .f32} {x8 : FVec Ideal S1024x1024 .f32} {x9 : FVec Ideal S4x2048x1024 .f32}
  (h : Cert.Reference2Ideal.Point.RefAt x0 x1 x2 x3 x4 x5 x6 x7 x8 x9 k dm cw lng ws)

include hA h

theorem dp_array : (dats m 0 c).arrAt 9 cfg0.N = val_main_v221 (F := Ideal) x0 x1 x2 x3 x4 x5 x6 x7 x8 x9 := by
  refine (dats m 0 c).arrAt_eq_of_covers 9 _ (by decide +kernel) fun t hf j => ?_
  blk_simp
  rw [after0_9]
  have ht : t.val < 32 := t.isLt
  obtain ⟨-, -, -, -, -, -, ⟨e0, e1⟩, -⟩ := idx t
  idx_vars j
  refine (dp_at hA t (ix2 j0 j1)).trans ?_
  refine (h.dpR (⟨(31 - t.val) * 256 + j0.val, by omega⟩ : Fin 8192) j1).symm.trans (congrArg _ ?_)
  blk_ext
  all_goals first | (rw [e0]) | (rw [e1]; omega)

theorem dcw_array : (dats m 0 c).arrAt 10 cfg0.N = val_main_v222 (F := Ideal) x0 x1 x2 x8 x9 := by
  refine (dats m 0 c).arrAt_eq_of_covers 10 _ (by decide +kernel) fun t hf j => ?_
  have hl := (flush0_10 t).mp hf
  blk_simp
  rw [after0_10]
  have ht : t.val < 32 := t.isLt
  obtain ⟨-, -, -, -, -, -, -, ⟨e0, e1⟩, -⟩ := idx t
  idx_vars j
  refine (dcw_at hA j0 j1 t.val t.isLt).trans ?_
  rw [show t.val = 31 by omega, dcw_total 256 31 rfl]
  refine (h.dcwR j1 j0).symm.trans (congrArg _ ?_)
  blk_ext
  all_goals first | (rw [e0]; omega) | (rw [e1]; omega)

theorem dln_array : (dats m 0 c).arrAt 11 cfg0.N = val_main_v226 (F := Ideal) x0 x1 x2 x6 x8 x9 := by
  refine (dats m 0 c).arrAt_eq_of_covers 11 _ (by decide +kernel) fun t hf j => ?_
  have hl := (flush0_11 t).mp hf
  blk_simp
  rw [after0_11]
  have ht : t.val < 32 := t.isLt
  obtain ⟨-, -, -, -, -, -, -, -, ⟨e0, e1⟩, -⟩ := idx t
  idx_vars j
  refine (dln_at hA j0 j1 t.val t.isLt).trans ?_
  rw [show t.val = 31 by omega, dln_total 256 31 rfl]
  refine (h.dlnR j1 j0).symm.trans (congrArg _ ?_)
  blk_ext
  all_goals first | (rw [e0]; omega) | (rw [e1]; omega)

theorem dws_array : (dats m 0 c).arrAt 12 cfg0.N = val_main_v127 (F := Ideal) x0 x1 x2 x4 x5 x8 x9 := by
  refine (dats m 0 c).arrAt_eq_of_covers 12 _ (by decide +kernel) fun t hf j => ?_
  have hl := (flush0_12 t).mp hf
  blk_simp
  rw [after0_12]
  have ht : t.val < 32 := t.isLt
  obtain ⟨-, -, -, -, -, -, -, -, -, ⟨e0, e1, e2⟩, -⟩ := idx t
  idx_vars j
  refine (dws_at hA j0 j1 j2 t.val t.isLt).trans ?_
  rw [show t.val = 31 by omega]
  refine (congrArg (fun x : ℝ => (x : EReal)) (dws_total 2 31 rfl j0 j1 j2)).trans ?_
  refine (h.dws j0 j1 j2).symm.trans (congrArg _ ?_)
  blk_ext
  all_goals first | (rw [e0]; omega) | (rw [e1]; omega) | (rw [e2]; omega)

theorem dbs_array : (dats m 0 c).arrAt 13 cfg0.N = val_main_v229 (F := Ideal) x0 x1 x2 x8 x9 := by
  refine (dats m 0 c).arrAt_eq_of_covers 13 _ (by decide +kernel) fun t hf j => ?_
  have hl := (flush0_13 t).mp hf
  blk_simp
  rw [after0_13]
  have ht : t.val < 32 := t.isLt
  obtain ⟨-, -, -, -, -, -, -, -, -, -, e0, e1⟩ := idx t
  idx_vars j
  refine (dbs_last m c t hl (ix2 j0 j1)).trans ?_
  refine Eq.trans ?_ ((h.dbs j1 j0).symm.trans (congrArg _ ?_))
  · rw [← dbs_total 2 31 rfl, coe_sum]
    refine Finset.sum_congr rfl fun x _ => ?_
    have e := acc_at hA j0 (ch (grp j1) x) t.val t.isLt
    refine e.trans ?_
    rw [show t.val = 31 by omega]
  blk_ext
  all_goals first | (rw [e0]; omega) | (rw [e1]; omega)

omit hA h

/-! ## The gradient of the residual stream and of its norm's weights -/

open Cert.ReferenceIdeal.Point (dn row dx_read dg_read)
open Cert.Reference3Ideal.Read (val_main_v197 val_main_v230 val_main_v232)

/-- The projection's cotangent as one array: the seven parts side by side. -/
def cot (k : Saved) (dm : Tok) (cw : Fin 3 → Fin 1024 → ℝ) (lng : Fin 1024 → ℝ) (ws : Fin 8 → Fin 128 → Fin 128 → ℝ) (i : S4x2048x7168.Idx) : ℝ :=
  side (parts k dm cw lng ws) (i 0) (i 1) (i 2)

include h in
theorem cot_eq : val_main_v197 (F := Ideal) x0 x1 x2 x3 x4 x5 x6 x7 x8 x9 = fun i => ((cot k dm cw lng ws i : ℝ) : EReal) := by
  funext i
  idx_vars i
  have ht : i0.val * 2048 + i1.val < 8192 := by omega
  have e : val_main_v221 (F := Ideal) x0 x1 x2 x3 x4 x5 x6 x7 x8 x9 (ix2 (⟨i0.val * 2048 + i1.val, ht⟩ : Fin 8192) i2) = val_main_v197 (F := Ideal) x0 x1 x2 x3 x4 x5 x6 x7 x8 x9 (ix3 i0 i1 i2) := by
    unfold val_main_v221 Cert.Reference3Ideal.Read.val_main_v220
    generalize val_main_v197 (F := Ideal) x0 x1 x2 x3 x4 x5 x6 x7 x8 x9 = A
    pointwise
  refine e.symm.trans ((h.dpR _ i2).trans ?_)
  have eb : bb (i0.val * 2048 + i1.val) = i0 := Fin.ext (by show (i0.val * 2048 + i1.val) / 2048 % 4 = i0.val; omega)
  have es : ss (i0.val * 2048 + i1.val) = i1 := Fin.ext (by show (i0.val * 2048 + i1.val) % 2048 = i1.val; omega)
  show ((side (parts k dm cw lng ws) (bb (i0.val * 2048 + i1.val)) (ss (i0.val * 2048 + i1.val)) i2 : ℝ) : EReal) = _
  rw [eb, es]
  rfl

/-- The reference's last two results are the first pair's, at that cotangent. -/
theorem dx0_ref : val_main_v230 (F := Ideal) x0 x1 x2 x3 x4 x5 x6 x7 x8 x9
    = Cert.ReferenceIdeal.Read.val_main_v39 (F := Ideal) x0 x1 x2 (val_main_v197 (F := Ideal) x0 x1 x2 x3 x4 x5 x6 x7 x8 x9) x9 := rfl
theorem dg_ref : val_main_v232 (F := Ideal) x0 x1 x2 x3 x4 x5 x6 x7 x8 x9
    = Cert.ReferenceIdeal.Read.val_main_v41 (F := Ideal) x0 x2 (val_main_v197 (F := Ideal) x0 x1 x2 x3 x4 x5 x6 x7 x8 x9) := rfl

variable {x : S4x2048x1024.Idx → ℝ} {g : S1024.Idx → ℝ} {w : S1024x7168.Idx → ℝ}
  (e : Args m c x0 x1 x2 x3 x4 x5 x6 x7 x8 x9) (hx : x0 = fun i => ((x i : ℝ) : EReal)) (hg : x1 = fun i => ((g i : ℝ) : EReal)) (hw : x2 = fun i => ((w i : ℝ) : EReal))

include e hx in
theorem x_at (t : Fin cfg0.N) (p : Fin 256) (q : Fin 1024) : (iblk m c 7 t : FVec Ideal S256x1024 .f32) (ix2 p q)
    = ((row x (bb ((31 - t.val) * 256 + p.val)) (ss ((31 - t.val) * 256 + p.val)) q : ℝ) : EReal) := by
  have ht : t.val < 32 := t.isLt
  rw [blk_x0 m c t p q ⟨(31 - t.val) * 256 + p.val, by omega⟩ rfl, host_x0, e.e0, hx]
  refine congrArg (fun i => ((x i : ℝ) : EReal)) (congrArg₂ (fun a b => ix3 a b q) (Fin.ext ?_) (Fin.ext rfl))
  show ((31 - t.val) * 256 + p.val) / 2048 = ((31 - t.val) * 256 + p.val) / 2048 % 4
  omega

include e hg in
theorem g_at (t : Fin cfg0.N) (q : Fin 1024) : (iblk m c 8 t : FVec Ideal S1x1024 .f32) (ix2 0 q) = ((g (ix1 q) : ℝ) : EReal) := by
  rw [blk_g, host_g, e.e1, hg]

include e hw in
theorem w_at (t : Fin cfg0.N) (i : Fin 8) (q : Fin 1024) (k : Fin 896) : (iblk m c 6 t : FVec Ideal S8x1024x896 .bf16) (ix3 i q k)
    = ((w (ix2 q (⟨i.val * 896 + k.val, by omega⟩ : Fin 7168)) : ℝ) : EReal) := by
  rw [blk_win, host_win, e.e2, hw]

include e in
theorem y_at (t : Fin cfg0.N) (p : Fin 256) (q : Fin 1024) : (iblk m c 0 t : FVec Ideal S256x1024 .f32) (ix2 p q)
    = x9 (ix3 (bb ((31 - t.val) * 256 + p.val)) (ss ((31 - t.val) * 256 + p.val)) q) := by
  have ht : t.val < 32 := t.isLt
  rw [blk_dx m c t p q ⟨(31 - t.val) * 256 + p.val, by omega⟩ rfl, host_dx, e.e9]
  refine congrArg x9 (congrArg₂ (fun a b => ix3 a b q) (Fin.ext ?_) (Fin.ext rfl))
  show ((31 - t.val) * 256 + p.val) / 2048 = ((31 - t.val) * 256 + p.val) / 2048 % 4
  omega

include hA e hw in
/-- The block's cotangent times the weights. -/
theorem dh_pt (t : Fin cfg0.N) (p : Fin 256) (q : Fin 1024) :
    (k0_pay111 (three (outsAt0 m c t.val t.isLt).1 (iblk m c 6 t)) (last2 (iblk m c 6 t)) (ldP3 (outsAt0 m c t.val t.isLt).1) : FVec Ideal S256x1024 .f32) (ix2 p q)
      = ((dn w (cot k dm cw lng ws) (bb ((31 - t.val) * 256 + p.val)) (ss ((31 - t.val) * 256 + p.val)) q : ℝ) : EReal) :=
  dh_at _ _ (fun l => cot k dm cw lng ws (ix3 (bb ((31 - t.val) * 256 + p.val)) (ss ((31 - t.val) * 256 + p.val)) l)) (fun l => w (ix2 q l)) p q
    (fun l => dp_at hA t (ix2 p l)) (fun i k => w_at e hw t i q k)

include hA h e hx hg hw in
theorem dx0_array : (dats m 0 c).arrAt 14 cfg0.N = val_main_v230 (F := Ideal) x0 x1 x2 x3 x4 x5 x6 x7 x8 x9 := by
  refine (dats m 0 c).arrAt_eq_of_covers 14 _ (by decide +kernel) fun t hf j => ?_
  blk_simp
  rw [after0_14]
  have ht : t.val < 32 := t.isLt
  obtain ⟨-, -, -, ⟨e0, e1⟩, -⟩ := idx_tail t
  have key : ∀ (p : Fin 256) (q : Fin 1024), ((outsAt0 m c t.val t.isLt).2.2.2.2.2.1 : FVec Ideal S256x1024 .f32) (ix2 p q)
      = val_main_v230 (F := Ideal) x0 x1 x2 x3 x4 x5 x6 x7 x8 x9 (ix2 (⟨(31 - t.val) * 256 + p.val, by omega⟩ : Fin 8192) q) := fun p q => by
    rw [dx0_ref, cot_eq h]
    refine (congrFun (dx0_out m c t) (ix2 p q)).trans ((pay_dx _ _ _ _ _ _ p q _ _ _ (dh_pt hA e hw t p) (x_at e hx t p) (g_at e hg t)).trans ?_)
    rw [y_at e, hx, hg, hw]
    exact (dx_read x g w (cot k dm cw lng ws) _ q x9 _ _ (by show ((31 - t.val) * 256 + p.val) / 2048 % 4 = ((31 - t.val) * 256 + p.val) / 2048; omega) rfl).symm
  idx_vars j
  refine (key j0 j1).trans ?_
  refine congrArg _ ?_
  blk_ext
  all_goals first | (rw [e0]) | (rw [e1]; omega)

/-- What a row block adds to the gradient of the norm's weights. -/
def dgAdd (x : S4x2048x1024.Idx → ℝ) (w : S1024x7168.Idx → ℝ) (d : S4x2048x7168.Idx → ℝ) (R : ℕ) (r : Fin 8) (q : Fin 1024) : ℝ :=
  if r.val = 0 then ∑ p : Fin 256, dn w d (bb (R + p.val)) (ss (R + p.val)) q * (row x (bb (R + p.val)) (ss (R + p.val)) q * rinv (row x (bb (R + p.val)) (ss (R + p.val)))) else 0

include hA e hx hw in
theorem dgRow_at (t : Fin cfg0.N) (P : FVec Ideal S8x1024 .f32) (r : Fin 8) (q : Fin 1024) :
    (if r.val = 0 then dgRow m c t P (ix2 0 q) else P (ix2 r q)) = P (ix2 r q) + ((dgAdd x w (cot k dm cw lng ws) ((31 - t.val) * 256) r q : ℝ) : EReal) := by
  unfold dgAdd
  by_cases hr : r.val = 0
  · rw [if_pos hr, if_pos hr]
    refine (pay_dg _ _ _ _ _ q _ _ (dh_pt hA e hw t) (x_at e hx t) 0).trans (congrArg (· + _) ?_)
    refine congrArg P (funext fun d => Fin.ext ?_)
    rcases d with ⟨_ | _ | d, hd⟩
    · show 0 + 1 * 0 = r.val
      omega
    · show 0 + 1 * q.val = q.val
      omega
    · exact absurd hd (by show ¬ d + 2 < 2; omega)
  · rw [if_neg hr, if_neg hr, EReal.coe_zero, add_zero]

include hA e hx hw in
theorem dg_at (r : Fin 8) (q : Fin 1024) (n : ℕ) (hn : n < cfg0.N) : ((outsAt0 m c n hn).2.2.2.2.2.2.1 : FVec Ideal S8x1024 .f32) (ix2 r q)
    = ((∑ i ∈ Finset.range (n + 1), dgAdd x w (cot k dm cw lng ws) ((31 - i) * 256) r q : ℝ) : EReal) := by
  refine grow (fun n hn => ((outsAt0 m c n hn).2.2.2.2.2.2.1 : FVec Ideal S8x1024 .f32) (ix2 r q)) (fun i => dgAdd x w (cot k dm cw lng ws) ((31 - i) * 256) r q) (fun hn => ?_) (fun n hn => ?_) n hn
  · refine (dg_first m c ⟨0, hn⟩ rfl r q).trans ((dgRow_at hA e hx hw ⟨0, hn⟩ k0_pay13 r q).trans ?_)
    have z : (k0_pay13 (F := Ideal) : FVec Ideal S8x1024 .f32) (ix2 r q) = 0 := by pointwise [k0_pay13]
    rw [z, zero_add]
  · have hN : n + 1 < 32 := hn
    exact (dg_next m c ⟨n + 1, hn⟩ (by show ¬ (n + 1) % 32 = 0; omega) r q).trans (dgRow_at hA e hx hw ⟨n + 1, hn⟩ _ r q)

theorem dg_total (d : S4x2048x7168.Idx → ℝ) (r : Fin 8) (q : Fin 1024) : ∑ i ∈ Finset.range 32, dgAdd x w d ((31 - i) * 256) r q
    = if r.val < 1 then ∑ b, ∑ s, x (ix3 b s q) * rinv (row x b s) * dn w d b s q else 0 := by
  unfold dgAdd
  by_cases hr : r.val = 0
  · simp only [if_pos hr]
    rw [if_pos (by omega)]
    refine (sum_rows_back 256 31 rfl fun b s => dn w d b s q * (row x b s q * rinv (row x b s))).trans ?_
    refine Finset.sum_congr rfl fun b _ => Finset.sum_congr rfl fun s _ => ?_
    exact mul_comm _ _
  · simp only [if_neg hr]
    rw [if_neg (by omega), Finset.sum_const_zero]

include hA h e hx hw in
theorem dg_array : (dats m 0 c).arrAt 15 cfg0.N = val_main_v232 (F := Ideal) x0 x1 x2 x3 x4 x5 x6 x7 x8 x9 := by
  refine (dats m 0 c).arrAt_eq_of_covers 15 _ (by decide +kernel) fun t hf j => ?_
  have hl := (flush0_15 t).mp hf
  blk_simp
  rw [after0_15]
  have ht : t.val < 32 := t.isLt
  obtain ⟨-, -, -, -, e0, e1⟩ := idx_tail t
  idx_vars j
  rw [dg_ref, cot_eq h, hx, hw]
  refine (dg_at hA e hx hw j0 j1 t.val t.isLt).trans ?_
  rw [show t.val = 31 by omega, dg_total]
  refine (dg_read x w (cot k dm cw lng ws) j0 j1).symm.trans (congrArg _ ?_)
  blk_ext
  all_goals first | (rw [e0]; omega) | (rw [e1]; omega)

end Cert.Kernel3Ideal.Point

end
-- ==== Proof.Pair3.lean ====
/-
  THE THIRD PAIR: the mixer's backward call of the first layer, which goes on through the input projection and the stream's norm,
  against `jax.vjp` of the same forward lines. `FuseHost` and `FuseValue` read the kernel; the reference's first five results are
  the second pair's, its last two the first pair's at the cotangent of the projection.
-/
module

public import proofs.«01_k».proof.Defs
public import proofs.«01_k».proof.Proof.Pair2
public import proofs.«01_k».proof.Proof.FuseValue
public import proofs.«01_k».proof.Proof.Gen.Kernel3Ideal.Value
public import proofs.«01_k».proof.Proof.Gen.Reference3Ideal.Run

@[expose] public section

set_option maxRecDepth 16384

noncomputable section

open Idealize.ShloMosaic Idealize.ShloMosaic.TcCoe Idealize.SL.Sem

namespace Cert.Pair3

open Cert.Reals Cert.Mix Cert.Kernel3Ideal
open Cert.Pair2 (reals inputs)

theorem points (m : (ℓ : Loc nD τ sig) → Buf (Elt Ideal) ℓ) (c : Dev nD) {k : Saved} {dm : Tok} {cw : Fin 3 → Fin 1024 → ℝ} {lng : Fin 1024 → ℝ} {ws : Fin 8 → Fin 128 → Fin 128 → ℝ}
    (h : Cert.Reference2Ideal.Point.RefAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) k dm cw lng ws) (t : Fin Cert.Kernel3Ideal.cfg0.N) :
    Cert.Kernel3Ideal.Point.At m c k dm cw lng ws ((31 - t.val) * 256) t :=
  Cert.Kernel3Ideal.Point.at_point m c ⟨rfl, rfl, rfl, rfl, rfl, rfl, rfl, rfl, rfl, rfl⟩ h t

theorem args (m : (ℓ : Loc nD τ sig) → Buf (Elt Ideal) ℓ) (c : Dev nD) :
    Cert.Kernel3Ideal.Point.Args m c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) :=
  ⟨rfl, rfl, rfl, rfl, rfl, rfl, rfl, rfl, rfl, rfl⟩

/-- An array of real entries is the image of its real parts. -/
theorem as_real {ι : Type} {f : ι → EReal} (h : ∀ i, IsR (f i)) : f = fun i => ((EReal.toReal (f i) : ℝ) : EReal) := by
  funext i
  obtain ⟨r, e⟩ := h i
  rw [e, EReal.toReal_coe]

/-- What an array holds at the start is what the memory holds. -/
theorem initial (m : (ℓ : Loc Cert.Reference3Ideal.nD Cert.Reference3Ideal.τ Cert.Reference3Ideal.sig) → Buf (Elt Ideal) ℓ) (c : Dev Cert.Reference3Ideal.nD) (r : Ref Cert.Reference3Ideal.sig .tc) :
    StableHlo.launchContents m c (Proc.tc.devRef r) = m ((c.tc : Thread Cert.Reference3Ideal.nD Cert.Reference3Ideal.τ).loc r) := rfl

/-- For real inputs the kernel's seven results are the reference's. -/
theorem algebraic : Cert.algebraic_Kernel3Ideal_Reference3Ideal_pre_finite2 := by
  pair_intro
  · run_from Cert.Kernel3Ideal.Value.run_blocks m g
  · run_from Cert.Reference3Ideal.Value.run m' g'
    · obtain ⟨k, dm, cw, lng, ws, h⟩ := reals (hpre c)
      obtain ⟨e0, e1, e2, e3, e4, e5, e6, e7, e8, e9⟩ := hagree c
      rw [Cert.Reference3Ideal.Read.val_main_v221_eq]
      simp only [initial m' c, e0, e1, e2, e3, e4, e5, e6, e7, e8, e9]
      exact (Cert.Kernel3Ideal.Point.dp_array (points m c h) h).symm
    · obtain ⟨k, dm, cw, lng, ws, h⟩ := reals (hpre c)
      obtain ⟨e0, e1, e2, e3, e4, e5, e6, e7, e8, e9⟩ := hagree c
      rw [Cert.Reference3Ideal.Read.val_main_v222_eq]
      simp only [initial m' c, e0, e1, e2, e8, e9]
      exact (Cert.Kernel3Ideal.Point.dcw_array (points m c h) h).symm
    · obtain ⟨k, dm, cw, lng, ws, h⟩ := reals (hpre c)
      obtain ⟨e0, e1, e2, e3, e4, e5, e6, e7, e8, e9⟩ := hagree c
      rw [Cert.Reference3Ideal.Read.val_main_v226_eq]
      simp only [initial m' c, e0, e1, e2, e6, e8, e9]
      exact (Cert.Kernel3Ideal.Point.dln_array (points m c h) h).symm
    · obtain ⟨k, dm, cw, lng, ws, h⟩ := reals (hpre c)
      obtain ⟨e0, e1, e2, e3, e4, e5, e6, e7, e8, e9⟩ := hagree c
      rw [Cert.Reference3Ideal.Read.val_main_v127_eq]
      simp only [initial m' c, e0, e1, e2, e4, e5, e8, e9]
      exact (Cert.Kernel3Ideal.Point.dws_array (points m c h) h).symm
    · obtain ⟨k, dm, cw, lng, ws, h⟩ := reals (hpre c)
      obtain ⟨e0, e1, e2, e3, e4, e5, e6, e7, e8, e9⟩ := hagree c
      rw [Cert.Reference3Ideal.Read.val_main_v229_eq]
      simp only [initial m' c, e0, e1, e2, e8, e9]
      exact (Cert.Kernel3Ideal.Point.dbs_array (points m c h) h).symm
    · obtain ⟨k, dm, cw, lng, ws, h⟩ := reals (hpre c)
      obtain ⟨r0, r1, r2, -⟩ := inputs (hpre c)
      obtain ⟨e0, e1, e2, e3, e4, e5, e6, e7, e8, e9⟩ := hagree c
      have e := Cert.Reference3Ideal.Read.val_main_v230_eq (F := Ideal) (StableHlo.launchContents m' c)
      simp only [initial m' c, e0, e1, e2, e3, e4, e5, e6, e7, e8, e9] at e
      exact e.trans (Cert.Kernel3Ideal.Point.dx0_array (points m c h) h (args m c) (as_real r0) (as_real r1) (as_real r2)).symm
    · obtain ⟨k, dm, cw, lng, ws, h⟩ := reals (hpre c)
      obtain ⟨r0, r1, r2, -⟩ := inputs (hpre c)
      obtain ⟨e0, e1, e2, e3, e4, e5, e6, e7, e8, e9⟩ := hagree c
      rw [Cert.Reference3Ideal.Read.val_main_v232_eq]
      simp only [initial m' c, e0, e1, e2, e3, e4, e5, e6, e7, e8, e9]
      exact (Cert.Kernel3Ideal.Point.dg_array (points m c h) h (args m c) (as_real r0) (as_real r2)).symm

end Cert.Pair3

end
-- ==== Proof.FfnPay.lean ====
/-
  THE GATED LAYER'S BACKWARD STEP, SHARD BY SHARD. The hidden width of 5632 columns lies in eight shards of 704, and the kernel's body
  does the same for each. Here are that work's pieces, once, for any shard: what each is when the blocks it is computed from hold,
  row for row, quantities of the hidden layer.
-/
module

public import proofs.«01_k».proof.Proof.Gen.Kernel4Ideal.Value
public import proofs.«01_k».proof.Proof.MixPay

@[expose] public section

set_option maxRecDepth 16384

noncomputable section

open Idealize.ShloMosaic Idealize.ShloMosaic.TcCoe Idealize.SL.Sem

namespace Cert.Ffn

open Cert.Mix

/-- A quantity per batch, position and hidden column. -/
abbrev Hid := Fin 4 → Fin 2048 → Fin 5632 → ℝ

/-- One hidden column, as a quantity that does not depend on the channel. -/
def chan (f : Hid) (l : Fin 5632) : Tok := fun b s _ => f b s l

/-- Moved up by `j` positions, zeros after the sequence's end. -/
def upH (j : ℕ) (f : Hid) : Hid := fun b s l => up j (chan f l) b s 0

/-- The gradient through the causal convolution of width three. -/
def convH (f : Hid) (cw : Fin 3 → Fin 5632 → ℝ) : Hid := fun b s l => f b s l * cw 2 l + upH 1 f b s l * cw 1 l + upH 2 f b s l * cw 0 l

/-- Column `q` of shard `j`. -/
def col (j : Fin 8) (q : Fin 704) : Fin 5632 := ⟨j.val * 704 + q.val, by omega⟩

/-- The shard of the gated product's columns that shard `j` belongs to. -/
def half (j : Fin 8) : Fin 4 := ⟨j.val % 4, by omega⟩

/-- Column `q` of shard `k` of the gated product. -/
def gcol (k : Fin 4) (q : Fin 704) : Fin 2816 := ⟨k.val * 704 + q.val, by omega⟩

end Cert.Ffn

namespace Cert.Kernel4Ideal.Point

open Cert.Kernel4Ideal Cert.Kernel4Ideal.Gen Cert.Reals Cert.Mix Cert.Ffn
open Cert.Kernel2Ideal.Point (nxt up_blk r8 sel_one sel_zero sge7 sge6)

/-! ## The pieces of a shard's work -/

/-- The cotangent of the gated product: the stream's cotangent times a shard of the weights. -/
abbrev dactP (dx : FVec Ideal S256x1024 .f32) (w : FVec Ideal S1x704x1024 .bf16) : FVec Ideal S256x704 .f32 := k0_pay9 dx w
/-- The cotangent of the convolution's result. -/
abbrev dupP (a : FVec Ideal S256x704 .f32) (fc : FVec Ideal S1x256x704 .bf16) : FVec Ideal S256x704 .f32 := k0_pay13 a fc
/-- It moved up by one and by two rows, the rows after the block carried. -/
abbrev up1P (z : EReal) (a : FVec Ideal S256x704 .f32) (fc : FVec Ideal S1x256x704 .bf16) (cr : FVec Ideal S1x8x704 .f32) : FVec Ideal S256x704 .f32 := k0_pay17 (F := Ideal) z a fc cr
abbrev up2P (z : EReal) (a : FVec Ideal S256x704 .f32) (fc : FVec Ideal S1x256x704 .bf16) (cr : FVec Ideal S1x8x704 .f32) : FVec Ideal S256x704 .f32 := k0_pay18 (F := Ideal) z a fc cr
/-- Through the convolution. -/
abbrev convP (z : EReal) (a : FVec Ideal S256x704 .f32) (fc : FVec Ideal S1x256x704 .bf16) (cr w : FVec Ideal S1x8x704 .f32) : FVec Ideal S256x704 .f32 :=
  k0_pay21 (k0_pay16 w) (up1P z a fc cr) (up2P z a fc cr) (k0_pay19 a fc w) (k0_pay20 w)

variable {R : ℕ} {j : Fin 8} {D : Fin 4 → Fin 2048 → Fin 1024 → ℝ} {wd : Fin 2816 → Fin 1024 → ℝ} {A : Fin 4 → Fin 2048 → Fin 2816 → ℝ} {fac f uph : Hid} {cw : Fin 3 → Fin 5632 → ℝ}
variable {dx : FVec Ideal S256x1024 .f32} {w : FVec Ideal S1x704x1024 .bf16} {a : FVec Ideal S256x704 .f32} {fc : FVec Ideal S1x256x704 .bf16} {cr cwv : FVec Ideal S1x8x704 .f32} {z : EReal}

/-- Row `p` of the shard's block holds flat row `R + p` of `f`. -/
def Shard (f : Hid) (j : Fin 8) (R : ℕ) (A : S256x704.Idx → EReal) : Prop :=
  ∀ (p : Fin 256) (q : Fin 704), A (ix2 p q) = ((f (bb (R + p.val)) (ss (R + p.val)) (col j q) : ℝ) : EReal)

theorem dact_at (k : Fin 4) (hdx : ∀ (p : Fin 256) q, dx (ix2 p q) = ((D (bb (R + p.val)) (ss (R + p.val)) q : ℝ) : EReal))
    (hw : ∀ q i, w (ix3 0 q i) = ((wd (gcol k q) i : ℝ) : EReal)) (p : Fin 256) (q : Fin 704) :
    dactP dx w (ix2 p q) = ((∑ i, D (bb (R + p.val)) (ss (R + p.val)) i * wd (gcol k q) i : ℝ) : EReal) := by
  pointwise [k0_pay9, k0_pay7, k0_pay6]
  simp only [hdx, hw, ← EReal.coe_mul, ← coe_sum]

theorem dup_at (ha : ∀ (p : Fin 256) q, a (ix2 p q) = ((A (bb (R + p.val)) (ss (R + p.val)) (gcol (half j) q) : ℝ) : EReal))
    (hfc : ∀ (p : Fin 256) q, fc (ix3 0 p q) = ((fac (bb (R + p.val)) (ss (R + p.val)) (col j q) : ℝ) : EReal))
    (hf : ∀ b s q, f b s (col j q) = A b s (gcol (half j) q) * fac b s (col j q)) : Shard f j R (dupP a fc) := by
  intro p q
  pointwise [k0_pay13]
  rw [ha, hfc, hf, EReal.coe_mul]

/-- The rows after the block. -/
def Next (f : Hid) (j : Fin 8) (R : ℕ) (z : EReal) (cr : FVec Ideal S1x8x704 .f32) : Prop :=
  ∀ r q, (k0_pay14 (F := Ideal) z cr : FVec Ideal S8x704 .f32) (ix2 r q) = ((nxt 256 (chan f (col j q)) R r 0 : ℝ) : EReal)

variable (hd : Shard f j R (k0_pay13 a fc)) (hn : Next f j R z cr) (hR : R % 256 = 0)
include hd hn hR

theorem up1_at : Shard (upH 1 f) j R (up1P z a fc cr) := by
  intro p q
  pointwise [k0_pay17]
  have key := fun x => up_blk (chan f (col j q)) (show R % 2048 + 256 = 2048 ∨ R % 2048 + 256 + 8 ≤ 2048 by omega) 1 (by omega) p 0 x
  by_cases h : p.val < 248
  · rw [dif_pos h, hd]
    refine congrArg (fun x : ℝ => (x : EReal)) (key _ (fun h1 => ?_) fun h2 => by omega)
    have e : (p.val + 256 - 255) % 256 = p.val + 1 := by omega
    simp only [e]
    rfl
  · rw [dif_neg h, sge7 ⟨p.val - 248, by omega⟩, hn, hd]
    by_cases h7 : 7 ≤ p.val - 248
    · rw [if_pos h7, sel_one]
      refine congrArg (fun x : ℝ => (x : EReal)) (key _ (fun h1 => by omega) fun h2 => ?_)
      exact congrArg (fun r => nxt 256 (chan f (col j q)) R r 0) (Fin.ext (by show (p.val - 248 + 8 - 7) % 8 = p.val + 1 - 256; omega))
    · rw [if_neg h7, sel_zero]
      refine congrArg (fun x : ℝ => (x : EReal)) (key _ (fun h1 => ?_) fun h2 => by omega)
      have e : (248 + (p.val - 248) + 256 - 255) % 256 = p.val + 1 := by omega
      show f (bb (R + (248 + (p.val - 248) + 256 - 255) % 256)) (ss (R + (248 + (p.val - 248) + 256 - 255) % 256)) (col j q) = _
      rw [e]
      rfl

theorem up2_at : Shard (upH 2 f) j R (up2P z a fc cr) := by
  intro p q
  pointwise [k0_pay18]
  have key := fun x => up_blk (chan f (col j q)) (show R % 2048 + 256 = 2048 ∨ R % 2048 + 256 + 8 ≤ 2048 by omega) 2 (by omega) p 0 x
  by_cases h : p.val < 248
  · rw [dif_pos h, hd]
    refine congrArg (fun x : ℝ => (x : EReal)) (key _ (fun h1 => ?_) fun h2 => by omega)
    have e : (p.val + 256 - 254) % 256 = p.val + 2 := by omega
    simp only [e]
    rfl
  · rw [dif_neg h, sge6 ⟨p.val - 248, by omega⟩, hn, hd]
    by_cases h7 : 6 ≤ p.val - 248
    · rw [if_pos h7, sel_one]
      refine congrArg (fun x : ℝ => (x : EReal)) (key _ (fun h1 => by omega) fun h2 => ?_)
      exact congrArg (fun r => nxt 256 (chan f (col j q)) R r 0) (Fin.ext (by show (p.val - 248 + 8 - 6) % 8 = p.val + 2 - 256; omega))
    · rw [if_neg h7, sel_zero]
      refine congrArg (fun x : ℝ => (x : EReal)) (key _ (fun h1 => ?_) fun h2 => by omega)
      have e : (248 + (p.val - 248) + 256 - 254) % 256 = p.val + 2 := by omega
      show f (bb (R + (248 + (p.val - 248) + 256 - 254) % 256)) (ss (R + (248 + (p.val - 248) + 256 - 254) % 256)) (col j q) = _
      rw [e]
      rfl

theorem conv_at (hw : ∀ (i : Fin 3) q, cwv (ix3 0 (r8 i) q) = ((cw i (col j q) : ℝ) : EReal)) : Shard (convH f cw) j R (convP z a fc cr cwv) := by
  have h1 := up1_at hd hn hR
  have h2 := up2_at hd hn hR
  intro p q
  unfold convP at *
  generalize (up1P z a fc cr) = U1 at h1 ⊢
  generalize (up2P z a fc cr) = U2 at h2 ⊢
  have hw0 : ∀ q, cwv (ix3 0 (0 : Fin 8) q) = ((cw 0 (col j q) : ℝ) : EReal) := hw 0
  have hw1 : ∀ q, cwv (ix3 0 (1 : Fin 8) q) = ((cw 1 (col j q) : ℝ) : EReal) := hw 1
  have hw2 : ∀ q, cwv (ix3 0 (2 : Fin 8) q) = ((cw 2 (col j q) : ℝ) : EReal) := hw 2
  have hd' := hd p q
  unfold k0_pay19
  generalize k0_pay13 a fc = d at hd' ⊢
  pointwise [k0_pay21, k0_pay16, k0_pay20]
  simp only [hd', h1 p q, h2 p q]
  erw [hw0, hw1, hw2]
  simp only [← EReal.coe_mul, ← EReal.coe_add]
  rfl

omit hn hR in
/-- What the next block will be handed. -/
theorem carry_at (r : Fin 8) (q : Fin 704) : (k0_pay15 a fc : FVec Ideal S1x8x704 .f32) (ix3 0 r q)
    = ((f (bb (R + r.val)) (ss (R + r.val)) (col j q) : ℝ) : EReal) := by
  have := hd ⟨r.val, by omega⟩ q
  unfold k0_pay15
  generalize k0_pay13 a fc = d at this ⊢
  pointwise
  exact this

omit hd hn hR in
/-- A block's products, column by column. -/
def part (f g : Hid) (R : ℕ) (l : Fin 5632) : ℝ := ∑ p : Fin 256, f (bb (R + p.val)) (ss (R + p.val)) l * g (bb (R + p.val)) (ss (R + p.val)) l

omit hd hn hR in
/-- One row of the convolution weights' gradient: what was there and the block's products. -/
theorem row_at {g : Hid} {U : FVec Ideal S256x704 .f32} {up : FVec Ideal S1x256x704 .f32} (hU : Shard f j R U)
    (hup : ∀ (p : Fin 256) q, up (ix3 0 p q) = ((g (bb (R + p.val)) (ss (R + p.val)) (col j q) : ℝ) : EReal)) (P : FVec Ideal S1x1x704 .f32) (q : Fin 704) :
    (k0_pay23 U up P : FVec Ideal S1x1x704 .f32) (ix3 0 0 q) = (P (ix3 0 0 q) : EReal) + ((part f g R (col j q) : ℝ) : EReal) := by
  pointwise [k0_pay23, k0_pay22]
  simp only [fun p => hU p q, fun p => hup p q, ← EReal.coe_mul, ← coe_sum]
  rfl

omit hd hn hR in
/-- The product with the projection's weights, one shard: what it adds. -/
theorem step_at {g : Hid} {wu : Fin 1024 → Fin 5632 → ℝ} {E : FVec Ideal S256x704 .f32} {W : FVec Ideal S1x704x1024 .bf16} (hE : Shard g j R E)
    (hW : ∀ q i, W (ix3 0 q i) = ((wu i (col j q) : ℝ) : EReal)) (B : FVec Ideal S256x1024 .f32) (p : Fin 256) (i : Fin 1024) :
    (k0_pay29 B E W : FVec Ideal S256x1024 .f32) (ix2 p i) = (B (ix2 p i) : EReal)
      + ((∑ q, g (bb (R + p.val)) (ss (R + p.val)) (col j q) * wu i (col j q) : ℝ) : EReal) := by
  pointwise [k0_pay29, k0_pay27]
  simp only [fun q => hE p q, hW, ← EReal.coe_mul, ← coe_sum]

end Cert.Kernel4Ideal.Point

end
-- ==== Proof.FfnOuts.lean ====
/-
  WHAT ONE GRID POINT OF THE GATED LAYER'S BACKWARD KERNEL LEAVES. The body writes out its eight shards one after another, in the order
  0, 4, 1, 5, 2, 6, 3, 7; every output and the carried rows are read back here as one expression in the shard's number.
-/
module

public import proofs.«01_k».proof.Proof.FfnPay
public import proofs.«01_k».proof.Proof.MixOuts

@[expose] public section

set_option maxRecDepth 16384

noncomputable section

open Idealize.ShloMosaic Idealize.ShloMosaic.TcCoe Idealize.SL.Sem

namespace Cert.Kernel4Ideal.Point

open Cert.Kernel4Ideal Cert.Kernel4Ideal.Gen Cert.Reals Cert.Mix Cert.Ffn

/-! ## Stores shard by shard -/

theorem inb_rows (j : Fin 8) : ∀ a, (![j.val, 0, 0] : Fin 3 → Nat) a + S1x256x704.size a ≤ S8x256x704.size a := by
  revert j; decide
theorem inb_halo (j : Fin 8) : ∀ a, (![j.val, 0, 0] : Fin 3 → Nat) a + S1x8x704.size a ≤ S8x8x704.size a := by
  revert j; decide
theorem inb_row (x : Fin 8 × Fin 3) : ∀ a, (![x.1.val, x.2.val, 0] : Fin 3 → Nat) a + S1x1x704.size a ≤ S8x8x704.size a := by
  revert x; decide
theorem inb_wu (j : Fin 8) : ∀ a, (![j.val, 0, 0] : Fin 3 → Nat) a + S1x704x1024.size a ≤ S8x704x1024.size a := by
  revert j; decide
theorem inb_wd (j : Fin 8) : ∀ a, (![j.val % 4, 0, 0] : Fin 3 → Nat) a + S1x704x1024.size a ≤ S4x704x1024.size a := by
  revert j; decide

/-- The last store's entries. -/
theorem canon_last {S : Shape} {e : EltTy} {off size : Fin S.rank → ℕ} (inb : ∀ a, off a + size a ≤ S.size a) (w : (Rect.unit off size inb).shape.Idx → Elt Ideal e)
    (L : List (View.Piece (Elt Ideal) S e)) (y : S.Idx) (x : (Rect.unit off size inb).shape.Idx) (hx : ∀ a, (y a).val = off a + (x a).val) :
    View.canon ((⟨Rect.unit off size inb, w⟩ : View.Piece (Elt Ideal) S e) :: L) y = w x := by
  have hy : (Rect.unit off size inb).emb x = y := funext fun a => Fin.ext (by
    show off a + 1 * (x a).val = (y a).val
    rw [hx a, Nat.one_mul])
  rw [← hy]
  exact View.canon_cons_emb _ w L x

/-- Stores of whole slabs, in the order of a list, whatever was stored before: the entry of a slab that was stored. -/
theorem canon_slabs {n a b : ℕ} {e : EltTy} (inb : ∀ i : Fin n, ∀ x, (![i.val, 0, 0] : Fin 3 → Nat) x + (![1, a, b] : Fin 3 → Nat) x ≤ (⟨3, ![n, a, b]⟩ : Shape).size x)
    (w : Fin n → (⟨3, ![1, a, b]⟩ : Shape).Idx → Elt Ideal e) (j : Fin n) (p : Fin a) (q : Fin b) (L : List (View.Piece (Elt Ideal) (⟨3, ![n, a, b]⟩ : Shape) e)) : ∀ o : List (Fin n), j ∈ o →
    View.canon ((o.map fun i => (⟨Rect.unit (s := (⟨3, ![n, a, b]⟩ : Shape)) ![i.val, 0, 0] ![1, a, b] (inb i), w i⟩ : View.Piece (Elt Ideal) (⟨3, ![n, a, b]⟩ : Shape) e)) ++ L) (ix3 j p q)
      = w j (ix3 0 p q)
  | i :: o, h => by
    rw [List.map_cons, List.cons_append]
    by_cases e0 : j = i
    · subst e0
      refine canon_last (S := (⟨3, ![n, a, b]⟩ : Shape)) (e := e) (off := ![j.val, 0, 0]) (size := ![1, a, b]) (inb j) (w j) _ (ix3 j p q) (ix3 0 p q) fun x => ?_
      rcases x with ⟨_ | _ | _ | x, hx⟩
      · show j.val = j.val + 0
        omega
      · show p.val = 0 + p.val
        omega
      · show q.val = 0 + q.val
        omega
      · exact absurd hx (by show ¬ x + 3 < 3; omega)
    · rw [View.canon_cons_of_not_mem]
      · exact canon_slabs inb w j p q L o ((List.mem_cons.mp h).resolve_left e0)
      · rw [Rect.mem_set_unit]
        intro hall
        have h1 : i.val ≤ j.val ∧ j.val < i.val + 1 := hall 0
        exact e0 (Fin.ext (by omega))

/-- Stores of single rows of shards over an array: a row that was stored, and one that was not. -/
theorem read_rows {sig : RefSig} (v : View sig .tc .vmem S8x8x704 .f32) (f : v.ty.Contents (Elt Ideal)) (w : Fin 8 × Fin 3 → FVec Ideal S1x1x704 .f32) (j r : Fin 8) (q : Fin 704)
    (L : List (View.Piece (Elt Ideal) S8x8x704 .f32)) (T : EReal) (hL : 3 ≤ r.val → v.read (Elt Ideal) (v.writes (Elt Ideal) f L) (ix3 j r q) = T)
    (hw : ∀ i : Fin 3, r.val = i.val → w (j, i) (ix3 0 0 q) = T) : ∀ o : List (Fin 8 × Fin 3), (∀ i : Fin 3, (j, i) ∈ o ∨ r.val ≠ i.val) →
    v.read (Elt Ideal) (v.writes (Elt Ideal) f ((o.map fun x => (⟨Rect.unit (s := S8x8x704) ![x.1.val, x.2.val, 0] S1x1x704.size (inb_row x), w x⟩ : View.Piece (Elt Ideal) S8x8x704 .f32)) ++ L)) (ix3 j r q) = T
  | [], h => hL (by
      by_contra hr
      rcases h ⟨r.val, by omega⟩ with h | h
      · exact absurd h List.not_mem_nil
      · exact h rfl)
  | x :: o, h => by
    rw [List.map_cons, List.cons_append]
    by_cases e : j = x.1 ∧ r.val = x.2.val
    · obtain ⟨i, k⟩ := x
      obtain ⟨rfl, e⟩ := e
      refine Eq.trans (View.read_writes_cons_unit_of_mem v f (inb_row (j, k)) _ _ _ (ix3 0 0 q) rfl fun a => ?_) (hw k e)
      rcases a with ⟨_ | _ | _ | a, ha⟩
      · show j.val = j.val + 0
        omega
      · show r.val = k.val + 0
        exact e
      · show q.val = 0 + q.val
        omega
      · exact absurd ha (by show ¬ a + 3 < 3; omega)
    · have step : v.read (Elt Ideal) (v.writes (Elt Ideal) f ((⟨Rect.unit (s := S8x8x704) ![x.1.val, x.2.val, 0] S1x1x704.size (inb_row x), w x⟩ : View.Piece (Elt Ideal) S8x8x704 .f32)
          :: ((o.map fun x => (⟨Rect.unit (s := S8x8x704) ![x.1.val, x.2.val, 0] S1x1x704.size (inb_row x), w x⟩ : View.Piece (Elt Ideal) S8x8x704 .f32)) ++ L))) (ix3 j r q)
          = v.read (Elt Ideal) (v.writes (Elt Ideal) f ((o.map fun x => (⟨Rect.unit (s := S8x8x704) ![x.1.val, x.2.val, 0] S1x1x704.size (inb_row x), w x⟩ : View.Piece (Elt Ideal) S8x8x704 .f32)) ++ L)) (ix3 j r q) := by
        by_cases e0 : j = x.1
        · refine View.read_writes_cons_unit_of_not_mem v f (inb_row x) _ _ _ rfl 1 ?_
          show r.val < x.2.val ∨ x.2.val + 1 ≤ r.val
          have : r.val ≠ x.2.val := fun h => e ⟨e0, h⟩
          omega
        · refine View.read_writes_cons_unit_of_not_mem v f (inb_row x) _ _ _ rfl 0 ?_
          show j.val < x.1.val ∨ x.1.val + 1 ≤ j.val
          have : j.val ≠ x.1.val := fun h => e0 (Fin.ext h)
          omega
      refine step.trans (read_rows v f w j r q L T hL hw o fun i => ?_)
      rcases h i with h | h
      · rcases List.mem_cons.mp h with h | h
        · exact Or.inr fun hr => e ⟨by rw [← h], by rw [← h]; exact hr⟩
        · exact Or.inl h
      · exact Or.inr h

/-! ## The point's own expressions -/

variable (m : (ℓ : Loc nD τ sig) → Buf (Elt Ideal) ℓ) (c : Dev nD)

/-- What shard `j` loads. -/
abbrev fcS (t : Fin cfg0.N) (j : Fin 8) : FVec Ideal S1x256x704 .bf16 := View.ld (Val := Elt Ideal) (e' := .bf16) (iblk m c 2 t) (Rect.unit (s := S8x256x704) ![j.val, 0, 0] S1x256x704.size (inb_rows j))
abbrev upS (t : Fin cfg0.N) (j : Fin 8) : FVec Ideal S1x256x704 .f32 := View.ld (Val := Elt Ideal) (e' := .f32) (iblk m c 1 t) (Rect.unit (s := S8x256x704) ![j.val, 0, 0] S1x256x704.size (inb_rows j))
abbrev haloS (C : FVec Ideal S8x8x704 .f32) (j : Fin 8) : FVec Ideal S1x8x704 .f32 := View.ld (Val := Elt Ideal) (e' := .f32) C (Rect.unit (s := S8x8x704) ![j.val, 0, 0] S1x8x704.size (inb_halo j))
abbrev wuS (t : Fin cfg0.N) (j : Fin 8) : FVec Ideal S1x704x1024 .bf16 := View.ld (Val := Elt Ideal) (e' := .bf16) (iblk m c 5 t) (Rect.unit (s := S8x704x1024) ![j.val, 0, 0] S1x704x1024.size (inb_wu j))
abbrev wdS (t : Fin cfg0.N) (j : Fin 8) : FVec Ideal S1x704x1024 .bf16 := View.ld (Val := Elt Ideal) (e' := .bf16) (iblk m c 3 t) (Rect.unit (s := S4x704x1024) ![j.val % 4, 0, 0] S1x704x1024.size (inb_wd j))
abbrev rowS (C : FVec Ideal S8x8x704 .f32) (x : Fin 8 × Fin 3) : FVec Ideal S1x1x704 .f32 := View.ld (Val := Elt Ideal) (e' := .f32) C (Rect.unit (s := S8x8x704) ![x.1.val, x.2.val, 0] S1x1x704.size (inb_row x))

abbrev keep (t : Fin cfg0.N) : EReal := k0_pay5 (F := Ideal) (grid0.coords t)
abbrev dactS (t : Fin cfg0.N) (j : Fin 8) : FVec Ideal S256x704 .f32 := dactP (iblk m c 0 t) (wdS m c t j)
/-- Shard `j` of the result, from the carried rows `C`. -/
abbrev convS (t : Fin cfg0.N) (C : FVec Ideal S8x8x704 .f32) (j : Fin 8) : FVec Ideal S256x704 .f32 :=
  convP (keep t) (dactS m c t j) (fcS m c t j) (haloS C j) (haloS (iblk m c 4 t) j)
/-- The factor of the saved rows in row `i` of the convolution weights' gradient. -/
abbrev tapS (t : Fin cfg0.N) (C : FVec Ideal S8x8x704 .f32) (j : Fin 8) (i : Fin 3) : FVec Ideal S256x704 .f32 :=
  match i with
  | 0 => up2P (keep t) (dactS m c t j) (fcS m c t j) (haloS C j)
  | 1 => up1P (keep t) (dactS m c t j) (fcS m c t j) (haloS C j)
  | 2 => dupP (dactS m c t j) (fcS m c t j)
/-- The shards in the order of the body. -/
abbrev order : List (Fin 8) := [0, 4, 1, 5, 2, 6, 3, 7]
/-- The product with the projection's weights, shard after shard. -/
abbrev dhS (t : Fin cfg0.N) (C : FVec Ideal S8x8x704 .f32) : FVec Ideal S256x1024 .f32 :=
  order.foldl (fun B j => k0_pay29 B (convS m c t C j) (wuS m c t j)) k0_pay8

/-- What the point before left: the carried rows, the two accumulated gradients. -/
def before (t : Fin cfg0.N) : FVec Ideal S8x8x704 .f32 := if h : t.val % 32 = 0 then k0_pay4 else (outsAt0 m c (t.val - 1) (by omega)).2.2.2.2
def beforeW (t : Fin cfg0.N) : FVec Ideal S8x8x704 .f32 := if h : t.val % 32 = 0 then k0_pay2 else (outsAt0 m c (t.val - 1) (by omega)).2.1

theorem dup_out (t : Fin cfg0.N) (j : Fin 8) (p : Fin 256) (q : Fin 704) : ((outsAt0 m c t.val t.isLt).1 : FVec Ideal S8x256x704 .bf16) (ix3 j p q)
    = (k0_pay28 (convS m c t (before m c t) j) : FVec Ideal S1x256x704 .bf16) (ix3 0 p q) := by
  by_cases h0 : t.val % 32 = 0
  · unfold before
    rw [dif_pos h0, outsAt0_A m c t h0]
    frame_out
    simp (disch := first | decide | (intro a; fin_cases a <;> rfl)) only [↓View.readCov_skip, ↓View.readCov_fill]
    exact canon_slabs (e := .bf16) inb_rows (fun j => k0_pay28 (convS m c t k0_pay4 j)) j p q [] [7, 3, 6, 2, 5, 1, 4, 0] (by revert j; decide)
  · unfold before
    rw [dif_neg h0, outsAt0_B m c t h0]
    frame_out
    try simp only [read_unread_whole]
    exact canon_slabs (e := .bf16) inb_rows (fun j => k0_pay28 (convS m c t (outsAt0 m c (t.val - 1) (by omega)).2.2.2.2 j)) j p q [] [7, 3, 6, 2, 5, 1, 4, 0] (by revert j; decide)

theorem carry_out (t : Fin cfg0.N) (j : Fin 8) (r : Fin 8) (q : Fin 704) : ((outsAt0 m c t.val t.isLt).2.2.2.2 : FVec Ideal S8x8x704 .f32) (ix3 j r q)
    = (k0_pay15 (dactS m c t j) (fcS m c t j) : FVec Ideal S1x8x704 .f32) (ix3 0 r q) := by
  by_cases h0 : t.val % 32 = 0
  · rw [outsAt0_A m c t h0]
    frame_out
    try simp only [read_unread_whole]
    exact canon_slabs (e := .f32) inb_halo (fun j => k0_pay15 (dactS m c t j) (fcS m c t j)) j r q _ [7, 3, 6, 2, 5, 1, 4, 0] (by revert j; decide)
  · rw [outsAt0_B m c t h0]
    frame_out
    try simp only [read_unread_whole]
    exact canon_slabs (e := .f32) inb_halo (fun j => k0_pay15 (dactS m c t j) (fcS m c t j)) j r q [] [7, 3, 6, 2, 5, 1, 4, 0] (by revert j; decide)

/-- The rows of the convolution weights' gradient, in the order they are stored, the last first. -/
abbrev rowOrder : List (Fin 8 × Fin 3) := [7, 3, 6, 2, 5, 1, 4, 0].flatMap fun j => [(j, 2), (j, 1), (j, 0)]

theorem all_rows : ∀ (j : Fin 8) (k : Fin 3), (j, k) ∈ rowOrder := by decide

theorem fill_at {sig : RefSig} (v : View sig .tc .vmem S8x8x704 .f32) (i : _) (Z : FVec Ideal S8x8x704 .f32) (y : S8x8x704.Idx) :
    v.read (Elt Ideal) (v.writes (Elt Ideal) v.junk [⟨Rect.unit (s := S8x8x704) ![0, 0, 0] ![8, 8, 704] i, Z⟩]) y = Z y := by
  rw [View.read_writes_junk_eq_canon]
  exact congrFun (View.canon_cons_unit_lit (Val := Elt Ideal) (e := .f32) i Z [] (by intro a; fin_cases a <;> rfl)) y

/-- The convolution weights' gradient: a row that grows, and the rows after the third, which stay. -/
theorem dcw_out (t : Fin cfg0.N) (j r : Fin 8) (q : Fin 704) (T : EReal) (hL : 3 ≤ r.val → beforeW m c t (ix3 j r q) = T)
    (hw : ∀ i : Fin 3, r.val = i.val → (k0_pay23 (tapS m c t (before m c t) j i) (upS m c t j) (rowS (beforeW m c t) (j, i)) : FVec Ideal S1x1x704 .f32) (ix3 0 0 q) = T) :
    ((outsAt0 m c t.val t.isLt).2.1 : FVec Ideal S8x8x704 .f32) (ix3 j r q) = T := by
  by_cases h0 : t.val % 32 = 0
  · unfold before beforeW at *
    simp only [dif_pos h0] at hL hw
    rw [outsAt0_A m c t h0]
    frame_out
    simp (disch := first | decide | (intro a; fin_cases a <;> rfl)) only [↓View.readCov_skip, ↓View.readCov_fill]
    rw [← View.read_writes_junk_eq_canon (ms0_9 t).view]
    exact read_rows _ _ (fun x => k0_pay23 (tapS m c t k0_pay4 x.1 x.2) (upS m c t x.1) (rowS k0_pay2 x)) j r q _ _ (fun h => (fill_at _ _ _ _).trans (hL h)) hw rowOrder (fun k => Or.inl (all_rows j k))
  · unfold before beforeW at *
    simp only [dif_neg h0] at hL hw
    rw [outsAt0_B m c t h0]
    frame_out
    try simp only [read_unread_whole]
    refine read_rows _ _ (fun x => k0_pay23 (tapS m c t (outsAt0 m c (t.val - 1) (by omega)).2.2.2.2 x.1 x.2) (upS m c t x.1) (rowS (outsAt0 m c (t.val - 1) (by omega)).2.1 x)) j r q [] _
      (fun h => ?_) hw rowOrder (fun k => Or.inl (all_rows j k))
    exact (congrFun (Memref.IsWhole.read_unread _ _) (ix3 j r q)).trans (hL h)

/-- The gradient of the residual stream. -/
theorem dx_out (t : Fin cfg0.N) : ((outsAt0 m c t.val t.isLt).2.2.1 : FVec Ideal S256x1024 .f32)
    = k0_pay145 (k0_pay6 (iblk m c 0 t)) (dhS m c t (before m c t)) (iblk m c 6 t) (iblk m c 7 t) := by
  by_cases h0 : t.val % 32 = 0
  · unfold before
    rw [dif_pos h0, outsAt0_A m c t h0]
    frame_out
    simp (disch := first | decide | (intro a; fin_cases a <;> rfl)) only [↓View.readCov_skip, ↓View.readCov_fill]
    rfl
  · unfold before
    rw [dif_neg h0, outsAt0_B m c t h0]
    frame_out
    try simp only [read_unread_whole]
    rfl

/-- The norm weights' gradient before the point. -/
def beforeG (t : Fin cfg0.N) : FVec Ideal S8x1024 .f32 := if h : t.val % 32 = 0 then k0_pay3 else (outsAt0 m c (t.val - 1) (by omega)).2.2.2.1

/-- The norm weights' gradient: its first row grows, the others stay. -/
theorem dg_out (t : Fin cfg0.N) (r : Fin 8) (q : Fin 1024) : ((outsAt0 m c t.val t.isLt).2.2.2.1 : FVec Ideal S8x1024 .f32) (ix2 r q)
    = if r.val = 0 then (k0_pay1 (k0_pay144 (dhS m c t (before m c t)) (iblk m c 6 t))
        (View.ld (Val := Elt Ideal) (e' := .f32) (beforeG m c t) (Rect.unit (s := S8x1024) ![0, 0] ![1, 1024] inb_S8x1024_S1x1024_0_0)) : FVec Ideal S1x1024 .f32) (ix2 0 q)
      else beforeG m c t (ix2 r q) := by
  by_cases h0 : t.val % 32 = 0
  · unfold before beforeG
    rw [dif_pos h0, dif_pos h0, outsAt0_A m c t h0]
    frame_out
    simp (disch := first | decide | (intro a; fin_cases a <;> rfl)) only [↓View.readCov_skip, ↓View.readCov_fill]
    rw [← View.read_writes_junk_eq_canon (ms0_11 t).view]
    by_cases hr : r.val = 0
    · rw [if_pos hr]
      exact View.read_writes_cons_rows_of_mem _ _ _ _ _ _ (ix2 0 q) rfl hr rfl
    · rw [if_neg hr]
      rw [View.read_writes_cons_rows_of_not_mem (W := 1) _ _ _ _ _ _ rfl rfl (Or.inr (by show 0 + 1 ≤ r.val; omega))]
      exact Cert.Kernel2Ideal.Point.fill_read _ _ _ _
  · unfold before beforeG
    rw [dif_neg h0, dif_neg h0, outsAt0_B m c t h0]
    frame_out
    try simp only [read_unread_whole]
    by_cases hr : r.val = 0
    · rw [if_pos hr]
      exact View.read_writes_cons_rows_of_mem _ _ _ _ _ _ (ix2 0 q) rfl hr rfl
    · rw [if_neg hr]
      rw [View.read_writes_cons_rows_of_not_mem (W := 1) _ _ _ _ _ _ rfl rfl (Or.inr (by show 0 + 1 ≤ r.val; omega))]
      exact congrFun (Memref.IsWhole.read_unread _ _) (ix2 r q)

end Cert.Kernel4Ideal.Point

end
-- ==== Proof.FfnStream.lean ====
/-
  THE FEED-FORWARD'S BACKWARD KERNEL AT A GRID POINT. With the forward's values named, what a point stores is written out over the
  reals: the hidden gradient's block, a block's part of the two weight gradients, and the residual stream's gradient.
-/
module

public import proofs.«01_k».proof.Proof.FfnOuts
public import proofs.«01_k».proof.Proof.MixValue

@[expose] public section

set_option maxRecDepth 16384

noncomputable section

open Idealize.ShloMosaic Idealize.ShloMosaic.TcCoe Idealize.SL.Sem

namespace Cert.Ffn

open Cert.Reals Cert.Mix

/-- The column of the gated product that a hidden column belongs to. -/
def wrap (l : Fin 5632) : Fin 2816 := ⟨l.val % 2816, by omega⟩

theorem wrap_col (j : Fin 8) (q : Fin 704) : wrap (col j q) = gcol (half j) q :=
  Fin.ext (by show (j.val * 704 + q.val) % 2816 = j.val % 4 * 704 + q.val; omega)

theorem sum_shards (F : Fin 5632 → ℝ) : ∑ j, ∑ q, F (col j q) = ∑ l, F l :=
  Fin.sum_mul_add_congr (S := 8) (n := 704) fun j q _ => rfl

/-- What the gradient is computed from: the cotangent and the residual stream, the forward's hidden rows and the gates' factors,
    the weights. -/
structure Data where
  D : Tok
  X : Tok
  UP : Hid
  FAC : Hid
  wd : Fin 2816 → Fin 1024 → ℝ
  cw : Fin 3 → Fin 5632 → ℝ
  wu : Fin 1024 → Fin 5632 → ℝ
  g : Fin 1024 → ℝ

namespace Data

variable (d : Data)

/-- The cotangent of the gated product. -/
def dact (b : Fin 4) (s : Fin 2048) (k : Fin 2816) : ℝ := ∑ i, d.D b s i * d.wd k i
/-- The cotangent of the convolution's result. -/
def du : Hid := fun b s l => d.dact b s (wrap l) * d.FAC b s l
/-- The cotangent of the hidden rows. -/
def dc : Hid := convH d.du d.cw
/-- The cotangent of the normalised rows. -/
def dh : Tok := fun b s i => ∑ l, d.dc b s l * d.wu i l
/-- The residual stream's gradient. -/
def dx : Tok := fun b s i => d.D b s i + rmsGrad (d.X b s) d.g (d.dh b s) i
/-- The factor of the hidden rows in row `i` of the convolution weights' gradient. -/
def tap (i : Fin 3) : Hid :=
  match i with
  | 0 => upH 2 d.du
  | 1 => upH 1 d.du
  | 2 => d.du
/-- The convolution weights' gradient. -/
def dcw (i : Fin 3) (l : Fin 5632) : ℝ := ∑ b, ∑ s, d.tap i b s l * d.UP b s l
/-- The norm weights' gradient. -/
def dg (q : Fin 1024) : ℝ := ∑ b, ∑ s, d.dh b s q * (d.X b s q * rinv (d.X b s))

end Data

end Cert.Ffn

namespace Cert.Kernel4Ideal.Point

open Cert.Kernel4Ideal Cert.Kernel4Ideal.Gen Cert.Reals Cert.Mix Cert.Ffn
open Cert.Kernel2Ideal.Point (nxt r8)

/-! ## The rest of the body -/

/-- Whether the row block of point `n` ends a sequence: the kernel's test, on words. -/
def endBit (n : BitVec 32) : BitVec 1 :=
  let w : BitVec 32 := Scalar.select (Scalar.cmpi .eq 8#32 0#32) 1#32 8#32
  let r : BitVec 32 := Scalar.remsi (Scalar.subi 31#32 n) w
  Scalar.cmpi .eq (Scalar.select (Scalar.andi (Scalar.xori (Scalar.cmpi .slt r 0#32) (Scalar.cmpi .slt w 0#32)) (Scalar.cmpi .ne r 0#32)) (Scalar.addi r w) r) 7#32

theorem endBit_eq : ∀ t : Fin grid0.N, endBit (BitVec.ofNat 32 (grid0.coords t 0).val) = if t.val % 8 = 0 then 1#1 else 0#1 := by
  decide +kernel

theorem keep_at (t : Fin cfg0.N) : keep t = if t.val % 8 = 0 then 0 else 1 := by
  unfold keep
  pointwise [k0_pay5]
  show Scalar.select (endBit (BitVec.ofNat 32 (grid0.coords t 0).val)) (0 : EReal) 1 = _
  rw [endBit_eq t]
  split <;> rfl

section
variable {R : ℕ} {g : Hid} {wu : Fin 1024 → Fin 5632 → ℝ} {E : Fin 8 → FVec Ideal S256x704 .f32} {W : Fin 8 → FVec Ideal S1x704x1024 .bf16}
  (hE : ∀ j, Shard g j R (E j)) (hW : ∀ j q i, W j (ix3 0 q i) = ((wu i (col j q) : ℝ) : EReal))
include hE hW

theorem fold_at (p : Fin 256) (i : Fin 1024) : ∀ (o : List (Fin 8)) (B : FVec Ideal S256x1024 .f32),
    (o.foldl (fun B j => k0_pay29 B (E j) (W j)) B : FVec Ideal S256x1024 .f32) (ix2 p i)
      = (B (ix2 p i) : EReal) + (((o.map fun j => ∑ q, g (bb (R + p.val)) (ss (R + p.val)) (col j q) * wu i (col j q)).sum : ℝ) : EReal)
  | [], B => by
    rw [List.foldl_nil, List.map_nil, List.sum_nil, EReal.coe_zero, add_zero]
  | j :: o, B => by
    rw [List.foldl_cons, fold_at p i o, step_at (hE j) (hW j), List.map_cons, List.sum_cons, EReal.coe_add, add_assoc]

/-- The product with the projection's weights, all shards. -/
theorem dh_at (p : Fin 256) (i : Fin 1024) : (order.foldl (fun B j => k0_pay29 B (E j) (W j)) k0_pay8 : FVec Ideal S256x1024 .f32) (ix2 p i)
    = ((∑ l, g (bb (R + p.val)) (ss (R + p.val)) l * wu i l : ℝ) : EReal) := by
  refine (fold_at hE hW p i order _).trans ?_
  have z : (k0_pay8 (F := Ideal) : FVec Ideal S256x1024 .f32) (ix2 p i) = 0 := by pointwise [k0_pay8]
  rw [z, zero_add, ← sum_shards, Fin.sum_univ_eight]
  refine congrArg (fun x : ℝ => (x : EReal)) ?_
  simp only [order, List.map_cons, List.map_nil, List.sum_cons, List.sum_nil]
  ring
end

section
variable {A xb : FVec Ideal S256x1024 .f32}

/-- The gradient of the residual stream: the norm's, on top of the cotangent. -/
theorem pay_dx (yb : FVec Ideal S256x1024 .f32) (gb : FVec Ideal S1x1024 .f32) (p : Fin 256) (q : Fin 1024) (a xr gr : Fin 1024 → ℝ)
    (ha : ∀ k, A (ix2 p k) = ((a k : ℝ) : EReal)) (hx : ∀ k, xb (ix2 p k) = ((xr k : ℝ) : EReal)) (hg : ∀ k, gb (ix2 0 k) = ((gr k : ℝ) : EReal)) :
    (k0_pay145 (k0_pay6 yb) A xb gb : FVec Ideal S256x1024 .f32) (ix2 p q) = yb (ix2 p q) + ((rmsGrad xr gr a q : ℝ) : EReal) := by
  pointwise [k0_pay145, k0_pay143, k0_pay142, k0_pay141, k0_pay6]
  rw [ofBits_1024, ofBits_eps]
  simp only [ha, hx, hg, ← EReal.coe_mul, ← coe_sum]
  rw [div_coe _ (1024 : ℝ) (by norm_num), ← EReal.coe_add, rsqrt_ms]
  simp only [← EReal.coe_mul, ← coe_sum]
  rw [div_coe _ (1024 : ℝ) (by norm_num)]
  simp only [← EReal.coe_mul, ← EReal.coe_sub]
  rfl

/-- The gradient of the norm's weights: what a row block adds to what was there. -/
theorem pay_dg (prev : FVec Ideal S1x1024 .f32) (q : Fin 1024) (a xr : Fin 256 → Fin 1024 → ℝ) (ha : ∀ p k, A (ix2 p k) = ((a p k : ℝ) : EReal))
    (hx : ∀ p k, xb (ix2 p k) = ((xr p k : ℝ) : EReal)) :
    (k0_pay1 (k0_pay144 A xb) prev : FVec Ideal S1x1024 .f32) (ix2 0 q) = prev (ix2 0 q) + ((∑ p, a p q * (xr p q * rinv (xr p)) : ℝ) : EReal) := by
  pointwise [k0_pay1, k0_pay144, k0_pay143, k0_pay142, k0_pay141]
  rw [ofBits_1024, ofBits_eps]
  refine congrArg (_ + ·) ?_
  rw [coe_sum]
  refine Finset.sum_congr rfl fun p _ => ?_
  simp only [ha, hx, ← EReal.coe_mul, ← coe_sum]
  rw [div_coe _ (1024 : ℝ) (by norm_num), ← EReal.coe_add, rsqrt_ms]
  simp only [← EReal.coe_mul]
end

/-! ## A point that reads the forward's values -/

variable (m : (ℓ : Loc nD τ sig) → Buf (Elt Ideal) ℓ) (c : Dev nD)

/-- The first row of point `t`'s block. -/
abbrev R4 (t : Fin cfg0.N) : ℕ := (31 - t.val) * 256

structure At (d : Data) (t : Fin cfg0.N) : Prop where
  dx : ∀ (p : Fin 256) q, (iblk m c 0 t : FVec Ideal S256x1024 .f32) (ix2 p q) = ((d.D (bb (R4 t + p.val)) (ss (R4 t + p.val)) q : ℝ) : EReal)
  up : ∀ j (p : Fin 256) q, upS m c t j (ix3 0 p q) = ((d.UP (bb (R4 t + p.val)) (ss (R4 t + p.val)) (col j q) : ℝ) : EReal)
  fac : ∀ j (p : Fin 256) q, fcS m c t j (ix3 0 p q) = ((d.FAC (bb (R4 t + p.val)) (ss (R4 t + p.val)) (col j q) : ℝ) : EReal)
  wd : ∀ j q i, wdS m c t j (ix3 0 q i) = ((d.wd (gcol (half j) q) i : ℝ) : EReal)
  cw : ∀ j (i : Fin 3) q, haloS (iblk m c 4 t) j (ix3 0 (r8 i) q) = ((d.cw i (col j q) : ℝ) : EReal)
  wu : ∀ j q i, wuS m c t j (ix3 0 q i) = ((d.wu i (col j q) : ℝ) : EReal)
  x : ∀ (p : Fin 256) q, (iblk m c 6 t : FVec Ideal S256x1024 .f32) (ix2 p q) = ((d.X (bb (R4 t + p.val)) (ss (R4 t + p.val)) q : ℝ) : EReal)
  g : ∀ q, (iblk m c 7 t : FVec Ideal S1x1024 .f32) (ix2 0 q) = ((d.g q : ℝ) : EReal)

/-- A load of one slab of an array of slabs. -/
theorem slab {n a b : ℕ} {e : EltTy} (A : (⟨3, ![n, a, b]⟩ : Shape).Idx → Elt Ideal e) (k : Fin n) (inb : _) (p : Fin a) (q : Fin b) :
    (View.ld (Val := Elt Ideal) (e' := e) A (Rect.unit (s := (⟨3, ![n, a, b]⟩ : Shape)) ![k.val, 0, 0] ![1, a, b] inb)) (ix3 (0 : Fin 1) p q) = A (ix3 k p q) := by
  refine congrArg A (funext fun x => Fin.ext ?_)
  rcases x with ⟨_ | _ | _ | x, hx⟩
  · show k.val + 1 * 0 = k.val
    omega
  · show 0 + 1 * p.val = p.val
    omega
  · show 0 + 1 * q.val = q.val
    omega
  · exact absurd hx (by show ¬ x + 3 < 3; omega)

theorem halo_at (C : FVec Ideal S8x8x704 .f32) (j r : Fin 8) (q : Fin 704) : haloS C j (ix3 0 r q) = C (ix3 j r q) := slab (e := .f32) C j (inb_halo j) r q

theorem rowS_at (C : FVec Ideal S8x8x704 .f32) (j : Fin 8) (i : Fin 3) (q : Fin 704) : rowS C (j, i) (ix3 0 0 q) = C (ix3 j (r8 i) q) := by
  refine congrArg C (funext fun b => Fin.ext ?_)
  rcases b with ⟨_ | _ | _ | b, hb⟩
  · show j.val + 1 * 0 = j.val
    omega
  · show i.val + 1 * 0 = i.val
    omega
  · show 0 + 1 * q.val = q.val
    omega
  · exact absurd hb (by show ¬ b + 3 < 3; omega)

variable {m c} {d : Data} (hA : ∀ t, At m c d t)
include hA

theorem du_at (t : Fin cfg0.N) (j : Fin 8) : Shard d.du j (R4 t) (k0_pay13 (dactS m c t j) (fcS m c t j)) :=
  dup_at (fun p q => dact_at (D := d.D) (wd := d.wd) (half j) (hA t).dx ((hA t).wd j) p q) ((hA t).fac j) fun b s q => by
    show d.dact b s (wrap (col j q)) * _ = _
    rw [wrap_col]

theorem next_at (t : Fin cfg0.N) (j : Fin 8) : Next d.du j (R4 t) (keep t) (haloS (before m c t) j) := by
  intro r q
  have hN : t.val < 32 := t.isLt
  have e : (k0_pay14 (F := Ideal) (keep t) (haloS (before m c t) j) : FVec Ideal S8x704 .f32) (ix2 r q) = haloS (before m c t) j (ix3 0 r q) * keep t := by
    generalize haloS (before m c t) j = C
    generalize keep t = z
    pointwise [k0_pay14]
  rw [e, keep_at, halo_at]
  unfold nxt
  by_cases h : t.val % 8 = 0
  · rw [if_pos h, if_pos (show R4 t % 2048 + 256 = 2048 by unfold R4; omega), mul_zero, EReal.coe_zero]
  · rw [if_neg h, if_neg (show ¬ R4 t % 2048 + 256 = 2048 by unfold R4; omega), mul_one]
    unfold before
    rw [dif_neg (by omega)]
    refine (carry_out m c ⟨t.val - 1, by omega⟩ j r q).trans ((carry_at (du_at hA ⟨t.val - 1, by omega⟩ j) r q).trans ?_)
    rw [show R4 ⟨t.val - 1, by omega⟩ = R4 t + 256 by show (31 - (t.val - 1)) * 256 = (31 - t.val) * 256 + 256; omega]
    rfl

theorem R4_mod (t : Fin cfg0.N) : R4 t % 256 = 0 := by
  unfold R4
  omega

theorem dc_at (t : Fin cfg0.N) (j : Fin 8) : Shard d.dc j (R4 t) (convS m c t (before m c t) j) :=
  conv_at (du_at hA t j) (next_at hA t j) (R4_mod hA t) ((hA t).cw j)

theorem tap_at (t : Fin cfg0.N) (j : Fin 8) (i : Fin 3) : Shard (d.tap i) j (R4 t) (tapS m c t (before m c t) j i) := by
  match i with
  | 0 => exact up2_at (du_at hA t j) (next_at hA t j) (R4_mod hA t)
  | 1 => exact up1_at (du_at hA t j) (next_at hA t j) (R4_mod hA t)
  | 2 => exact du_at hA t j

theorem dhS_at (t : Fin cfg0.N) (p : Fin 256) (i : Fin 1024) : dhS m c t (before m c t) (ix2 p i) = ((d.dh (bb (R4 t + p.val)) (ss (R4 t + p.val)) i : ℝ) : EReal) :=
  dh_at (fun j => dc_at hA t j) (fun j => (hA t).wu j) p i

end Cert.Kernel4Ideal.Point

end
-- ==== Proof.FfnRef.lean ====
/-
  THE FEED-FORWARD'S REFERENCE AT REAL ARGUMENTS. `jax.vjp` of the forward's lines (norm, projection, causal convolution, gated
  product, second projection), read at an index: each part of the gradient is the one of `Data`. The precondition makes the
  forward's values real.
-/
module

public import proofs.«01_k».proof.Proof.Gen.Reference4Ideal.Read
public import proofs.«01_k».proof.Proof.FfnStream
public import proofs.«01_k».proof.Proof.Closure
public import proofs.«01_k».proof.Proof.Sums
public import Idealize.ShloMosaic.Lib.Pointwise

@[expose] public section

set_option maxRecDepth 16384

noncomputable section

open Idealize.ShloMosaic

namespace Cert.Ffn

/-- A quantity per batch, position and column of the gated product. -/
abbrev Gat := Fin 4 → Fin 2048 → Fin 2816 → ℝ

/-- The gated product's factors: the derivative by the gate, then the one by the value. -/
def facOf (gt vl sg : Gat) : Hid := fun b s l =>
  if l.val < 2816 then vl b s (wrap l) * (sg b s (wrap l) * (1 + gt b s (wrap l) * (1 - sg b s (wrap l)))) else gt b s (wrap l) * sg b s (wrap l)

end Cert.Ffn

namespace Cert.Reference4Ideal.Point

open Cert.Reference4Ideal Cert.Reference4Ideal.Gen Cert.Reference4Ideal.Read Cert.Reals Cert.Mix Cert.Ffn

variable {x0 : FVec Ideal S4x2048x1024 .f32} {x1 : FVec Ideal S1024 .f32} {x2 : FVec Ideal S1024x5632 .f32} {x3 : FVec Ideal S3x5632 .f32}
  {x4 : FVec Ideal S2816x1024 .f32} {x5 : FVec Ideal S4x2048x1024 .f32}

/-- The arguments and the forward's values as reals. -/
structure RefAt (x0 : FVec Ideal S4x2048x1024 .f32) (x1 : FVec Ideal S1024 .f32) (x2 : FVec Ideal S1024x5632 .f32) (x3 : FVec Ideal S3x5632 .f32)
    (x4 : FVec Ideal S2816x1024 .f32) (x5 : FVec Ideal S4x2048x1024 .f32) (d : Data) (gt vl sg : Gat) : Prop where
  x : ∀ b s q, x0 (ix3 b s q) = ((d.X b s q : ℝ) : EReal)
  g : ∀ q, x1 (ix1 q) = ((d.g q : ℝ) : EReal)
  wu : ∀ i l, x2 (ix2 i l) = ((d.wu i l : ℝ) : EReal)
  cw : ∀ r l, x3 (ix2 r l) = ((d.cw r l : ℝ) : EReal)
  wd : ∀ k i, x4 (ix2 k i) = ((d.wd k i : ℝ) : EReal)
  dy : ∀ b s q, x5 (ix3 b s q) = ((d.D b s q : ℝ) : EReal)
  up : ∀ b s l, val_main_v16 (F := Ideal) x0 x1 x2 (ix3 b s l) = ((d.UP b s l : ℝ) : EReal)
  rgate : ∀ b s k, val_main_v40 (F := Ideal) x0 x1 x2 x3 (ix3 b s k) = ((gt b s k : ℝ) : EReal)
  rval : ∀ b s k, val_main_v41 (F := Ideal) x0 x1 x2 x3 (ix3 b s k) = ((vl b s k : ℝ) : EReal)
  rsg : ∀ b s k, val_main_v42_2 (F := Ideal) x0 x1 x2 x3 (ix3 b s k) = ((sg b s k : ℝ) : EReal)
  fac : d.FAC = facOf gt vl sg

namespace RefAt

variable {d : Data} {gt vl sg : Gat} (h : RefAt x0 x1 x2 x3 x4 x5 d gt vl sg) (b : Fin 4) (s : Fin 2048)
include h

/-! ## Through the gated product -/

theorem dact (k : Fin 2816) : val_main_v45 (F := Ideal) x4 x5 (ix3 b s k) = ((d.dact b s k : ℝ) : EReal) := by
  pointwise [val_main_v45]
  simp only [h.dy, h.wd, ← EReal.coe_mul, ← coe_sum]
  rfl

theorem by_value (k : Fin 2816) : val_main_v46 (F := Ideal) x0 x1 x2 x3 x4 x5 (ix3 b s k) = ((d.dact b s k * (gt b s k * sg b s k) : ℝ) : EReal) := by
  pointwise [val_main_v46, val_main_v42_0]
  rw [h.rgate, h.rsg, h.dact, mul_comm, ← EReal.coe_mul, ← EReal.coe_mul]

theorem by_gate (k : Fin 2816) : val_main_v48 (F := Ideal) x0 x1 x2 x3 x4 x5 (ix3 b s k)
    = ((d.dact b s k * (vl b s k * (sg b s k * (1 + gt b s k * (1 - sg b s k)))) : ℝ) : EReal) := by
  pointwise [val_main_v48, val_main_call1_v2, val_main_call1_v1, val_main_call1_v0, val_main_v47, val_main_v42_1, val_main_call0_v7, val_main_call0_v6, val_main_call0_cst_1]
  rw [h.rgate, h.rval, h.rsg, h.dact, ← EReal.coe_one]
  simp only [← EReal.coe_mul, ← EReal.coe_sub, ← EReal.coe_add]
  refine congrArg (fun z : ℝ => (z : EReal)) ?_
  ring

theorem du (l : Fin 5632) : val_main_v49 (F := Ideal) x0 x1 x2 x3 x4 x5 (ix3 b s l) = ((d.du b s l : ℝ) : EReal) := by
  pointwise [val_main_v49]
  unfold Data.du
  rw [h.fac]
  unfold facOf
  by_cases hl : l.val < 2816
  · rw [dif_pos hl, if_pos hl, h.by_gate]
    have e : (⟨l.val, hl⟩ : Fin 2816) = wrap l := Fin.ext (Nat.mod_eq_of_lt hl).symm
    rw [e]
  · rw [dif_neg hl, if_neg hl, h.by_value]
    have e : (⟨l.val - 2816, by omega⟩ : Fin 2816) = wrap l := Fin.ext (by show l.val - 2816 = l.val % 2816; omega)
    rw [e]

/-! ## Through the convolution -/

/-- The hidden rows as the weight `2 - j` meets them. -/
theorem rows2 (l : Fin 5632) : val_main_v33 (F := Ideal) x0 x1 x2 (ix3 b s l) = ((d.UP b s l : ℝ) : EReal) := by
  pointwise [val_main_v33, val_main_v18, val_main_v17, val_main_cst_3]
  rw [h.up]

theorem rows1 (l : Fin 5632) : val_main_v26 (F := Ideal) x0 x1 x2 (ix3 b s l) = (((if hs : s.val < 1 then 0 else d.UP b ⟨s.val - 1, by omega⟩ l) : ℝ) : EReal) := by
  pointwise [val_main_v26, val_main_v18, val_main_v17, val_main_cst_3]
  by_cases hs : s.val < 1
  · rw [dif_pos (by omega), dif_pos hs, EReal.coe_zero]
  · rw [dif_neg (by omega), dif_neg hs, h.up]
    have e : (⟨1 + s.val - 2, by omega⟩ : Fin 2048) = ⟨s.val - 1, by omega⟩ := Fin.ext (by show 1 + s.val - 2 = s.val - 1; omega)
    rw [e]

theorem rows0 (l : Fin 5632) : val_main_v20 (F := Ideal) x0 x1 x2 (ix3 b s l) = (((if hs : s.val < 2 then 0 else d.UP b ⟨s.val - 2, by omega⟩ l) : ℝ) : EReal) := by
  pointwise [val_main_v20, val_main_v18, val_main_v17, val_main_cst_3]
  by_cases hs : s.val < 2
  · rw [dif_pos hs, dif_pos hs, EReal.coe_zero]
  · rw [dif_neg hs, dif_neg hs, h.up]

theorem dc (l : Fin 5632) : val_main_v82 (F := Ideal) x0 x1 x2 x3 x4 x5 (ix3 b s l) = ((d.dc b s l : ℝ) : EReal) := by
  pointwise [val_main_v82, val_main_v80, val_main_v79, val_main_v74, val_main_v73, val_main_v69, val_main_v68, val_main_v63, val_main_v62, val_main_v58, val_main_v54, val_main_v53, val_main_v36, val_main_v35, val_main_v34, val_main_v29, val_main_v28, val_main_v27, val_main_v23, val_main_v22, val_main_v21, val_main_cst_8, val_main_cst_12, val_main_cst_16]
  simp only [h.du, h.cw, ← EReal.coe_mul]
  unfold Data.dc convH
  rw [EReal.coe_add, EReal.coe_add]
  refine congrArg₂ (fun u v : EReal => u + v) (congrArg₂ (fun u v : EReal => u + v) ?_ ?_) ?_
  · first | rfl | (rw [dif_pos (by omega)]; rfl)
  · unfold upH Cert.Mix.up chan
    by_cases hs : s.val + 1 < 2048
    · rw [dif_pos (by omega), dif_pos hs]
      have e : (⟨2 + s.val - 1, by omega⟩ : Fin 2048) = ⟨s.val + 1, hs⟩ := Fin.ext (by show 2 + s.val - 1 = s.val + 1; omega)
      rw [e]
    · rw [dif_neg (by omega), dif_neg hs, zero_mul, EReal.coe_zero]
  · unfold upH Cert.Mix.up chan
    by_cases hs : s.val + 2 < 2048
    · rw [dif_pos (by omega), dif_pos hs]
      have e : (⟨2 + s.val, by omega⟩ : Fin 2048) = ⟨s.val + 2, hs⟩ := Fin.ext (Nat.add_comm 2 s.val)
      rw [e]
    · rw [dif_neg (by omega), dif_neg hs, zero_mul, EReal.coe_zero]

theorem dupR (j : Fin 8) (r : Fin 8192) (q : Fin 704) : val_main_v108 (F := Ideal) x0 x1 x2 x3 x4 x5 (ix3 j r q)
    = ((d.dc (bb r.val) (ss r.val) (col j q) : ℝ) : EReal) := by
  pointwise [val_main_v108, val_main_v107, val_main_v106, val_main_v105]
  refine Eq.trans (congrArg _ ?_) (h.dc _ _ _)
  refine congr (congrArg₂ ix3 (Fin.ext ?_) (Fin.ext ?_)) (Fin.ext ?_)
  · show r.val / 2048 = r.val / 2048 % 4
    omega
  · rfl
  · rfl

/-- The gradient of each of the convolution's weights. -/
theorem dcw2 (l : Fin 5632) : val_main_v55 (F := Ideal) x0 x1 x2 x3 x4 x5 (ix1 l) = ((d.dcw 2 l : ℝ) : EReal) := by
  pointwise [val_main_v55, val_main_v52, val_main_v51, val_main_cst_5, val_main_cst_6]
  rw [reduce01, zero_add, Fin.sum_univ_one, Fin.sum_univ_one]
  pointwise
  rw [reduce01, zero_add]
  pointwise [val_main_v50]
  simp only [h.rows2, h.du, ← EReal.coe_mul, ← coe_sum]
  refine congrArg (fun z : ℝ => (z : EReal)) (Finset.sum_congr rfl fun b _ => Finset.sum_congr rfl fun s _ => ?_)
  exact mul_comm _ _

theorem dcw1 (l : Fin 5632) : val_main_v64 (F := Ideal) x0 x1 x2 x3 x4 x5 (ix1 l) = ((d.dcw 1 l : ℝ) : EReal) := by
  pointwise [val_main_v64, val_main_v61, val_main_v60, val_main_cst_9, val_main_cst_10]
  rw [reduce01, zero_add, Fin.sum_univ_one, Fin.sum_univ_one]
  pointwise
  rw [reduce01, zero_add]
  pointwise [val_main_v59]
  simp only [h.rows1, h.du, ← EReal.coe_mul, ← coe_sum]
  refine congrArg (fun z : ℝ => (z : EReal)) (Finset.sum_congr rfl fun b _ => ?_)
  exact shift_sum 1 (by norm_num) (fun s => d.du b s l) (fun s => d.UP b s l)

theorem dcw0 (l : Fin 5632) : val_main_v75 (F := Ideal) x0 x1 x2 x3 x4 x5 (ix1 l) = ((d.dcw 0 l : ℝ) : EReal) := by
  pointwise [val_main_v75, val_main_v72, val_main_v71, val_main_cst_13, val_main_cst_14]
  rw [reduce01, zero_add, Fin.sum_univ_one, Fin.sum_univ_one]
  pointwise
  rw [reduce01, zero_add]
  pointwise [val_main_v70]
  simp only [h.rows0, h.du, ← EReal.coe_mul, ← coe_sum]
  refine congrArg (fun z : ℝ => (z : EReal)) (Finset.sum_congr rfl fun b _ => ?_)
  exact shift_sum 2 (by norm_num) (fun s => d.du b s l) (fun s => d.UP b s l)

theorem dcw_at (r : Fin 3) (l : Fin 5632) : val_main_v78 (F := Ideal) x0 x1 x2 x3 x4 x5 (ix2 r l) = ((d.dcw r l : ℝ) : EReal) := by
  pointwise [val_main_v78, val_main_v77, val_main_v76, val_main_v67, val_main_v66, val_main_v65, val_main_v57, val_main_v56, val_main_cst_7, val_main_cst_11, val_main_cst_15]
  rw [h.dcw2, h.dcw1, h.dcw0]
  by_cases e2 : r.val = 2
  · rw [dif_pos (by omega), dif_neg (by omega), dif_neg (by omega), add_zero, add_zero, show r = 2 from Fin.ext e2]
  by_cases e1 : r.val = 1
  · rw [dif_neg (by omega), dif_pos (by omega), dif_neg (by omega), add_zero, zero_add, show r = 1 from Fin.ext e1]
  have e0 : r.val = 0 := by omega
  rw [dif_neg (by omega), dif_neg (by omega), dif_pos (by omega), zero_add, zero_add, show r = 0 from Fin.ext e0]

theorem dcwR (j r : Fin 8) (q : Fin 704) : val_main_v111 (F := Ideal) x0 x1 x2 x3 x4 x5 (ix3 j r q)
    = (((if h : r.val < 3 then d.dcw ⟨r.val, h⟩ (col j q) else 0) : ℝ) : EReal) := by
  pointwise [val_main_v111, val_main_v110, val_main_v109, val_main_call2_v0, val_main_c]
  by_cases hr : r.val < 3
  · rw [dif_pos (by omega), dif_pos hr]
    exact h.dcw_at ⟨r.val, hr⟩ (col j q)
  · rw [dif_neg (by omega), dif_neg hr]
    show (((0#32 : BitVec 32).toInt : ℝ) : EReal) = ((0 : ℝ) : EReal)
    simp

/-! ## Through the projection and the norm -/

theorem dh (q : Fin 1024) : val_main_v83 (F := Ideal) x0 x1 x2 x3 x4 x5 (ix3 b s q) = ((d.dh b s q : ℝ) : EReal) := by
  pointwise [val_main_v83]
  simp only [h.dc, h.wu, ← EReal.coe_mul, ← coe_sum]
  rfl

theorem ms_at : val_main_v6 (F := Ideal) x0 (ix3 b s (0 : Fin 1)) = ((ms (d.X b s) : ℝ) : EReal) := by
  pointwise [val_main_v6, val_main_v5, val_main_v4, val_main_v3, val_main_v2, val_main_v1, val_main_v0, val_main_cst, val_main_cst_0, val_main_cst_1]
  rw [ofBits_1024, ofBits_eps]
  simp only [h.x, ← EReal.coe_mul, ← coe_sum]
  rw [div_coe _ _ (by norm_num), ← EReal.coe_add]
  rfl

theorem rinv_at : val_main_v7 (F := Ideal) x0 (ix3 b s (0 : Fin 1)) = ((rinv (d.X b s) : ℝ) : EReal) := by
  pointwise [val_main_v7]
  rw [h.ms_at, rsqrt_coe _ (ms_pos _)]
  rfl

/-- The gradient of the norm's weights, padded to eight rows. -/
theorem dgR (r : Fin 8) (q : Fin 1024) : val_main_v114 (F := Ideal) x0 x1 x2 x3 x4 x5 (ix2 r q) = (((if r.val = 0 then d.dg q else 0) : ℝ) : EReal) := by
  pointwise [val_main_v114, val_main_v113, val_main_v89, val_main_call3_v0, val_main_cst_18]
  by_cases hr : r.val = 0
  · rw [dif_pos (by omega), if_pos hr, reduce01]
    pointwise [val_main_v86, val_main_v85, val_main_cst_17]
    simp only [Fin.sum_univ_one, reduce01]
    pointwise [val_main_v84, val_main_v12, val_main_v11]
    simp only [h.rinv_at, h.dh, h.x, ← EReal.coe_mul, ← coe_sum, zero_add]
    refine congrArg (fun z : ℝ => (z : EReal)) (Finset.sum_congr rfl fun b _ => Finset.sum_congr rfl fun s _ => ?_)
    exact mul_comm _ _
  · rw [dif_neg (by omega), if_neg hr]
    pointwise [val_main_c_22]
    show (((0#32 : BitVec 32).toInt : ℝ) : EReal) = ((0 : ℝ) : EReal)
    simp

/-- The gradient of the residual stream. -/
theorem dx_at (q : Fin 1024) : val_main_v104 (F := Ideal) x0 x1 x2 x3 x4 x5 (ix3 b s q) = ((d.dx b s q : ℝ) : EReal) := by
  pointwise [val_main_v104, val_main_v103, val_main_v102, val_main_v101, val_main_v100, val_main_v99, val_main_v98, val_main_v97, val_main_v96, val_main_v95, val_main_v94, val_main_v93, val_main_v92, val_main_v91, val_main_v90, val_main_v88, val_main_v87, val_main_v13, val_main_v10, val_main_v9, val_main_v8, val_main_cst_2, val_main_cst_19, val_main_cst_20, val_main_cst_21]
  simp only [Fin.sum_univ_one, h.rinv_at, h.ms_at, h.dh, h.x, h.g, h.dy, ofBits_1024, ofBits_neg_half, div_coe _ _ (ms_pos _).ne', div_coe _ (1024 : ℝ) (by norm_num), zero_add, ← EReal.coe_mul, ← coe_sum, ← EReal.coe_add]
  refine congrArg (fun z : ℝ => (z : EReal)) ?_
  unfold Data.dx
  rw [rmsGrad_eq]
  ring

theorem dxR (r : Fin 8192) (q : Fin 1024) : val_main_v112 (F := Ideal) x0 x1 x2 x3 x4 x5 (ix2 r q) = ((d.dx (bb r.val) (ss r.val) q : ℝ) : EReal) := by
  pointwise [val_main_v112]
  refine Eq.trans (congrArg _ ?_) (h.dx_at _ _ _)
  refine congr (congrArg₂ ix3 (Fin.ext ?_) (Fin.ext ?_)) rfl
  · show r.val / 2048 = r.val / 2048 % 4
    omega
  · rfl

end RefAt

/-! ## The forward's values are real -/

variable (h0 : ∀ i, IsR (x0 i)) (h1 : ∀ i, IsR (x1 i)) (h2 : ∀ i, IsR (x2 i)) (h3 : ∀ i, IsR (x3 i)) (h4 : ∀ i, IsR (x4 i)) (h5 : ∀ i, IsR (x5 i))

include h0 in
theorem real_rms (b : Fin 4) (s : Fin 2048) : IsR (val_main_v7 (F := Ideal) x0 (ix3 b s (0 : Fin 1))) := by
  obtain ⟨r, rfl⟩ := finite_of_isR h0
  have e : val_main_v6 (F := Ideal) (fun i => ((r i : ℝ) : EReal)) (ix3 b s (0 : Fin 1)) = ((ms (fun q : Fin 1024 => r (ix3 b s q)) : ℝ) : EReal) := by
    pointwise [val_main_v6, val_main_v5, val_main_v4, val_main_v3, val_main_v2, val_main_v1, val_main_v0, val_main_cst, val_main_cst_0, val_main_cst_1]
    rw [ofBits_1024, ofBits_eps]
    simp only [← EReal.coe_mul, ← coe_sum]
    rw [div_coe _ _ (by norm_num), ← EReal.coe_add]
    rfl
  pointwise [val_main_v7]
  rw [e, rsqrt_coe _ (ms_pos _)]
  exact IsR.coe _

include h0 h1 h2 in
/-- The hidden rows. -/
theorem real_up (b : Fin 4) (s : Fin 2048) (l : Fin 5632) : IsR (val_main_v16 (F := Ideal) x0 x1 x2 (ix3 b s l)) := by
  pointwise [val_main_v16, val_main_v15, val_main_v14, val_main_v13, val_main_v12, val_main_v11]
  exact IsR.sum _ fun q => ((h0 _).mul (real_rms h0 b s)).mul (h1 _) |>.mul (h2 _)

include h0 h1 h2 in
theorem real_padded (b : Fin 4) (s : Fin 2050) (l : Fin 5632) : IsR (val_main_v18 (F := Ideal) x0 x1 x2 (ix3 b s l)) := by
  pointwise [val_main_v18, val_main_v17, val_main_cst_3]
  exact IsR.dite (fun _ => IsR.zero) fun _ => real_up h0 h1 h2 _ _ _

include h0 h1 h2 h3 in
theorem real_conv (b : Fin 4) (s : Fin 2048) (l : Fin 5632) : IsR (val_main_v39 (F := Ideal) x0 x1 x2 x3 (ix3 b s l)) := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20]
  exact (((real_padded h0 h1 h2 _ _ _).mul (h3 _)).add ((real_padded h0 h1 h2 _ _ _).mul (h3 _))).add ((real_padded h0 h1 h2 _ _ _).mul (h3 _))

theorem real_eq {e : EReal} (h : IsR e) : e = ((EReal.toReal e : ℝ) : EReal) := by
  obtain ⟨r, rfl⟩ := h
  rw [EReal.toReal_coe]

section
variable (x0 x1 x2 x3 x4 x5)
def gateR : Gat := fun b s k => EReal.toReal (val_main_v40 (F := Ideal) x0 x1 x2 x3 (ix3 b s k))
def valR : Gat := fun b s k => EReal.toReal (val_main_v41 (F := Ideal) x0 x1 x2 x3 (ix3 b s k))
def sigR : Gat := fun b s k => EReal.toReal (val_main_v42_2 (F := Ideal) x0 x1 x2 x3 (ix3 b s k))
/-- What the gradient is computed from. -/
def dataOf : Data where
  D := fun b s q => EReal.toReal (x5 (ix3 b s q))
  X := fun b s q => EReal.toReal (x0 (ix3 b s q))
  UP := fun b s l => EReal.toReal (val_main_v16 (F := Ideal) x0 x1 x2 (ix3 b s l))
  FAC := facOf (gateR x0 x1 x2 x3) (valR x0 x1 x2 x3) (sigR x0 x1 x2 x3)
  wd := fun k i => EReal.toReal (x4 (ix2 k i))
  cw := fun r l => EReal.toReal (x3 (ix2 r l))
  wu := fun i l => EReal.toReal (x2 (ix2 i l))
  g := fun q => EReal.toReal (x1 (ix1 q))
end

include h0 h1 h2 h3 h4 h5 in
theorem refAt : RefAt x0 x1 x2 x3 x4 x5 (dataOf x0 x1 x2 x3 x4 x5) (gateR x0 x1 x2 x3) (valR x0 x1 x2 x3) (sigR x0 x1 x2 x3) where
  x b s q := real_eq (h0 _)
  g q := real_eq (h1 _)
  wu i l := real_eq (h2 _)
  cw r l := real_eq (h3 _)
  wd k i := real_eq (h4 _)
  dy b s q := real_eq (h5 _)
  up b s l := real_eq (real_up h0 h1 h2 b s l)
  rgate b s k := real_eq (by pointwise [val_main_v40]; exact real_conv h0 h1 h2 h3 _ _ _)
  rval b s k := real_eq (by pointwise [val_main_v41]; exact real_conv h0 h1 h2 h3 _ _ _)
  rsg b s k := real_eq (by
    pointwise [val_main_v42_2, val_main_call0_v4, val_main_call0_v3, val_main_call0_v2, val_main_call0_v1, val_main_call0_v0, val_main_v40, val_main_call0_cst, val_main_call0_cst_0]
    exact IsR.sigmoid (real_conv h0 h1 h2 h3 _ _ _))
  fac := rfl

end Cert.Reference4Ideal.Point

end
-- ==== Proof.FfnHost.lean ====
/-
  WHAT THE FEED-FORWARD'S BACKWARD KERNEL READS. Each block is a part of an array prepared on the host; the arrays are the
  arguments, cut in shards of 704 columns, and the forward's lines.
-/
module

public import proofs.«01_k».proof.Proof.FfnRef

@[expose] public section

set_option maxRecDepth 16384

noncomputable section

open Idealize.ShloMosaic Idealize.ShloMosaic.TcCoe Idealize.SL.Sem

namespace Cert.Kernel4Ideal.Point

open Cert.Kernel4Ideal Cert.Kernel4Ideal.Gen Cert.Reals Cert.Mix Cert.Ffn
open Cert.Kernel2Ideal.Point (r8)
open Cert.Reference4Ideal.Read (val_main_v16 val_main_v40 val_main_v41 val_main_v42_0 val_main_v42_2 val_main_call0_v4 val_main_call0_v6)

variable (m : (ℓ : Loc nD τ sig) → Buf (Elt Ideal) ℓ) (c : Dev nD)

theorem idx : ∀ t : Fin cfg0.N, (win0_0.index t 0 = 31 - t.val ∧ win0_0.index t 1 = 0)
    ∧ (win0_1.index t 0 = 0 ∧ win0_1.index t 1 = 31 - t.val ∧ win0_1.index t 2 = 0)
    ∧ (win0_2.index t 0 = 0 ∧ win0_2.index t 1 = 31 - t.val ∧ win0_2.index t 2 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 31 - t.val ∧ win0_6.index t 1 = 0) ∧ (win0_7.index t 0 = 0 ∧ win0_7.index t 1 = 0)
    ∧ (win0_8.index t 0 = 0 ∧ win0_8.index t 1 = 31 - t.val ∧ win0_8.index t 2 = 0)
    ∧ (win0_9.index t 0 = 0 ∧ win0_9.index t 1 = 0 ∧ win0_9.index t 2 = 0)
    ∧ (win0_10.index t 0 = 31 - t.val ∧ win0_10.index t 1 = 0) ∧ (win0_11.index t 0 = 0 ∧ win0_11.index t 1 = 0) :=
  (by decide +kernel : ∀ t : Fin grid0.N, _)

variable {x0 : FVec Ideal S4x2048x1024 .f32} {x1 : FVec Ideal S1024 .f32} {x2 : FVec Ideal S1024x5632 .f32} {x3 : FVec Ideal S3x5632 .f32}
  {x4 : FVec Ideal S2816x1024 .f32} {x5 : FVec Ideal S4x2048x1024 .f32}

/-- The six arguments as the memory holds them. -/
structure Args (x0 : FVec Ideal S4x2048x1024 .f32) (x1 : FVec Ideal S1024 .f32) (x2 : FVec Ideal S1024x5632 .f32) (x3 : FVec Ideal S3x5632 .f32)
    (x4 : FVec Ideal S2816x1024 .f32) (x5 : FVec Ideal S4x2048x1024 .f32) : Prop where
  e0 : m ((c : Thread nD τ).loc main_arg0) = x0
  e1 : m ((c : Thread nD τ).loc main_arg1) = x1
  e2 : m ((c : Thread nD τ).loc main_arg2) = x2
  e3 : m ((c : Thread nD τ).loc main_arg3) = x3
  e4 : m ((c : Thread nD τ).loc main_arg4) = x4
  e5 : m ((c : Thread nD τ).loc main_arg5) = x5

/-- Rows through the batch, columns in eight shards. -/
def shards (A : FVec Ideal S4x2048x5632 .f32) : FVec Ideal S8x8192x704 .f32 :=
  transpose S8x8192x704 [1, 0, 2] (shapeCast S8192x8x704 (shapeCast S8192x5632 A shapeCasts_S4x2048x5632_S8192x5632) shapeCasts_S8192x5632_S8192x8x704) transposes_S8192x8x704_S8x8192x704_1_0_2

theorem shards_at (A : FVec Ideal S4x2048x5632 .f32) (j : Fin 8) (r : Fin 8192) (q : Fin 704) : shards A (ix3 j r q) = A (ix3 (bb r.val) (ss r.val) (col j q)) := by
  pointwise [shards]
  refine congrArg A (congr (congrArg₂ ix3 (Fin.ext ?_) (Fin.ext ?_)) (Fin.ext ?_))
  · show r.val / 2048 = r.val / 2048 % 4
    omega
  · rfl
  · rfl

/-- The gates' factors as the host computes them. -/
def facV (x0 : FVec Ideal S4x2048x1024 .f32) (x1 : FVec Ideal S1024 .f32) (x2 : FVec Ideal S1024x5632 .f32) (x3 : FVec Ideal S3x5632 .f32) : FVec Ideal S4x2048x5632 .f32 :=
  concatenate S4x2048x5632 2 [⟨S4x2048x2816, mulf (val_main_v41 (F := Ideal) x0 x1 x2 x3) (mulf (val_main_v42_2 (F := Ideal) x0 x1 x2 x3)
      (addf (val_main_call0_v6 (F := Ideal)) (mulf (val_main_v40 (F := Ideal) x0 x1 x2 x3) (subf (val_main_call0_v6 (F := Ideal)) (val_main_v42_2 (F := Ideal) x0 x1 x2 x3)))))⟩,
    ⟨S4x2048x2816, val_main_v42_0 (F := Ideal) x0 x1 x2 x3⟩] concatenates_S4x2048x2816_S4x2048x2816_S4x2048x5632_d2

theorem facV_at {d : Data} {gt vl sg : Gat} (h : Cert.Reference4Ideal.Point.RefAt x0 x1 x2 x3 x4 x5 d gt vl sg) (b : Fin 4) (s : Fin 2048) (l : Fin 5632) :
    facV x0 x1 x2 x3 (ix3 b s l) = ((d.FAC b s l : ℝ) : EReal) := by
  rw [h.fac]
  unfold facOf
  pointwise [facV, val_main_v42_0, val_main_call0_v6, Cert.Reference4Ideal.Read.val_main_call0_cst_1]
  by_cases hl : l.val < 2816
  · rw [dif_pos hl, if_pos hl, h.rval, h.rsg, h.rgate, ← EReal.coe_one]
    simp only [← EReal.coe_mul, ← EReal.coe_sub, ← EReal.coe_add]
    have e : (⟨l.val, hl⟩ : Fin 2816) = wrap l := Fin.ext (Nat.mod_eq_of_lt hl).symm
    rw [e]
  · rw [dif_neg hl, if_neg hl, h.rsg, h.rgate, ← EReal.coe_mul]
    have e : (⟨l.val - 2816, by omega⟩ : Fin 2816) = wrap l := Fin.ext (by show l.val - 2816 = l.val % 2816; omega)
    rw [e]

section
variable {m c} (e : Args m c x0 x1 x2 x3 x4 x5)
include e

theorem host_up : (V m c main_v64 : FVec Ideal S8x8192x704 .f32) = shards (val_main_v16 (F := Ideal) x0 x1 x2) := by
  obtain ⟨rfl, rfl, rfl, rfl, rfl, rfl⟩ := e
  unfold V; after_reads_simp; rfl

theorem host_fac : (V m c main_v68 : FVec Ideal S8x8192x704 .bf16) = truncf .bf16 (shards (facV x0 x1 x2 x3)) bitsLt_bf16_f32 := by
  obtain ⟨rfl, rfl, rfl, rfl, rfl, rfl⟩ := e
  unfold V; after_reads_simp; rfl
end

theorem host_dx (r : Fin 8192) (q : Fin 1024) : (V m c main_v61 : FVec Ideal S8192x1024 .f32) (ix2 r q) = m ((c : Thread nD τ).loc main_arg5) (ix3 (bb r.val) (ss r.val) q) := by
  unfold V; after_reads_simp; pointwise
  refine congrArg (m ((c : Thread nD τ).loc main_arg5)) (congrArg₂ (fun a b => ix3 a b q) (Fin.ext ?_) (Fin.ext rfl))
  show r.val / 2048 = r.val / 2048 % 4
  omega

theorem host_x (r : Fin 8192) (q : Fin 1024) : (V m c main_v69 : FVec Ideal S8192x1024 .f32) (ix2 r q) = m ((c : Thread nD τ).loc main_arg0) (ix3 (bb r.val) (ss r.val) q) := by
  unfold V; after_reads_simp; pointwise
  refine congrArg (m ((c : Thread nD τ).loc main_arg0)) (congrArg₂ (fun a b => ix3 a b q) (Fin.ext ?_) (Fin.ext rfl))
  show r.val / 2048 = r.val / 2048 % 4
  omega

theorem host_g (q : Fin 1024) : (V m c main_v70 : FVec Ideal S1x1024 .f32) (ix2 0 q) = m ((c : Thread nD τ).loc main_arg1) (ix1 q) := by
  unfold V; after_reads_simp; pointwise

theorem host_wd (k : Fin 4) (q : Fin 704) (i : Fin 1024) : (V m c main_v4 : FVec Ideal S4x704x1024 .bf16) (ix3 k q i) = m ((c : Thread nD τ).loc main_arg4) (ix2 (gcol k q) i) := by
  unfold V; after_reads_simp; pointwise
  rfl

theorem host_wu (j : Fin 8) (q : Fin 704) (i : Fin 1024) : (V m c main_v2 : FVec Ideal S8x704x1024 .bf16) (ix3 j q i) = m ((c : Thread nD τ).loc main_arg2) (ix2 i (col j q)) := by
  unfold V; after_reads_simp; pointwise
  rfl

theorem host_cw (j : Fin 8) (i : Fin 3) (q : Fin 704) : (V m c main_v7 : FVec Ideal S8x8x704 .f32) (ix3 j (r8 i) q) = m ((c : Thread nD τ).loc main_arg3) (ix2 i (col j q)) := by
  unfold V; after_reads_simp
  change transpose S8x8x704 [1, 0, 2] (shapeCast S8x8x704 (pad S8x5632 ![0, 0] ![5, 0] ![0, 0] (m ((c : Thread nD τ).loc main_arg3) : FVec Ideal S3x5632 .f32) (sitofp (F := Ideal) .f32 (constantI S_ 32 0#32)) pads_S3x5632_S8x5632_050_000 h_S_)
    shapeCasts_S8x5632_S8x8x704) transposes_S8x8x704_S8x8x704_1_0_2 (ix3 j (r8 i) q) = _
  pointwise
  refine (dif_pos fun a => ?_).trans rfl
  match a with
  | ⟨0, _⟩ => exact ⟨Nat.zero_le _, Nat.mod_one _, by show (i.val - 0) / 1 < 3; omega⟩
  | ⟨1, _⟩ => exact ⟨Nat.zero_le _, Nat.mod_one _, by show (j.val * 704 + q.val - 0) / 1 < 5632; omega⟩

/-! ## The blocks -/

variable (t : Fin cfg0.N)

theorem blk_dx (p : Fin 256) (q : Fin 1024) (r : Fin 8192) (hr : r.val = R4 t + p.val) :
    (iblk m c 0 t : FVec Ideal S256x1024 .f32) (ix2 p q) = (V m c main_v61 : FVec Ideal S8192x1024 .f32) (ix2 r q) := by
  obtain ⟨⟨e0, e1⟩, -⟩ := idx t
  unfold iblk; blk_simp; blk_ext
  all_goals first | (rw [e0]; exact hr.symm) | (rw [e1]; omega)

theorem blk_x (p : Fin 256) (q : Fin 1024) (r : Fin 8192) (hr : r.val = R4 t + p.val) :
    (iblk m c 6 t : FVec Ideal S256x1024 .f32) (ix2 p q) = (V m c main_v69 : FVec Ideal S8192x1024 .f32) (ix2 r q) := by
  obtain ⟨-, -, -, -, -, -, ⟨e0, e1⟩, -⟩ := idx t
  unfold iblk; blk_simp; blk_ext
  all_goals first | (rw [e0]; exact hr.symm) | (rw [e1]; omega)

theorem blk_g (z : Fin 1) (q : Fin 1024) : (iblk m c 7 t : FVec Ideal S1x1024 .f32) (ix2 z q) = (V m c main_v70 : FVec Ideal S1x1024 .f32) (ix2 z q) := by
  obtain ⟨-, -, -, -, -, -, -, ⟨e0, e1⟩, -⟩ := idx t
  unfold iblk; blk_simp; blk_ext
  all_goals first | (rw [e0]; omega) | (rw [e1]; omega)

theorem blk_up (j : Fin 8) (p : Fin 256) (q : Fin 704) (r : Fin 8192) (hr : r.val = R4 t + p.val) :
    (iblk m c 1 t : FVec Ideal S8x256x704 .f32) (ix3 j p q) = (V m c main_v64 : FVec Ideal S8x8192x704 .f32) (ix3 j r q) := by
  obtain ⟨-, ⟨e0, e1, e2⟩, -⟩ := idx t
  unfold iblk; blk_simp; blk_ext
  all_goals first | (rw [e0]; omega) | (rw [e1]; exact hr.symm) | (rw [e2]; omega)

theorem blk_fac (j : Fin 8) (p : Fin 256) (q : Fin 704) (r : Fin 8192) (hr : r.val = R4 t + p.val) :
    (iblk m c 2 t : FVec Ideal S8x256x704 .bf16) (ix3 j p q) = (V m c main_v68 : FVec Ideal S8x8192x704 .bf16) (ix3 j r q) := by
  obtain ⟨-, -, ⟨e0, e1, e2⟩, -⟩ := idx t
  unfold iblk; blk_simp; blk_ext
  all_goals first | (rw [e0]; omega) | (rw [e1]; exact hr.symm) | (rw [e2]; omega)

theorem blk_wd (k : Fin 4) (q : Fin 704) (i : Fin 1024) : (iblk m c 3 t : FVec Ideal S4x704x1024 .bf16) (ix3 k q i) = (V m c main_v4 : FVec Ideal S4x704x1024 .bf16) (ix3 k q i) := by
  obtain ⟨-, -, -, ⟨e0, e1, e2⟩, -⟩ := idx t
  unfold iblk; blk_simp; blk_ext
  all_goals first | (rw [e0]; omega) | (rw [e1]; omega) | (rw [e2]; omega)

theorem blk_cw (j r : Fin 8) (q : Fin 704) : (iblk m c 4 t : FVec Ideal S8x8x704 .f32) (ix3 j r q) = (V m c main_v7 : FVec Ideal S8x8x704 .f32) (ix3 j r q) := by
  obtain ⟨-, -, -, -, ⟨e0, e1, e2⟩, -⟩ := idx t
  unfold iblk; blk_simp; blk_ext
  all_goals first | (rw [e0]; omega) | (rw [e1]; omega) | (rw [e2]; omega)

theorem blk_wu (j : Fin 8) (q : Fin 704) (i : Fin 1024) : (iblk m c 5 t : FVec Ideal S8x704x1024 .bf16) (ix3 j q i) = (V m c main_v2 : FVec Ideal S8x704x1024 .bf16) (ix3 j q i) := by
  obtain ⟨-, -, -, -, -, ⟨e0, e1, e2⟩, -⟩ := idx t
  unfold iblk; blk_simp; blk_ext
  all_goals first | (rw [e0]; omega) | (rw [e1]; omega) | (rw [e2]; omega)

variable {m c}

/-- EVERY GRID POINT READS THE FORWARD'S VALUES. -/
theorem at_point {d : Data} {gt vl sg : Gat} (e : Args m c x0 x1 x2 x3 x4 x5) (h : Cert.Reference4Ideal.Point.RefAt x0 x1 x2 x3 x4 x5 d gt vl sg) : At m c d t where
  dx p q := by
    rw [blk_dx m c t p q ⟨R4 t + p.val, by have : t.val < 32 := t.isLt; unfold R4; omega⟩ rfl, host_dx, e.e5]
    exact h.dy _ _ _
  x p q := by
    rw [blk_x m c t p q ⟨R4 t + p.val, by have : t.val < 32 := t.isLt; unfold R4; omega⟩ rfl, host_x, e.e0]
    exact h.x _ _ _
  g q := by
    rw [blk_g, host_g, e.e1]
    exact h.g q
  up j p q := by
    refine (slab _ j _ p q).trans ?_
    rw [blk_up m c t j p q ⟨R4 t + p.val, by have : t.val < 32 := t.isLt; unfold R4; omega⟩ rfl, host_up e, shards_at]
    exact h.up _ _ _
  fac j p q := by
    refine (slab _ j _ p q).trans ?_
    rw [blk_fac m c t j p q ⟨R4 t + p.val, by have : t.val < 32 := t.isLt; unfold R4; omega⟩ rfl, host_fac e]
    exact (shards_at _ _ _ _).trans (facV_at h _ _ _)
  wd j q i := by
    refine (slab _ (half j) _ q i).trans ?_
    rw [blk_wd, host_wd, e.e4]
    exact h.wd _ _
  wu j q i := by
    refine (slab _ j _ q i).trans ?_
    rw [blk_wu, host_wu, e.e2]
    exact h.wu _ _
  cw j i q := by
    refine (slab _ j _ (r8 i) q).trans ?_
    rw [blk_cw, host_cw, e.e3]
    exact h.cw _ _

end Cert.Kernel4Ideal.Point

end
-- ==== Proof.FfnValue.lean ====
/-
  THE FEED-FORWARD'S BACKWARD KERNEL, ITS FOUR RESULTS AS WHOLE ARRAYS. The grid walks the thirty-two row blocks from the last to
  the first. The hidden gradient and the residual stream's are written block by block; the two weight gradients stay in one block
  and grow by a term per point. Summed over the blocks they are the reference's results.
-/
module

public import proofs.«01_k».proof.Proof.FfnHost

@[expose] public section

set_option maxRecDepth 16384

noncomputable section

open Idealize.ShloMosaic Idealize.ShloMosaic.TcCoe Idealize.SL.Sem
open Idealize.ShloMosaic.Pipeline (Dat)

namespace Cert.Ffn

/-- A cell that starts from a term and grows by a term per point. -/
theorem grow {N : ℕ} (f : ∀ n, n < N → EReal) (g : ℕ → ℝ) (h0 : ∀ hn, f 0 hn = ((g 0 : ℝ) : EReal))
    (h1 : ∀ n (hn : n + 1 < N), f (n + 1) hn = f n (by omega) + ((g (n + 1) : ℝ) : EReal)) (n : ℕ) (hn : n < N) :
    f n hn = ((∑ i ∈ Finset.range (n + 1), g i : ℝ) : EReal) := by
  induction n with
  | zero => rw [h0]; simp
  | succ n ih => rw [h1, ih, ← EReal.coe_add, Finset.sum_range_succ _ (n + 1)]

end Cert.Ffn

namespace Cert.Kernel4Ideal.Point

open Cert.Kernel4Ideal Cert.Kernel4Ideal.Gen Cert.Reals Cert.Mix Cert.Ffn
open Cert.Kernel2Ideal.Point (r8)
open Cert.Reference4Ideal.Read (val_main_v108 val_main_v111 val_main_v112 val_main_v114)

/-- A block's term of the convolution weights' gradient, and of the norm weights'. -/
def dcwAdd (d : Data) (R : ℕ) (r : Fin 8) (l : Fin 5632) : ℝ := if h : r.val < 3 then part (d.tap ⟨r.val, h⟩) d.UP R l else 0
def dgAdd (d : Data) (R : ℕ) (r : Fin 8) (q : Fin 1024) : ℝ :=
  if r.val = 0 then ∑ p : Fin 256, d.dh (bb (R + p.val)) (ss (R + p.val)) q * (d.X (bb (R + p.val)) (ss (R + p.val)) q * rinv (d.X (bb (R + p.val)) (ss (R + p.val)))) else 0

variable {m : (ℓ : Loc nD τ sig) → Buf (Elt Ideal) ℓ} {c : Dev nD} {d : Data} (hA : ∀ t : Fin cfg0.N, At m c d t)
include hA

theorem dup_at_point (t : Fin cfg0.N) (j : Fin 8) (p : Fin 256) (q : Fin 704) : ((outsAt0 m c t.val t.isLt).1 : FVec Ideal S8x256x704 .bf16) (ix3 j p q)
    = ((d.dc (bb (R4 t + p.val)) (ss (R4 t + p.val)) (col j q) : ℝ) : EReal) := by
  refine (dup_out m c t j p q).trans (Eq.trans ?_ (dc_at hA t j p q))
  generalize convS m c t (before m c t) j = E
  pointwise [k0_pay28, k0_pay27]

theorem dx_at_point (t : Fin cfg0.N) (p : Fin 256) (q : Fin 1024) : ((outsAt0 m c t.val t.isLt).2.2.1 : FVec Ideal S256x1024 .f32) (ix2 p q)
    = ((d.dx (bb (R4 t + p.val)) (ss (R4 t + p.val)) q : ℝ) : EReal) := by
  rw [dx_out, pay_dx _ _ p q _ _ _ (dhS_at hA t p) ((hA t).x p) (hA t).g, (hA t).dx, ← EReal.coe_add]
  rfl

theorem dcw_step (t : Fin cfg0.N) (j r : Fin 8) (q : Fin 704) : ((outsAt0 m c t.val t.isLt).2.1 : FVec Ideal S8x8x704 .f32) (ix3 j r q)
    = beforeW m c t (ix3 j r q) + ((dcwAdd d (R4 t) r (col j q) : ℝ) : EReal) := by
  refine dcw_out m c t j r q _ (fun h => ?_) fun i hi => ?_
  · unfold dcwAdd
    rw [dif_neg (by omega), EReal.coe_zero, add_zero]
  · rw [row_at (tap_at hA t j i) ((hA t).up j), rowS_at]
    have e : r8 i = r := Fin.ext hi.symm
    have e' : (⟨r.val, by omega⟩ : Fin 3) = i := Fin.ext hi
    unfold dcwAdd
    rw [e, dif_pos (show r.val < 3 by omega), e']

theorem dg_step (t : Fin cfg0.N) (r : Fin 8) (q : Fin 1024) : ((outsAt0 m c t.val t.isLt).2.2.2.1 : FVec Ideal S8x1024 .f32) (ix2 r q)
    = beforeG m c t (ix2 r q) + ((dgAdd d (R4 t) r q : ℝ) : EReal) := by
  rw [dg_out]
  unfold dgAdd
  by_cases hr : r.val = 0
  · rw [if_pos hr, if_pos hr, pay_dg _ q _ _ (dhS_at hA t) (hA t).x]
    refine congrArg (fun z : EReal => z + _) (congrArg (beforeG m c t) (funext fun b => Fin.ext ?_))
    rcases b with ⟨_ | _ | b, hb⟩
    · show 0 + 1 * 0 = r.val
      omega
    · show 0 + 1 * q.val = q.val
      omega
    · exact absurd hb (by show ¬ b + 2 < 2; omega)
  · rw [if_neg hr, if_neg hr, EReal.coe_zero, add_zero]

theorem dcw_at (j r : Fin 8) (q : Fin 704) (n : ℕ) (hn : n < cfg0.N) : ((outsAt0 m c n hn).2.1 : FVec Ideal S8x8x704 .f32) (ix3 j r q)
    = ((∑ i ∈ Finset.range (n + 1), dcwAdd d ((31 - i) * 256) r (col j q) : ℝ) : EReal) := by
  refine grow (fun n hn => ((outsAt0 m c n hn).2.1 : FVec Ideal S8x8x704 .f32) (ix3 j r q)) (fun i => dcwAdd d ((31 - i) * 256) r (col j q)) (fun hn => ?_) (fun n hn => ?_) n hn
  · refine (dcw_step hA ⟨0, hn⟩ j r q).trans ?_
    have e : beforeW m c ⟨0, hn⟩ (ix3 j r q) = 0 := by
      unfold beforeW
      rw [dif_pos (Nat.zero_mod 32)]
      pointwise [k0_pay2]
    rw [e, zero_add]
  · have hN : n + 1 < 32 := hn
    refine (dcw_step hA ⟨n + 1, hn⟩ j r q).trans ?_
    unfold beforeW
    rw [dif_neg (show ¬ (n + 1) % 32 = 0 by omega)]
    rfl

theorem dg_at (r : Fin 8) (q : Fin 1024) (n : ℕ) (hn : n < cfg0.N) : ((outsAt0 m c n hn).2.2.2.1 : FVec Ideal S8x1024 .f32) (ix2 r q)
    = ((∑ i ∈ Finset.range (n + 1), dgAdd d ((31 - i) * 256) r q : ℝ) : EReal) := by
  refine grow (fun n hn => ((outsAt0 m c n hn).2.2.2.1 : FVec Ideal S8x1024 .f32) (ix2 r q)) (fun i => dgAdd d ((31 - i) * 256) r q) (fun hn => ?_) (fun n hn => ?_) n hn
  · refine (dg_step hA ⟨0, hn⟩ r q).trans ?_
    have e : beforeG m c ⟨0, hn⟩ (ix2 r q) = 0 := by
      unfold beforeG
      rw [dif_pos (Nat.zero_mod 32)]
      pointwise [k0_pay3]
    rw [e, zero_add]
  · have hN : n + 1 < 32 := hn
    refine (dg_step hA ⟨n + 1, hn⟩ r q).trans ?_
    unfold beforeG
    rw [dif_neg (show ¬ (n + 1) % 32 = 0 by omega)]
    rfl

omit hA

/-! ## The sums after the last point -/

theorem dcw_total (r : Fin 8) (l : Fin 5632) : ∑ i ∈ Finset.range 32, dcwAdd d ((31 - i) * 256) r l = if h : r.val < 3 then d.dcw ⟨r.val, h⟩ l else 0 := by
  unfold dcwAdd
  by_cases h : r.val < 3
  · simp only [dif_pos h]
    exact sum_rows_back 256 31 rfl fun b s => d.tap ⟨r.val, h⟩ b s l * d.UP b s l
  · simp only [dif_neg h, Finset.sum_const_zero]

theorem dg_total (r : Fin 8) (q : Fin 1024) : ∑ i ∈ Finset.range 32, dgAdd d ((31 - i) * 256) r q = if r.val = 0 then d.dg q else 0 := by
  unfold dgAdd
  by_cases h : r.val = 0
  · simp only [if_pos h]
    exact sum_rows_back 256 31 rfl fun b s => d.dh b s q * (d.X b s q * rinv (d.X b s))
  · simp only [if_neg h, Finset.sum_const_zero]

/-! ## The four arrays -/

variable {x0 : FVec Ideal S4x2048x1024 .f32} {x1 : FVec Ideal S1024 .f32} {x2 : FVec Ideal S1024x5632 .f32} {x3 : FVec Ideal S3x5632 .f32}
  {x4 : FVec Ideal S2816x1024 .f32} {x5 : FVec Ideal S4x2048x1024 .f32} {gt vl sg : Gat} (h : Cert.Reference4Ideal.Point.RefAt x0 x1 x2 x3 x4 x5 d gt vl sg)

include hA h

theorem dup_array : (dats m 0 c).arrAt 8 cfg0.N = val_main_v108 (F := Ideal) x0 x1 x2 x3 x4 x5 := by
  refine (dats m 0 c).arrAt_eq_of_covers 8 _ (by decide +kernel) fun t hf j => ?_
  blk_simp
  rw [after0_8]
  have ht : t.val < 32 := t.isLt
  obtain ⟨-, -, -, -, -, -, -, -, ⟨e0, e1, e2⟩, -⟩ := idx t
  idx_vars j
  refine (dup_at_point hA t j0 j1 j2).trans ?_
  refine (h.dupR j0 (⟨(31 - t.val) * 256 + j1.val, by omega⟩ : Fin 8192) j2).symm.trans (congrArg _ ?_)
  blk_ext
  all_goals first | (rw [e0]; omega) | (rw [e1]) | (rw [e2]; omega)

theorem dcw_array : (dats m 0 c).arrAt 9 cfg0.N = val_main_v111 (F := Ideal) x0 x1 x2 x3 x4 x5 := by
  refine (dats m 0 c).arrAt_eq_of_covers 9 _ (by decide +kernel) fun t hf j => ?_
  have hl := (flush0_9 t).mp hf
  blk_simp
  rw [after0_9]
  have ht : t.val < 32 := t.isLt
  obtain ⟨-, -, -, -, -, -, -, -, -, ⟨e0, e1, e2⟩, -⟩ := idx t
  idx_vars j
  refine (dcw_at hA j0 j1 j2 t.val t.isLt).trans ?_
  rw [show t.val = 31 by omega, dcw_total]
  refine (h.dcwR j0 j1 j2).symm.trans (congrArg _ ?_)
  blk_ext
  all_goals first | (rw [e0]; omega) | (rw [e1]; omega) | (rw [e2]; omega)

theorem dx_array : (dats m 0 c).arrAt 10 cfg0.N = val_main_v112 (F := Ideal) x0 x1 x2 x3 x4 x5 := by
  refine (dats m 0 c).arrAt_eq_of_covers 10 _ (by decide +kernel) fun t hf j => ?_
  blk_simp
  rw [after0_10]
  have ht : t.val < 32 := t.isLt
  obtain ⟨-, -, -, -, -, -, -, -, -, -, ⟨e0, e1⟩, -⟩ := idx t
  idx_vars j
  refine (dx_at_point hA t j0 j1).trans ?_
  refine (h.dxR (⟨(31 - t.val) * 256 + j0.val, by omega⟩ : Fin 8192) j1).symm.trans (congrArg _ ?_)
  blk_ext
  all_goals first | (rw [e0]) | (rw [e1]; omega)

theorem dg_array : (dats m 0 c).arrAt 11 cfg0.N = val_main_v114 (F := Ideal) x0 x1 x2 x3 x4 x5 := by
  refine (dats m 0 c).arrAt_eq_of_covers 11 _ (by decide +kernel) fun t hf j => ?_
  have hl := (flush0_11 t).mp hf
  blk_simp
  rw [after0_11]
  have ht : t.val < 32 := t.isLt
  obtain ⟨-, -, -, -, -, -, -, -, -, -, -, ⟨e0, e1⟩⟩ := idx t
  idx_vars j
  refine (dg_at hA j0 j1 t.val t.isLt).trans ?_
  rw [show t.val = 31 by omega, dg_total]
  refine (h.dgR j0 j1).symm.trans (congrArg _ ?_)
  blk_ext
  all_goals first | (rw [e0]; omega) | (rw [e1]; omega)

end Cert.Kernel4Ideal.Point

end
-- ==== Proof.Pair4.lean ====
/-
  THE FOURTH PAIR: the feed-forward's backward call (the second projection's transpose, the gates' hand-written derivative, the
  causal convolution's gradient, the first projection's transpose and the norm) against `jax.vjp` of the forward lines. The
  precondition makes the six arguments real; `FfnHost` and `FfnValue` read the kernel, `FfnRef` the reference.
-/
module

public import proofs.«01_k».proof.Defs
public import proofs.«01_k».proof.Proof.Gen.Pre_finite4
public import proofs.«01_k».proof.Proof.Gen.Kernel4Ideal.Value
public import proofs.«01_k».proof.Proof.FfnValue
public import proofs.«01_k».proof.Proof.Finite
public import Idealize.ShloMosaic.Lib.Claim

@[expose] public section

set_option maxRecDepth 16384

noncomputable section

open Idealize.ShloMosaic Idealize.ShloMosaic.TcCoe Idealize.SL.Sem

namespace Cert.Pair4

open Cert.Reals Cert.Ffn Cert.Kernel4Ideal

variable {x0 : FVec Ideal S4x2048x1024 .f32} {x1 : FVec Ideal S1024 .f32} {x2 : FVec Ideal S1024x5632 .f32} {x3 : FVec Ideal S3x5632 .f32}
  {x4 : FVec Ideal S2816x1024 .f32} {x5 : FVec Ideal S4x2048x1024 .f32}

/-- The precondition: the six arguments are real, and so are the forward's values. -/
theorem reals (h : Cert.Pre_finite4.fn (F := Ideal) x0 x1 x2 x3 x4 x5 = fun _ => 1#1) :
    ∃ d gt vl sg, Cert.Reference4Ideal.Point.RefAt x0 x1 x2 x3 x4 x5 d gt vl sg := by
  have h0 := congrFun h ix0
  unfold Cert.Pre_finite4.fn at h0
  obtain ⟨h4, e5⟩ := IntOp.andi_eq_one.1 h0
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨_, _, _, _, Cert.Reference4Ideal.Point.refAt (isR_of_finite (finite_of_all x0 _ _ _ _ e0)) (isR_of_finite (finite_of_all x1 _ _ _ _ e1)) (isR_of_finite (finite_of_all x2 _ _ _ _ e2))
    (isR_of_finite (finite_of_all x3 _ _ _ _ e3)) (isR_of_finite (finite_of_all x4 _ _ _ _ e4)) (isR_of_finite (finite_of_all x5 _ _ _ _ e5))⟩

/-- What an array holds at the start is what the memory holds. -/
theorem initial (m : (ℓ : Loc Cert.Reference4Ideal.nD Cert.Reference4Ideal.τ Cert.Reference4Ideal.sig) → Buf (Elt Ideal) ℓ) (c : Dev Cert.Reference4Ideal.nD) (r : Ref Cert.Reference4Ideal.sig .tc) :
    StableHlo.launchContents m c (Proc.tc.devRef r) = m ((c.tc : Thread Cert.Reference4Ideal.nD Cert.Reference4Ideal.τ).loc r) := rfl

theorem args (m : (ℓ : Loc nD τ sig) → Buf (Elt Ideal) ℓ) (c : Dev nD) : Cert.Kernel4Ideal.Point.Args m c (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) :=
  ⟨rfl, rfl, rfl, rfl, rfl, rfl⟩

/-- For real inputs the kernel's four results are the reference's. -/
theorem algebraic : Cert.algebraic_Kernel4Ideal_Reference4Ideal_pre_finite4 := by
  pair_intro
  · run_from Cert.Kernel4Ideal.Value.run_blocks m g
  · run_from Cert.Reference4Ideal.Value.run m' g'
    · obtain ⟨d, gt, vl, sg, h⟩ := reals (hpre c)
      obtain ⟨e0, e1, e2, e3, e4, e5⟩ := hagree c
      have e := Cert.Reference4Ideal.Read.val_main_v108_eq (F := Ideal) (StableHlo.launchContents m' c)
      simp only [initial m' c, e0, e1, e2, e3, e4, e5] at e
      exact e.trans (Cert.Kernel4Ideal.Point.dup_array (fun t => Cert.Kernel4Ideal.Point.at_point t (args m c) h) h).symm
    · obtain ⟨d, gt, vl, sg, h⟩ := reals (hpre c)
      obtain ⟨e0, e1, e2, e3, e4, e5⟩ := hagree c
      have e := Cert.Reference4Ideal.Read.val_main_v111_eq (F := Ideal) (StableHlo.launchContents m' c)
      simp only [initial m' c, e0, e1, e2, e3, e4, e5] at e
      exact e.trans (Cert.Kernel4Ideal.Point.dcw_array (fun t => Cert.Kernel4Ideal.Point.at_point t (args m c) h) h).symm
    · obtain ⟨d, gt, vl, sg, h⟩ := reals (hpre c)
      obtain ⟨e0, e1, e2, e3, e4, e5⟩ := hagree c
      have e := Cert.Reference4Ideal.Read.val_main_v112_eq (F := Ideal) (StableHlo.launchContents m' c)
      simp only [initial m' c, e0, e1, e2, e3, e4, e5] at e
      exact e.trans (Cert.Kernel4Ideal.Point.dx_array (fun t => Cert.Kernel4Ideal.Point.at_point t (args m c) h) h).symm
    · obtain ⟨d, gt, vl, sg, h⟩ := reals (hpre c)
      obtain ⟨e0, e1, e2, e3, e4, e5⟩ := hagree c
      have e := Cert.Reference4Ideal.Read.val_main_v114_eq (F := Ideal) (StableHlo.launchContents m' c)
      simp only [initial m' c, e0, e1, e2, e3, e4, e5] at e
      exact e.trans (Cert.Kernel4Ideal.Point.dg_array (fun t => Cert.Kernel4Ideal.Point.at_point t (args m c) h) h).symm

end Cert.Pair4

end
-- ==== Proof.ForwardPoint.lean ====
/-
  THE FEED-FORWARD OF A ROW BLOCK: the expressions its body computes shard by shard, in the blocks the body reads. Both layers' calls
  compute these; the last one goes on to the loss.
-/
module

public import proofs.«01_k».proof.Proof.Gen.Kernel5Ideal.Value
public import proofs.«01_k».proof.Proof.FfnOuts

@[expose] public section

set_option maxRecDepth 16384

noncomputable section

open Idealize.ShloMosaic Idealize.ShloMosaic.TcCoe Idealize.SL.Sem

namespace Cert.Forward

open Cert.Kernel5Ideal Cert.Kernel5Ideal.Gen
open Cert.Kernel4Ideal.Point (inb_rows inb_halo inb_wu canon_slabs)

theorem inb_wd (j : Fin 4) : ∀ a, (![j.val, 0, 0] : Fin 3 → Nat) a + S1x704x1024.size a ≤ S4x704x1024.size a := by
  revert j; decide
theorem inb_act (j : Fin 4) : ∀ a, (![j.val, 0, 0] : Fin 3 → Nat) a + S1x256x704.size a ≤ S4x256x704.size a := by
  revert j; decide

/-! ## A row block's expressions -/

/-- What a row block is computed from: whether the rows before it count, its rows of the stream, the norm's weights, the two projections'
    and the convolution's weights. -/
structure Blk where
  keep : EReal
  x : FVec Ideal S256x1024 .f32
  g : FVec Ideal S1x1024 .f32
  wu : FVec Ideal S8x704x1024 .bf16
  wd : FVec Ideal S4x704x1024 .bf16
  cw : FVec Ideal S8x8x704 .f32

abbrev wuS (K : Blk) (j : Fin 8) : FVec Ideal S1x704x1024 .bf16 := View.ld (Val := Elt Ideal) (e' := .bf16) K.wu (Rect.unit (s := S8x704x1024) ![j.val, 0, 0] S1x704x1024.size (inb_wu j))
abbrev wdS (K : Blk) (k : Fin 4) : FVec Ideal S1x704x1024 .bf16 := View.ld (Val := Elt Ideal) (e' := .bf16) K.wd (Rect.unit (s := S4x704x1024) ![k.val, 0, 0] S1x704x1024.size (inb_wd k))
abbrev haloS (C : FVec Ideal S8x8x704 .f32) (j : Fin 8) : FVec Ideal S1x8x704 .f32 := View.ld (Val := Elt Ideal) (e' := .f32) C (Rect.unit (s := S8x8x704) ![j.val, 0, 0] S1x8x704.size (inb_halo j))
/-- The normed rows, and shard `j` of the hidden columns. -/
abbrev hS (K : Blk) : FVec Ideal S256x1024 .bf16 := k0_pay7 K.x K.g
abbrev uS (K : Blk) (j : Fin 8) : FVec Ideal S1x256x704 .f32 := k0_pay8 (hS K) (wuS K j)
/-- Shard `j` through the convolution, the rows before the block from `C`. -/
abbrev convS (K : Blk) (C : FVec Ideal S8x8x704 .f32) (j : Fin 8) : FVec Ideal S256x704 .f32 := k0_pay79 K.keep (uS K j) (haloS C j) (haloS K.cw j)
/-- The shards of the gate and of the value that belong together. -/
def gj (k : Fin 4) : Fin 8 := ⟨k.val, by omega⟩
def vj (k : Fin 4) : Fin 8 := ⟨k.val + 4, by omega⟩
/-- The gate's factors: shards of the gate's derivative, then of the value's. -/
def facS (K : Blk) (C : FVec Ideal S8x8x704 .f32) (j : Fin 8) : FVec Ideal S1x256x704 .bf16 :=
  if h : j.val < 4 then k0_pay86 (convS K C (gj ⟨j.val, h⟩)) (convS K C (vj ⟨j.val, h⟩)) else k0_pay87 (convS K C (gj ⟨j.val - 4, by omega⟩))
def actS (K : Blk) (C : FVec Ideal S8x8x704 .f32) (k : Fin 4) : FVec Ideal S1x256x704 .bf16 := k0_pay89 (convS K C (gj k)) (convS K C (vj k))
/-- The stream after one more shard of the second projection; after three; after all. -/
abbrev addS (K : Blk) (C : FVec Ideal S8x8x704 .f32) (B : FVec Ideal S256x1024 .f32) (k : Fin 4) : FVec Ideal S256x1024 .f32 :=
  k0_pay90 B (convS K C (gj k)) (convS K C (vj k)) (wdS K k)
abbrev y3S (K : Blk) (C : FVec Ideal S8x8x704 .f32) : FVec Ideal S256x1024 .f32 := [0, 1, 2].foldl (addS K C) (k0_pay6 K.x)
abbrev yS (K : Blk) (C : FVec Ideal S8x8x704 .f32) : FVec Ideal S256x1024 .f32 := addS K C (y3S K C) 3
end Cert.Forward

end
-- ==== Proof.HeadOuts.lean ====
/-
  WHAT ONE GRID POINT OF THE LAST LAYER'S FEED-FORWARD LEAVES: the forward of the gated product and, on its result, the loss with
  the gradients of the final norm. The body writes its eight shards out one after another; every output and the carried rows are
  read back here as one expression in the shard's number.
-/
module

public import proofs.«01_k».proof.Proof.ForwardPoint

@[expose] public section

set_option maxRecDepth 16384

noncomputable section

open Idealize.ShloMosaic Idealize.ShloMosaic.TcCoe Idealize.SL.Sem

namespace Cert.Kernel5Ideal.Point

open Cert.Kernel5Ideal Cert.Kernel5Ideal.Gen Cert.Forward
open Cert.Kernel4Ideal.Point (inb_rows inb_halo inb_wu canon_slabs)

/-- A shard's last eight rows, however the body goes on to use the shard. -/
theorem last_rows (u : FVec Ideal S1x256x704 .f32) : k0_pay20 (F := Ideal) (k0_pay17 u) = k0_pay80 u ∧ k0_pay24 (F := Ideal) (k0_pay21 u) = k0_pay80 u ∧ k0_pay40 (F := Ideal) (k0_pay33 u) = k0_pay80 u
    ∧ k0_pay48 (F := Ideal) (k0_pay41 u) = k0_pay80 u ∧ k0_pay63 (F := Ideal) (k0_pay57 u) = k0_pay80 u ∧ k0_pay70 (F := Ideal) (k0_pay64 u) = k0_pay80 u ∧ k0_pay83 (F := Ideal) u = k0_pay80 u :=
  ⟨rfl, rfl, rfl, rfl, rfl, rfl, rfl⟩

theorem same_rows (h : FVec Ideal S256x1024 .bf16) (w : FVec Ideal S1x704x1024 .bf16) : k0_pay9 (F := Ideal) h w = k0_pay8 h w ∧ k0_pay10 (F := Ideal) h w = k0_pay8 h w ∧ k0_pay11 (F := Ideal) h w = k0_pay8 h w
    ∧ k0_pay13 (F := Ideal) (k0_pay12 h w) = k0_pay8 h w ∧ k0_pay14 (F := Ideal) h w = k0_pay8 h w ∧ k0_pay15 (F := Ideal) h w = k0_pay8 h w ∧ k0_pay16 (F := Ideal) h w = k0_pay8 h w :=
  ⟨rfl, rfl, rfl, rfl, rfl, rfl, rfl⟩

variable (m : (ℓ : Loc nD τ sig) → Buf (Elt Ideal) ℓ) (c : Dev nD)

/-! ## The point's own expressions -/

/-- The point's row block. -/
def blk (t : Fin cfg0.N) : Blk := ⟨k0_pay5 (F := Ideal) (grid0.coords t), iblk m c 0 t, iblk m c 1 t, iblk m c 2 t, iblk m c 3 t, iblk m c 4 t⟩
theorem blk_fields (t : Fin cfg0.N) : k0_pay5 (F := Ideal) (grid0.coords t) = (blk m c t).keep ∧ (iblk m c 0 t : FVec Ideal S256x1024 .f32) = (blk m c t).x ∧ (iblk m c 1 t : FVec Ideal S1x1024 .f32) = (blk m c t).g
    ∧ (iblk m c 2 t : FVec Ideal S8x704x1024 .bf16) = (blk m c t).wu ∧ (iblk m c 3 t : FVec Ideal S4x704x1024 .bf16) = (blk m c t).wd ∧ (iblk m c 4 t : FVec Ideal S8x8x704 .f32) = (blk m c t).cw :=
  ⟨rfl, rfl, rfl, rfl, rfl, rfl⟩
/-- The norm's factor of a row, and the same spread over the columns. -/
abbrev rS (t : Fin cfg0.N) (C : FVec Ideal S8x8x704 .f32) : FVec Ideal S256x1 .f32 := k0_pay92 (y3S (blk m c t) C) (convS (blk m c t) C (gj 3)) (convS (blk m c t) C (vj 3)) (wdS (blk m c t) 3)
abbrev rbS (t : Fin cfg0.N) (C : FVec Ideal S8x8x704 .f32) : FVec Ideal S256x1024 .f32 := k0_pay93 (y3S (blk m c t) C) (convS (blk m c t) C (gj 3)) (convS (blk m c t) C (vj 3)) (wdS (blk m c t) 3)

/-- What the point before left: the carried rows, the norm weights' gradient, the loss. -/
def before (t : Fin cfg0.N) : FVec Ideal S8x8x704 .f32 := if h : t.val % 32 = 0 then k0_pay2 else (outsAt0 m c (t.val - 1) (by omega)).2.2.2.2.2.2.2
def beforeG (t : Fin cfg0.N) : FVec Ideal S8x1024 .f32 := if h : t.val % 32 = 0 then k0_pay3 else (outsAt0 m c (t.val - 1) (by omega)).2.2.2.2.2.1
def beforeL (t : Fin cfg0.N) : FVec Ideal S8x128 .f32 := if h : t.val % 32 = 0 then k0_pay4 else (outsAt0 m c (t.val - 1) (by omega)).2.2.2.2.2.2.1

/-! ## The outputs -/

theorem h_out (t : Fin cfg0.N) : ((outsAt0 m c t.val t.isLt).1 : FVec Ideal S256x1024 .bf16) = hS (blk m c t) := by
  by_cases h0 : t.val % 32 = 0
  · rw [outsAt0_A m c t h0]
    frame_out
    rfl
  · rw [outsAt0_B m c t h0]
    frame_out
    rfl

theorem up_out (t : Fin cfg0.N) (j : Fin 8) (p : Fin 256) (q : Fin 704) : ((outsAt0 m c t.val t.isLt).2.1 : FVec Ideal S8x256x704 .f32) (ix3 j p q) = uS (blk m c t) j (ix3 0 p q) := by
  by_cases h0 : t.val % 32 = 0
  · rw [outsAt0_A m c t h0]
    frame_out
    simp only [blk_fields m c t]
    exact canon_slabs (e := .f32) inb_rows (uS (blk m c t)) j p q [] [7, 6, 5, 4, 3, 2, 1, 0] (by revert j; decide)
  · rw [outsAt0_B m c t h0]
    frame_out
    simp only [blk_fields m c t]
    exact canon_slabs (e := .f32) inb_rows (uS (blk m c t)) j p q [] [7, 6, 5, 4, 3, 2, 1, 0] (by revert j; decide)

theorem carry_out (t : Fin cfg0.N) (j : Fin 8) (r : Fin 8) (q : Fin 704) : ((outsAt0 m c t.val t.isLt).2.2.2.2.2.2.2 : FVec Ideal S8x8x704 .f32) (ix3 j r q)
    = (k0_pay80 (uS (blk m c t) j) : FVec Ideal S1x8x704 .f32) (ix3 0 r q) := by
  by_cases h0 : t.val % 32 = 0
  · rw [outsAt0_A m c t h0]
    frame_out
    try simp only [read_unread_whole]
    simp (disch := first | decide | (intro a; fin_cases a <;> rfl)) only [View.readCov_cons_toLoadRect, ↓View.readCov_skip, ↓View.readCov_fill]
    simp only [last_rows, same_rows]
    simp only [blk_fields m c t]
    exact canon_slabs (e := .f32) inb_halo (fun j => k0_pay80 (F := Ideal) (uS (blk m c t) j)) j r q [⟨Rect.unit (s := S8x8x704) ![0, 0, 0] ![8, 8, 704] inb_S8x8x704_S8x8x704_0_0_0, k0_pay2 (F := Ideal)⟩] [7, 3, 6, 2, 5, 1, 4, 0] (by revert j; decide)
  · rw [outsAt0_B m c t h0]
    frame_out
    try simp only [read_unread_whole]
    simp (disch := first | decide | (intro a; fin_cases a <;> rfl)) only [View.readCov_cons_toLoadRect, ↓View.readCov_skip, ↓View.readCov_fill]
    simp only [last_rows, same_rows]
    simp only [blk_fields m c t]
    exact canon_slabs (e := .f32) inb_halo (fun j => k0_pay80 (F := Ideal) (uS (blk m c t) j)) j r q [] [7, 3, 6, 2, 5, 1, 4, 0] (by revert j; decide)

theorem fac_out (t : Fin cfg0.N) (j : Fin 8) (p : Fin 256) (q : Fin 704) : ((outsAt0 m c t.val t.isLt).2.2.1 : FVec Ideal S8x256x704 .bf16) (ix3 j p q)
    = facS (blk m c t) (before m c t) j (ix3 0 p q) := by
  by_cases h0 : t.val % 32 = 0
  · unfold before
    rw [dif_pos h0, outsAt0_A m c t h0]
    frame_out
    simp (disch := first | decide | (intro a; fin_cases a <;> rfl)) only [View.readCov_cons_toLoadRect, ↓View.readCov_skip, ↓View.readCov_fill]
    simp only [blk_fields m c t]
    exact canon_slabs (e := .bf16) inb_rows (facS (blk m c t) k0_pay2) j p q [] [7, 3, 6, 2, 5, 1, 4, 0] (by revert j; decide)
  · unfold before
    rw [dif_neg h0, outsAt0_B m c t h0]
    frame_out
    try simp only [read_unread_whole]
    simp (disch := first | decide | (intro a; fin_cases a <;> rfl)) only [View.readCov_cons_toLoadRect, ↓View.readCov_skip, ↓View.readCov_fill]
    simp only [blk_fields m c t]
    exact canon_slabs (e := .bf16) inb_rows (facS (blk m c t) (outsAt0 m c (t.val - 1) (by omega)).2.2.2.2.2.2.2) j p q [] [7, 3, 6, 2, 5, 1, 4, 0] (by revert j; decide)

theorem act_out (t : Fin cfg0.N) (k : Fin 4) (p : Fin 256) (q : Fin 704) : ((outsAt0 m c t.val t.isLt).2.2.2.1 : FVec Ideal S4x256x704 .bf16) (ix3 k p q)
    = actS (blk m c t) (before m c t) k (ix3 0 p q) := by
  by_cases h0 : t.val % 32 = 0
  · unfold before
    rw [dif_pos h0, outsAt0_A m c t h0]
    frame_out
    simp (disch := first | decide | (intro a; fin_cases a <;> rfl)) only [View.readCov_cons_toLoadRect, ↓View.readCov_skip, ↓View.readCov_fill]
    simp only [blk_fields m c t]
    exact canon_slabs (e := .bf16) inb_act (actS (blk m c t) k0_pay2) k p q [] [3, 2, 1, 0] (by revert k; decide)
  · unfold before
    rw [dif_neg h0, outsAt0_B m c t h0]
    frame_out
    try simp only [read_unread_whole]
    simp (disch := first | decide | (intro a; fin_cases a <;> rfl)) only [View.readCov_cons_toLoadRect, ↓View.readCov_skip, ↓View.readCov_fill]
    simp only [blk_fields m c t]
    exact canon_slabs (e := .bf16) inb_act (actS (blk m c t) (outsAt0 m c (t.val - 1) (by omega)).2.2.2.2.2.2.2) k p q [] [3, 2, 1, 0] (by revert k; decide)

theorem dx_out (t : Fin cfg0.N) : ((outsAt0 m c t.val t.isLt).2.2.2.2.1 : FVec Ideal S256x1024 .f32)
    = k0_pay98 (yS (blk m c t) (before m c t)) (k0_pay91 (iblk m c 5 t)) (rS m c t (before m c t)) (rbS m c t (before m c t)) (iblk m c 6 t) := by
  by_cases h0 : t.val % 32 = 0
  · unfold before
    rw [dif_pos h0, outsAt0_A m c t h0]
    frame_out
    simp (disch := first | decide | (intro a; fin_cases a <;> rfl)) only [View.readCov_cons_toLoadRect, ↓View.readCov_skip, ↓View.readCov_fill]
    simp only [blk_fields m c t]
    rfl
  · unfold before
    rw [dif_neg h0, outsAt0_B m c t h0]
    frame_out
    try simp only [read_unread_whole]
    simp (disch := first | decide | (intro a; fin_cases a <;> rfl)) only [View.readCov_cons_toLoadRect, ↓View.readCov_skip, ↓View.readCov_fill]
    simp only [blk_fields m c t]
    rfl

theorem loss_out (t : Fin cfg0.N) : ((outsAt0 m c t.val t.isLt).2.2.2.2.2.2.1 : FVec Ideal S8x128 .f32)
    = k0_pay96 (yS (blk m c t) (before m c t)) (k0_pay91 (iblk m c 5 t)) (rbS m c t (before m c t)) (iblk m c 6 t) (beforeL m c t) := by
  by_cases h0 : t.val % 32 = 0
  · unfold before beforeL
    rw [dif_pos h0, dif_pos h0, outsAt0_A m c t h0]
    frame_out
    simp (disch := first | decide | (intro a; fin_cases a <;> rfl)) only [View.readCov_cons_toLoadRect, ↓View.readCov_skip, ↓View.readCov_fill]
    simp only [blk_fields m c t]
    rfl
  · unfold before beforeL
    rw [dif_neg h0, dif_neg h0, outsAt0_B m c t h0]
    frame_out
    try simp only [read_unread_whole]
    simp (disch := first | decide | (intro a; fin_cases a <;> rfl)) only [View.readCov_cons_toLoadRect, ↓View.readCov_skip, ↓View.readCov_fill]
    simp only [blk_fields m c t]
    rfl

/-- The norm weights' gradient: its first row grows, the others stay. -/
theorem dg_out (t : Fin cfg0.N) (r : Fin 8) (q : Fin 1024) : ((outsAt0 m c t.val t.isLt).2.2.2.2.2.1 : FVec Ideal S8x1024 .f32) (ix2 r q)
    = if r.val = 0 then (k0_pay1 (k0_pay99 (View.ld (Val := Elt Ideal) (e' := .f32) (beforeG m c t) (Rect.unit (s := S8x1024) ![0, 0] ![1, 1024] inb_S8x1024_S1x1024_0_0)))
        (k0_pay100 (yS (blk m c t) (before m c t)) (k0_pay91 (iblk m c 5 t)) (rbS m c t (before m c t)) (iblk m c 6 t)) : FVec Ideal S1x1024 .f32) (ix2 0 q)
      else beforeG m c t (ix2 r q) := by
  by_cases h0 : t.val % 32 = 0
  · unfold before beforeG
    rw [dif_pos h0, dif_pos h0, outsAt0_A m c t h0]
    frame_out
    simp (disch := first | decide | (intro a; fin_cases a <;> rfl)) only [View.readCov_cons_toLoadRect, ↓View.readCov_skip, ↓View.readCov_fill]
    simp only [blk_fields m c t]
    rw [← View.read_writes_junk_eq_canon (ms0_12 t).view]
    by_cases hr : r.val = 0
    · rw [if_pos hr]
      exact View.read_writes_cons_rows_of_mem _ _ _ _ _ _ (ix2 0 q) rfl hr rfl
    · rw [if_neg hr]
      rw [View.read_writes_cons_rows_of_not_mem (W := 1) _ _ _ _ _ _ rfl rfl (Or.inr (by show 0 + 1 ≤ r.val; omega))]
      exact Cert.Kernel2Ideal.Point.fill_read _ _ _ _
  · unfold before beforeG
    rw [dif_neg h0, dif_neg h0, outsAt0_B m c t h0]
    frame_out
    try simp only [read_unread_whole]
    simp (disch := first | decide | (intro a; fin_cases a <;> rfl)) only [View.readCov_cons_toLoadRect, ↓View.readCov_skip, ↓View.readCov_fill]
    simp only [blk_fields m c t]
    by_cases hr : r.val = 0
    · rw [if_pos hr]
      exact View.read_writes_cons_rows_of_mem _ _ _ _ _ _ (ix2 0 q) rfl hr rfl
    · rw [if_neg hr]
      rw [View.read_writes_cons_rows_of_not_mem (W := 1) _ _ _ _ _ _ rfl rfl (Or.inr (by show 0 + 1 ≤ r.val; omega))]
      exact congrFun (Memref.IsWhole.read_unread _ _) (ix2 r q)

end Cert.Kernel5Ideal.Point

end
-- ==== Proof.HeadPay.lean ====
/-
  THE FEED-FORWARD'S FORWARD, SHARD BY SHARD. What each piece of the body computes when its operands hold, row for row, the
  reference's values. Nothing here needs the values to be real: kernel and reference apply the same operations in the same order up
  to the gradients.
-/
module

public import proofs.«01_k».proof.Proof.HeadOuts
public import proofs.«01_k».proof.Proof.FfnStream
public import proofs.«01_k».proof.Proof.Gen.Reference5Ideal.Read
public import Idealize.ShloMosaic.Lib.Pointwise

@[expose] public section

set_option maxRecDepth 16384

noncomputable section

open Idealize.ShloMosaic Idealize.ShloMosaic.TcCoe Idealize.SL.Sem

namespace Cert.Head

open Cert.Mix Cert.Reals

/-- A quantity per batch and position. -/
abbrev Row := Fin 4 → Fin 2048 → EReal

/-- Moved down by `k` positions, zeros before the sequence's start. -/
def down (k : ℕ) (f : Row) : Row := fun b s => if h : s.val < k then 0 else f b ⟨s.val - k, by omega⟩

/-- The eight rows before a block of rows that starts at flat row `R`: zeros at the start of a sequence. -/
def prv (f : Row) (R : ℕ) (r : Fin 8) : EReal := if R % 2048 = 0 then 0 else f (bb (R - 8 + r.val)) (ss (R - 8 + r.val))

theorem at_row (f : Row) {r r' : ℕ} (e : r = r') : f (bb r) (ss r) = f (bb r') (ss r') := by rw [e]

theorem down_in (k : ℕ) (f : Row) (r : ℕ) (h : k ≤ r % 2048) : down k f (bb r) (ss r) = f (bb (r - k)) (ss (r - k)) := by
  unfold down
  rw [dif_neg (show ¬ (ss r).val < k from fun h' => by have : r % 2048 < k := h'; omega)]
  exact congrArg₂ f (Fin.ext (by show r / 2048 % 4 = (r - k) / 2048 % 4; omega)) (Fin.ext (by show r % 2048 - k = (r - k) % 2048; omega))

/-- A block moved down: its own rows, and before them the carried ones. -/
theorem down_blk {N R : ℕ} (f : Row) (hR : R % 2048 = 0 ∨ 8 ≤ R % 2048) (hN : R % 2048 + N ≤ 2048) (k : ℕ) (hk : k ≤ 8) (p : Fin N) (z : EReal)
    (h1 : k ≤ p.val → z = f (bb (R + (p.val - k))) (ss (R + (p.val - k))))
    (h2 : ∀ h : p.val < k, z = prv f R ⟨p.val + 8 - k, by omega⟩) : z = down k f (bb (R + p.val)) (ss (R + p.val)) := by
  have hp := p.isLt
  by_cases h : k ≤ p.val
  · rw [h1 h, down_in k f _ (by omega)]
    exact at_row f (by omega)
  · rw [h2 (by omega)]
    unfold prv
    by_cases hz : R % 2048 = 0
    · rw [if_pos hz]
      unfold down
      rw [dif_pos (show (ss (R + p.val)).val < k by show (R + p.val) % 2048 < k; omega)]
    · rw [if_neg hz, down_in k f _ (by omega)]
      exact at_row f (by show R - 8 + (p.val + 8 - k) = _; omega)

theorem ofBits_inv1024 : Ideal.ofBits .f32 0x3A800000#32 = ((1 / 1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The error of the normalised row against its target. -/
def err (y g t : Fin 1024 → ℝ) (k : Fin 1024) : ℝ := y k * rinv y * g k - t k

theorem slt_at : ∀ n k : Fin 8, IntOp.cmpi .slt (BitVec.ofNat 32 n.val) (BitVec.ofNat 32 k.val) = if n.val < k.val then 1#1 else 0#1 := by decide

/-- A column of a block moved down by one or two rows: the body rotates it and writes the carried rows over the ones that came around. -/
theorem shift_row {R : ℕ} (hR : R % 256 = 0) {f : Row} {u : Fin 256 → EReal} {w : Fin 8 → EReal} (hu : ∀ p : Fin 256, u p = f (bb (R + p.val)) (ss (R + p.val))) (hn : ∀ r, w r = prv f R r) (k : Fin 8) (p : Fin 256) :
    (if h : p.val < 8 then Scalar.select (IntOp.cmpi .slt (BitVec.ofNat 32 p.val) (BitVec.ofNat 32 k.val)) (w (⟨(p.val + 8 - k.val) % 8, Nat.mod_lt _ (by norm_num)⟩ : Fin 8)) (u (⟨(p.val + 256 - k.val) % 256, Nat.mod_lt _ (by norm_num)⟩ : Fin 256))
      else u (⟨(8 + (p.val - 8) + 256 - k.val) % 256, Nat.mod_lt _ (by norm_num)⟩ : Fin 256)) = down k.val f (bb (R + p.val)) (ss (R + p.val)) := by
  have key := fun x => down_blk (R := R) f (by omega) (by omega) k.val (by omega) p x
  by_cases h : p.val < 8
  · rw [dif_pos h, slt_at ⟨p.val, h⟩ k, hn, hu]
    by_cases h7 : p.val < k.val
    · rw [if_pos h7, Cert.Kernel2Ideal.Point.sel_one]
      exact key _ (fun h1 => by omega) fun h2 => congrArg (prv f R) (Fin.ext (by show (p.val + 8 - k.val) % 8 = p.val + 8 - k.val; omega))
    · rw [if_neg h7, Cert.Kernel2Ideal.Point.sel_zero]
      exact key _ (fun h1 => at_row f (by show R + (p.val + 256 - k.val) % 256 = _; omega)) fun h2 => by omega
  · rw [dif_neg h, hu]
    exact key _ (fun h1 => at_row f (by show R + (8 + (p.val - 8) + 256 - k.val) % 256 = _; omega)) fun h2 => by omega

end Cert.Head

namespace Cert.Kernel5Ideal.Point

open Cert.Kernel5Ideal Cert.Kernel5Ideal.Gen Cert.Reals Cert.Mix Cert.Ffn Cert.Head
open Cert.Kernel2Ideal.Point (r8 sel_one sel_zero)

section
variable {R : ℕ} (hR : R % 256 = 0) {z : EReal} {u : FVec Ideal S1x256x704 .f32} {hl w : FVec Ideal S1x8x704 .f32} {f : Fin 704 → Row}
  (hu : ∀ (p : Fin 256) q, u (ix3 0 p q) = f q (bb (R + p.val)) (ss (R + p.val))) (hn : ∀ r q, (hl (ix3 0 r q) * z : EReal) = prv (f q) R r)
include hR hu hn

/-- A shard through the causal convolution of width three. -/
theorem conv_at (p : Fin 256) (q : Fin 704) : (k0_pay79 z u hl w : FVec Ideal S256x704 .f32) (ix2 p q)
    = down 2 (f q) (bb (R + p.val)) (ss (R + p.val)) * w (ix3 0 (r8 0) q) + down 1 (f q) (bb (R + p.val)) (ss (R + p.val)) * w (ix3 0 (r8 1) q)
      + f q (bb (R + p.val)) (ss (R + p.val)) * w (ix3 0 (r8 2) q) := by
  pointwise [k0_pay79, k0_pay78]
  have h1 := shift_row hR (fun p => hu p q) (fun r => hn r q) 1 p
  have h2 := shift_row hR (fun p => hu p q) (fun r => hn r q) 2 p
  exact congrArg₂ (fun a b : EReal => a + b) (congrArg₂ (fun a b : EReal => a + b) (congrArg (fun a : EReal => a * _) h2) (congrArg (fun a : EReal => a * _) h1)) (congrArg (fun a : EReal => a * _) (hu p q))
end

/-! ## Against the reference's values -/

section
open Cert.Reference5Ideal.Read

variable {x0 : FVec Ideal S4x2048x1024 .f32} {x1 : FVec Ideal S1024 .f32} {x2 : FVec Ideal S1024x5632 .f32} {x3 : FVec Ideal S3x5632 .f32}
  {x4 : FVec Ideal S2816x1024 .f32}

/-- The normalised rows. -/
theorem norm_at {x : FVec Ideal S256x1024 .f32} {g : FVec Ideal S1x1024 .f32} {b : Fin 4} {s : Fin 2048} {p : Fin 256} (hx : ∀ k, x (ix2 p k) = x0 (ix3 b s k))
    (hg : ∀ k, g (ix2 0 k) = x1 (ix1 k)) (q : Fin 1024) : (k0_pay7 x g : FVec Ideal S256x1024 .bf16) (ix2 p q) = val_main_v12 (F := Ideal) x0 x1 (ix3 b s q) := by
  pointwise [k0_pay7, k0_pay6, val_main_v12, val_main_v11, val_main_v10, val_main_v9, val_main_v8, val_main_v7, val_main_v6, val_main_v5, val_main_v4, val_main_v3, val_main_v2, val_main_v1, val_main_v0, val_main_cst, val_main_cst_0, val_main_cst_1]
  simp only [hx, hg, zero_add]

/-- A shard of the hidden rows. -/
theorem up_at {h : FVec Ideal S256x1024 .bf16} {w : FVec Ideal S1x704x1024 .bf16} {b : Fin 4} {s : Fin 2048} {p : Fin 256} {j : Fin 8}
    (hh : ∀ i, h (ix2 p i) = val_main_v12 (F := Ideal) x0 x1 (ix3 b s i)) (hw : ∀ q i, w (ix3 0 q i) = x2 (ix2 i (col j q))) (q : Fin 704) :
    (k0_pay8 h w : FVec Ideal S1x256x704 .f32) (ix3 0 p q) = val_main_v13 (F := Ideal) x0 x1 x2 (ix3 b s (col j q)) := by
  pointwise [k0_pay8, val_main_v13]
  simp only [hh, hw]

theorem carry_at (u : FVec Ideal S1x256x704 .f32) (r : Fin 8) (q : Fin 704) : (k0_pay80 u : FVec Ideal S1x8x704 .f32) (ix3 0 r q) = u (ix3 0 (⟨248 + r.val, by omega⟩ : Fin 256) q) := by
  pointwise [k0_pay80, k0_pay78]

/-- Column `l` of the hidden rows. -/
abbrev hid (x0 : FVec Ideal S4x2048x1024 .f32) (x1 : FVec Ideal S1024 .f32) (x2 : FVec Ideal S1024x5632 .f32) (l : Fin 5632) : Row := fun b s => val_main_v13 (F := Ideal) x0 x1 x2 (ix3 b s l)

theorem conv_ref (b : Fin 4) (s : Fin 2048) (l : Fin 5632) : val_main_v35 (F := Ideal) x0 x1 x2 x3 (ix3 b s l)
    = down 2 (hid x0 x1 x2 l) b s * x3 (ix2 0 l) + down 1 (hid x0 x1 x2 l) b s * x3 (ix2 1 l) + hid x0 x1 x2 l b s * x3 (ix2 2 l) := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_cst_2]
  refine congrArg₂ (fun u v : EReal => u + v) (congrArg₂ (fun u v : EReal => u + v) rfl (congrArg (fun u : EReal => u * _) ?_)) rfl
  unfold down
  by_cases hs : s.val < 1
  · rw [dif_pos (by omega), dif_pos hs]
  · rw [dif_neg (by omega), dif_neg hs]
    exact congrArg (hid x0 x1 x2 l b) (Fin.ext (by show 1 + s.val - 2 = s.val - 1; omega))

/-- A shard of the gated product. -/
theorem act_at {G V : FVec Ideal S256x704 .f32} {b : Fin 4} {s : Fin 2048} {p : Fin 256} {k : Fin 4} {q : Fin 704} (hG : G (ix2 p q) = val_main_v36 (F := Ideal) x0 x1 x2 x3 (ix3 b s (gcol k q)))
    (hV : V (ix2 p q) = val_main_v37 (F := Ideal) x0 x1 x2 x3 (ix3 b s (gcol k q))) :
    (k0_pay88 G V : FVec Ideal S256x704 .bf16) (ix2 p q) = val_main_v39 (F := Ideal) x0 x1 x2 x3 (ix3 b s (gcol k q)) := by
  pointwise [k0_pay88, k0_pay85, k0_pay84, val_main_v39, val_main_v38_0, val_main_v38_2, val_main_call0_v4, val_main_call0_v3, val_main_call0_v2, val_main_call0_v1, val_main_call0_v0, val_main_call0_cst, val_main_call0_cst_0]
  rw [hG, hV]
  rfl

/-- A shard of the gate's derivative by its value. -/
theorem dval_at {G : FVec Ideal S256x704 .f32} {b : Fin 4} {s : Fin 2048} {p : Fin 256} {k : Fin 4} {q : Fin 704} (hG : G (ix2 p q) = val_main_v36 (F := Ideal) x0 x1 x2 x3 (ix3 b s (gcol k q))) :
    (k0_pay87 G : FVec Ideal S1x256x704 .bf16) (ix3 0 p q) = val_main_v41 (F := Ideal) x0 x1 x2 x3 (ix3 b s (gcol k q)) := by
  pointwise [k0_pay87, k0_pay85, k0_pay84, val_main_v41, val_main_v40, val_main_cst_3, val_main_v38_0, val_main_v38_2, val_main_call0_v4, val_main_call0_v3, val_main_call0_v2, val_main_call0_v1, val_main_call0_v0, val_main_call0_cst, val_main_call0_cst_0]
  rw [hG]
  rfl

/-- A shard of the derivative by the gate: the body's product and the sum that `jax.vjp` forms are the same number where the forward is
    real. -/
theorem dgate_at {G V : FVec Ideal S256x704 .f32} {b : Fin 4} {s : Fin 2048} {p : Fin 256} {k : Fin 4} {q : Fin 704} (hG : G (ix2 p q) = val_main_v36 (F := Ideal) x0 x1 x2 x3 (ix3 b s (gcol k q)))
    (hV : V (ix2 p q) = val_main_v37 (F := Ideal) x0 x1 x2 x3 (ix3 b s (gcol k q))) (rG : IsR (val_main_v36 (F := Ideal) x0 x1 x2 x3 (ix3 b s (gcol k q))))
    (rV : IsR (val_main_v37 (F := Ideal) x0 x1 x2 x3 (ix3 b s (gcol k q)))) :
    (k0_pay86 G V : FVec Ideal S1x256x704 .bf16) (ix3 0 p q) = val_main_v43 (F := Ideal) x0 x1 x2 x3 (ix3 b s (gcol k q)) := by
  pointwise [k0_pay86, k0_pay84, val_main_v43, val_main_call1_v2, val_main_call1_v1, val_main_call1_v0, val_main_v42, val_main_v40, val_main_cst_3, val_main_v38_1, val_main_call0_v7, val_main_call0_v6, val_main_call0_cst_1,
    val_main_v38_2, val_main_call0_v4, val_main_call0_v3, val_main_call0_v2, val_main_call0_v1, val_main_call0_v0, val_main_call0_cst, val_main_call0_cst_0]
  rw [hG, hV]
  have rS := IsR.sigmoid rG
  rw [EReal.coe_one] at rS
  generalize val_main_v36 (F := Ideal) x0 x1 x2 x3 (ix3 b s (gcol k q)) = u at *
  generalize val_main_v37 (F := Ideal) x0 x1 x2 x3 (ix3 b s (gcol k q)) = v at *
  obtain ⟨g, rfl⟩ := rG
  obtain ⟨w, rfl⟩ := rV
  unfold Ideal.logistic
  obtain ⟨e, he⟩ := rS
  rw [he, ← EReal.coe_one]
  simp only [← EReal.coe_mul, ← EReal.coe_sub, ← EReal.coe_add]
  refine congrArg (fun x : ℝ => (x : EReal)) ?_
  ring

/-- One more shard of the second projection. -/
theorem add_at {G V : FVec Ideal S256x704 .f32} {W : FVec Ideal S1x704x1024 .bf16} {b : Fin 4} {s : Fin 2048} {p : Fin 256} {k : Fin 4}
    (hA : ∀ q, (k0_pay88 G V : FVec Ideal S256x704 .bf16) (ix2 p q) = val_main_v39 (F := Ideal) x0 x1 x2 x3 (ix3 b s (gcol k q)))
    (hW : ∀ q i, W (ix3 0 q i) = x4 (ix2 (gcol k q) i)) (B : FVec Ideal S256x1024 .f32) (i : Fin 1024) : (k0_pay90 B G V W : FVec Ideal S256x1024 .f32) (ix2 p i)
    = (B (ix2 p i) : EReal) + ∑ q, val_main_v39 (F := Ideal) x0 x1 x2 x3 (ix3 b s (gcol k q)) * x4 (ix2 (gcol k q) i) := by
  unfold k0_pay90
  generalize k0_pay88 G V = A at hA ⊢
  pointwise
  simp only [hA, hW]
end

/-! ## The head: the final norm, the loss and its gradients -/

section
variable {B : FVec Ideal S256x1024 .f32} {G V : FVec Ideal S256x704 .f32} {W : FVec Ideal S1x704x1024 .bf16} {Y : FVec Ideal S256x1024 .f32} {gf : FVec Ideal S1x1024 .f32} {tg rb : FVec Ideal S256x1024 .f32} {r : FVec Ideal S256x1 .f32}

theorem rinv_at {p : Fin 256} {y : Fin 1024 → ℝ} (hy : ∀ k, (k0_pay90 B G V W : FVec Ideal S256x1024 .f32) (ix2 p k) = ((y k : ℝ) : EReal)) : (k0_pay92 B G V W : FVec Ideal S256x1 .f32) (ix2 p 0) = ((rinv y : ℝ) : EReal) := by
  unfold k0_pay92
  generalize k0_pay90 B G V W = Y at hy ⊢
  pointwise
  rw [ofBits_1024, ofBits_eps]
  simp only [hy, ← EReal.coe_mul, ← coe_sum]
  rw [div_coe _ (1024 : ℝ) (by norm_num), ← EReal.coe_add, rsqrt_ms]

theorem spread_at (p : Fin 256) (q : Fin 1024) : (k0_pay93 B G V W : FVec Ideal S256x1024 .f32) (ix2 p q) = (k0_pay92 B G V W : FVec Ideal S256x1 .f32) (ix2 p 0) := by
  unfold k0_pay93
  generalize k0_pay92 B G V W = r
  pointwise

variable {p : Fin 256} {y t gr : Fin 1024 → ℝ} (hy : ∀ k, Y (ix2 p k) = ((y k : ℝ) : EReal)) (hg : ∀ k, gf (ix2 0 k) = ((gr k : ℝ) : EReal)) (ht : ∀ k, tg (ix2 p k) = ((t k : ℝ) : EReal))
  (hr : r (ix2 p 0) = ((rinv y : ℝ) : EReal)) (hb : ∀ k, rb (ix2 p k) = ((rinv y : ℝ) : EReal))
include hy hg ht hb

theorem err_at (q : Fin 1024) : (k0_pay95 Y (k0_pay91 gf) rb tg : FVec Ideal S256x1024 .f32) (ix2 p q) = ((err y gr t q : ℝ) : EReal) := by
  pointwise [k0_pay95, k0_pay94, k0_pay91]
  rw [hy, hg, ht, hb, ← EReal.coe_mul, ← EReal.coe_mul, ← EReal.coe_sub]
  rfl

theorem derr_at (q : Fin 1024) : (k0_pay97 Y (k0_pay91 gf) rb tg : FVec Ideal S256x1024 .f32) (ix2 p q) = ((err y gr t q / 1024 : ℝ) : EReal) := by
  have h := err_at hy hg ht hb q
  unfold k0_pay97
  generalize k0_pay95 Y (k0_pay91 gf) rb tg = E at h ⊢
  pointwise
  rw [h, ofBits_inv1024, ← EReal.coe_mul]
  refine congrArg (fun x : ℝ => (x : EReal)) ?_
  ring

include hr in
/-- The gradient of the stream. -/
theorem pay_dx (q : Fin 1024) : (k0_pay98 Y (k0_pay91 gf) r rb tg : FVec Ideal S256x1024 .f32) (ix2 p q) = ((rmsGrad y gr (fun k => err y gr t k / 1024) q : ℝ) : EReal) := by
  have h := derr_at hy hg ht hb
  unfold k0_pay98
  generalize k0_pay97 Y (k0_pay91 gf) rb tg = E at h ⊢
  pointwise [k0_pay94, k0_pay91]
  rw [ofBits_1024]
  simp only [h, hy, hg, hr, hb, ← EReal.coe_mul, ← coe_sum]
  rw [div_coe _ (1024 : ℝ) (by norm_num)]
  simp only [← EReal.coe_mul, ← EReal.coe_sub]
  rfl
end

section
variable {Y : FVec Ideal S256x1024 .f32} {gf : FVec Ideal S1x1024 .f32} {tg rb : FVec Ideal S256x1024 .f32} {y t : Fin 256 → Fin 1024 → ℝ} {gr : Fin 1024 → ℝ}
  (hy : ∀ p k, Y (ix2 p k) = ((y p k : ℝ) : EReal)) (hg : ∀ k, gf (ix2 0 k) = ((gr k : ℝ) : EReal)) (ht : ∀ p k, tg (ix2 p k) = ((t p k : ℝ) : EReal))
  (hb : ∀ p k, rb (ix2 p k) = ((rinv (y p) : ℝ) : EReal))
include hy hg ht hb

/-- The loss: what a row block adds. -/
theorem pay_loss (L : FVec Ideal S8x128 .f32) (a : Fin 8) (l : Fin 128) : (k0_pay96 Y (k0_pay91 gf) rb tg L : FVec Ideal S8x128 .f32) (ix2 a l)
    = (L (ix2 a l) : EReal) + ((1 / 2 * ∑ p, (∑ k, err (y p) gr (t p) k * err (y p) gr (t p) k) / 1024 : ℝ) : EReal) := by
  have h := fun p => err_at (hy p) hg (ht p) (hb p)
  unfold k0_pay96
  generalize k0_pay95 Y (k0_pay91 gf) rb tg = E at h ⊢
  pointwise
  rw [ofBits_half, ofBits_1024]
  simp only [Fin.sum_univ_one, h, ← EReal.coe_mul, ← coe_sum, div_coe _ (1024 : ℝ) (by norm_num)]

/-- The final norm's weights: what a row block adds. -/
theorem pay_dg (P : FVec Ideal S1x1024 .f32) (q : Fin 1024) : (k0_pay1 (k0_pay99 P) (k0_pay100 Y (k0_pay91 gf) rb tg) : FVec Ideal S1x1024 .f32) (ix2 0 q)
    = (P (ix2 0 q) : EReal) + ((∑ p, err (y p) gr (t p) q / 1024 * (y p q * rinv (y p)) : ℝ) : EReal) := by
  have h := fun p => derr_at (hy p) hg (ht p) (hb p)
  unfold k0_pay100
  generalize k0_pay97 Y (k0_pay91 gf) rb tg = E at h ⊢
  pointwise [k0_pay1, k0_pay99, k0_pay94]
  simp only [h, hy, hb, ← EReal.coe_mul, ← coe_sum]
end

end Cert.Kernel5Ideal.Point

end
-- ==== Proof.ForwardStream.lean ====
/-
  THE FEED-FORWARD OF A ROW BLOCK IN THE REFERENCE'S VALUES. For a block that reads the arguments from row `R` on, after one that
  carried its last rows over: the normed and the hidden rows, the convolution, the gated product with its factors, and the stream
  after the layer are the reference's, row for row.
-/
module

public import proofs.«01_k».proof.Proof.HeadPay

@[expose] public section

set_option maxRecDepth 16384

noncomputable section

open Idealize.ShloMosaic Idealize.ShloMosaic.TcCoe Idealize.SL.Sem

namespace Cert.Forward

open Cert.Kernel5Ideal Cert.Kernel5Ideal.Gen Cert.Reals Cert.Mix Cert.Ffn Cert.Head
open Cert.Kernel2Ideal.Point (r8)
open Cert.Kernel4Ideal.Point (slab inb_halo)
open Cert.Kernel5Ideal.Point (hid norm_at up_at carry_at conv_at conv_ref act_at dval_at dgate_at add_at)
open Cert.Reference5Ideal.Read

theorem sum_cols (F : Fin 2816 → EReal) : ∑ k, ∑ q, F (gcol k q) = ∑ l, F l :=
  Fin.sum_mul_add_congr (S := 4) (n := 704) fun k q _ => rfl

/-- A block that reads the arguments, its rows from row `R` on. -/
structure Reads (x0 : FVec Ideal S4x2048x1024 .f32) (x1 : FVec Ideal S1024 .f32) (x2 : FVec Ideal S1024x5632 .f32) (x3 : FVec Ideal S3x5632 .f32)
    (x4 : FVec Ideal S2816x1024 .f32) (R : ℕ) (K : Blk) : Prop where
  row : R % 256 = 0
  keep : K.keep = if R % 2048 = 0 then 0 else 1
  x : ∀ (p : Fin 256) q, K.x (ix2 p q) = x0 (ix3 (bb (R + p.val)) (ss (R + p.val)) q)
  g : ∀ q, K.g (ix2 0 q) = x1 (ix1 q)
  wu : ∀ j q i, wuS K j (ix3 0 q i) = x2 (ix2 i (col j q))
  wd : ∀ k q i, wdS K k (ix3 0 q i) = x4 (ix2 (gcol k q) i)
  cw : ∀ j (i : Fin 3) q, haloS K.cw j (ix3 0 (r8 i) q) = x3 (ix2 i (col j q))

/-- Inside a sequence `C` holds the last eight hidden rows before row `R`. -/
def Carried (x0 : FVec Ideal S4x2048x1024 .f32) (x1 : FVec Ideal S1024 .f32) (x2 : FVec Ideal S1024x5632 .f32) (R : ℕ) (C : FVec Ideal S8x8x704 .f32) : Prop :=
  ¬ R % 2048 = 0 → ∀ j (r : Fin 8) q, haloS C j (ix3 0 r q) = hid x0 x1 x2 (col j q) (bb (R - 8 + r.val)) (ss (R - 8 + r.val))

variable {x0 : FVec Ideal S4x2048x1024 .f32} {x1 : FVec Ideal S1024 .f32} {x2 : FVec Ideal S1024x5632 .f32} {x3 : FVec Ideal S3x5632 .f32}
  {x4 : FVec Ideal S2816x1024 .f32} {R : ℕ} {K : Blk} (hK : Reads x0 x1 x2 x3 x4 R K) (p : Fin 256)
include hK

theorem hS_at (q : Fin 1024) : hS K (ix2 p q) = val_main_v12 (F := Ideal) x0 x1 (ix3 (bb (R + p.val)) (ss (R + p.val)) q) := norm_at (hK.x p) hK.g q

theorem uS_at (j : Fin 8) (q : Fin 704) : uS K j (ix3 0 p q) = val_main_v13 (F := Ideal) x0 x1 x2 (ix3 (bb (R + p.val)) (ss (R + p.val)) (col j q)) := up_at (hS_at hK p) (hK.wu j) q

omit p in
/-- The last rows of a block are carried to the next one. -/
theorem carried_next {C' : FVec Ideal S8x8x704 .f32} (h : ∀ j r q, C' (ix3 j r q) = (k0_pay80 (uS K j) : FVec Ideal S1x8x704 .f32) (ix3 0 r q)) : Carried x0 x1 x2 (R + 256) C' := fun _ j r q =>
  (slab (e := .f32) C' j (inb_halo j) r q).trans ((h j r q).trans ((carry_at _ r q).trans ((uS_at hK _ j q).trans
    (at_row (hid x0 x1 x2 (col j q)) (by show R + (248 + r.val) = R + 256 - 8 + r.val; omega)))))

variable {C : FVec Ideal S8x8x704 .f32} (hC : Carried x0 x1 x2 R C)
include hC

omit p in
/-- The rows before the block: the last ones of the block before, and none at a sequence's start. -/
theorem prev_at (j : Fin 8) (r : Fin 8) (q : Fin 704) : (haloS C j (ix3 0 r q) * K.keep : EReal) = prv (hid x0 x1 x2 (col j q)) R r := by
  rw [hK.keep]
  unfold prv
  by_cases h : R % 2048 = 0
  · rw [if_pos h, if_pos h, mul_zero]
  · rw [if_neg h, if_neg h, mul_one]
    exact hC h j r q

theorem convS_at (j : Fin 8) (q : Fin 704) : convS K C j (ix2 p q) = val_main_v35 (F := Ideal) x0 x1 x2 x3 (ix3 (bb (R + p.val)) (ss (R + p.val)) (col j q)) := by
  refine (conv_at (f := fun q => hid x0 x1 x2 (col j q)) hK.row (fun p q => uS_at hK p j q) (fun r q => prev_at hK hC j r q) p q).trans ?_
  rw [conv_ref, hK.cw j 0, hK.cw j 1, hK.cw j 2]

theorem gate_at (k : Fin 4) (q : Fin 704) : convS K C (gj k) (ix2 p q) = val_main_v36 (F := Ideal) x0 x1 x2 x3 (ix3 (bb (R + p.val)) (ss (R + p.val)) (gcol k q)) := by
  rw [convS_at hK p hC]
  pointwise [val_main_v36]
  rfl

theorem val_at (k : Fin 4) (q : Fin 704) : convS K C (vj k) (ix2 p q) = val_main_v37 (F := Ideal) x0 x1 x2 x3 (ix3 (bb (R + p.val)) (ss (R + p.val)) (gcol k q)) := by
  rw [convS_at hK p hC]
  pointwise [val_main_v37]
  exact congrArg (fun l => val_main_v35 (F := Ideal) x0 x1 x2 x3 (ix3 (bb (R + p.val)) (ss (R + p.val)) l)) (Fin.ext (by show (k.val + 4) * 704 + q.val = 2816 + (k.val * 704 + q.val); omega))

theorem act88_at (k : Fin 4) (q : Fin 704) : (k0_pay88 (convS K C (gj k)) (convS K C (vj k)) : FVec Ideal S256x704 .bf16) (ix2 p q)
    = val_main_v39 (F := Ideal) x0 x1 x2 x3 (ix3 (bb (R + p.val)) (ss (R + p.val)) (gcol k q)) := act_at (gate_at hK p hC k q) (val_at hK p hC k q)

theorem actS_at (k : Fin 4) (q : Fin 704) : actS K C k (ix3 0 p q) = val_main_v39 (F := Ideal) x0 x1 x2 x3 (ix3 (bb (R + p.val)) (ss (R + p.val)) (gcol k q)) := by
  refine Eq.trans ?_ (act88_at hK p hC k q)
  unfold actS k0_pay89
  generalize k0_pay88 (convS K C (gj k)) (convS K C (vj k)) = A
  pointwise

/-- The stream after the layer. -/
theorem yS_at (i : Fin 1024) : yS K C (ix2 p i) = val_main_v45 (F := Ideal) x0 x1 x2 x3 x4 (ix3 (bb (R + p.val)) (ss (R + p.val)) i) := by
  have step : ∀ B k, addS K C B k (ix2 p i) = (B (ix2 p i) : EReal) + ∑ q, val_main_v39 (F := Ideal) x0 x1 x2 x3 (ix3 (bb (R + p.val)) (ss (R + p.val)) (gcol k q)) * x4 (ix2 (gcol k q) i) :=
    fun B k => add_at (act88_at hK p hC k) (hK.wd k) B i
  have z : (k0_pay6 K.x : FVec Ideal S256x1024 .f32) (ix2 p i) = x0 (ix3 (bb (R + p.val)) (ss (R + p.val)) i) := by
    refine Eq.trans ?_ (hK.x p i)
    generalize K.x = X
    pointwise [k0_pay6]
  show addS K _ (addS K _ (addS K _ (addS K _ _ 0) 1) 2) 3 (ix2 p i) = _
  refine (step _ 3).trans ?_
  rw [step _ 2, step _ 1, step _ 0, z]
  pointwise [val_main_v45, val_main_v44]
  rw [← sum_cols, Fin.sum_univ_four]
  simp only [add_assoc]

/-- The gate's factors: where the gate and the value are real, the derivative as the reference writes it. -/
theorem facS_at (hG : ∀ b s k, IsR (val_main_v36 (F := Ideal) x0 x1 x2 x3 (ix3 b s k))) (hV : ∀ b s k, IsR (val_main_v37 (F := Ideal) x0 x1 x2 x3 (ix3 b s k))) (j : Fin 8) (q : Fin 704) : facS K C j (ix3 0 p q)
    = if j.val < 4 then val_main_v43 (F := Ideal) x0 x1 x2 x3 (ix3 (bb (R + p.val)) (ss (R + p.val)) (gcol (half j) q)) else val_main_v41 (F := Ideal) x0 x1 x2 x3 (ix3 (bb (R + p.val)) (ss (R + p.val)) (gcol (half j) q)) := by
  unfold facS
  by_cases hj : j.val < 4
  · rw [dif_pos hj, if_pos hj]
    have e : half j = ⟨j.val, hj⟩ := Fin.ext (Nat.mod_eq_of_lt hj)
    rw [e]
    exact dgate_at (gate_at hK p hC _ q) (val_at hK p hC _ q) (hG _ _ _) (hV _ _ _)
  · rw [dif_neg hj, if_neg hj]
    have e : half j = ⟨j.val - 4, by omega⟩ := Fin.ext (by show j.val % 4 = j.val - 4; omega)
    rw [e]
    exact dval_at (gate_at hK p hC _ q)

end Cert.Forward

end
-- ==== Proof.HeadHost.lean ====
/-
  WHAT THE LAST LAYER'S FEED-FORWARD READS. Each block is a part of an argument: the residual stream and the loss's target in blocks of
  256 rows, the weights cut in shards of 704 columns, whole at every point.
-/
module

public import proofs.«01_k».proof.Proof.ForwardStream

@[expose] public section

set_option maxRecDepth 16384

noncomputable section

open Idealize.ShloMosaic Idealize.ShloMosaic.TcCoe Idealize.SL.Sem

namespace Cert.Kernel5Ideal.Point

open Cert.Kernel5Ideal Cert.Kernel5Ideal.Gen Cert.Reals Cert.Mix Cert.Ffn Cert.Head Cert.Forward
open Cert.Kernel2Ideal.Point (r8)
open Cert.Kernel4Ideal.Point (slab)

variable (m : (ℓ : Loc nD τ sig) → Buf (Elt Ideal) ℓ) (c : Dev nD)

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = 0 ∧ win0_3.index t 1 = 0 ∧ win0_3.index t 2 = 0)
    ∧ (win0_4.index t 0 = 0 ∧ win0_4.index t 1 = 0 ∧ win0_4.index t 2 = 0) ∧ (win0_5.index t 0 = 0 ∧ win0_5.index t 1 = 0) ∧ (win0_6.index t 0 = t.val ∧ win0_6.index t 1 = 0)
    ∧ (win0_7.index t 0 = t.val ∧ win0_7.index t 1 = 0) ∧ (win0_8.index t 0 = 0 ∧ win0_8.index t 1 = t.val ∧ win0_8.index t 2 = 0)
    ∧ (win0_9.index t 0 = 0 ∧ win0_9.index t 1 = t.val ∧ win0_9.index t 2 = 0) ∧ (win0_10.index t 0 = 0 ∧ win0_10.index t 1 = t.val ∧ win0_10.index t 2 = 0)
    ∧ (win0_11.index t 0 = t.val ∧ win0_11.index t 1 = 0) ∧ (win0_12.index t 0 = 0 ∧ win0_12.index t 1 = 0) ∧ (win0_13.index t 0 = 0 ∧ win0_13.index t 1 = 0) :=
  (by decide +kernel : ∀ t : Fin grid0.N, _)

/-- The first row of point `t`'s block. -/
abbrev R5 (t : Fin cfg0.N) : ℕ := t.val * 256

/-- Whether the row block of point `n` starts a sequence: the kernel's test, on words. -/
def startBit (n : BitVec 32) : BitVec 1 :=
  let w : BitVec 32 := Scalar.select (Scalar.cmpi .eq 8#32 0#32) 1#32 8#32
  let r : BitVec 32 := Scalar.remsi n w
  Scalar.cmpi .eq (Scalar.select (Scalar.andi (Scalar.xori (Scalar.cmpi .slt r 0#32) (Scalar.cmpi .slt w 0#32)) (Scalar.cmpi .ne r 0#32)) (Scalar.addi r w) r) 0#32

theorem startBit_eq : ∀ t : Fin grid0.N, startBit (BitVec.ofNat 32 (grid0.coords t 0).val) = if t.val % 8 = 0 then 1#1 else 0#1 := by
  decide +kernel

theorem keep_at (t : Fin cfg0.N) : (k0_pay5 (F := Ideal) (grid0.coords t) : EReal) = if R5 t % 2048 = 0 then 0 else 1 := by
  pointwise [k0_pay5]
  show Scalar.select (startBit (BitVec.ofNat 32 (grid0.coords t 0).val)) (0 : EReal) 1 = _
  rw [startBit_eq t]
  by_cases h : t.val % 8 = 0
  · rw [if_pos h, if_pos (show R5 t % 2048 = 0 by unfold R5; omega)]
    rfl
  · rw [if_neg h, if_neg (show ¬ R5 t % 2048 = 0 by unfold R5; omega)]
    rfl

/-- A point that reads the arguments. -/
structure At (x0 : FVec Ideal S4x2048x1024 .f32) (x1 : FVec Ideal S1024 .f32) (x2 : FVec Ideal S1024x5632 .f32) (x3 : FVec Ideal S3x5632 .f32)
    (x4 : FVec Ideal S2816x1024 .f32) (x5 : FVec Ideal S1024 .f32) (x6 : FVec Ideal S4x2048x1024 .f32) (t : Fin cfg0.N) : Prop where
  reads : Reads x0 x1 x2 x3 x4 (R5 t) (blk m c t)
  gf : ∀ q, (iblk m c 5 t : FVec Ideal S1x1024 .f32) (ix2 0 q) = x5 (ix1 q)
  tg : ∀ (p : Fin 256) q, (iblk m c 6 t : FVec Ideal S256x1024 .f32) (ix2 p q) = x6 (ix3 (bb (R5 t + p.val)) (ss (R5 t + p.val)) q)

/-! ## The arrays -/

theorem host_x (r : Fin 8192) (q : Fin 1024) : (V m c main_v5 : FVec Ideal S8192x1024 .f32) (ix2 r q) = m ((c : Thread nD τ).loc main_arg0) (ix3 (bb r.val) (ss r.val) q) := by
  unfold V; after_reads_simp; pointwise
  refine congrArg (m ((c : Thread nD τ).loc main_arg0)) (congrArg₂ (fun a b => ix3 a b q) (Fin.ext ?_) (Fin.ext rfl))
  show r.val / 2048 = r.val / 2048 % 4
  omega

theorem host_tg (r : Fin 8192) (q : Fin 1024) : (V m c main_v11 : FVec Ideal S8192x1024 .f32) (ix2 r q) = m ((c : Thread nD τ).loc main_arg6) (ix3 (bb r.val) (ss r.val) q) := by
  unfold V; after_reads_simp; pointwise
  refine congrArg (m ((c : Thread nD τ).loc main_arg6)) (congrArg₂ (fun a b => ix3 a b q) (Fin.ext ?_) (Fin.ext rfl))
  show r.val / 2048 = r.val / 2048 % 4
  omega

theorem host_g (q : Fin 1024) : (V m c main_v6 : FVec Ideal S1x1024 .f32) (ix2 0 q) = m ((c : Thread nD τ).loc main_arg1) (ix1 q) := by
  unfold V; after_reads_simp; pointwise

theorem host_gf (q : Fin 1024) : (V m c main_v10 : FVec Ideal S1x1024 .f32) (ix2 0 q) = m ((c : Thread nD τ).loc main_arg5) (ix1 q) := by
  unfold V; after_reads_simp; pointwise

theorem host_wd (k : Fin 4) (q : Fin 704) (i : Fin 1024) : (V m c main_v4 : FVec Ideal S4x704x1024 .bf16) (ix3 k q i) = m ((c : Thread nD τ).loc main_arg4) (ix2 (gcol k q) i) := by
  unfold V; after_reads_simp; pointwise
  rfl

theorem host_wu (j : Fin 8) (q : Fin 704) (i : Fin 1024) : (V m c main_v2 : FVec Ideal S8x704x1024 .bf16) (ix3 j q i) = m ((c : Thread nD τ).loc main_arg2) (ix2 i (col j q)) := by
  unfold V; after_reads_simp; pointwise
  rfl

omit m c in
/-- The convolution's weights padded to eight rows and cut in shards. -/
theorem padded_at (w : FVec Ideal S3x5632 .f32) (j : Fin 8) (i : Fin 3) (q : Fin 704) : transpose S8x8x704 [1, 0, 2] (shapeCast S8x8x704 (pad S8x5632 ![0, 0] ![5, 0] ![0, 0] w (sitofp (F := Ideal) .f32 (constantI S_ 32 0#32)) pads_S3x5632_S8x5632_050_000 h_S_)
    shapeCasts_S8x5632_S8x8x704) transposes_S8x8x704_S8x8x704_1_0_2 (ix3 j (r8 i) q) = w (ix2 i (col j q)) := by
  pointwise
  exact (dif_pos ⟨i.isLt, by omega⟩).trans rfl

theorem host_cw (j : Fin 8) (i : Fin 3) (q : Fin 704) : (V m c main_v9 : FVec Ideal S8x8x704 .f32) (ix3 j (r8 i) q) = m ((c : Thread nD τ).loc main_arg3) (ix2 i (col j q)) := by
  unfold V; after_reads_simp
  exact padded_at (m ((c : Thread nD τ).loc main_arg3)) j i q

/-! ## The blocks -/

variable (t : Fin cfg0.N)

theorem blk_x (p : Fin 256) (q : Fin 1024) (r : Fin 8192) (hr : r.val = R5 t + p.val) :
    (iblk m c 0 t : FVec Ideal S256x1024 .f32) (ix2 p q) = (V m c main_v5 : FVec Ideal S8192x1024 .f32) (ix2 r q) := by
  obtain ⟨⟨e0, e1⟩, -⟩ := idx t
  unfold iblk; blk_simp; blk_ext
  all_goals first | (rw [e0]; exact hr.symm) | (rw [e1]; omega)

theorem blk_tg (p : Fin 256) (q : Fin 1024) (r : Fin 8192) (hr : r.val = R5 t + p.val) :
    (iblk m c 6 t : FVec Ideal S256x1024 .f32) (ix2 p q) = (V m c main_v11 : FVec Ideal S8192x1024 .f32) (ix2 r q) := by
  obtain ⟨-, -, -, -, -, -, ⟨e0, e1⟩, -⟩ := idx t
  unfold iblk; blk_simp; blk_ext
  all_goals first | (rw [e0]; exact hr.symm) | (rw [e1]; omega)

theorem blk_g (z : Fin 1) (q : Fin 1024) : (iblk m c 1 t : FVec Ideal S1x1024 .f32) (ix2 z q) = (V m c main_v6 : FVec Ideal S1x1024 .f32) (ix2 z q) := by
  obtain ⟨-, ⟨e0, e1⟩, -⟩ := idx t
  unfold iblk; blk_simp; blk_ext
  all_goals first | (rw [e0]; omega) | (rw [e1]; omega)

theorem blk_gf (z : Fin 1) (q : Fin 1024) : (iblk m c 5 t : FVec Ideal S1x1024 .f32) (ix2 z q) = (V m c main_v10 : FVec Ideal S1x1024 .f32) (ix2 z q) := by
  obtain ⟨-, -, -, -, -, ⟨e0, e1⟩, -⟩ := idx t
  unfold iblk; blk_simp; blk_ext
  all_goals first | (rw [e0]; omega) | (rw [e1]; omega)

theorem blk_wu (j : Fin 8) (q : Fin 704) (i : Fin 1024) : (iblk m c 2 t : FVec Ideal S8x704x1024 .bf16) (ix3 j q i) = (V m c main_v2 : FVec Ideal S8x704x1024 .bf16) (ix3 j q i) := by
  obtain ⟨-, -, ⟨e0, e1, e2⟩, -⟩ := idx t
  unfold iblk; blk_simp; blk_ext
  all_goals first | (rw [e0]; omega) | (rw [e1]; omega) | (rw [e2]; omega)

theorem blk_wd (k : Fin 4) (q : Fin 704) (i : Fin 1024) : (iblk m c 3 t : FVec Ideal S4x704x1024 .bf16) (ix3 k q i) = (V m c main_v4 : FVec Ideal S4x704x1024 .bf16) (ix3 k q i) := by
  obtain ⟨-, -, -, ⟨e0, e1, e2⟩, -⟩ := idx t
  unfold iblk; blk_simp; blk_ext
  all_goals first | (rw [e0]; omega) | (rw [e1]; omega) | (rw [e2]; omega)

theorem blk_cw (j r : Fin 8) (q : Fin 704) : (iblk m c 4 t : FVec Ideal S8x8x704 .f32) (ix3 j r q) = (V m c main_v9 : FVec Ideal S8x8x704 .f32) (ix3 j r q) := by
  obtain ⟨-, -, -, -, ⟨e0, e1, e2⟩, -⟩ := idx t
  unfold iblk; blk_simp; blk_ext
  all_goals first | (rw [e0]; omega) | (rw [e1]; omega) | (rw [e2]; omega)

/-- EVERY GRID POINT READS THE ARGUMENTS. -/
theorem at_point : At m c (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) t where
  reads := {
    row := by unfold R5; omega
    keep := keep_at t
    x p q := (blk_x m c t p q ⟨R5 t + p.val, by have : t.val < 32 := t.isLt; unfold R5; omega⟩ rfl).trans (host_x m c _ q)
    g q := (blk_g m c t 0 q).trans (host_g m c q)
    wu j q i := (slab _ j _ q i).trans ((blk_wu m c t j q i).trans (host_wu m c j q i))
    wd k q i := (slab _ k _ q i).trans ((blk_wd m c t k q i).trans (host_wd m c k q i))
    cw j i q := (slab _ j _ (r8 i) q).trans ((blk_cw m c t j (r8 i) q).trans (host_cw m c j i q)) }
  gf q := (blk_gf m c t 0 q).trans (host_gf m c q)
  tg p q := (blk_tg m c t p q ⟨R5 t + p.val, by have : t.val < 32 := t.isLt; unfold R5; omega⟩ rfl).trans (host_tg m c _ q)

end Cert.Kernel5Ideal.Point

end
-- ==== Proof.HeadRef.lean ====
/-
  THE HEAD'S REFERENCE AT REAL ARGUMENTS. The forward's values are real when the arguments are; the loss, and its gradient by the final
  norm's weights and by the stream as `jax.value_and_grad` writes it, are then the kernel's formulas.
-/
module

public import proofs.«01_k».proof.Proof.HeadPay
public import proofs.«01_k».proof.Proof.FfnRef

@[expose] public section

set_option maxRecDepth 16384

noncomputable section

open Idealize.ShloMosaic

namespace Cert.Reference5Ideal.Point

open Cert.Reference5Ideal Cert.Reference5Ideal.Gen Cert.Reference5Ideal.Read Cert.Reals Cert.Mix Cert.Ffn Cert.Head
open Cert.Reference4Ideal.Point (real_eq)

variable {x0 : FVec Ideal S4x2048x1024 .f32} {x1 : FVec Ideal S1024 .f32} {x2 : FVec Ideal S1024x5632 .f32} {x3 : FVec Ideal S3x5632 .f32}
  {x4 : FVec Ideal S2816x1024 .f32} {x5 : FVec Ideal S1024 .f32} {x6 : FVec Ideal S4x2048x1024 .f32}

/-- The stream after the layer, the final norm's weights and the target as reals; the gate and the value it is computed from are
    real. -/
structure RefAt (x0 : FVec Ideal S4x2048x1024 .f32) (x1 : FVec Ideal S1024 .f32) (x2 : FVec Ideal S1024x5632 .f32) (x3 : FVec Ideal S3x5632 .f32)
    (x4 : FVec Ideal S2816x1024 .f32) (x5 : FVec Ideal S1024 .f32) (x6 : FVec Ideal S4x2048x1024 .f32) (Y T : Tok) (gr : Fin 1024 → ℝ) : Prop where
  gate : ∀ b s k, IsR (val_main_v36 (F := Ideal) x0 x1 x2 x3 (ix3 b s k))
  val : ∀ b s k, IsR (val_main_v37 (F := Ideal) x0 x1 x2 x3 (ix3 b s k))
  y : ∀ b s q, val_main_v45 (F := Ideal) x0 x1 x2 x3 x4 (ix3 b s q) = ((Y b s q : ℝ) : EReal)
  g : ∀ q, x5 (ix1 q) = ((gr q : ℝ) : EReal)
  t : ∀ b s q, x6 (ix3 b s q) = ((T b s q : ℝ) : EReal)

theorem ofBits_two : Ideal.ofBits .f32 0x40000000#32 = ((2 : ℝ) : EReal) := by
  simp [Ideal.ofBits, Ideal.ieee, -EReal.coe_mul]; norm_num

/-- A position's part of the loss, and of the gradient by the final norm's weights. -/
def lossRow (y g t : Fin 1024 → ℝ) : ℝ := (∑ k, err y g t k * err y g t k) / 1024
def dgRow (y g t : Fin 1024 → ℝ) (q : Fin 1024) : ℝ := err y g t q / 1024 * (y q * rinv y)

namespace RefAt

variable {Y T : Tok} {gr : Fin 1024 → ℝ} (h : RefAt x0 x1 x2 x3 x4 x5 x6 Y T gr) (b : Fin 4) (s : Fin 2048)
include h

theorem ms_at : val_main_v52 (F := Ideal) x0 x1 x2 x3 x4 (ix3 b s (0 : Fin 1)) = ((ms (Y b s) : ℝ) : EReal) := by
  pointwise [val_main_v52, val_main_v51, val_main_v50, val_main_v49, val_main_v48, val_main_v47, val_main_v46, val_main_cst_4, val_main_cst_5, val_main_cst_6]
  rw [ofBits_1024, ofBits_eps]
  simp only [h.y, ← EReal.coe_mul, ← coe_sum]
  rw [div_coe _ _ (by norm_num), ← EReal.coe_add]
  rfl

theorem rinv_at : val_main_v53 (F := Ideal) x0 x1 x2 x3 x4 (ix3 b s (0 : Fin 1)) = ((rinv (Y b s) : ℝ) : EReal) := by
  pointwise [val_main_v53]
  rw [h.ms_at, rsqrt_coe _ (ms_pos _)]
  rfl

theorem err_at (q : Fin 1024) : val_main_v62 (F := Ideal) x0 x1 x2 x3 x4 x5 x6 (ix3 b s q) = ((err (Y b s) gr (T b s) q : ℝ) : EReal) := by
  pointwise [val_main_v62, val_main_v61, val_main_v60, val_main_v59, val_main_v58, val_main_v57]
  rw [h.y, h.rinv_at, h.g, h.t, ← EReal.coe_mul, ← EReal.coe_mul, ← EReal.coe_sub]
  rfl

theorem derr_at (q : Fin 1024) : val_main_v76 (F := Ideal) x0 x1 x2 x3 x4 x5 x6 (ix3 b s q) = ((err (Y b s) gr (T b s) q / 1024 : ℝ) : EReal) := by
  pointwise [val_main_v76, val_main_v75, val_main_v74, val_main_v73, val_main_v72, val_main_v71, val_main_v65, val_main_v64, val_main_cst_8, val_main_cst_13, val_main_cst_14, val_main_cst_15]
  rw [h.err_at, ofBits_1024, ofBits_half, ofBits_two]
  simp only [← EReal.coe_one, ← EReal.coe_mul, div_coe _ (1024 : ℝ) (by norm_num), mul_one]
  refine congrArg (fun z : ℝ => (z : EReal)) ?_
  ring

/-- The loss, on every lane. -/
theorem lossR (a : Fin 8) (l : Fin 128) : val_main_v113 (F := Ideal) x0 x1 x2 x3 x4 x5 x6 (ix2 a l) = ((1 / 2 * ∑ b, ∑ s, lossRow (Y b s) gr (T b s) : ℝ) : EReal) := by
  pointwise [val_main_v113, val_main_v70, val_main_v69, val_main_v68, val_main_v67, val_main_v66, val_main_v63, val_main_cst_9, val_main_cst_10, val_main_cst_11, val_main_cst_12]
  simp only [h.err_at, ofBits_half, ofBits_1024, ← EReal.coe_mul, ← coe_sum, div_coe _ (1024 : ℝ) (by norm_num)]
  rfl

/-- The gradient of the final norm's weights, padded to eight rows. -/
theorem dgR (r : Fin 8) (q : Fin 1024) : val_main_v112 (F := Ideal) x0 x1 x2 x3 x4 x5 x6 (ix2 r q) = (((if r.val = 0 then ∑ b, ∑ s, dgRow (Y b s) gr (T b s) q else 0) : ℝ) : EReal) := by
  pointwise [val_main_v112, val_main_v111, val_main_v82, val_main_call2_v0, val_main_cst_17]
  by_cases hr : r.val = 0
  · rw [dif_pos (by omega), if_pos hr, reduce01]
    pointwise [val_main_v79, val_main_v78, val_main_cst_16]
    simp only [Fin.sum_univ_one, reduce01]
    pointwise [val_main_v77, val_main_v58, val_main_v57]
    simp only [h.rinv_at, h.derr_at, h.y, ← EReal.coe_mul, ← coe_sum, zero_add]
    refine congrArg (fun z : ℝ => (z : EReal)) (Finset.sum_congr rfl fun b _ => Finset.sum_congr rfl fun s _ => ?_)
    exact mul_comm _ _
  · rw [dif_neg (by omega), if_neg hr]
    pointwise [val_main_c]
    show (((0#32 : BitVec 32).toInt : ℝ) : EReal) = ((0 : ℝ) : EReal)
    simp

/-- The gradient of the stream. -/
theorem dx_at (q : Fin 1024) : val_main_v96 (F := Ideal) x0 x1 x2 x3 x4 x5 x6 (ix3 b s q)
    = ((rmsGrad (Y b s) gr (fun k => err (Y b s) gr (T b s) k / 1024) q : ℝ) : EReal) := by
  pointwise [val_main_v96, val_main_v95, val_main_v94, val_main_v93, val_main_v92, val_main_v91, val_main_v90, val_main_v89, val_main_v88, val_main_v87, val_main_v86, val_main_v85, val_main_v84, val_main_v83, val_main_v81, val_main_v80, val_main_v59, val_main_v56, val_main_v55, val_main_v54, val_main_cst_7, val_main_cst_18, val_main_cst_19, val_main_cst_20]
  simp only [Fin.sum_univ_one, h.rinv_at, h.ms_at, h.derr_at, h.y, h.g, ofBits_1024, ofBits_neg_half, div_coe _ _ (ms_pos _).ne', div_coe _ (1024 : ℝ) (by norm_num), zero_add, ← EReal.coe_mul, ← coe_sum, ← EReal.coe_add]
  refine congrArg (fun z : ℝ => (z : EReal)) ?_
  refine Eq.trans ?_ (zero_add _)
  rw [rmsGrad_eq]
  ring

theorem dxR (r : Fin 8192) (q : Fin 1024) : val_main_v110 (F := Ideal) x0 x1 x2 x3 x4 x5 x6 (ix2 r q)
    = ((rmsGrad (Y (bb r.val) (ss r.val)) gr (fun k => err (Y (bb r.val) (ss r.val)) gr (T (bb r.val) (ss r.val)) k / 1024) q : ℝ) : EReal) := by
  pointwise [val_main_v110]
  refine Eq.trans (congrArg _ ?_) (h.dx_at _ _ _)
  refine congr (congrArg₂ ix3 (Fin.ext ?_) (Fin.ext ?_)) rfl
  · show r.val / 2048 = r.val / 2048 % 4
    omega
  · rfl

end RefAt

/-! ## The saved values, row by row -/

theorem row_eq (r : Fin 8192) : (⟨r.val / 2048, by omega⟩ : Fin 4) = bb r.val := Fin.ext (by show r.val / 2048 = r.val / 2048 % 4; omega)

theorem hR (r : Fin 8192) (q : Fin 1024) : val_main_v99 (F := Ideal) x0 x1 (ix2 r q) = val_main_v12 (F := Ideal) x0 x1 (ix3 (bb r.val) (ss r.val) q) := by
  pointwise [val_main_v99, val_main_v98]
  rw [← row_eq]
  rfl

theorem upR (j : Fin 8) (r : Fin 8192) (q : Fin 704) : val_main_v102 (F := Ideal) x0 x1 x2 (ix3 j r q) = val_main_v13 (F := Ideal) x0 x1 x2 (ix3 (bb r.val) (ss r.val) (col j q)) := by
  pointwise [val_main_v102, val_main_v101, val_main_v100]
  rw [← row_eq]
  rfl

theorem actR (k : Fin 4) (r : Fin 8192) (q : Fin 704) : val_main_v109 (F := Ideal) x0 x1 x2 x3 (ix3 k r q) = val_main_v39 (F := Ideal) x0 x1 x2 x3 (ix3 (bb r.val) (ss r.val) (gcol k q)) := by
  pointwise [val_main_v109, val_main_v108, val_main_v107]
  rw [← row_eq]
  rfl

theorem facR (j : Fin 8) (r : Fin 8192) (q : Fin 704) : val_main_v106 (F := Ideal) x0 x1 x2 x3 (ix3 j r q)
    = if j.val < 4 then val_main_v43 (F := Ideal) x0 x1 x2 x3 (ix3 (bb r.val) (ss r.val) (gcol (half j) q)) else val_main_v41 (F := Ideal) x0 x1 x2 x3 (ix3 (bb r.val) (ss r.val) (gcol (half j) q)) := by
  pointwise [val_main_v106, val_main_v105, val_main_v104, val_main_v103, val_main_v97]
  rw [← row_eq]
  by_cases hj : j.val < 4
  · rw [dif_pos (by omega), if_pos hj]
    have e : (⟨j.val * 704 + q.val, by omega⟩ : Fin 2816) = gcol (half j) q := Fin.ext (by show j.val * 704 + q.val = j.val % 4 * 704 + q.val; omega)
    rw [e]
    rfl
  · rw [dif_neg (by omega), if_neg hj]
    have e : (⟨j.val * 704 + q.val - 2816, by omega⟩ : Fin 2816) = gcol (half j) q := Fin.ext (by show j.val * 704 + q.val - 2816 = j.val % 4 * 704 + q.val; omega)
    rw [e]
    rfl

/-! ## The forward's values are real -/

section
variable (h0 : ∀ i, IsR (x0 i)) (h1 : ∀ i, IsR (x1 i)) (h2 : ∀ i, IsR (x2 i)) (h3 : ∀ i, IsR (x3 i)) (h4 : ∀ i, IsR (x4 i)) (h5 : ∀ i, IsR (x5 i)) (h6 : ∀ i, IsR (x6 i))

include h0 in
theorem real_rms (b : Fin 4) (s : Fin 2048) : IsR (val_main_v7 (F := Ideal) x0 (ix3 b s (0 : Fin 1))) := by
  obtain ⟨r, rfl⟩ := finite_of_isR h0
  have e : val_main_v6 (F := Ideal) (fun i => ((r i : ℝ) : EReal)) (ix3 b s (0 : Fin 1)) = ((ms (fun q : Fin 1024 => r (ix3 b s q)) : ℝ) : EReal) := by
    pointwise [val_main_v6, val_main_v5, val_main_v4, val_main_v3, val_main_v2, val_main_v1, val_main_v0, val_main_cst, val_main_cst_0, val_main_cst_1]
    rw [ofBits_1024, ofBits_eps]
    simp only [← EReal.coe_mul, ← coe_sum]
    rw [div_coe _ _ (by norm_num), ← EReal.coe_add]
    rfl
  pointwise [val_main_v7]
  rw [e, rsqrt_coe _ (ms_pos _)]
  exact IsR.coe _

include h0 h1 h2 in
theorem real_up (b : Fin 4) (s : Fin 2048) (l : Fin 5632) : IsR (val_main_v13 (F := Ideal) x0 x1 x2 (ix3 b s l)) := by
  pointwise [val_main_v13, val_main_v12, val_main_v11, val_main_v10, val_main_v9, val_main_v8]
  exact IsR.sum _ fun q => ((h0 _).mul (real_rms h0 b s)).mul (h1 _) |>.mul (h2 _)

include h0 h1 h2 in
theorem real_down (k : ℕ) (b : Fin 4) (s : Fin 2048) (l : Fin 5632) : IsR (down k (Cert.Kernel5Ideal.Point.hid x0 x1 x2 l) b s) :=
  IsR.dite (fun _ => IsR.zero) fun _ => real_up h0 h1 h2 _ _ _

include h0 h1 h2 h3 in
theorem real_conv (b : Fin 4) (s : Fin 2048) (l : Fin 5632) : IsR (val_main_v35 (F := Ideal) x0 x1 x2 x3 (ix3 b s l)) := by
  rw [Cert.Kernel5Ideal.Point.conv_ref]
  exact (((real_down h0 h1 h2 _ _ _ _).mul (h3 _)).add ((real_down h0 h1 h2 _ _ _ _).mul (h3 _))).add ((real_up h0 h1 h2 _ _ _).mul (h3 _))

include h0 h1 h2 h3 in
theorem real_gate (b : Fin 4) (s : Fin 2048) (k : Fin 2816) : IsR (val_main_v36 (F := Ideal) x0 x1 x2 x3 (ix3 b s k)) := by
  pointwise [val_main_v36]
  exact real_conv h0 h1 h2 h3 _ _ _

include h0 h1 h2 h3 in
theorem real_val (b : Fin 4) (s : Fin 2048) (k : Fin 2816) : IsR (val_main_v37 (F := Ideal) x0 x1 x2 x3 (ix3 b s k)) := by
  pointwise [val_main_v37]
  exact real_conv h0 h1 h2 h3 _ _ _

include h0 h1 h2 h3 h4 in
theorem real_y (b : Fin 4) (s : Fin 2048) (q : Fin 1024) : IsR (val_main_v45 (F := Ideal) x0 x1 x2 x3 x4 (ix3 b s q)) := by
  pointwise [val_main_v45, val_main_v44, val_main_v39, val_main_v38_0, val_main_v38_2, val_main_call0_v4, val_main_call0_v3, val_main_call0_v2, val_main_call0_v1, val_main_call0_v0, val_main_call0_cst, val_main_call0_cst_0]
  refine (h0 _).add (IsR.sum _ fun k => IsR.mul (IsR.mul (IsR.mul (real_gate h0 h1 h2 h3 b s k) ?_) (real_val h0 h1 h2 h3 b s k)) (h4 _))
  exact IsR.sigmoid (real_gate h0 h1 h2 h3 b s k)

include h0 h1 h2 h3 h4 h5 h6 in
theorem refAt : ∃ Y T gr, RefAt x0 x1 x2 x3 x4 x5 x6 Y T gr :=
  ⟨fun b s q => EReal.toReal (val_main_v45 (F := Ideal) x0 x1 x2 x3 x4 (ix3 b s q)), fun b s q => EReal.toReal (x6 (ix3 b s q)), fun q => EReal.toReal (x5 (ix1 q)),
    real_gate h0 h1 h2 h3, real_val h0 h1 h2 h3, fun b s q => real_eq (real_y h0 h1 h2 h3 h4 b s q), fun q => real_eq (h5 _), fun b s q => real_eq (h6 _)⟩
end

end Cert.Reference5Ideal.Point

end
-- ==== Proof.HeadStream.lean ====
/-
  THE LAST LAYER'S FEED-FORWARD AT A GRID POINT. What a point stores, row for row, in the reference's values: the normed and the hidden
  rows, the gate's factors, the gated product; and over the reals the stream's gradient and a block's part of the loss and of the final
  norm's gradient.
-/
module

public import proofs.«01_k».proof.Proof.HeadHost
public import proofs.«01_k».proof.Proof.HeadRef

@[expose] public section

set_option maxRecDepth 16384

noncomputable section

open Idealize.ShloMosaic Idealize.ShloMosaic.TcCoe Idealize.SL.Sem

namespace Cert.Kernel5Ideal.Point

open Cert.Kernel5Ideal Cert.Kernel5Ideal.Gen Cert.Reals Cert.Mix Cert.Ffn Cert.Head Cert.Forward
open Cert.Reference5Ideal.Read
open Cert.Reference5Ideal.Point (RefAt lossRow dgRow)

/-- The batch and the position of the block's row `p`. -/
abbrev B5 (t : Fin cfg0.N) (p : Fin 256) : Fin 4 := bb (R5 t + p.val)
abbrev S5 (t : Fin cfg0.N) (p : Fin 256) : Fin 2048 := ss (R5 t + p.val)

variable {m : (ℓ : Loc nD τ sig) → Buf (Elt Ideal) ℓ} {c : Dev nD}
  {x0 : FVec Ideal S4x2048x1024 .f32} {x1 : FVec Ideal S1024 .f32} {x2 : FVec Ideal S1024x5632 .f32} {x3 : FVec Ideal S3x5632 .f32}
  {x4 : FVec Ideal S2816x1024 .f32} {x5 : FVec Ideal S1024 .f32} {x6 : FVec Ideal S4x2048x1024 .f32}
  (hA : ∀ t, At m c x0 x1 x2 x3 x4 x5 x6 t) (t : Fin cfg0.N) (p : Fin 256)
include hA

omit p in
/-- What the point before carried over. -/
theorem carried : Carried x0 x1 x2 (R5 t) (before m c t) := fun h => by
  have hN : t.val < 32 := t.isLt
  have h0 : ¬ t.val % 32 = 0 := fun h' => h (by unfold R5; omega)
  have e : R5 (⟨t.val - 1, by omega⟩ : Fin cfg0.N) + 256 = R5 t := by show (t.val - 1) * 256 + 256 = t.val * 256; omega
  unfold before
  rw [dif_neg h0]
  exact (e ▸ carried_next (hA ⟨t.val - 1, by omega⟩).reads fun j r q => carry_out m c ⟨t.val - 1, by omega⟩ j r q) h

variable {Y T : Tok} {gr : Fin 1024 → ℝ} (h : RefAt x0 x1 x2 x3 x4 x5 x6 Y T gr)
include h

theorem y_real (k : Fin 1024) : yS (blk m c t) (before m c t) (ix2 p k) = ((Y (B5 t p) (S5 t p) k : ℝ) : EReal) := (yS_at (hA t).reads p (carried hA t) k).trans (h.y _ _ _)
omit p in
theorem g_real (k : Fin 1024) : (iblk m c 5 t : FVec Ideal S1x1024 .f32) (ix2 0 k) = ((gr k : ℝ) : EReal) := ((hA t).gf k).trans (h.g k)
theorem t_real (k : Fin 1024) : (iblk m c 6 t : FVec Ideal S256x1024 .f32) (ix2 p k) = ((T (B5 t p) (S5 t p) k : ℝ) : EReal) := ((hA t).tg p k).trans (h.t _ _ _)
theorem r_real : rS m c t (before m c t) (ix2 p 0) = ((rinv (Y (B5 t p) (S5 t p)) : ℝ) : EReal) := rinv_at (y_real hA t p h)
theorem rb_real (k : Fin 1024) : rbS m c t (before m c t) (ix2 p k) = ((rinv (Y (B5 t p) (S5 t p)) : ℝ) : EReal) := (spread_at p k).trans (r_real hA t p h)

theorem dx_at_point (q : Fin 1024) : ((outsAt0 m c t.val t.isLt).2.2.2.2.1 : FVec Ideal S256x1024 .f32) (ix2 p q)
    = ((rmsGrad (Y (B5 t p) (S5 t p)) gr (fun k => err (Y (B5 t p) (S5 t p)) gr (T (B5 t p) (S5 t p)) k / 1024) q : ℝ) : EReal) := by
  rw [dx_out]
  exact pay_dx (y_real hA t p h) (g_real hA t h) (t_real hA t p h) (r_real hA t p h) (rb_real hA t p h) q

omit p in
theorem loss_step (a : Fin 8) (l : Fin 128) : ((outsAt0 m c t.val t.isLt).2.2.2.2.2.2.1 : FVec Ideal S8x128 .f32) (ix2 a l)
    = beforeL m c t (ix2 a l) + ((1 / 2 * ∑ p : Fin 256, lossRow (Y (B5 t p) (S5 t p)) gr (T (B5 t p) (S5 t p)) : ℝ) : EReal) := by
  rw [loss_out]
  exact pay_loss (fun p => y_real hA t p h) (g_real hA t h) (fun p => t_real hA t p h) (fun p => rb_real hA t p h) _ a l

omit p in
theorem dg_step (r : Fin 8) (q : Fin 1024) : ((outsAt0 m c t.val t.isLt).2.2.2.2.2.1 : FVec Ideal S8x1024 .f32) (ix2 r q)
    = beforeG m c t (ix2 r q) + (((if r.val = 0 then ∑ p : Fin 256, dgRow (Y (B5 t p) (S5 t p)) gr (T (B5 t p) (S5 t p)) q else 0) : ℝ) : EReal) := by
  rw [dg_out]
  by_cases hr : r.val = 0
  · rw [if_pos hr, if_pos hr]
    refine (pay_dg (fun p => y_real hA t p h) (g_real hA t h) (fun p => t_real hA t p h) (fun p => rb_real hA t p h) _ q).trans ?_
    refine congrArg (fun z : EReal => z + _) (congrArg (beforeG m c t) (funext fun b => Fin.ext ?_))
    rcases b with ⟨_ | _ | b, hb⟩
    · show 0 + 1 * 0 = r.val
      omega
    · show 0 + 1 * q.val = q.val
      omega
    · exact absurd hb (by show ¬ b + 2 < 2; omega)
  · rw [if_neg hr, if_neg hr, EReal.coe_zero, add_zero]

end Cert.Kernel5Ideal.Point

end
-- ==== Proof.HeadValue.lean ====
/-
  THE LAST LAYER'S FEED-FORWARD, ITS SEVEN RESULTS AS WHOLE ARRAYS. The grid walks the thirty-two row blocks from the first to the last.
  Five results are written block by block; the loss and the final norm's gradient stay in one block and grow by a term per point.
-/
module

public import proofs.«01_k».proof.Proof.HeadStream
public import proofs.«01_k».proof.Proof.FfnValue

@[expose] public section

set_option maxRecDepth 16384

noncomputable section

open Idealize.ShloMosaic Idealize.ShloMosaic.TcCoe Idealize.SL.Sem
open Idealize.ShloMosaic.Pipeline (Dat)

namespace Cert.Mix

/-- The blocks from the first to the last. -/
theorem sum_rows_fwd (K N : ℕ) (hK : N * K = 8192) (f : Fin 4 → Fin 2048 → ℝ) :
    ∑ i ∈ Finset.range N, ∑ p : Fin K, f (bb (i * K + p.val)) (ss (i * K + p.val)) = ∑ b, ∑ s, f b s :=
  (sum_blocks K (fun r => f (bb r) (ss r)) N).trans (hK ▸ sum_rows f)

end Cert.Mix

namespace Cert.Kernel5Ideal.Point

open Cert.Kernel5Ideal Cert.Kernel5Ideal.Gen Cert.Reals Cert.Mix Cert.Ffn Cert.Head Cert.Forward
open Cert.Reference5Ideal.Read
open Cert.Reference5Ideal.Point (RefAt lossRow dgRow)

variable {m : (ℓ : Loc nD τ sig) → Buf (Elt Ideal) ℓ} {c : Dev nD}
  {x0 : FVec Ideal S4x2048x1024 .f32} {x1 : FVec Ideal S1024 .f32} {x2 : FVec Ideal S1024x5632 .f32} {x3 : FVec Ideal S3x5632 .f32}
  {x4 : FVec Ideal S2816x1024 .f32} {x5 : FVec Ideal S1024 .f32} {x6 : FVec Ideal S4x2048x1024 .f32}
  (hA : ∀ t, At m c x0 x1 x2 x3 x4 x5 x6 t) {Y T : Tok} {gr : Fin 1024 → ℝ}

/-- A block's part of the loss, and of the final norm's gradient. -/
def lossAdd (Y T : Tok) (gr : Fin 1024 → ℝ) (R : ℕ) : ℝ := 1 / 2 * ∑ p : Fin 256, lossRow (Y (bb (R + p.val)) (ss (R + p.val))) gr (T (bb (R + p.val)) (ss (R + p.val)))
def dgAdd (Y T : Tok) (gr : Fin 1024 → ℝ) (R : ℕ) (r : Fin 8) (q : Fin 1024) : ℝ :=
  if r.val = 0 then ∑ p : Fin 256, dgRow (Y (bb (R + p.val)) (ss (R + p.val))) gr (T (bb (R + p.val)) (ss (R + p.val))) q else 0

theorem loss_total : ∑ i ∈ Finset.range 32, lossAdd Y T gr (i * 256) = 1 / 2 * ∑ b, ∑ s, lossRow (Y b s) gr (T b s) := by
  unfold lossAdd
  rw [← Finset.mul_sum]
  exact congrArg (1 / 2 * ·) (sum_rows_fwd 256 32 rfl fun b s => lossRow (Y b s) gr (T b s))

theorem dg_total (r : Fin 8) (q : Fin 1024) : ∑ i ∈ Finset.range 32, dgAdd Y T gr (i * 256) r q = if r.val = 0 then ∑ b, ∑ s, dgRow (Y b s) gr (T b s) q else 0 := by
  unfold dgAdd
  by_cases h : r.val = 0
  · simp only [if_pos h]
    exact sum_rows_fwd 256 32 rfl fun b s => dgRow (Y b s) gr (T b s) q
  · simp only [if_neg h, Finset.sum_const_zero]

include hA

/-! ## The saved values -/

theorem h_array : (dats m 0 c).arrAt 7 cfg0.N = val_main_v99 (F := Ideal) x0 x1 := by
  refine (dats m 0 c).arrAt_eq_of_covers 7 _ (by decide +kernel) fun t hf j => ?_
  blk_simp
  rw [after0_7, h_out]
  have ht : t.val < 32 := t.isLt
  obtain ⟨-, -, -, -, -, -, -, ⟨e0, e1⟩, -⟩ := idx t
  idx_vars j
  refine (hS_at (hA t).reads j0 j1).trans ?_
  refine (Cert.Reference5Ideal.Point.hR (⟨t.val * 256 + j0.val, by omega⟩ : Fin 8192) j1).symm.trans (congrArg _ ?_)
  blk_ext
  all_goals first | (rw [e0]) | (rw [e1]; omega)

theorem up_array : (dats m 0 c).arrAt 8 cfg0.N = val_main_v102 (F := Ideal) x0 x1 x2 := by
  refine (dats m 0 c).arrAt_eq_of_covers 8 _ (by decide +kernel) fun t hf j => ?_
  blk_simp
  rw [after0_8]
  have ht : t.val < 32 := t.isLt
  obtain ⟨-, -, -, -, -, -, -, -, ⟨e0, e1, e2⟩, -⟩ := idx t
  idx_vars j
  refine (up_out m c t j0 j1 j2).trans ((uS_at (hA t).reads j1 j0 j2).trans ?_)
  refine (Cert.Reference5Ideal.Point.upR j0 (⟨t.val * 256 + j1.val, by omega⟩ : Fin 8192) j2).symm.trans (congrArg _ ?_)
  blk_ext
  all_goals first | (rw [e0]; omega) | (rw [e1]) | (rw [e2]; omega)

theorem act_array : (dats m 0 c).arrAt 10 cfg0.N = val_main_v109 (F := Ideal) x0 x1 x2 x3 := by
  refine (dats m 0 c).arrAt_eq_of_covers 10 _ (by decide +kernel) fun t hf j => ?_
  blk_simp
  rw [after0_10]
  have ht : t.val < 32 := t.isLt
  obtain ⟨-, -, -, -, -, -, -, -, -, -, ⟨e0, e1, e2⟩, -⟩ := idx t
  idx_vars j
  refine (act_out m c t j0 j1 j2).trans ((actS_at (hA t).reads j1 (carried hA t) j0 j2).trans ?_)
  refine (Cert.Reference5Ideal.Point.actR j0 (⟨t.val * 256 + j1.val, by omega⟩ : Fin 8192) j2).symm.trans (congrArg _ ?_)
  blk_ext
  all_goals first | (rw [e0]; omega) | (rw [e1]) | (rw [e2]; omega)

variable (h : RefAt x0 x1 x2 x3 x4 x5 x6 Y T gr)
include h

theorem fac_array : (dats m 0 c).arrAt 9 cfg0.N = val_main_v106 (F := Ideal) x0 x1 x2 x3 := by
  refine (dats m 0 c).arrAt_eq_of_covers 9 _ (by decide +kernel) fun t hf j => ?_
  blk_simp
  rw [after0_9]
  have ht : t.val < 32 := t.isLt
  obtain ⟨-, -, -, -, -, -, -, -, -, ⟨e0, e1, e2⟩, -⟩ := idx t
  idx_vars j
  refine (fac_out m c t j0 j1 j2).trans ((facS_at (hA t).reads j1 (carried hA t) h.gate h.val j0 j2).trans ?_)
  refine (Cert.Reference5Ideal.Point.facR j0 (⟨t.val * 256 + j1.val, by omega⟩ : Fin 8192) j2).symm.trans (congrArg _ ?_)
  blk_ext
  all_goals first | (rw [e0]; omega) | (rw [e1]) | (rw [e2]; omega)

/-! ## The head's gradients and the loss -/

theorem dx_array : (dats m 0 c).arrAt 11 cfg0.N = val_main_v110 (F := Ideal) x0 x1 x2 x3 x4 x5 x6 := by
  refine (dats m 0 c).arrAt_eq_of_covers 11 _ (by decide +kernel) fun t hf j => ?_
  blk_simp
  rw [after0_11]
  have ht : t.val < 32 := t.isLt
  obtain ⟨-, -, -, -, -, -, -, -, -, -, -, ⟨e0, e1⟩, -⟩ := idx t
  idx_vars j
  refine (dx_at_point hA t j0 h j1).trans ?_
  refine (h.dxR (⟨t.val * 256 + j0.val, by omega⟩ : Fin 8192) j1).symm.trans (congrArg _ ?_)
  blk_ext
  all_goals first | (rw [e0]) | (rw [e1]; omega)

theorem dg_at (r : Fin 8) (q : Fin 1024) (n : ℕ) (hn : n < cfg0.N) : ((outsAt0 m c n hn).2.2.2.2.2.1 : FVec Ideal S8x1024 .f32) (ix2 r q)
    = ((∑ i ∈ Finset.range (n + 1), dgAdd Y T gr (i * 256) r q : ℝ) : EReal) := by
  refine grow (fun n hn => ((outsAt0 m c n hn).2.2.2.2.2.1 : FVec Ideal S8x1024 .f32) (ix2 r q)) (fun i => dgAdd Y T gr (i * 256) r q) (fun hn => ?_) (fun n hn => ?_) n hn
  · refine (dg_step hA ⟨0, hn⟩ h r q).trans ?_
    have e : beforeG m c ⟨0, hn⟩ (ix2 r q) = 0 := by
      unfold beforeG
      rw [dif_pos (Nat.zero_mod 32)]
      pointwise [k0_pay3]
    rw [e, zero_add]
    rfl
  · have hN : n + 1 < 32 := hn
    refine (dg_step hA ⟨n + 1, hn⟩ h r q).trans ?_
    unfold beforeG
    rw [dif_neg (show ¬ (n + 1) % 32 = 0 by omega)]
    rfl

theorem loss_at (a : Fin 8) (l : Fin 128) (n : ℕ) (hn : n < cfg0.N) : ((outsAt0 m c n hn).2.2.2.2.2.2.1 : FVec Ideal S8x128 .f32) (ix2 a l)
    = ((∑ i ∈ Finset.range (n + 1), lossAdd Y T gr (i * 256) : ℝ) : EReal) := by
  refine grow (fun n hn => ((outsAt0 m c n hn).2.2.2.2.2.2.1 : FVec Ideal S8x128 .f32) (ix2 a l)) (fun i => lossAdd Y T gr (i * 256)) (fun hn => ?_) (fun n hn => ?_) n hn
  · refine (loss_step hA ⟨0, hn⟩ h a l).trans ?_
    have e : beforeL m c ⟨0, hn⟩ (ix2 a l) = 0 := by
      unfold beforeL
      rw [dif_pos (Nat.zero_mod 32)]
      pointwise [k0_pay4]
    rw [e, zero_add]
    rfl
  · have hN : n + 1 < 32 := hn
    refine (loss_step hA ⟨n + 1, hn⟩ h a l).trans ?_
    unfold beforeL
    rw [dif_neg (show ¬ (n + 1) % 32 = 0 by omega)]
    rfl

theorem dg_array : (dats m 0 c).arrAt 12 cfg0.N = val_main_v112 (F := Ideal) x0 x1 x2 x3 x4 x5 x6 := by
  refine (dats m 0 c).arrAt_eq_of_covers 12 _ (by decide +kernel) fun t hf j => ?_
  have hl := (flush0_12 t).mp hf
  blk_simp
  rw [after0_12]
  have ht : t.val < 32 := t.isLt
  obtain ⟨-, -, -, -, -, -, -, -, -, -, -, -, ⟨e0, e1⟩, -⟩ := idx t
  idx_vars j
  refine (dg_at hA h j0 j1 t.val t.isLt).trans ?_
  rw [show t.val = 31 by omega, dg_total]
  refine (h.dgR j0 j1).symm.trans (congrArg _ ?_)
  blk_ext
  all_goals first | (rw [e0]; omega) | (rw [e1]; omega)

theorem loss_array : (dats m 0 c).arrAt 13 cfg0.N = val_main_v113 (F := Ideal) x0 x1 x2 x3 x4 x5 x6 := by
  refine (dats m 0 c).arrAt_eq_of_covers 13 _ (by decide +kernel) fun t hf j => ?_
  have hl := (flush0_13 t).mp hf
  blk_simp
  rw [after0_13]
  have ht : t.val < 32 := t.isLt
  obtain ⟨-, -, -, -, -, -, -, -, -, -, -, -, -, ⟨e0, e1⟩⟩ := idx t
  idx_vars j
  refine (loss_at hA h j0 j1 t.val t.isLt).trans ?_
  rw [show t.val = 31 by omega, loss_total]
  refine (h.lossR j0 j1).symm.trans (congrArg _ ?_)
  blk_ext
  all_goals first | (rw [e0]; omega) | (rw [e1]; omega)

end Cert.Kernel5Ideal.Point

end
-- ==== Proof.Pair5.lean ====
/-
  THE FIFTH PAIR: the last layer's feed-forward with the model's head (norm, projection, causal convolution, gated product and its
  factors, second projection, final norm, loss and the gradients through them) against the forward lines, `jax.vjp` of the gated product
  and `jax.value_and_grad` of the loss. The precondition makes the seven arguments real.
-/
module

public import proofs.«01_k».proof.Defs
public import proofs.«01_k».proof.Proof.Gen.Pre_finite5
public import proofs.«01_k».proof.Proof.Gen.Kernel5Ideal.Value
public import proofs.«01_k».proof.Proof.HeadValue
public import proofs.«01_k».proof.Proof.Finite
public import Idealize.ShloMosaic.Lib.Claim

@[expose] public section

set_option maxRecDepth 16384

noncomputable section

open Idealize.ShloMosaic Idealize.ShloMosaic.TcCoe Idealize.SL.Sem

namespace Cert.Pair5

open Cert.Reals Cert.Kernel5Ideal

variable {x0 : FVec Ideal S4x2048x1024 .f32} {x1 : FVec Ideal S1024 .f32} {x2 : FVec Ideal S1024x5632 .f32} {x3 : FVec Ideal S3x5632 .f32}
  {x4 : FVec Ideal S2816x1024 .f32} {x5 : FVec Ideal S1024 .f32} {x6 : FVec Ideal S4x2048x1024 .f32}

/-- The precondition: the seven arguments are real, and so are the forward's values. -/
theorem reals (h : Cert.Pre_finite5.fn (F := Ideal) x0 x1 x2 x3 x4 x5 x6 = fun _ => 1#1) :
    ∃ Y T gr, Cert.Reference5Ideal.Point.RefAt x0 x1 x2 x3 x4 x5 x6 Y T gr := by
  have h0 := congrFun h ix0
  unfold Cert.Pre_finite5.fn at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact Cert.Reference5Ideal.Point.refAt (isR_of_finite (finite_of_all x0 _ _ _ _ e0)) (isR_of_finite (finite_of_all x1 _ _ _ _ e1)) (isR_of_finite (finite_of_all x2 _ _ _ _ e2))
    (isR_of_finite (finite_of_all x3 _ _ _ _ e3)) (isR_of_finite (finite_of_all x4 _ _ _ _ e4)) (isR_of_finite (finite_of_all x5 _ _ _ _ e5)) (isR_of_finite (finite_of_all x6 _ _ _ _ e6))

/-- What an array holds at the start is what the memory holds. -/
theorem initial (m : (ℓ : Loc Cert.Reference5Ideal.nD Cert.Reference5Ideal.τ Cert.Reference5Ideal.sig) → Buf (Elt Ideal) ℓ) (c : Dev Cert.Reference5Ideal.nD) (r : Ref Cert.Reference5Ideal.sig .tc) :
    StableHlo.launchContents m c (Proc.tc.devRef r) = m ((c.tc : Thread Cert.Reference5Ideal.nD Cert.Reference5Ideal.τ).loc r) := rfl

/-- For real inputs the kernel's seven results are the reference's. -/
theorem algebraic : Cert.algebraic_Kernel5Ideal_Reference5Ideal_pre_finite5 := by
  pair_intro
  · run_from Cert.Kernel5Ideal.Value.run_blocks m g
  · have hA := fun c t => Cert.Kernel5Ideal.Point.at_point m c t
    run_from Cert.Reference5Ideal.Value.run m' g'
    · obtain ⟨e0, e1, e2, e3, e4, e5, e6⟩ := hagree c
      have e := Cert.Reference5Ideal.Read.val_main_v99_eq (F := Ideal) (StableHlo.launchContents m' c)
      simp only [initial m' c, e0, e1] at e
      exact e.trans (Cert.Kernel5Ideal.Point.h_array (hA c)).symm
    · obtain ⟨e0, e1, e2, e3, e4, e5, e6⟩ := hagree c
      have e := Cert.Reference5Ideal.Read.val_main_v102_eq (F := Ideal) (StableHlo.launchContents m' c)
      simp only [initial m' c, e0, e1, e2] at e
      exact e.trans (Cert.Kernel5Ideal.Point.up_array (hA c)).symm
    · obtain ⟨Y, T, gr, h⟩ := reals (hpre c)
      obtain ⟨e0, e1, e2, e3, e4, e5, e6⟩ := hagree c
      have e := Cert.Reference5Ideal.Read.val_main_v106_eq (F := Ideal) (StableHlo.launchContents m' c)
      simp only [initial m' c, e0, e1, e2, e3] at e
      exact e.trans (Cert.Kernel5Ideal.Point.fac_array (hA c) h).symm
    · obtain ⟨e0, e1, e2, e3, e4, e5, e6⟩ := hagree c
      have e := Cert.Reference5Ideal.Read.val_main_v109_eq (F := Ideal) (StableHlo.launchContents m' c)
      simp only [initial m' c, e0, e1, e2, e3] at e
      exact e.trans (Cert.Kernel5Ideal.Point.act_array (hA c)).symm
    · obtain ⟨Y, T, gr, h⟩ := reals (hpre c)
      obtain ⟨e0, e1, e2, e3, e4, e5, e6⟩ := hagree c
      have e := Cert.Reference5Ideal.Read.val_main_v110_eq (F := Ideal) (StableHlo.launchContents m' c)
      simp only [initial m' c, e0, e1, e2, e3, e4, e5, e6] at e
      exact e.trans (Cert.Kernel5Ideal.Point.dx_array (hA c) h).symm
    · obtain ⟨Y, T, gr, h⟩ := reals (hpre c)
      obtain ⟨e0, e1, e2, e3, e4, e5, e6⟩ := hagree c
      have e := Cert.Reference5Ideal.Read.val_main_v112_eq (F := Ideal) (StableHlo.launchContents m' c)
      simp only [initial m' c, e0, e1, e2, e3, e4, e5, e6] at e
      exact e.trans (Cert.Kernel5Ideal.Point.dg_array (hA c) h).symm
    · obtain ⟨Y, T, gr, h⟩ := reals (hpre c)
      obtain ⟨e0, e1, e2, e3, e4, e5, e6⟩ := hagree c
      have e := Cert.Reference5Ideal.Read.val_main_v113_eq (F := Ideal) (StableHlo.launchContents m' c)
      simp only [initial m' c, e0, e1, e2, e3, e4, e5, e6] at e
      exact e.trans (Cert.Kernel5Ideal.Point.loss_array (hA c) h).symm

end Cert.Pair5

end
-- ==== Proof.MfwTiles.lean ====
/-
  THE MIXER'S FORWARD, PIECE BY PIECE. The body writes the projection out in four pieces of 1792 columns and reads it back in seven parts
  of 1024 columns; it writes the mixing inside the chunks in sixteen 128×128 tiles and reads it back whole. One lemma for a piece, one
  for a tile, one for each way of reading back.
-/
module

public import proofs.«01_k».proof.Proof.Gen.Kernel6Ideal.Value
public import proofs.«01_k».proof.Proof.FuseTiles

@[expose] public section

set_option maxRecDepth 16384

noncomputable section

open Idealize.ShloMosaic Idealize.ShloMosaic.TcCoe Idealize.SL.Sem

namespace Cert.Kernel6Ideal.Point

open Cert.Kernel6Ideal Cert.Kernel6Ideal.Gen Cert.Mix
open Cert.Kernel2Ideal.Point (ld_group)
open Cert.Kernel3Ideal.Point (slice_at readCov_scr)

/-- The rows times the projection's weights, which are cut in eight shards of 896 columns. -/
def proj (h : FVec Ideal S256x1024 .bf16) (W : FVec Ideal S8x1024x896 .bf16) : FVec Ideal S256x7168 .f32 := fun y =>
  ∑ k : Fin 1024, (h (ix2 (⟨(y 0).val, (y 0).isLt⟩ : Fin 256) k) : EReal)
    * W (ix3 (⟨(y 1).val / 896, by have : (y 1).val < 7168 := (y 1).isLt; omega⟩ : Fin 8) k (⟨(y 1).val % 896, Nat.mod_lt _ (by decide)⟩ : Fin 896))

/-- The 1024 columns from `cc` on. -/
def part (P : FVec Ideal S256x7168 .f32) (cc : ℕ) : FVec Ideal S256x1024 .f32 := fun y =>
  P (ix2 (⟨(y 0).val, (y 0).isLt⟩ : Fin 256) (⟨(cc + (y 1).val) % 7168, Nat.mod_lt _ (by decide)⟩ : Fin 7168))

/-- One shard of the weights. -/
abbrev shard (W : FVec Ideal S8x1024x896 .bf16) (j : ℕ) (inb : ∀ a, (![j, 0, 0] : Fin 3 → Nat) a + (![1, 1024, 896] : Fin 3 → Nat) a ≤ S8x1024x896.size a) : FVec Ideal S1x1024x896 .bf16 :=
  View.ld (Val := Elt Ideal) (e' := .bf16) W (Rect.unit (s := S8x1024x896) ![j, 0, 0] ![1, 1024, 896] inb)

theorem ld_shard (W : FVec Ideal S8x1024x896 .bf16) (j : ℕ) (inb) (hj : j < 8) (k : Fin 1024) (l : Fin 896) : shard W j inb (ix3 0 k l)
      = W (ix3 (⟨j, hj⟩ : Fin 8) k l) := by
  refine congrArg W (funext fun b => Fin.ext ?_)
  rcases b with ⟨_ | _ | _ | b, hb⟩
  · show j + 1 * 0 = j
    omega
  · show 0 + 1 * k.val = k.val
    omega
  · show 0 + 1 * l.val = l.val
    omega
  · exact absurd hb (by simp)

/-- One piece of the projection. -/
theorem proj_core (h : FVec Ideal S256x1024 .bf16) (W : FVec Ideal S8x1024x896 .bf16) (V0 V1 : FVec Ideal S1x1024x896 .bf16) (j j' cc : ℕ) (y : S256x7168.Idx) (z : S256x1792.Idx) (hj : j < 8) (hj' : j' < 8)
    (hV0 : ∀ k l, V0 (ix3 0 k l) = W (ix3 (⟨j, hj⟩ : Fin 8) k l)) (hV1 : ∀ k l, V1 (ix3 0 k l) = W (ix3 (⟨j', hj'⟩ : Fin 8) k l))
    (h0 : (y 0).val = (z 0).val) (h1 : (y 1).val = cc + (z 1).val) (e : j' = j + 1) (hc : cc = 896 * j) : (k0_pay7 h V0 V1 : FVec Ideal S256x1792 .f32) z = proj h W y := by
  have hz1 : (z 1).val < 1792 := (z 1).isLt
  unfold proj
  pointwise [k0_pay7]
  refine Finset.sum_congr rfl fun k _ => congrArg₂ (fun u v : EReal => u * v) (congrArg h (congrArg₂ ix2 (Fin.ext h0.symm) rfl)) ?_
  by_cases hlt : (z 1).val < 896
  · rw [dif_pos hlt, hV0]
    exact congrArg W (congrArg₂ (fun (a : Fin 8) b => ix3 a k b) (Fin.ext (by show j = (y 1).val / 896; omega)) (Fin.ext (by show (z 1).val = (y 1).val % 896; omega)))
  · rw [dif_neg hlt, hV1]
    exact congrArg W (congrArg₂ (fun (a : Fin 8) b => ix3 a k b) (Fin.ext (by show j' = (y 1).val / 896; omega)) (Fin.ext (by show (z 1).val - 896 = (y 1).val % 896; omega)))

/-- The four pieces, in the order the body stores them. -/
abbrev pieces (h : FVec Ideal S256x1024 .bf16) (W : FVec Ideal S8x1024x896 .bf16) : List (View.Piece (Elt Ideal) S256x7168 .f32) :=
  [⟨Rect.unit ![0, 5376] ![256, 1792] inb_S256x7168_S256x1792_0_5376, k0_pay11 h (k0_pay10 (shard W 6 inb_S8x1024x896_S1x1024x896_6_0_0)) (shard W 7 inb_S8x1024x896_S1x1024x896_7_0_0)⟩,
    ⟨Rect.unit ![0, 3584] ![256, 1792] inb_S256x7168_S256x1792_0_3584, k0_pay9 h (shard W 4 inb_S8x1024x896_S1x1024x896_4_0_0) (shard W 5 inb_S8x1024x896_S1x1024x896_5_0_0)⟩,
    ⟨Rect.unit ![0, 1792] ![256, 1792] inb_S256x7168_S256x1792_0_1792, k0_pay8 h (shard W 2 inb_S8x1024x896_S1x1024x896_2_0_0) (shard W 3 inb_S8x1024x896_S1x1024x896_3_0_0)⟩,
    ⟨Rect.unit ![0, 0] ![256, 1792] inb_S256x7168_S256x1792_0_0, k0_pay7 h (shard W 0 inb_S8x1024x896_S1x1024x896_0_0_0) (shard W 1 inb_S8x1024x896_S1x1024x896_1_0_0)⟩]

theorem canon_proj (h : FVec Ideal S256x1024 .bf16) (W : FVec Ideal S8x1024x896 .bf16) (y : S256x7168.Idx) : View.canon (pieces h W) y = proj h W y := by
  unfold pieces
  canon_tiles y e
  · exact proj_core h W _ _ 6 7 _ _ _ (by decide) (by decide) (ld_shard W 6 _ (by decide)) (ld_shard W 7 _ (by decide)) (by omega) (by omega) rfl rfl
  · exact proj_core h W _ _ 4 5 _ _ _ (by decide) (by decide) (ld_shard W 4 _ (by decide)) (ld_shard W 5 _ (by decide)) (by omega) (by omega) rfl rfl
  · exact proj_core h W _ _ 2 3 _ _ _ (by decide) (by decide) (ld_shard W 2 _ (by decide)) (ld_shard W 3 _ (by decide)) (by omega) (by omega) rfl rfl
  · exact proj_core h W _ _ 0 1 0 _ _ (by decide) (by decide) (ld_shard W 0 _ (by decide)) (ld_shard W 1 _ (by decide)) (by omega) (by omega) rfl rfl

/-- The columns read back after the four stores. -/
theorem read_proj {sig : RefSig} (v : View sig .tc .vmem S256x7168 .f32) (h : FVec Ideal S256x1024 .bf16) (W : FVec Ideal S8x1024x896 .bf16) (cc : ℕ)
    (inb : ∀ a, (![0, cc] : Fin 2 → Nat) a + (![256, 1024] : Fin 2 → Nat) a ≤ S256x7168.size a) :
    v.readCov (pieces h W) (Rect.unit (s := S256x7168) ![0, cc] ![256, 1024] inb).toLoadRect = part (proj h W) cc := by
  have hcc : cc + 1024 ≤ 7168 := inb 1
  rw [View.readCov_eq_canon']
  funext j
  have hj : (j 1).val < 1024 := (j 1).isLt
  rw [canon_proj]
  refine congrArg (proj h W) (funext fun a => Fin.ext ?_)
  rcases a with ⟨_ | _ | a, ha⟩
  · show 0 + 1 * (j 0).val = (j 0).val
    omega
  · show cc + 1 * (j 1).val = (cc + (j 1).val) % 7168
    omega
  · exact absurd ha (by simp)

/-- The mixing on one block: chunk by chunk, group by group, over the weights on and below the diagonal, and the bias. -/
def mixed (W : FVec Ideal S8x128x128 .f32) (N : FVec Ideal S256x1024 .bf16) (B : FVec Ideal S128x1024 .f32) : FVec Ideal S256x1024 .f32 := fun y =>
  (∑ t : Fin 128, Scalar.select (IntOp.cmpi .sge (BitVec.ofNat 32 ((y 0).val % 128)) (BitVec.ofNat 32 t.val))
    ((W (ix3 (⟨(y 1).val / 128, by have := (y 1).isLt; simp at this; omega⟩ : Fin 8) (⟨(y 0).val % 128, by omega⟩ : Fin 128) t) : EReal)
      * N (ix2 (⟨(y 0).val / 128 * 128 + t.val, by have := (y 0).isLt; simp at this; omega⟩ : Fin 256) (⟨(y 1).val, (y 1).isLt⟩ : Fin 1024))) (0 : EReal))
  + B (ix2 (⟨(y 0).val % 128, by omega⟩ : Fin 128) (⟨(y 1).val, (y 1).isLt⟩ : Fin 1024))

/-- One tile: the product of a group's masked weights with a 128×128 part of the block, and the bias. -/
theorem mixed_core (W : FVec Ideal S8x128x128 .f32) (N : FVec Ideal S256x1024 .bf16) (B : FVec Ideal S128x1024 .f32) (V : FVec Ideal S1x128x128 .f32) (C : FVec Ideal S128x128 .f32) (y : S256x1024.Idx) (z : S128x128.Idx) (r cc g : ℕ)
    (hs : S256x1024.Slices ![r, cc] S128x128) (hg : g < 8) (hV : ∀ a b, V (ix3 0 a b) = W (ix3 (⟨g % 8, Nat.mod_lt _ (by decide)⟩ : Fin 8) a b))
    (hC : ∀ a b : Fin 128, C (ix2 a b) = B (ix2 a (⟨(cc + b.val) % 1024, Nat.mod_lt _ (by decide)⟩ : Fin 1024)))
    (h0 : (y 0).val = r + (z 0).val) (h1 : (y 1).val = cc + (z 1).val) (hr : r % 128 = 0) (hc : cc = 128 * g) :
    shapeCast S128x128 (addf (F := Ideal) (matmul (F := Ideal) dot_S128x128_S128x128_S128x128_1_0_0_1_n_n none
      (k0_pay24 k0_pay23 V) (extractStridedSlice S128x128 ![r, cc] N hs)
      (constant S128x128 .f32 0x00000000#32)) (shapeCast S128x128 C shapeCasts_S128x128_S128x128)) shapeCasts_S128x128_S128x128 z = mixed W N B y := by
  have hz0 : (z 0).val < 128 := (z 0).isLt
  have hz1 : (z 1).val < 128 := (z 1).isLt
  have hy0 : (y 0).val < 256 := (y 0).isLt
  have hy1 : (y 1).val < 1024 := (y 1).isLt
  have hX := slice_at N r cc hs (by omega) (by omega)
  generalize extractStridedSlice S128x128 ![r, cc] N hs = X at hX ⊢
  unfold mixed
  pointwise [k0_pay24, k0_pay23]
  have ez : z = (ix2 (z 0) (z 1) : S128x128.Idx) := funext fun a => by fin_cases a <;> rfl
  have e0 : (z 0).val = (y 0).val % 128 := by omega
  have e1 : (cc + (z 1).val) % 1024 = (y 1).val := by omega
  refine congrArg₂ (fun u v : EReal => u + v) (Finset.sum_congr rfl fun x _ => ?_)
    ((congrArg C ez).trans ((hC _ _).trans (congrArg B (congrArg₂ ix2 (Fin.ext e0) (Fin.ext e1)))))
  have hx := x.isLt
  refine congrArg₂ (fun (u : ℕ) (v : EReal) => Scalar.select (IntOp.cmpi .sge (BitVec.ofNat 32 u) (BitVec.ofNat 32 x.val)) v (0 : EReal))
    e0 (congrArg₂ (fun u v : EReal => u * v) ((hV (z 0) x).trans (congrArg W ?_)) ((hX _).trans (congrArg N ?_)))
  · exact congrArg₂ (fun g a => ix3 g a x) (Fin.ext (by show g % 8 = (y 1).val / 128; omega)) (Fin.ext e0)
  · exact congrArg₂ ix2 (Fin.ext (by show (r + x.val) % 256 = (y 0).val / 128 * 128 + x.val; omega)) (Fin.ext e1)

/-- A group's columns of the bias, read. -/
theorem ld_bias (B : FVec Ideal S128x1024 .f32) (cc : ℕ) (inb : _) (hc : cc ≤ 896) (a b : Fin 128) :
    (View.ld (Val := Elt Ideal) (e' := .f32) B (Rect.unit (s := S128x1024) ![0, cc] ![128, 128] inb) : FVec Ideal S128x128 .f32) (ix2 a b)
      = B (ix2 a (⟨(cc + b.val) % 1024, Nat.mod_lt _ (by decide)⟩ : Fin 1024)) := by
  refine congrArg B (funext fun d => Fin.ext ?_)
  rcases d with ⟨_ | _ | d, hd⟩
  · show 0 + 1 * a.val = a.val
    omega
  · show cc + 1 * b.val = (cc + b.val) % 1024
    omega
  · exact absurd hd (by simp)

/-- A group's weights, and a group's columns of the bias. -/
abbrev grpW (W : FVec Ideal S8x128x128 .f32) (g : ℕ) (inb : ∀ a, (![g, 0, 0] : Fin 3 → Nat) a + (![1, 128, 128] : Fin 3 → Nat) a ≤ S8x128x128.size a) : FVec Ideal S1x128x128 .f32 :=
  View.ld (Val := Elt Ideal) (e' := .f32) W (Rect.unit (s := S8x128x128) ![g, 0, 0] ![1, 128, 128] inb)
abbrev grpB (B : FVec Ideal S128x1024 .f32) (cc : ℕ) (inb : ∀ a, (![0, cc] : Fin 2 → Nat) a + (![128, 128] : Fin 2 → Nat) a ≤ S128x1024.size a) : FVec Ideal S128x128 .f32 :=
  View.ld (Val := Elt Ideal) (e' := .f32) B (Rect.unit (s := S128x1024) ![0, cc] ![128, 128] inb)

variable (N : FVec Ideal S256x1024 .bf16) (W : FVec Ideal S8x128x128 .f32) (B : FVec Ideal S128x1024 .f32)

/-- The sixteen tiles, in the order the body stores them. -/
abbrev tiles : List (View.Piece (Elt Ideal) S256x1024 .f32) :=
  [⟨Rect.unit ![128, 896] ![128, 128] inb_S256x1024_S128x128_128_896, k0_pay49 N k0_pay23 (grpW W 7 inb_S8x128x128_S1x128x128_7_0_0) (grpB B 896 inb_S128x1024_S128x128_0_896)⟩,
    ⟨Rect.unit ![0, 896] ![128, 128] inb_S256x1024_S128x128_0_896, k0_pay48 N k0_pay23 (grpW W 7 inb_S8x128x128_S1x128x128_7_0_0) (grpB B 896 inb_S128x1024_S128x128_0_896)⟩,
    ⟨Rect.unit ![128, 768] ![128, 128] inb_S256x1024_S128x128_128_768, k0_pay46 N (k0_pay43 k0_pay23 (grpW W 6 inb_S8x128x128_S1x128x128_6_0_0)) (grpB B 768 inb_S128x1024_S128x128_0_768)⟩,
    ⟨Rect.unit ![0, 768] ![128, 128] inb_S256x1024_S128x128_0_768, k0_pay45 (k0_pay44 N k0_pay23 (grpW W 6 inb_S8x128x128_S1x128x128_6_0_0) (grpB B 768 inb_S128x1024_S128x128_0_768))⟩,
    ⟨Rect.unit ![128, 640] ![128, 128] inb_S256x1024_S128x128_128_640, k0_pay42 N k0_pay23 (grpW W 5 inb_S8x128x128_S1x128x128_5_0_0) (grpB B 640 inb_S128x1024_S128x128_0_640)⟩,
    ⟨Rect.unit ![0, 640] ![128, 128] inb_S256x1024_S128x128_0_640, k0_pay41 N k0_pay23 (grpW W 5 inb_S8x128x128_S1x128x128_5_0_0) (grpB B 640 inb_S128x1024_S128x128_0_640)⟩,
    ⟨Rect.unit ![128, 512] ![128, 128] inb_S256x1024_S128x128_128_512, k0_pay39 (k0_pay38 N k0_pay23 (grpW W 4 inb_S8x128x128_S1x128x128_4_0_0) (grpB B 512 inb_S128x1024_S128x128_0_512))⟩,
    ⟨Rect.unit ![0, 512] ![128, 128] inb_S256x1024_S128x128_0_512, k0_pay37 N k0_pay23 (grpW W 4 inb_S8x128x128_S1x128x128_4_0_0) (grpB B 512 inb_S128x1024_S128x128_0_512)⟩,
    ⟨Rect.unit ![128, 384] ![128, 128] inb_S256x1024_S128x128_128_384, k0_pay35 N (k0_pay33 k0_pay23 (grpW W 3 inb_S8x128x128_S1x128x128_3_0_0)) (grpB B 384 inb_S128x1024_S128x128_0_384)⟩,
    ⟨Rect.unit ![0, 384] ![128, 128] inb_S256x1024_S128x128_0_384, k0_pay34 N (k0_pay33 k0_pay23 (grpW W 3 inb_S8x128x128_S1x128x128_3_0_0)) (grpB B 384 inb_S128x1024_S128x128_0_384)⟩,
    ⟨Rect.unit ![128, 256] ![128, 128] inb_S256x1024_S128x128_128_256, k0_pay32 N k0_pay23 (grpW W 2 inb_S8x128x128_S1x128x128_2_0_0) (grpB B 256 inb_S128x1024_S128x128_0_256)⟩,
    ⟨Rect.unit ![0, 256] ![128, 128] inb_S256x1024_S128x128_0_256, k0_pay31 N k0_pay23 (grpW W 2 inb_S8x128x128_S1x128x128_2_0_0) (grpB B 256 inb_S128x1024_S128x128_0_256)⟩,
    ⟨Rect.unit ![128, 128] ![128, 128] inb_S256x1024_S128x128_128_128, k0_pay29 N (k0_pay27 k0_pay23 (grpW W 1 inb_S8x128x128_S1x128x128_1_0_0)) (grpB B 128 inb_S128x1024_S128x128_0_128)⟩,
    ⟨Rect.unit ![0, 128] ![128, 128] inb_S256x1024_S128x128_0_128, k0_pay28 N k0_pay23 (grpW W 1 inb_S8x128x128_S1x128x128_1_0_0) (grpB B 128 inb_S128x1024_S128x128_0_128)⟩,
    ⟨Rect.unit ![128, 0] ![128, 128] inb_S256x1024_S128x128_128_0, k0_pay26 N k0_pay23 (grpW W 0 inb_S8x128x128_S1x128x128_0_0_0) (grpB B 0 inb_S128x1024_S128x128_0_0)⟩,
    ⟨Rect.unit ![0, 0] ![128, 128] inb_S256x1024_S128x128_0_0, k0_pay25 N k0_pay23 (grpW W 0 inb_S8x128x128_S1x128x128_0_0_0) (grpB B 0 inb_S128x1024_S128x128_0_0)⟩]

theorem canon_mixed (y : S256x1024.Idx) : View.canon (tiles N W B) y = mixed W N B y := by
  unfold tiles
  canon_tiles y e
  all_goals exact mixed_core W N B _ _ _ _ _ _ _ _ (by decide) (ld_group _ _ _ (by decide)) (ld_bias _ _ _ (by decide)) (by omega) (by omega) rfl rfl

/-- The mixing read back after the sixteen stores. -/
theorem read_mixed {sig : RefSig} (v : View sig .tc .vmem S256x1024 .f32) (inb) : v.readCov (tiles N W B) (Rect.unit ![0, 0] ![256, 1024] inb).toLoadRect = mixed W N B :=
  readCov_scr v inb _ _ (canon_mixed N W B)

end Cert.Kernel6Ideal.Point

end
-- ==== Proof.MfwOuts.lean ====
/-
  WHAT ONE GRID POINT OF THE MIXER'S FORWARD LEAVES: the normed rows, the merged rows, the stream after the mixer, the ten arrays kept
  for the backward, and the rows carried to the next point.
-/
module

public import proofs.«01_k».proof.Proof.MfwTiles

@[expose] public section

set_option maxRecDepth 16384

noncomputable section

open Idealize.ShloMosaic Idealize.ShloMosaic.TcCoe Idealize.SL.Sem

namespace Cert.Kernel6Ideal.Point

open Cert.Kernel6Ideal Cert.Kernel6Ideal.Gen

variable (m : (ℓ : Loc nD τ sig) → Buf (Elt Ideal) ℓ) (c : Dev nD)

/-! ## The point's own expressions -/

abbrev keep (t : Fin cfg0.N) : EReal := k0_pay4 (F := Ideal) (grid0.coords t)
/-- The normed rows, and the 1024 columns from `cc` on of their projection. -/
abbrev hS (t : Fin cfg0.N) : FVec Ideal S256x1024 .bf16 := k0_pay6 (iblk m c 0 t) (iblk m c 1 t)
abbrev pS (t : Fin cfg0.N) (cc : ℕ) : FVec Ideal S256x1024 .f32 := part (proj (hS m c t) (iblk m c 2 t)) cc
/-- The convolution's argument, and the convolution, the rows before the block from `C`. -/
abbrev cxS (t : Fin cfg0.N) : FVec Ideal S256x1024 .f32 := k0_pay17 (pS m c t 1024) (pS m c t 2048)
abbrev cvS (t : Fin cfg0.N) (C : FVec Ideal S8x1024 .f32) : FVec Ideal S256x1024 .f32 :=
  k0_pay21 (k0_pay12 (iblk m c 4 t)) (cxS m c t) (k0_pay18 (keep t) C) (k0_pay19 (pS m c t 1024) (pS m c t 2048)) (k0_pay20 (keep t) C)
/-- The normalised rows, and the mixing inside the chunks. -/
abbrev vnS (t : Fin cfg0.N) : FVec Ideal S256x1024 .bf16 := k0_pay22 (k0_pay13 (iblk m c 5 t)) (k0_pay14 (iblk m c 6 t)) (pS m c t 4096)
abbrev mxS (t : Fin cfg0.N) : FVec Ideal S256x1024 .f32 := mixed (iblk m c 7 t) (vnS m c t) (iblk m c 8 t)
/-- The two gates, and the merged rows. -/
abbrev saS (t : Fin cfg0.N) : FVec Ideal S256x1024 .f32 := k0_pay15 (pS m c t 5120)
abbrev sbS (t : Fin cfg0.N) : FVec Ideal S256x1024 .f32 := k0_pay16 (pS m c t 6144)
abbrev mgS (t : Fin cfg0.N) (C : FVec Ideal S8x1024 .f32) : FVec Ideal S256x1024 .f32 :=
  k0_pay51 (pS m c t 3072) (saS m c t) (sbS m c t) (mxS m c t) (k0_pay50 (pS m c t 0) (cvS m c t C))
/-- The ten arrays kept for the backward. -/
def keptS (t : Fin cfg0.N) (C : FVec Ideal S8x1024 .f32) : Fin 10 → FVec Ideal S256x1024 .bf16 :=
  ![k0_pay53 (pS m c t 0), k0_pay54 (pS m c t 1024), k0_pay55 (pS m c t 2048), k0_pay56 (pS m c t 3072), k0_pay57 (pS m c t 4096), k0_pay58 (cvS m c t C), k0_pay59 (mxS m c t), vnS m c t,
    k0_pay60 (saS m c t), k0_pay61 (sbS m c t)]

/-- The rows that the point before left. -/
def before (t : Fin cfg0.N) : FVec Ideal S8x1024 .f32 := if h : t.val % 32 = 0 then k0_pay3 else (outsAt0 m c (t.val - 1) (by omega)).2.2.2.2

/-! ## The outputs -/

theorem h_out (t : Fin cfg0.N) : ((outsAt0 m c t.val t.isLt).1 : FVec Ideal S256x1024 .bf16) = hS m c t := by
  by_cases h0 : t.val % 32 = 0
  · rw [outsAt0_A m c t h0]
    frame_out
  · rw [outsAt0_B m c t h0]
    frame_out

theorem carry_out (t : Fin cfg0.N) : ((outsAt0 m c t.val t.isLt).2.2.2.2 : FVec Ideal S8x1024 .f32) = k0_pay52 (cxS m c t) := by
  by_cases h0 : t.val % 32 = 0
  · rw [outsAt0_A m c t h0]
    frame_out
    simp only [read_proj]
  · rw [outsAt0_B m c t h0]
    frame_out
    simp only [read_proj]

theorem merged_out (t : Fin cfg0.N) : ((outsAt0 m c t.val t.isLt).2.1 : FVec Ideal S256x1024 .bf16) = k0_pay1 (mgS m c t (before m c t)) := by
  unfold before
  by_cases h0 : t.val % 32 = 0
  · rw [dif_pos h0, outsAt0_A m c t h0]
    frame_out
    simp only [read_proj, read_mixed]
  · rw [dif_neg h0, outsAt0_B m c t h0]
    frame_out
    try simp only [read_unread_whole]
    simp only [read_proj, read_mixed]

theorem x1_out (t : Fin cfg0.N) : ((outsAt0 m c t.val t.isLt).2.2.1 : FVec Ideal S256x1024 .f32) = k0_pay2 (k0_pay5 (iblk m c 0 t)) (mgS m c t (before m c t)) (iblk m c 3 t) := by
  unfold before
  by_cases h0 : t.val % 32 = 0
  · rw [dif_pos h0, outsAt0_A m c t h0]
    frame_out
    simp only [read_proj, read_mixed]
  · rw [dif_neg h0, outsAt0_B m c t h0]
    frame_out
    try simp only [read_unread_whole]
    simp only [read_proj, read_mixed]

/-- Ten arrays side by side: one array's store. -/
theorem kept_core (T : Fin 10 → FVec Ideal S256x1024 .bf16) (j : Fin 10) (y : S256x10240.Idx) (z : S256x1024.Idx) (cc : ℕ) (h0 : (y 0).val = (z 0).val) (h1 : (y 1).val = cc + (z 1).val) (hc : cc = j.val * 1024) :
    T j z = T (⟨(y 1).val / 1024, by have : (y 1).val < 10240 := (y 1).isLt; omega⟩ : Fin 10) (ix2 (⟨(y 0).val, (y 0).isLt⟩ : Fin 256) (⟨(y 1).val % 1024, Nat.mod_lt _ (by decide)⟩ : Fin 1024)) := by
  have hz1 : (z 1).val < 1024 := (z 1).isLt
  refine congrArg₂ T (Fin.ext (by show j.val = (y 1).val / 1024; omega)) (funext fun a => Fin.ext ?_)
  rcases a with ⟨_ | _ | a, ha⟩
  · exact h0.symm
  · show (z 1).val = (y 1).val % 1024
    omega
  · exact absurd ha (by simp)

/-- The ten stores, the last one first. -/
abbrev stores (T : Fin 10 → FVec Ideal S256x1024 .bf16) : List (View.Piece (Elt Ideal) S256x10240 .bf16) :=
  [⟨Rect.unit ![0, 9216] ![256, 1024] inb_S256x10240_S256x1024_0_9216, T 9⟩,
    ⟨Rect.unit ![0, 8192] ![256, 1024] inb_S256x10240_S256x1024_0_8192, T 8⟩,
    ⟨Rect.unit ![0, 7168] ![256, 1024] inb_S256x10240_S256x1024_0_7168, T 7⟩,
    ⟨Rect.unit ![0, 6144] ![256, 1024] inb_S256x10240_S256x1024_0_6144, T 6⟩,
    ⟨Rect.unit ![0, 5120] ![256, 1024] inb_S256x10240_S256x1024_0_5120, T 5⟩,
    ⟨Rect.unit ![0, 4096] ![256, 1024] inb_S256x10240_S256x1024_0_4096, T 4⟩,
    ⟨Rect.unit ![0, 3072] ![256, 1024] inb_S256x10240_S256x1024_0_3072, T 3⟩,
    ⟨Rect.unit ![0, 2048] ![256, 1024] inb_S256x10240_S256x1024_0_2048, T 2⟩,
    ⟨Rect.unit ![0, 1024] ![256, 1024] inb_S256x10240_S256x1024_0_1024, T 1⟩,
    ⟨Rect.unit ![0, 0] ![256, 1024] inb_S256x10240_S256x1024_0_0, T 0⟩]

/-- Column `1024 j + q` of the ten stores is column `q` of the `j`-th array. -/
theorem canon_kept (T : Fin 10 → FVec Ideal S256x1024 .bf16) (y : S256x10240.Idx) : View.canon (stores T) y
    = T (⟨(y 1).val / 1024, by have : (y 1).val < 10240 := (y 1).isLt; omega⟩ : Fin 10) (ix2 (⟨(y 0).val, (y 0).isLt⟩ : Fin 256) (⟨(y 1).val % 1024, Nat.mod_lt _ (by decide)⟩ : Fin 1024)) := by
  unfold stores
  canon_tiles y e
  all_goals exact kept_core T _ _ y _ e0 (by omega) rfl

theorem kept_out (t : Fin cfg0.N) (y : S256x10240.Idx) : ((outsAt0 m c t.val t.isLt).2.2.2.1 : FVec Ideal S256x10240 .bf16) y
    = keptS m c t (before m c t) (⟨(y 1).val / 1024, by have : (y 1).val < 10240 := (y 1).isLt; omega⟩ : Fin 10) (ix2 (⟨(y 0).val, (y 0).isLt⟩ : Fin 256) (⟨(y 1).val % 1024, Nat.mod_lt _ (by decide)⟩ : Fin 1024)) := by
  unfold before
  by_cases h0 : t.val % 32 = 0
  · rw [dif_pos h0, outsAt0_A m c t h0]
    frame_out
    simp only [read_proj, read_mixed]
    exact canon_kept (keptS m c t k0_pay3) y
  · rw [dif_neg h0, outsAt0_B m c t h0]
    frame_out
    try simp only [read_unread_whole]
    simp only [read_proj, read_mixed]
    exact canon_kept (keptS m c t _) y

end Cert.Kernel6Ideal.Point

end
-- ==== Proof.MfwPay.lean ====
/-
  THE MIXER'S FORWARD, ROW BY ROW. What each piece of the body computes when its operands hold, row for row, the reference's values.
  Nothing here needs the values to be real: kernel and reference apply the same operations, and a sum may be taken in any order.
-/
module

public import proofs.«01_k».proof.Proof.MfwOuts
public import proofs.«01_k».proof.Proof.HeadPay
public import proofs.«01_k».proof.Proof.MixHost
public import proofs.«01_k».proof.Proof.Gen.Reference6Ideal.Read
public import Idealize.ShloMosaic.Lib.Pointwise

@[expose] public section

set_option maxRecDepth 16384

noncomputable section

open Idealize.ShloMosaic Idealize.ShloMosaic.TcCoe Idealize.SL.Sem

namespace Cert.Kernel6Ideal.Point

open Cert.Kernel6Ideal Cert.Kernel6Ideal.Gen Cert.Mix Cert.Head
open Cert.Kernel2Ideal.Point (r8 sel_one sel_zero)

section
variable {R : ℕ} (hR : R % 256 = 0) {z : EReal} {A B : FVec Ideal S256x1024 .f32} {C w : FVec Ideal S8x1024 .f32} {f : Fin 1024 → Row}
  (hu : ∀ (p : Fin 256) q, (k0_pay17 (F := Ideal) A B : FVec Ideal S256x1024 .f32) (ix2 p q) = f q (bb (R + p.val)) (ss (R + p.val))) (hn : ∀ r q, (C (ix2 r q) * z : EReal) = prv (f q) R r)
include hR hu hn

/-- The block through the causal convolution of width three. -/
theorem conv_at (p : Fin 256) (q : Fin 1024) : (k0_pay21 (k0_pay12 w) (k0_pay17 A B) (k0_pay18 z C) (k0_pay19 A B) (k0_pay20 z C) : FVec Ideal S256x1024 .f32) (ix2 p q)
    = down 2 (f q) (bb (R + p.val)) (ss (R + p.val)) * w (ix2 (r8 0) q) + down 1 (f q) (bb (R + p.val)) (ss (R + p.val)) * w (ix2 (r8 1) q)
      + f q (bb (R + p.val)) (ss (R + p.val)) * w (ix2 (r8 2) q) := by
  have hC : ∀ r q, (k0_pay18 z C : FVec Ideal S8x1024 .f32) (ix2 r q) = prv (f q) R r := fun r q => by
    refine Eq.trans ?_ (hn r q)
    pointwise [k0_pay18]
  unfold k0_pay19 k0_pay20
  generalize k0_pay17 (F := Ideal) A B = U at hu ⊢
  generalize k0_pay18 (F := Ideal) z C = D at hC ⊢
  pointwise [k0_pay21, k0_pay12]
  have h1 := shift_row hR (fun p => hu p q) (fun r => hC r q) 1 p
  have h2 := shift_row hR (fun p => hu p q) (fun r => hC r q) 2 p
  exact congrArg₂ (fun a b : EReal => a + b) (congrArg₂ (fun a b : EReal => a + b) (congrArg (fun a : EReal => a * _) h2) (congrArg (fun a : EReal => a * _) h1)) (congrArg (fun a : EReal => a * _) (hu p q))
end

theorem carry_at (U : FVec Ideal S256x1024 .f32) (r : Fin 8) (q : Fin 1024) : (k0_pay52 U : FVec Ideal S8x1024 .f32) (ix2 r q) = U (ix2 (⟨248 + r.val, by omega⟩ : Fin 256) q) := by
  pointwise [k0_pay52]

/-! ## Against the reference's values -/

open Cert.Reference6Ideal.Read

variable {x0 : FVec Ideal S4x2048x1024 .f32} {x1 : FVec Ideal S1024 .f32} {x2 : FVec Ideal S1024x7168 .f32} {x3 : FVec Ideal S3x1024 .f32} {x4 x5 : FVec Ideal S1024 .f32}
  {x6 : FVec Ideal S8x128x128 .f32} {x7 : FVec Ideal S8x128 .f32} {x8 : FVec Ideal S1024x1024 .f32}

/-- The normalised rows. -/
theorem norm_at {x : FVec Ideal S256x1024 .f32} {g : FVec Ideal S1x1024 .f32} {b : Fin 4} {s : Fin 2048} {p : Fin 256} (hx : ∀ k, x (ix2 p k) = x0 (ix3 b s k))
    (hg : ∀ k, g (ix2 0 k) = x1 (ix1 k)) (q : Fin 1024) : (k0_pay6 x g : FVec Ideal S256x1024 .bf16) (ix2 p q) = val_main_v12 (F := Ideal) x0 x1 (ix3 b s q) := by
  pointwise [k0_pay6, k0_pay5, val_main_v12, val_main_v11, val_main_v10, val_main_v9, val_main_v8, val_main_v7, val_main_v6, val_main_v5, val_main_v4, val_main_v3, val_main_v2, val_main_v1, val_main_v0, val_main_cst, val_main_cst_0, val_main_cst_1]
  simp only [hx, hg, zero_add]

/-- A part of the projection. -/
theorem part_at {h : FVec Ideal S256x1024 .bf16} {W : FVec Ideal S8x1024x896 .bf16} {b : Fin 4} {s : Fin 2048} {p : Fin 256} (hh : ∀ k, h (ix2 p k) = val_main_v12 (F := Ideal) x0 x1 (ix3 b s k))
    (hW : ∀ (j : Fin 8) k (l : Fin 896), W (ix3 j k l) = x2 (ix2 k (⟨j.val * 896 + l.val, by omega⟩ : Fin 7168))) (cc : ℕ) (q : Fin 1024) (l : Fin 7168) (hl : l.val = cc + q.val) :
    part (proj h W) cc (ix2 p q) = val_main_v13 (F := Ideal) x0 x1 x2 (ix3 b s l) := by
  unfold part proj
  pointwise [val_main_v13]
  refine Finset.sum_congr rfl fun k _ => congrArg₂ (fun u v : EReal => u * v) (hh k) ((hW _ k _).trans (congrArg x2 (congrArg (ix2 k) (Fin.ext ?_))))
  show (cc + q.val) % 7168 / 896 * 896 + (cc + q.val) % 7168 % 896 = l.val
  omega

/-- Column `q` of the convolution's argument. -/
abbrev arg (x0 : FVec Ideal S4x2048x1024 .f32) (x1 : FVec Ideal S1024 .f32) (x2 : FVec Ideal S1024x7168 .f32) (q : Fin 1024) : Row := fun b s => val_main_v21 (F := Ideal) x0 x1 x2 (ix3 b s q)

theorem conv_ref (b : Fin 4) (s : Fin 2048) (q : Fin 1024) : val_main_v43 (F := Ideal) x0 x1 x2 x3 (ix3 b s q)
    = down 2 (arg x0 x1 x2 q) b s * x3 (ix2 0 q) + down 1 (arg x0 x1 x2 q) b s * x3 (ix2 1 q) + arg x0 x1 x2 q b s * x3 (ix2 2 q) := by
  unfold arg val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_cst_2
  generalize val_main_v21 (F := Ideal) x0 x1 x2 = U
  pointwise
  refine congrArg₂ (fun u v : EReal => u + v) (congrArg₂ (fun u v : EReal => u + v) rfl (congrArg (fun u : EReal => u * _) ?_)) rfl
  unfold down
  by_cases hs : s.val < 1
  · rw [dif_pos (by omega), dif_pos hs]
  · rw [dif_neg (by omega), dif_neg hs]
    exact congrArg (fun s => U (ix3 b s q)) (Fin.ext (by show 1 + s.val - 2 = s.val - 1; omega))

/-- The layer norm of the rows that are mixed. -/
theorem vn_at {v : FVec Ideal S256x1024 .f32} {g e : FVec Ideal S1x1024 .f32} {b : Fin 4} {s : Fin 2048} {p : Fin 256} (hv : ∀ k, v (ix2 p k) = val_main_v18 (F := Ideal) x0 x1 x2 (ix3 b s k))
    (hg : ∀ k, g (ix2 0 k) = x4 (ix1 k)) (he : ∀ k, e (ix2 0 k) = x5 (ix1 k)) (q : Fin 1024) :
    (k0_pay22 (k0_pay13 g) (k0_pay14 e) v : FVec Ideal S256x1024 .bf16) (ix2 p q) = val_main_v65 (F := Ideal) x0 x1 x2 x4 x5 (ix3 b s q) := by
  unfold val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_cst_3 val_main_cst_4 val_main_cst_5 val_main_cst_6 val_main_cst_7
  generalize val_main_v18 (F := Ideal) x0 x1 x2 = U at hv ⊢
  pointwise [k0_pay22, k0_pay13, k0_pay14]
  simp only [hv, hg, he, zero_add]

/-- The mixing inside the chunks, as the reference writes it. -/
theorem mixed_ref (b : Fin 4) (s : Fin 2048) (q : Fin 1024) : val_main_v77 (F := Ideal) x0 x1 x2 x4 x5 x6 x7 (ix3 b s q)
    = (∑ t : Fin 128, Scalar.select (IntOp.cmpi .sge (BitVec.ofNat 32 (s.val % 128)) (BitVec.ofNat 32 t.val)) ((x6 (ix3 (grp q) (pos s) t) : EReal) * val_main_v65 (F := Ideal) x0 x1 x2 x4 x5 (ix3 b (inChunk s t) q)) (0 : EReal))
      + x7 (ix2 (grp q) (pos s)) := by
  unfold val_main_v77 val_main_v76 val_main_v75 val_main_v74 val_main_v73 val_main_v72 val_main_v71 val_main_v70 val_main_call1_v1 val_main_call1_v0 val_main_cst_8 val_main_v69 val_main_v68 val_main_call0_v5 val_main_call0_c_0 val_main_call0_v4 val_main_call0_v3 val_main_call0_v2 val_main_call0_v1 val_main_call0_c val_main_call0_v0 val_main_v67 val_main_c val_main_v66
  generalize val_main_v65 (F := Ideal) x0 x1 x2 x4 x5 = U
  pointwise
  have e0 : IntOp.addi (BitVec.ofNat 32 (s.val % 128)) 0#32 = BitVec.ofNat 32 (s.val % 128) := BitVec.add_zero _
  have e1 : ∀ c : BitVec 1, Scalar.select c 1#1 0#1 = c := by decide
  refine congrArg₂ (fun u v : EReal => u + v) (Finset.sum_congr rfl fun t _ => ?_) rfl
  rw [e0, e1, mul_comm]
  rfl

/-- The mixing on a block, whose chunks are the sequence's. -/
theorem mixed_at {R : ℕ} (hR : R % 256 = 0) {W : FVec Ideal S8x128x128 .f32} {N : FVec Ideal S256x1024 .bf16} {B : FVec Ideal S128x1024 .f32}
    (hW : ∀ g a t, W (ix3 g a t) = x6 (ix3 g a t)) (hN : ∀ (p : Fin 256) q, N (ix2 p q) = val_main_v65 (F := Ideal) x0 x1 x2 x4 x5 (ix3 (bb (R + p.val)) (ss (R + p.val)) q))
    (hB : ∀ a q, B (ix2 a q) = x7 (ix2 (grp q) a)) (p : Fin 256) (q : Fin 1024) :
    mixed W N B (ix2 p q) = val_main_v77 (F := Ideal) x0 x1 x2 x4 x5 x6 x7 (ix3 (bb (R + p.val)) (ss (R + p.val)) q) := by
  have hp := p.isLt
  rw [mixed_ref]
  unfold mixed
  have es : p.val % 128 = (ss (R + p.val)).val % 128 := by show _ = (R + p.val) % 2048 % 128; omega
  refine congrArg₂ (fun u v : EReal => u + v) (Finset.sum_congr rfl fun t _ => ?_) ((hB _ _).trans (congrArg x7 (congrArg (ix2 (grp q)) (Fin.ext es))))
  have ht := t.isLt
  refine congrArg₂ (fun (u : ℕ) (v : EReal) => Scalar.select (IntOp.cmpi .sge (BitVec.ofNat 32 u) (BitVec.ofNat 32 t.val)) v (0 : EReal)) es
    (congrArg₂ (fun u v : EReal => u * v) ((hW _ _ _).trans (congrArg x6 (congrArg (fun a : Fin 128 => ix3 (grp q) a t) (Fin.ext es)))) ((hN _ _).trans ?_))
  refine congrArg (val_main_v65 (F := Ideal) x0 x1 x2 x4 x5) (congrArg₂ (fun b s => ix3 b s q) (Fin.ext ?_) (Fin.ext ?_))
  · show (R + (p.val / 128 * 128 + t.val)) / 2048 % 4 = (R + p.val) / 2048 % 4
    omega
  · show (R + (p.val / 128 * 128 + t.val)) % 2048 = (R + p.val) % 2048 / 128 * 128 + t.val
    omega

end Cert.Kernel6Ideal.Point

end
-- ==== Proof.MfwHost.lean ====
/-
  WHAT THE MIXER'S FORWARD READS. Each block is a part of an argument: the residual stream in blocks of 256 rows, the weights whole at
  every point, the projection's cut in eight shards of 896 columns, the bias spread over the channels of its group.
-/
module

public import proofs.«01_k».proof.Proof.MfwPay

@[expose] public section

set_option maxRecDepth 16384

noncomputable section

open Idealize.ShloMosaic Idealize.ShloMosaic.TcCoe Idealize.SL.Sem

namespace Cert.Kernel6Ideal.Point

open Cert.Kernel6Ideal Cert.Kernel6Ideal.Gen Cert.Mix Cert.Head
open Cert.Kernel2Ideal.Point (r8)

variable (m : (ℓ : Loc nD τ sig) → Buf (Elt Ideal) ℓ) (c : Dev nD)

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0 ∧ win0_7.index t 2 = 0) ∧ (win0_8.index t 0 = 0 ∧ win0_8.index t 1 = 0)
    ∧ (win0_9.index t 0 = t.val ∧ win0_9.index t 1 = 0) ∧ (win0_10.index t 0 = t.val ∧ win0_10.index t 1 = 0)
    ∧ (win0_11.index t 0 = t.val ∧ win0_11.index t 1 = 0) ∧ (win0_12.index t 0 = t.val ∧ win0_12.index t 1 = 0) :=
  (by decide +kernel : ∀ t : Fin grid0.N, _)

/-- The first row of point `t`'s block. -/
abbrev R6 (t : Fin cfg0.N) : ℕ := t.val * 256

/-- Column `l` of shard `j` of the projection's weights. -/
abbrev wcol (j : Fin 8) (l : Fin 896) : Fin 7168 := ⟨j.val * 896 + l.val, by omega⟩

/-- A point that reads the arguments. -/
structure At (x0 : FVec Ideal S4x2048x1024 .f32) (x1 : FVec Ideal S1024 .f32) (x2 : FVec Ideal S1024x7168 .f32) (x3 : FVec Ideal S3x1024 .f32) (x4 x5 : FVec Ideal S1024 .f32)
    (x6 : FVec Ideal S8x128x128 .f32) (x7 : FVec Ideal S8x128 .f32) (x8 : FVec Ideal S1024x1024 .f32) (t : Fin cfg0.N) : Prop where
  x : ∀ (p : Fin 256) q, (iblk m c 0 t : FVec Ideal S256x1024 .f32) (ix2 p q) = x0 (ix3 (bb (R6 t + p.val)) (ss (R6 t + p.val)) q)
  g : ∀ q, (iblk m c 1 t : FVec Ideal S1x1024 .f32) (ix2 0 q) = x1 (ix1 q)
  win : ∀ j k l, (iblk m c 2 t : FVec Ideal S8x1024x896 .bf16) (ix3 j k l) = x2 (ix2 k (wcol j l))
  wout : ∀ k q, (iblk m c 3 t : FVec Ideal S1024x1024 .bf16) (ix2 k q) = x8 (ix2 k q)
  cw : ∀ (i : Fin 3) q, (iblk m c 4 t : FVec Ideal S8x1024 .f32) (ix2 (r8 i) q) = x3 (ix2 i q)
  lng : ∀ q, (iblk m c 5 t : FVec Ideal S1x1024 .f32) (ix2 0 q) = x4 (ix1 q)
  lnb : ∀ q, (iblk m c 6 t : FVec Ideal S1x1024 .f32) (ix2 0 q) = x5 (ix1 q)
  ws : ∀ g a e, (iblk m c 7 t : FVec Ideal S8x128x128 .f32) (ix3 g a e) = x6 (ix3 g a e)
  bs : ∀ a q, (iblk m c 8 t : FVec Ideal S128x1024 .f32) (ix2 a q) = x7 (ix2 (grp q) a)

/-! ## The arrays -/

theorem host_x (r : Fin 8192) (q : Fin 1024) : (V m c main_v0 : FVec Ideal S8192x1024 .f32) (ix2 r q) = m ((c : Thread nD τ).loc main_arg0) (ix3 (bb r.val) (ss r.val) q) := by
  unfold V; after_reads_simp; pointwise
  refine congrArg (m ((c : Thread nD τ).loc main_arg0)) (congrArg₂ (fun a b => ix3 a b q) (Fin.ext ?_) (Fin.ext rfl))
  show r.val / 2048 = r.val / 2048 % 4
  omega

theorem host_g (q : Fin 1024) : (V m c main_v1 : FVec Ideal S1x1024 .f32) (ix2 0 q) = m ((c : Thread nD τ).loc main_arg1) (ix1 q) := by
  unfold V; after_reads_simp; pointwise

theorem host_lng (q : Fin 1024) : (V m c main_v7 : FVec Ideal S1x1024 .f32) (ix2 0 q) = m ((c : Thread nD τ).loc main_arg4) (ix1 q) := by
  unfold V; after_reads_simp; pointwise

theorem host_lnb (q : Fin 1024) : (V m c main_v8 : FVec Ideal S1x1024 .f32) (ix2 0 q) = m ((c : Thread nD τ).loc main_arg5) (ix1 q) := by
  unfold V; after_reads_simp; pointwise

theorem host_win (j : Fin 8) (k : Fin 1024) (l : Fin 896) : (V m c main_v4 : FVec Ideal S8x1024x896 .bf16) (ix3 j k l) = m ((c : Thread nD τ).loc main_arg2) (ix2 k (wcol j l)) := by
  unfold V; after_reads_simp; pointwise

theorem host_wout (k q : Fin 1024) : (V m c main_v5 : FVec Ideal S1024x1024 .bf16) (ix2 k q) = m ((c : Thread nD τ).loc main_arg8) (ix2 k q) := by
  unfold V; after_reads_simp; pointwise

theorem host_ws (g : Fin 8) (a e : Fin 128) : (V m c main_arg6 : FVec Ideal S8x128x128 .f32) (ix3 g a e) = m ((c : Thread nD τ).loc main_arg6) (ix3 g a e) := by
  unfold V; after_reads_simp

theorem host_bs (a : Fin 128) (q : Fin 1024) : (V m c main_v11 : FVec Ideal S128x1024 .f32) (ix2 a q) = m ((c : Thread nD τ).loc main_arg7) (ix2 (grp q) a) := by
  unfold V; after_reads_simp; pointwise
  rfl

theorem host_cw (i : Fin 3) (q : Fin 1024) : (V m c main_v6 : FVec Ideal S8x1024 .f32) (ix2 (r8 i) q) = m ((c : Thread nD τ).loc main_arg3) (ix2 i q) := by
  unfold V; after_reads_simp
  change pad S8x1024 ![0, 0] ![5, 0] ![0, 0] (m ((c : Thread nD τ).loc main_arg3) : FVec Ideal S3x1024 .f32) (sitofp (F := Ideal) .f32 (constantI S_ 32 0#32)) pads_S3x1024_S8x1024_050_000 h_S_ (ix2 (r8 i) q) = _
  pointwise
  refine (dif_pos fun a => ?_).trans rfl
  match a with
  | ⟨0, _⟩ => exact ⟨Nat.zero_le _, Nat.mod_one _, by show (i.val - 0) / 1 < 3; omega⟩
  | ⟨1, _⟩ => exact ⟨Nat.zero_le _, Nat.mod_one _, by show (q.val - 0) / 1 < 1024; omega⟩

/-! ## The blocks -/

variable (t : Fin cfg0.N)

theorem blk_x (p : Fin 256) (q : Fin 1024) (r : Fin 8192) (hr : r.val = R6 t + p.val) :
    (iblk m c 0 t : FVec Ideal S256x1024 .f32) (ix2 p q) = (V m c main_v0 : FVec Ideal S8192x1024 .f32) (ix2 r q) := by
  obtain ⟨⟨e0, e1⟩, -⟩ := idx t
  unfold iblk; blk_simp; blk_ext
  all_goals first | (rw [e0]; exact hr.symm) | (rw [e1]; omega)

theorem blk_g (z : Fin 1) (q : Fin 1024) : (iblk m c 1 t : FVec Ideal S1x1024 .f32) (ix2 z q) = (V m c main_v1 : FVec Ideal S1x1024 .f32) (ix2 z q) := by
  obtain ⟨-, ⟨e0, e1⟩, -⟩ := idx t
  unfold iblk; blk_simp; blk_ext
  all_goals first | (rw [e0]; omega) | (rw [e1]; omega)

theorem blk_win (j : Fin 8) (k : Fin 1024) (l : Fin 896) : (iblk m c 2 t : FVec Ideal S8x1024x896 .bf16) (ix3 j k l) = (V m c main_v4 : FVec Ideal S8x1024x896 .bf16) (ix3 j k l) := by
  obtain ⟨-, -, ⟨e0, e1, e2⟩, -⟩ := idx t
  unfold iblk; blk_simp; blk_ext
  all_goals first | (rw [e0]; omega) | (rw [e1]; omega) | (rw [e2]; omega)

theorem blk_wout (k q : Fin 1024) : (iblk m c 3 t : FVec Ideal S1024x1024 .bf16) (ix2 k q) = (V m c main_v5 : FVec Ideal S1024x1024 .bf16) (ix2 k q) := by
  obtain ⟨-, -, -, ⟨e0, e1⟩, -⟩ := idx t
  unfold iblk; blk_simp; blk_ext
  all_goals first | (rw [e0]; omega) | (rw [e1]; omega)

theorem blk_cw (r : Fin 8) (q : Fin 1024) : (iblk m c 4 t : FVec Ideal S8x1024 .f32) (ix2 r q) = (V m c main_v6 : FVec Ideal S8x1024 .f32) (ix2 r q) := by
  obtain ⟨-, -, -, -, ⟨e0, e1⟩, -⟩ := idx t
  unfold iblk; blk_simp; blk_ext
  all_goals first | (rw [e0]; omega) | (rw [e1]; omega)

theorem blk_lng (z : Fin 1) (q : Fin 1024) : (iblk m c 5 t : FVec Ideal S1x1024 .f32) (ix2 z q) = (V m c main_v7 : FVec Ideal S1x1024 .f32) (ix2 z q) := by
  obtain ⟨-, -, -, -, -, ⟨e0, e1⟩, -⟩ := idx t
  unfold iblk; blk_simp; blk_ext
  all_goals first | (rw [e0]; omega) | (rw [e1]; omega)

theorem blk_lnb (z : Fin 1) (q : Fin 1024) : (iblk m c 6 t : FVec Ideal S1x1024 .f32) (ix2 z q) = (V m c main_v8 : FVec Ideal S1x1024 .f32) (ix2 z q) := by
  obtain ⟨-, -, -, -, -, -, ⟨e0, e1⟩, -⟩ := idx t
  unfold iblk; blk_simp; blk_ext
  all_goals first | (rw [e0]; omega) | (rw [e1]; omega)

theorem blk_ws (g : Fin 8) (a e : Fin 128) : (iblk m c 7 t : FVec Ideal S8x128x128 .f32) (ix3 g a e) = (V m c main_arg6 : FVec Ideal S8x128x128 .f32) (ix3 g a e) := by
  obtain ⟨-, -, -, -, -, -, -, ⟨e0, e1, e2⟩, -⟩ := idx t
  unfold iblk; blk_simp; blk_ext
  all_goals first | (rw [e0]; omega) | (rw [e1]; omega) | (rw [e2]; omega)

theorem blk_bs (a : Fin 128) (q : Fin 1024) : (iblk m c 8 t : FVec Ideal S128x1024 .f32) (ix2 a q) = (V m c main_v11 : FVec Ideal S128x1024 .f32) (ix2 a q) := by
  obtain ⟨-, -, -, -, -, -, -, -, ⟨e0, e1⟩, -⟩ := idx t
  unfold iblk; blk_simp; blk_ext
  all_goals first | (rw [e0]; omega) | (rw [e1]; omega)

/-- EVERY GRID POINT READS THE ARGUMENTS. -/
theorem at_point : At m c (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) t where
  x p q := (blk_x m c t p q ⟨R6 t + p.val, by have : t.val < 32 := t.isLt; unfold R6; omega⟩ rfl).trans (host_x m c _ q)
  g q := (blk_g m c t 0 q).trans (host_g m c q)
  win j k l := (blk_win m c t j k l).trans (host_win m c j k l)
  wout k q := (blk_wout m c t k q).trans (host_wout m c k q)
  cw i q := (blk_cw m c t (r8 i) q).trans (host_cw m c i q)
  lng q := (blk_lng m c t 0 q).trans (host_lng m c q)
  lnb q := (blk_lnb m c t 0 q).trans (host_lnb m c q)
  ws g a e := (blk_ws m c t g a e).trans (host_ws m c g a e)
  bs a q := (blk_bs m c t a q).trans (host_bs m c a q)

end Cert.Kernel6Ideal.Point

end
-- ==== Proof.MfwStream.lean ====
/-
  THE MIXER'S FORWARD AT A GRID POINT. What a point stores, row for row, in the reference's values: the seven parts of the projection, the
  convolution with the rows that the point before left, the normalised and mixed rows, the gates, the merged rows and the stream.
-/
module

public import proofs.«01_k».proof.Proof.MfwHost
public import proofs.«01_k».proof.Proof.HeadStream

@[expose] public section

set_option maxRecDepth 16384

noncomputable section

open Idealize.ShloMosaic Idealize.ShloMosaic.TcCoe Idealize.SL.Sem

namespace Cert.Kernel6Ideal.Point

open Cert.Kernel6Ideal Cert.Kernel6Ideal.Gen Cert.Mix Cert.Head
open Cert.Reference6Ideal.Read
open Cert.Kernel5Ideal.Point (startBit startBit_eq)

theorem keep_at (t : Fin cfg0.N) : keep t = if t.val % 8 = 0 then 0 else 1 := by
  unfold keep
  pointwise [k0_pay4]
  show Scalar.select (startBit (BitVec.ofNat 32 (grid0.coords t 0).val)) (0 : EReal) 1 = _
  rw [startBit_eq t]
  split <;> rfl

/-- The batch and the position of the block's row `p`. -/
abbrev B6 (t : Fin cfg0.N) (p : Fin 256) : Fin 4 := bb (R6 t + p.val)
abbrev S6 (t : Fin cfg0.N) (p : Fin 256) : Fin 2048 := ss (R6 t + p.val)

section
variable (x0 : FVec Ideal S4x2048x1024 .f32) (x1 : FVec Ideal S1024 .f32) (x2 : FVec Ideal S1024x7168 .f32) (x3 : FVec Ideal S3x1024 .f32) (x4 x5 : FVec Ideal S1024 .f32)
  (x6 : FVec Ideal S8x128x128 .f32) (x7 : FVec Ideal S8x128 .f32)

/-- The reference's seven parts of the projection, in the order of their columns. -/
def parts : Fin 7 → FVec Ideal S4x2048x1024 .f32 :=
  ![val_main_v14 (F := Ideal) x0 x1 x2, val_main_v15 (F := Ideal) x0 x1 x2, val_main_v16 (F := Ideal) x0 x1 x2, val_main_v17 (F := Ideal) x0 x1 x2, val_main_v18 (F := Ideal) x0 x1 x2,
    val_main_v19 (F := Ideal) x0 x1 x2, val_main_v20 (F := Ideal) x0 x1 x2]

/-- The reference's ten arrays kept for the backward. -/
def saved : Fin 10 → FVec Ideal S4x2048x1024 .f32 :=
  ![val_main_v14 (F := Ideal) x0 x1 x2, val_main_v15 (F := Ideal) x0 x1 x2, val_main_v16 (F := Ideal) x0 x1 x2, val_main_v17 (F := Ideal) x0 x1 x2, val_main_v18 (F := Ideal) x0 x1 x2,
    val_main_v43 (F := Ideal) x0 x1 x2 x3, val_main_v77 (F := Ideal) x0 x1 x2 x4 x5 x6 x7, val_main_v65 (F := Ideal) x0 x1 x2 x4 x5, val_main_v83 (F := Ideal) x0 x1 x2, val_main_v89 (F := Ideal) x0 x1 x2]

theorem parts_at (j : Fin 7) (b : Fin 4) (s : Fin 2048) (q : Fin 1024) : parts x0 x1 x2 j (ix3 b s q) = val_main_v13 (F := Ideal) x0 x1 x2 (ix3 b s (⟨1024 * j.val + q.val, by omega⟩ : Fin 7168)) := by
  unfold parts val_main_v14 val_main_v15 val_main_v16 val_main_v17 val_main_v18 val_main_v19 val_main_v20
  generalize val_main_v13 (F := Ideal) x0 x1 x2 = P
  fin_cases j
  all_goals exact congrArg P (funext fun a => Fin.ext (by rcases a with ⟨_ | _ | _ | a, ha⟩ <;> first | exact Nat.zero_add _ | rfl | exact absurd ha (by simp)))
end

variable {m : (ℓ : Loc nD τ sig) → Buf (Elt Ideal) ℓ} {c : Dev nD}
  {x0 : FVec Ideal S4x2048x1024 .f32} {x1 : FVec Ideal S1024 .f32} {x2 : FVec Ideal S1024x7168 .f32} {x3 : FVec Ideal S3x1024 .f32} {x4 x5 : FVec Ideal S1024 .f32}
  {x6 : FVec Ideal S8x128x128 .f32} {x7 : FVec Ideal S8x128 .f32} {x8 : FVec Ideal S1024x1024 .f32}
  (hA : ∀ t, At m c x0 x1 x2 x3 x4 x5 x6 x7 x8 t) (t : Fin cfg0.N) (p : Fin 256)
include hA

theorem hS_at (q : Fin 1024) : hS m c t (ix2 p q) = val_main_v12 (F := Ideal) x0 x1 (ix3 (B6 t p) (S6 t p) q) := norm_at ((hA t).x p) (hA t).g q

theorem pS_at (j : Fin 7) (q : Fin 1024) : pS m c t (1024 * j.val) (ix2 p q) = parts x0 x1 x2 j (ix3 (B6 t p) (S6 t p) q) :=
  (part_at (hS_at hA t p) (hA t).win _ q _ rfl).trans (parts_at x0 x1 x2 j _ _ q).symm

theorem cxS_at (q : Fin 1024) : cxS m c t (ix2 p q) = val_main_v21 (F := Ideal) x0 x1 x2 (ix3 (B6 t p) (S6 t p) q) :=
  congrArg₂ (fun u v : EReal => u * v) (pS_at hA t p 1 q) (pS_at hA t p 2 q)

omit p in
/-- The rows before the block: the last ones of the point before, and none at a sequence's start. -/
theorem prev_at (r : Fin 8) (q : Fin 1024) : (before m c t (ix2 r q) * keep t : EReal) = prv (arg x0 x1 x2 q) (R6 t) r := by
  have hN : t.val < 32 := t.isLt
  rw [keep_at]
  unfold prv
  by_cases h : t.val % 8 = 0
  · rw [if_pos h, if_pos (show R6 t % 2048 = 0 by unfold R6; omega), mul_zero]
  · rw [if_neg h, if_neg (show ¬ R6 t % 2048 = 0 by unfold R6; omega), mul_one]
    unfold before
    rw [dif_neg (by omega)]
    refine (congrFun (carry_out m c ⟨t.val - 1, by omega⟩) (ix2 r q)).trans ((carry_at _ r q).trans ((cxS_at hA ⟨t.val - 1, by omega⟩ _ q).trans ?_))
    exact at_row (arg x0 x1 x2 q) (by show (t.val - 1) * 256 + (248 + r.val) = t.val * 256 - 8 + r.val; omega)

theorem cvS_at (q : Fin 1024) : cvS m c t (before m c t) (ix2 p q) = val_main_v43 (F := Ideal) x0 x1 x2 x3 (ix3 (B6 t p) (S6 t p) q) := by
  refine (conv_at (f := fun q => arg x0 x1 x2 q) (show R6 t % 256 = 0 by unfold R6; omega) (fun p q => cxS_at hA t p q) (fun r q => prev_at hA t r q) p q).trans ?_
  rw [conv_ref, (hA t).cw 0, (hA t).cw 1, (hA t).cw 2]

theorem vnS_at (q : Fin 1024) : vnS m c t (ix2 p q) = val_main_v65 (F := Ideal) x0 x1 x2 x4 x5 (ix3 (B6 t p) (S6 t p) q) := vn_at (pS_at hA t p 4) (hA t).lng (hA t).lnb q

theorem mxS_at (q : Fin 1024) : mxS m c t (ix2 p q) = val_main_v77 (F := Ideal) x0 x1 x2 x4 x5 x6 x7 (ix3 (B6 t p) (S6 t p) q) :=
  mixed_at (show R6 t % 256 = 0 by unfold R6; omega) (hA t).ws (fun p q => vnS_at hA t p q) (hA t).bs p q

/-- The two gates: the body's logistic is the reference's quotient. -/
theorem saS_at (q : Fin 1024) : saS m c t (ix2 p q) = val_main_v83 (F := Ideal) x0 x1 x2 (ix3 (B6 t p) (S6 t p) q) := by
  have e : pS m c t 5120 (ix2 p q) = val_main_v19 (F := Ideal) x0 x1 x2 (ix3 (B6 t p) (S6 t p) q) := pS_at hA t p 5 q
  unfold saS
  generalize pS m c t 5120 = P at e ⊢
  pointwise [k0_pay15, val_main_v83, val_main_v82, val_main_v81, val_main_v80, val_main_v79, val_main_v78, val_main_cst_9, val_main_cst_10]
  rw [e]
  rfl

theorem sbS_at (q : Fin 1024) : sbS m c t (ix2 p q) = val_main_v89 (F := Ideal) x0 x1 x2 (ix3 (B6 t p) (S6 t p) q) := by
  have e : pS m c t 6144 (ix2 p q) = val_main_v20 (F := Ideal) x0 x1 x2 (ix3 (B6 t p) (S6 t p) q) := pS_at hA t p 6 q
  unfold sbS
  generalize pS m c t 6144 = P at e ⊢
  pointwise [k0_pay16, val_main_v89, val_main_v88, val_main_v87, val_main_v86, val_main_v85, val_main_v84, val_main_cst_11, val_main_cst_12]
  rw [e]
  rfl

theorem mgS_at (q : Fin 1024) : mgS m c t (before m c t) (ix2 p q) = val_main_v94 (F := Ideal) x0 x1 x2 x3 x4 x5 x6 x7 (ix3 (B6 t p) (S6 t p) q) :=
  congrArg₂ (fun u v : EReal => u + v)
    (congrArg₂ (fun u v : EReal => u * v) (saS_at hA t p q) (congrArg₂ (fun u v : EReal => u * v) (pS_at hA t p 0 q) (cvS_at hA t p q)))
    (congrArg₂ (fun u v : EReal => u * v) (sbS_at hA t p q) (congrArg₂ (fun u v : EReal => u * v) (pS_at hA t p 3 q) (mxS_at hA t p q)))

/-- The stream after the mixer. -/
theorem x1_at (q : Fin 1024) : ((outsAt0 m c t.val t.isLt).2.2.1 : FVec Ideal S256x1024 .f32) (ix2 p q) = val_main_v96 (F := Ideal) x0 x1 x2 x3 x4 x5 x6 x7 x8 (ix3 (B6 t p) (S6 t p) q) := by
  rw [x1_out]
  have hM := mgS_at hA t p
  have hX := (hA t).x p
  have hW := (hA t).wout
  generalize mgS m c t (before m c t) = M at hM ⊢
  generalize iblk m c 0 t = X at hX ⊢
  generalize iblk m c 3 t = W at hW ⊢
  pointwise [k0_pay2, k0_pay1, k0_pay5, val_main_v96, val_main_v95]
  simp only [hM, hX, hW]

theorem keptS_at (j : Fin 10) (q : Fin 1024) : keptS m c t (before m c t) j (ix2 p q) = saved x0 x1 x2 x3 x4 x5 x6 x7 j (ix3 (B6 t p) (S6 t p) q) := by
  unfold keptS saved
  fin_cases j
  · exact pS_at hA t p 0 q
  · exact pS_at hA t p 1 q
  · exact pS_at hA t p 2 q
  · exact pS_at hA t p 3 q
  · exact pS_at hA t p 4 q
  · exact cvS_at hA t p q
  · exact mxS_at hA t p q
  · exact vnS_at hA t p q
  · exact saS_at hA t p q
  · exact sbS_at hA t p q

end Cert.Kernel6Ideal.Point

end
-- ==== Proof.MfwValue.lean ====
/-
  THE MIXER'S FORWARD, ITS FOUR RESULTS AS WHOLE ARRAYS. The grid walks the thirty-two row blocks from the first to the last, and each
  result is written block by block.
-/
module

public import proofs.«01_k».proof.Proof.MfwStream

@[expose] public section

set_option maxRecDepth 16384

noncomputable section

open Idealize.ShloMosaic Idealize.ShloMosaic.TcCoe Idealize.SL.Sem
open Idealize.ShloMosaic.Pipeline (Dat)

namespace Cert.Kernel6Ideal.Point

open Cert.Kernel6Ideal Cert.Kernel6Ideal.Gen Cert.Mix Cert.Head
open Cert.Reference6Ideal.Read
open Cert.Kernel2Ideal.Point (join join_at)

/-- Rows counted through the batch. -/
theorem flat_at {x : FVec Ideal S4x2048x1024 .f32} (h : S4x2048x1024.ShapeCasts S8192x1024) (r : Fin 8192) (q : Fin 1024) : (shapeCast S8192x1024 x h : FVec Ideal S8192x1024 .f32) (ix2 r q) = x (ix3 (bb r.val) (ss r.val) q) := by
  pointwise
  exact congrArg x (congrArg₂ (fun a b => ix3 a b q) (Fin.ext (by show r.val / 2048 = r.val / 2048 % 4; omega)) (Fin.ext rfl))

variable {m : (ℓ : Loc nD τ sig) → Buf (Elt Ideal) ℓ} {c : Dev nD}
  {x0 : FVec Ideal S4x2048x1024 .f32} {x1 : FVec Ideal S1024 .f32} {x2 : FVec Ideal S1024x7168 .f32} {x3 : FVec Ideal S3x1024 .f32} {x4 x5 : FVec Ideal S1024 .f32}
  {x6 : FVec Ideal S8x128x128 .f32} {x7 : FVec Ideal S8x128 .f32} {x8 : FVec Ideal S1024x1024 .f32}

theorem saved_join : val_main_v104 (F := Ideal) x0 x1 x2 x3 x4 x5 x6 x7 = join (saved x0 x1 x2 x3 x4 x5 x6 x7) := rfl

variable (hA : ∀ t, At m c x0 x1 x2 x3 x4 x5 x6 x7 x8 t)
include hA

theorem h_array : (dats m 0 c).arrAt 9 cfg0.N = val_main_v99 (F := Ideal) x0 x1 := by
  refine (dats m 0 c).arrAt_eq_of_covers 9 _ (by decide +kernel) fun t hf j => ?_
  blk_simp
  rw [after0_9, h_out]
  have ht : t.val < 32 := t.isLt
  obtain ⟨-, -, -, -, -, -, -, -, -, ⟨e0, e1⟩, -⟩ := idx t
  idx_vars j
  refine (hS_at hA t j0 j1).trans ((flat_at _ (⟨t.val * 256 + j0.val, by omega⟩ : Fin 8192) j1).symm.trans (congrArg (val_main_v99 (F := Ideal) x0 x1) ?_))
  blk_ext
  all_goals first | (rw [e0]) | (rw [e1]; omega)

theorem merged_array : (dats m 0 c).arrAt 10 cfg0.N = val_main_v101 (F := Ideal) x0 x1 x2 x3 x4 x5 x6 x7 := by
  refine (dats m 0 c).arrAt_eq_of_covers 10 _ (by decide +kernel) fun t hf j => ?_
  blk_simp
  rw [after0_10, merged_out]
  have ht : t.val < 32 := t.isLt
  obtain ⟨-, -, -, -, -, -, -, -, -, -, ⟨e0, e1⟩, -⟩ := idx t
  idx_vars j
  refine (mgS_at hA t j0 j1).trans ((flat_at _ (⟨t.val * 256 + j0.val, by omega⟩ : Fin 8192) j1).symm.trans (congrArg (val_main_v101 (F := Ideal) x0 x1 x2 x3 x4 x5 x6 x7) ?_))
  blk_ext
  all_goals first | (rw [e0]) | (rw [e1]; omega)

theorem x1_array : (dats m 0 c).arrAt 11 cfg0.N = val_main_v102 (F := Ideal) x0 x1 x2 x3 x4 x5 x6 x7 x8 := by
  refine (dats m 0 c).arrAt_eq_of_covers 11 _ (by decide +kernel) fun t hf j => ?_
  blk_simp
  rw [after0_11]
  have ht : t.val < 32 := t.isLt
  obtain ⟨-, -, -, -, -, -, -, -, -, -, -, ⟨e0, e1⟩, -⟩ := idx t
  idx_vars j
  refine (x1_at hA t j0 j1).trans ((flat_at _ (⟨t.val * 256 + j0.val, by omega⟩ : Fin 8192) j1).symm.trans (congrArg (val_main_v102 (F := Ideal) x0 x1 x2 x3 x4 x5 x6 x7 x8) ?_))
  blk_ext
  all_goals first | (rw [e0]) | (rw [e1]; omega)

theorem kept_array : (dats m 0 c).arrAt 12 cfg0.N = val_main_v104 (F := Ideal) x0 x1 x2 x3 x4 x5 x6 x7 := by
  rw [saved_join]
  refine (dats m 0 c).arrAt_eq_of_covers 12 _ (by decide +kernel) fun t hf j => ?_
  blk_simp
  rw [after0_12, kept_out]
  have ht : t.val < 32 := t.isLt
  obtain ⟨-, -, -, -, -, -, -, -, -, -, -, -, ⟨e0, e1⟩⟩ := idx t
  idx_vars j
  refine (keptS_at hA t j0 _ _).trans (Eq.trans ?_ ((join_at (saved x0 x1 x2 x3 x4 x5 x6 x7) (⟨t.val * 256 + j0.val, by omega⟩ : Fin 8192) j1).symm.trans (congrArg (join (saved x0 x1 x2 x3 x4 x5 x6 x7)) ?_)))
  · refine congrArg (fun b : Fin 4 => saved x0 x1 x2 x3 x4 x5 x6 x7 _ (ix3 b _ _)) (Fin.ext ?_)
    show (t.val * 256 + j0.val) / 2048 % 4 = (t.val * 256 + j0.val) / 2048
    omega
  · blk_ext
    all_goals first | (rw [e0]) | (rw [e1]; omega)

end Cert.Kernel6Ideal.Point

end
-- ==== Proof.Pair6.lean ====
/-
  THE SIXTH PAIR: the mixer's forward (norm, projection, causal convolution, layer norm, masked mixing inside the chunks, gates, output
  projection, residual, and the arrays kept for the backward) against the forward lines. No precondition: the two programs form the same
  sums of the same products.
-/
module

public import proofs.«01_k».proof.Defs
public import proofs.«01_k».proof.Proof.Gen.Kernel6Ideal.Value
public import proofs.«01_k».proof.Proof.MfwValue
public import Idealize.ShloMosaic.Lib.Claim

@[expose] public section

set_option maxRecDepth 16384

noncomputable section

open Idealize.ShloMosaic Idealize.ShloMosaic.TcCoe Idealize.SL.Sem

namespace Cert.Pair6

open Cert.Kernel6Ideal

/-- The kernel's four results are the reference's. -/
theorem algebraic : Cert.algebraic_Kernel6Ideal_Reference6Ideal := by
  pair_intro
  · run_from Cert.Kernel6Ideal.Value.run_blocks m g
  · have hA := fun c t => Cert.Kernel6Ideal.Point.at_point m c t
    run_from Cert.Reference6Ideal.Value.run m' g'
    · obtain ⟨e0, e1, e2, e3, e4, e5, e6, e7, e8⟩ := hagree c
      have e := Cert.Reference6Ideal.Read.val_main_v99_eq (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
      simp only [e0, e1] at e ⊢
      exact e.trans (Cert.Kernel6Ideal.Point.h_array (hA c)).symm
    · obtain ⟨e0, e1, e2, e3, e4, e5, e6, e7, e8⟩ := hagree c
      have e := Cert.Reference6Ideal.Read.val_main_v101_eq (F := Ideal) m' c
      simp only [e0, e1, e2, e3, e4, e5, e6, e7] at e
      exact e.trans (Cert.Kernel6Ideal.Point.merged_array (hA c)).symm
    · obtain ⟨e0, e1, e2, e3, e4, e5, e6, e7, e8⟩ := hagree c
      have e := Cert.Reference6Ideal.Read.val_main_v102_eq (F := Ideal) m' c
      simp only [e0, e1, e2, e3, e4, e5, e6, e7, e8] at e
      exact e.trans (Cert.Kernel6Ideal.Point.x1_array (hA c)).symm
    · obtain ⟨e0, e1, e2, e3, e4, e5, e6, e7, e8⟩ := hagree c
      have e := Cert.Reference6Ideal.Read.val_main_v104_eq (F := Ideal) m' c
      simp only [e0, e1, e2, e3, e4, e5, e6, e7] at e
      exact e.trans (Cert.Kernel6Ideal.Point.kept_array (hA c)).symm

end Cert.Pair6

end
-- ==== Proof.FirstOuts.lean ====
/-
  WHAT ONE GRID POINT OF THE FIRST LAYER'S FEED-FORWARD LEAVES: its five outputs and the carried rows, as the expressions of a row
  block. The body is the last layer's without the loss, and stores the stream itself.
-/
module

public import proofs.«01_k».proof.Proof.Gen.Kernel7Ideal.Value
public import proofs.«01_k».proof.Proof.ForwardPoint

@[expose] public section

set_option maxRecDepth 16384

noncomputable section

open Idealize.ShloMosaic Idealize.ShloMosaic.TcCoe Idealize.SL.Sem

namespace Cert.Kernel7Ideal.Point

open Cert.Kernel7Ideal Cert.Kernel7Ideal.Gen Cert.Forward
open Cert.Kernel4Ideal.Point (inb_rows inb_halo inb_wu canon_slabs)
open Cert.Kernel5Ideal.Gen renaming k0_pay8 → shard, k0_pay80 → last

/-- A shard's last eight rows, however the body goes on to use the shard. -/
theorem last_rows (u : FVec Ideal S1x256x704 .f32) : k0_pay17 (F := Ideal) (k0_pay14 u) = last u ∧ k0_pay21 (F := Ideal) (k0_pay18 u) = last u ∧ k0_pay37 (F := Ideal) (k0_pay30 u) = last u
    ∧ k0_pay45 (F := Ideal) (k0_pay38 u) = last u ∧ k0_pay60 (F := Ideal) (k0_pay54 u) = last u ∧ k0_pay67 (F := Ideal) (k0_pay61 u) = last u ∧ k0_pay77 (F := Ideal) u = last u ∧ k0_pay80 (F := Ideal) u = last u :=
  ⟨rfl, rfl, rfl, rfl, rfl, rfl, rfl, rfl⟩

theorem same_rows (h : FVec Ideal S256x1024 .bf16) (w : FVec Ideal S1x704x1024 .bf16) : k0_pay5 (F := Ideal) h w = shard h w ∧ k0_pay6 (F := Ideal) h w = shard h w ∧ k0_pay7 (F := Ideal) h w = shard h w ∧ k0_pay8 (F := Ideal) h w = shard h w
    ∧ k0_pay10 (F := Ideal) (k0_pay9 h w) = shard h w ∧ k0_pay11 (F := Ideal) h w = shard h w ∧ k0_pay12 (F := Ideal) h w = shard h w ∧ k0_pay13 (F := Ideal) h w = shard h w :=
  ⟨rfl, rfl, rfl, rfl, rfl, rfl, rfl, rfl⟩

variable (m : (ℓ : Loc nD τ sig) → Buf (Elt Ideal) ℓ) (c : Dev nD)

/-- The point's row block. -/
def blk (t : Fin cfg0.N) : Blk := ⟨k0_pay2 (F := Ideal) (grid0.coords t), iblk m c 0 t, iblk m c 1 t, iblk m c 2 t, iblk m c 3 t, iblk m c 4 t⟩
theorem blk_fields (t : Fin cfg0.N) : k0_pay2 (F := Ideal) (grid0.coords t) = (blk m c t).keep ∧ (iblk m c 0 t : FVec Ideal S256x1024 .f32) = (blk m c t).x ∧ (iblk m c 1 t : FVec Ideal S1x1024 .f32) = (blk m c t).g
    ∧ (iblk m c 2 t : FVec Ideal S8x704x1024 .bf16) = (blk m c t).wu ∧ (iblk m c 3 t : FVec Ideal S4x704x1024 .bf16) = (blk m c t).wd ∧ (iblk m c 4 t : FVec Ideal S8x8x704 .f32) = (blk m c t).cw :=
  ⟨rfl, rfl, rfl, rfl, rfl, rfl⟩

/-- The rows the point before carried over. -/
def before (t : Fin cfg0.N) : FVec Ideal S8x8x704 .f32 := if h : t.val % 32 = 0 then k0_pay1 else (outsAt0 m c (t.val - 1) (by omega)).2.2.2.2.2

theorem h_out (t : Fin cfg0.N) : ((outsAt0 m c t.val t.isLt).1 : FVec Ideal S256x1024 .bf16) = hS (blk m c t) := by
  by_cases h0 : t.val % 32 = 0
  · rw [outsAt0_A m c t h0]
    frame_out
    rfl
  · rw [outsAt0_B m c t h0]
    frame_out
    rfl

theorem up_out (t : Fin cfg0.N) (j : Fin 8) (p : Fin 256) (q : Fin 704) : ((outsAt0 m c t.val t.isLt).2.1 : FVec Ideal S8x256x704 .f32) (ix3 j p q) = uS (blk m c t) j (ix3 0 p q) := by
  by_cases h0 : t.val % 32 = 0
  · rw [outsAt0_A m c t h0]
    frame_out
    simp only [blk_fields m c t]
    exact canon_slabs (e := .f32) inb_rows (uS (blk m c t)) j p q [] [7, 6, 5, 4, 3, 2, 1, 0] (by revert j; decide)
  · rw [outsAt0_B m c t h0]
    frame_out
    simp only [blk_fields m c t]
    exact canon_slabs (e := .f32) inb_rows (uS (blk m c t)) j p q [] [7, 6, 5, 4, 3, 2, 1, 0] (by revert j; decide)

theorem carry_out (t : Fin cfg0.N) (j : Fin 8) (r : Fin 8) (q : Fin 704) : ((outsAt0 m c t.val t.isLt).2.2.2.2.2 : FVec Ideal S8x8x704 .f32) (ix3 j r q)
    = (last (uS (blk m c t) j) : FVec Ideal S1x8x704 .f32) (ix3 0 r q) := by
  by_cases h0 : t.val % 32 = 0
  · rw [outsAt0_A m c t h0]
    frame_out
    try simp only [read_unread_whole]
    simp (disch := first | decide | (intro a; fin_cases a <;> rfl)) only [View.readCov_cons_toLoadRect, ↓View.readCov_skip, ↓View.readCov_fill]
    simp only [last_rows, same_rows]
    simp only [blk_fields m c t]
    exact canon_slabs (e := .f32) inb_halo (fun j => last (F := Ideal) (uS (blk m c t) j)) j r q [⟨Rect.unit (s := S8x8x704) ![0, 0, 0] ![8, 8, 704] inb_S8x8x704_S8x8x704_0_0_0, k0_pay1 (F := Ideal)⟩] [7, 3, 6, 2, 5, 1, 4, 0] (by revert j; decide)
  · rw [outsAt0_B m c t h0]
    frame_out
    try simp only [read_unread_whole]
    simp (disch := first | decide | (intro a; fin_cases a <;> rfl)) only [View.readCov_cons_toLoadRect, ↓View.readCov_skip, ↓View.readCov_fill]
    simp only [last_rows, same_rows]
    simp only [blk_fields m c t]
    exact canon_slabs (e := .f32) inb_halo (fun j => last (F := Ideal) (uS (blk m c t) j)) j r q [] [7, 3, 6, 2, 5, 1, 4, 0] (by revert j; decide)

theorem fac_out (t : Fin cfg0.N) (j : Fin 8) (p : Fin 256) (q : Fin 704) : ((outsAt0 m c t.val t.isLt).2.2.1 : FVec Ideal S8x256x704 .bf16) (ix3 j p q)
    = facS (blk m c t) (before m c t) j (ix3 0 p q) := by
  by_cases h0 : t.val % 32 = 0
  · unfold before
    rw [dif_pos h0, outsAt0_A m c t h0]
    frame_out
    simp (disch := first | decide | (intro a; fin_cases a <;> rfl)) only [View.readCov_cons_toLoadRect, ↓View.readCov_skip, ↓View.readCov_fill]
    simp only [blk_fields m c t]
    exact canon_slabs (e := .bf16) inb_rows (facS (blk m c t) k0_pay1) j p q [] [7, 3, 6, 2, 5, 1, 4, 0] (by revert j; decide)
  · unfold before
    rw [dif_neg h0, outsAt0_B m c t h0]
    frame_out
    try simp only [read_unread_whole]
    simp (disch := first | decide | (intro a; fin_cases a <;> rfl)) only [View.readCov_cons_toLoadRect, ↓View.readCov_skip, ↓View.readCov_fill]
    simp only [blk_fields m c t]
    exact canon_slabs (e := .bf16) inb_rows (facS (blk m c t) (outsAt0 m c (t.val - 1) (by omega)).2.2.2.2.2) j p q [] [7, 3, 6, 2, 5, 1, 4, 0] (by revert j; decide)

theorem act_out (t : Fin cfg0.N) (k : Fin 4) (p : Fin 256) (q : Fin 704) : ((outsAt0 m c t.val t.isLt).2.2.2.1 : FVec Ideal S4x256x704 .bf16) (ix3 k p q)
    = actS (blk m c t) (before m c t) k (ix3 0 p q) := by
  by_cases h0 : t.val % 32 = 0
  · unfold before
    rw [dif_pos h0, outsAt0_A m c t h0]
    frame_out
    simp (disch := first | decide | (intro a; fin_cases a <;> rfl)) only [View.readCov_cons_toLoadRect, ↓View.readCov_skip, ↓View.readCov_fill]
    simp only [blk_fields m c t]
    exact canon_slabs (e := .bf16) inb_act (actS (blk m c t) k0_pay1) k p q [] [3, 2, 1, 0] (by revert k; decide)
  · unfold before
    rw [dif_neg h0, outsAt0_B m c t h0]
    frame_out
    try simp only [read_unread_whole]
    simp (disch := first | decide | (intro a; fin_cases a <;> rfl)) only [View.readCov_cons_toLoadRect, ↓View.readCov_skip, ↓View.readCov_fill]
    simp only [blk_fields m c t]
    exact canon_slabs (e := .bf16) inb_act (actS (blk m c t) (outsAt0 m c (t.val - 1) (by omega)).2.2.2.2.2) k p q [] [3, 2, 1, 0] (by revert k; decide)

/-- The stream after the layer. -/
theorem x2_out (t : Fin cfg0.N) : ((outsAt0 m c t.val t.isLt).2.2.2.2.1 : FVec Ideal S256x1024 .f32) = yS (blk m c t) (before m c t) := by
  by_cases h0 : t.val % 32 = 0
  · unfold before
    rw [dif_pos h0, outsAt0_A m c t h0]
    frame_out
    simp (disch := first | decide | (intro a; fin_cases a <;> rfl)) only [View.readCov_cons_toLoadRect, ↓View.readCov_skip, ↓View.readCov_fill]
    simp only [blk_fields m c t]
    rfl
  · unfold before
    rw [dif_neg h0, outsAt0_B m c t h0]
    frame_out
    try simp only [read_unread_whole]
    simp (disch := first | decide | (intro a; fin_cases a <;> rfl)) only [View.readCov_cons_toLoadRect, ↓View.readCov_skip, ↓View.readCov_fill]
    simp only [blk_fields m c t]
    rfl

end Cert.Kernel7Ideal.Point

end
-- ==== Proof.FirstHost.lean ====
/-
  WHAT THE FIRST LAYER'S FEED-FORWARD READS, AND WHAT IT CARRIES: every grid point's row block reads the arguments, and the rows before
  it are the last ones of the point before.
-/
module

public import proofs.«01_k».proof.Proof.FirstOuts
public import proofs.«01_k».proof.Proof.HeadHost

@[expose] public section

set_option maxRecDepth 16384

noncomputable section

open Idealize.ShloMosaic Idealize.ShloMosaic.TcCoe Idealize.SL.Sem

namespace Cert.Kernel7Ideal.Point

open Cert.Kernel7Ideal Cert.Kernel7Ideal.Gen Cert.Mix Cert.Ffn Cert.Head Cert.Forward
open Cert.Kernel2Ideal.Point (r8)
open Cert.Kernel4Ideal.Point (slab)
open Cert.Kernel5Ideal.Point (padded_at)

variable (m : (ℓ : Loc nD τ sig) → Buf (Elt Ideal) ℓ) (c : Dev nD)

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = 0 ∧ win0_3.index t 1 = 0 ∧ win0_3.index t 2 = 0)
    ∧ (win0_4.index t 0 = 0 ∧ win0_4.index t 1 = 0 ∧ win0_4.index t 2 = 0) ∧ (win0_5.index t 0 = t.val ∧ win0_5.index t 1 = 0)
    ∧ (win0_6.index t 0 = 0 ∧ win0_6.index t 1 = t.val ∧ win0_6.index t 2 = 0) ∧ (win0_7.index t 0 = 0 ∧ win0_7.index t 1 = t.val ∧ win0_7.index t 2 = 0)
    ∧ (win0_8.index t 0 = 0 ∧ win0_8.index t 1 = t.val ∧ win0_8.index t 2 = 0) ∧ (win0_9.index t 0 = t.val ∧ win0_9.index t 1 = 0) :=
  (by decide +kernel : ∀ t : Fin grid0.N, _)

/-- The first row of point `t`'s block. -/
abbrev R7 (t : Fin cfg0.N) : ℕ := t.val * 256

/-! ## The arrays -/

theorem host_x (r : Fin 8192) (q : Fin 1024) : (V m c main_v5 : FVec Ideal S8192x1024 .f32) (ix2 r q) = m ((c : Thread nD τ).loc main_arg0) (ix3 (bb r.val) (ss r.val) q) := by
  unfold V; after_reads_simp; pointwise
  refine congrArg (m ((c : Thread nD τ).loc main_arg0)) (congrArg₂ (fun a b => ix3 a b q) (Fin.ext ?_) (Fin.ext rfl))
  show r.val / 2048 = r.val / 2048 % 4
  omega

theorem host_g (q : Fin 1024) : (V m c main_v6 : FVec Ideal S1x1024 .f32) (ix2 0 q) = m ((c : Thread nD τ).loc main_arg1) (ix1 q) := by
  unfold V; after_reads_simp; pointwise

theorem host_wd (k : Fin 4) (q : Fin 704) (i : Fin 1024) : (V m c main_v4 : FVec Ideal S4x704x1024 .bf16) (ix3 k q i) = m ((c : Thread nD τ).loc main_arg4) (ix2 (gcol k q) i) := by
  unfold V; after_reads_simp; pointwise
  rfl

theorem host_wu (j : Fin 8) (q : Fin 704) (i : Fin 1024) : (V m c main_v2 : FVec Ideal S8x704x1024 .bf16) (ix3 j q i) = m ((c : Thread nD τ).loc main_arg2) (ix2 i (col j q)) := by
  unfold V; after_reads_simp; pointwise
  rfl

theorem host_cw (j : Fin 8) (i : Fin 3) (q : Fin 704) : (V m c main_v9 : FVec Ideal S8x8x704 .f32) (ix3 j (r8 i) q) = m ((c : Thread nD τ).loc main_arg3) (ix2 i (col j q)) := by
  unfold V; after_reads_simp
  exact padded_at (m ((c : Thread nD τ).loc main_arg3)) j i q

/-! ## The blocks -/

variable (t : Fin cfg0.N)

theorem blk_x (p : Fin 256) (q : Fin 1024) (r : Fin 8192) (hr : r.val = R7 t + p.val) :
    (iblk m c 0 t : FVec Ideal S256x1024 .f32) (ix2 p q) = (V m c main_v5 : FVec Ideal S8192x1024 .f32) (ix2 r q) := by
  obtain ⟨⟨e0, e1⟩, -⟩ := idx t
  unfold iblk; blk_simp; blk_ext
  all_goals first | (rw [e0]; exact hr.symm) | (rw [e1]; omega)

theorem blk_g (z : Fin 1) (q : Fin 1024) : (iblk m c 1 t : FVec Ideal S1x1024 .f32) (ix2 z q) = (V m c main_v6 : FVec Ideal S1x1024 .f32) (ix2 z q) := by
  obtain ⟨-, ⟨e0, e1⟩, -⟩ := idx t
  unfold iblk; blk_simp; blk_ext
  all_goals first | (rw [e0]; omega) | (rw [e1]; omega)

theorem blk_wu (j : Fin 8) (q : Fin 704) (i : Fin 1024) : (iblk m c 2 t : FVec Ideal S8x704x1024 .bf16) (ix3 j q i) = (V m c main_v2 : FVec Ideal S8x704x1024 .bf16) (ix3 j q i) := by
  obtain ⟨-, -, ⟨e0, e1, e2⟩, -⟩ := idx t
  unfold iblk; blk_simp; blk_ext
  all_goals first | (rw [e0]; omega) | (rw [e1]; omega) | (rw [e2]; omega)

theorem blk_wd (k : Fin 4) (q : Fin 704) (i : Fin 1024) : (iblk m c 3 t : FVec Ideal S4x704x1024 .bf16) (ix3 k q i) = (V m c main_v4 : FVec Ideal S4x704x1024 .bf16) (ix3 k q i) := by
  obtain ⟨-, -, -, ⟨e0, e1, e2⟩, -⟩ := idx t
  unfold iblk; blk_simp; blk_ext
  all_goals first | (rw [e0]; omega) | (rw [e1]; omega) | (rw [e2]; omega)

theorem blk_cw (j r : Fin 8) (q : Fin 704) : (iblk m c 4 t : FVec Ideal S8x8x704 .f32) (ix3 j r q) = (V m c main_v9 : FVec Ideal S8x8x704 .f32) (ix3 j r q) := by
  obtain ⟨-, -, -, -, ⟨e0, e1, e2⟩, -⟩ := idx t
  unfold iblk; blk_simp; blk_ext
  all_goals first | (rw [e0]; omega) | (rw [e1]; omega) | (rw [e2]; omega)

/-- EVERY GRID POINT READS THE ARGUMENTS. -/
theorem reads : Reads (m ((c : Thread nD τ).loc main_arg0)) (m ((c : Thread nD τ).loc main_arg1)) (m ((c : Thread nD τ).loc main_arg2)) (m ((c : Thread nD τ).loc main_arg3))
    (m ((c : Thread nD τ).loc main_arg4)) (R7 t) (blk m c t) where
  row := by unfold R7; omega
  keep := Cert.Kernel5Ideal.Point.keep_at t
  x p q := (blk_x m c t p q ⟨R7 t + p.val, by have : t.val < 32 := t.isLt; unfold R7; omega⟩ rfl).trans (host_x m c _ q)
  g q := (blk_g m c t 0 q).trans (host_g m c q)
  wu j q i := (slab _ j _ q i).trans ((blk_wu m c t j q i).trans (host_wu m c j q i))
  wd k q i := (slab _ k _ q i).trans ((blk_wd m c t k q i).trans (host_wd m c k q i))
  cw j i q := (slab _ j _ (r8 i) q).trans ((blk_cw m c t j (r8 i) q).trans (host_cw m c j i q))

/-- What the point before carried over. -/
theorem carried : Carried (m ((c : Thread nD τ).loc main_arg0)) (m ((c : Thread nD τ).loc main_arg1)) (m ((c : Thread nD τ).loc main_arg2)) (R7 t) (before m c t) := fun h => by
  have hN : t.val < 32 := t.isLt
  have h0 : ¬ t.val % 32 = 0 := fun h' => h (by unfold R7; omega)
  have e : R7 (⟨t.val - 1, by omega⟩ : Fin cfg0.N) + 256 = R7 t := by show (t.val - 1) * 256 + 256 = t.val * 256; omega
  unfold before
  rw [dif_neg h0]
  exact (e ▸ carried_next (reads m c ⟨t.val - 1, by omega⟩) fun j r q => carry_out m c ⟨t.val - 1, by omega⟩ j r q) h

end Cert.Kernel7Ideal.Point

end
-- ==== Proof.FirstValue.lean ====
/-
  THE FIRST LAYER'S FEED-FORWARD, ITS FIVE RESULTS AS WHOLE ARRAYS, written block by block over the thirty-two row blocks. The two
  layers' references compute their forward alike, so the arrays are stated in the values of the last layer's.
-/
module

public import proofs.«01_k».proof.Proof.FirstHost
public import proofs.«01_k».proof.Proof.HeadRef
public import proofs.«01_k».proof.Proof.Gen.Reference7Ideal.Read

@[expose] public section

set_option maxRecDepth 16384

noncomputable section

open Idealize.ShloMosaic Idealize.ShloMosaic.TcCoe Idealize.SL.Sem

open Idealize.ShloMosaic.Pipeline (Dat)

namespace Cert.Kernel7Ideal.Point

open Cert.Kernel7Ideal Cert.Kernel7Ideal.Gen Cert.Reals Cert.Mix Cert.Ffn Cert.Head Cert.Forward
open Cert.Reference5Ideal.Read

variable (m : (ℓ : Loc nD τ sig) → Buf (Elt Ideal) ℓ) (c : Dev nD)

/-! ## The arguments -/

abbrev X0 : FVec Ideal S4x2048x1024 .f32 := m ((c : Thread nD τ).loc main_arg0)
abbrev X1 : FVec Ideal S1024 .f32 := m ((c : Thread nD τ).loc main_arg1)
abbrev X2 : FVec Ideal S1024x5632 .f32 := m ((c : Thread nD τ).loc main_arg2)
abbrev X3 : FVec Ideal S3x5632 .f32 := m ((c : Thread nD τ).loc main_arg3)
abbrev X4 : FVec Ideal S2816x1024 .f32 := m ((c : Thread nD τ).loc main_arg4)

/-! ## The results -/

/-- The stream after the layer, row by row. -/
theorem stream_at {x0 : FVec Ideal S4x2048x1024 .f32} {x1 : FVec Ideal S1024 .f32} {x2 : FVec Ideal S1024x5632 .f32} {x3 : FVec Ideal S3x5632 .f32} {x4 : FVec Ideal S2816x1024 .f32} (r : Fin 8192) (q : Fin 1024) :
    Cert.Reference7Ideal.Read.val_main_v59 (F := Ideal) x0 x1 x2 x3 x4 (ix2 r q) = val_main_v45 (F := Ideal) x0 x1 x2 x3 x4 (ix3 (bb r.val) (ss r.val) q) := by
  pointwise [Cert.Reference7Ideal.Read.val_main_v59]
  rw [← Cert.Reference5Ideal.Point.row_eq]
  rfl

theorem h_array : (dats m 0 c).arrAt 5 cfg0.N = val_main_v99 (F := Ideal) (X0 m c) (X1 m c) := by
  refine (dats m 0 c).arrAt_eq_of_covers 5 _ (by decide +kernel) fun t hf j => ?_
  blk_simp
  rw [after0_5, h_out]
  have ht : t.val < 32 := t.isLt
  obtain ⟨-, -, -, -, -, ⟨e0, e1⟩, -⟩ := idx t
  idx_vars j
  refine (hS_at (reads m c t) j0 j1).trans ?_
  refine (Cert.Reference5Ideal.Point.hR (⟨t.val * 256 + j0.val, by omega⟩ : Fin 8192) j1).symm.trans (congrArg _ ?_)
  blk_ext
  all_goals first | (rw [e0]) | (rw [e1]; omega)

theorem up_array : (dats m 0 c).arrAt 6 cfg0.N = val_main_v102 (F := Ideal) (X0 m c) (X1 m c) (X2 m c) := by
  refine (dats m 0 c).arrAt_eq_of_covers 6 _ (by decide +kernel) fun t hf j => ?_
  blk_simp
  rw [after0_6]
  have ht : t.val < 32 := t.isLt
  obtain ⟨-, -, -, -, -, -, ⟨e0, e1, e2⟩, -⟩ := idx t
  idx_vars j
  refine (up_out m c t j0 j1 j2).trans ((uS_at (reads m c t) j1 j0 j2).trans ?_)
  refine (Cert.Reference5Ideal.Point.upR j0 (⟨t.val * 256 + j1.val, by omega⟩ : Fin 8192) j2).symm.trans (congrArg _ ?_)
  blk_ext
  all_goals first | (rw [e0]; omega) | (rw [e1]) | (rw [e2]; omega)

theorem act_array : (dats m 0 c).arrAt 8 cfg0.N = val_main_v109 (F := Ideal) (X0 m c) (X1 m c) (X2 m c) (X3 m c) := by
  refine (dats m 0 c).arrAt_eq_of_covers 8 _ (by decide +kernel) fun t hf j => ?_
  blk_simp
  rw [after0_8]
  have ht : t.val < 32 := t.isLt
  obtain ⟨-, -, -, -, -, -, -, -, ⟨e0, e1, e2⟩, -⟩ := idx t
  idx_vars j
  refine (act_out m c t j0 j1 j2).trans ((actS_at (reads m c t) j1 (carried m c t) j0 j2).trans ?_)
  refine (Cert.Reference5Ideal.Point.actR j0 (⟨t.val * 256 + j1.val, by omega⟩ : Fin 8192) j2).symm.trans (congrArg _ ?_)
  blk_ext
  all_goals first | (rw [e0]; omega) | (rw [e1]) | (rw [e2]; omega)

theorem fac_array (hG : ∀ b s k, IsR (val_main_v36 (F := Ideal) (X0 m c) (X1 m c) (X2 m c) (X3 m c) (ix3 b s k))) (hV : ∀ b s k, IsR (val_main_v37 (F := Ideal) (X0 m c) (X1 m c) (X2 m c) (X3 m c) (ix3 b s k))) : (dats m 0 c).arrAt 7 cfg0.N = val_main_v106 (F := Ideal) (X0 m c) (X1 m c) (X2 m c) (X3 m c) := by
  refine (dats m 0 c).arrAt_eq_of_covers 7 _ (by decide +kernel) fun t hf j => ?_
  blk_simp
  rw [after0_7]
  have ht : t.val < 32 := t.isLt
  obtain ⟨-, -, -, -, -, -, -, ⟨e0, e1, e2⟩, -⟩ := idx t
  idx_vars j
  refine (fac_out m c t j0 j1 j2).trans ((facS_at (reads m c t) j1 (carried m c t) hG hV j0 j2).trans ?_)
  refine (Cert.Reference5Ideal.Point.facR j0 (⟨t.val * 256 + j1.val, by omega⟩ : Fin 8192) j2).symm.trans (congrArg _ ?_)
  blk_ext
  all_goals first | (rw [e0]; omega) | (rw [e1]) | (rw [e2]; omega)

theorem x2_array : (dats m 0 c).arrAt 9 cfg0.N = Cert.Reference7Ideal.Read.val_main_v59 (F := Ideal) (X0 m c) (X1 m c) (X2 m c) (X3 m c) (X4 m c) := by
  refine (dats m 0 c).arrAt_eq_of_covers 9 _ (by decide +kernel) fun t hf j => ?_
  blk_simp
  rw [after0_9, x2_out]
  have ht : t.val < 32 := t.isLt
  obtain ⟨-, -, -, -, -, -, -, -, -, ⟨e0, e1⟩⟩ := idx t
  idx_vars j
  refine (yS_at (reads m c t) j0 (carried m c t) j1).trans ?_
  refine (stream_at (⟨t.val * 256 + j0.val, by omega⟩ : Fin 8192) j1).symm.trans (congrArg _ ?_)
  blk_ext
  all_goals first | (rw [e0]) | (rw [e1]; omega)

end Cert.Kernel7Ideal.Point

end
-- ==== Proof.Pair7.lean ====
/-
  THE SEVENTH PAIR: the first layer's feed-forward (norm, projection, causal convolution, gated product and its factors, second
  projection) against the forward lines and `jax.vjp` of the gated product. The precondition makes the four arguments the gate's factors
  are computed from real; the second projection's weights may be anything.
-/
module

public import proofs.«01_k».proof.Defs
public import proofs.«01_k».proof.Proof.Gen.Pre_finite7
public import proofs.«01_k».proof.Proof.Gen.Kernel7Ideal.Value
public import proofs.«01_k».proof.Proof.FirstValue
public import proofs.«01_k».proof.Proof.Finite
public import Idealize.ShloMosaic.Lib.Claim

@[expose] public section

set_option maxRecDepth 16384

noncomputable section

open Idealize.ShloMosaic Idealize.ShloMosaic.TcCoe Idealize.SL.Sem

namespace Cert.Pair7

open Cert.Reals Cert.Kernel7Ideal
open Cert.Reference5Ideal.Read (val_main_v36 val_main_v37)

variable {x0 : FVec Ideal S4x2048x1024 .f32} {x1 : FVec Ideal S1024 .f32} {x2 : FVec Ideal S1024x5632 .f32} {x3 : FVec Ideal S3x5632 .f32}
  {x4 : FVec Ideal S2816x1024 .f32}

/-- The precondition: the gate and the value are real. -/
theorem reals (h : Cert.Pre_finite7.fn (F := Ideal) x0 x1 x2 x3 x4 = fun _ => 1#1) :
    (∀ b s k, IsR (val_main_v36 (F := Ideal) x0 x1 x2 x3 (ix3 b s k))) ∧ ∀ b s k, IsR (val_main_v37 (F := Ideal) x0 x1 x2 x3 (ix3 b s k)) := by
  have h0 := congrFun h ix0
  unfold Cert.Pre_finite7.fn at h0
  obtain ⟨h2, e3⟩ := IntOp.andi_eq_one.1 h0
  obtain ⟨h1, e2⟩ := IntOp.andi_eq_one.1 h2
  obtain ⟨e0, e1⟩ := IntOp.andi_eq_one.1 h1
  have r0 := isR_of_finite (finite_of_all x0 _ _ _ _ e0)
  have r1 := isR_of_finite (finite_of_all x1 _ _ _ _ e1)
  have r2 := isR_of_finite (finite_of_all x2 _ _ _ _ e2)
  have r3 := isR_of_finite (finite_of_all x3 _ _ _ _ e3)
  exact ⟨Cert.Reference5Ideal.Point.real_gate r0 r1 r2 r3, Cert.Reference5Ideal.Point.real_val r0 r1 r2 r3⟩

/-- For real inputs the kernel's five results are the reference's. -/
theorem algebraic : Cert.algebraic_Kernel7Ideal_Reference7Ideal_pre_finite7 := by
  pair_intro
  · run_from Cert.Kernel7Ideal.Value.run_blocks m g
  · run_from Cert.Reference7Ideal.Value.run m' g'
    · obtain ⟨e0, e1, -⟩ := hagree c
      have e := Cert.Reference7Ideal.Read.val_main_v48_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      simp only [e0, e1] at e ⊢
      exact e.trans (Cert.Kernel7Ideal.Point.h_array m c).symm
    · obtain ⟨e0, e1, e2, -⟩ := hagree c
      have e := Cert.Reference7Ideal.Read.val_main_v51_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2))
      simp only [e0, e1, e2] at e ⊢
      exact e.trans (Cert.Kernel7Ideal.Point.up_array m c).symm
    · obtain ⟨hG, hV⟩ := reals (hpre c)
      obtain ⟨e0, e1, e2, e3, -⟩ := hagree c
      have e := Cert.Reference7Ideal.Read.val_main_v55_eq (F := Ideal) m' c
      simp only [e0, e1, e2, e3] at e
      exact e.trans (Cert.Kernel7Ideal.Point.fac_array m c hG hV).symm
    · obtain ⟨e0, e1, e2, e3, -⟩ := hagree c
      have e := Cert.Reference7Ideal.Read.val_main_v58_eq (F := Ideal) m' c
      simp only [e0, e1, e2, e3] at e
      exact e.trans (Cert.Kernel7Ideal.Point.act_array m c).symm
    · obtain ⟨e0, e1, e2, e3, e4⟩ := hagree c
      have e := Cert.Reference7Ideal.Read.val_main_v59_eq (F := Ideal) m' c
      simp only [e0, e1, e2, e3, e4] at e
      exact e.trans (Cert.Kernel7Ideal.Point.x2_array m c).symm

end Cert.Pair7

end
-- ==== Proof.WeightValue.lean ====
/-
  THE GRADIENT OF THE MIXER'S INPUT WEIGHTS, READ POINTWISE. The grid runs over four blocks of columns and, inside each, over four
  blocks of rows; the products of a row block are added to what the row blocks before it left, and the last one writes the two shards
  that share the column block.
-/
module

public import proofs.«01_k».proof.Proof.Gen.Kernel8Ideal.Value
public import proofs.«01_k».proof.Proof.Gen.Reference8Ideal.Read
public import proofs.«01_k».proof.Proof.FfnOuts
public import proofs.«01_k».proof.Proof.MfwValue

@[expose] public section

set_option maxRecDepth 16384

noncomputable section

open Idealize.ShloMosaic Idealize.ShloMosaic.TcCoe Idealize.SL.Sem

namespace Cert.Kernel8Ideal.Point

open Cert.Kernel8Ideal Cert.Kernel8Ideal.Gen Cert.Mix
open Cert.Reference8Ideal.Read
open Cert.Kernel6Ideal.Point (flat_at)
open Cert.Kernel4Ideal.Point (canon_slabs)

variable (m : (ℓ : Loc nD τ sig) → Buf (Elt Ideal) ℓ) (c : Dev nD)

theorem idx : ∀ t : Fin cfg0.N, (win0_0.index t 0 = t.val % 4 ∧ win0_0.index t 1 = 0) ∧ (win0_1.index t 0 = t.val % 4 ∧ win0_1.index t 1 = t.val / 4)
    ∧ (win0_2.index t 0 = t.val / 4 ∧ win0_2.index t 1 = 0 ∧ win0_2.index t 2 = 0) :=
  (by decide +kernel : ∀ t : Fin grid0.N, _)

/-- The normed rows and the gradient of the projection. -/
abbrev hS : FVec Ideal S4x2048x1024 .f32 := val_main_v12 (F := Ideal) (m ((c : Thread nD τ).loc main_arg0)) (m ((c : Thread nD τ).loc main_arg1))
abbrev dS : FVec Ideal S4x2048x7168 .f32 := m ((c : Thread nD τ).loc main_arg3)

theorem host_h (r : Fin 8192) (q : Fin 1024) : (V m c main_v14 : FVec Ideal S8192x1024 .bf16) (ix2 r q) = hS m c (ix3 (bb r.val) (ss r.val) q) := by
  unfold V; after_reads_simp
  exact flat_at (x := hS m c) _ r q

theorem host_d (r : Fin 8192) (k : Fin 7168) : (V m c main_v16 : FVec Ideal S8192x7168 .bf16) (ix2 r k) = dS m c (ix3 (bb r.val) (ss r.val) k) := by
  unfold V; after_reads_simp; pointwise
  refine congrArg (m ((c : Thread nD τ).loc main_arg3)) (congrArg₂ (fun a b => ix3 a b k) (Fin.ext ?_) (Fin.ext rfl))
  show r.val / 2048 = r.val / 2048 % 4
  omega

/-- Column `l` of the column block of point `n`. -/
def col (n : ℕ) (l : Fin 1792) : Fin 7168 := ⟨n / 4 % 4 * 1792 + l.val, by omega⟩

theorem h_at (t : Fin cfg0.N) (k : Fin 2048) (p : Fin 1024) :
    (iblk m c 0 t : FVec Ideal S2048x1024 .bf16) (ix2 k p) = hS m c (ix3 (bb (t.val % 4 * 2048 + k.val)) (ss (t.val % 4 * 2048 + k.val)) p) := by
  obtain ⟨⟨e0, e1⟩, -⟩ := idx t
  rw [← host_h m c (⟨t.val % 4 * 2048 + k.val, by omega⟩ : Fin 8192) p]
  unfold iblk; blk_simp; blk_ext
  all_goals first | (rw [e0]) | (rw [e1]; omega)

theorem d_at (t : Fin cfg0.N) (k : Fin 2048) (l : Fin 1792) :
    (iblk m c 1 t : FVec Ideal S2048x1792 .bf16) (ix2 k l) = dS m c (ix3 (bb (t.val % 4 * 2048 + k.val)) (ss (t.val % 4 * 2048 + k.val)) (col t.val l)) := by
  have ht : t.val < 16 := t.isLt
  obtain ⟨-, ⟨e0, e1⟩, -⟩ := idx t
  rw [← host_d m c (⟨t.val % 4 * 2048 + k.val, by omega⟩ : Fin 8192) (col t.val l)]
  unfold iblk; blk_simp; blk_ext
  all_goals first | (rw [e0]) | (rw [e1]; show t.val / 4 * 1792 + l.val = t.val / 4 % 4 * 1792 + l.val; omega)

/-! ## The running sum -/

/-- What row `r` of the batch gives to entry `(p, k)` of the gradient. -/
def term (p : Fin 1024) (k : Fin 7168) (r : ℕ) : EReal := hS m c (ix3 (bb r) (ss r) p) * dS m c (ix3 (bb r) (ss r) k)

/-- The products of one point. -/
theorem part_at (t : Fin cfg0.N) (p : Fin 1024) (l : Fin 1792) : (k0_pay1 (F := Ideal) (iblk m c 0 t) (iblk m c 1 t) : FVec Ideal S1024x1792 .f32) (ix2 p l)
    = ∑ k ∈ Finset.range 2048, term m c p (col t.val l) (t.val % 4 * 2048 + k) := by
  pointwise [k0_pay1]
  rw [Finset.sum_range]
  exact Finset.sum_congr rfl fun k _ => congrArg₂ (· * ·) (h_at m c t k p) (d_at m c t k l)

/-- At the first row block of a column block the kernel keeps that block's products. -/
theorem acc_first (t : Fin cfg0.N) (h : t.val % 4 = 0) (p : Fin 1024) (l : Fin 1792) :
    ((outsAt0 m c t.val t.isLt).2 : FVec Ideal S1024x1792 .f32) (ix2 p l) = ∑ k ∈ Finset.range 2048, term m c p (col t.val l) k := by
  rw [outsAt0_A m c t h (by omega) (by omega)]
  frame_out
  pointwise [k0_pay2]
  rw [part_at m c t p l, h]
  simp

/-- What it carries after point `n`, before the last row block: the products of the rows seen in this column block. -/
theorem acc_at : ∀ (n : ℕ) (hn : n < cfg0.N) (p : Fin 1024) (l : Fin 1792), n % 4 ≠ 3 →
    ((outsAt0 m c n hn).2 : FVec Ideal S1024x1792 .f32) (ix2 p l) = ∑ k ∈ Finset.range ((n % 4 + 1) * 2048), term m c p (col n l) k := by
  intro n
  induction n with
  | zero =>
    intro hn p l h3
    rw [acc_first m c ⟨0, hn⟩ rfl p l]
  | succ n ih =>
    intro hn p l h3
    by_cases h : (n + 1) % 4 = 0
    · rw [acc_first m c ⟨n + 1, hn⟩ h p l, h]
    · rw [outsAt0_B m c ⟨n + 1, hn⟩ h (by dsimp only; omega) h3]
      frame_out
      simp only [read_unread_whole]
      pointwise [k0_pay3]
      rw [part_at m c ⟨n + 1, hn⟩ p l]
      have e1 : col (n + 1) l = col n l := Fin.ext (by show (n + 1) / 4 % 4 * 1792 + l.val = n / 4 % 4 * 1792 + l.val; omega)
      have e2 : (n + 1) % 4 = n % 4 + 1 := by omega
      refine (congrArg (· + _) (ih (by omega) p l (by omega))).trans ?_
      dsimp only
      rw [e1, e2, show (n % 4 + 1 + 1) * 2048 = (n % 4 + 1) * 2048 + 2048 by omega, Finset.sum_range_add]

theorem inb_shard (z : Fin 2) : ∀ a, (![z.val, 0, 0] : Fin 3 → Nat) a + S1x1024x896.size a ≤ S2x1024x896.size a := by
  revert z; decide

/-- The two stores of the last row block, by shard. -/
def last (t : Fin cfg0.N) (A : FVec Ideal S1024x1792 .f32) (z : Fin 2) : FVec Ideal S1x1024x896 .bf16 :=
  match z with
  | 0 => k0_pay5 (iblk m c 0 t) (iblk m c 1 t) A
  | 1 => k0_pay6 (iblk m c 0 t) (iblk m c 1 t) A

theorem last_at (t : Fin cfg0.N) (A : FVec Ideal S1024x1792 .f32) (z : Fin 2) (p : Fin 1024) (l : Fin 896) :
    last m c t A z (ix3 0 p l) = A (ix2 p (⟨z.val * 896 + l.val, by omega⟩ : Fin 1792))
      + (k0_pay1 (F := Ideal) (iblk m c 0 t) (iblk m c 1 t) : FVec Ideal S1024x1792 .f32) (ix2 p (⟨z.val * 896 + l.val, by omega⟩ : Fin 1792)) := by
  match z with
  | 0 =>
    unfold last
    simp only
    generalize hB : (k0_pay1 (F := Ideal) (iblk m c 0 t) (iblk m c 1 t) : FVec Ideal S1024x1792 .f32) = B
    unfold k0_pay5 k0_pay4
    rw [hB]
    pointwise
  | 1 =>
    unfold last
    simp only
    generalize hB : (k0_pay1 (F := Ideal) (iblk m c 0 t) (iblk m c 1 t) : FVec Ideal S1024x1792 .f32) = B
    unfold k0_pay6 k0_pay4
    rw [hB]
    pointwise

/-- What the last row block of a column block writes: the sum over all rows. -/
theorem out_at (t : Fin cfg0.N) (h : t.val % 4 = 3) (z : Fin 2) (p : Fin 1024) (l : Fin 896) :
    ((outsAt0 m c t.val t.isLt).1 : FVec Ideal S2x1024x896 .bf16) (ix3 z p l)
      = ∑ k ∈ Finset.range 8192, term m c p (col t.val (⟨z.val * 896 + l.val, by omega⟩ : Fin 1792)) k := by
  have ht : t.val < 16 := t.isLt
  have e : ((outsAt0 m c t.val t.isLt).1 : FVec Ideal S2x1024x896 .bf16) (ix3 z p l)
      = last m c t (outsAt0 m c (t.val - 1) (by omega)).2 z (ix3 0 p l) := by
    rw [outsAt0_C m c t (by omega) (by omega) h]
    frame_out
    try simp only [read_unread_whole]
    exact canon_slabs (e := .bf16) inb_shard (last m c t (outsAt0 m c (t.val - 1) (by omega)).2) z p l [] [1, 0] (by revert z; decide)
  rw [e, last_at, part_at, acc_at m c (t.val - 1) _ p _ (by omega), h]
  have e1 : ∀ l, col (t.val - 1) l = col t.val l := fun l => Fin.ext (by show (t.val - 1) / 4 % 4 * 1792 + l.val = t.val / 4 % 4 * 1792 + l.val; omega)
  have e2 : (t.val - 1) % 4 = 2 := by omega
  rw [e1, e2, ← Finset.sum_range_add]

/-! ## The whole array -/

/-- The reference's product, over the batch and the positions. -/
theorem dot_at (D : FVec Ideal S4x2048x7168 .f32) (H : FVec Ideal S4x2048x1024 .f32) (k : Fin 7168) (p : Fin 1024) :
    (Host.dotGeneral Cert.Reference8Ideal.dot_S4x2048x7168_S4x2048x1024_S7168x1024_01_01_2_2_n_n none D H : FVec Ideal Cert.Reference8Ideal.S7168x1024 .f32) (ix2 k p)
      = ∑ b : Fin 4, ∑ s : Fin 2048, D (ix3 b s k) * H (ix3 b s p) := by
  pointwise

theorem ref_at (a : Fin 8) (p : Fin 1024) (l : Fin 896) (k : Fin 7168) (hk : k.val = a.val * 896 + l.val) :
    (val_main_v18 (F := Ideal) (m ((c : Thread nD τ).loc main_arg0)) (m ((c : Thread nD τ).loc main_arg1)) (m ((c : Thread nD τ).loc main_arg3)) : FVec Ideal S8x1024x896 .bf16) (ix3 a p l)
      = ∑ r ∈ Finset.range 8192, term m c p k r := by
  rw [val_main_v18_apply, val_main_v17_apply, val_main_v16_apply, val_main_v15_apply]
  refine Eq.trans (b := val_main_v14 (F := Ideal) (m ((c : Thread nD τ).loc main_arg0)) (m ((c : Thread nD τ).loc main_arg1)) (m ((c : Thread nD τ).loc main_arg3)) (ix2 k p)) ?_ ?_
  · refine congrArg (val_main_v14 (F := Ideal) (m ((c : Thread nD τ).loc main_arg0)) (m ((c : Thread nD τ).loc main_arg1)) (m ((c : Thread nD τ).loc main_arg3))) (funext fun x => Fin.ext ?_)
    rcases x with ⟨_ | _ | x, hx⟩
    · show ((p.val * 8 + a.val) * 896 + l.val) % 7168 = k.val
      omega
    · show ((p.val * 8 + a.val) * 896 + l.val) / 7168 = p.val
      omega
    · exact absurd hx (by show ¬ x + 2 < 2; omega)
  · refine (dot_at (dS m c) (hS m c) k p).trans ?_
    rw [Finset.sum_range]
    refine (Fin.sum_divmod_congr (S := 2048) fun r ha hs => ?_).symm
    unfold term
    rw [mul_comm]
    refine congrArg₂ (· * ·) (congrArg (dS m c) (congrArg₂ (fun a b => ix3 a b k) (Fin.ext ?_) (Fin.ext rfl))) (congrArg (hS m c) (congrArg₂ (fun a b => ix3 a b p) (Fin.ext ?_) (Fin.ext rfl)))
    all_goals
      show r.val / 2048 % 4 = r.val / 2048
      omega

theorem dw_array : (dats m 0 c).arrAt 2 cfg0.N
    = val_main_v18 (F := Ideal) (m ((c : Thread nD τ).loc main_arg0)) (m ((c : Thread nD τ).loc main_arg1)) (m ((c : Thread nD τ).loc main_arg3)) := by
  refine (dats m 0 c).arrAt_eq_of_covers 2 _ (by decide +kernel) fun t hf j => ?_
  blk_simp
  rw [after0_2]
  have ht : t.val < 16 := t.isLt
  obtain ⟨-, -, ⟨e0, e1, e2⟩⟩ := idx t
  have h3 : t.val % 4 = 3 := (flush0_2 t).mp hf
  idx_vars j
  refine (out_at m c t h3 j0 j1 j2).trans ((ref_at m c (⟨t.val / 4 * 2 + j0.val, by omega⟩ : Fin 8) j1 j2 (col t.val (⟨j0.val * 896 + j2.val, by omega⟩ : Fin 1792)) ?_).symm.trans (congrArg (val_main_v18 (F := Ideal) _ _ _) ?_))
  · show t.val / 4 % 4 * 1792 + (j0.val * 896 + j2.val) = (t.val / 4 * 2 + j0.val) * 896 + j2.val
    omega
  · blk_ext
    all_goals first | (rw [e0]) | (rw [e1]; omega) | (rw [e2]; omega)

end Cert.Kernel8Ideal.Point

end
-- ==== Proof.Pair8.lean ====
/-
  THE EIGHTH PAIR: the gradient of the mixer's input weights, shard by shard, against the derivative of the projection. No
  precondition: the two programs form the same sums of the same products.
-/
module

public import proofs.«01_k».proof.Defs
public import proofs.«01_k».proof.Proof.Gen.Reference8Ideal.Run
public import proofs.«01_k».proof.Proof.WeightValue
public import Idealize.ShloMosaic.Lib.Claim

@[expose] public section

set_option maxRecDepth 16384

noncomputable section

open Idealize.ShloMosaic Idealize.ShloMosaic.TcCoe Idealize.SL.Sem

namespace Cert.Pair8

open Cert.Kernel8Ideal

/-- The kernel's result is the reference's. -/
theorem algebraic : Cert.algebraic_Kernel8Ideal_Reference8Ideal := by
  pair_intro
  · run_from Cert.Kernel8Ideal.Value.run_blocks m g
  · run_from Cert.Reference8Ideal.Value.run m' g'
    · obtain ⟨e0, e1, e2, e3⟩ := hagree c
      have e := Cert.Reference8Ideal.Read.val_main_v18_eq (F := Ideal) (m' ((c.tc : Thread Cert.Reference8Ideal.nD Cert.Reference8Ideal.τ).loc Cert.Reference8Ideal.main_arg0))
        (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg3))
      simp only [e0, e1, e3] at e ⊢
      exact e.trans (Cert.Kernel8Ideal.Point.dw_array m c).symm

end Cert.Pair8

end
-- ==== Proof.Pair9.lean ====
/-
  THE NINTH PAIR: the optimiser's step on the small parameters: the kernel's entries against AdamW written over whole arrays. No precondition: the two
  programs do the same operations entry by entry.
-/
module

public import proofs.«01_k».proof.Defs
public import proofs.«01_k».proof.Proof.Gen.Kernel9Ideal.Value
public import proofs.«01_k».proof.Proof.Gen.Reference9Ideal.Read
public import proofs.«01_k».proof.Proof.Gen.Reference9Ideal.Run
public import Idealize.ShloMosaic.Lib.Claim
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Pair9

open Cert.Kernel9Ideal Cert.Reference9Ideal.Read
open Cert.Kernel9Ideal.Value (G4 G5 G6)

variable (g w mm v : FVec Ideal S2048x128 .f32)

/-- The first moment. -/
theorem m_eq : (G5 (F := Ideal) g mm : FVec Ideal S2048x128 .f32) = val_main_v4 (F := Ideal) g mm := by
  funext j
  idx_vars j
  pointwise [val_main_v4, val_main_v3, val_main_v2, val_main_v1, val_main_v0, val_main_cst, val_main_cst_0]

/-- The second moment. -/
theorem v_eq : (G6 (F := Ideal) g v : FVec Ideal S2048x128 .f32) = val_main_v10 (F := Ideal) g v := by
  funext j
  idx_vars j
  pointwise [val_main_v10, val_main_v9, val_main_v8, val_main_v7, val_main_v6, val_main_v5, val_main_cst_1, val_main_cst_2]

/-- The change of the parameters. -/
theorem w_eq : (G4 (F := Ideal) w g mm v : FVec Ideal S2048x128 .f32) = val_main_v23 (F := Ideal) g w mm v := by
  funext j
  idx_vars j
  pointwise [val_main_v23, val_main_v22, val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0, val_main_cst,
    val_main_cst_0, val_main_cst_1, val_main_cst_2, val_main_cst_3, val_main_cst_4, val_main_cst_5, val_main_cst_6, val_main_cst_7]

/-- The kernel's three results are the reference's. -/
theorem algebraic : Cert.algebraic_Kernel9Ideal_Reference9Ideal := by
  pair_intro
  · run_from Cert.Kernel9Ideal.Value.run m g
  · run_from Cert.Reference9Ideal.Value.run m' g'
    · obtain ⟨e0, e1, e2, e3⟩ := hagree c
      have e := val_main_v23_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
      simp only [e0, e1, e2, e3] at e
      exact e.trans (w_eq _ _ _ _).symm
    · obtain ⟨e0, e1, e2, e3⟩ := hagree c
      have e := val_main_v4_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg2))
      simp only [e0, e2] at e
      exact e.trans (m_eq _ _).symm
    · obtain ⟨e0, e1, e2, e3⟩ := hagree c
      have e := val_main_v10_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg3))
      simp only [e0, e3] at e
      exact e.trans (v_eq _ _).symm

end Cert.Pair9

end
-- ==== Proof.Pair10.lean ====
/-
  THE TENTH PAIR: the sum over the devices. The kernel adds the eight parts one after another, the reference sums them along their axis. No
  precondition.
-/
module

public import proofs.«01_k».proof.Defs
public import proofs.«01_k».proof.Proof.Gen.Kernel10Ideal.Value
public import proofs.«01_k».proof.Proof.Gen.Reference10Ideal.Read
public import proofs.«01_k».proof.Proof.Gen.Reference10Ideal.Run
public import Idealize.ShloMosaic.Lib.Claim
public import Idealize.ShloMosaic.Lib.Pointwise
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Pair10

open Cert.Kernel10Ideal Cert.Kernel10Ideal.Gen

/-- Eight parts added one after another are their sum. -/
theorem sum_eq (a : FVec Ideal S8x16x1024 .f32) : (Cert.Kernel10Ideal.Value.G1 (F := Ideal) a : FVec Ideal S16x1024 .f32)
    = Cert.Reference10Ideal.Read.val_main_v0 (F := Ideal) a := by
  funext j
  idx_vars j
  refine Eq.trans (b := ∑ d : Fin 8, a (ix3 d j0 j1)) ?_ ?_
  · pointwise [Cert.Kernel10Ideal.Value.G1, k0_pay1]
    simp only [Fin.sum_univ_eight]
  · pointwise [Cert.Reference10Ideal.Read.val_main_v0, Cert.Reference10Ideal.Read.val_main_cst]

/-- The kernel's result is the reference's. -/
theorem algebraic : Cert.algebraic_Kernel10Ideal_Reference10Ideal := by
  pair_intro
  · run_from Cert.Kernel10Ideal.Value.run m g
  · simp only [sum_eq]
    refine θ_run_mono (Cert.Reference10Ideal.Value.run m' g') ?_
    intro r hr c
    refine ⟨(hr c).1.trans ?_, (hr c).2⟩
    exact (Cert.Reference10Ideal.Read.val_main_v0_eq (F := Ideal) _).trans (congrArg (Cert.Reference10Ideal.Read.val_main_v0 (F := Ideal)) (hagree c))

end Cert.Pair10

end
-- ==== Proof.ChunkValue.lean ====
/-
  THE SUM OF THE CHUNKS, READ POINTWISE. The call is told the number of its device by a table of one word, here 0: the chunk of that
  device is its own, the seven others are those received; all are added in the order of the devices.
-/
module

public import proofs.«01_k».proof.Proof.Gen.Kernel11.Frame
public import proofs.«01_k».proof.Proof.Gen.Kernel11Ideal.Frame
public import proofs.«01_k».proof.Proof.Gen.Reference11Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Kernel11.Point

open Cert.Kernel11 Cert.Kernel11.Gen

/-- The table's word is zero, so the block it names is the first. -/
theorem ok (m : (ℓ : Loc nD τ sig) → Buf (Elt Bits) ℓ) : Ok (F := Bits) m := by
  have e : tbl m 0 = fun _ => 0#32 := by
    unfold tbl V; after_reads_simp; rfl
  have h : ∀ i : grid0.Coords, cc0_transform_0 inb_S1_S1_0 numel1_S1 (tbl m) i = ![0, 0, 0] := fun i => by
    unfold cc0_transform_0
    simp only [Pipeline.Prefetch.Contents.at]
    rw [e]
    rfl
  intro i
  rw [h]
  exact ⟨by decide, .inl rfl⟩

end Cert.Kernel11.Point

namespace Cert.Kernel11Ideal.Point

open Cert.Kernel11Ideal Cert.Kernel11Ideal.Gen

variable (m : (ℓ : Loc nD τ sig) → Buf (Elt Ideal) ℓ)

theorem tbl_zero : tbl m 0 = fun _ => 0#32 := by
  unfold tbl V; after_reads_simp; rfl

theorem idx0 (i : grid0.Coords) : cc0_transform_0 inb_S1_S1_0 numel1_S1 (tbl m) i = ![0, 0, 0] := by
  unfold cc0_transform_0
  simp only [Pipeline.Prefetch.Contents.at]
  rw [tbl_zero]
  rfl

theorem ok : Ok (F := Ideal) m := by
  intro i
  rw [idx0]
  exact ⟨by decide, .inl rfl⟩

variable (c : Dev nD) (t : Fin (cfgM m (ok m)).N)

/-- The device's own chunk, -/
abbrev own : FVec Ideal S1x128x128 .f32 := iblk m (ok m) c 0 t

/-- the chunks received, -/
abbrev recv : FVec Ideal S8x128x128 .f32 := iblk m (ok m) c 1 t

/-- and the block the call leaves. -/
abbrev left : FVec Ideal S128x128 .f32 := outsAt0 m (ok m) c t

theorem at0 : ((cfgM m (ok m)).win 0).index t = ![0, 0, 0] := idx0 m (grid0.coords t)
theorem at1 : ((cfgM m (ok m)).win 1).index t = ![0, 0, 0] := rfl
theorem at2 : ((cfgM m (ok m)).win 2).index t = ![0, 0] := rfl

theorem own_at (p q : Fin 128) : own m c t (ix3 0 p q) = m ((c : Thread nD τ).loc main_arg0) (ix3 0 p q) := by
  refine Eq.trans (b := V m c main_arg0 (ix3 0 p q)) ?_ (congrFun (V_main_arg0 m c) _)
  unfold own iblk
  blk_simp
  have h := at0 m t
  refine congrArg (V m c main_arg0) ?_
  blk_ext
  all_goals (erw [h]; simp)

theorem recv_at (s : Fin 8) (p q : Fin 128) : recv m c t (ix3 s p q) = m ((c : Thread nD τ).loc main_arg1) (ix3 s p q) := by
  refine Eq.trans (b := V m c main_arg1 (ix3 s p q)) ?_ (congrFun (V_main_arg1 m c) _)
  unfold recv iblk
  blk_simp
  have h := at1 m t
  blk_ext
  all_goals (erw [h]; simp)

theorem left_at (p q : Fin 128) : left m c t (ix2 p q)
    = own m c t (ix3 0 p q) + recv m c t (ix3 1 p q) + recv m c t (ix3 2 p q) + recv m c t (ix3 3 p q) + recv m c t (ix3 4 p q)
      + recv m c t (ix3 5 p q) + recv m c t (ix3 6 p q) + recv m c t (ix3 7 p q) := by
  unfold left outsAt0
  frame_out
  have hw : View.readAt (Elt Ideal) (View.whole main_v0) (Rect.unit ![0] ![1] inb_S1_S1_0).toLoadRect (tbl m 0) (Shape.Idx.first (numel1_S1.symm ▸ Nat.one_pos)) = 0#32 := by
    rw [tbl_zero]; rfl
  have h0 : View.read (Elt Ideal) (ms0_0 m (ok m) t).view ((hs0_0 m (ok m) t).unread (iblk m (ok m) c 0 t)) = own m c t := Memref.IsWhole.read_unread _ _
  have h1 : View.read (Elt Ideal) (ms0_1 m (ok m) t).view ((hs0_1 m (ok m) t).unread (iblk m (ok m) c 1 t)) = recv m c t := Memref.IsWhole.read_unread _ _
  rw [hw, h0, h1]
  pointwise [k0_pay1, k0_pay2, k0_pay3, k0_pay4]
  rfl

/-- The result of the call, on a device, as a function of the two arrays. -/
def total (x y : FVec Ideal S8x128x128 .f32) : FVec Ideal S128x128 .f32 := fun j =>
  x (ix3 0 (j 0) (j 1)) + y (ix3 1 (j 0) (j 1)) + y (ix3 2 (j 0) (j 1)) + y (ix3 3 (j 0) (j 1)) + y (ix3 4 (j 0) (j 1))
    + y (ix3 5 (j 0) (j 1)) + y (ix3 6 (j 0) (j 1)) + y (ix3 7 (j 0) (j 1))

theorem nblk2 (a) : ((cfgM m (ok m)).win 2).nblk a = 1 := by
  match a with
  | ⟨0, _⟩ => show (128 + 128 - 1) / 128 = 1; rfl
  | ⟨1, _⟩ => show (128 + 128 - 1) / 128 = 1; rfl

/-- The one block of the result is the whole of it. -/
theorem covers : ((cfgM m (ok m)).win 2).Covers :=
  ⟨fun a => by match a with | ⟨0, _⟩ => exact Nat.succ_pos _ | ⟨1, _⟩ => exact Nat.succ_pos _,
    fun β => ⟨⟨0, Nat.one_pos⟩, flush0_2 _ _, fun a => ⟨by
      match a with
      | ⟨0, h⟩ => exact (Nat.lt_one_iff.mp ((β ⟨0, h⟩).isLt.trans_eq (nblk2 m _))).symm
      | ⟨1, h⟩ => exact (Nat.lt_one_iff.mp ((β ⟨1, h⟩).isLt.trans_eq (nblk2 m _))).symm, .inl rfl⟩⟩⟩

theorem left_total : left m c t = total (m ((c : Thread nD τ).loc main_arg0)) (m ((c : Thread nD τ).loc main_arg1)) := by
  funext j
  idx_vars j
  refine (left_at m c t j0 j1).trans ?_
  simp only [own_at, recv_at]
  rfl

theorem array : (dats m (ok m) 0 c).arrAt 2 (cfgM m (ok m)).N
    = total (m ((c : Thread nD τ).loc main_arg0)) (m ((c : Thread nD τ).loc main_arg1)) := by
  refine (dats m (ok m) 0 c).arrAt_eq_of_covers 2 _ (covers m) fun t hf j => ?_
  rw [after0_2]
  refine (congrFun (left_total m c t) _).trans (congrArg (total (m ((c : Thread nD τ).loc main_arg0)) (m ((c : Thread nD τ).loc main_arg1))) ?_)
  have h := at2 m t
  blk_ext
  all_goals (erw [h]; simp)

/-- Every run leaves the sum in the result and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v1) = total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (array m c), h.2 c⟩) (θ_run_and (run_main m ρ (ok m)) (unchanged m ρ (ok m)))

end Cert.Kernel11Ideal.Point

end
-- ==== Proof.Pair11.lean ====
/-
  THE ELEVENTH PAIR: the sum of the chunks. The kernel adds the device's own chunk and the seven received one after another, the reference joins
  them and sums along their axis. No precondition.
-/
module

public import proofs.«01_k».proof.Defs
public import proofs.«01_k».proof.Proof.ChunkValue
public import proofs.«01_k».proof.Proof.Gen.Reference11Ideal.Read
public import proofs.«01_k».proof.Proof.Gen.Reference11Ideal.Run
public import Idealize.ShloMosaic.Lib.Claim
public import Idealize.ShloMosaic.Lib.Pointwise
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Pair11

open Cert.Kernel11Ideal Cert.Kernel11Ideal.Gen Cert.Kernel11Ideal.Point
open Cert.Reference11Ideal.Read (val_main_v0 val_main_v1 val_main_v2 val_main_v3 val_main_v3_eq val_main_cst)

/-- The chunks added one after another are the sum of the joined array. -/
theorem sum_eq (x y : FVec Ideal S8x128x128 .f32) : (total x y : FVec Ideal S128x128 .f32) = val_main_v3 (F := Ideal) x y := by
  funext j
  idx_vars j
  refine Eq.symm (Eq.trans (b := ∑ d : Fin 8, val_main_v2 (F := Ideal) x y (ix3 d j0 j1)) ?_ ?_)
  · pointwise [val_main_v3, val_main_cst]
  · simp only [Fin.sum_univ_eight]
    pointwise [val_main_v2, val_main_v0, val_main_v1]
    rfl

/-- The kernel's result is the reference's. -/
theorem algebraic : Cert.algebraic_Kernel11Ideal_Reference11Ideal := by
  pair_intro
  · exact Cert.Kernel11Ideal.Point.run m g
  · simp only [sum_eq]
    refine θ_run_mono (Cert.Reference11Ideal.Value.run m' g') ?_
    intro r hr c
    refine ⟨(hr c).1.trans ?_, (hr c).2⟩
    exact (val_main_v3_eq (F := Ideal) _ _).trans (congrArg₂ (val_main_v3 (F := Ideal)) (hagree c).1 (hagree c).2)

end Cert.Pair11

end
-- ==== Proof.Frames.lean ====
/-
  THE FRAMES OF THE OTHER REFERENCES. Each is host operations only: its run leaves the arguments as they were, and it declares
  no semaphore, so every counter stays zero.
-/
module

public import proofs.«01_k».proof.Defs
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import Idealize.ShloMosaic.Lib.Claim

@[expose] public section

noncomputable section

open Idealize.ShloMosaic Idealize.ShloMosaic.TcCoe Idealize.SL.Sem

namespace Cert.Frames

theorem reference3 : Cert.quiescent_Reference3Ideal := fun m ρ _ =>
  (θ_run Cert.Reference3Ideal.defs _ _).mono
    (fun r h => ⟨fun c => (h c).2.2.2.2.2.2.2, sem_eq_zero_of_no_sems (by decide) r.2⟩) (Cert.Reference3Ideal.Value.run m ρ)

theorem reference4 : Cert.quiescent_Reference4Ideal := fun m ρ _ =>
  (θ_run Cert.Reference4Ideal.defs _ _).mono
    (fun r h => ⟨fun c => (h c).2.2.2.2, sem_eq_zero_of_no_sems (by decide) r.2⟩) (Cert.Reference4Ideal.Value.run m ρ)

theorem reference5 : Cert.quiescent_Reference5Ideal := fun m ρ _ =>
  (θ_run Cert.Reference5Ideal.defs _ _).mono
    (fun r h => ⟨fun c => (h c).2.2.2.2.2.2.2, sem_eq_zero_of_no_sems (by decide) r.2⟩) (Cert.Reference5Ideal.Value.run m ρ)

theorem reference6 : Cert.quiescent_Reference6Ideal := fun m ρ _ =>
  (θ_run Cert.Reference6Ideal.defs _ _).mono
    (fun r h => ⟨fun c => (h c).2.2.2.2, sem_eq_zero_of_no_sems (by decide) r.2⟩) (Cert.Reference6Ideal.Value.run m ρ)

theorem reference7 : Cert.quiescent_Reference7Ideal := fun m ρ _ =>
  (θ_run Cert.Reference7Ideal.defs _ _).mono
    (fun r h => ⟨fun c => (h c).2.2.2.2.2, sem_eq_zero_of_no_sems (by decide) r.2⟩) (Cert.Reference7Ideal.Value.run m ρ)

theorem reference8 : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)

theorem reference9 : Cert.quiescent_Reference9Ideal := fun m ρ _ =>
  (θ_run Cert.Reference9Ideal.defs _ _).mono
    (fun r h => ⟨fun c => (h c).2.2.2, sem_eq_zero_of_no_sems (by decide) r.2⟩) (Cert.Reference9Ideal.Value.run m ρ)

theorem reference10 : Cert.quiescent_Reference10Ideal := fun m ρ _ =>
  (θ_run Cert.Reference10Ideal.defs _ _).mono
    (fun r h => ⟨fun c => (h c).2, sem_eq_zero_of_no_sems (by decide) r.2⟩) (Cert.Reference10Ideal.Value.run m ρ)

theorem reference11 : Cert.quiescent_Reference11Ideal := fun m ρ _ =>
  (θ_run Cert.Reference11Ideal.defs _ _).mono
    (fun r h => ⟨fun c => (h c).2, sem_eq_zero_of_no_sems (by decide) r.2⟩) (Cert.Reference11Ideal.Value.run m ρ)

end Cert.Frames

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Pre_finite4
public import proofs.«01_k».proof.Proof.Gen.Kernel5Ideal.Value
public import proofs.«01_k».proof.Proof.Gen.Reference5Ideal.Read
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Pair1
public import proofs.«01_k».proof.Proof.Pair2
public import proofs.«01_k».proof.Proof.Pair3
public import proofs.«01_k».proof.Proof.Pair4
public import proofs.«01_k».proof.Proof.Pair5
public import proofs.«01_k».proof.Proof.Pair6
public import proofs.«01_k».proof.Proof.Pair7
public import proofs.«01_k».proof.Proof.Pair8
public import proofs.«01_k».proof.Proof.Pair9
public import proofs.«01_k».proof.Proof.Pair10
public import proofs.«01_k».proof.Proof.Pair11
public import proofs.«01_k».proof.Proof.Frames
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
  Cert.Pre_finite.Gen.facts, Cert.Pre_finite2.Gen.facts, Cert.Pre_finite4.Gen.facts, Cert.Pre_finite5.Gen.facts, Cert.Pre_finite7.Gen.facts,
  fun m ρ _ => Cert.Kernel.Gen.frame m ρ,
  fun m ρ _ => Cert.KernelIdeal.Gen.frame m ρ,
  fun m ρ _ => Cert.KernelIdeal.Gen.frame m ρ,
  Cert.Pair1.frame_reference,
  fun m ρ _ => Cert.Pair1.frame_reference m ρ trivial,
  fun m ρ _ => Cert.Kernel2.Gen.frame m ρ,
  fun m ρ _ => Cert.Kernel2Ideal.Gen.frame m ρ,
  fun m ρ _ => Cert.Kernel2Ideal.Gen.frame m ρ,
  Cert.Pair2.frame_reference,
  fun m ρ _ => Cert.Pair2.frame_reference m ρ trivial,
  fun m ρ _ => Cert.Kernel3.Gen.frame m ρ,
  fun m ρ _ => Cert.Kernel3Ideal.Gen.frame m ρ,
  fun m ρ _ => Cert.Kernel3Ideal.Gen.frame m ρ,
  Cert.Frames.reference3,
  fun m ρ _ => Cert.Frames.reference3 m ρ trivial,
  fun m ρ _ => Cert.Kernel4.Gen.frame m ρ,
  fun m ρ _ => Cert.Kernel4Ideal.Gen.frame m ρ,
  fun m ρ _ => Cert.Kernel4Ideal.Gen.frame m ρ,
  Cert.Frames.reference4,
  fun m ρ _ => Cert.Frames.reference4 m ρ trivial,
  fun m ρ _ => Cert.Kernel5.Gen.frame m ρ,
  fun m ρ _ => Cert.Kernel5Ideal.Gen.frame m ρ,
  fun m ρ _ => Cert.Kernel5Ideal.Gen.frame m ρ,
  Cert.Frames.reference5,
  fun m ρ _ => Cert.Frames.reference5 m ρ trivial,
  fun m ρ _ => Cert.Kernel6.Gen.frame m ρ,
  fun m ρ _ => Cert.Kernel6Ideal.Gen.frame m ρ,
  Cert.Frames.reference6,
  fun m ρ _ => Cert.Kernel7.Gen.frame m ρ,
  fun m ρ _ => Cert.Kernel7Ideal.Gen.frame m ρ,
  fun m ρ _ => Cert.Kernel7Ideal.Gen.frame m ρ,
  Cert.Frames.reference7,
  fun m ρ _ => Cert.Frames.reference7 m ρ trivial,
  fun m ρ _ => Cert.Kernel8.Gen.frame m ρ,
  fun m ρ _ => Cert.Kernel8Ideal.Gen.frame m ρ,
  Cert.Frames.reference8,
  fun m ρ _ => Cert.Kernel9.Gen.frame m ρ,
  fun m ρ _ => Cert.Kernel9Ideal.Gen.frame m ρ,
  Cert.Frames.reference9,
  fun m ρ _ => Cert.Kernel10.Gen.frame m ρ,
  fun m ρ _ => Cert.Kernel10Ideal.Gen.frame m ρ,
  Cert.Frames.reference10,
  fun m ρ _ => Cert.Kernel11.Gen.frame m ρ (Cert.Kernel11.Point.ok m),
  fun m ρ _ => Cert.Kernel11Ideal.Gen.frame m ρ (Cert.Kernel11Ideal.Point.ok m),
  Cert.Frames.reference11,
  trivial,
  Cert.Pair1.algebraic,
  trivial,
  Cert.Pair2.algebraic,
  trivial,
  Cert.Pair3.algebraic,
  trivial,
  Cert.Pair4.algebraic,
  trivial,
  Cert.Pair5.algebraic,
  trivial,
  Cert.Pair6.algebraic,
  trivial,
  Cert.Pair7.algebraic,
  trivial,
  Cert.Pair8.algebraic,
  trivial,
  Cert.Pair9.algebraic,
  trivial,
  Cert.Pair10.algebraic,
  trivial,
  Cert.Pair11.algebraic⟩

end Cert.Proof

end
